-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GatherWeights (m : (ℓ : Loc Cert.GatherWeights.nD Cert.GatherWeights.τ Cert.GatherWeights.sig) → Buf (Elt Bits) ℓ) : Prop :=
  True

def Pre_GatherWeightsIdeal (m : (ℓ : Loc Cert.GatherWeightsIdeal.nD Cert.GatherWeightsIdeal.τ Cert.GatherWeightsIdeal.sig) → Buf (Elt Ideal) ℓ) : Prop :=
  True

def Pre_GatheredIdeal (m : (ℓ : Loc Cert.GatheredIdeal.nD Cert.GatheredIdeal.τ Cert.GatheredIdeal.sig) → Buf (Elt Ideal) ℓ) : Prop :=
  True

def Pre_Gathered (m : (ℓ : Loc Cert.Gathered.nD Cert.Gathered.τ Cert.Gathered.sig) → Buf (Elt Bits) ℓ) : Prop :=
  True

def Pre_UpdateRest (m : (ℓ : Loc Cert.UpdateRest.nD Cert.UpdateRest.τ Cert.UpdateRest.sig) → Buf (Elt Bits) ℓ) : Prop :=
  True

def Pre_UpdateRestIdeal (m : (ℓ : Loc Cert.UpdateRestIdeal.nD Cert.UpdateRestIdeal.τ Cert.UpdateRestIdeal.sig) → Buf (Elt Ideal) ℓ) : Prop :=
  True

def Pre_UpdatedIdeal (m : (ℓ : Loc Cert.UpdatedIdeal.nD Cert.UpdatedIdeal.τ Cert.UpdatedIdeal.sig) → Buf (Elt Ideal) ℓ) : Prop :=
  True

def Pre_SumPartials (m : (ℓ : Loc Cert.SumPartials.nD Cert.SumPartials.τ Cert.SumPartials.sig) → Buf (Elt Bits) ℓ) : Prop :=
  True

def Pre_SumPartialsIdeal (m : (ℓ : Loc Cert.SumPartialsIdeal.nD Cert.SumPartialsIdeal.τ Cert.SumPartialsIdeal.sig) → Buf (Elt Ideal) ℓ) : Prop :=
  True

def Pre_SummedIdeal (m : (ℓ : Loc Cert.SummedIdeal.nD Cert.SummedIdeal.τ Cert.SummedIdeal.sig) → Buf (Elt Ideal) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_SmallBlocksIdeal (m : (ℓ : Loc Cert.SmallBlocksIdeal.nD Cert.SmallBlocksIdeal.τ Cert.SmallBlocksIdeal.sig) → Buf (Elt Ideal) ℓ) : Prop :=
  True

def Pre_SmallBlocks (m : (ℓ : Loc Cert.SmallBlocks.nD Cert.SmallBlocks.τ Cert.SmallBlocks.sig) → Buf (Elt Bits) ℓ) : Prop :=
  True

def Pre_GatherAda (m : (ℓ : Loc Cert.GatherAda.nD Cert.GatherAda.τ Cert.GatherAda.sig) → Buf (Elt Bits) ℓ) : Prop :=
  True

def Pre_GatherAdaIdeal (m : (ℓ : Loc Cert.GatherAdaIdeal.nD Cert.GatherAdaIdeal.τ Cert.GatherAdaIdeal.sig) → Buf (Elt Ideal) ℓ) : Prop :=
  True

def Pre_AdaBlocksIdeal (m : (ℓ : Loc Cert.AdaBlocksIdeal.nD Cert.AdaBlocksIdeal.τ Cert.AdaBlocksIdeal.sig) → Buf (Elt Ideal) ℓ) : Prop :=
  True

def Pre_AdaBlocks (m : (ℓ : Loc Cert.AdaBlocks.nD Cert.AdaBlocks.τ Cert.AdaBlocks.sig) → Buf (Elt Bits) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_ConditionGradIdeal (m : (ℓ : Loc Cert.ConditionGradIdeal.nD Cert.ConditionGradIdeal.τ Cert.ConditionGradIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_InputGradIdeal (m : (ℓ : Loc Cert.InputGradIdeal.nD Cert.InputGradIdeal.τ Cert.InputGradIdeal.sig) → Buf (Elt Ideal) ℓ) : Prop :=
  True

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossDerivativeIdeal (m : (ℓ : Loc Cert.LossDerivativeIdeal.nD Cert.LossDerivativeIdeal.τ Cert.LossDerivativeIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_MixedIdeal (m : (ℓ : Loc Cert.MixedIdeal.nD Cert.MixedIdeal.τ Cert.MixedIdeal.sig) → Buf (Elt Ideal) ℓ) : Prop :=
  True

def Pre_ResidualGrad (m : (ℓ : Loc Cert.ResidualGrad.nD Cert.ResidualGrad.τ Cert.ResidualGrad.sig) → Buf (Elt Bits) ℓ) : Prop :=
  True

def Pre_ResidualGradIdeal (m : (ℓ : Loc Cert.ResidualGradIdeal.nD Cert.ResidualGradIdeal.τ Cert.ResidualGradIdeal.sig) → Buf (Elt Ideal) ℓ) : Prop :=
  True

def Pre_GatedGradIdeal (m : (ℓ : Loc Cert.GatedGradIdeal.nD Cert.GatedGradIdeal.τ Cert.GatedGradIdeal.sig) → Buf (Elt Ideal) ℓ) : Prop :=
  True

def Pre_ActGrad (m : (ℓ : Loc Cert.ActGrad.nD Cert.ActGrad.τ Cert.ActGrad.sig) → Buf (Elt Bits) ℓ) : Prop :=
  True

def Pre_ActGradIdeal (m : (ℓ : Loc Cert.ActGradIdeal.nD Cert.ActGradIdeal.τ Cert.ActGradIdeal.sig) → Buf (Elt Ideal) ℓ) : Prop :=
  True

def Pre_SwigluGradIdeal (m : (ℓ : Loc Cert.SwigluGradIdeal.nD Cert.SwigluGradIdeal.τ Cert.SwigluGradIdeal.sig) → Buf (Elt Ideal) ℓ) : Prop :=
  True

def Pre_HiddenGrad (m : (ℓ : Loc Cert.HiddenGrad.nD Cert.HiddenGrad.τ Cert.HiddenGrad.sig) → Buf (Elt Bits) ℓ) : Prop :=
  True

def Pre_HiddenGradIdeal (m : (ℓ : Loc Cert.HiddenGradIdeal.nD Cert.HiddenGradIdeal.τ Cert.HiddenGradIdeal.sig) → Buf (Elt Ideal) ℓ) : Prop :=
  True

def Pre_ProductsGradIdeal (m : (ℓ : Loc Cert.ProductsGradIdeal.nD Cert.ProductsGradIdeal.τ Cert.ProductsGradIdeal.sig) → Buf (Elt Ideal) ℓ) : Prop :=
  True

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_ProductGradIdeal (m : (ℓ : Loc Cert.ProductGradIdeal.nD Cert.ProductGradIdeal.τ Cert.ProductGradIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutProductGradIdeal (m : (ℓ : Loc Cert.OutProductGradIdeal.nD Cert.OutProductGradIdeal.τ Cert.OutProductGradIdeal.sig) → Buf (Elt Ideal) ℓ) : Prop :=
  True

def Pre_SquareGrad (m : (ℓ : Loc Cert.SquareGrad.nD Cert.SquareGrad.τ Cert.SquareGrad.sig) → Buf (Elt Bits) ℓ) : Prop :=
  True

def Pre_SquareGradIdeal (m : (ℓ : Loc Cert.SquareGradIdeal.nD Cert.SquareGradIdeal.τ Cert.SquareGradIdeal.sig) → Buf (Elt Ideal) ℓ) : Prop :=
  True

def Pre_SquareProductGradIdeal (m : (ℓ : Loc Cert.SquareProductGradIdeal.nD Cert.SquareProductGradIdeal.τ Cert.SquareProductGradIdeal.sig) → Buf (Elt Ideal) ℓ) : Prop :=
  True

def Pre_GluIn (m : (ℓ : Loc Cert.GluIn.nD Cert.GluIn.τ Cert.GluIn.sig) → Buf (Elt Bits) ℓ) : Prop :=
  True

def Pre_GluInIdeal (m : (ℓ : Loc Cert.GluInIdeal.nD Cert.GluInIdeal.τ Cert.GluInIdeal.sig) → Buf (Elt Ideal) ℓ) : Prop :=
  True

def Pre_GluIdeal (m : (ℓ : Loc Cert.GluIdeal.nD Cert.GluIdeal.τ Cert.GluIdeal.sig) → Buf (Elt Ideal) ℓ) : Prop :=
  True

def Pre_ResidualOut (m : (ℓ : Loc Cert.ResidualOut.nD Cert.ResidualOut.τ Cert.ResidualOut.sig) → Buf (Elt Bits) ℓ) : Prop :=
  True

def Pre_ResidualOutIdeal (m : (ℓ : Loc Cert.ResidualOutIdeal.nD Cert.ResidualOutIdeal.τ Cert.ResidualOutIdeal.sig) → Buf (Elt Ideal) ℓ) : Prop :=
  True

def Pre_ResidualIdeal (m : (ℓ : Loc Cert.ResidualIdeal.nD Cert.ResidualIdeal.τ Cert.ResidualIdeal.sig) → Buf (Elt Ideal) ℓ) : Prop :=
  True

def Pre_KeyProduct (m : (ℓ : Loc Cert.KeyProduct.nD Cert.KeyProduct.τ Cert.KeyProduct.sig) → Buf (Elt Bits) ℓ) : Prop :=
  True

def Pre_KeyProductIdeal (m : (ℓ : Loc Cert.KeyProductIdeal.nD Cert.KeyProductIdeal.τ Cert.KeyProductIdeal.sig) → Buf (Elt Ideal) ℓ) : Prop :=
  True

def Pre_KeysIdeal (m : (ℓ : Loc Cert.KeysIdeal.nD Cert.KeysIdeal.τ Cert.KeysIdeal.sig) → Buf (Elt Ideal) ℓ) : Prop :=
  True

def Pre_QueryProduct (m : (ℓ : Loc Cert.QueryProduct.nD Cert.QueryProduct.τ Cert.QueryProduct.sig) → Buf (Elt Bits) ℓ) : Prop :=
  True

def Pre_QueryProductIdeal (m : (ℓ : Loc Cert.QueryProductIdeal.nD Cert.QueryProductIdeal.τ Cert.QueryProductIdeal.sig) → Buf (Elt Ideal) ℓ) : Prop :=
  True

def Pre_QueriesIdeal (m : (ℓ : Loc Cert.QueriesIdeal.nD Cert.QueriesIdeal.τ Cert.QueriesIdeal.sig) → Buf (Elt Ideal) ℓ) : Prop :=
  True

def Pre_HeadGrad (m : (ℓ : Loc Cert.HeadGrad.nD Cert.HeadGrad.τ Cert.HeadGrad.sig) → Buf (Elt Bits) ℓ) : Prop :=
  True

def Pre_HeadGradIdeal (m : (ℓ : Loc Cert.HeadGradIdeal.nD Cert.HeadGradIdeal.τ Cert.HeadGradIdeal.sig) → Buf (Elt Ideal) ℓ) : Prop :=
  True

def Pre_HeadProductGradIdeal (m : (ℓ : Loc Cert.HeadProductGradIdeal.nD Cert.HeadProductGradIdeal.τ Cert.HeadProductGradIdeal.sig) → Buf (Elt Ideal) ℓ) : Prop :=
  True

def Pre_ConvGrad (m : (ℓ : Loc Cert.ConvGrad.nD Cert.ConvGrad.τ Cert.ConvGrad.sig) → Buf (Elt Bits) ℓ) : Prop :=
  True

def Pre_ConvGradIdeal (m : (ℓ : Loc Cert.ConvGradIdeal.nD Cert.ConvGradIdeal.τ Cert.ConvGradIdeal.sig) → Buf (Elt Ideal) ℓ) : Prop :=
  True

def Pre_ConvProductsGradIdeal (m : (ℓ : Loc Cert.ConvProductsGradIdeal.nD Cert.ConvProductsGradIdeal.τ Cert.ConvProductsGradIdeal.sig) → Buf (Elt Ideal) ℓ) : Prop :=
  True

def Pre_AdaImages (m : (ℓ : Loc Cert.AdaImages.nD Cert.AdaImages.τ Cert.AdaImages.sig) → Buf (Elt Bits) ℓ) : Prop :=
  True

def Pre_AdaImagesIdeal (m : (ℓ : Loc Cert.AdaImagesIdeal.nD Cert.AdaImagesIdeal.τ Cert.AdaImagesIdeal.sig) → Buf (Elt Ideal) ℓ) : Prop :=
  True

def Pre_ImagesIdeal (m : (ℓ : Loc Cert.ImagesIdeal.nD Cert.ImagesIdeal.τ Cert.ImagesIdeal.sig) → Buf (Elt Ideal) ℓ) : Prop :=
  True

def Pre_NormOut (m : (ℓ : Loc Cert.NormOut.nD Cert.NormOut.τ Cert.NormOut.sig) → Buf (Elt Bits) ℓ) : Prop :=
  True

def Pre_NormOutIdeal (m : (ℓ : Loc Cert.NormOutIdeal.nD Cert.NormOutIdeal.τ Cert.NormOutIdeal.sig) → Buf (Elt Ideal) ℓ) : Prop :=
  True

def Pre_NormedIdeal (m : (ℓ : Loc Cert.NormedIdeal.nD Cert.NormedIdeal.τ Cert.NormedIdeal.sig) → Buf (Elt Ideal) ℓ) : Prop :=
  True

def Pre_MixedGrad (m : (ℓ : Loc Cert.MixedGrad.nD Cert.MixedGrad.τ Cert.MixedGrad.sig) → Buf (Elt Bits) ℓ) : Prop :=
  True

def Pre_MixedGradIdeal (m : (ℓ : Loc Cert.MixedGradIdeal.nD Cert.MixedGradIdeal.τ Cert.MixedGradIdeal.sig) → Buf (Elt Ideal) ℓ) : Prop :=
  True

def Pre_MixedFactorGradIdeal (m : (ℓ : Loc Cert.MixedFactorGradIdeal.nD Cert.MixedFactorGradIdeal.τ Cert.MixedFactorGradIdeal.sig) → Buf (Elt Ideal) ℓ) : Prop :=
  True

def Pre_QueryGrad (m : (ℓ : Loc Cert.QueryGrad.nD Cert.QueryGrad.τ Cert.QueryGrad.sig) → Buf (Elt Bits) ℓ) : Prop :=
  True

def Pre_QueryGradIdeal (m : (ℓ : Loc Cert.QueryGradIdeal.nD Cert.QueryGradIdeal.τ Cert.QueryGradIdeal.sig) → Buf (Elt Ideal) ℓ) : Prop :=
  True

def Pre_QueryFactorGradIdeal (m : (ℓ : Loc Cert.QueryFactorGradIdeal.nD Cert.QueryFactorGradIdeal.τ Cert.QueryFactorGradIdeal.sig) → Buf (Elt Ideal) ℓ) : Prop :=
  True

def Pre_QueryWeightGrad (m : (ℓ : Loc Cert.QueryWeightGrad.nD Cert.QueryWeightGrad.τ Cert.QueryWeightGrad.sig) → Buf (Elt Bits) ℓ) : Prop :=
  True

def Pre_QueryWeightGradIdeal (m : (ℓ : Loc Cert.QueryWeightGradIdeal.nD Cert.QueryWeightGradIdeal.τ Cert.QueryWeightGradIdeal.sig) → Buf (Elt Ideal) ℓ) : Prop :=
  True

def Pre_QueryProductGradIdeal (m : (ℓ : Loc Cert.QueryProductGradIdeal.nD Cert.QueryProductGradIdeal.τ Cert.QueryProductGradIdeal.sig) → Buf (Elt Ideal) ℓ) : Prop :=
  True

def Pre_ForgetWeightGrad (m : (ℓ : Loc Cert.ForgetWeightGrad.nD Cert.ForgetWeightGrad.τ Cert.ForgetWeightGrad.sig) → Buf (Elt Bits) ℓ) : Prop :=
  True

def Pre_ForgetWeightGradIdeal (m : (ℓ : Loc Cert.ForgetWeightGradIdeal.nD Cert.ForgetWeightGradIdeal.τ Cert.ForgetWeightGradIdeal.sig) → Buf (Elt Ideal) ℓ) : Prop :=
  True

def Pre_ForgetProductGradIdeal (m : (ℓ : Loc Cert.ForgetProductGradIdeal.nD Cert.ForgetProductGradIdeal.τ Cert.ForgetProductGradIdeal.sig) → Buf (Elt Ideal) ℓ) : Prop :=
  True

def Pre_ForgetProduct (m : (ℓ : Loc Cert.ForgetProduct.nD Cert.ForgetProduct.τ Cert.ForgetProduct.sig) → Buf (Elt Bits) ℓ) : Prop :=
  True

def Pre_ForgetProductIdeal (m : (ℓ : Loc Cert.ForgetProductIdeal.nD Cert.ForgetProductIdeal.τ Cert.ForgetProductIdeal.sig) → Buf (Elt Ideal) ℓ) : Prop :=
  True

def Pre_ForgetLogitsIdeal (m : (ℓ : Loc Cert.ForgetLogitsIdeal.nD Cert.ForgetLogitsIdeal.τ Cert.ForgetLogitsIdeal.sig) → Buf (Elt Ideal) ℓ) : Prop :=
  True

def Pre_KeyValueGrad (m : (ℓ : Loc Cert.KeyValueGrad.nD Cert.KeyValueGrad.τ Cert.KeyValueGrad.sig) → Buf (Elt Bits) ℓ) : Prop :=
  True

def Pre_KeyValueGradIdeal (m : (ℓ : Loc Cert.KeyValueGradIdeal.nD Cert.KeyValueGradIdeal.τ Cert.KeyValueGradIdeal.sig) → Buf (Elt Ideal) ℓ) : Prop :=
  True

def Pre_KeyValuesGradIdeal (m : (ℓ : Loc Cert.KeyValuesGradIdeal.nD Cert.KeyValuesGradIdeal.τ Cert.KeyValuesGradIdeal.sig) → Buf (Elt Ideal) ℓ) : Prop :=
  True

def Pre_ForgetSums (m : (ℓ : Loc Cert.ForgetSums.nD Cert.ForgetSums.τ Cert.ForgetSums.sig) → Buf (Elt Bits) ℓ) : Prop :=
  True

def Pre_ForgetSumsIdeal (m : (ℓ : Loc Cert.ForgetSumsIdeal.nD Cert.ForgetSumsIdeal.τ Cert.ForgetSumsIdeal.sig) → Buf (Elt Ideal) ℓ) : Prop :=
  True

def Pre_LogSumsIdeal (m : (ℓ : Loc Cert.LogSumsIdeal.nD Cert.LogSumsIdeal.τ Cert.LogSumsIdeal.sig) → Buf (Elt Ideal) ℓ) : Prop :=
  True

def Pre_ForgetGrad (m : (ℓ : Loc Cert.ForgetGrad.nD Cert.ForgetGrad.τ Cert.ForgetGrad.sig) → Buf (Elt Bits) ℓ) : Prop :=
  True

def Pre_ForgetGradIdeal (m : (ℓ : Loc Cert.ForgetGradIdeal.nD Cert.ForgetGradIdeal.τ Cert.ForgetGradIdeal.sig) → Buf (Elt Ideal) ℓ) : Prop :=
  True

def Pre_LogSumsGradIdeal (m : (ℓ : Loc Cert.LogSumsGradIdeal.nD Cert.LogSumsGradIdeal.τ Cert.LogSumsGradIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GatherWeights [hGatherWeights : Cert.GatherWeights.Facts] : Prop :=
  ∀ (m : (ℓ : Loc Cert.GatherWeights.nD Cert.GatherWeights.τ Cert.GatherWeights.sig) → Buf (Elt Bits) ℓ) (g : Dev Cert.GatherWeights.nD → PrngReg), Pre_GatherWeights m →
    θ_run (Cert.GatherWeights.defs (F := Bits)) (onTc (τ := Cert.GatherWeights.τ) (Cert.GatherWeights.main (F := Bits))) ⟨m, fun _ => 0, g⟩ (fun r => (∀ c : Dev Cert.GatherWeights.nD,
      r.2.mem ((c.tc : Thread Cert.GatherWeights.nD Cert.GatherWeights.τ).loc Cert.GatherWeights.main_arg0) = m ((c.tc : Thread Cert.GatherWeights.nD Cert.GatherWeights.τ).loc Cert.GatherWeights.main_arg0))
      ∧ r.2.sem = fun _ => 0)

def quiescent_GatherWeightsIdeal [hGatherWeightsIdeal : Cert.GatherWeightsIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg), Pre_GatherWeightsIdeal m →
    θ_run (Cert.GatherWeightsIdeal.defs (F := Ideal)) (onTc (τ := Cert.GatherWeightsIdeal.τ) (Cert.GatherWeightsIdeal.main (F := Ideal))) ⟨m, fun _ => 0, g⟩ (fun r => (∀ c : Dev Cert.GatherWeightsIdeal.nD,
      r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0))
      ∧ r.2.sem = fun _ => 0)

def quiescent_GatheredIdeal [hGatheredIdeal : Cert.GatheredIdeal.Facts] : Prop :=
  ∀ (m : (ℓ : Loc Cert.GatheredIdeal.nD Cert.GatheredIdeal.τ Cert.GatheredIdeal.sig) → Buf (Elt Ideal) ℓ) (g : Dev Cert.GatheredIdeal.nD → PrngReg), Pre_GatheredIdeal m →
    θ_run (Cert.GatheredIdeal.defs (F := Ideal)) (onTc (τ := Cert.GatheredIdeal.τ) (Cert.GatheredIdeal.main (F := Ideal))) ⟨m, fun _ => 0, g⟩ (fun r => (∀ c : Dev Cert.GatheredIdeal.nD,
      r.2.mem ((c.tc : Thread Cert.GatheredIdeal.nD Cert.GatheredIdeal.τ).loc Cert.GatheredIdeal.main_arg0) = m ((c.tc : Thread Cert.GatheredIdeal.nD Cert.GatheredIdeal.τ).loc Cert.GatheredIdeal.main_arg0))
      ∧ r.2.sem = fun _ => 0)

def quiescent_Gathered [hGathered : Cert.Gathered.Facts] : Prop :=
  ∀ (m : (ℓ : Loc Cert.Gathered.nD Cert.Gathered.τ Cert.Gathered.sig) → Buf (Elt Bits) ℓ) (g : Dev Cert.Gathered.nD → PrngReg), Pre_Gathered m →
    θ_run (Cert.Gathered.defs (F := Bits)) (onTc (τ := Cert.Gathered.τ) (Cert.Gathered.main (F := Bits))) ⟨m, fun _ => 0, g⟩ (fun r => (∀ c : Dev Cert.Gathered.nD,
      r.2.mem ((c.tc : Thread Cert.Gathered.nD Cert.Gathered.τ).loc Cert.Gathered.main_arg0) = m ((c.tc : Thread Cert.Gathered.nD Cert.Gathered.τ).loc Cert.Gathered.main_arg0))
      ∧ r.2.sem = fun _ => 0)

def quiescent_UpdateRest [hUpdateRest : Cert.UpdateRest.Facts] : Prop :=
  ∀ (m : (ℓ : Loc Cert.UpdateRest.nD Cert.UpdateRest.τ Cert.UpdateRest.sig) → Buf (Elt Bits) ℓ) (g : Dev Cert.UpdateRest.nD → PrngReg), Pre_UpdateRest m →
    θ_run (Cert.UpdateRest.defs (F := Bits)) (onTc (τ := Cert.UpdateRest.τ) (Cert.UpdateRest.main (F := Bits))) ⟨m, fun _ => 0, g⟩ (fun r => (∀ c : Dev Cert.UpdateRest.nD,
      r.2.mem ((c.tc : Thread Cert.UpdateRest.nD Cert.UpdateRest.τ).loc Cert.UpdateRest.main_arg0) = m ((c.tc : Thread Cert.UpdateRest.nD Cert.UpdateRest.τ).loc Cert.UpdateRest.main_arg0)
      ∧ r.2.mem ((c.tc : Thread Cert.UpdateRest.nD Cert.UpdateRest.τ).loc Cert.UpdateRest.main_arg1) = m ((c.tc : Thread Cert.UpdateRest.nD Cert.UpdateRest.τ).loc Cert.UpdateRest.main_arg1)
      ∧ r.2.mem ((c.tc : Thread Cert.UpdateRest.nD Cert.UpdateRest.τ).loc Cert.UpdateRest.main_arg2) = m ((c.tc : Thread Cert.UpdateRest.nD Cert.UpdateRest.τ).loc Cert.UpdateRest.main_arg2)
      ∧ r.2.mem ((c.tc : Thread Cert.UpdateRest.nD Cert.UpdateRest.τ).loc Cert.UpdateRest.main_arg3) = m ((c.tc : Thread Cert.UpdateRest.nD Cert.UpdateRest.τ).loc Cert.UpdateRest.main_arg3))
      ∧ r.2.sem = fun _ => 0)

def quiescent_UpdateRestIdeal [hUpdateRestIdeal : Cert.UpdateRestIdeal.Facts] : Prop :=
  ∀ (m : (ℓ : Loc Cert.UpdateRestIdeal.nD Cert.UpdateRestIdeal.τ Cert.UpdateRestIdeal.sig) → Buf (Elt Ideal) ℓ) (g : Dev Cert.UpdateRestIdeal.nD → PrngReg), Pre_UpdateRestIdeal m →
    θ_run (Cert.UpdateRestIdeal.defs (F := Ideal)) (onTc (τ := Cert.UpdateRestIdeal.τ) (Cert.UpdateRestIdeal.main (F := Ideal))) ⟨m, fun _ => 0, g⟩ (fun r => (∀ c : Dev Cert.UpdateRestIdeal.nD,
      r.2.mem ((c.tc : Thread Cert.UpdateRestIdeal.nD Cert.UpdateRestIdeal.τ).loc Cert.UpdateRestIdeal.main_arg0) = m ((c.tc : Thread Cert.UpdateRestIdeal.nD Cert.UpdateRestIdeal.τ).loc Cert.UpdateRestIdeal.main_arg0)
      ∧ r.2.mem ((c.tc : Thread Cert.UpdateRestIdeal.nD Cert.UpdateRestIdeal.τ).loc Cert.UpdateRestIdeal.main_arg1) = m ((c.tc : Thread Cert.UpdateRestIdeal.nD Cert.UpdateRestIdeal.τ).loc Cert.UpdateRestIdeal.main_arg1)
      ∧ r.2.mem ((c.tc : Thread Cert.UpdateRestIdeal.nD Cert.UpdateRestIdeal.τ).loc Cert.UpdateRestIdeal.main_arg2) = m ((c.tc : Thread Cert.UpdateRestIdeal.nD Cert.UpdateRestIdeal.τ).loc Cert.UpdateRestIdeal.main_arg2)
      ∧ r.2.mem ((c.tc : Thread Cert.UpdateRestIdeal.nD Cert.UpdateRestIdeal.τ).loc Cert.UpdateRestIdeal.main_arg3) = m ((c.tc : Thread Cert.UpdateRestIdeal.nD Cert.UpdateRestIdeal.τ).loc Cert.UpdateRestIdeal.main_arg3))
      ∧ r.2.sem = fun _ => 0)

def quiescent_UpdatedIdeal [hUpdatedIdeal : Cert.UpdatedIdeal.Facts] : Prop :=
  ∀ (m : (ℓ : Loc Cert.UpdatedIdeal.nD Cert.UpdatedIdeal.τ Cert.UpdatedIdeal.sig) → Buf (Elt Ideal) ℓ) (g : Dev Cert.UpdatedIdeal.nD → PrngReg), Pre_UpdatedIdeal m →
    θ_run (Cert.UpdatedIdeal.defs (F := Ideal)) (onTc (τ := Cert.UpdatedIdeal.τ) (Cert.UpdatedIdeal.main (F := Ideal))) ⟨m, fun _ => 0, g⟩ (fun r => (∀ c : Dev Cert.UpdatedIdeal.nD,
      r.2.mem ((c.tc : Thread Cert.UpdatedIdeal.nD Cert.UpdatedIdeal.τ).loc Cert.UpdatedIdeal.main_arg0) = m ((c.tc : Thread Cert.UpdatedIdeal.nD Cert.UpdatedIdeal.τ).loc Cert.UpdatedIdeal.main_arg0)
      ∧ r.2.mem ((c.tc : Thread Cert.UpdatedIdeal.nD Cert.UpdatedIdeal.τ).loc Cert.UpdatedIdeal.main_arg1) = m ((c.tc : Thread Cert.UpdatedIdeal.nD Cert.UpdatedIdeal.τ).loc Cert.UpdatedIdeal.main_arg1)
      ∧ r.2.mem ((c.tc : Thread Cert.UpdatedIdeal.nD Cert.UpdatedIdeal.τ).loc Cert.UpdatedIdeal.main_arg2) = m ((c.tc : Thread Cert.UpdatedIdeal.nD Cert.UpdatedIdeal.τ).loc Cert.UpdatedIdeal.main_arg2)
      ∧ r.2.mem ((c.tc : Thread Cert.UpdatedIdeal.nD Cert.UpdatedIdeal.τ).loc Cert.UpdatedIdeal.main_arg3) = m ((c.tc : Thread Cert.UpdatedIdeal.nD Cert.UpdatedIdeal.τ).loc Cert.UpdatedIdeal.main_arg3))
      ∧ r.2.sem = fun _ => 0)

def quiescent_SumPartials [hSumPartials : Cert.SumPartials.Facts] : Prop :=
  ∀ (m : (ℓ : Loc Cert.SumPartials.nD Cert.SumPartials.τ Cert.SumPartials.sig) → Buf (Elt Bits) ℓ) (g : Dev Cert.SumPartials.nD → PrngReg), Pre_SumPartials m →
    θ_run (Cert.SumPartials.defs (F := Bits)) (onTc (τ := Cert.SumPartials.τ) (Cert.SumPartials.main (F := Bits))) ⟨m, fun _ => 0, g⟩ (fun r => (∀ c : Dev Cert.SumPartials.nD,
      r.2.mem ((c.tc : Thread Cert.SumPartials.nD Cert.SumPartials.τ).loc Cert.SumPartials.main_arg0) = m ((c.tc : Thread Cert.SumPartials.nD Cert.SumPartials.τ).loc Cert.SumPartials.main_arg0))
      ∧ r.2.sem = fun _ => 0)

def quiescent_SumPartialsIdeal [hSumPartialsIdeal : Cert.SumPartialsIdeal.Facts] : Prop :=
  ∀ (m : (ℓ : Loc Cert.SumPartialsIdeal.nD Cert.SumPartialsIdeal.τ Cert.SumPartialsIdeal.sig) → Buf (Elt Ideal) ℓ) (g : Dev Cert.SumPartialsIdeal.nD → PrngReg), Pre_SumPartialsIdeal m →
    θ_run (Cert.SumPartialsIdeal.defs (F := Ideal)) (onTc (τ := Cert.SumPartialsIdeal.τ) (Cert.SumPartialsIdeal.main (F := Ideal))) ⟨m, fun _ => 0, g⟩ (fun r => (∀ c : Dev Cert.SumPartialsIdeal.nD,
      r.2.mem ((c.tc : Thread Cert.SumPartialsIdeal.nD Cert.SumPartialsIdeal.τ).loc Cert.SumPartialsIdeal.main_arg0) = m ((c.tc : Thread Cert.SumPartialsIdeal.nD Cert.SumPartialsIdeal.τ).loc Cert.SumPartialsIdeal.main_arg0))
      ∧ r.2.sem = fun _ => 0)

def quiescent_SummedIdeal [hSummedIdeal : Cert.SummedIdeal.Facts] : Prop :=
  ∀ (m : (ℓ : Loc Cert.SummedIdeal.nD Cert.SummedIdeal.τ Cert.SummedIdeal.sig) → Buf (Elt Ideal) ℓ) (g : Dev Cert.SummedIdeal.nD → PrngReg), Pre_SummedIdeal m →
    θ_run (Cert.SummedIdeal.defs (F := Ideal)) (onTc (τ := Cert.SummedIdeal.τ) (Cert.SummedIdeal.main (F := Ideal))) ⟨m, fun _ => 0, g⟩ (fun r => (∀ c : Dev Cert.SummedIdeal.nD,
      r.2.mem ((c.tc : Thread Cert.SummedIdeal.nD Cert.SummedIdeal.τ).loc Cert.SummedIdeal.main_arg0) = m ((c.tc : Thread Cert.SummedIdeal.nD Cert.SummedIdeal.τ).loc Cert.SummedIdeal.main_arg0))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_SmallBlocksIdeal [hSmallBlocksIdeal : Cert.SmallBlocksIdeal.Facts] : Prop :=
  ∀ (m : (ℓ : Loc Cert.SmallBlocksIdeal.nD Cert.SmallBlocksIdeal.τ Cert.SmallBlocksIdeal.sig) → Buf (Elt Ideal) ℓ) (g : Dev Cert.SmallBlocksIdeal.nD → PrngReg), Pre_SmallBlocksIdeal m →
    θ_run (Cert.SmallBlocksIdeal.defs (F := Ideal)) (onTc (τ := Cert.SmallBlocksIdeal.τ) (Cert.SmallBlocksIdeal.main (F := Ideal))) ⟨m, fun _ => 0, g⟩ (fun r => (∀ c : Dev Cert.SmallBlocksIdeal.nD,
      r.2.mem ((c.tc : Thread Cert.SmallBlocksIdeal.nD Cert.SmallBlocksIdeal.τ).loc Cert.SmallBlocksIdeal.main_arg0) = m ((c.tc : Thread Cert.SmallBlocksIdeal.nD Cert.SmallBlocksIdeal.τ).loc Cert.SmallBlocksIdeal.main_arg0))
      ∧ r.2.sem = fun _ => 0)

def quiescent_SmallBlocks [hSmallBlocks : Cert.SmallBlocks.Facts] : Prop :=
  ∀ (m : (ℓ : Loc Cert.SmallBlocks.nD Cert.SmallBlocks.τ Cert.SmallBlocks.sig) → Buf (Elt Bits) ℓ) (g : Dev Cert.SmallBlocks.nD → PrngReg), Pre_SmallBlocks m →
    θ_run (Cert.SmallBlocks.defs (F := Bits)) (onTc (τ := Cert.SmallBlocks.τ) (Cert.SmallBlocks.main (F := Bits))) ⟨m, fun _ => 0, g⟩ (fun r => (∀ c : Dev Cert.SmallBlocks.nD,
      r.2.mem ((c.tc : Thread Cert.SmallBlocks.nD Cert.SmallBlocks.τ).loc Cert.SmallBlocks.main_arg0) = m ((c.tc : Thread Cert.SmallBlocks.nD Cert.SmallBlocks.τ).loc Cert.SmallBlocks.main_arg0))
      ∧ r.2.sem = fun _ => 0)

def quiescent_GatherAda [hGatherAda : Cert.GatherAda.Facts] : Prop :=
  ∀ (m : (ℓ : Loc Cert.GatherAda.nD Cert.GatherAda.τ Cert.GatherAda.sig) → Buf (Elt Bits) ℓ) (g : Dev Cert.GatherAda.nD → PrngReg), Pre_GatherAda m →
    θ_run (Cert.GatherAda.defs (F := Bits)) (onTc (τ := Cert.GatherAda.τ) (Cert.GatherAda.main (F := Bits))) ⟨m, fun _ => 0, g⟩ (fun r => (∀ c : Dev Cert.GatherAda.nD,
      r.2.mem ((c.tc : Thread Cert.GatherAda.nD Cert.GatherAda.τ).loc Cert.GatherAda.main_arg0) = m ((c.tc : Thread Cert.GatherAda.nD Cert.GatherAda.τ).loc Cert.GatherAda.main_arg0))
      ∧ r.2.sem = fun _ => 0)

def quiescent_GatherAdaIdeal [hGatherAdaIdeal : Cert.GatherAdaIdeal.Facts] : Prop :=
  ∀ (m : (ℓ : Loc Cert.GatherAdaIdeal.nD Cert.GatherAdaIdeal.τ Cert.GatherAdaIdeal.sig) → Buf (Elt Ideal) ℓ) (g : Dev Cert.GatherAdaIdeal.nD → PrngReg), Pre_GatherAdaIdeal m →
    θ_run (Cert.GatherAdaIdeal.defs (F := Ideal)) (onTc (τ := Cert.GatherAdaIdeal.τ) (Cert.GatherAdaIdeal.main (F := Ideal))) ⟨m, fun _ => 0, g⟩ (fun r => (∀ c : Dev Cert.GatherAdaIdeal.nD,
      r.2.mem ((c.tc : Thread Cert.GatherAdaIdeal.nD Cert.GatherAdaIdeal.τ).loc Cert.GatherAdaIdeal.main_arg0) = m ((c.tc : Thread Cert.GatherAdaIdeal.nD Cert.GatherAdaIdeal.τ).loc Cert.GatherAdaIdeal.main_arg0))
      ∧ r.2.sem = fun _ => 0)

def quiescent_AdaBlocksIdeal [hAdaBlocksIdeal : Cert.AdaBlocksIdeal.Facts] : Prop :=
  ∀ (m : (ℓ : Loc Cert.AdaBlocksIdeal.nD Cert.AdaBlocksIdeal.τ Cert.AdaBlocksIdeal.sig) → Buf (Elt Ideal) ℓ) (g : Dev Cert.AdaBlocksIdeal.nD → PrngReg), Pre_AdaBlocksIdeal m →
    θ_run (Cert.AdaBlocksIdeal.defs (F := Ideal)) (onTc (τ := Cert.AdaBlocksIdeal.τ) (Cert.AdaBlocksIdeal.main (F := Ideal))) ⟨m, fun _ => 0, g⟩ (fun r => (∀ c : Dev Cert.AdaBlocksIdeal.nD,
      r.2.mem ((c.tc : Thread Cert.AdaBlocksIdeal.nD Cert.AdaBlocksIdeal.τ).loc Cert.AdaBlocksIdeal.main_arg0) = m ((c.tc : Thread Cert.AdaBlocksIdeal.nD Cert.AdaBlocksIdeal.τ).loc Cert.AdaBlocksIdeal.main_arg0))
      ∧ r.2.sem = fun _ => 0)

def quiescent_AdaBlocks [hAdaBlocks : Cert.AdaBlocks.Facts] : Prop :=
  ∀ (m : (ℓ : Loc Cert.AdaBlocks.nD Cert.AdaBlocks.τ Cert.AdaBlocks.sig) → Buf (Elt Bits) ℓ) (g : Dev Cert.AdaBlocks.nD → PrngReg), Pre_AdaBlocks m →
    θ_run (Cert.AdaBlocks.defs (F := Bits)) (onTc (τ := Cert.AdaBlocks.τ) (Cert.AdaBlocks.main (F := Bits))) ⟨m, fun _ => 0, g⟩ (fun r => (∀ c : Dev Cert.AdaBlocks.nD,
      r.2.mem ((c.tc : Thread Cert.AdaBlocks.nD Cert.AdaBlocks.τ).loc Cert.AdaBlocks.main_arg0) = m ((c.tc : Thread Cert.AdaBlocks.nD Cert.AdaBlocks.τ).loc Cert.AdaBlocks.main_arg0))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_ConditionGradIdeal [hConditionGradIdeal : Cert.ConditionGradIdeal.Facts] : Prop :=
  ∀ (m : (ℓ : Loc Cert.ConditionGradIdeal.nD Cert.ConditionGradIdeal.τ Cert.ConditionGradIdeal.sig) → Buf (Elt Ideal) ℓ) (g : Dev Cert.ConditionGradIdeal.nD → PrngReg), Pre_ConditionGradIdeal m →
    θ_run (Cert.ConditionGradIdeal.defs (F := Ideal)) (onTc (τ := Cert.ConditionGradIdeal.τ) (Cert.ConditionGradIdeal.main (F := Ideal))) ⟨m, fun _ => 0, g⟩ (fun r => (∀ c : Dev Cert.ConditionGradIdeal.nD,
      r.2.mem ((c.tc : Thread Cert.ConditionGradIdeal.nD Cert.ConditionGradIdeal.τ).loc Cert.ConditionGradIdeal.main_arg0) = m ((c.tc : Thread Cert.ConditionGradIdeal.nD Cert.ConditionGradIdeal.τ).loc Cert.ConditionGradIdeal.main_arg0)
      ∧ r.2.mem ((c.tc : Thread Cert.ConditionGradIdeal.nD Cert.ConditionGradIdeal.τ).loc Cert.ConditionGradIdeal.main_arg1) = m ((c.tc : Thread Cert.ConditionGradIdeal.nD Cert.ConditionGradIdeal.τ).loc Cert.ConditionGradIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
      ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
      ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3)
      ∧ r.2.mem ((c.tc : Thread Cert.InputGradIdeal.nD Cert.InputGradIdeal.τ).loc Cert.InputGradIdeal.main_arg4) = m ((c.tc : Thread Cert.InputGradIdeal.nD Cert.InputGradIdeal.τ).loc Cert.InputGradIdeal.main_arg4))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1)
      ∧ r.2.mem ((c.tc : Thread Cert.LossGrad.nD Cert.LossGrad.τ).loc Cert.LossGrad.main_arg2) = m ((c.tc : Thread Cert.LossGrad.nD Cert.LossGrad.τ).loc Cert.LossGrad.main_arg2))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2))
      ∧ r.2.sem = fun _ => 0)

def quiescent_LossDerivativeIdeal [hLossDerivativeIdeal : Cert.LossDerivativeIdeal.Facts] : Prop :=
  ∀ (m : (ℓ : Loc Cert.LossDerivativeIdeal.nD Cert.LossDerivativeIdeal.τ Cert.LossDerivativeIdeal.sig) → Buf (Elt Ideal) ℓ) (g : Dev Cert.LossDerivativeIdeal.nD → PrngReg), Pre_LossDerivativeIdeal m →
    θ_run (Cert.LossDerivativeIdeal.defs (F := Ideal)) (onTc (τ := Cert.LossDerivativeIdeal.τ) (Cert.LossDerivativeIdeal.main (F := Ideal))) ⟨m, fun _ => 0, g⟩ (fun r => (∀ c : Dev Cert.LossDerivativeIdeal.nD,
      r.2.mem ((c.tc : Thread Cert.LossDerivativeIdeal.nD Cert.LossDerivativeIdeal.τ).loc Cert.LossDerivativeIdeal.main_arg0) = m ((c.tc : Thread Cert.LossDerivativeIdeal.nD Cert.LossDerivativeIdeal.τ).loc Cert.LossDerivativeIdeal.main_arg0)
      ∧ r.2.mem ((c.tc : Thread Cert.LossDerivativeIdeal.nD Cert.LossDerivativeIdeal.τ).loc Cert.LossDerivativeIdeal.main_arg1) = m ((c.tc : Thread Cert.LossDerivativeIdeal.nD Cert.LossDerivativeIdeal.τ).loc Cert.LossDerivativeIdeal.main_arg1)
      ∧ r.2.mem ((c.tc : Thread Cert.LossDerivativeIdeal.nD Cert.LossDerivativeIdeal.τ).loc Cert.LossDerivativeIdeal.main_arg2) = m ((c.tc : Thread Cert.LossDerivativeIdeal.nD Cert.LossDerivativeIdeal.τ).loc Cert.LossDerivativeIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7))
      ∧ r.2.sem = fun _ => 0)

def quiescent_ResidualGrad [hResidualGrad : Cert.ResidualGrad.Facts] : Prop :=
  ∀ (m : (ℓ : Loc Cert.ResidualGrad.nD Cert.ResidualGrad.τ Cert.ResidualGrad.sig) → Buf (Elt Bits) ℓ) (g : Dev Cert.ResidualGrad.nD → PrngReg), Pre_ResidualGrad m →
    θ_run (Cert.ResidualGrad.defs (F := Bits)) (onTc (τ := Cert.ResidualGrad.τ) (Cert.ResidualGrad.main (F := Bits))) ⟨m, fun _ => 0, g⟩ (fun r => (∀ c : Dev Cert.ResidualGrad.nD,
      r.2.mem ((c.tc : Thread Cert.ResidualGrad.nD Cert.ResidualGrad.τ).loc Cert.ResidualGrad.main_arg0) = m ((c.tc : Thread Cert.ResidualGrad.nD Cert.ResidualGrad.τ).loc Cert.ResidualGrad.main_arg0)
      ∧ r.2.mem ((c.tc : Thread Cert.ResidualGrad.nD Cert.ResidualGrad.τ).loc Cert.ResidualGrad.main_arg1) = m ((c.tc : Thread Cert.ResidualGrad.nD Cert.ResidualGrad.τ).loc Cert.ResidualGrad.main_arg1)
      ∧ r.2.mem ((c.tc : Thread Cert.ResidualGrad.nD Cert.ResidualGrad.τ).loc Cert.ResidualGrad.main_arg2) = m ((c.tc : Thread Cert.ResidualGrad.nD Cert.ResidualGrad.τ).loc Cert.ResidualGrad.main_arg2))
      ∧ r.2.sem = fun _ => 0)

def quiescent_ResidualGradIdeal [hResidualGradIdeal : Cert.ResidualGradIdeal.Facts] : Prop :=
  ∀ (m : (ℓ : Loc Cert.ResidualGradIdeal.nD Cert.ResidualGradIdeal.τ Cert.ResidualGradIdeal.sig) → Buf (Elt Ideal) ℓ) (g : Dev Cert.ResidualGradIdeal.nD → PrngReg), Pre_ResidualGradIdeal m →
    θ_run (Cert.ResidualGradIdeal.defs (F := Ideal)) (onTc (τ := Cert.ResidualGradIdeal.τ) (Cert.ResidualGradIdeal.main (F := Ideal))) ⟨m, fun _ => 0, g⟩ (fun r => (∀ c : Dev Cert.ResidualGradIdeal.nD,
      r.2.mem ((c.tc : Thread Cert.ResidualGradIdeal.nD Cert.ResidualGradIdeal.τ).loc Cert.ResidualGradIdeal.main_arg0) = m ((c.tc : Thread Cert.ResidualGradIdeal.nD Cert.ResidualGradIdeal.τ).loc Cert.ResidualGradIdeal.main_arg0)
      ∧ r.2.mem ((c.tc : Thread Cert.ResidualGradIdeal.nD Cert.ResidualGradIdeal.τ).loc Cert.ResidualGradIdeal.main_arg1) = m ((c.tc : Thread Cert.ResidualGradIdeal.nD Cert.ResidualGradIdeal.τ).loc Cert.ResidualGradIdeal.main_arg1)
      ∧ r.2.mem ((c.tc : Thread Cert.ResidualGradIdeal.nD Cert.ResidualGradIdeal.τ).loc Cert.ResidualGradIdeal.main_arg2) = m ((c.tc : Thread Cert.ResidualGradIdeal.nD Cert.ResidualGradIdeal.τ).loc Cert.ResidualGradIdeal.main_arg2))
      ∧ r.2.sem = fun _ => 0)

def quiescent_GatedGradIdeal [hGatedGradIdeal : Cert.GatedGradIdeal.Facts] : Prop :=
  ∀ (m : (ℓ : Loc Cert.GatedGradIdeal.nD Cert.GatedGradIdeal.τ Cert.GatedGradIdeal.sig) → Buf (Elt Ideal) ℓ) (g : Dev Cert.GatedGradIdeal.nD → PrngReg), Pre_GatedGradIdeal m →
    θ_run (Cert.GatedGradIdeal.defs (F := Ideal)) (onTc (τ := Cert.GatedGradIdeal.τ) (Cert.GatedGradIdeal.main (F := Ideal))) ⟨m, fun _ => 0, g⟩ (fun r => (∀ c : Dev Cert.GatedGradIdeal.nD,
      r.2.mem ((c.tc : Thread Cert.GatedGradIdeal.nD Cert.GatedGradIdeal.τ).loc Cert.GatedGradIdeal.main_arg0) = m ((c.tc : Thread Cert.GatedGradIdeal.nD Cert.GatedGradIdeal.τ).loc Cert.GatedGradIdeal.main_arg0)
      ∧ r.2.mem ((c.tc : Thread Cert.GatedGradIdeal.nD Cert.GatedGradIdeal.τ).loc Cert.GatedGradIdeal.main_arg1) = m ((c.tc : Thread Cert.GatedGradIdeal.nD Cert.GatedGradIdeal.τ).loc Cert.GatedGradIdeal.main_arg1)
      ∧ r.2.mem ((c.tc : Thread Cert.GatedGradIdeal.nD Cert.GatedGradIdeal.τ).loc Cert.GatedGradIdeal.main_arg2) = m ((c.tc : Thread Cert.GatedGradIdeal.nD Cert.GatedGradIdeal.τ).loc Cert.GatedGradIdeal.main_arg2))
      ∧ r.2.sem = fun _ => 0)

def quiescent_ActGrad [hActGrad : Cert.ActGrad.Facts] : Prop :=
  ∀ (m : (ℓ : Loc Cert.ActGrad.nD Cert.ActGrad.τ Cert.ActGrad.sig) → Buf (Elt Bits) ℓ) (g : Dev Cert.ActGrad.nD → PrngReg), Pre_ActGrad m →
    θ_run (Cert.ActGrad.defs (F := Bits)) (onTc (τ := Cert.ActGrad.τ) (Cert.ActGrad.main (F := Bits))) ⟨m, fun _ => 0, g⟩ (fun r => (∀ c : Dev Cert.ActGrad.nD,
      r.2.mem ((c.tc : Thread Cert.ActGrad.nD Cert.ActGrad.τ).loc Cert.ActGrad.main_arg0) = m ((c.tc : Thread Cert.ActGrad.nD Cert.ActGrad.τ).loc Cert.ActGrad.main_arg0)
      ∧ r.2.mem ((c.tc : Thread Cert.ActGrad.nD Cert.ActGrad.τ).loc Cert.ActGrad.main_arg1) = m ((c.tc : Thread Cert.ActGrad.nD Cert.ActGrad.τ).loc Cert.ActGrad.main_arg1)
      ∧ r.2.mem ((c.tc : Thread Cert.ActGrad.nD Cert.ActGrad.τ).loc Cert.ActGrad.main_arg2) = m ((c.tc : Thread Cert.ActGrad.nD Cert.ActGrad.τ).loc Cert.ActGrad.main_arg2)
      ∧ r.2.mem ((c.tc : Thread Cert.ActGrad.nD Cert.ActGrad.τ).loc Cert.ActGrad.main_arg3) = m ((c.tc : Thread Cert.ActGrad.nD Cert.ActGrad.τ).loc Cert.ActGrad.main_arg3))
      ∧ r.2.sem = fun _ => 0)

def quiescent_ActGradIdeal [hActGradIdeal : Cert.ActGradIdeal.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
      ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ r.2.sem = fun _ => 0)

def quiescent_SwigluGradIdeal [hSwigluGradIdeal : Cert.SwigluGradIdeal.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg), Pre_SwigluGradIdeal m →
    θ_run (Cert.SwigluGradIdeal.defs (F := Ideal)) (onTc (τ := Cert.SwigluGradIdeal.τ) (Cert.SwigluGradIdeal.main (F := Ideal))) ⟨m, fun _ => 0, g⟩ (fun r => (∀ c : Dev Cert.SwigluGradIdeal.nD,
      r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
      ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
      ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2)
      ∧ r.2.mem ((c.tc : Thread Cert.SwigluGradIdeal.nD Cert.SwigluGradIdeal.τ).loc Cert.SwigluGradIdeal.main_arg3) = m ((c.tc : Thread Cert.SwigluGradIdeal.nD Cert.SwigluGradIdeal.τ).loc Cert.SwigluGradIdeal.main_arg3))
      ∧ r.2.sem = fun _ => 0)

def quiescent_HiddenGrad [hHiddenGrad : Cert.HiddenGrad.Facts] : Prop :=
  ∀ (m : (ℓ : Loc Cert.HiddenGrad.nD Cert.HiddenGrad.τ Cert.HiddenGrad.sig) → Buf (Elt Bits) ℓ) (g : Dev Cert.HiddenGrad.nD → PrngReg), Pre_HiddenGrad m →
    θ_run (Cert.HiddenGrad.defs (F := Bits)) (onTc (τ := Cert.HiddenGrad.τ) (Cert.HiddenGrad.main (F := Bits))) ⟨m, fun _ => 0, g⟩ (fun r => (∀ c : Dev Cert.HiddenGrad.nD,
      r.2.mem ((c.tc : Thread Cert.HiddenGrad.nD Cert.HiddenGrad.τ).loc Cert.HiddenGrad.main_arg0) = m ((c.tc : Thread Cert.HiddenGrad.nD Cert.HiddenGrad.τ).loc Cert.HiddenGrad.main_arg0)
      ∧ r.2.mem ((c.tc : Thread Cert.HiddenGrad.nD Cert.HiddenGrad.τ).loc Cert.HiddenGrad.main_arg1) = m ((c.tc : Thread Cert.HiddenGrad.nD Cert.HiddenGrad.τ).loc Cert.HiddenGrad.main_arg1)
      ∧ r.2.mem ((c.tc : Thread Cert.HiddenGrad.nD Cert.HiddenGrad.τ).loc Cert.HiddenGrad.main_arg2) = m ((c.tc : Thread Cert.HiddenGrad.nD Cert.HiddenGrad.τ).loc Cert.HiddenGrad.main_arg2)
      ∧ r.2.mem ((c.tc : Thread Cert.HiddenGrad.nD Cert.HiddenGrad.τ).loc Cert.HiddenGrad.main_arg3) = m ((c.tc : Thread Cert.HiddenGrad.nD Cert.HiddenGrad.τ).loc Cert.HiddenGrad.main_arg3))
      ∧ r.2.sem = fun _ => 0)

def quiescent_HiddenGradIdeal [hHiddenGradIdeal : Cert.HiddenGradIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg), Pre_HiddenGradIdeal m →
    θ_run (Cert.HiddenGradIdeal.defs (F := Ideal)) (onTc (τ := Cert.HiddenGradIdeal.τ) (Cert.HiddenGradIdeal.main (F := Ideal))) ⟨m, fun _ => 0, g⟩ (fun r => (∀ c : Dev Cert.HiddenGradIdeal.nD,
      r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
      ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1)
      ∧ r.2.mem ((c.tc : Thread Cert.HiddenGradIdeal.nD Cert.HiddenGradIdeal.τ).loc Cert.HiddenGradIdeal.main_arg2) = m ((c.tc : Thread Cert.HiddenGradIdeal.nD Cert.HiddenGradIdeal.τ).loc Cert.HiddenGradIdeal.main_arg2)
      ∧ r.2.mem ((c.tc : Thread Cert.HiddenGradIdeal.nD Cert.HiddenGradIdeal.τ).loc Cert.HiddenGradIdeal.main_arg3) = m ((c.tc : Thread Cert.HiddenGradIdeal.nD Cert.HiddenGradIdeal.τ).loc Cert.HiddenGradIdeal.main_arg3))
      ∧ r.2.sem = fun _ => 0)

def quiescent_ProductsGradIdeal [hProductsGradIdeal : Cert.ProductsGradIdeal.Facts] : Prop :=
  ∀ (m : (ℓ : Loc Cert.ProductsGradIdeal.nD Cert.ProductsGradIdeal.τ Cert.ProductsGradIdeal.sig) → Buf (Elt Ideal) ℓ) (g : Dev Cert.ProductsGradIdeal.nD → PrngReg), Pre_ProductsGradIdeal m →
    θ_run (Cert.ProductsGradIdeal.defs (F := Ideal)) (onTc (τ := Cert.ProductsGradIdeal.τ) (Cert.ProductsGradIdeal.main (F := Ideal))) ⟨m, fun _ => 0, g⟩ (fun r => (∀ c : Dev Cert.ProductsGradIdeal.nD,
      r.2.mem ((c.tc : Thread Cert.ProductsGradIdeal.nD Cert.ProductsGradIdeal.τ).loc Cert.ProductsGradIdeal.main_arg0) = m ((c.tc : Thread Cert.ProductsGradIdeal.nD Cert.ProductsGradIdeal.τ).loc Cert.ProductsGradIdeal.main_arg0)
      ∧ r.2.mem ((c.tc : Thread Cert.ProductsGradIdeal.nD Cert.ProductsGradIdeal.τ).loc Cert.ProductsGradIdeal.main_arg1) = m ((c.tc : Thread Cert.ProductsGradIdeal.nD Cert.ProductsGradIdeal.τ).loc Cert.ProductsGradIdeal.main_arg1)
      ∧ r.2.mem ((c.tc : Thread Cert.ProductsGradIdeal.nD Cert.ProductsGradIdeal.τ).loc Cert.ProductsGradIdeal.main_arg2) = m ((c.tc : Thread Cert.ProductsGradIdeal.nD Cert.ProductsGradIdeal.τ).loc Cert.ProductsGradIdeal.main_arg2)
      ∧ r.2.mem ((c.tc : Thread Cert.ProductsGradIdeal.nD Cert.ProductsGradIdeal.τ).loc Cert.ProductsGradIdeal.main_arg3) = m ((c.tc : Thread Cert.ProductsGradIdeal.nD Cert.ProductsGradIdeal.τ).loc Cert.ProductsGradIdeal.main_arg3))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_ProductGradIdeal [hProductGradIdeal : Cert.ProductGradIdeal.Facts] : Prop :=
  ∀ (m : (ℓ : Loc Cert.ProductGradIdeal.nD Cert.ProductGradIdeal.τ Cert.ProductGradIdeal.sig) → Buf (Elt Ideal) ℓ) (g : Dev Cert.ProductGradIdeal.nD → PrngReg), Pre_ProductGradIdeal m →
    θ_run (Cert.ProductGradIdeal.defs (F := Ideal)) (onTc (τ := Cert.ProductGradIdeal.τ) (Cert.ProductGradIdeal.main (F := Ideal))) ⟨m, fun _ => 0, g⟩ (fun r => (∀ c : Dev Cert.ProductGradIdeal.nD,
      r.2.mem ((c.tc : Thread Cert.ProductGradIdeal.nD Cert.ProductGradIdeal.τ).loc Cert.ProductGradIdeal.main_arg0) = m ((c.tc : Thread Cert.ProductGradIdeal.nD Cert.ProductGradIdeal.τ).loc Cert.ProductGradIdeal.main_arg0)
      ∧ r.2.mem ((c.tc : Thread Cert.ProductGradIdeal.nD Cert.ProductGradIdeal.τ).loc Cert.ProductGradIdeal.main_arg1) = m ((c.tc : Thread Cert.ProductGradIdeal.nD Cert.ProductGradIdeal.τ).loc Cert.ProductGradIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutProductGradIdeal [hOutProductGradIdeal : Cert.OutProductGradIdeal.Facts] : Prop :=
  ∀ (m : (ℓ : Loc Cert.OutProductGradIdeal.nD Cert.OutProductGradIdeal.τ Cert.OutProductGradIdeal.sig) → Buf (Elt Ideal) ℓ) (g : Dev Cert.OutProductGradIdeal.nD → PrngReg), Pre_OutProductGradIdeal m →
    θ_run (Cert.OutProductGradIdeal.defs (F := Ideal)) (onTc (τ := Cert.OutProductGradIdeal.τ) (Cert.OutProductGradIdeal.main (F := Ideal))) ⟨m, fun _ => 0, g⟩ (fun r => (∀ c : Dev Cert.OutProductGradIdeal.nD,
      r.2.mem ((c.tc : Thread Cert.OutProductGradIdeal.nD Cert.OutProductGradIdeal.τ).loc Cert.OutProductGradIdeal.main_arg0) = m ((c.tc : Thread Cert.OutProductGradIdeal.nD Cert.OutProductGradIdeal.τ).loc Cert.OutProductGradIdeal.main_arg0)
      ∧ r.2.mem ((c.tc : Thread Cert.OutProductGradIdeal.nD Cert.OutProductGradIdeal.τ).loc Cert.OutProductGradIdeal.main_arg1) = m ((c.tc : Thread Cert.OutProductGradIdeal.nD Cert.OutProductGradIdeal.τ).loc Cert.OutProductGradIdeal.main_arg1))
      ∧ r.2.sem = fun _ => 0)

def quiescent_SquareGrad [hSquareGrad : Cert.SquareGrad.Facts] : Prop :=
  ∀ (m : (ℓ : Loc Cert.SquareGrad.nD Cert.SquareGrad.τ Cert.SquareGrad.sig) → Buf (Elt Bits) ℓ) (g : Dev Cert.SquareGrad.nD → PrngReg), Pre_SquareGrad m →
    θ_run (Cert.SquareGrad.defs (F := Bits)) (onTc (τ := Cert.SquareGrad.τ) (Cert.SquareGrad.main (F := Bits))) ⟨m, fun _ => 0, g⟩ (fun r => (∀ c : Dev Cert.SquareGrad.nD,
      r.2.mem ((c.tc : Thread Cert.SquareGrad.nD Cert.SquareGrad.τ).loc Cert.SquareGrad.main_arg0) = m ((c.tc : Thread Cert.SquareGrad.nD Cert.SquareGrad.τ).loc Cert.SquareGrad.main_arg0)
      ∧ r.2.mem ((c.tc : Thread Cert.SquareGrad.nD Cert.SquareGrad.τ).loc Cert.SquareGrad.main_arg1) = m ((c.tc : Thread Cert.SquareGrad.nD Cert.SquareGrad.τ).loc Cert.SquareGrad.main_arg1))
      ∧ r.2.sem = fun _ => 0)

def quiescent_SquareGradIdeal [hSquareGradIdeal : Cert.SquareGradIdeal.Facts] : Prop :=
  ∀ (m : (ℓ : Loc Cert.SquareGradIdeal.nD Cert.SquareGradIdeal.τ Cert.SquareGradIdeal.sig) → Buf (Elt Ideal) ℓ) (g : Dev Cert.SquareGradIdeal.nD → PrngReg), Pre_SquareGradIdeal m →
    θ_run (Cert.SquareGradIdeal.defs (F := Ideal)) (onTc (τ := Cert.SquareGradIdeal.τ) (Cert.SquareGradIdeal.main (F := Ideal))) ⟨m, fun _ => 0, g⟩ (fun r => (∀ c : Dev Cert.SquareGradIdeal.nD,
      r.2.mem ((c.tc : Thread Cert.SquareGradIdeal.nD Cert.SquareGradIdeal.τ).loc Cert.SquareGradIdeal.main_arg0) = m ((c.tc : Thread Cert.SquareGradIdeal.nD Cert.SquareGradIdeal.τ).loc Cert.SquareGradIdeal.main_arg0)
      ∧ r.2.mem ((c.tc : Thread Cert.SquareGradIdeal.nD Cert.SquareGradIdeal.τ).loc Cert.SquareGradIdeal.main_arg1) = m ((c.tc : Thread Cert.SquareGradIdeal.nD Cert.SquareGradIdeal.τ).loc Cert.SquareGradIdeal.main_arg1))
      ∧ r.2.sem = fun _ => 0)

def quiescent_SquareProductGradIdeal [hSquareProductGradIdeal : Cert.SquareProductGradIdeal.Facts] : Prop :=
  ∀ (m : (ℓ : Loc Cert.SquareProductGradIdeal.nD Cert.SquareProductGradIdeal.τ Cert.SquareProductGradIdeal.sig) → Buf (Elt Ideal) ℓ) (g : Dev Cert.SquareProductGradIdeal.nD → PrngReg), Pre_SquareProductGradIdeal m →
    θ_run (Cert.SquareProductGradIdeal.defs (F := Ideal)) (onTc (τ := Cert.SquareProductGradIdeal.τ) (Cert.SquareProductGradIdeal.main (F := Ideal))) ⟨m, fun _ => 0, g⟩ (fun r => (∀ c : Dev Cert.SquareProductGradIdeal.nD,
      r.2.mem ((c.tc : Thread Cert.SquareProductGradIdeal.nD Cert.SquareProductGradIdeal.τ).loc Cert.SquareProductGradIdeal.main_arg0) = m ((c.tc : Thread Cert.SquareProductGradIdeal.nD Cert.SquareProductGradIdeal.τ).loc Cert.SquareProductGradIdeal.main_arg0)
      ∧ r.2.mem ((c.tc : Thread Cert.SquareProductGradIdeal.nD Cert.SquareProductGradIdeal.τ).loc Cert.SquareProductGradIdeal.main_arg1) = m ((c.tc : Thread Cert.SquareProductGradIdeal.nD Cert.SquareProductGradIdeal.τ).loc Cert.SquareProductGradIdeal.main_arg1))
      ∧ r.2.sem = fun _ => 0)

def quiescent_GluIn [hGluIn : Cert.GluIn.Facts] : Prop :=
  ∀ (m : (ℓ : Loc Cert.GluIn.nD Cert.GluIn.τ Cert.GluIn.sig) → Buf (Elt Bits) ℓ) (g : Dev Cert.GluIn.nD → PrngReg), Pre_GluIn m →
    θ_run (Cert.GluIn.defs (F := Bits)) (onTc (τ := Cert.GluIn.τ) (Cert.GluIn.main (F := Bits))) ⟨m, fun _ => 0, g⟩ (fun r => (∀ c : Dev Cert.GluIn.nD,
      r.2.mem ((c.tc : Thread Cert.GluIn.nD Cert.GluIn.τ).loc Cert.GluIn.main_arg0) = m ((c.tc : Thread Cert.GluIn.nD Cert.GluIn.τ).loc Cert.GluIn.main_arg0)
      ∧ r.2.mem ((c.tc : Thread Cert.GluIn.nD Cert.GluIn.τ).loc Cert.GluIn.main_arg1) = m ((c.tc : Thread Cert.GluIn.nD Cert.GluIn.τ).loc Cert.GluIn.main_arg1)
      ∧ r.2.mem ((c.tc : Thread Cert.GluIn.nD Cert.GluIn.τ).loc Cert.GluIn.main_arg2) = m ((c.tc : Thread Cert.GluIn.nD Cert.GluIn.τ).loc Cert.GluIn.main_arg2)
      ∧ r.2.mem ((c.tc : Thread Cert.GluIn.nD Cert.GluIn.τ).loc Cert.GluIn.main_arg3) = m ((c.tc : Thread Cert.GluIn.nD Cert.GluIn.τ).loc Cert.GluIn.main_arg3)
      ∧ r.2.mem ((c.tc : Thread Cert.GluIn.nD Cert.GluIn.τ).loc Cert.GluIn.main_arg4) = m ((c.tc : Thread Cert.GluIn.nD Cert.GluIn.τ).loc Cert.GluIn.main_arg4))
      ∧ r.2.sem = fun _ => 0)

def quiescent_GluInIdeal [hGluInIdeal : Cert.GluInIdeal.Facts] : Prop :=
  ∀ (m : (ℓ : Loc Cert.GluInIdeal.nD Cert.GluInIdeal.τ Cert.GluInIdeal.sig) → Buf (Elt Ideal) ℓ) (g : Dev Cert.GluInIdeal.nD → PrngReg), Pre_GluInIdeal m →
    θ_run (Cert.GluInIdeal.defs (F := Ideal)) (onTc (τ := Cert.GluInIdeal.τ) (Cert.GluInIdeal.main (F := Ideal))) ⟨m, fun _ => 0, g⟩ (fun r => (∀ c : Dev Cert.GluInIdeal.nD,
      r.2.mem ((c.tc : Thread Cert.GluInIdeal.nD Cert.GluInIdeal.τ).loc Cert.GluInIdeal.main_arg0) = m ((c.tc : Thread Cert.GluInIdeal.nD Cert.GluInIdeal.τ).loc Cert.GluInIdeal.main_arg0)
      ∧ r.2.mem ((c.tc : Thread Cert.GluInIdeal.nD Cert.GluInIdeal.τ).loc Cert.GluInIdeal.main_arg1) = m ((c.tc : Thread Cert.GluInIdeal.nD Cert.GluInIdeal.τ).loc Cert.GluInIdeal.main_arg1)
      ∧ r.2.mem ((c.tc : Thread Cert.GluInIdeal.nD Cert.GluInIdeal.τ).loc Cert.GluInIdeal.main_arg2) = m ((c.tc : Thread Cert.GluInIdeal.nD Cert.GluInIdeal.τ).loc Cert.GluInIdeal.main_arg2)
      ∧ r.2.mem ((c.tc : Thread Cert.GluInIdeal.nD Cert.GluInIdeal.τ).loc Cert.GluInIdeal.main_arg3) = m ((c.tc : Thread Cert.GluInIdeal.nD Cert.GluInIdeal.τ).loc Cert.GluInIdeal.main_arg3)
      ∧ r.2.mem ((c.tc : Thread Cert.GluInIdeal.nD Cert.GluInIdeal.τ).loc Cert.GluInIdeal.main_arg4) = m ((c.tc : Thread Cert.GluInIdeal.nD Cert.GluInIdeal.τ).loc Cert.GluInIdeal.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_ResidualOut [hResidualOut : Cert.ResidualOut.Facts] : Prop :=
  ∀ (m : (ℓ : Loc Cert.ResidualOut.nD Cert.ResidualOut.τ Cert.ResidualOut.sig) → Buf (Elt Bits) ℓ) (g : Dev Cert.ResidualOut.nD → PrngReg), Pre_ResidualOut m →
    θ_run (Cert.ResidualOut.defs (F := Bits)) (onTc (τ := Cert.ResidualOut.τ) (Cert.ResidualOut.main (F := Bits))) ⟨m, fun _ => 0, g⟩ (fun r => (∀ c : Dev Cert.ResidualOut.nD,
      r.2.mem ((c.tc : Thread Cert.ResidualOut.nD Cert.ResidualOut.τ).loc Cert.ResidualOut.main_arg0) = m ((c.tc : Thread Cert.ResidualOut.nD Cert.ResidualOut.τ).loc Cert.ResidualOut.main_arg0)
      ∧ r.2.mem ((c.tc : Thread Cert.ResidualOut.nD Cert.ResidualOut.τ).loc Cert.ResidualOut.main_arg1) = m ((c.tc : Thread Cert.ResidualOut.nD Cert.ResidualOut.τ).loc Cert.ResidualOut.main_arg1)
      ∧ r.2.mem ((c.tc : Thread Cert.ResidualOut.nD Cert.ResidualOut.τ).loc Cert.ResidualOut.main_arg2) = m ((c.tc : Thread Cert.ResidualOut.nD Cert.ResidualOut.τ).loc Cert.ResidualOut.main_arg2)
      ∧ r.2.mem ((c.tc : Thread Cert.ResidualOut.nD Cert.ResidualOut.τ).loc Cert.ResidualOut.main_arg3) = m ((c.tc : Thread Cert.ResidualOut.nD Cert.ResidualOut.τ).loc Cert.ResidualOut.main_arg3)
      ∧ r.2.mem ((c.tc : Thread Cert.ResidualOut.nD Cert.ResidualOut.τ).loc Cert.ResidualOut.main_arg4) = m ((c.tc : Thread Cert.ResidualOut.nD Cert.ResidualOut.τ).loc Cert.ResidualOut.main_arg4))
      ∧ r.2.sem = fun _ => 0)

def quiescent_ResidualOutIdeal [hResidualOutIdeal : Cert.ResidualOutIdeal.Facts] : Prop :=
  ∀ (m : (ℓ : Loc Cert.ResidualOutIdeal.nD Cert.ResidualOutIdeal.τ Cert.ResidualOutIdeal.sig) → Buf (Elt Ideal) ℓ) (g : Dev Cert.ResidualOutIdeal.nD → PrngReg), Pre_ResidualOutIdeal m →
    θ_run (Cert.ResidualOutIdeal.defs (F := Ideal)) (onTc (τ := Cert.ResidualOutIdeal.τ) (Cert.ResidualOutIdeal.main (F := Ideal))) ⟨m, fun _ => 0, g⟩ (fun r => (∀ c : Dev Cert.ResidualOutIdeal.nD,
      r.2.mem ((c.tc : Thread Cert.ResidualOutIdeal.nD Cert.ResidualOutIdeal.τ).loc Cert.ResidualOutIdeal.main_arg0) = m ((c.tc : Thread Cert.ResidualOutIdeal.nD Cert.ResidualOutIdeal.τ).loc Cert.ResidualOutIdeal.main_arg0)
      ∧ r.2.mem ((c.tc : Thread Cert.ResidualOutIdeal.nD Cert.ResidualOutIdeal.τ).loc Cert.ResidualOutIdeal.main_arg1) = m ((c.tc : Thread Cert.ResidualOutIdeal.nD Cert.ResidualOutIdeal.τ).loc Cert.ResidualOutIdeal.main_arg1)
      ∧ r.2.mem ((c.tc : Thread Cert.ResidualOutIdeal.nD Cert.ResidualOutIdeal.τ).loc Cert.ResidualOutIdeal.main_arg2) = m ((c.tc : Thread Cert.ResidualOutIdeal.nD Cert.ResidualOutIdeal.τ).loc Cert.ResidualOutIdeal.main_arg2)
      ∧ r.2.mem ((c.tc : Thread Cert.ResidualOutIdeal.nD Cert.ResidualOutIdeal.τ).loc Cert.ResidualOutIdeal.main_arg3) = m ((c.tc : Thread Cert.ResidualOutIdeal.nD Cert.ResidualOutIdeal.τ).loc Cert.ResidualOutIdeal.main_arg3)
      ∧ r.2.mem ((c.tc : Thread Cert.ResidualOutIdeal.nD Cert.ResidualOutIdeal.τ).loc Cert.ResidualOutIdeal.main_arg4) = m ((c.tc : Thread Cert.ResidualOutIdeal.nD Cert.ResidualOutIdeal.τ).loc Cert.ResidualOutIdeal.main_arg4))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
      ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4))
      ∧ r.2.sem = fun _ => 0)

def quiescent_KeyProduct [hKeyProduct : Cert.KeyProduct.Facts] : Prop :=
  ∀ (m : (ℓ : Loc Cert.KeyProduct.nD Cert.KeyProduct.τ Cert.KeyProduct.sig) → Buf (Elt Bits) ℓ) (g : Dev Cert.KeyProduct.nD → PrngReg), Pre_KeyProduct m →
    θ_run (Cert.KeyProduct.defs (F := Bits)) (onTc (τ := Cert.KeyProduct.τ) (Cert.KeyProduct.main (F := Bits))) ⟨m, fun _ => 0, g⟩ (fun r => (∀ c : Dev Cert.KeyProduct.nD,
      r.2.mem ((c.tc : Thread Cert.KeyProduct.nD Cert.KeyProduct.τ).loc Cert.KeyProduct.main_arg0) = m ((c.tc : Thread Cert.KeyProduct.nD Cert.KeyProduct.τ).loc Cert.KeyProduct.main_arg0)
      ∧ r.2.mem ((c.tc : Thread Cert.KeyProduct.nD Cert.KeyProduct.τ).loc Cert.KeyProduct.main_arg1) = m ((c.tc : Thread Cert.KeyProduct.nD Cert.KeyProduct.τ).loc Cert.KeyProduct.main_arg1))
      ∧ r.2.sem = fun _ => 0)

def quiescent_KeyProductIdeal [hKeyProductIdeal : Cert.KeyProductIdeal.Facts] : Prop :=
  ∀ (m : (ℓ : Loc Cert.KeyProductIdeal.nD Cert.KeyProductIdeal.τ Cert.KeyProductIdeal.sig) → Buf (Elt Ideal) ℓ) (g : Dev Cert.KeyProductIdeal.nD → PrngReg), Pre_KeyProductIdeal m →
    θ_run (Cert.KeyProductIdeal.defs (F := Ideal)) (onTc (τ := Cert.KeyProductIdeal.τ) (Cert.KeyProductIdeal.main (F := Ideal))) ⟨m, fun _ => 0, g⟩ (fun r => (∀ c : Dev Cert.KeyProductIdeal.nD,
      r.2.mem ((c.tc : Thread Cert.KeyProductIdeal.nD Cert.KeyProductIdeal.τ).loc Cert.KeyProductIdeal.main_arg0) = m ((c.tc : Thread Cert.KeyProductIdeal.nD Cert.KeyProductIdeal.τ).loc Cert.KeyProductIdeal.main_arg0)
      ∧ r.2.mem ((c.tc : Thread Cert.KeyProductIdeal.nD Cert.KeyProductIdeal.τ).loc Cert.KeyProductIdeal.main_arg1) = m ((c.tc : Thread Cert.KeyProductIdeal.nD Cert.KeyProductIdeal.τ).loc Cert.KeyProductIdeal.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_QueryProduct [hQueryProduct : Cert.QueryProduct.Facts] : Prop :=
  ∀ (m : (ℓ : Loc Cert.QueryProduct.nD Cert.QueryProduct.τ Cert.QueryProduct.sig) → Buf (Elt Bits) ℓ) (g : Dev Cert.QueryProduct.nD → PrngReg), Pre_QueryProduct m →
    θ_run (Cert.QueryProduct.defs (F := Bits)) (onTc (τ := Cert.QueryProduct.τ) (Cert.QueryProduct.main (F := Bits))) ⟨m, fun _ => 0, g⟩ (fun r => (∀ c : Dev Cert.QueryProduct.nD,
      r.2.mem ((c.tc : Thread Cert.QueryProduct.nD Cert.QueryProduct.τ).loc Cert.QueryProduct.main_arg0) = m ((c.tc : Thread Cert.QueryProduct.nD Cert.QueryProduct.τ).loc Cert.QueryProduct.main_arg0)
      ∧ r.2.mem ((c.tc : Thread Cert.QueryProduct.nD Cert.QueryProduct.τ).loc Cert.QueryProduct.main_arg1) = m ((c.tc : Thread Cert.QueryProduct.nD Cert.QueryProduct.τ).loc Cert.QueryProduct.main_arg1))
      ∧ r.2.sem = fun _ => 0)

def quiescent_QueryProductIdeal [hQueryProductIdeal : Cert.QueryProductIdeal.Facts] : Prop :=
  ∀ (m : (ℓ : Loc Cert.QueryProductIdeal.nD Cert.QueryProductIdeal.τ Cert.QueryProductIdeal.sig) → Buf (Elt Ideal) ℓ) (g : Dev Cert.QueryProductIdeal.nD → PrngReg), Pre_QueryProductIdeal m →
    θ_run (Cert.QueryProductIdeal.defs (F := Ideal)) (onTc (τ := Cert.QueryProductIdeal.τ) (Cert.QueryProductIdeal.main (F := Ideal))) ⟨m, fun _ => 0, g⟩ (fun r => (∀ c : Dev Cert.QueryProductIdeal.nD,
      r.2.mem ((c.tc : Thread Cert.QueryProductIdeal.nD Cert.QueryProductIdeal.τ).loc Cert.QueryProductIdeal.main_arg0) = m ((c.tc : Thread Cert.QueryProductIdeal.nD Cert.QueryProductIdeal.τ).loc Cert.QueryProductIdeal.main_arg0)
      ∧ r.2.mem ((c.tc : Thread Cert.QueryProductIdeal.nD Cert.QueryProductIdeal.τ).loc Cert.QueryProductIdeal.main_arg1) = m ((c.tc : Thread Cert.QueryProductIdeal.nD Cert.QueryProductIdeal.τ).loc Cert.QueryProductIdeal.main_arg1))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ r.2.sem = fun _ => 0)

def quiescent_HeadGrad [hHeadGrad : Cert.HeadGrad.Facts] : Prop :=
  ∀ (m : (ℓ : Loc Cert.HeadGrad.nD Cert.HeadGrad.τ Cert.HeadGrad.sig) → Buf (Elt Bits) ℓ) (g : Dev Cert.HeadGrad.nD → PrngReg), Pre_HeadGrad m →
    θ_run (Cert.HeadGrad.defs (F := Bits)) (onTc (τ := Cert.HeadGrad.τ) (Cert.HeadGrad.main (F := Bits))) ⟨m, fun _ => 0, g⟩ (fun r => (∀ c : Dev Cert.HeadGrad.nD,
      r.2.mem ((c.tc : Thread Cert.HeadGrad.nD Cert.HeadGrad.τ).loc Cert.HeadGrad.main_arg0) = m ((c.tc : Thread Cert.HeadGrad.nD Cert.HeadGrad.τ).loc Cert.HeadGrad.main_arg0)
      ∧ r.2.mem ((c.tc : Thread Cert.HeadGrad.nD Cert.HeadGrad.τ).loc Cert.HeadGrad.main_arg1) = m ((c.tc : Thread Cert.HeadGrad.nD Cert.HeadGrad.τ).loc Cert.HeadGrad.main_arg1))
      ∧ r.2.sem = fun _ => 0)

def quiescent_HeadGradIdeal [hHeadGradIdeal : Cert.HeadGradIdeal.Facts] : Prop :=
  ∀ (m : (ℓ : Loc Cert.HeadGradIdeal.nD Cert.HeadGradIdeal.τ Cert.HeadGradIdeal.sig) → Buf (Elt Ideal) ℓ) (g : Dev Cert.HeadGradIdeal.nD → PrngReg), Pre_HeadGradIdeal m →
    θ_run (Cert.HeadGradIdeal.defs (F := Ideal)) (onTc (τ := Cert.HeadGradIdeal.τ) (Cert.HeadGradIdeal.main (F := Ideal))) ⟨m, fun _ => 0, g⟩ (fun r => (∀ c : Dev Cert.HeadGradIdeal.nD,
      r.2.mem ((c.tc : Thread Cert.HeadGradIdeal.nD Cert.HeadGradIdeal.τ).loc Cert.HeadGradIdeal.main_arg0) = m ((c.tc : Thread Cert.HeadGradIdeal.nD Cert.HeadGradIdeal.τ).loc Cert.HeadGradIdeal.main_arg0)
      ∧ r.2.mem ((c.tc : Thread Cert.HeadGradIdeal.nD Cert.HeadGradIdeal.τ).loc Cert.HeadGradIdeal.main_arg1) = m ((c.tc : Thread Cert.HeadGradIdeal.nD Cert.HeadGradIdeal.τ).loc Cert.HeadGradIdeal.main_arg1))
      ∧ r.2.sem = fun _ => 0)

def quiescent_HeadProductGradIdeal [hHeadProductGradIdeal : Cert.HeadProductGradIdeal.Facts] : Prop :=
  ∀ (m : (ℓ : Loc Cert.HeadProductGradIdeal.nD Cert.HeadProductGradIdeal.τ Cert.HeadProductGradIdeal.sig) → Buf (Elt Ideal) ℓ) (g : Dev Cert.HeadProductGradIdeal.nD → PrngReg), Pre_HeadProductGradIdeal m →
    θ_run (Cert.HeadProductGradIdeal.defs (F := Ideal)) (onTc (τ := Cert.HeadProductGradIdeal.τ) (Cert.HeadProductGradIdeal.main (F := Ideal))) ⟨m, fun _ => 0, g⟩ (fun r => (∀ c : Dev Cert.HeadProductGradIdeal.nD,
      r.2.mem ((c.tc : Thread Cert.HeadProductGradIdeal.nD Cert.HeadProductGradIdeal.τ).loc Cert.HeadProductGradIdeal.main_arg0) = m ((c.tc : Thread Cert.HeadProductGradIdeal.nD Cert.HeadProductGradIdeal.τ).loc Cert.HeadProductGradIdeal.main_arg0)
      ∧ r.2.mem ((c.tc : Thread Cert.HeadProductGradIdeal.nD Cert.HeadProductGradIdeal.τ).loc Cert.HeadProductGradIdeal.main_arg1) = m ((c.tc : Thread Cert.HeadProductGradIdeal.nD Cert.HeadProductGradIdeal.τ).loc Cert.HeadProductGradIdeal.main_arg1))
      ∧ r.2.sem = fun _ => 0)

def quiescent_ConvGrad [hConvGrad : Cert.ConvGrad.Facts] : Prop :=
  ∀ (m : (ℓ : Loc Cert.ConvGrad.nD Cert.ConvGrad.τ Cert.ConvGrad.sig) → Buf (Elt Bits) ℓ) (g : Dev Cert.ConvGrad.nD → PrngReg), Pre_ConvGrad m →
    θ_run (Cert.ConvGrad.defs (F := Bits)) (onTc (τ := Cert.ConvGrad.τ) (Cert.ConvGrad.main (F := Bits))) ⟨m, fun _ => 0, g⟩ (fun r => (∀ c : Dev Cert.ConvGrad.nD,
      r.2.mem ((c.tc : Thread Cert.ConvGrad.nD Cert.ConvGrad.τ).loc Cert.ConvGrad.main_arg0) = m ((c.tc : Thread Cert.ConvGrad.nD Cert.ConvGrad.τ).loc Cert.ConvGrad.main_arg0)
      ∧ r.2.mem ((c.tc : Thread Cert.ConvGrad.nD Cert.ConvGrad.τ).loc Cert.ConvGrad.main_arg1) = m ((c.tc : Thread Cert.ConvGrad.nD Cert.ConvGrad.τ).loc Cert.ConvGrad.main_arg1)
      ∧ r.2.mem ((c.tc : Thread Cert.ConvGrad.nD Cert.ConvGrad.τ).loc Cert.ConvGrad.main_arg2) = m ((c.tc : Thread Cert.ConvGrad.nD Cert.ConvGrad.τ).loc Cert.ConvGrad.main_arg2)
      ∧ r.2.mem ((c.tc : Thread Cert.ConvGrad.nD Cert.ConvGrad.τ).loc Cert.ConvGrad.main_arg3) = m ((c.tc : Thread Cert.ConvGrad.nD Cert.ConvGrad.τ).loc Cert.ConvGrad.main_arg3))
      ∧ r.2.sem = fun _ => 0)

def quiescent_ConvGradIdeal [hConvGradIdeal : Cert.ConvGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
      ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ r.2.sem = fun _ => 0)

def quiescent_ConvProductsGradIdeal [hConvProductsGradIdeal : Cert.ConvProductsGradIdeal.Facts] : Prop :=
  ∀ (m : (ℓ : Loc Cert.ConvProductsGradIdeal.nD Cert.ConvProductsGradIdeal.τ Cert.ConvProductsGradIdeal.sig) → Buf (Elt Ideal) ℓ) (g : Dev Cert.ConvProductsGradIdeal.nD → PrngReg), Pre_ConvProductsGradIdeal m →
    θ_run (Cert.ConvProductsGradIdeal.defs (F := Ideal)) (onTc (τ := Cert.ConvProductsGradIdeal.τ) (Cert.ConvProductsGradIdeal.main (F := Ideal))) ⟨m, fun _ => 0, g⟩ (fun r => (∀ c : Dev Cert.ConvProductsGradIdeal.nD,
      r.2.mem ((c.tc : Thread Cert.ConvProductsGradIdeal.nD Cert.ConvProductsGradIdeal.τ).loc Cert.ConvProductsGradIdeal.main_arg0) = m ((c.tc : Thread Cert.ConvProductsGradIdeal.nD Cert.ConvProductsGradIdeal.τ).loc Cert.ConvProductsGradIdeal.main_arg0)
      ∧ r.2.mem ((c.tc : Thread Cert.ConvProductsGradIdeal.nD Cert.ConvProductsGradIdeal.τ).loc Cert.ConvProductsGradIdeal.main_arg1) = m ((c.tc : Thread Cert.ConvProductsGradIdeal.nD Cert.ConvProductsGradIdeal.τ).loc Cert.ConvProductsGradIdeal.main_arg1)
      ∧ r.2.mem ((c.tc : Thread Cert.ConvProductsGradIdeal.nD Cert.ConvProductsGradIdeal.τ).loc Cert.ConvProductsGradIdeal.main_arg2) = m ((c.tc : Thread Cert.ConvProductsGradIdeal.nD Cert.ConvProductsGradIdeal.τ).loc Cert.ConvProductsGradIdeal.main_arg2)
      ∧ r.2.mem ((c.tc : Thread Cert.ConvProductsGradIdeal.nD Cert.ConvProductsGradIdeal.τ).loc Cert.ConvProductsGradIdeal.main_arg3) = m ((c.tc : Thread Cert.ConvProductsGradIdeal.nD Cert.ConvProductsGradIdeal.τ).loc Cert.ConvProductsGradIdeal.main_arg3))
      ∧ r.2.sem = fun _ => 0)

def quiescent_AdaImages [hAdaImages : Cert.AdaImages.Facts] : Prop :=
  ∀ (m : (ℓ : Loc Cert.AdaImages.nD Cert.AdaImages.τ Cert.AdaImages.sig) → Buf (Elt Bits) ℓ) (g : Dev Cert.AdaImages.nD → PrngReg), Pre_AdaImages m →
    θ_run (Cert.AdaImages.defs (F := Bits)) (onTc (τ := Cert.AdaImages.τ) (Cert.AdaImages.main (F := Bits))) ⟨m, fun _ => 0, g⟩ (fun r => (∀ c : Dev Cert.AdaImages.nD,
      r.2.mem ((c.tc : Thread Cert.AdaImages.nD Cert.AdaImages.τ).loc Cert.AdaImages.main_arg0) = m ((c.tc : Thread Cert.AdaImages.nD Cert.AdaImages.τ).loc Cert.AdaImages.main_arg0)
      ∧ r.2.mem ((c.tc : Thread Cert.AdaImages.nD Cert.AdaImages.τ).loc Cert.AdaImages.main_arg1) = m ((c.tc : Thread Cert.AdaImages.nD Cert.AdaImages.τ).loc Cert.AdaImages.main_arg1))
      ∧ r.2.sem = fun _ => 0)

def quiescent_AdaImagesIdeal [hAdaImagesIdeal : Cert.AdaImagesIdeal.Facts] : Prop :=
  ∀ (m : (ℓ : Loc Cert.AdaImagesIdeal.nD Cert.AdaImagesIdeal.τ Cert.AdaImagesIdeal.sig) → Buf (Elt Ideal) ℓ) (g : Dev Cert.AdaImagesIdeal.nD → PrngReg), Pre_AdaImagesIdeal m →
    θ_run (Cert.AdaImagesIdeal.defs (F := Ideal)) (onTc (τ := Cert.AdaImagesIdeal.τ) (Cert.AdaImagesIdeal.main (F := Ideal))) ⟨m, fun _ => 0, g⟩ (fun r => (∀ c : Dev Cert.AdaImagesIdeal.nD,
      r.2.mem ((c.tc : Thread Cert.AdaImagesIdeal.nD Cert.AdaImagesIdeal.τ).loc Cert.AdaImagesIdeal.main_arg0) = m ((c.tc : Thread Cert.AdaImagesIdeal.nD Cert.AdaImagesIdeal.τ).loc Cert.AdaImagesIdeal.main_arg0)
      ∧ r.2.mem ((c.tc : Thread Cert.AdaImagesIdeal.nD Cert.AdaImagesIdeal.τ).loc Cert.AdaImagesIdeal.main_arg1) = m ((c.tc : Thread Cert.AdaImagesIdeal.nD Cert.AdaImagesIdeal.τ).loc Cert.AdaImagesIdeal.main_arg1))
      ∧ r.2.sem = fun _ => 0)

def quiescent_ImagesIdeal [hImagesIdeal : Cert.ImagesIdeal.Facts] : Prop :=
  ∀ (m : (ℓ : Loc Cert.ImagesIdeal.nD Cert.ImagesIdeal.τ Cert.ImagesIdeal.sig) → Buf (Elt Ideal) ℓ) (g : Dev Cert.ImagesIdeal.nD → PrngReg), Pre_ImagesIdeal m →
    θ_run (Cert.ImagesIdeal.defs (F := Ideal)) (onTc (τ := Cert.ImagesIdeal.τ) (Cert.ImagesIdeal.main (F := Ideal))) ⟨m, fun _ => 0, g⟩ (fun r => (∀ c : Dev Cert.ImagesIdeal.nD,
      r.2.mem ((c.tc : Thread Cert.ImagesIdeal.nD Cert.ImagesIdeal.τ).loc Cert.ImagesIdeal.main_arg0) = m ((c.tc : Thread Cert.ImagesIdeal.nD Cert.ImagesIdeal.τ).loc Cert.ImagesIdeal.main_arg0)
      ∧ r.2.mem ((c.tc : Thread Cert.ImagesIdeal.nD Cert.ImagesIdeal.τ).loc Cert.ImagesIdeal.main_arg1) = m ((c.tc : Thread Cert.ImagesIdeal.nD Cert.ImagesIdeal.τ).loc Cert.ImagesIdeal.main_arg1))
      ∧ r.2.sem = fun _ => 0)

def quiescent_NormOut [hNormOut : Cert.NormOut.Facts] : Prop :=
  ∀ (m : (ℓ : Loc Cert.NormOut.nD Cert.NormOut.τ Cert.NormOut.sig) → Buf (Elt Bits) ℓ) (g : Dev Cert.NormOut.nD → PrngReg), Pre_NormOut m →
    θ_run (Cert.NormOut.defs (F := Bits)) (onTc (τ := Cert.NormOut.τ) (Cert.NormOut.main (F := Bits))) ⟨m, fun _ => 0, g⟩ (fun r => (∀ c : Dev Cert.NormOut.nD,
      r.2.mem ((c.tc : Thread Cert.NormOut.nD Cert.NormOut.τ).loc Cert.NormOut.main_arg0) = m ((c.tc : Thread Cert.NormOut.nD Cert.NormOut.τ).loc Cert.NormOut.main_arg0)
      ∧ r.2.mem ((c.tc : Thread Cert.NormOut.nD Cert.NormOut.τ).loc Cert.NormOut.main_arg1) = m ((c.tc : Thread Cert.NormOut.nD Cert.NormOut.τ).loc Cert.NormOut.main_arg1)
      ∧ r.2.mem ((c.tc : Thread Cert.NormOut.nD Cert.NormOut.τ).loc Cert.NormOut.main_arg2) = m ((c.tc : Thread Cert.NormOut.nD Cert.NormOut.τ).loc Cert.NormOut.main_arg2)
      ∧ r.2.mem ((c.tc : Thread Cert.NormOut.nD Cert.NormOut.τ).loc Cert.NormOut.main_arg3) = m ((c.tc : Thread Cert.NormOut.nD Cert.NormOut.τ).loc Cert.NormOut.main_arg3))
      ∧ r.2.sem = fun _ => 0)

def quiescent_NormOutIdeal [hNormOutIdeal : Cert.NormOutIdeal.Facts] : Prop :=
  ∀ (m : (ℓ : Loc Cert.NormOutIdeal.nD Cert.NormOutIdeal.τ Cert.NormOutIdeal.sig) → Buf (Elt Ideal) ℓ) (g : Dev Cert.NormOutIdeal.nD → PrngReg), Pre_NormOutIdeal m →
    θ_run (Cert.NormOutIdeal.defs (F := Ideal)) (onTc (τ := Cert.NormOutIdeal.τ) (Cert.NormOutIdeal.main (F := Ideal))) ⟨m, fun _ => 0, g⟩ (fun r => (∀ c : Dev Cert.NormOutIdeal.nD,
      r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
      ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1)
      ∧ r.2.mem ((c.tc : Thread Cert.NormOutIdeal.nD Cert.NormOutIdeal.τ).loc Cert.NormOutIdeal.main_arg2) = m ((c.tc : Thread Cert.NormOutIdeal.nD Cert.NormOutIdeal.τ).loc Cert.NormOutIdeal.main_arg2)
      ∧ r.2.mem ((c.tc : Thread Cert.NormOutIdeal.nD Cert.NormOutIdeal.τ).loc Cert.NormOutIdeal.main_arg3) = m ((c.tc : Thread Cert.NormOutIdeal.nD Cert.NormOutIdeal.τ).loc Cert.NormOutIdeal.main_arg3))
      ∧ r.2.sem = fun _ => 0)

def quiescent_NormedIdeal [hNormedIdeal : Cert.NormedIdeal.Facts] : Prop :=
  ∀ (m : (ℓ : Loc Cert.NormedIdeal.nD Cert.NormedIdeal.τ Cert.NormedIdeal.sig) → Buf (Elt Ideal) ℓ) (g : Dev Cert.NormedIdeal.nD → PrngReg), Pre_NormedIdeal m →
    θ_run (Cert.NormedIdeal.defs (F := Ideal)) (onTc (τ := Cert.NormedIdeal.τ) (Cert.NormedIdeal.main (F := Ideal))) ⟨m, fun _ => 0, g⟩ (fun r => (∀ c : Dev Cert.NormedIdeal.nD,
      r.2.mem ((c.tc : Thread Cert.NormedIdeal.nD Cert.NormedIdeal.τ).loc Cert.NormedIdeal.main_arg0) = m ((c.tc : Thread Cert.NormedIdeal.nD Cert.NormedIdeal.τ).loc Cert.NormedIdeal.main_arg0)
      ∧ r.2.mem ((c.tc : Thread Cert.NormedIdeal.nD Cert.NormedIdeal.τ).loc Cert.NormedIdeal.main_arg1) = m ((c.tc : Thread Cert.NormedIdeal.nD Cert.NormedIdeal.τ).loc Cert.NormedIdeal.main_arg1)
      ∧ r.2.mem ((c.tc : Thread Cert.NormedIdeal.nD Cert.NormedIdeal.τ).loc Cert.NormedIdeal.main_arg2) = m ((c.tc : Thread Cert.NormedIdeal.nD Cert.NormedIdeal.τ).loc Cert.NormedIdeal.main_arg2)
      ∧ r.2.mem ((c.tc : Thread Cert.NormedIdeal.nD Cert.NormedIdeal.τ).loc Cert.NormedIdeal.main_arg3) = m ((c.tc : Thread Cert.NormedIdeal.nD Cert.NormedIdeal.τ).loc Cert.NormedIdeal.main_arg3))
      ∧ r.2.sem = fun _ => 0)

def quiescent_MixedGrad [hMixedGrad : Cert.MixedGrad.Facts] : Prop :=
  ∀ (m : (ℓ : Loc Cert.MixedGrad.nD Cert.MixedGrad.τ Cert.MixedGrad.sig) → Buf (Elt Bits) ℓ) (g : Dev Cert.MixedGrad.nD → PrngReg), Pre_MixedGrad m →
    θ_run (Cert.MixedGrad.defs (F := Bits)) (onTc (τ := Cert.MixedGrad.τ) (Cert.MixedGrad.main (F := Bits))) ⟨m, fun _ => 0, g⟩ (fun r => (∀ c : Dev Cert.MixedGrad.nD,
      r.2.mem ((c.tc : Thread Cert.MixedGrad.nD Cert.MixedGrad.τ).loc Cert.MixedGrad.main_arg0) = m ((c.tc : Thread Cert.MixedGrad.nD Cert.MixedGrad.τ).loc Cert.MixedGrad.main_arg0)
      ∧ r.2.mem ((c.tc : Thread Cert.MixedGrad.nD Cert.MixedGrad.τ).loc Cert.MixedGrad.main_arg1) = m ((c.tc : Thread Cert.MixedGrad.nD Cert.MixedGrad.τ).loc Cert.MixedGrad.main_arg1))
      ∧ r.2.sem = fun _ => 0)

def quiescent_MixedGradIdeal [hMixedGradIdeal : Cert.MixedGradIdeal.Facts] : Prop :=
  ∀ (m : (ℓ : Loc Cert.MixedGradIdeal.nD Cert.MixedGradIdeal.τ Cert.MixedGradIdeal.sig) → Buf (Elt Ideal) ℓ) (g : Dev Cert.MixedGradIdeal.nD → PrngReg), Pre_MixedGradIdeal m →
    θ_run (Cert.MixedGradIdeal.defs (F := Ideal)) (onTc (τ := Cert.MixedGradIdeal.τ) (Cert.MixedGradIdeal.main (F := Ideal))) ⟨m, fun _ => 0, g⟩ (fun r => (∀ c : Dev Cert.MixedGradIdeal.nD,
      r.2.mem ((c.tc : Thread Cert.MixedGradIdeal.nD Cert.MixedGradIdeal.τ).loc Cert.MixedGradIdeal.main_arg0) = m ((c.tc : Thread Cert.MixedGradIdeal.nD Cert.MixedGradIdeal.τ).loc Cert.MixedGradIdeal.main_arg0)
      ∧ r.2.mem ((c.tc : Thread Cert.MixedGradIdeal.nD Cert.MixedGradIdeal.τ).loc Cert.MixedGradIdeal.main_arg1) = m ((c.tc : Thread Cert.MixedGradIdeal.nD Cert.MixedGradIdeal.τ).loc Cert.MixedGradIdeal.main_arg1))
      ∧ r.2.sem = fun _ => 0)

def quiescent_MixedFactorGradIdeal [hMixedFactorGradIdeal : Cert.MixedFactorGradIdeal.Facts] : Prop :=
  ∀ (m : (ℓ : Loc Cert.MixedFactorGradIdeal.nD Cert.MixedFactorGradIdeal.τ Cert.MixedFactorGradIdeal.sig) → Buf (Elt Ideal) ℓ) (g : Dev Cert.MixedFactorGradIdeal.nD → PrngReg), Pre_MixedFactorGradIdeal m →
    θ_run (Cert.MixedFactorGradIdeal.defs (F := Ideal)) (onTc (τ := Cert.MixedFactorGradIdeal.τ) (Cert.MixedFactorGradIdeal.main (F := Ideal))) ⟨m, fun _ => 0, g⟩ (fun r => (∀ c : Dev Cert.MixedFactorGradIdeal.nD,
      r.2.mem ((c.tc : Thread Cert.MixedFactorGradIdeal.nD Cert.MixedFactorGradIdeal.τ).loc Cert.MixedFactorGradIdeal.main_arg0) = m ((c.tc : Thread Cert.MixedFactorGradIdeal.nD Cert.MixedFactorGradIdeal.τ).loc Cert.MixedFactorGradIdeal.main_arg0)
      ∧ r.2.mem ((c.tc : Thread Cert.MixedFactorGradIdeal.nD Cert.MixedFactorGradIdeal.τ).loc Cert.MixedFactorGradIdeal.main_arg1) = m ((c.tc : Thread Cert.MixedFactorGradIdeal.nD Cert.MixedFactorGradIdeal.τ).loc Cert.MixedFactorGradIdeal.main_arg1))
      ∧ r.2.sem = fun _ => 0)

def quiescent_QueryGrad [hQueryGrad : Cert.QueryGrad.Facts] : Prop :=
  ∀ (m : (ℓ : Loc Cert.QueryGrad.nD Cert.QueryGrad.τ Cert.QueryGrad.sig) → Buf (Elt Bits) ℓ) (g : Dev Cert.QueryGrad.nD → PrngReg), Pre_QueryGrad m →
    θ_run (Cert.QueryGrad.defs (F := Bits)) (onTc (τ := Cert.QueryGrad.τ) (Cert.QueryGrad.main (F := Bits))) ⟨m, fun _ => 0, g⟩ (fun r => (∀ c : Dev Cert.QueryGrad.nD,
      r.2.mem ((c.tc : Thread Cert.QueryGrad.nD Cert.QueryGrad.τ).loc Cert.QueryGrad.main_arg0) = m ((c.tc : Thread Cert.QueryGrad.nD Cert.QueryGrad.τ).loc Cert.QueryGrad.main_arg0)
      ∧ r.2.mem ((c.tc : Thread Cert.QueryGrad.nD Cert.QueryGrad.τ).loc Cert.QueryGrad.main_arg1) = m ((c.tc : Thread Cert.QueryGrad.nD Cert.QueryGrad.τ).loc Cert.QueryGrad.main_arg1))
      ∧ r.2.sem = fun _ => 0)

def quiescent_QueryGradIdeal [hQueryGradIdeal : Cert.QueryGradIdeal.Facts] : Prop :=
  ∀ (m : (ℓ : Loc Cert.QueryGradIdeal.nD Cert.QueryGradIdeal.τ Cert.QueryGradIdeal.sig) → Buf (Elt Ideal) ℓ) (g : Dev Cert.QueryGradIdeal.nD → PrngReg), Pre_QueryGradIdeal m →
    θ_run (Cert.QueryGradIdeal.defs (F := Ideal)) (onTc (τ := Cert.QueryGradIdeal.τ) (Cert.QueryGradIdeal.main (F := Ideal))) ⟨m, fun _ => 0, g⟩ (fun r => (∀ c : Dev Cert.QueryGradIdeal.nD,
      r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
      ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1))
      ∧ r.2.sem = fun _ => 0)

def quiescent_QueryFactorGradIdeal [hQueryFactorGradIdeal : Cert.QueryFactorGradIdeal.Facts] : Prop :=
  ∀ (m : (ℓ : Loc Cert.QueryFactorGradIdeal.nD Cert.QueryFactorGradIdeal.τ Cert.QueryFactorGradIdeal.sig) → Buf (Elt Ideal) ℓ) (g : Dev Cert.QueryFactorGradIdeal.nD → PrngReg), Pre_QueryFactorGradIdeal m →
    θ_run (Cert.QueryFactorGradIdeal.defs (F := Ideal)) (onTc (τ := Cert.QueryFactorGradIdeal.τ) (Cert.QueryFactorGradIdeal.main (F := Ideal))) ⟨m, fun _ => 0, g⟩ (fun r => (∀ c : Dev Cert.QueryFactorGradIdeal.nD,
      r.2.mem ((c.tc : Thread Cert.QueryFactorGradIdeal.nD Cert.QueryFactorGradIdeal.τ).loc Cert.QueryFactorGradIdeal.main_arg0) = m ((c.tc : Thread Cert.QueryFactorGradIdeal.nD Cert.QueryFactorGradIdeal.τ).loc Cert.QueryFactorGradIdeal.main_arg0)
      ∧ r.2.mem ((c.tc : Thread Cert.QueryFactorGradIdeal.nD Cert.QueryFactorGradIdeal.τ).loc Cert.QueryFactorGradIdeal.main_arg1) = m ((c.tc : Thread Cert.QueryFactorGradIdeal.nD Cert.QueryFactorGradIdeal.τ).loc Cert.QueryFactorGradIdeal.main_arg1))
      ∧ r.2.sem = fun _ => 0)

def quiescent_QueryWeightGrad [hQueryWeightGrad : Cert.QueryWeightGrad.Facts] : Prop :=
  ∀ (m : (ℓ : Loc Cert.QueryWeightGrad.nD Cert.QueryWeightGrad.τ Cert.QueryWeightGrad.sig) → Buf (Elt Bits) ℓ) (g : Dev Cert.QueryWeightGrad.nD → PrngReg), Pre_QueryWeightGrad m →
    θ_run (Cert.QueryWeightGrad.defs (F := Bits)) (onTc (τ := Cert.QueryWeightGrad.τ) (Cert.QueryWeightGrad.main (F := Bits))) ⟨m, fun _ => 0, g⟩ (fun r => (∀ c : Dev Cert.QueryWeightGrad.nD,
      r.2.mem ((c.tc : Thread Cert.QueryWeightGrad.nD Cert.QueryWeightGrad.τ).loc Cert.QueryWeightGrad.main_arg0) = m ((c.tc : Thread Cert.QueryWeightGrad.nD Cert.QueryWeightGrad.τ).loc Cert.QueryWeightGrad.main_arg0)
      ∧ r.2.mem ((c.tc : Thread Cert.QueryWeightGrad.nD Cert.QueryWeightGrad.τ).loc Cert.QueryWeightGrad.main_arg1) = m ((c.tc : Thread Cert.QueryWeightGrad.nD Cert.QueryWeightGrad.τ).loc Cert.QueryWeightGrad.main_arg1))
      ∧ r.2.sem = fun _ => 0)

def quiescent_QueryWeightGradIdeal [hQueryWeightGradIdeal : Cert.QueryWeightGradIdeal.Facts] : Prop :=
  ∀ (m : (ℓ : Loc Cert.QueryWeightGradIdeal.nD Cert.QueryWeightGradIdeal.τ Cert.QueryWeightGradIdeal.sig) → Buf (Elt Ideal) ℓ) (g : Dev Cert.QueryWeightGradIdeal.nD → PrngReg), Pre_QueryWeightGradIdeal m →
    θ_run (Cert.QueryWeightGradIdeal.defs (F := Ideal)) (onTc (τ := Cert.QueryWeightGradIdeal.τ) (Cert.QueryWeightGradIdeal.main (F := Ideal))) ⟨m, fun _ => 0, g⟩ (fun r => (∀ c : Dev Cert.QueryWeightGradIdeal.nD,
      r.2.mem ((c.tc : Thread Cert.QueryWeightGradIdeal.nD Cert.QueryWeightGradIdeal.τ).loc Cert.QueryWeightGradIdeal.main_arg0) = m ((c.tc : Thread Cert.QueryWeightGradIdeal.nD Cert.QueryWeightGradIdeal.τ).loc Cert.QueryWeightGradIdeal.main_arg0)
      ∧ r.2.mem ((c.tc : Thread Cert.QueryWeightGradIdeal.nD Cert.QueryWeightGradIdeal.τ).loc Cert.QueryWeightGradIdeal.main_arg1) = m ((c.tc : Thread Cert.QueryWeightGradIdeal.nD Cert.QueryWeightGradIdeal.τ).loc Cert.QueryWeightGradIdeal.main_arg1))
      ∧ r.2.sem = fun _ => 0)

def quiescent_QueryProductGradIdeal [hQueryProductGradIdeal : Cert.QueryProductGradIdeal.Facts] : Prop :=
  ∀ (m : (ℓ : Loc Cert.QueryProductGradIdeal.nD Cert.QueryProductGradIdeal.τ Cert.QueryProductGradIdeal.sig) → Buf (Elt Ideal) ℓ) (g : Dev Cert.QueryProductGradIdeal.nD → PrngReg), Pre_QueryProductGradIdeal m →
    θ_run (Cert.QueryProductGradIdeal.defs (F := Ideal)) (onTc (τ := Cert.QueryProductGradIdeal.τ) (Cert.QueryProductGradIdeal.main (F := Ideal))) ⟨m, fun _ => 0, g⟩ (fun r => (∀ c : Dev Cert.QueryProductGradIdeal.nD,
      r.2.mem ((c.tc : Thread Cert.QueryProductGradIdeal.nD Cert.QueryProductGradIdeal.τ).loc Cert.QueryProductGradIdeal.main_arg0) = m ((c.tc : Thread Cert.QueryProductGradIdeal.nD Cert.QueryProductGradIdeal.τ).loc Cert.QueryProductGradIdeal.main_arg0)
      ∧ r.2.mem ((c.tc : Thread Cert.QueryProductGradIdeal.nD Cert.QueryProductGradIdeal.τ).loc Cert.QueryProductGradIdeal.main_arg1) = m ((c.tc : Thread Cert.QueryProductGradIdeal.nD Cert.QueryProductGradIdeal.τ).loc Cert.QueryProductGradIdeal.main_arg1))
      ∧ r.2.sem = fun _ => 0)

def quiescent_ForgetWeightGrad [hForgetWeightGrad : Cert.ForgetWeightGrad.Facts] : Prop :=
  ∀ (m : (ℓ : Loc Cert.ForgetWeightGrad.nD Cert.ForgetWeightGrad.τ Cert.ForgetWeightGrad.sig) → Buf (Elt Bits) ℓ) (g : Dev Cert.ForgetWeightGrad.nD → PrngReg), Pre_ForgetWeightGrad m →
    θ_run (Cert.ForgetWeightGrad.defs (F := Bits)) (onTc (τ := Cert.ForgetWeightGrad.τ) (Cert.ForgetWeightGrad.main (F := Bits))) ⟨m, fun _ => 0, g⟩ (fun r => (∀ c : Dev Cert.ForgetWeightGrad.nD,
      r.2.mem ((c.tc : Thread Cert.ForgetWeightGrad.nD Cert.ForgetWeightGrad.τ).loc Cert.ForgetWeightGrad.main_arg0) = m ((c.tc : Thread Cert.ForgetWeightGrad.nD Cert.ForgetWeightGrad.τ).loc Cert.ForgetWeightGrad.main_arg0)
      ∧ r.2.mem ((c.tc : Thread Cert.ForgetWeightGrad.nD Cert.ForgetWeightGrad.τ).loc Cert.ForgetWeightGrad.main_arg1) = m ((c.tc : Thread Cert.ForgetWeightGrad.nD Cert.ForgetWeightGrad.τ).loc Cert.ForgetWeightGrad.main_arg1))
      ∧ r.2.sem = fun _ => 0)

def quiescent_ForgetWeightGradIdeal [hForgetWeightGradIdeal : Cert.ForgetWeightGradIdeal.Facts] : Prop :=
  ∀ (m : (ℓ : Loc Cert.ForgetWeightGradIdeal.nD Cert.ForgetWeightGradIdeal.τ Cert.ForgetWeightGradIdeal.sig) → Buf (Elt Ideal) ℓ) (g : Dev Cert.ForgetWeightGradIdeal.nD → PrngReg), Pre_ForgetWeightGradIdeal m →
    θ_run (Cert.ForgetWeightGradIdeal.defs (F := Ideal)) (onTc (τ := Cert.ForgetWeightGradIdeal.τ) (Cert.ForgetWeightGradIdeal.main (F := Ideal))) ⟨m, fun _ => 0, g⟩ (fun r => (∀ c : Dev Cert.ForgetWeightGradIdeal.nD,
      r.2.mem ((c.tc : Thread Cert.ForgetWeightGradIdeal.nD Cert.ForgetWeightGradIdeal.τ).loc Cert.ForgetWeightGradIdeal.main_arg0) = m ((c.tc : Thread Cert.ForgetWeightGradIdeal.nD Cert.ForgetWeightGradIdeal.τ).loc Cert.ForgetWeightGradIdeal.main_arg0)
      ∧ r.2.mem ((c.tc : Thread Cert.ForgetWeightGradIdeal.nD Cert.ForgetWeightGradIdeal.τ).loc Cert.ForgetWeightGradIdeal.main_arg1) = m ((c.tc : Thread Cert.ForgetWeightGradIdeal.nD Cert.ForgetWeightGradIdeal.τ).loc Cert.ForgetWeightGradIdeal.main_arg1))
      ∧ r.2.sem = fun _ => 0)

def quiescent_ForgetProductGradIdeal [hForgetProductGradIdeal : Cert.ForgetProductGradIdeal.Facts] : Prop :=
  ∀ (m : (ℓ : Loc Cert.ForgetProductGradIdeal.nD Cert.ForgetProductGradIdeal.τ Cert.ForgetProductGradIdeal.sig) → Buf (Elt Ideal) ℓ) (g : Dev Cert.ForgetProductGradIdeal.nD → PrngReg), Pre_ForgetProductGradIdeal m →
    θ_run (Cert.ForgetProductGradIdeal.defs (F := Ideal)) (onTc (τ := Cert.ForgetProductGradIdeal.τ) (Cert.ForgetProductGradIdeal.main (F := Ideal))) ⟨m, fun _ => 0, g⟩ (fun r => (∀ c : Dev Cert.ForgetProductGradIdeal.nD,
      r.2.mem ((c.tc : Thread Cert.ForgetProductGradIdeal.nD Cert.ForgetProductGradIdeal.τ).loc Cert.ForgetProductGradIdeal.main_arg0) = m ((c.tc : Thread Cert.ForgetProductGradIdeal.nD Cert.ForgetProductGradIdeal.τ).loc Cert.ForgetProductGradIdeal.main_arg0)
      ∧ r.2.mem ((c.tc : Thread Cert.ForgetProductGradIdeal.nD Cert.ForgetProductGradIdeal.τ).loc Cert.ForgetProductGradIdeal.main_arg1) = m ((c.tc : Thread Cert.ForgetProductGradIdeal.nD Cert.ForgetProductGradIdeal.τ).loc Cert.ForgetProductGradIdeal.main_arg1))
      ∧ r.2.sem = fun _ => 0)

def quiescent_ForgetProduct [hForgetProduct : Cert.ForgetProduct.Facts] : Prop :=
  ∀ (m : (ℓ : Loc Cert.ForgetProduct.nD Cert.ForgetProduct.τ Cert.ForgetProduct.sig) → Buf (Elt Bits) ℓ) (g : Dev Cert.ForgetProduct.nD → PrngReg), Pre_ForgetProduct m →
    θ_run (Cert.ForgetProduct.defs (F := Bits)) (onTc (τ := Cert.ForgetProduct.τ) (Cert.ForgetProduct.main (F := Bits))) ⟨m, fun _ => 0, g⟩ (fun r => (∀ c : Dev Cert.ForgetProduct.nD,
      r.2.mem ((c.tc : Thread Cert.ForgetProduct.nD Cert.ForgetProduct.τ).loc Cert.ForgetProduct.main_arg0) = m ((c.tc : Thread Cert.ForgetProduct.nD Cert.ForgetProduct.τ).loc Cert.ForgetProduct.main_arg0)
      ∧ r.2.mem ((c.tc : Thread Cert.ForgetProduct.nD Cert.ForgetProduct.τ).loc Cert.ForgetProduct.main_arg1) = m ((c.tc : Thread Cert.ForgetProduct.nD Cert.ForgetProduct.τ).loc Cert.ForgetProduct.main_arg1))
      ∧ r.2.sem = fun _ => 0)

def quiescent_ForgetProductIdeal [hForgetProductIdeal : Cert.ForgetProductIdeal.Facts] : Prop :=
  ∀ (m : (ℓ : Loc Cert.ForgetProductIdeal.nD Cert.ForgetProductIdeal.τ Cert.ForgetProductIdeal.sig) → Buf (Elt Ideal) ℓ) (g : Dev Cert.ForgetProductIdeal.nD → PrngReg), Pre_ForgetProductIdeal m →
    θ_run (Cert.ForgetProductIdeal.defs (F := Ideal)) (onTc (τ := Cert.ForgetProductIdeal.τ) (Cert.ForgetProductIdeal.main (F := Ideal))) ⟨m, fun _ => 0, g⟩ (fun r => (∀ c : Dev Cert.ForgetProductIdeal.nD,
      r.2.mem ((c.tc : Thread Cert.ForgetProductIdeal.nD Cert.ForgetProductIdeal.τ).loc Cert.ForgetProductIdeal.main_arg0) = m ((c.tc : Thread Cert.ForgetProductIdeal.nD Cert.ForgetProductIdeal.τ).loc Cert.ForgetProductIdeal.main_arg0)
      ∧ r.2.mem ((c.tc : Thread Cert.ForgetProductIdeal.nD Cert.ForgetProductIdeal.τ).loc Cert.ForgetProductIdeal.main_arg1) = m ((c.tc : Thread Cert.ForgetProductIdeal.nD Cert.ForgetProductIdeal.τ).loc Cert.ForgetProductIdeal.main_arg1))
      ∧ r.2.sem = fun _ => 0)

def quiescent_ForgetLogitsIdeal [hForgetLogitsIdeal : Cert.ForgetLogitsIdeal.Facts] : Prop :=
  ∀ (m : (ℓ : Loc Cert.ForgetLogitsIdeal.nD Cert.ForgetLogitsIdeal.τ Cert.ForgetLogitsIdeal.sig) → Buf (Elt Ideal) ℓ) (g : Dev Cert.ForgetLogitsIdeal.nD → PrngReg), Pre_ForgetLogitsIdeal m →
    θ_run (Cert.ForgetLogitsIdeal.defs (F := Ideal)) (onTc (τ := Cert.ForgetLogitsIdeal.τ) (Cert.ForgetLogitsIdeal.main (F := Ideal))) ⟨m, fun _ => 0, g⟩ (fun r => (∀ c : Dev Cert.ForgetLogitsIdeal.nD,
      r.2.mem ((c.tc : Thread Cert.ForgetLogitsIdeal.nD Cert.ForgetLogitsIdeal.τ).loc Cert.ForgetLogitsIdeal.main_arg0) = m ((c.tc : Thread Cert.ForgetLogitsIdeal.nD Cert.ForgetLogitsIdeal.τ).loc Cert.ForgetLogitsIdeal.main_arg0)
      ∧ r.2.mem ((c.tc : Thread Cert.ForgetLogitsIdeal.nD Cert.ForgetLogitsIdeal.τ).loc Cert.ForgetLogitsIdeal.main_arg1) = m ((c.tc : Thread Cert.ForgetLogitsIdeal.nD Cert.ForgetLogitsIdeal.τ).loc Cert.ForgetLogitsIdeal.main_arg1))
      ∧ r.2.sem = fun _ => 0)

def quiescent_KeyValueGrad [hKeyValueGrad : Cert.KeyValueGrad.Facts] : Prop :=
  ∀ (m : (ℓ : Loc Cert.KeyValueGrad.nD Cert.KeyValueGrad.τ Cert.KeyValueGrad.sig) → Buf (Elt Bits) ℓ) (g : Dev Cert.KeyValueGrad.nD → PrngReg), Pre_KeyValueGrad m →
    θ_run (Cert.KeyValueGrad.defs (F := Bits)) (onTc (τ := Cert.KeyValueGrad.τ) (Cert.KeyValueGrad.main (F := Bits))) ⟨m, fun _ => 0, g⟩ (fun r => (∀ c : Dev Cert.KeyValueGrad.nD,
      r.2.mem ((c.tc : Thread Cert.KeyValueGrad.nD Cert.KeyValueGrad.τ).loc Cert.KeyValueGrad.main_arg0) = m ((c.tc : Thread Cert.KeyValueGrad.nD Cert.KeyValueGrad.τ).loc Cert.KeyValueGrad.main_arg0)
      ∧ r.2.mem ((c.tc : Thread Cert.KeyValueGrad.nD Cert.KeyValueGrad.τ).loc Cert.KeyValueGrad.main_arg1) = m ((c.tc : Thread Cert.KeyValueGrad.nD Cert.KeyValueGrad.τ).loc Cert.KeyValueGrad.main_arg1)
      ∧ r.2.mem ((c.tc : Thread Cert.KeyValueGrad.nD Cert.KeyValueGrad.τ).loc Cert.KeyValueGrad.main_arg2) = m ((c.tc : Thread Cert.KeyValueGrad.nD Cert.KeyValueGrad.τ).loc Cert.KeyValueGrad.main_arg2)
      ∧ r.2.mem ((c.tc : Thread Cert.KeyValueGrad.nD Cert.KeyValueGrad.τ).loc Cert.KeyValueGrad.main_arg3) = m ((c.tc : Thread Cert.KeyValueGrad.nD Cert.KeyValueGrad.τ).loc Cert.KeyValueGrad.main_arg3)
      ∧ r.2.mem ((c.tc : Thread Cert.KeyValueGrad.nD Cert.KeyValueGrad.τ).loc Cert.KeyValueGrad.main_arg4) = m ((c.tc : Thread Cert.KeyValueGrad.nD Cert.KeyValueGrad.τ).loc Cert.KeyValueGrad.main_arg4)
      ∧ r.2.mem ((c.tc : Thread Cert.KeyValueGrad.nD Cert.KeyValueGrad.τ).loc Cert.KeyValueGrad.main_arg5) = m ((c.tc : Thread Cert.KeyValueGrad.nD Cert.KeyValueGrad.τ).loc Cert.KeyValueGrad.main_arg5))
      ∧ r.2.sem = fun _ => 0)

def quiescent_KeyValueGradIdeal [hKeyValueGradIdeal : Cert.KeyValueGradIdeal.Facts] : Prop :=
  ∀ (m : (ℓ : Loc Cert.KeyValueGradIdeal.nD Cert.KeyValueGradIdeal.τ Cert.KeyValueGradIdeal.sig) → Buf (Elt Ideal) ℓ) (g : Dev Cert.KeyValueGradIdeal.nD → PrngReg), Pre_KeyValueGradIdeal m →
    θ_run (Cert.KeyValueGradIdeal.defs (F := Ideal)) (onTc (τ := Cert.KeyValueGradIdeal.τ) (Cert.KeyValueGradIdeal.main (F := Ideal))) ⟨m, fun _ => 0, g⟩ (fun r => (∀ c : Dev Cert.KeyValueGradIdeal.nD,
      r.2.mem ((c.tc : Thread Cert.KeyValueGradIdeal.nD Cert.KeyValueGradIdeal.τ).loc Cert.KeyValueGradIdeal.main_arg0) = m ((c.tc : Thread Cert.KeyValueGradIdeal.nD Cert.KeyValueGradIdeal.τ).loc Cert.KeyValueGradIdeal.main_arg0)
      ∧ r.2.mem ((c.tc : Thread Cert.KeyValueGradIdeal.nD Cert.KeyValueGradIdeal.τ).loc Cert.KeyValueGradIdeal.main_arg1) = m ((c.tc : Thread Cert.KeyValueGradIdeal.nD Cert.KeyValueGradIdeal.τ).loc Cert.KeyValueGradIdeal.main_arg1)
      ∧ r.2.mem ((c.tc : Thread Cert.KeyValueGradIdeal.nD Cert.KeyValueGradIdeal.τ).loc Cert.KeyValueGradIdeal.main_arg2) = m ((c.tc : Thread Cert.KeyValueGradIdeal.nD Cert.KeyValueGradIdeal.τ).loc Cert.KeyValueGradIdeal.main_arg2)
      ∧ r.2.mem ((c.tc : Thread Cert.KeyValueGradIdeal.nD Cert.KeyValueGradIdeal.τ).loc Cert.KeyValueGradIdeal.main_arg3) = m ((c.tc : Thread Cert.KeyValueGradIdeal.nD Cert.KeyValueGradIdeal.τ).loc Cert.KeyValueGradIdeal.main_arg3)
      ∧ r.2.mem ((c.tc : Thread Cert.KeyValueGradIdeal.nD Cert.KeyValueGradIdeal.τ).loc Cert.KeyValueGradIdeal.main_arg4) = m ((c.tc : Thread Cert.KeyValueGradIdeal.nD Cert.KeyValueGradIdeal.τ).loc Cert.KeyValueGradIdeal.main_arg4)
      ∧ r.2.mem ((c.tc : Thread Cert.KeyValueGradIdeal.nD Cert.KeyValueGradIdeal.τ).loc Cert.KeyValueGradIdeal.main_arg5) = m ((c.tc : Thread Cert.KeyValueGradIdeal.nD Cert.KeyValueGradIdeal.τ).loc Cert.KeyValueGradIdeal.main_arg5))
      ∧ r.2.sem = fun _ => 0)

def quiescent_KeyValuesGradIdeal [hKeyValuesGradIdeal : Cert.KeyValuesGradIdeal.Facts] : Prop :=
  ∀ (m : (ℓ : Loc Cert.KeyValuesGradIdeal.nD Cert.KeyValuesGradIdeal.τ Cert.KeyValuesGradIdeal.sig) → Buf (Elt Ideal) ℓ) (g : Dev Cert.KeyValuesGradIdeal.nD → PrngReg), Pre_KeyValuesGradIdeal m →
    θ_run (Cert.KeyValuesGradIdeal.defs (F := Ideal)) (onTc (τ := Cert.KeyValuesGradIdeal.τ) (Cert.KeyValuesGradIdeal.main (F := Ideal))) ⟨m, fun _ => 0, g⟩ (fun r => (∀ c : Dev Cert.KeyValuesGradIdeal.nD,
      r.2.mem ((c.tc : Thread Cert.KeyValuesGradIdeal.nD Cert.KeyValuesGradIdeal.τ).loc Cert.KeyValuesGradIdeal.main_arg0) = m ((c.tc : Thread Cert.KeyValuesGradIdeal.nD Cert.KeyValuesGradIdeal.τ).loc Cert.KeyValuesGradIdeal.main_arg0)
      ∧ r.2.mem ((c.tc : Thread Cert.KeyValuesGradIdeal.nD Cert.KeyValuesGradIdeal.τ).loc Cert.KeyValuesGradIdeal.main_arg1) = m ((c.tc : Thread Cert.KeyValuesGradIdeal.nD Cert.KeyValuesGradIdeal.τ).loc Cert.KeyValuesGradIdeal.main_arg1)
      ∧ r.2.mem ((c.tc : Thread Cert.KeyValuesGradIdeal.nD Cert.KeyValuesGradIdeal.τ).loc Cert.KeyValuesGradIdeal.main_arg2) = m ((c.tc : Thread Cert.KeyValuesGradIdeal.nD Cert.KeyValuesGradIdeal.τ).loc Cert.KeyValuesGradIdeal.main_arg2)
      ∧ r.2.mem ((c.tc : Thread Cert.KeyValuesGradIdeal.nD Cert.KeyValuesGradIdeal.τ).loc Cert.KeyValuesGradIdeal.main_arg3) = m ((c.tc : Thread Cert.KeyValuesGradIdeal.nD Cert.KeyValuesGradIdeal.τ).loc Cert.KeyValuesGradIdeal.main_arg3)
      ∧ r.2.mem ((c.tc : Thread Cert.KeyValuesGradIdeal.nD Cert.KeyValuesGradIdeal.τ).loc Cert.KeyValuesGradIdeal.main_arg4) = m ((c.tc : Thread Cert.KeyValuesGradIdeal.nD Cert.KeyValuesGradIdeal.τ).loc Cert.KeyValuesGradIdeal.main_arg4)
      ∧ r.2.mem ((c.tc : Thread Cert.KeyValuesGradIdeal.nD Cert.KeyValuesGradIdeal.τ).loc Cert.KeyValuesGradIdeal.main_arg5) = m ((c.tc : Thread Cert.KeyValuesGradIdeal.nD Cert.KeyValuesGradIdeal.τ).loc Cert.KeyValuesGradIdeal.main_arg5))
      ∧ r.2.sem = fun _ => 0)

def quiescent_ForgetSums [hForgetSums : Cert.ForgetSums.Facts] : Prop :=
  ∀ (m : (ℓ : Loc Cert.ForgetSums.nD Cert.ForgetSums.τ Cert.ForgetSums.sig) → Buf (Elt Bits) ℓ) (g : Dev Cert.ForgetSums.nD → PrngReg), Pre_ForgetSums m →
    θ_run (Cert.ForgetSums.defs (F := Bits)) (onTc (τ := Cert.ForgetSums.τ) (Cert.ForgetSums.main (F := Bits))) ⟨m, fun _ => 0, g⟩ (fun r => (∀ c : Dev Cert.ForgetSums.nD,
      r.2.mem ((c.tc : Thread Cert.ForgetSums.nD Cert.ForgetSums.τ).loc Cert.ForgetSums.main_arg0) = m ((c.tc : Thread Cert.ForgetSums.nD Cert.ForgetSums.τ).loc Cert.ForgetSums.main_arg0)
      ∧ r.2.mem ((c.tc : Thread Cert.ForgetSums.nD Cert.ForgetSums.τ).loc Cert.ForgetSums.main_arg1) = m ((c.tc : Thread Cert.ForgetSums.nD Cert.ForgetSums.τ).loc Cert.ForgetSums.main_arg1))
      ∧ r.2.sem = fun _ => 0)

def quiescent_ForgetSumsIdeal [hForgetSumsIdeal : Cert.ForgetSumsIdeal.Facts] : Prop :=
  ∀ (m : (ℓ : Loc Cert.ForgetSumsIdeal.nD Cert.ForgetSumsIdeal.τ Cert.ForgetSumsIdeal.sig) → Buf (Elt Ideal) ℓ) (g : Dev Cert.ForgetSumsIdeal.nD → PrngReg), Pre_ForgetSumsIdeal m →
    θ_run (Cert.ForgetSumsIdeal.defs (F := Ideal)) (onTc (τ := Cert.ForgetSumsIdeal.τ) (Cert.ForgetSumsIdeal.main (F := Ideal))) ⟨m, fun _ => 0, g⟩ (fun r => (∀ c : Dev Cert.ForgetSumsIdeal.nD,
      r.2.mem ((c.tc : Thread Cert.ForgetSumsIdeal.nD Cert.ForgetSumsIdeal.τ).loc Cert.ForgetSumsIdeal.main_arg0) = m ((c.tc : Thread Cert.ForgetSumsIdeal.nD Cert.ForgetSumsIdeal.τ).loc Cert.ForgetSumsIdeal.main_arg0)
      ∧ r.2.mem ((c.tc : Thread Cert.ForgetSumsIdeal.nD Cert.ForgetSumsIdeal.τ).loc Cert.ForgetSumsIdeal.main_arg1) = m ((c.tc : Thread Cert.ForgetSumsIdeal.nD Cert.ForgetSumsIdeal.τ).loc Cert.ForgetSumsIdeal.main_arg1))
      ∧ r.2.sem = fun _ => 0)

def quiescent_LogSumsIdeal [hLogSumsIdeal : Cert.LogSumsIdeal.Facts] : Prop :=
  ∀ (m : (ℓ : Loc Cert.LogSumsIdeal.nD Cert.LogSumsIdeal.τ Cert.LogSumsIdeal.sig) → Buf (Elt Ideal) ℓ) (g : Dev Cert.LogSumsIdeal.nD → PrngReg), Pre_LogSumsIdeal m →
    θ_run (Cert.LogSumsIdeal.defs (F := Ideal)) (onTc (τ := Cert.LogSumsIdeal.τ) (Cert.LogSumsIdeal.main (F := Ideal))) ⟨m, fun _ => 0, g⟩ (fun r => (∀ c : Dev Cert.LogSumsIdeal.nD,
      r.2.mem ((c.tc : Thread Cert.LogSumsIdeal.nD Cert.LogSumsIdeal.τ).loc Cert.LogSumsIdeal.main_arg0) = m ((c.tc : Thread Cert.LogSumsIdeal.nD Cert.LogSumsIdeal.τ).loc Cert.LogSumsIdeal.main_arg0)
      ∧ r.2.mem ((c.tc : Thread Cert.LogSumsIdeal.nD Cert.LogSumsIdeal.τ).loc Cert.LogSumsIdeal.main_arg1) = m ((c.tc : Thread Cert.LogSumsIdeal.nD Cert.LogSumsIdeal.τ).loc Cert.LogSumsIdeal.main_arg1))
      ∧ r.2.sem = fun _ => 0)

def quiescent_ForgetGrad [hForgetGrad : Cert.ForgetGrad.Facts] : Prop :=
  ∀ (m : (ℓ : Loc Cert.ForgetGrad.nD Cert.ForgetGrad.τ Cert.ForgetGrad.sig) → Buf (Elt Bits) ℓ) (g : Dev Cert.ForgetGrad.nD → PrngReg), Pre_ForgetGrad m →
    θ_run (Cert.ForgetGrad.defs (F := Bits)) (onTc (τ := Cert.ForgetGrad.τ) (Cert.ForgetGrad.main (F := Bits))) ⟨m, fun _ => 0, g⟩ (fun r => (∀ c : Dev Cert.ForgetGrad.nD,
      r.2.mem ((c.tc : Thread Cert.ForgetGrad.nD Cert.ForgetGrad.τ).loc Cert.ForgetGrad.main_arg0) = m ((c.tc : Thread Cert.ForgetGrad.nD Cert.ForgetGrad.τ).loc Cert.ForgetGrad.main_arg0)
      ∧ r.2.mem ((c.tc : Thread Cert.ForgetGrad.nD Cert.ForgetGrad.τ).loc Cert.ForgetGrad.main_arg1) = m ((c.tc : Thread Cert.ForgetGrad.nD Cert.ForgetGrad.τ).loc Cert.ForgetGrad.main_arg1)
      ∧ r.2.mem ((c.tc : Thread Cert.ForgetGrad.nD Cert.ForgetGrad.τ).loc Cert.ForgetGrad.main_arg2) = m ((c.tc : Thread Cert.ForgetGrad.nD Cert.ForgetGrad.τ).loc Cert.ForgetGrad.main_arg2))
      ∧ r.2.sem = fun _ => 0)

def quiescent_ForgetGradIdeal [hForgetGradIdeal : Cert.ForgetGradIdeal.Facts] : Prop :=
  ∀ (m : (ℓ : Loc Cert.ForgetGradIdeal.nD Cert.ForgetGradIdeal.τ Cert.ForgetGradIdeal.sig) → Buf (Elt Ideal) ℓ) (g : Dev Cert.ForgetGradIdeal.nD → PrngReg), Pre_ForgetGradIdeal m →
    θ_run (Cert.ForgetGradIdeal.defs (F := Ideal)) (onTc (τ := Cert.ForgetGradIdeal.τ) (Cert.ForgetGradIdeal.main (F := Ideal))) ⟨m, fun _ => 0, g⟩ (fun r => (∀ c : Dev Cert.ForgetGradIdeal.nD,
      r.2.mem ((c.tc : Thread Cert.ForgetGradIdeal.nD Cert.ForgetGradIdeal.τ).loc Cert.ForgetGradIdeal.main_arg0) = m ((c.tc : Thread Cert.ForgetGradIdeal.nD Cert.ForgetGradIdeal.τ).loc Cert.ForgetGradIdeal.main_arg0)
      ∧ r.2.mem ((c.tc : Thread Cert.ForgetGradIdeal.nD Cert.ForgetGradIdeal.τ).loc Cert.ForgetGradIdeal.main_arg1) = m ((c.tc : Thread Cert.ForgetGradIdeal.nD Cert.ForgetGradIdeal.τ).loc Cert.ForgetGradIdeal.main_arg1)
      ∧ r.2.mem ((c.tc : Thread Cert.ForgetGradIdeal.nD Cert.ForgetGradIdeal.τ).loc Cert.ForgetGradIdeal.main_arg2) = m ((c.tc : Thread Cert.ForgetGradIdeal.nD Cert.ForgetGradIdeal.τ).loc Cert.ForgetGradIdeal.main_arg2))
      ∧ r.2.sem = fun _ => 0)

def quiescent_LogSumsGradIdeal [hLogSumsGradIdeal : Cert.LogSumsGradIdeal.Facts] : Prop :=
  ∀ (m : (ℓ : Loc Cert.LogSumsGradIdeal.nD Cert.LogSumsGradIdeal.τ Cert.LogSumsGradIdeal.sig) → Buf (Elt Ideal) ℓ) (g : Dev Cert.LogSumsGradIdeal.nD → PrngReg), Pre_LogSumsGradIdeal m →
    θ_run (Cert.LogSumsGradIdeal.defs (F := Ideal)) (onTc (τ := Cert.LogSumsGradIdeal.τ) (Cert.LogSumsGradIdeal.main (F := Ideal))) ⟨m, fun _ => 0, g⟩ (fun r => (∀ c : Dev Cert.LogSumsGradIdeal.nD,
      r.2.mem ((c.tc : Thread Cert.LogSumsGradIdeal.nD Cert.LogSumsGradIdeal.τ).loc Cert.LogSumsGradIdeal.main_arg0) = m ((c.tc : Thread Cert.LogSumsGradIdeal.nD Cert.LogSumsGradIdeal.τ).loc Cert.LogSumsGradIdeal.main_arg0)
      ∧ r.2.mem ((c.tc : Thread Cert.LogSumsGradIdeal.nD Cert.LogSumsGradIdeal.τ).loc Cert.LogSumsGradIdeal.main_arg1) = m ((c.tc : Thread Cert.LogSumsGradIdeal.nD Cert.LogSumsGradIdeal.τ).loc Cert.LogSumsGradIdeal.main_arg1)
      ∧ r.2.mem ((c.tc : Thread Cert.LogSumsGradIdeal.nD Cert.LogSumsGradIdeal.τ).loc Cert.LogSumsGradIdeal.main_arg2) = m ((c.tc : Thread Cert.LogSumsGradIdeal.nD Cert.LogSumsGradIdeal.τ).loc Cert.LogSumsGradIdeal.main_arg2))
      ∧ r.2.sem = fun _ => 0)

def preserves_Kernel_KernelIdeal : Prop :=
  IdealRules.named_const.Statement Cert.KernelIdeal.κ "inv_bias1" .f32 0x3FC48605#32 ((8388608 / 5463681 : ℝ) : EReal)
  ∧ IdealRules.named_const.Statement Cert.KernelIdeal.κ "inv_bias2" .f32 0x42C8E6D3#32 ((268435456 / 2672307 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 3072, 1024]⟩ ⟨3, ![64, 3072, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![3072, 1024]⟩ ⟨2, ![24576, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![3072, 1024]⟩ ⟨2, ![24576, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![3072, 1024]⟩ ⟨2, ![24576, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v26)) (v2 : Buf (Elt Ideal) (((0 : Dev Cert.ReferenceIdeal.nD).tc : Thread Cert.ReferenceIdeal.nD Cert.ReferenceIdeal.τ).loc Cert.ReferenceIdeal.main_v7)) (v3 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = Layout.block ⟨2, ![3072, 1024]⟩ ⟨2, ![24576, 1024]⟩ 0 8 c v0
          ∧ r.2.mem ((c.tc : Thread Cert.KernelIdeal.nD Cert.KernelIdeal.τ).loc Cert.KernelIdeal.main_v2_1) = Layout.block ⟨2, ![3072, 1024]⟩ ⟨2, ![24576, 1024]⟩ 0 8 c v1
          ∧ r.2.mem ((c.tc : Thread Cert.KernelIdeal.nD Cert.KernelIdeal.τ).loc Cert.KernelIdeal.main_v2_2) = Layout.block ⟨2, ![3072, 1024]⟩ ⟨2, ![24576, 1024]⟩ 0 8 c v2
          ∧ r.2.mem ((c.tc : Thread Cert.KernelIdeal.nD Cert.KernelIdeal.τ).loc Cert.KernelIdeal.main_v2_3) = Layout.block ⟨2, ![3072, 1024]⟩ ⟨2, ![24576, 1024]⟩ 0 8 c v3
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v26) = v1
          ∧ r.2.mem (((0 : Dev Cert.ReferenceIdeal.nD).tc : Thread Cert.ReferenceIdeal.nD Cert.ReferenceIdeal.τ).loc Cert.ReferenceIdeal.main_v7) = v2
          ∧ r.2.mem (((0 : Dev Cert.ReferenceIdeal.nD).tc : Thread Cert.ReferenceIdeal.nD Cert.ReferenceIdeal.τ).loc Cert.ReferenceIdeal.main_v13) = v3
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_GatherWeights_GatherWeightsIdeal : Prop :=
  True

def algebraic_GatherWeightsIdeal_GatheredIdeal [hGatherWeightsIdeal : Cert.GatherWeightsIdeal.Facts] [hGatheredIdeal : Cert.GatheredIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg)
    (m' : (ℓ : Loc Cert.GatheredIdeal.nD Cert.GatheredIdeal.τ Cert.GatheredIdeal.sig) → Buf (Elt Ideal) ℓ) (g' : Dev Cert.GatheredIdeal.nD → PrngReg), Pre_GatherWeightsIdeal m →
    (∀ c : Dev Cert.GatherWeightsIdeal.nD,
      m ((c.tc : Thread Cert.GatherWeightsIdeal.nD Cert.GatherWeightsIdeal.τ).loc Cert.GatherWeightsIdeal.main_arg0) = Layout.block ⟨2, ![3072, 1024]⟩ ⟨2, ![24576, 1024]⟩ 0 8 c (m' (((0 : Dev Cert.GatheredIdeal.nD).tc : Thread Cert.GatheredIdeal.nD Cert.GatheredIdeal.τ).loc Cert.GatheredIdeal.main_arg0))) →
    ∃ (v0 : Buf (Elt Ideal) (((0 : Dev Cert.GatheredIdeal.nD).tc : Thread Cert.GatheredIdeal.nD Cert.GatheredIdeal.τ).loc Cert.GatheredIdeal.main_v0)),
      θ_run (Cert.GatherWeightsIdeal.defs (F := Ideal)) (onTc (τ := Cert.GatherWeightsIdeal.τ) (Cert.GatherWeightsIdeal.main (F := Ideal))) ⟨m, fun _ => 0, g⟩ (fun r => ∀ c : Dev Cert.GatherWeightsIdeal.nD,
          r.2.mem ((c.tc : Thread Cert.GatherWeightsIdeal.nD Cert.GatherWeightsIdeal.τ).loc Cert.GatherWeightsIdeal.main_v1) = v0
          ∧ r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0))
      ∧ θ_run (Cert.GatheredIdeal.defs (F := Ideal)) (onTc (τ := Cert.GatheredIdeal.τ) (Cert.GatheredIdeal.main (F := Ideal))) ⟨m', fun _ => 0, g'⟩ (fun r =>
          r.2.mem (((0 : Dev Cert.GatheredIdeal.nD).tc : Thread Cert.GatheredIdeal.nD Cert.GatheredIdeal.τ).loc Cert.GatheredIdeal.main_v0) = v0
          ∧ r.2.mem (((0 : Dev Cert.GatheredIdeal.nD).tc : Thread Cert.GatheredIdeal.nD Cert.GatheredIdeal.τ).loc Cert.GatheredIdeal.main_arg0) = m' (((0 : Dev Cert.GatheredIdeal.nD).tc : Thread Cert.GatheredIdeal.nD Cert.GatheredIdeal.τ).loc Cert.GatheredIdeal.main_arg0))

def bitexact_GatherWeights_Gathered [hGatherWeights : Cert.GatherWeights.Facts] [hGathered : Cert.Gathered.Facts] : Prop :=
  ∀ (m : (ℓ : Loc Cert.GatherWeights.nD Cert.GatherWeights.τ Cert.GatherWeights.sig) → Buf (Elt Bits) ℓ) (g : Dev Cert.GatherWeights.nD → PrngReg)
    (m' : (ℓ : Loc Cert.Gathered.nD Cert.Gathered.τ Cert.Gathered.sig) → Buf (Elt Bits) ℓ) (g' : Dev Cert.Gathered.nD → PrngReg), Pre_GatherWeights m →
    (∀ c : Dev Cert.GatherWeights.nD,
      m ((c.tc : Thread Cert.GatherWeights.nD Cert.GatherWeights.τ).loc Cert.GatherWeights.main_arg0) = Layout.block ⟨2, ![3072, 1024]⟩ ⟨2, ![24576, 1024]⟩ 0 8 c (m' (((0 : Dev Cert.Gathered.nD).tc : Thread Cert.Gathered.nD Cert.Gathered.τ).loc Cert.Gathered.main_arg0))) →
    ∃ (v0 : Buf (Elt Bits) (((0 : Dev Cert.Gathered.nD).tc : Thread Cert.Gathered.nD Cert.Gathered.τ).loc Cert.Gathered.main_v0)),
      θ_run (Cert.GatherWeights.defs (F := Bits)) (onTc (τ := Cert.GatherWeights.τ) (Cert.GatherWeights.main (F := Bits))) ⟨m, fun _ => 0, g⟩ (fun r => ∀ c : Dev Cert.GatherWeights.nD,
          r.2.mem ((c.tc : Thread Cert.GatherWeights.nD Cert.GatherWeights.τ).loc Cert.GatherWeights.main_v1) = v0
          ∧ r.2.mem ((c.tc : Thread Cert.GatherWeights.nD Cert.GatherWeights.τ).loc Cert.GatherWeights.main_arg0) = m ((c.tc : Thread Cert.GatherWeights.nD Cert.GatherWeights.τ).loc Cert.GatherWeights.main_arg0))
      ∧ θ_run (Cert.Gathered.defs (F := Bits)) (onTc (τ := Cert.Gathered.τ) (Cert.Gathered.main (F := Bits))) ⟨m', fun _ => 0, g'⟩ (fun r =>
          r.2.mem (((0 : Dev Cert.Gathered.nD).tc : Thread Cert.Gathered.nD Cert.Gathered.τ).loc Cert.Gathered.main_v0) = v0
          ∧ r.2.mem (((0 : Dev Cert.Gathered.nD).tc : Thread Cert.Gathered.nD Cert.Gathered.τ).loc Cert.Gathered.main_arg0) = m' (((0 : Dev Cert.Gathered.nD).tc : Thread Cert.Gathered.nD Cert.Gathered.τ).loc Cert.Gathered.main_arg0))

def preserves_UpdateRest_UpdateRestIdeal : Prop :=
  IdealRules.named_const.Statement Cert.UpdateRestIdeal.κ "inv_bias1" .f32 0x3FC48605#32 ((8388608 / 5463681 : ℝ) : EReal)
  ∧ IdealRules.named_const.Statement Cert.UpdateRestIdeal.κ "inv_bias2" .f32 0x42C8E6D3#32 ((268435456 / 2672307 : ℝ) : EReal)

def algebraic_UpdateRestIdeal_UpdatedIdeal [hUpdateRestIdeal : Cert.UpdateRestIdeal.Facts] [hUpdatedIdeal : Cert.UpdatedIdeal.Facts] : Prop :=
  ∀ (m : (ℓ : Loc Cert.UpdateRestIdeal.nD Cert.UpdateRestIdeal.τ Cert.UpdateRestIdeal.sig) → Buf (Elt Ideal) ℓ) (g : Dev Cert.UpdateRestIdeal.nD → PrngReg)
    (m' : (ℓ : Loc Cert.UpdatedIdeal.nD Cert.UpdatedIdeal.τ Cert.UpdatedIdeal.sig) → Buf (Elt Ideal) ℓ) (g' : Dev Cert.UpdatedIdeal.nD → PrngReg), Pre_UpdateRestIdeal m →
    (∀ c : Dev Cert.UpdateRestIdeal.nD,
      m' ((c.tc : Thread Cert.UpdatedIdeal.nD Cert.UpdatedIdeal.τ).loc Cert.UpdatedIdeal.main_arg0) = m ((c.tc : Thread Cert.UpdateRestIdeal.nD Cert.UpdateRestIdeal.τ).loc Cert.UpdateRestIdeal.main_arg0)
      ∧ m' ((c.tc : Thread Cert.UpdatedIdeal.nD Cert.UpdatedIdeal.τ).loc Cert.UpdatedIdeal.main_arg1) = m ((c.tc : Thread Cert.UpdateRestIdeal.nD Cert.UpdateRestIdeal.τ).loc Cert.UpdateRestIdeal.main_arg1)
      ∧ m' ((c.tc : Thread Cert.UpdatedIdeal.nD Cert.UpdatedIdeal.τ).loc Cert.UpdatedIdeal.main_arg2) = m ((c.tc : Thread Cert.UpdateRestIdeal.nD Cert.UpdateRestIdeal.τ).loc Cert.UpdateRestIdeal.main_arg2)
      ∧ m' ((c.tc : Thread Cert.UpdatedIdeal.nD Cert.UpdatedIdeal.τ).loc Cert.UpdatedIdeal.main_arg3) = m ((c.tc : Thread Cert.UpdateRestIdeal.nD Cert.UpdateRestIdeal.τ).loc Cert.UpdateRestIdeal.main_arg3)) →
    ∃ (v0 : (c : Dev Cert.UpdateRestIdeal.nD) → Buf (Elt Ideal) ((c.tc : Thread Cert.UpdateRestIdeal.nD Cert.UpdateRestIdeal.τ).loc Cert.UpdateRestIdeal.main_v1_0)) (v1 : (c : Dev Cert.UpdateRestIdeal.nD) → Buf (Elt Ideal) ((c.tc : Thread Cert.UpdateRestIdeal.nD Cert.UpdateRestIdeal.τ).loc Cert.UpdateRestIdeal.main_v1_1)) (v2 : (c : Dev Cert.UpdateRestIdeal.nD) → Buf (Elt Ideal) ((c.tc : Thread Cert.UpdateRestIdeal.nD Cert.UpdateRestIdeal.τ).loc Cert.UpdateRestIdeal.main_v1_2)) (v3 : (c : Dev Cert.UpdateRestIdeal.nD) → Buf (Elt Ideal) ((c.tc : Thread Cert.UpdateRestIdeal.nD Cert.UpdateRestIdeal.τ).loc Cert.UpdateRestIdeal.main_v1_3)),
      θ_run (Cert.UpdateRestIdeal.defs (F := Ideal)) (onTc (τ := Cert.UpdateRestIdeal.τ) (Cert.UpdateRestIdeal.main (F := Ideal))) ⟨m, fun _ => 0, g⟩ (fun r => ∀ c : Dev Cert.UpdateRestIdeal.nD,
          r.2.mem ((c.tc : Thread Cert.UpdateRestIdeal.nD Cert.UpdateRestIdeal.τ).loc Cert.UpdateRestIdeal.main_v1_0) = v0 c
          ∧ r.2.mem ((c.tc : Thread Cert.UpdateRestIdeal.nD Cert.UpdateRestIdeal.τ).loc Cert.UpdateRestIdeal.main_v1_1) = v1 c
          ∧ r.2.mem ((c.tc : Thread Cert.UpdateRestIdeal.nD Cert.UpdateRestIdeal.τ).loc Cert.UpdateRestIdeal.main_v1_2) = v2 c
          ∧ r.2.mem ((c.tc : Thread Cert.UpdateRestIdeal.nD Cert.UpdateRestIdeal.τ).loc Cert.UpdateRestIdeal.main_v1_3) = v3 c
          ∧ r.2.mem ((c.tc : Thread Cert.UpdateRestIdeal.nD Cert.UpdateRestIdeal.τ).loc Cert.UpdateRestIdeal.main_arg0) = m ((c.tc : Thread Cert.UpdateRestIdeal.nD Cert.UpdateRestIdeal.τ).loc Cert.UpdateRestIdeal.main_arg0)
          ∧ r.2.mem ((c.tc : Thread Cert.UpdateRestIdeal.nD Cert.UpdateRestIdeal.τ).loc Cert.UpdateRestIdeal.main_arg1) = m ((c.tc : Thread Cert.UpdateRestIdeal.nD Cert.UpdateRestIdeal.τ).loc Cert.UpdateRestIdeal.main_arg1)
          ∧ r.2.mem ((c.tc : Thread Cert.UpdateRestIdeal.nD Cert.UpdateRestIdeal.τ).loc Cert.UpdateRestIdeal.main_arg2) = m ((c.tc : Thread Cert.UpdateRestIdeal.nD Cert.UpdateRestIdeal.τ).loc Cert.UpdateRestIdeal.main_arg2)
          ∧ r.2.mem ((c.tc : Thread Cert.UpdateRestIdeal.nD Cert.UpdateRestIdeal.τ).loc Cert.UpdateRestIdeal.main_arg3) = m ((c.tc : Thread Cert.UpdateRestIdeal.nD Cert.UpdateRestIdeal.τ).loc Cert.UpdateRestIdeal.main_arg3))
      ∧ θ_run (Cert.UpdatedIdeal.defs (F := Ideal)) (onTc (τ := Cert.UpdatedIdeal.τ) (Cert.UpdatedIdeal.main (F := Ideal))) ⟨m', fun _ => 0, g'⟩ (fun r => ∀ c : Dev Cert.UpdatedIdeal.nD,
          r.2.mem ((c.tc : Thread Cert.UpdatedIdeal.nD Cert.UpdatedIdeal.τ).loc Cert.UpdatedIdeal.main_arg0) = v0 c
          ∧ r.2.mem ((c.tc : Thread Cert.UpdatedIdeal.nD Cert.UpdatedIdeal.τ).loc Cert.UpdatedIdeal.main_v23) = v1 c
          ∧ r.2.mem ((c.tc : Thread Cert.UpdatedIdeal.nD Cert.UpdatedIdeal.τ).loc Cert.UpdatedIdeal.main_v4) = v2 c
          ∧ r.2.mem ((c.tc : Thread Cert.UpdatedIdeal.nD Cert.UpdatedIdeal.τ).loc Cert.UpdatedIdeal.main_v10) = v3 c
          ∧ r.2.mem ((c.tc : Thread Cert.UpdatedIdeal.nD Cert.UpdatedIdeal.τ).loc Cert.UpdatedIdeal.main_arg0) = m' ((c.tc : Thread Cert.UpdatedIdeal.nD Cert.UpdatedIdeal.τ).loc Cert.UpdatedIdeal.main_arg0)
          ∧ r.2.mem ((c.tc : Thread Cert.UpdatedIdeal.nD Cert.UpdatedIdeal.τ).loc Cert.UpdatedIdeal.main_arg1) = m' ((c.tc : Thread Cert.UpdatedIdeal.nD Cert.UpdatedIdeal.τ).loc Cert.UpdatedIdeal.main_arg1)
          ∧ r.2.mem ((c.tc : Thread Cert.UpdatedIdeal.nD Cert.UpdatedIdeal.τ).loc Cert.UpdatedIdeal.main_arg2) = m' ((c.tc : Thread Cert.UpdatedIdeal.nD Cert.UpdatedIdeal.τ).loc Cert.UpdatedIdeal.main_arg2)
          ∧ r.2.mem ((c.tc : Thread Cert.UpdatedIdeal.nD Cert.UpdatedIdeal.τ).loc Cert.UpdatedIdeal.main_arg3) = m' ((c.tc : Thread Cert.UpdatedIdeal.nD Cert.UpdatedIdeal.τ).loc Cert.UpdatedIdeal.main_arg3))

def preserves_SumPartials_SumPartialsIdeal : Prop :=
  True

def algebraic_SumPartialsIdeal_SummedIdeal [hSumPartialsIdeal : Cert.SumPartialsIdeal.Facts] [hSummedIdeal : Cert.SummedIdeal.Facts] : Prop :=
  ∀ (m : (ℓ : Loc Cert.SumPartialsIdeal.nD Cert.SumPartialsIdeal.τ Cert.SumPartialsIdeal.sig) → Buf (Elt Ideal) ℓ) (g : Dev Cert.SumPartialsIdeal.nD → PrngReg)
    (m' : (ℓ : Loc Cert.SummedIdeal.nD Cert.SummedIdeal.τ Cert.SummedIdeal.sig) → Buf (Elt Ideal) ℓ) (g' : Dev Cert.SummedIdeal.nD → PrngReg), Pre_SumPartialsIdeal m →
    (∀ c : Dev Cert.SumPartialsIdeal.nD,
      m ((c.tc : Thread Cert.SumPartialsIdeal.nD Cert.SumPartialsIdeal.τ).loc Cert.SumPartialsIdeal.main_arg0) = Layout.block ⟨2, ![464, 128]⟩ ⟨2, ![3712, 128]⟩ 0 8 c (m' (((0 : Dev Cert.SummedIdeal.nD).tc : Thread Cert.SummedIdeal.nD Cert.SummedIdeal.τ).loc Cert.SummedIdeal.main_arg0))) →
    ∃ (v0 : Buf (Elt Ideal) (((0 : Dev Cert.SummedIdeal.nD).tc : Thread Cert.SummedIdeal.nD Cert.SummedIdeal.τ).loc Cert.SummedIdeal.main_v0)) (v1 : Buf (Elt Ideal) (((0 : Dev Cert.SummedIdeal.nD).tc : Thread Cert.SummedIdeal.nD Cert.SummedIdeal.τ).loc Cert.SummedIdeal.main_v1)),
      θ_run (Cert.SumPartialsIdeal.defs (F := Ideal)) (onTc (τ := Cert.SumPartialsIdeal.τ) (Cert.SumPartialsIdeal.main (F := Ideal))) ⟨m, fun _ => 0, g⟩ (fun r => ∀ c : Dev Cert.SumPartialsIdeal.nD,
          r.2.mem ((c.tc : Thread Cert.SumPartialsIdeal.nD Cert.SumPartialsIdeal.τ).loc Cert.SumPartialsIdeal.main_v1) = v0
          ∧ r.2.mem ((c.tc : Thread Cert.SumPartialsIdeal.nD Cert.SumPartialsIdeal.τ).loc Cert.SumPartialsIdeal.main_v2) = v1
          ∧ r.2.mem ((c.tc : Thread Cert.SumPartialsIdeal.nD Cert.SumPartialsIdeal.τ).loc Cert.SumPartialsIdeal.main_arg0) = m ((c.tc : Thread Cert.SumPartialsIdeal.nD Cert.SumPartialsIdeal.τ).loc Cert.SumPartialsIdeal.main_arg0))
      ∧ θ_run (Cert.SummedIdeal.defs (F := Ideal)) (onTc (τ := Cert.SummedIdeal.τ) (Cert.SummedIdeal.main (F := Ideal))) ⟨m', fun _ => 0, g'⟩ (fun r =>
          r.2.mem (((0 : Dev Cert.SummedIdeal.nD).tc : Thread Cert.SummedIdeal.nD Cert.SummedIdeal.τ).loc Cert.SummedIdeal.main_v0) = v0
          ∧ r.2.mem (((0 : Dev Cert.SummedIdeal.nD).tc : Thread Cert.SummedIdeal.nD Cert.SummedIdeal.τ).loc Cert.SummedIdeal.main_v1) = v1
          ∧ r.2.mem (((0 : Dev Cert.SummedIdeal.nD).tc : Thread Cert.SummedIdeal.nD Cert.SummedIdeal.τ).loc Cert.SummedIdeal.main_arg0) = m' (((0 : Dev Cert.SummedIdeal.nD).tc : Thread Cert.SummedIdeal.nD Cert.SummedIdeal.τ).loc Cert.SummedIdeal.main_arg0))

def preserves_GatherSmall_GatherSmallIdeal : Prop :=
  True

def algebraic_GatherSmallIdeal_SmallBlocksIdeal [hGatherSmallIdeal : Cert.GatherSmallIdeal.Facts] [hSmallBlocksIdeal : Cert.SmallBlocksIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.SmallBlocksIdeal.nD Cert.SmallBlocksIdeal.τ Cert.SmallBlocksIdeal.sig) → Buf (Elt Ideal) ℓ) (g' : Dev Cert.SmallBlocksIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨2, ![48, 128]⟩ ⟨2, ![384, 128]⟩ 0 8 c (m' (((0 : Dev Cert.SmallBlocksIdeal.nD).tc : Thread Cert.SmallBlocksIdeal.nD Cert.SmallBlocksIdeal.τ).loc Cert.SmallBlocksIdeal.main_arg0))) →
    ∃ (v0 : Buf (Elt Ideal) (((0 : Dev Cert.SmallBlocksIdeal.nD).tc : Thread Cert.SmallBlocksIdeal.nD Cert.SmallBlocksIdeal.τ).loc Cert.SmallBlocksIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.SmallBlocksIdeal.defs (F := Ideal)) (onTc (τ := Cert.SmallBlocksIdeal.τ) (Cert.SmallBlocksIdeal.main (F := Ideal))) ⟨m', fun _ => 0, g'⟩ (fun r =>
          r.2.mem (((0 : Dev Cert.SmallBlocksIdeal.nD).tc : Thread Cert.SmallBlocksIdeal.nD Cert.SmallBlocksIdeal.τ).loc Cert.SmallBlocksIdeal.main_v0) = v0
          ∧ r.2.mem (((0 : Dev Cert.SmallBlocksIdeal.nD).tc : Thread Cert.SmallBlocksIdeal.nD Cert.SmallBlocksIdeal.τ).loc Cert.SmallBlocksIdeal.main_arg0) = m' (((0 : Dev Cert.SmallBlocksIdeal.nD).tc : Thread Cert.SmallBlocksIdeal.nD Cert.SmallBlocksIdeal.τ).loc Cert.SmallBlocksIdeal.main_arg0))

def bitexact_GatherSmall_SmallBlocks [hGatherSmall : Cert.GatherSmall.Facts] [hSmallBlocks : Cert.SmallBlocks.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.SmallBlocks.nD Cert.SmallBlocks.τ Cert.SmallBlocks.sig) → Buf (Elt Bits) ℓ) (g' : Dev Cert.SmallBlocks.nD → PrngReg), Pre_GatherSmall m →
    (∀ c : Dev Cert.GatherSmall.nD,
      m ((c.tc : Thread Cert.GatherSmall.nD Cert.GatherSmall.τ).loc Cert.GatherSmall.main_arg0) = Layout.block ⟨2, ![48, 128]⟩ ⟨2, ![384, 128]⟩ 0 8 c (m' (((0 : Dev Cert.SmallBlocks.nD).tc : Thread Cert.SmallBlocks.nD Cert.SmallBlocks.τ).loc Cert.SmallBlocks.main_arg0))) →
    ∃ (v0 : Buf (Elt Bits) (((0 : Dev Cert.SmallBlocks.nD).tc : Thread Cert.SmallBlocks.nD Cert.SmallBlocks.τ).loc Cert.SmallBlocks.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.SmallBlocks.defs (F := Bits)) (onTc (τ := Cert.SmallBlocks.τ) (Cert.SmallBlocks.main (F := Bits))) ⟨m', fun _ => 0, g'⟩ (fun r =>
          r.2.mem (((0 : Dev Cert.SmallBlocks.nD).tc : Thread Cert.SmallBlocks.nD Cert.SmallBlocks.τ).loc Cert.SmallBlocks.main_v0) = v0
          ∧ r.2.mem (((0 : Dev Cert.SmallBlocks.nD).tc : Thread Cert.SmallBlocks.nD Cert.SmallBlocks.τ).loc Cert.SmallBlocks.main_arg0) = m' (((0 : Dev Cert.SmallBlocks.nD).tc : Thread Cert.SmallBlocks.nD Cert.SmallBlocks.τ).loc Cert.SmallBlocks.main_arg0))

def preserves_GatherAda_GatherAdaIdeal : Prop :=
  True

def algebraic_GatherAdaIdeal_AdaBlocksIdeal [hGatherAdaIdeal : Cert.GatherAdaIdeal.Facts] [hAdaBlocksIdeal : Cert.AdaBlocksIdeal.Facts] : Prop :=
  ∀ (m : (ℓ : Loc Cert.GatherAdaIdeal.nD Cert.GatherAdaIdeal.τ Cert.GatherAdaIdeal.sig) → Buf (Elt Ideal) ℓ) (g : Dev Cert.GatherAdaIdeal.nD → PrngReg)
    (m' : (ℓ : Loc Cert.AdaBlocksIdeal.nD Cert.AdaBlocksIdeal.τ Cert.AdaBlocksIdeal.sig) → Buf (Elt Ideal) ℓ) (g' : Dev Cert.AdaBlocksIdeal.nD → PrngReg), Pre_GatherAdaIdeal m →
    (∀ c : Dev Cert.GatherAdaIdeal.nD,
      m ((c.tc : Thread Cert.GatherAdaIdeal.nD Cert.GatherAdaIdeal.τ).loc Cert.GatherAdaIdeal.main_arg0) = Layout.block ⟨2, ![8, 1792]⟩ ⟨2, ![64, 1792]⟩ 0 8 c (m' (((0 : Dev Cert.AdaBlocksIdeal.nD).tc : Thread Cert.AdaBlocksIdeal.nD Cert.AdaBlocksIdeal.τ).loc Cert.AdaBlocksIdeal.main_arg0))) →
    ∃ (v0 : Buf (Elt Ideal) (((0 : Dev Cert.AdaBlocksIdeal.nD).tc : Thread Cert.AdaBlocksIdeal.nD Cert.AdaBlocksIdeal.τ).loc Cert.AdaBlocksIdeal.main_v0)),
      θ_run (Cert.GatherAdaIdeal.defs (F := Ideal)) (onTc (τ := Cert.GatherAdaIdeal.τ) (Cert.GatherAdaIdeal.main (F := Ideal))) ⟨m, fun _ => 0, g⟩ (fun r => ∀ c : Dev Cert.GatherAdaIdeal.nD,
          r.2.mem ((c.tc : Thread Cert.GatherAdaIdeal.nD Cert.GatherAdaIdeal.τ).loc Cert.GatherAdaIdeal.main_v1) = v0
          ∧ r.2.mem ((c.tc : Thread Cert.GatherAdaIdeal.nD Cert.GatherAdaIdeal.τ).loc Cert.GatherAdaIdeal.main_arg0) = m ((c.tc : Thread Cert.GatherAdaIdeal.nD Cert.GatherAdaIdeal.τ).loc Cert.GatherAdaIdeal.main_arg0))
      ∧ θ_run (Cert.AdaBlocksIdeal.defs (F := Ideal)) (onTc (τ := Cert.AdaBlocksIdeal.τ) (Cert.AdaBlocksIdeal.main (F := Ideal))) ⟨m', fun _ => 0, g'⟩ (fun r =>
          r.2.mem (((0 : Dev Cert.AdaBlocksIdeal.nD).tc : Thread Cert.AdaBlocksIdeal.nD Cert.AdaBlocksIdeal.τ).loc Cert.AdaBlocksIdeal.main_v0) = v0
          ∧ r.2.mem (((0 : Dev Cert.AdaBlocksIdeal.nD).tc : Thread Cert.AdaBlocksIdeal.nD Cert.AdaBlocksIdeal.τ).loc Cert.AdaBlocksIdeal.main_arg0) = m' (((0 : Dev Cert.AdaBlocksIdeal.nD).tc : Thread Cert.AdaBlocksIdeal.nD Cert.AdaBlocksIdeal.τ).loc Cert.AdaBlocksIdeal.main_arg0))

def bitexact_GatherAda_AdaBlocks [hGatherAda : Cert.GatherAda.Facts] [hAdaBlocks : Cert.AdaBlocks.Facts] : Prop :=
  ∀ (m : (ℓ : Loc Cert.GatherAda.nD Cert.GatherAda.τ Cert.GatherAda.sig) → Buf (Elt Bits) ℓ) (g : Dev Cert.GatherAda.nD → PrngReg)
    (m' : (ℓ : Loc Cert.AdaBlocks.nD Cert.AdaBlocks.τ Cert.AdaBlocks.sig) → Buf (Elt Bits) ℓ) (g' : Dev Cert.AdaBlocks.nD → PrngReg), Pre_GatherAda m →
    (∀ c : Dev Cert.GatherAda.nD,
      m ((c.tc : Thread Cert.GatherAda.nD Cert.GatherAda.τ).loc Cert.GatherAda.main_arg0) = Layout.block ⟨2, ![8, 1792]⟩ ⟨2, ![64, 1792]⟩ 0 8 c (m' (((0 : Dev Cert.AdaBlocks.nD).tc : Thread Cert.AdaBlocks.nD Cert.AdaBlocks.τ).loc Cert.AdaBlocks.main_arg0))) →
    ∃ (v0 : Buf (Elt Bits) (((0 : Dev Cert.AdaBlocks.nD).tc : Thread Cert.AdaBlocks.nD Cert.AdaBlocks.τ).loc Cert.AdaBlocks.main_v0)),
      θ_run (Cert.GatherAda.defs (F := Bits)) (onTc (τ := Cert.GatherAda.τ) (Cert.GatherAda.main (F := Bits))) ⟨m, fun _ => 0, g⟩ (fun r => ∀ c : Dev Cert.GatherAda.nD,
          r.2.mem ((c.tc : Thread Cert.GatherAda.nD Cert.GatherAda.τ).loc Cert.GatherAda.main_v1) = v0
          ∧ r.2.mem ((c.tc : Thread Cert.GatherAda.nD Cert.GatherAda.τ).loc Cert.GatherAda.main_arg0) = m ((c.tc : Thread Cert.GatherAda.nD Cert.GatherAda.τ).loc Cert.GatherAda.main_arg0))
      ∧ θ_run (Cert.AdaBlocks.defs (F := Bits)) (onTc (τ := Cert.AdaBlocks.τ) (Cert.AdaBlocks.main (F := Bits))) ⟨m', fun _ => 0, g'⟩ (fun r =>
          r.2.mem (((0 : Dev Cert.AdaBlocks.nD).tc : Thread Cert.AdaBlocks.nD Cert.AdaBlocks.τ).loc Cert.AdaBlocks.main_v0) = v0
          ∧ r.2.mem (((0 : Dev Cert.AdaBlocks.nD).tc : Thread Cert.AdaBlocks.nD Cert.AdaBlocks.τ).loc Cert.AdaBlocks.main_arg0) = m' (((0 : Dev Cert.AdaBlocks.nD).tc : Thread Cert.AdaBlocks.nD Cert.AdaBlocks.τ).loc Cert.AdaBlocks.main_arg0))

def preserves_AdaGrad_AdaGradIdeal : Prop :=
  True

def algebraic_AdaGradIdeal_ConditionGradIdeal [hAdaGradIdeal : Cert.AdaGradIdeal.Facts] [hConditionGradIdeal : Cert.ConditionGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.ConditionGradIdeal.nD Cert.ConditionGradIdeal.τ Cert.ConditionGradIdeal.sig) → Buf (Elt Ideal) ℓ) (g' : Dev Cert.ConditionGradIdeal.nD → PrngReg), Pre_AdaGradIdeal m →
    (∀ c : Dev Cert.AdaGradIdeal.nD,
      m' ((c.tc : Thread Cert.ConditionGradIdeal.nD Cert.ConditionGradIdeal.τ).loc Cert.ConditionGradIdeal.main_arg0) = m ((c.tc : Thread Cert.AdaGradIdeal.nD Cert.AdaGradIdeal.τ).loc Cert.AdaGradIdeal.main_arg0)
      ∧ m' ((c.tc : Thread Cert.ConditionGradIdeal.nD Cert.ConditionGradIdeal.τ).loc Cert.ConditionGradIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v1)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v1) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.ConditionGradIdeal.defs (F := Ideal)) (onTc (τ := Cert.ConditionGradIdeal.τ) (Cert.ConditionGradIdeal.main (F := Ideal))) ⟨m', fun _ => 0, g'⟩ (fun r => ∀ c : Dev Cert.ConditionGradIdeal.nD,
          r.2.mem ((c.tc : Thread Cert.ConditionGradIdeal.nD Cert.ConditionGradIdeal.τ).loc Cert.ConditionGradIdeal.main_v2) = v0 c
          ∧ r.2.mem ((c.tc : Thread Cert.ConditionGradIdeal.nD Cert.ConditionGradIdeal.τ).loc Cert.ConditionGradIdeal.main_arg0) = m' ((c.tc : Thread Cert.ConditionGradIdeal.nD Cert.ConditionGradIdeal.τ).loc Cert.ConditionGradIdeal.main_arg0)
          ∧ r.2.mem ((c.tc : Thread Cert.ConditionGradIdeal.nD Cert.ConditionGradIdeal.τ).loc Cert.ConditionGradIdeal.main_arg1) = m' ((c.tc : Thread Cert.ConditionGradIdeal.nD Cert.ConditionGradIdeal.τ).loc Cert.ConditionGradIdeal.main_arg1))

def preserves_NormGrad_NormGradIdeal : Prop :=
  True

def algebraic_NormGradIdeal_InputGradIdeal [hNormGradIdeal : Cert.NormGradIdeal.Facts] [hInputGradIdeal : Cert.InputGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.InputGradIdeal.nD Cert.InputGradIdeal.τ Cert.InputGradIdeal.sig) → Buf (Elt Ideal) ℓ) (g' : Dev Cert.InputGradIdeal.nD → PrngReg), Pre_NormGradIdeal m →
    (∀ c : Dev Cert.NormGradIdeal.nD,
      m' ((c.tc : Thread Cert.InputGradIdeal.nD Cert.InputGradIdeal.τ).loc Cert.InputGradIdeal.main_arg0) = m ((c.tc : Thread Cert.NormGradIdeal.nD Cert.NormGradIdeal.τ).loc Cert.NormGradIdeal.main_arg0)
      ∧ m' ((c.tc : Thread Cert.InputGradIdeal.nD Cert.InputGradIdeal.τ).loc Cert.InputGradIdeal.main_arg1) = m ((c.tc : Thread Cert.NormGradIdeal.nD Cert.NormGradIdeal.τ).loc Cert.NormGradIdeal.main_arg1)
      ∧ m' ((c.tc : Thread Cert.InputGradIdeal.nD Cert.InputGradIdeal.τ).loc Cert.InputGradIdeal.main_arg2) = m ((c.tc : Thread Cert.NormGradIdeal.nD Cert.NormGradIdeal.τ).loc Cert.NormGradIdeal.main_arg2)
      ∧ m' ((c.tc : Thread Cert.InputGradIdeal.nD Cert.InputGradIdeal.τ).loc Cert.InputGradIdeal.main_arg3) = m ((c.tc : Thread Cert.NormGradIdeal.nD Cert.NormGradIdeal.τ).loc Cert.NormGradIdeal.main_arg3)
      ∧ m' ((c.tc : Thread Cert.InputGradIdeal.nD Cert.InputGradIdeal.τ).loc Cert.InputGradIdeal.main_arg4) = m ((c.tc : Thread Cert.NormGradIdeal.nD Cert.NormGradIdeal.τ).loc Cert.NormGradIdeal.main_arg4)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ θ_run (Cert.InputGradIdeal.defs (F := Ideal)) (onTc (τ := Cert.InputGradIdeal.τ) (Cert.InputGradIdeal.main (F := Ideal))) ⟨m', fun _ => 0, g'⟩ (fun r => ∀ c : Dev Cert.InputGradIdeal.nD,
          r.2.mem ((c.tc : Thread Cert.InputGradIdeal.nD Cert.InputGradIdeal.τ).loc Cert.InputGradIdeal.main_v52) = v0 c
          ∧ r.2.mem ((c.tc : Thread Cert.InputGradIdeal.nD Cert.InputGradIdeal.τ).loc Cert.InputGradIdeal.main_v55) = v1 c
          ∧ r.2.mem ((c.tc : Thread Cert.InputGradIdeal.nD Cert.InputGradIdeal.τ).loc Cert.InputGradIdeal.main_arg0) = m' ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m' ((c.tc : Thread Cert.InputGradIdeal.nD Cert.InputGradIdeal.τ).loc Cert.InputGradIdeal.main_arg1)
          ∧ r.2.mem ((c.tc : Thread Cert.InputGradIdeal.nD Cert.InputGradIdeal.τ).loc Cert.InputGradIdeal.main_arg2) = m' ((c.tc : Thread Cert.InputGradIdeal.nD Cert.InputGradIdeal.τ).loc Cert.InputGradIdeal.main_arg2)
          ∧ r.2.mem ((c.tc : Thread Cert.InputGradIdeal.nD Cert.InputGradIdeal.τ).loc Cert.InputGradIdeal.main_arg3) = m' ((c.tc : Thread Cert.InputGradIdeal.nD Cert.InputGradIdeal.τ).loc Cert.InputGradIdeal.main_arg3)
          ∧ r.2.mem ((c.tc : Thread Cert.InputGradIdeal.nD Cert.InputGradIdeal.τ).loc Cert.InputGradIdeal.main_arg4) = m' ((c.tc : Thread Cert.InputGradIdeal.nD Cert.InputGradIdeal.τ).loc Cert.InputGradIdeal.main_arg4))

def preserves_LossGrad_LossGradIdeal : Prop :=
  True

def algebraic_LossGradIdeal_LossDerivativeIdeal [hLossGradIdeal : Cert.LossGradIdeal.Facts] [hLossDerivativeIdeal : Cert.LossDerivativeIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossDerivativeIdeal.nD Cert.LossDerivativeIdeal.τ Cert.LossDerivativeIdeal.sig) → Buf (Elt Ideal) ℓ) (g' : Dev Cert.LossDerivativeIdeal.nD → PrngReg), Pre_LossGradIdeal m →
    (∀ c : Dev Cert.LossGradIdeal.nD,
      m' ((c.tc : Thread Cert.LossDerivativeIdeal.nD Cert.LossDerivativeIdeal.τ).loc Cert.LossDerivativeIdeal.main_arg0) = m ((c.tc : Thread Cert.LossGradIdeal.nD Cert.LossGradIdeal.τ).loc Cert.LossGradIdeal.main_arg0)
      ∧ m' ((c.tc : Thread Cert.LossDerivativeIdeal.nD Cert.LossDerivativeIdeal.τ).loc Cert.LossDerivativeIdeal.main_arg1) = m ((c.tc : Thread Cert.LossGradIdeal.nD Cert.LossGradIdeal.τ).loc Cert.LossGradIdeal.main_arg1)
      ∧ m' ((c.tc : Thread Cert.LossDerivativeIdeal.nD Cert.LossDerivativeIdeal.τ).loc Cert.LossDerivativeIdeal.main_arg2) = m ((c.tc : Thread Cert.LossGradIdeal.nD Cert.LossGradIdeal.τ).loc Cert.LossGradIdeal.main_arg2)) →
    ∃ (v0 : (c : Dev Cert.LossGradIdeal.nD) → Buf (Elt Ideal) ((c.tc : Thread Cert.LossGradIdeal.nD Cert.LossGradIdeal.τ).loc Cert.LossGradIdeal.main_v0_0)) (v1 : (c : Dev Cert.LossGradIdeal.nD) → Buf (Elt Ideal) ((c.tc : Thread Cert.LossGradIdeal.nD Cert.LossGradIdeal.τ).loc Cert.LossGradIdeal.main_v0_1)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v0_0) = v0 c
          ∧ r.2.mem ((c.tc : Thread Cert.LossGradIdeal.nD Cert.LossGradIdeal.τ).loc Cert.LossGradIdeal.main_v0_1) = v1 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2))
      ∧ θ_run (Cert.LossDerivativeIdeal.defs (F := Ideal)) (onTc (τ := Cert.LossDerivativeIdeal.τ) (Cert.LossDerivativeIdeal.main (F := Ideal))) ⟨m', fun _ => 0, g'⟩ (fun r => ∀ c : Dev Cert.LossDerivativeIdeal.nD,
          r.2.mem ((c.tc : Thread Cert.LossDerivativeIdeal.nD Cert.LossDerivativeIdeal.τ).loc Cert.LossDerivativeIdeal.main_v51) = v0 c
          ∧ r.2.mem ((c.tc : Thread Cert.LossDerivativeIdeal.nD Cert.LossDerivativeIdeal.τ).loc Cert.LossDerivativeIdeal.main_v55) = v1 c
          ∧ r.2.mem ((c.tc : Thread Cert.LossDerivativeIdeal.nD Cert.LossDerivativeIdeal.τ).loc Cert.LossDerivativeIdeal.main_arg0) = m' ((c.tc : Thread Cert.LossDerivativeIdeal.nD Cert.LossDerivativeIdeal.τ).loc Cert.LossDerivativeIdeal.main_arg0)
          ∧ r.2.mem ((c.tc : Thread Cert.LossDerivativeIdeal.nD Cert.LossDerivativeIdeal.τ).loc Cert.LossDerivativeIdeal.main_arg1) = m' ((c.tc : Thread Cert.LossDerivativeIdeal.nD Cert.LossDerivativeIdeal.τ).loc Cert.LossDerivativeIdeal.main_arg1)
          ∧ r.2.mem ((c.tc : Thread Cert.LossDerivativeIdeal.nD Cert.LossDerivativeIdeal.τ).loc Cert.LossDerivativeIdeal.main_arg2) = m' ((c.tc : Thread Cert.LossDerivativeIdeal.nD Cert.LossDerivativeIdeal.τ).loc Cert.LossDerivativeIdeal.main_arg2))

def preserves_Ffn_FfnIdeal : Prop :=
  True

def algebraic_FfnIdeal_MixedIdeal [hFfnIdeal : Cert.FfnIdeal.Facts] [hMixedIdeal : Cert.MixedIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.MixedIdeal.nD Cert.MixedIdeal.τ Cert.MixedIdeal.sig) → Buf (Elt Ideal) ℓ) (g' : Dev Cert.MixedIdeal.nD → PrngReg), Pre_FfnIdeal m →
    (∀ c : Dev Cert.FfnIdeal.nD,
      m' ((c.tc : Thread Cert.MixedIdeal.nD Cert.MixedIdeal.τ).loc Cert.MixedIdeal.main_arg0) = m ((c.tc : Thread Cert.FfnIdeal.nD Cert.FfnIdeal.τ).loc Cert.FfnIdeal.main_arg0)
      ∧ m' ((c.tc : Thread Cert.MixedIdeal.nD Cert.MixedIdeal.τ).loc Cert.MixedIdeal.main_arg1) = m ((c.tc : Thread Cert.FfnIdeal.nD Cert.FfnIdeal.τ).loc Cert.FfnIdeal.main_arg1)
      ∧ m' ((c.tc : Thread Cert.MixedIdeal.nD Cert.MixedIdeal.τ).loc Cert.MixedIdeal.main_arg2) = m ((c.tc : Thread Cert.FfnIdeal.nD Cert.FfnIdeal.τ).loc Cert.FfnIdeal.main_arg2)
      ∧ m' ((c.tc : Thread Cert.MixedIdeal.nD Cert.MixedIdeal.τ).loc Cert.MixedIdeal.main_arg3) = m ((c.tc : Thread Cert.FfnIdeal.nD Cert.FfnIdeal.τ).loc Cert.FfnIdeal.main_arg3)
      ∧ m' ((c.tc : Thread Cert.MixedIdeal.nD Cert.MixedIdeal.τ).loc Cert.MixedIdeal.main_arg4) = m ((c.tc : Thread Cert.FfnIdeal.nD Cert.FfnIdeal.τ).loc Cert.FfnIdeal.main_arg4)
      ∧ m' ((c.tc : Thread Cert.MixedIdeal.nD Cert.MixedIdeal.τ).loc Cert.MixedIdeal.main_arg5) = m ((c.tc : Thread Cert.FfnIdeal.nD Cert.FfnIdeal.τ).loc Cert.FfnIdeal.main_arg5)
      ∧ m' ((c.tc : Thread Cert.MixedIdeal.nD Cert.MixedIdeal.τ).loc Cert.MixedIdeal.main_arg6) = m ((c.tc : Thread Cert.FfnIdeal.nD Cert.FfnIdeal.τ).loc Cert.FfnIdeal.main_arg6)
      ∧ m' ((c.tc : Thread Cert.MixedIdeal.nD Cert.MixedIdeal.τ).loc Cert.MixedIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v5_0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.MixedIdeal.defs (F := Ideal)) (onTc (τ := Cert.MixedIdeal.τ) (Cert.MixedIdeal.main (F := Ideal))) ⟨m', fun _ => 0, g'⟩ (fun r => ∀ c : Dev Cert.MixedIdeal.nD,
          r.2.mem ((c.tc : Thread Cert.MixedIdeal.nD Cert.MixedIdeal.τ).loc Cert.MixedIdeal.main_v30) = v0 c
          ∧ r.2.mem ((c.tc : Thread Cert.MixedIdeal.nD Cert.MixedIdeal.τ).loc Cert.MixedIdeal.main_arg0) = m' ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m' ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m' ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m' ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m' ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m' ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m' ((c.tc : Thread Cert.MixedIdeal.nD Cert.MixedIdeal.τ).loc Cert.MixedIdeal.main_arg6)
          ∧ r.2.mem ((c.tc : Thread Cert.MixedIdeal.nD Cert.MixedIdeal.τ).loc Cert.MixedIdeal.main_arg7) = m' ((c.tc : Thread Cert.MixedIdeal.nD Cert.MixedIdeal.τ).loc Cert.MixedIdeal.main_arg7))

def preserves_ResidualGrad_ResidualGradIdeal : Prop :=
  True

def algebraic_ResidualGradIdeal_GatedGradIdeal [hResidualGradIdeal : Cert.ResidualGradIdeal.Facts] [hGatedGradIdeal : Cert.GatedGradIdeal.Facts] : Prop :=
  ∀ (m : (ℓ : Loc Cert.ResidualGradIdeal.nD Cert.ResidualGradIdeal.τ Cert.ResidualGradIdeal.sig) → Buf (Elt Ideal) ℓ) (g : Dev Cert.ResidualGradIdeal.nD → PrngReg)
    (m' : (ℓ : Loc Cert.GatedGradIdeal.nD Cert.GatedGradIdeal.τ Cert.GatedGradIdeal.sig) → Buf (Elt Ideal) ℓ) (g' : Dev Cert.GatedGradIdeal.nD → PrngReg), Pre_ResidualGradIdeal m →
    (∀ c : Dev Cert.ResidualGradIdeal.nD,
      m' ((c.tc : Thread Cert.GatedGradIdeal.nD Cert.GatedGradIdeal.τ).loc Cert.GatedGradIdeal.main_arg0) = m ((c.tc : Thread Cert.ResidualGradIdeal.nD Cert.ResidualGradIdeal.τ).loc Cert.ResidualGradIdeal.main_arg0)
      ∧ m' ((c.tc : Thread Cert.GatedGradIdeal.nD Cert.GatedGradIdeal.τ).loc Cert.GatedGradIdeal.main_arg1) = m ((c.tc : Thread Cert.ResidualGradIdeal.nD Cert.ResidualGradIdeal.τ).loc Cert.ResidualGradIdeal.main_arg1)
      ∧ m' ((c.tc : Thread Cert.GatedGradIdeal.nD Cert.GatedGradIdeal.τ).loc Cert.GatedGradIdeal.main_arg2) = m ((c.tc : Thread Cert.ResidualGradIdeal.nD Cert.ResidualGradIdeal.τ).loc Cert.ResidualGradIdeal.main_arg2)) →
    ∃ (v0 : (c : Dev Cert.ResidualGradIdeal.nD) → Buf (Elt Ideal) ((c.tc : Thread Cert.ResidualGradIdeal.nD Cert.ResidualGradIdeal.τ).loc Cert.ResidualGradIdeal.main_v0_0)) (v1 : (c : Dev Cert.ResidualGradIdeal.nD) → Buf (Elt Ideal) ((c.tc : Thread Cert.ResidualGradIdeal.nD Cert.ResidualGradIdeal.τ).loc Cert.ResidualGradIdeal.main_v0_1)),
      θ_run (Cert.ResidualGradIdeal.defs (F := Ideal)) (onTc (τ := Cert.ResidualGradIdeal.τ) (Cert.ResidualGradIdeal.main (F := Ideal))) ⟨m, fun _ => 0, g⟩ (fun r => ∀ c : Dev Cert.ResidualGradIdeal.nD,
          r.2.mem ((c.tc : Thread Cert.ResidualGradIdeal.nD Cert.ResidualGradIdeal.τ).loc Cert.ResidualGradIdeal.main_v0_0) = v0 c
          ∧ r.2.mem ((c.tc : Thread Cert.ResidualGradIdeal.nD Cert.ResidualGradIdeal.τ).loc Cert.ResidualGradIdeal.main_v0_1) = v1 c
          ∧ r.2.mem ((c.tc : Thread Cert.ResidualGradIdeal.nD Cert.ResidualGradIdeal.τ).loc Cert.ResidualGradIdeal.main_arg0) = m ((c.tc : Thread Cert.ResidualGradIdeal.nD Cert.ResidualGradIdeal.τ).loc Cert.ResidualGradIdeal.main_arg0)
          ∧ r.2.mem ((c.tc : Thread Cert.ResidualGradIdeal.nD Cert.ResidualGradIdeal.τ).loc Cert.ResidualGradIdeal.main_arg1) = m ((c.tc : Thread Cert.ResidualGradIdeal.nD Cert.ResidualGradIdeal.τ).loc Cert.ResidualGradIdeal.main_arg1)
          ∧ r.2.mem ((c.tc : Thread Cert.ResidualGradIdeal.nD Cert.ResidualGradIdeal.τ).loc Cert.ResidualGradIdeal.main_arg2) = m ((c.tc : Thread Cert.ResidualGradIdeal.nD Cert.ResidualGradIdeal.τ).loc Cert.ResidualGradIdeal.main_arg2))
      ∧ θ_run (Cert.GatedGradIdeal.defs (F := Ideal)) (onTc (τ := Cert.GatedGradIdeal.τ) (Cert.GatedGradIdeal.main (F := Ideal))) ⟨m', fun _ => 0, g'⟩ (fun r => ∀ c : Dev Cert.GatedGradIdeal.nD,
          r.2.mem ((c.tc : Thread Cert.GatedGradIdeal.nD Cert.GatedGradIdeal.τ).loc Cert.GatedGradIdeal.main_v15) = v0 c
          ∧ r.2.mem ((c.tc : Thread Cert.GatedGradIdeal.nD Cert.GatedGradIdeal.τ).loc Cert.GatedGradIdeal.main_v18) = v1 c
          ∧ r.2.mem ((c.tc : Thread Cert.GatedGradIdeal.nD Cert.GatedGradIdeal.τ).loc Cert.GatedGradIdeal.main_arg0) = m' ((c.tc : Thread Cert.GatedGradIdeal.nD Cert.GatedGradIdeal.τ).loc Cert.GatedGradIdeal.main_arg0)
          ∧ r.2.mem ((c.tc : Thread Cert.GatedGradIdeal.nD Cert.GatedGradIdeal.τ).loc Cert.GatedGradIdeal.main_arg1) = m' ((c.tc : Thread Cert.GatedGradIdeal.nD Cert.GatedGradIdeal.τ).loc Cert.GatedGradIdeal.main_arg1)
          ∧ r.2.mem ((c.tc : Thread Cert.GatedGradIdeal.nD Cert.GatedGradIdeal.τ).loc Cert.GatedGradIdeal.main_arg2) = m' ((c.tc : Thread Cert.GatedGradIdeal.nD Cert.GatedGradIdeal.τ).loc Cert.GatedGradIdeal.main_arg2))

def preserves_ActGrad_ActGradIdeal : Prop :=
  True

def algebraic_ActGradIdeal_SwigluGradIdeal [hActGradIdeal : Cert.ActGradIdeal.Facts] [hSwigluGradIdeal : Cert.SwigluGradIdeal.Facts] : Prop :=
  ∀ (m : (ℓ : Loc Cert.ActGradIdeal.nD Cert.ActGradIdeal.τ Cert.ActGradIdeal.sig) → Buf (Elt Ideal) ℓ) (g : Dev Cert.ActGradIdeal.nD → PrngReg)
    (m' : (ℓ : Loc Cert.SwigluGradIdeal.nD Cert.SwigluGradIdeal.τ Cert.SwigluGradIdeal.sig) → Buf (Elt Ideal) ℓ) (g' : Dev Cert.SwigluGradIdeal.nD → PrngReg), Pre_ActGradIdeal m →
    (∀ c : Dev Cert.ActGradIdeal.nD,
      m' ((c.tc : Thread Cert.SwigluGradIdeal.nD Cert.SwigluGradIdeal.τ).loc Cert.SwigluGradIdeal.main_arg0) = m ((c.tc : Thread Cert.ActGradIdeal.nD Cert.ActGradIdeal.τ).loc Cert.ActGradIdeal.main_arg0)
      ∧ m' ((c.tc : Thread Cert.SwigluGradIdeal.nD Cert.SwigluGradIdeal.τ).loc Cert.SwigluGradIdeal.main_arg1) = m ((c.tc : Thread Cert.ActGradIdeal.nD Cert.ActGradIdeal.τ).loc Cert.ActGradIdeal.main_arg1)
      ∧ m' ((c.tc : Thread Cert.SwigluGradIdeal.nD Cert.SwigluGradIdeal.τ).loc Cert.SwigluGradIdeal.main_arg2) = m ((c.tc : Thread Cert.ActGradIdeal.nD Cert.ActGradIdeal.τ).loc Cert.ActGradIdeal.main_arg2)
      ∧ m' ((c.tc : Thread Cert.SwigluGradIdeal.nD Cert.SwigluGradIdeal.τ).loc Cert.SwigluGradIdeal.main_arg3) = m ((c.tc : Thread Cert.ActGradIdeal.nD Cert.ActGradIdeal.τ).loc Cert.ActGradIdeal.main_arg3)) →
    ∃ (v0 : (c : Dev Cert.ActGradIdeal.nD) → Buf (Elt Ideal) ((c.tc : Thread Cert.ActGradIdeal.nD Cert.ActGradIdeal.τ).loc Cert.ActGradIdeal.main_v0_0)) (v1 : (c : Dev Cert.ActGradIdeal.nD) → Buf (Elt Ideal) ((c.tc : Thread Cert.ActGradIdeal.nD Cert.ActGradIdeal.τ).loc Cert.ActGradIdeal.main_v0_1)),
      θ_run (Cert.ActGradIdeal.defs (F := Ideal)) (onTc (τ := Cert.ActGradIdeal.τ) (Cert.ActGradIdeal.main (F := Ideal))) ⟨m, fun _ => 0, g⟩ (fun r => ∀ c : Dev Cert.ActGradIdeal.nD,
          r.2.mem ((c.tc : Thread Cert.ActGradIdeal.nD Cert.ActGradIdeal.τ).loc Cert.ActGradIdeal.main_v0_0) = v0 c
          ∧ r.2.mem ((c.tc : Thread Cert.ActGradIdeal.nD Cert.ActGradIdeal.τ).loc Cert.ActGradIdeal.main_v0_1) = v1 c
          ∧ r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
          ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
          ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
          ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ θ_run (Cert.SwigluGradIdeal.defs (F := Ideal)) (onTc (τ := Cert.SwigluGradIdeal.τ) (Cert.SwigluGradIdeal.main (F := Ideal))) ⟨m', fun _ => 0, g'⟩ (fun r => ∀ c : Dev Cert.SwigluGradIdeal.nD,
          r.2.mem ((c.tc : Thread Cert.SwigluGradIdeal.nD Cert.SwigluGradIdeal.τ).loc Cert.SwigluGradIdeal.main_v9) = v0 c
          ∧ r.2.mem ((c.tc : Thread Cert.SwigluGradIdeal.nD Cert.SwigluGradIdeal.τ).loc Cert.SwigluGradIdeal.main_v11) = v1 c
          ∧ r.2.mem ((c.tc : Thread Cert.SwigluGradIdeal.nD Cert.SwigluGradIdeal.τ).loc Cert.SwigluGradIdeal.main_arg0) = m' ((c.tc : Thread Cert.SwigluGradIdeal.nD Cert.SwigluGradIdeal.τ).loc Cert.SwigluGradIdeal.main_arg0)
          ∧ r.2.mem ((c.tc : Thread Cert.SwigluGradIdeal.nD Cert.SwigluGradIdeal.τ).loc Cert.SwigluGradIdeal.main_arg1) = m' ((c.tc : Thread Cert.SwigluGradIdeal.nD Cert.SwigluGradIdeal.τ).loc Cert.SwigluGradIdeal.main_arg1)
          ∧ r.2.mem ((c.tc : Thread Cert.SwigluGradIdeal.nD Cert.SwigluGradIdeal.τ).loc Cert.SwigluGradIdeal.main_arg2) = m' ((c.tc : Thread Cert.SwigluGradIdeal.nD Cert.SwigluGradIdeal.τ).loc Cert.SwigluGradIdeal.main_arg2)
          ∧ r.2.mem ((c.tc : Thread Cert.SwigluGradIdeal.nD Cert.SwigluGradIdeal.τ).loc Cert.SwigluGradIdeal.main_arg3) = m' ((c.tc : Thread Cert.SwigluGradIdeal.nD Cert.SwigluGradIdeal.τ).loc Cert.SwigluGradIdeal.main_arg3))

def preserves_HiddenGrad_HiddenGradIdeal : Prop :=
  True

def algebraic_HiddenGradIdeal_ProductsGradIdeal [hHiddenGradIdeal : Cert.HiddenGradIdeal.Facts] [hProductsGradIdeal : Cert.ProductsGradIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg)
    (m' : (ℓ : Loc Cert.ProductsGradIdeal.nD Cert.ProductsGradIdeal.τ Cert.ProductsGradIdeal.sig) → Buf (Elt Ideal) ℓ) (g' : Dev Cert.ProductsGradIdeal.nD → PrngReg), Pre_HiddenGradIdeal m →
    (∀ c : Dev Cert.HiddenGradIdeal.nD,
      m' ((c.tc : Thread Cert.ProductsGradIdeal.nD Cert.ProductsGradIdeal.τ).loc Cert.ProductsGradIdeal.main_arg0) = m ((c.tc : Thread Cert.HiddenGradIdeal.nD Cert.HiddenGradIdeal.τ).loc Cert.HiddenGradIdeal.main_arg0)
      ∧ m' ((c.tc : Thread Cert.ProductsGradIdeal.nD Cert.ProductsGradIdeal.τ).loc Cert.ProductsGradIdeal.main_arg1) = m ((c.tc : Thread Cert.HiddenGradIdeal.nD Cert.HiddenGradIdeal.τ).loc Cert.HiddenGradIdeal.main_arg1)
      ∧ m' ((c.tc : Thread Cert.ProductsGradIdeal.nD Cert.ProductsGradIdeal.τ).loc Cert.ProductsGradIdeal.main_arg2) = m ((c.tc : Thread Cert.HiddenGradIdeal.nD Cert.HiddenGradIdeal.τ).loc Cert.HiddenGradIdeal.main_arg2)
      ∧ m' ((c.tc : Thread Cert.ProductsGradIdeal.nD Cert.ProductsGradIdeal.τ).loc Cert.ProductsGradIdeal.main_arg3) = m ((c.tc : Thread Cert.HiddenGradIdeal.nD Cert.HiddenGradIdeal.τ).loc Cert.HiddenGradIdeal.main_arg3)) →
    ∃ (v0 : (c : Dev Cert.HiddenGradIdeal.nD) → Buf (Elt Ideal) ((c.tc : Thread Cert.HiddenGradIdeal.nD Cert.HiddenGradIdeal.τ).loc Cert.HiddenGradIdeal.main_v0)),
      θ_run (Cert.HiddenGradIdeal.defs (F := Ideal)) (onTc (τ := Cert.HiddenGradIdeal.τ) (Cert.HiddenGradIdeal.main (F := Ideal))) ⟨m, fun _ => 0, g⟩ (fun r => ∀ c : Dev Cert.HiddenGradIdeal.nD,
          r.2.mem ((c.tc : Thread Cert.HiddenGradIdeal.nD Cert.HiddenGradIdeal.τ).loc Cert.HiddenGradIdeal.main_v0) = v0 c
          ∧ r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
          ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1)
          ∧ r.2.mem ((c.tc : Thread Cert.HiddenGradIdeal.nD Cert.HiddenGradIdeal.τ).loc Cert.HiddenGradIdeal.main_arg2) = m ((c.tc : Thread Cert.HiddenGradIdeal.nD Cert.HiddenGradIdeal.τ).loc Cert.HiddenGradIdeal.main_arg2)
          ∧ r.2.mem ((c.tc : Thread Cert.HiddenGradIdeal.nD Cert.HiddenGradIdeal.τ).loc Cert.HiddenGradIdeal.main_arg3) = m ((c.tc : Thread Cert.HiddenGradIdeal.nD Cert.HiddenGradIdeal.τ).loc Cert.HiddenGradIdeal.main_arg3))
      ∧ θ_run (Cert.ProductsGradIdeal.defs (F := Ideal)) (onTc (τ := Cert.ProductsGradIdeal.τ) (Cert.ProductsGradIdeal.main (F := Ideal))) ⟨m', fun _ => 0, g'⟩ (fun r => ∀ c : Dev Cert.ProductsGradIdeal.nD,
          r.2.mem ((c.tc : Thread Cert.ProductsGradIdeal.nD Cert.ProductsGradIdeal.τ).loc Cert.ProductsGradIdeal.main_v9) = v0 c
          ∧ r.2.mem ((c.tc : Thread Cert.ProductsGradIdeal.nD Cert.ProductsGradIdeal.τ).loc Cert.ProductsGradIdeal.main_arg0) = m' ((c.tc : Thread Cert.ProductsGradIdeal.nD Cert.ProductsGradIdeal.τ).loc Cert.ProductsGradIdeal.main_arg0)
          ∧ r.2.mem ((c.tc : Thread Cert.ProductsGradIdeal.nD Cert.ProductsGradIdeal.τ).loc Cert.ProductsGradIdeal.main_arg1) = m' ((c.tc : Thread Cert.ProductsGradIdeal.nD Cert.ProductsGradIdeal.τ).loc Cert.ProductsGradIdeal.main_arg1)
          ∧ r.2.mem ((c.tc : Thread Cert.ProductsGradIdeal.nD Cert.ProductsGradIdeal.τ).loc Cert.ProductsGradIdeal.main_arg2) = m' ((c.tc : Thread Cert.ProductsGradIdeal.nD Cert.ProductsGradIdeal.τ).loc Cert.ProductsGradIdeal.main_arg2)
          ∧ r.2.mem ((c.tc : Thread Cert.ProductsGradIdeal.nD Cert.ProductsGradIdeal.τ).loc Cert.ProductsGradIdeal.main_arg3) = m' ((c.tc : Thread Cert.ProductsGradIdeal.nD Cert.ProductsGradIdeal.τ).loc Cert.ProductsGradIdeal.main_arg3))

def preserves_WeightGrad_WeightGradIdeal : Prop :=
  True

def algebraic_WeightGradIdeal_ProductGradIdeal [hWeightGradIdeal : Cert.WeightGradIdeal.Facts] [hProductGradIdeal : Cert.ProductGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.ProductGradIdeal.nD Cert.ProductGradIdeal.τ Cert.ProductGradIdeal.sig) → Buf (Elt Ideal) ℓ) (g' : Dev Cert.ProductGradIdeal.nD → PrngReg), Pre_WeightGradIdeal m →
    (∀ c : Dev Cert.WeightGradIdeal.nD,
      m' ((c.tc : Thread Cert.ProductGradIdeal.nD Cert.ProductGradIdeal.τ).loc Cert.ProductGradIdeal.main_arg0) = m ((c.tc : Thread Cert.WeightGradIdeal.nD Cert.WeightGradIdeal.τ).loc Cert.WeightGradIdeal.main_arg0)
      ∧ m' ((c.tc : Thread Cert.ProductGradIdeal.nD Cert.ProductGradIdeal.τ).loc Cert.ProductGradIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v0)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v0) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.ProductGradIdeal.defs (F := Ideal)) (onTc (τ := Cert.ProductGradIdeal.τ) (Cert.ProductGradIdeal.main (F := Ideal))) ⟨m', fun _ => 0, g'⟩ (fun r => ∀ c : Dev Cert.ProductGradIdeal.nD,
          r.2.mem ((c.tc : Thread Cert.ProductGradIdeal.nD Cert.ProductGradIdeal.τ).loc Cert.ProductGradIdeal.main_v5) = v0 c
          ∧ r.2.mem ((c.tc : Thread Cert.ProductGradIdeal.nD Cert.ProductGradIdeal.τ).loc Cert.ProductGradIdeal.main_arg0) = m' ((c.tc : Thread Cert.ProductGradIdeal.nD Cert.ProductGradIdeal.τ).loc Cert.ProductGradIdeal.main_arg0)
          ∧ r.2.mem ((c.tc : Thread Cert.ProductGradIdeal.nD Cert.ProductGradIdeal.τ).loc Cert.ProductGradIdeal.main_arg1) = m' ((c.tc : Thread Cert.ProductGradIdeal.nD Cert.ProductGradIdeal.τ).loc Cert.ProductGradIdeal.main_arg1))

def preserves_OutGrad_OutGradIdeal : Prop :=
  True

def algebraic_OutGradIdeal_OutProductGradIdeal [hOutGradIdeal : Cert.OutGradIdeal.Facts] [hOutProductGradIdeal : Cert.OutProductGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutProductGradIdeal.nD Cert.OutProductGradIdeal.τ Cert.OutProductGradIdeal.sig) → Buf (Elt Ideal) ℓ) (g' : Dev Cert.OutProductGradIdeal.nD → PrngReg), Pre_OutGradIdeal m →
    (∀ c : Dev Cert.OutGradIdeal.nD,
      m' ((c.tc : Thread Cert.OutProductGradIdeal.nD Cert.OutProductGradIdeal.τ).loc Cert.OutProductGradIdeal.main_arg0) = m ((c.tc : Thread Cert.OutGradIdeal.nD Cert.OutGradIdeal.τ).loc Cert.OutGradIdeal.main_arg0)
      ∧ m' ((c.tc : Thread Cert.OutProductGradIdeal.nD Cert.OutProductGradIdeal.τ).loc Cert.OutProductGradIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutProductGradIdeal.defs (F := Ideal)) (onTc (τ := Cert.OutProductGradIdeal.τ) (Cert.OutProductGradIdeal.main (F := Ideal))) ⟨m', fun _ => 0, g'⟩ (fun r => ∀ c : Dev Cert.OutProductGradIdeal.nD,
          r.2.mem ((c.tc : Thread Cert.OutProductGradIdeal.nD Cert.OutProductGradIdeal.τ).loc Cert.OutProductGradIdeal.main_v5) = v0 c
          ∧ r.2.mem ((c.tc : Thread Cert.OutProductGradIdeal.nD Cert.OutProductGradIdeal.τ).loc Cert.OutProductGradIdeal.main_arg0) = m' ((c.tc : Thread Cert.OutProductGradIdeal.nD Cert.OutProductGradIdeal.τ).loc Cert.OutProductGradIdeal.main_arg0)
          ∧ r.2.mem ((c.tc : Thread Cert.OutProductGradIdeal.nD Cert.OutProductGradIdeal.τ).loc Cert.OutProductGradIdeal.main_arg1) = m' ((c.tc : Thread Cert.OutProductGradIdeal.nD Cert.OutProductGradIdeal.τ).loc Cert.OutProductGradIdeal.main_arg1))

def preserves_SquareGrad_SquareGradIdeal : Prop :=
  True

def algebraic_SquareGradIdeal_SquareProductGradIdeal [hSquareGradIdeal : Cert.SquareGradIdeal.Facts] [hSquareProductGradIdeal : Cert.SquareProductGradIdeal.Facts] : Prop :=
  ∀ (m : (ℓ : Loc Cert.SquareGradIdeal.nD Cert.SquareGradIdeal.τ Cert.SquareGradIdeal.sig) → Buf (Elt Ideal) ℓ) (g : Dev Cert.SquareGradIdeal.nD → PrngReg)
    (m' : (ℓ : Loc Cert.SquareProductGradIdeal.nD Cert.SquareProductGradIdeal.τ Cert.SquareProductGradIdeal.sig) → Buf (Elt Ideal) ℓ) (g' : Dev Cert.SquareProductGradIdeal.nD → PrngReg), Pre_SquareGradIdeal m →
    (∀ c : Dev Cert.SquareGradIdeal.nD,
      m' ((c.tc : Thread Cert.SquareProductGradIdeal.nD Cert.SquareProductGradIdeal.τ).loc Cert.SquareProductGradIdeal.main_arg0) = m ((c.tc : Thread Cert.SquareGradIdeal.nD Cert.SquareGradIdeal.τ).loc Cert.SquareGradIdeal.main_arg0)
      ∧ m' ((c.tc : Thread Cert.SquareProductGradIdeal.nD Cert.SquareProductGradIdeal.τ).loc Cert.SquareProductGradIdeal.main_arg1) = m ((c.tc : Thread Cert.SquareGradIdeal.nD Cert.SquareGradIdeal.τ).loc Cert.SquareGradIdeal.main_arg1)) →
    ∃ (v0 : (c : Dev Cert.SquareGradIdeal.nD) → Buf (Elt Ideal) ((c.tc : Thread Cert.SquareGradIdeal.nD Cert.SquareGradIdeal.τ).loc Cert.SquareGradIdeal.main_v0)),
      θ_run (Cert.SquareGradIdeal.defs (F := Ideal)) (onTc (τ := Cert.SquareGradIdeal.τ) (Cert.SquareGradIdeal.main (F := Ideal))) ⟨m, fun _ => 0, g⟩ (fun r => ∀ c : Dev Cert.SquareGradIdeal.nD,
          r.2.mem ((c.tc : Thread Cert.SquareGradIdeal.nD Cert.SquareGradIdeal.τ).loc Cert.SquareGradIdeal.main_v0) = v0 c
          ∧ r.2.mem ((c.tc : Thread Cert.SquareGradIdeal.nD Cert.SquareGradIdeal.τ).loc Cert.SquareGradIdeal.main_arg0) = m ((c.tc : Thread Cert.SquareGradIdeal.nD Cert.SquareGradIdeal.τ).loc Cert.SquareGradIdeal.main_arg0)
          ∧ r.2.mem ((c.tc : Thread Cert.SquareGradIdeal.nD Cert.SquareGradIdeal.τ).loc Cert.SquareGradIdeal.main_arg1) = m ((c.tc : Thread Cert.SquareGradIdeal.nD Cert.SquareGradIdeal.τ).loc Cert.SquareGradIdeal.main_arg1))
      ∧ θ_run (Cert.SquareProductGradIdeal.defs (F := Ideal)) (onTc (τ := Cert.SquareProductGradIdeal.τ) (Cert.SquareProductGradIdeal.main (F := Ideal))) ⟨m', fun _ => 0, g'⟩ (fun r => ∀ c : Dev Cert.SquareProductGradIdeal.nD,
          r.2.mem ((c.tc : Thread Cert.SquareProductGradIdeal.nD Cert.SquareProductGradIdeal.τ).loc Cert.SquareProductGradIdeal.main_v5) = v0 c
          ∧ r.2.mem ((c.tc : Thread Cert.SquareProductGradIdeal.nD Cert.SquareProductGradIdeal.τ).loc Cert.SquareProductGradIdeal.main_arg0) = m' ((c.tc : Thread Cert.SquareProductGradIdeal.nD Cert.SquareProductGradIdeal.τ).loc Cert.SquareProductGradIdeal.main_arg0)
          ∧ r.2.mem ((c.tc : Thread Cert.SquareProductGradIdeal.nD Cert.SquareProductGradIdeal.τ).loc Cert.SquareProductGradIdeal.main_arg1) = m' ((c.tc : Thread Cert.SquareProductGradIdeal.nD Cert.SquareProductGradIdeal.τ).loc Cert.SquareProductGradIdeal.main_arg1))

def preserves_GluIn_GluInIdeal : Prop :=
  True

def algebraic_GluInIdeal_GluIdeal [hGluInIdeal : Cert.GluInIdeal.Facts] [hGluIdeal : Cert.GluIdeal.Facts] : Prop :=
  ∀ (m : (ℓ : Loc Cert.GluInIdeal.nD Cert.GluInIdeal.τ Cert.GluInIdeal.sig) → Buf (Elt Ideal) ℓ) (g : Dev Cert.GluInIdeal.nD → PrngReg)
    (m' : (ℓ : Loc Cert.GluIdeal.nD Cert.GluIdeal.τ Cert.GluIdeal.sig) → Buf (Elt Ideal) ℓ) (g' : Dev Cert.GluIdeal.nD → PrngReg), Pre_GluInIdeal m →
    (∀ c : Dev Cert.GluInIdeal.nD,
      m' ((c.tc : Thread Cert.GluIdeal.nD Cert.GluIdeal.τ).loc Cert.GluIdeal.main_arg0) = m ((c.tc : Thread Cert.GluInIdeal.nD Cert.GluInIdeal.τ).loc Cert.GluInIdeal.main_arg0)
      ∧ m' ((c.tc : Thread Cert.GluIdeal.nD Cert.GluIdeal.τ).loc Cert.GluIdeal.main_arg1) = m ((c.tc : Thread Cert.GluInIdeal.nD Cert.GluInIdeal.τ).loc Cert.GluInIdeal.main_arg1)
      ∧ m' ((c.tc : Thread Cert.GluIdeal.nD Cert.GluIdeal.τ).loc Cert.GluIdeal.main_arg2) = m ((c.tc : Thread Cert.GluInIdeal.nD Cert.GluInIdeal.τ).loc Cert.GluInIdeal.main_arg2)
      ∧ m' ((c.tc : Thread Cert.GluIdeal.nD Cert.GluIdeal.τ).loc Cert.GluIdeal.main_arg3) = m ((c.tc : Thread Cert.GluInIdeal.nD Cert.GluInIdeal.τ).loc Cert.GluInIdeal.main_arg3)
      ∧ m' ((c.tc : Thread Cert.GluIdeal.nD Cert.GluIdeal.τ).loc Cert.GluIdeal.main_arg4) = m ((c.tc : Thread Cert.GluInIdeal.nD Cert.GluInIdeal.τ).loc Cert.GluInIdeal.main_arg4)) →
    ∃ (v0 : (c : Dev Cert.GluInIdeal.nD) → Buf (Elt Ideal) ((c.tc : Thread Cert.GluInIdeal.nD Cert.GluInIdeal.τ).loc Cert.GluInIdeal.main_v0_0)) (v1 : (c : Dev Cert.GluInIdeal.nD) → Buf (Elt Ideal) ((c.tc : Thread Cert.GluInIdeal.nD Cert.GluInIdeal.τ).loc Cert.GluInIdeal.main_v0_1)) (v2 : (c : Dev Cert.GluInIdeal.nD) → Buf (Elt Ideal) ((c.tc : Thread Cert.GluInIdeal.nD Cert.GluInIdeal.τ).loc Cert.GluInIdeal.main_v0_2)),
      θ_run (Cert.GluInIdeal.defs (F := Ideal)) (onTc (τ := Cert.GluInIdeal.τ) (Cert.GluInIdeal.main (F := Ideal))) ⟨m, fun _ => 0, g⟩ (fun r => ∀ c : Dev Cert.GluInIdeal.nD,
          r.2.mem ((c.tc : Thread Cert.GluInIdeal.nD Cert.GluInIdeal.τ).loc Cert.GluInIdeal.main_v0_0) = v0 c
          ∧ r.2.mem ((c.tc : Thread Cert.GluInIdeal.nD Cert.GluInIdeal.τ).loc Cert.GluInIdeal.main_v0_1) = v1 c
          ∧ r.2.mem ((c.tc : Thread Cert.GluInIdeal.nD Cert.GluInIdeal.τ).loc Cert.GluInIdeal.main_v0_2) = v2 c
          ∧ r.2.mem ((c.tc : Thread Cert.GluInIdeal.nD Cert.GluInIdeal.τ).loc Cert.GluInIdeal.main_arg0) = m ((c.tc : Thread Cert.GluInIdeal.nD Cert.GluInIdeal.τ).loc Cert.GluInIdeal.main_arg0)
          ∧ r.2.mem ((c.tc : Thread Cert.GluInIdeal.nD Cert.GluInIdeal.τ).loc Cert.GluInIdeal.main_arg1) = m ((c.tc : Thread Cert.GluInIdeal.nD Cert.GluInIdeal.τ).loc Cert.GluInIdeal.main_arg1)
          ∧ r.2.mem ((c.tc : Thread Cert.GluInIdeal.nD Cert.GluInIdeal.τ).loc Cert.GluInIdeal.main_arg2) = m ((c.tc : Thread Cert.GluInIdeal.nD Cert.GluInIdeal.τ).loc Cert.GluInIdeal.main_arg2)
          ∧ r.2.mem ((c.tc : Thread Cert.GluInIdeal.nD Cert.GluInIdeal.τ).loc Cert.GluInIdeal.main_arg3) = m ((c.tc : Thread Cert.GluInIdeal.nD Cert.GluInIdeal.τ).loc Cert.GluInIdeal.main_arg3)
          ∧ r.2.mem ((c.tc : Thread Cert.GluInIdeal.nD Cert.GluInIdeal.τ).loc Cert.GluInIdeal.main_arg4) = m ((c.tc : Thread Cert.GluInIdeal.nD Cert.GluInIdeal.τ).loc Cert.GluInIdeal.main_arg4))
      ∧ θ_run (Cert.GluIdeal.defs (F := Ideal)) (onTc (τ := Cert.GluIdeal.τ) (Cert.GluIdeal.main (F := Ideal))) ⟨m', fun _ => 0, g'⟩ (fun r => ∀ c : Dev Cert.GluIdeal.nD,
          r.2.mem ((c.tc : Thread Cert.GluIdeal.nD Cert.GluIdeal.τ).loc Cert.GluIdeal.main_v4) = v0 c
          ∧ r.2.mem ((c.tc : Thread Cert.GluIdeal.nD Cert.GluIdeal.τ).loc Cert.GluIdeal.main_v9) = v1 c
          ∧ r.2.mem ((c.tc : Thread Cert.GluIdeal.nD Cert.GluIdeal.τ).loc Cert.GluIdeal.main_v17) = v2 c
          ∧ r.2.mem ((c.tc : Thread Cert.GluIdeal.nD Cert.GluIdeal.τ).loc Cert.GluIdeal.main_arg0) = m' ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m' ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m' ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m' ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m' ((c.tc : Thread Cert.GluIdeal.nD Cert.GluIdeal.τ).loc Cert.GluIdeal.main_arg4))

def preserves_ResidualOut_ResidualOutIdeal : Prop :=
  True

def algebraic_ResidualOutIdeal_ResidualIdeal [hResidualOutIdeal : Cert.ResidualOutIdeal.Facts] [hResidualIdeal : Cert.ResidualIdeal.Facts] : Prop :=
  ∀ (m : (ℓ : Loc Cert.ResidualOutIdeal.nD Cert.ResidualOutIdeal.τ Cert.ResidualOutIdeal.sig) → Buf (Elt Ideal) ℓ) (g : Dev Cert.ResidualOutIdeal.nD → PrngReg)
    (m' : (ℓ : Loc Cert.ResidualIdeal.nD Cert.ResidualIdeal.τ Cert.ResidualIdeal.sig) → Buf (Elt Ideal) ℓ) (g' : Dev Cert.ResidualIdeal.nD → PrngReg), Pre_ResidualOutIdeal m →
    (∀ c : Dev Cert.ResidualOutIdeal.nD,
      m' ((c.tc : Thread Cert.ResidualIdeal.nD Cert.ResidualIdeal.τ).loc Cert.ResidualIdeal.main_arg0) = m ((c.tc : Thread Cert.ResidualOutIdeal.nD Cert.ResidualOutIdeal.τ).loc Cert.ResidualOutIdeal.main_arg0)
      ∧ m' ((c.tc : Thread Cert.ResidualIdeal.nD Cert.ResidualIdeal.τ).loc Cert.ResidualIdeal.main_arg1) = m ((c.tc : Thread Cert.ResidualOutIdeal.nD Cert.ResidualOutIdeal.τ).loc Cert.ResidualOutIdeal.main_arg1)
      ∧ m' ((c.tc : Thread Cert.ResidualIdeal.nD Cert.ResidualIdeal.τ).loc Cert.ResidualIdeal.main_arg2) = m ((c.tc : Thread Cert.ResidualOutIdeal.nD Cert.ResidualOutIdeal.τ).loc Cert.ResidualOutIdeal.main_arg2)
      ∧ m' ((c.tc : Thread Cert.ResidualIdeal.nD Cert.ResidualIdeal.τ).loc Cert.ResidualIdeal.main_arg3) = m ((c.tc : Thread Cert.ResidualOutIdeal.nD Cert.ResidualOutIdeal.τ).loc Cert.ResidualOutIdeal.main_arg3)
      ∧ m' ((c.tc : Thread Cert.ResidualIdeal.nD Cert.ResidualIdeal.τ).loc Cert.ResidualIdeal.main_arg4) = m ((c.tc : Thread Cert.ResidualOutIdeal.nD Cert.ResidualOutIdeal.τ).loc Cert.ResidualOutIdeal.main_arg4)) →
    ∃ (v0 : (c : Dev Cert.ResidualOutIdeal.nD) → Buf (Elt Ideal) ((c.tc : Thread Cert.ResidualOutIdeal.nD Cert.ResidualOutIdeal.τ).loc Cert.ResidualOutIdeal.main_v0_0)) (v1 : (c : Dev Cert.ResidualOutIdeal.nD) → Buf (Elt Ideal) ((c.tc : Thread Cert.ResidualOutIdeal.nD Cert.ResidualOutIdeal.τ).loc Cert.ResidualOutIdeal.main_v0_1)),
      θ_run (Cert.ResidualOutIdeal.defs (F := Ideal)) (onTc (τ := Cert.ResidualOutIdeal.τ) (Cert.ResidualOutIdeal.main (F := Ideal))) ⟨m, fun _ => 0, g⟩ (fun r => ∀ c : Dev Cert.ResidualOutIdeal.nD,
          r.2.mem ((c.tc : Thread Cert.ResidualOutIdeal.nD Cert.ResidualOutIdeal.τ).loc Cert.ResidualOutIdeal.main_v0_0) = v0 c
          ∧ r.2.mem ((c.tc : Thread Cert.ResidualOutIdeal.nD Cert.ResidualOutIdeal.τ).loc Cert.ResidualOutIdeal.main_v0_1) = v1 c
          ∧ r.2.mem ((c.tc : Thread Cert.ResidualOutIdeal.nD Cert.ResidualOutIdeal.τ).loc Cert.ResidualOutIdeal.main_arg0) = m ((c.tc : Thread Cert.ResidualOutIdeal.nD Cert.ResidualOutIdeal.τ).loc Cert.ResidualOutIdeal.main_arg0)
          ∧ r.2.mem ((c.tc : Thread Cert.ResidualOutIdeal.nD Cert.ResidualOutIdeal.τ).loc Cert.ResidualOutIdeal.main_arg1) = m ((c.tc : Thread Cert.ResidualOutIdeal.nD Cert.ResidualOutIdeal.τ).loc Cert.ResidualOutIdeal.main_arg1)
          ∧ r.2.mem ((c.tc : Thread Cert.ResidualOutIdeal.nD Cert.ResidualOutIdeal.τ).loc Cert.ResidualOutIdeal.main_arg2) = m ((c.tc : Thread Cert.ResidualOutIdeal.nD Cert.ResidualOutIdeal.τ).loc Cert.ResidualOutIdeal.main_arg2)
          ∧ r.2.mem ((c.tc : Thread Cert.ResidualOutIdeal.nD Cert.ResidualOutIdeal.τ).loc Cert.ResidualOutIdeal.main_arg3) = m ((c.tc : Thread Cert.ResidualOutIdeal.nD Cert.ResidualOutIdeal.τ).loc Cert.ResidualOutIdeal.main_arg3)
          ∧ r.2.mem ((c.tc : Thread Cert.ResidualOutIdeal.nD Cert.ResidualOutIdeal.τ).loc Cert.ResidualOutIdeal.main_arg4) = m ((c.tc : Thread Cert.ResidualOutIdeal.nD Cert.ResidualOutIdeal.τ).loc Cert.ResidualOutIdeal.main_arg4))
      ∧ θ_run (Cert.ResidualIdeal.defs (F := Ideal)) (onTc (τ := Cert.ResidualIdeal.τ) (Cert.ResidualIdeal.main (F := Ideal))) ⟨m', fun _ => 0, g'⟩ (fun r => ∀ c : Dev Cert.ResidualIdeal.nD,
          r.2.mem ((c.tc : Thread Cert.ResidualIdeal.nD Cert.ResidualIdeal.τ).loc Cert.ResidualIdeal.main_v7) = v0 c
          ∧ r.2.mem ((c.tc : Thread Cert.ResidualIdeal.nD Cert.ResidualIdeal.τ).loc Cert.ResidualIdeal.main_v8) = v1 c
          ∧ r.2.mem ((c.tc : Thread Cert.ResidualIdeal.nD Cert.ResidualIdeal.τ).loc Cert.ResidualIdeal.main_arg0) = m' ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m' ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m' ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m' ((c.tc : Thread Cert.ResidualIdeal.nD Cert.ResidualIdeal.τ).loc Cert.ResidualIdeal.main_arg3)
          ∧ r.2.mem ((c.tc : Thread Cert.ResidualIdeal.nD Cert.ResidualIdeal.τ).loc Cert.ResidualIdeal.main_arg4) = m' ((c.tc : Thread Cert.ResidualIdeal.nD Cert.ResidualIdeal.τ).loc Cert.ResidualIdeal.main_arg4))

def preserves_KeyProduct_KeyProductIdeal : Prop :=
  True

def algebraic_KeyProductIdeal_KeysIdeal [hKeyProductIdeal : Cert.KeyProductIdeal.Facts] [hKeysIdeal : Cert.KeysIdeal.Facts] : Prop :=
  ∀ (m : (ℓ : Loc Cert.KeyProductIdeal.nD Cert.KeyProductIdeal.τ Cert.KeyProductIdeal.sig) → Buf (Elt Ideal) ℓ) (g : Dev Cert.KeyProductIdeal.nD → PrngReg)
    (m' : (ℓ : Loc Cert.KeysIdeal.nD Cert.KeysIdeal.τ Cert.KeysIdeal.sig) → Buf (Elt Ideal) ℓ) (g' : Dev Cert.KeysIdeal.nD → PrngReg), Pre_KeyProductIdeal m →
    (∀ c : Dev Cert.KeyProductIdeal.nD,
      m' ((c.tc : Thread Cert.KeysIdeal.nD Cert.KeysIdeal.τ).loc Cert.KeysIdeal.main_arg0) = m ((c.tc : Thread Cert.KeyProductIdeal.nD Cert.KeyProductIdeal.τ).loc Cert.KeyProductIdeal.main_arg0)
      ∧ m' ((c.tc : Thread Cert.KeysIdeal.nD Cert.KeysIdeal.τ).loc Cert.KeysIdeal.main_arg1) = m ((c.tc : Thread Cert.KeyProductIdeal.nD Cert.KeyProductIdeal.τ).loc Cert.KeyProductIdeal.main_arg1)) →
    ∃ (v0 : (c : Dev Cert.KeyProductIdeal.nD) → Buf (Elt Ideal) ((c.tc : Thread Cert.KeyProductIdeal.nD Cert.KeyProductIdeal.τ).loc Cert.KeyProductIdeal.main_v0)),
      θ_run (Cert.KeyProductIdeal.defs (F := Ideal)) (onTc (τ := Cert.KeyProductIdeal.τ) (Cert.KeyProductIdeal.main (F := Ideal))) ⟨m, fun _ => 0, g⟩ (fun r => ∀ c : Dev Cert.KeyProductIdeal.nD,
          r.2.mem ((c.tc : Thread Cert.KeyProductIdeal.nD Cert.KeyProductIdeal.τ).loc Cert.KeyProductIdeal.main_v0) = v0 c
          ∧ r.2.mem ((c.tc : Thread Cert.KeyProductIdeal.nD Cert.KeyProductIdeal.τ).loc Cert.KeyProductIdeal.main_arg0) = m ((c.tc : Thread Cert.KeyProductIdeal.nD Cert.KeyProductIdeal.τ).loc Cert.KeyProductIdeal.main_arg0)
          ∧ r.2.mem ((c.tc : Thread Cert.KeyProductIdeal.nD Cert.KeyProductIdeal.τ).loc Cert.KeyProductIdeal.main_arg1) = m ((c.tc : Thread Cert.KeyProductIdeal.nD Cert.KeyProductIdeal.τ).loc Cert.KeyProductIdeal.main_arg1))
      ∧ θ_run (Cert.KeysIdeal.defs (F := Ideal)) (onTc (τ := Cert.KeysIdeal.τ) (Cert.KeysIdeal.main (F := Ideal))) ⟨m', fun _ => 0, g'⟩ (fun r => ∀ c : Dev Cert.KeysIdeal.nD,
          r.2.mem ((c.tc : Thread Cert.KeysIdeal.nD Cert.KeysIdeal.τ).loc Cert.KeysIdeal.main_v3) = v0 c
          ∧ r.2.mem ((c.tc : Thread Cert.KeysIdeal.nD Cert.KeysIdeal.τ).loc Cert.KeysIdeal.main_arg0) = m' ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m' ((c.tc : Thread Cert.KeysIdeal.nD Cert.KeysIdeal.τ).loc Cert.KeysIdeal.main_arg1))

def preserves_QueryProduct_QueryProductIdeal : Prop :=
  True

def algebraic_QueryProductIdeal_QueriesIdeal [hQueryProductIdeal : Cert.QueryProductIdeal.Facts] [hQueriesIdeal : Cert.QueriesIdeal.Facts] : Prop :=
  ∀ (m : (ℓ : Loc Cert.QueryProductIdeal.nD Cert.QueryProductIdeal.τ Cert.QueryProductIdeal.sig) → Buf (Elt Ideal) ℓ) (g : Dev Cert.QueryProductIdeal.nD → PrngReg)
    (m' : (ℓ : Loc Cert.QueriesIdeal.nD Cert.QueriesIdeal.τ Cert.QueriesIdeal.sig) → Buf (Elt Ideal) ℓ) (g' : Dev Cert.QueriesIdeal.nD → PrngReg), Pre_QueryProductIdeal m →
    (∀ c : Dev Cert.QueryProductIdeal.nD,
      m' ((c.tc : Thread Cert.QueriesIdeal.nD Cert.QueriesIdeal.τ).loc Cert.QueriesIdeal.main_arg0) = m ((c.tc : Thread Cert.QueryProductIdeal.nD Cert.QueryProductIdeal.τ).loc Cert.QueryProductIdeal.main_arg0)
      ∧ m' ((c.tc : Thread Cert.QueriesIdeal.nD Cert.QueriesIdeal.τ).loc Cert.QueriesIdeal.main_arg1) = m ((c.tc : Thread Cert.QueryProductIdeal.nD Cert.QueryProductIdeal.τ).loc Cert.QueryProductIdeal.main_arg1)) →
    ∃ (v0 : (c : Dev Cert.QueryProductIdeal.nD) → Buf (Elt Ideal) ((c.tc : Thread Cert.QueryProductIdeal.nD Cert.QueryProductIdeal.τ).loc Cert.QueryProductIdeal.main_v0)),
      θ_run (Cert.QueryProductIdeal.defs (F := Ideal)) (onTc (τ := Cert.QueryProductIdeal.τ) (Cert.QueryProductIdeal.main (F := Ideal))) ⟨m, fun _ => 0, g⟩ (fun r => ∀ c : Dev Cert.QueryProductIdeal.nD,
          r.2.mem ((c.tc : Thread Cert.QueryProductIdeal.nD Cert.QueryProductIdeal.τ).loc Cert.QueryProductIdeal.main_v0) = v0 c
          ∧ r.2.mem ((c.tc : Thread Cert.QueryProductIdeal.nD Cert.QueryProductIdeal.τ).loc Cert.QueryProductIdeal.main_arg0) = m ((c.tc : Thread Cert.QueryProductIdeal.nD Cert.QueryProductIdeal.τ).loc Cert.QueryProductIdeal.main_arg0)
          ∧ r.2.mem ((c.tc : Thread Cert.QueryProductIdeal.nD Cert.QueryProductIdeal.τ).loc Cert.QueryProductIdeal.main_arg1) = m ((c.tc : Thread Cert.QueryProductIdeal.nD Cert.QueryProductIdeal.τ).loc Cert.QueryProductIdeal.main_arg1))
      ∧ θ_run (Cert.QueriesIdeal.defs (F := Ideal)) (onTc (τ := Cert.QueriesIdeal.τ) (Cert.QueriesIdeal.main (F := Ideal))) ⟨m', fun _ => 0, g'⟩ (fun r => ∀ c : Dev Cert.QueriesIdeal.nD,
          r.2.mem ((c.tc : Thread Cert.QueriesIdeal.nD Cert.QueriesIdeal.τ).loc Cert.QueriesIdeal.main_v5) = v0 c
          ∧ r.2.mem ((c.tc : Thread Cert.QueriesIdeal.nD Cert.QueriesIdeal.τ).loc Cert.QueriesIdeal.main_arg0) = m' ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m' ((c.tc : Thread Cert.QueriesIdeal.nD Cert.QueriesIdeal.τ).loc Cert.QueriesIdeal.main_arg1))

def preserves_HeadGrad_HeadGradIdeal : Prop :=
  True

def algebraic_HeadGradIdeal_HeadProductGradIdeal [hHeadGradIdeal : Cert.HeadGradIdeal.Facts] [hHeadProductGradIdeal : Cert.HeadProductGradIdeal.Facts] : Prop :=
  ∀ (m : (ℓ : Loc Cert.HeadGradIdeal.nD Cert.HeadGradIdeal.τ Cert.HeadGradIdeal.sig) → Buf (Elt Ideal) ℓ) (g : Dev Cert.HeadGradIdeal.nD → PrngReg)
    (m' : (ℓ : Loc Cert.HeadProductGradIdeal.nD Cert.HeadProductGradIdeal.τ Cert.HeadProductGradIdeal.sig) → Buf (Elt Ideal) ℓ) (g' : Dev Cert.HeadProductGradIdeal.nD → PrngReg), Pre_HeadGradIdeal m →
    (∀ c : Dev Cert.HeadGradIdeal.nD,
      m' ((c.tc : Thread Cert.HeadProductGradIdeal.nD Cert.HeadProductGradIdeal.τ).loc Cert.HeadProductGradIdeal.main_arg0) = m ((c.tc : Thread Cert.HeadGradIdeal.nD Cert.HeadGradIdeal.τ).loc Cert.HeadGradIdeal.main_arg0)
      ∧ m' ((c.tc : Thread Cert.HeadProductGradIdeal.nD Cert.HeadProductGradIdeal.τ).loc Cert.HeadProductGradIdeal.main_arg1) = m ((c.tc : Thread Cert.HeadGradIdeal.nD Cert.HeadGradIdeal.τ).loc Cert.HeadGradIdeal.main_arg1)) →
    ∃ (v0 : (c : Dev Cert.HeadGradIdeal.nD) → Buf (Elt Ideal) ((c.tc : Thread Cert.HeadGradIdeal.nD Cert.HeadGradIdeal.τ).loc Cert.HeadGradIdeal.main_v0)),
      θ_run (Cert.HeadGradIdeal.defs (F := Ideal)) (onTc (τ := Cert.HeadGradIdeal.τ) (Cert.HeadGradIdeal.main (F := Ideal))) ⟨m, fun _ => 0, g⟩ (fun r => ∀ c : Dev Cert.HeadGradIdeal.nD,
          r.2.mem ((c.tc : Thread Cert.HeadGradIdeal.nD Cert.HeadGradIdeal.τ).loc Cert.HeadGradIdeal.main_v0) = v0 c
          ∧ r.2.mem ((c.tc : Thread Cert.HeadGradIdeal.nD Cert.HeadGradIdeal.τ).loc Cert.HeadGradIdeal.main_arg0) = m ((c.tc : Thread Cert.HeadGradIdeal.nD Cert.HeadGradIdeal.τ).loc Cert.HeadGradIdeal.main_arg0)
          ∧ r.2.mem ((c.tc : Thread Cert.HeadGradIdeal.nD Cert.HeadGradIdeal.τ).loc Cert.HeadGradIdeal.main_arg1) = m ((c.tc : Thread Cert.HeadGradIdeal.nD Cert.HeadGradIdeal.τ).loc Cert.HeadGradIdeal.main_arg1))
      ∧ θ_run (Cert.HeadProductGradIdeal.defs (F := Ideal)) (onTc (τ := Cert.HeadProductGradIdeal.τ) (Cert.HeadProductGradIdeal.main (F := Ideal))) ⟨m', fun _ => 0, g'⟩ (fun r => ∀ c : Dev Cert.HeadProductGradIdeal.nD,
          r.2.mem ((c.tc : Thread Cert.HeadProductGradIdeal.nD Cert.HeadProductGradIdeal.τ).loc Cert.HeadProductGradIdeal.main_v5) = v0 c
          ∧ r.2.mem ((c.tc : Thread Cert.HeadProductGradIdeal.nD Cert.HeadProductGradIdeal.τ).loc Cert.HeadProductGradIdeal.main_arg0) = m' ((c.tc : Thread Cert.HeadProductGradIdeal.nD Cert.HeadProductGradIdeal.τ).loc Cert.HeadProductGradIdeal.main_arg0)
          ∧ r.2.mem ((c.tc : Thread Cert.HeadProductGradIdeal.nD Cert.HeadProductGradIdeal.τ).loc Cert.HeadProductGradIdeal.main_arg1) = m' ((c.tc : Thread Cert.HeadProductGradIdeal.nD Cert.HeadProductGradIdeal.τ).loc Cert.HeadProductGradIdeal.main_arg1))

def preserves_ConvGrad_ConvGradIdeal : Prop :=
  True

def algebraic_ConvGradIdeal_ConvProductsGradIdeal [hConvGradIdeal : Cert.ConvGradIdeal.Facts] [hConvProductsGradIdeal : Cert.ConvProductsGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg)
    (m' : (ℓ : Loc Cert.ConvProductsGradIdeal.nD Cert.ConvProductsGradIdeal.τ Cert.ConvProductsGradIdeal.sig) → Buf (Elt Ideal) ℓ) (g' : Dev Cert.ConvProductsGradIdeal.nD → PrngReg), Pre_ConvGradIdeal m →
    (∀ c : Dev Cert.ConvGradIdeal.nD,
      m' ((c.tc : Thread Cert.ConvProductsGradIdeal.nD Cert.ConvProductsGradIdeal.τ).loc Cert.ConvProductsGradIdeal.main_arg0) = m ((c.tc : Thread Cert.ConvGradIdeal.nD Cert.ConvGradIdeal.τ).loc Cert.ConvGradIdeal.main_arg0)
      ∧ m' ((c.tc : Thread Cert.ConvProductsGradIdeal.nD Cert.ConvProductsGradIdeal.τ).loc Cert.ConvProductsGradIdeal.main_arg1) = m ((c.tc : Thread Cert.ConvGradIdeal.nD Cert.ConvGradIdeal.τ).loc Cert.ConvGradIdeal.main_arg1)
      ∧ m' ((c.tc : Thread Cert.ConvProductsGradIdeal.nD Cert.ConvProductsGradIdeal.τ).loc Cert.ConvProductsGradIdeal.main_arg2) = m ((c.tc : Thread Cert.ConvGradIdeal.nD Cert.ConvGradIdeal.τ).loc Cert.ConvGradIdeal.main_arg2)
      ∧ m' ((c.tc : Thread Cert.ConvProductsGradIdeal.nD Cert.ConvProductsGradIdeal.τ).loc Cert.ConvProductsGradIdeal.main_arg3) = m ((c.tc : Thread Cert.ConvGradIdeal.nD Cert.ConvGradIdeal.τ).loc Cert.ConvGradIdeal.main_arg3)) →
    ∃ (v0 : (c : Dev Cert.ConvGradIdeal.nD) → Buf (Elt Ideal) ((c.tc : Thread Cert.ConvGradIdeal.nD Cert.ConvGradIdeal.τ).loc Cert.ConvGradIdeal.main_v0)),
      θ_run (Cert.ConvGradIdeal.defs (F := Ideal)) (onTc (τ := Cert.ConvGradIdeal.τ) (Cert.ConvGradIdeal.main (F := Ideal))) ⟨m, fun _ => 0, g⟩ (fun r => ∀ c : Dev Cert.ConvGradIdeal.nD,
          r.2.mem ((c.tc : Thread Cert.ConvGradIdeal.nD Cert.ConvGradIdeal.τ).loc Cert.ConvGradIdeal.main_v0) = v0 c
          ∧ r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
          ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
          ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
          ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ θ_run (Cert.ConvProductsGradIdeal.defs (F := Ideal)) (onTc (τ := Cert.ConvProductsGradIdeal.τ) (Cert.ConvProductsGradIdeal.main (F := Ideal))) ⟨m', fun _ => 0, g'⟩ (fun r => ∀ c : Dev Cert.ConvProductsGradIdeal.nD,
          r.2.mem ((c.tc : Thread Cert.ConvProductsGradIdeal.nD Cert.ConvProductsGradIdeal.τ).loc Cert.ConvProductsGradIdeal.main_v9) = v0 c
          ∧ r.2.mem ((c.tc : Thread Cert.ConvProductsGradIdeal.nD Cert.ConvProductsGradIdeal.τ).loc Cert.ConvProductsGradIdeal.main_arg0) = m' ((c.tc : Thread Cert.ConvProductsGradIdeal.nD Cert.ConvProductsGradIdeal.τ).loc Cert.ConvProductsGradIdeal.main_arg0)
          ∧ r.2.mem ((c.tc : Thread Cert.ConvProductsGradIdeal.nD Cert.ConvProductsGradIdeal.τ).loc Cert.ConvProductsGradIdeal.main_arg1) = m' ((c.tc : Thread Cert.ConvProductsGradIdeal.nD Cert.ConvProductsGradIdeal.τ).loc Cert.ConvProductsGradIdeal.main_arg1)
          ∧ r.2.mem ((c.tc : Thread Cert.ConvProductsGradIdeal.nD Cert.ConvProductsGradIdeal.τ).loc Cert.ConvProductsGradIdeal.main_arg2) = m' ((c.tc : Thread Cert.ConvProductsGradIdeal.nD Cert.ConvProductsGradIdeal.τ).loc Cert.ConvProductsGradIdeal.main_arg2)
          ∧ r.2.mem ((c.tc : Thread Cert.ConvProductsGradIdeal.nD Cert.ConvProductsGradIdeal.τ).loc Cert.ConvProductsGradIdeal.main_arg3) = m' ((c.tc : Thread Cert.ConvProductsGradIdeal.nD Cert.ConvProductsGradIdeal.τ).loc Cert.ConvProductsGradIdeal.main_arg3))

def preserves_AdaImages_AdaImagesIdeal : Prop :=
  True

def algebraic_AdaImagesIdeal_ImagesIdeal [hAdaImagesIdeal : Cert.AdaImagesIdeal.Facts] [hImagesIdeal : Cert.ImagesIdeal.Facts] : Prop :=
  ∀ (m : (ℓ : Loc Cert.AdaImagesIdeal.nD Cert.AdaImagesIdeal.τ Cert.AdaImagesIdeal.sig) → Buf (Elt Ideal) ℓ) (g : Dev Cert.AdaImagesIdeal.nD → PrngReg)
    (m' : (ℓ : Loc Cert.ImagesIdeal.nD Cert.ImagesIdeal.τ Cert.ImagesIdeal.sig) → Buf (Elt Ideal) ℓ) (g' : Dev Cert.ImagesIdeal.nD → PrngReg), Pre_AdaImagesIdeal m →
    (∀ c : Dev Cert.AdaImagesIdeal.nD,
      m' ((c.tc : Thread Cert.ImagesIdeal.nD Cert.ImagesIdeal.τ).loc Cert.ImagesIdeal.main_arg0) = m ((c.tc : Thread Cert.AdaImagesIdeal.nD Cert.AdaImagesIdeal.τ).loc Cert.AdaImagesIdeal.main_arg0)
      ∧ m' ((c.tc : Thread Cert.ImagesIdeal.nD Cert.ImagesIdeal.τ).loc Cert.ImagesIdeal.main_arg1) = m ((c.tc : Thread Cert.AdaImagesIdeal.nD Cert.AdaImagesIdeal.τ).loc Cert.AdaImagesIdeal.main_arg1)) →
    ∃ (v0 : (c : Dev Cert.AdaImagesIdeal.nD) → Buf (Elt Ideal) ((c.tc : Thread Cert.AdaImagesIdeal.nD Cert.AdaImagesIdeal.τ).loc Cert.AdaImagesIdeal.main_v0)),
      θ_run (Cert.AdaImagesIdeal.defs (F := Ideal)) (onTc (τ := Cert.AdaImagesIdeal.τ) (Cert.AdaImagesIdeal.main (F := Ideal))) ⟨m, fun _ => 0, g⟩ (fun r => ∀ c : Dev Cert.AdaImagesIdeal.nD,
          r.2.mem ((c.tc : Thread Cert.AdaImagesIdeal.nD Cert.AdaImagesIdeal.τ).loc Cert.AdaImagesIdeal.main_v0) = v0 c
          ∧ r.2.mem ((c.tc : Thread Cert.AdaImagesIdeal.nD Cert.AdaImagesIdeal.τ).loc Cert.AdaImagesIdeal.main_arg0) = m ((c.tc : Thread Cert.AdaImagesIdeal.nD Cert.AdaImagesIdeal.τ).loc Cert.AdaImagesIdeal.main_arg0)
          ∧ r.2.mem ((c.tc : Thread Cert.AdaImagesIdeal.nD Cert.AdaImagesIdeal.τ).loc Cert.AdaImagesIdeal.main_arg1) = m ((c.tc : Thread Cert.AdaImagesIdeal.nD Cert.AdaImagesIdeal.τ).loc Cert.AdaImagesIdeal.main_arg1))
      ∧ θ_run (Cert.ImagesIdeal.defs (F := Ideal)) (onTc (τ := Cert.ImagesIdeal.τ) (Cert.ImagesIdeal.main (F := Ideal))) ⟨m', fun _ => 0, g'⟩ (fun r => ∀ c : Dev Cert.ImagesIdeal.nD,
          r.2.mem ((c.tc : Thread Cert.ImagesIdeal.nD Cert.ImagesIdeal.τ).loc Cert.ImagesIdeal.main_v1) = v0 c
          ∧ r.2.mem ((c.tc : Thread Cert.ImagesIdeal.nD Cert.ImagesIdeal.τ).loc Cert.ImagesIdeal.main_arg0) = m' ((c.tc : Thread Cert.ImagesIdeal.nD Cert.ImagesIdeal.τ).loc Cert.ImagesIdeal.main_arg0)
          ∧ r.2.mem ((c.tc : Thread Cert.ImagesIdeal.nD Cert.ImagesIdeal.τ).loc Cert.ImagesIdeal.main_arg1) = m' ((c.tc : Thread Cert.ImagesIdeal.nD Cert.ImagesIdeal.τ).loc Cert.ImagesIdeal.main_arg1))

def preserves_NormOut_NormOutIdeal : Prop :=
  True

def algebraic_NormOutIdeal_NormedIdeal [hNormOutIdeal : Cert.NormOutIdeal.Facts] [hNormedIdeal : Cert.NormedIdeal.Facts] : Prop :=
  ∀ (m : (ℓ : Loc Cert.NormOutIdeal.nD Cert.NormOutIdeal.τ Cert.NormOutIdeal.sig) → Buf (Elt Ideal) ℓ) (g : Dev Cert.NormOutIdeal.nD → PrngReg)
    (m' : (ℓ : Loc Cert.NormedIdeal.nD Cert.NormedIdeal.τ Cert.NormedIdeal.sig) → Buf (Elt Ideal) ℓ) (g' : Dev Cert.NormedIdeal.nD → PrngReg), Pre_NormOutIdeal m →
    (∀ c : Dev Cert.NormOutIdeal.nD,
      m' ((c.tc : Thread Cert.NormedIdeal.nD Cert.NormedIdeal.τ).loc Cert.NormedIdeal.main_arg0) = m ((c.tc : Thread Cert.NormOutIdeal.nD Cert.NormOutIdeal.τ).loc Cert.NormOutIdeal.main_arg0)
      ∧ m' ((c.tc : Thread Cert.NormedIdeal.nD Cert.NormedIdeal.τ).loc Cert.NormedIdeal.main_arg1) = m ((c.tc : Thread Cert.NormOutIdeal.nD Cert.NormOutIdeal.τ).loc Cert.NormOutIdeal.main_arg1)
      ∧ m' ((c.tc : Thread Cert.NormedIdeal.nD Cert.NormedIdeal.τ).loc Cert.NormedIdeal.main_arg2) = m ((c.tc : Thread Cert.NormOutIdeal.nD Cert.NormOutIdeal.τ).loc Cert.NormOutIdeal.main_arg2)
      ∧ m' ((c.tc : Thread Cert.NormedIdeal.nD Cert.NormedIdeal.τ).loc Cert.NormedIdeal.main_arg3) = m ((c.tc : Thread Cert.NormOutIdeal.nD Cert.NormOutIdeal.τ).loc Cert.NormOutIdeal.main_arg3)) →
    ∃ (v0 : (c : Dev Cert.NormOutIdeal.nD) → Buf (Elt Ideal) ((c.tc : Thread Cert.NormOutIdeal.nD Cert.NormOutIdeal.τ).loc Cert.NormOutIdeal.main_v0)),
      θ_run (Cert.NormOutIdeal.defs (F := Ideal)) (onTc (τ := Cert.NormOutIdeal.τ) (Cert.NormOutIdeal.main (F := Ideal))) ⟨m, fun _ => 0, g⟩ (fun r => ∀ c : Dev Cert.NormOutIdeal.nD,
          r.2.mem ((c.tc : Thread Cert.NormOutIdeal.nD Cert.NormOutIdeal.τ).loc Cert.NormOutIdeal.main_v0) = v0 c
          ∧ r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
          ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1)
          ∧ r.2.mem ((c.tc : Thread Cert.NormOutIdeal.nD Cert.NormOutIdeal.τ).loc Cert.NormOutIdeal.main_arg2) = m ((c.tc : Thread Cert.NormOutIdeal.nD Cert.NormOutIdeal.τ).loc Cert.NormOutIdeal.main_arg2)
          ∧ r.2.mem ((c.tc : Thread Cert.NormOutIdeal.nD Cert.NormOutIdeal.τ).loc Cert.NormOutIdeal.main_arg3) = m ((c.tc : Thread Cert.NormOutIdeal.nD Cert.NormOutIdeal.τ).loc Cert.NormOutIdeal.main_arg3))
      ∧ θ_run (Cert.NormedIdeal.defs (F := Ideal)) (onTc (τ := Cert.NormedIdeal.τ) (Cert.NormedIdeal.main (F := Ideal))) ⟨m', fun _ => 0, g'⟩ (fun r => ∀ c : Dev Cert.NormedIdeal.nD,
          r.2.mem ((c.tc : Thread Cert.NormedIdeal.nD Cert.NormedIdeal.τ).loc Cert.NormedIdeal.main_v20) = v0 c
          ∧ r.2.mem ((c.tc : Thread Cert.NormedIdeal.nD Cert.NormedIdeal.τ).loc Cert.NormedIdeal.main_arg0) = m' ((c.tc : Thread Cert.NormedIdeal.nD Cert.NormedIdeal.τ).loc Cert.NormedIdeal.main_arg0)
          ∧ r.2.mem ((c.tc : Thread Cert.NormedIdeal.nD Cert.NormedIdeal.τ).loc Cert.NormedIdeal.main_arg1) = m' ((c.tc : Thread Cert.NormedIdeal.nD Cert.NormedIdeal.τ).loc Cert.NormedIdeal.main_arg1)
          ∧ r.2.mem ((c.tc : Thread Cert.NormedIdeal.nD Cert.NormedIdeal.τ).loc Cert.NormedIdeal.main_arg2) = m' ((c.tc : Thread Cert.NormedIdeal.nD Cert.NormedIdeal.τ).loc Cert.NormedIdeal.main_arg2)
          ∧ r.2.mem ((c.tc : Thread Cert.NormedIdeal.nD Cert.NormedIdeal.τ).loc Cert.NormedIdeal.main_arg3) = m' ((c.tc : Thread Cert.NormedIdeal.nD Cert.NormedIdeal.τ).loc Cert.NormedIdeal.main_arg3))

def preserves_MixedGrad_MixedGradIdeal : Prop :=
  True

def algebraic_MixedGradIdeal_MixedFactorGradIdeal [hMixedGradIdeal : Cert.MixedGradIdeal.Facts] [hMixedFactorGradIdeal : Cert.MixedFactorGradIdeal.Facts] : Prop :=
  ∀ (m : (ℓ : Loc Cert.MixedGradIdeal.nD Cert.MixedGradIdeal.τ Cert.MixedGradIdeal.sig) → Buf (Elt Ideal) ℓ) (g : Dev Cert.MixedGradIdeal.nD → PrngReg)
    (m' : (ℓ : Loc Cert.MixedFactorGradIdeal.nD Cert.MixedFactorGradIdeal.τ Cert.MixedFactorGradIdeal.sig) → Buf (Elt Ideal) ℓ) (g' : Dev Cert.MixedFactorGradIdeal.nD → PrngReg), Pre_MixedGradIdeal m →
    (∀ c : Dev Cert.MixedGradIdeal.nD,
      m' ((c.tc : Thread Cert.MixedFactorGradIdeal.nD Cert.MixedFactorGradIdeal.τ).loc Cert.MixedFactorGradIdeal.main_arg0) = m ((c.tc : Thread Cert.MixedGradIdeal.nD Cert.MixedGradIdeal.τ).loc Cert.MixedGradIdeal.main_arg0)
      ∧ m' ((c.tc : Thread Cert.MixedFactorGradIdeal.nD Cert.MixedFactorGradIdeal.τ).loc Cert.MixedFactorGradIdeal.main_arg1) = m ((c.tc : Thread Cert.MixedGradIdeal.nD Cert.MixedGradIdeal.τ).loc Cert.MixedGradIdeal.main_arg1)) →
    ∃ (v0 : (c : Dev Cert.MixedGradIdeal.nD) → Buf (Elt Ideal) ((c.tc : Thread Cert.MixedGradIdeal.nD Cert.MixedGradIdeal.τ).loc Cert.MixedGradIdeal.main_v0)),
      θ_run (Cert.MixedGradIdeal.defs (F := Ideal)) (onTc (τ := Cert.MixedGradIdeal.τ) (Cert.MixedGradIdeal.main (F := Ideal))) ⟨m, fun _ => 0, g⟩ (fun r => ∀ c : Dev Cert.MixedGradIdeal.nD,
          r.2.mem ((c.tc : Thread Cert.MixedGradIdeal.nD Cert.MixedGradIdeal.τ).loc Cert.MixedGradIdeal.main_v0) = v0 c
          ∧ r.2.mem ((c.tc : Thread Cert.MixedGradIdeal.nD Cert.MixedGradIdeal.τ).loc Cert.MixedGradIdeal.main_arg0) = m ((c.tc : Thread Cert.MixedGradIdeal.nD Cert.MixedGradIdeal.τ).loc Cert.MixedGradIdeal.main_arg0)
          ∧ r.2.mem ((c.tc : Thread Cert.MixedGradIdeal.nD Cert.MixedGradIdeal.τ).loc Cert.MixedGradIdeal.main_arg1) = m ((c.tc : Thread Cert.MixedGradIdeal.nD Cert.MixedGradIdeal.τ).loc Cert.MixedGradIdeal.main_arg1))
      ∧ θ_run (Cert.MixedFactorGradIdeal.defs (F := Ideal)) (onTc (τ := Cert.MixedFactorGradIdeal.τ) (Cert.MixedFactorGradIdeal.main (F := Ideal))) ⟨m', fun _ => 0, g'⟩ (fun r => ∀ c : Dev Cert.MixedFactorGradIdeal.nD,
          r.2.mem ((c.tc : Thread Cert.MixedFactorGradIdeal.nD Cert.MixedFactorGradIdeal.τ).loc Cert.MixedFactorGradIdeal.main_v4) = v0 c
          ∧ r.2.mem ((c.tc : Thread Cert.MixedFactorGradIdeal.nD Cert.MixedFactorGradIdeal.τ).loc Cert.MixedFactorGradIdeal.main_arg0) = m' ((c.tc : Thread Cert.MixedFactorGradIdeal.nD Cert.MixedFactorGradIdeal.τ).loc Cert.MixedFactorGradIdeal.main_arg0)
          ∧ r.2.mem ((c.tc : Thread Cert.MixedFactorGradIdeal.nD Cert.MixedFactorGradIdeal.τ).loc Cert.MixedFactorGradIdeal.main_arg1) = m' ((c.tc : Thread Cert.MixedFactorGradIdeal.nD Cert.MixedFactorGradIdeal.τ).loc Cert.MixedFactorGradIdeal.main_arg1))

def preserves_QueryGrad_QueryGradIdeal : Prop :=
  True

def algebraic_QueryGradIdeal_QueryFactorGradIdeal [hQueryGradIdeal : Cert.QueryGradIdeal.Facts] [hQueryFactorGradIdeal : Cert.QueryFactorGradIdeal.Facts] : Prop :=
  ∀ (m : (ℓ : Loc Cert.QueryGradIdeal.nD Cert.QueryGradIdeal.τ Cert.QueryGradIdeal.sig) → Buf (Elt Ideal) ℓ) (g : Dev Cert.QueryGradIdeal.nD → PrngReg)
    (m' : (ℓ : Loc Cert.QueryFactorGradIdeal.nD Cert.QueryFactorGradIdeal.τ Cert.QueryFactorGradIdeal.sig) → Buf (Elt Ideal) ℓ) (g' : Dev Cert.QueryFactorGradIdeal.nD → PrngReg), Pre_QueryGradIdeal m →
    (∀ c : Dev Cert.QueryGradIdeal.nD,
      m' ((c.tc : Thread Cert.QueryFactorGradIdeal.nD Cert.QueryFactorGradIdeal.τ).loc Cert.QueryFactorGradIdeal.main_arg0) = m ((c.tc : Thread Cert.QueryGradIdeal.nD Cert.QueryGradIdeal.τ).loc Cert.QueryGradIdeal.main_arg0)
      ∧ m' ((c.tc : Thread Cert.QueryFactorGradIdeal.nD Cert.QueryFactorGradIdeal.τ).loc Cert.QueryFactorGradIdeal.main_arg1) = m ((c.tc : Thread Cert.QueryGradIdeal.nD Cert.QueryGradIdeal.τ).loc Cert.QueryGradIdeal.main_arg1)) →
    ∃ (v0 : (c : Dev Cert.QueryGradIdeal.nD) → Buf (Elt Ideal) ((c.tc : Thread Cert.QueryGradIdeal.nD Cert.QueryGradIdeal.τ).loc Cert.QueryGradIdeal.main_v0)),
      θ_run (Cert.QueryGradIdeal.defs (F := Ideal)) (onTc (τ := Cert.QueryGradIdeal.τ) (Cert.QueryGradIdeal.main (F := Ideal))) ⟨m, fun _ => 0, g⟩ (fun r => ∀ c : Dev Cert.QueryGradIdeal.nD,
          r.2.mem ((c.tc : Thread Cert.QueryGradIdeal.nD Cert.QueryGradIdeal.τ).loc Cert.QueryGradIdeal.main_v0) = v0 c
          ∧ r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
          ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1))
      ∧ θ_run (Cert.QueryFactorGradIdeal.defs (F := Ideal)) (onTc (τ := Cert.QueryFactorGradIdeal.τ) (Cert.QueryFactorGradIdeal.main (F := Ideal))) ⟨m', fun _ => 0, g'⟩ (fun r => ∀ c : Dev Cert.QueryFactorGradIdeal.nD,
          r.2.mem ((c.tc : Thread Cert.QueryFactorGradIdeal.nD Cert.QueryFactorGradIdeal.τ).loc Cert.QueryFactorGradIdeal.main_v3) = v0 c
          ∧ r.2.mem ((c.tc : Thread Cert.QueryFactorGradIdeal.nD Cert.QueryFactorGradIdeal.τ).loc Cert.QueryFactorGradIdeal.main_arg0) = m' ((c.tc : Thread Cert.QueryFactorGradIdeal.nD Cert.QueryFactorGradIdeal.τ).loc Cert.QueryFactorGradIdeal.main_arg0)
          ∧ r.2.mem ((c.tc : Thread Cert.QueryFactorGradIdeal.nD Cert.QueryFactorGradIdeal.τ).loc Cert.QueryFactorGradIdeal.main_arg1) = m' ((c.tc : Thread Cert.QueryFactorGradIdeal.nD Cert.QueryFactorGradIdeal.τ).loc Cert.QueryFactorGradIdeal.main_arg1))

def preserves_QueryWeightGrad_QueryWeightGradIdeal : Prop :=
  True

def algebraic_QueryWeightGradIdeal_QueryProductGradIdeal [hQueryWeightGradIdeal : Cert.QueryWeightGradIdeal.Facts] [hQueryProductGradIdeal : Cert.QueryProductGradIdeal.Facts] : Prop :=
  ∀ (m : (ℓ : Loc Cert.QueryWeightGradIdeal.nD Cert.QueryWeightGradIdeal.τ Cert.QueryWeightGradIdeal.sig) → Buf (Elt Ideal) ℓ) (g : Dev Cert.QueryWeightGradIdeal.nD → PrngReg)
    (m' : (ℓ : Loc Cert.QueryProductGradIdeal.nD Cert.QueryProductGradIdeal.τ Cert.QueryProductGradIdeal.sig) → Buf (Elt Ideal) ℓ) (g' : Dev Cert.QueryProductGradIdeal.nD → PrngReg), Pre_QueryWeightGradIdeal m →
    (∀ c : Dev Cert.QueryWeightGradIdeal.nD,
      m' ((c.tc : Thread Cert.QueryProductGradIdeal.nD Cert.QueryProductGradIdeal.τ).loc Cert.QueryProductGradIdeal.main_arg0) = m ((c.tc : Thread Cert.QueryWeightGradIdeal.nD Cert.QueryWeightGradIdeal.τ).loc Cert.QueryWeightGradIdeal.main_arg0)
      ∧ m' ((c.tc : Thread Cert.QueryProductGradIdeal.nD Cert.QueryProductGradIdeal.τ).loc Cert.QueryProductGradIdeal.main_arg1) = m ((c.tc : Thread Cert.QueryWeightGradIdeal.nD Cert.QueryWeightGradIdeal.τ).loc Cert.QueryWeightGradIdeal.main_arg1)) →
    ∃ (v0 : (c : Dev Cert.QueryWeightGradIdeal.nD) → Buf (Elt Ideal) ((c.tc : Thread Cert.QueryWeightGradIdeal.nD Cert.QueryWeightGradIdeal.τ).loc Cert.QueryWeightGradIdeal.main_v0)),
      θ_run (Cert.QueryWeightGradIdeal.defs (F := Ideal)) (onTc (τ := Cert.QueryWeightGradIdeal.τ) (Cert.QueryWeightGradIdeal.main (F := Ideal))) ⟨m, fun _ => 0, g⟩ (fun r => ∀ c : Dev Cert.QueryWeightGradIdeal.nD,
          r.2.mem ((c.tc : Thread Cert.QueryWeightGradIdeal.nD Cert.QueryWeightGradIdeal.τ).loc Cert.QueryWeightGradIdeal.main_v0) = v0 c
          ∧ r.2.mem ((c.tc : Thread Cert.QueryWeightGradIdeal.nD Cert.QueryWeightGradIdeal.τ).loc Cert.QueryWeightGradIdeal.main_arg0) = m ((c.tc : Thread Cert.QueryWeightGradIdeal.nD Cert.QueryWeightGradIdeal.τ).loc Cert.QueryWeightGradIdeal.main_arg0)
          ∧ r.2.mem ((c.tc : Thread Cert.QueryWeightGradIdeal.nD Cert.QueryWeightGradIdeal.τ).loc Cert.QueryWeightGradIdeal.main_arg1) = m ((c.tc : Thread Cert.QueryWeightGradIdeal.nD Cert.QueryWeightGradIdeal.τ).loc Cert.QueryWeightGradIdeal.main_arg1))
      ∧ θ_run (Cert.QueryProductGradIdeal.defs (F := Ideal)) (onTc (τ := Cert.QueryProductGradIdeal.τ) (Cert.QueryProductGradIdeal.main (F := Ideal))) ⟨m', fun _ => 0, g'⟩ (fun r => ∀ c : Dev Cert.QueryProductGradIdeal.nD,
          r.2.mem ((c.tc : Thread Cert.QueryProductGradIdeal.nD Cert.QueryProductGradIdeal.τ).loc Cert.QueryProductGradIdeal.main_v4) = v0 c
          ∧ r.2.mem ((c.tc : Thread Cert.QueryProductGradIdeal.nD Cert.QueryProductGradIdeal.τ).loc Cert.QueryProductGradIdeal.main_arg0) = m' ((c.tc : Thread Cert.QueryProductGradIdeal.nD Cert.QueryProductGradIdeal.τ).loc Cert.QueryProductGradIdeal.main_arg0)
          ∧ r.2.mem ((c.tc : Thread Cert.QueryProductGradIdeal.nD Cert.QueryProductGradIdeal.τ).loc Cert.QueryProductGradIdeal.main_arg1) = m' ((c.tc : Thread Cert.QueryProductGradIdeal.nD Cert.QueryProductGradIdeal.τ).loc Cert.QueryProductGradIdeal.main_arg1))

def preserves_ForgetWeightGrad_ForgetWeightGradIdeal : Prop :=
  True

def algebraic_ForgetWeightGradIdeal_ForgetProductGradIdeal [hForgetWeightGradIdeal : Cert.ForgetWeightGradIdeal.Facts] [hForgetProductGradIdeal : Cert.ForgetProductGradIdeal.Facts] : Prop :=
  ∀ (m : (ℓ : Loc Cert.ForgetWeightGradIdeal.nD Cert.ForgetWeightGradIdeal.τ Cert.ForgetWeightGradIdeal.sig) → Buf (Elt Ideal) ℓ) (g : Dev Cert.ForgetWeightGradIdeal.nD → PrngReg)
    (m' : (ℓ : Loc Cert.ForgetProductGradIdeal.nD Cert.ForgetProductGradIdeal.τ Cert.ForgetProductGradIdeal.sig) → Buf (Elt Ideal) ℓ) (g' : Dev Cert.ForgetProductGradIdeal.nD → PrngReg), Pre_ForgetWeightGradIdeal m →
    (∀ c : Dev Cert.ForgetWeightGradIdeal.nD,
      m' ((c.tc : Thread Cert.ForgetProductGradIdeal.nD Cert.ForgetProductGradIdeal.τ).loc Cert.ForgetProductGradIdeal.main_arg0) = m ((c.tc : Thread Cert.ForgetWeightGradIdeal.nD Cert.ForgetWeightGradIdeal.τ).loc Cert.ForgetWeightGradIdeal.main_arg0)
      ∧ m' ((c.tc : Thread Cert.ForgetProductGradIdeal.nD Cert.ForgetProductGradIdeal.τ).loc Cert.ForgetProductGradIdeal.main_arg1) = m ((c.tc : Thread Cert.ForgetWeightGradIdeal.nD Cert.ForgetWeightGradIdeal.τ).loc Cert.ForgetWeightGradIdeal.main_arg1)) →
    ∃ (v0 : (c : Dev Cert.ForgetWeightGradIdeal.nD) → Buf (Elt Ideal) ((c.tc : Thread Cert.ForgetWeightGradIdeal.nD Cert.ForgetWeightGradIdeal.τ).loc Cert.ForgetWeightGradIdeal.main_v0)),
      θ_run (Cert.ForgetWeightGradIdeal.defs (F := Ideal)) (onTc (τ := Cert.ForgetWeightGradIdeal.τ) (Cert.ForgetWeightGradIdeal.main (F := Ideal))) ⟨m, fun _ => 0, g⟩ (fun r => ∀ c : Dev Cert.ForgetWeightGradIdeal.nD,
          r.2.mem ((c.tc : Thread Cert.ForgetWeightGradIdeal.nD Cert.ForgetWeightGradIdeal.τ).loc Cert.ForgetWeightGradIdeal.main_v0) = v0 c
          ∧ r.2.mem ((c.tc : Thread Cert.ForgetWeightGradIdeal.nD Cert.ForgetWeightGradIdeal.τ).loc Cert.ForgetWeightGradIdeal.main_arg0) = m ((c.tc : Thread Cert.ForgetWeightGradIdeal.nD Cert.ForgetWeightGradIdeal.τ).loc Cert.ForgetWeightGradIdeal.main_arg0)
          ∧ r.2.mem ((c.tc : Thread Cert.ForgetWeightGradIdeal.nD Cert.ForgetWeightGradIdeal.τ).loc Cert.ForgetWeightGradIdeal.main_arg1) = m ((c.tc : Thread Cert.ForgetWeightGradIdeal.nD Cert.ForgetWeightGradIdeal.τ).loc Cert.ForgetWeightGradIdeal.main_arg1))
      ∧ θ_run (Cert.ForgetProductGradIdeal.defs (F := Ideal)) (onTc (τ := Cert.ForgetProductGradIdeal.τ) (Cert.ForgetProductGradIdeal.main (F := Ideal))) ⟨m', fun _ => 0, g'⟩ (fun r => ∀ c : Dev Cert.ForgetProductGradIdeal.nD,
          r.2.mem ((c.tc : Thread Cert.ForgetProductGradIdeal.nD Cert.ForgetProductGradIdeal.τ).loc Cert.ForgetProductGradIdeal.main_v5) = v0 c
          ∧ r.2.mem ((c.tc : Thread Cert.ForgetProductGradIdeal.nD Cert.ForgetProductGradIdeal.τ).loc Cert.ForgetProductGradIdeal.main_arg0) = m' ((c.tc : Thread Cert.ForgetProductGradIdeal.nD Cert.ForgetProductGradIdeal.τ).loc Cert.ForgetProductGradIdeal.main_arg0)
          ∧ r.2.mem ((c.tc : Thread Cert.ForgetProductGradIdeal.nD Cert.ForgetProductGradIdeal.τ).loc Cert.ForgetProductGradIdeal.main_arg1) = m' ((c.tc : Thread Cert.ForgetProductGradIdeal.nD Cert.ForgetProductGradIdeal.τ).loc Cert.ForgetProductGradIdeal.main_arg1))

def preserves_ForgetProduct_ForgetProductIdeal : Prop :=
  True

def algebraic_ForgetProductIdeal_ForgetLogitsIdeal [hForgetProductIdeal : Cert.ForgetProductIdeal.Facts] [hForgetLogitsIdeal : Cert.ForgetLogitsIdeal.Facts] : Prop :=
  ∀ (m : (ℓ : Loc Cert.ForgetProductIdeal.nD Cert.ForgetProductIdeal.τ Cert.ForgetProductIdeal.sig) → Buf (Elt Ideal) ℓ) (g : Dev Cert.ForgetProductIdeal.nD → PrngReg)
    (m' : (ℓ : Loc Cert.ForgetLogitsIdeal.nD Cert.ForgetLogitsIdeal.τ Cert.ForgetLogitsIdeal.sig) → Buf (Elt Ideal) ℓ) (g' : Dev Cert.ForgetLogitsIdeal.nD → PrngReg), Pre_ForgetProductIdeal m →
    (∀ c : Dev Cert.ForgetProductIdeal.nD,
      m' ((c.tc : Thread Cert.ForgetLogitsIdeal.nD Cert.ForgetLogitsIdeal.τ).loc Cert.ForgetLogitsIdeal.main_arg0) = m ((c.tc : Thread Cert.ForgetProductIdeal.nD Cert.ForgetProductIdeal.τ).loc Cert.ForgetProductIdeal.main_arg0)
      ∧ m' ((c.tc : Thread Cert.ForgetLogitsIdeal.nD Cert.ForgetLogitsIdeal.τ).loc Cert.ForgetLogitsIdeal.main_arg1) = m ((c.tc : Thread Cert.ForgetProductIdeal.nD Cert.ForgetProductIdeal.τ).loc Cert.ForgetProductIdeal.main_arg1)) →
    ∃ (v0 : (c : Dev Cert.ForgetProductIdeal.nD) → Buf (Elt Ideal) ((c.tc : Thread Cert.ForgetProductIdeal.nD Cert.ForgetProductIdeal.τ).loc Cert.ForgetProductIdeal.main_v0)),
      θ_run (Cert.ForgetProductIdeal.defs (F := Ideal)) (onTc (τ := Cert.ForgetProductIdeal.τ) (Cert.ForgetProductIdeal.main (F := Ideal))) ⟨m, fun _ => 0, g⟩ (fun r => ∀ c : Dev Cert.ForgetProductIdeal.nD,
          r.2.mem ((c.tc : Thread Cert.ForgetProductIdeal.nD Cert.ForgetProductIdeal.τ).loc Cert.ForgetProductIdeal.main_v0) = v0 c
          ∧ r.2.mem ((c.tc : Thread Cert.ForgetProductIdeal.nD Cert.ForgetProductIdeal.τ).loc Cert.ForgetProductIdeal.main_arg0) = m ((c.tc : Thread Cert.ForgetProductIdeal.nD Cert.ForgetProductIdeal.τ).loc Cert.ForgetProductIdeal.main_arg0)
          ∧ r.2.mem ((c.tc : Thread Cert.ForgetProductIdeal.nD Cert.ForgetProductIdeal.τ).loc Cert.ForgetProductIdeal.main_arg1) = m ((c.tc : Thread Cert.ForgetProductIdeal.nD Cert.ForgetProductIdeal.τ).loc Cert.ForgetProductIdeal.main_arg1))
      ∧ θ_run (Cert.ForgetLogitsIdeal.defs (F := Ideal)) (onTc (τ := Cert.ForgetLogitsIdeal.τ) (Cert.ForgetLogitsIdeal.main (F := Ideal))) ⟨m', fun _ => 0, g'⟩ (fun r => ∀ c : Dev Cert.ForgetLogitsIdeal.nD,
          r.2.mem ((c.tc : Thread Cert.ForgetLogitsIdeal.nD Cert.ForgetLogitsIdeal.τ).loc Cert.ForgetLogitsIdeal.main_v2) = v0 c
          ∧ r.2.mem ((c.tc : Thread Cert.ForgetLogitsIdeal.nD Cert.ForgetLogitsIdeal.τ).loc Cert.ForgetLogitsIdeal.main_arg0) = m' ((c.tc : Thread Cert.ForgetLogitsIdeal.nD Cert.ForgetLogitsIdeal.τ).loc Cert.ForgetLogitsIdeal.main_arg0)
          ∧ r.2.mem ((c.tc : Thread Cert.ForgetLogitsIdeal.nD Cert.ForgetLogitsIdeal.τ).loc Cert.ForgetLogitsIdeal.main_arg1) = m' ((c.tc : Thread Cert.ForgetLogitsIdeal.nD Cert.ForgetLogitsIdeal.τ).loc Cert.ForgetLogitsIdeal.main_arg1))

def preserves_KeyValueGrad_KeyValueGradIdeal : Prop :=
  True

def algebraic_KeyValueGradIdeal_KeyValuesGradIdeal [hKeyValueGradIdeal : Cert.KeyValueGradIdeal.Facts] [hKeyValuesGradIdeal : Cert.KeyValuesGradIdeal.Facts] : Prop :=
  ∀ (m : (ℓ : Loc Cert.KeyValueGradIdeal.nD Cert.KeyValueGradIdeal.τ Cert.KeyValueGradIdeal.sig) → Buf (Elt Ideal) ℓ) (g : Dev Cert.KeyValueGradIdeal.nD → PrngReg)
    (m' : (ℓ : Loc Cert.KeyValuesGradIdeal.nD Cert.KeyValuesGradIdeal.τ Cert.KeyValuesGradIdeal.sig) → Buf (Elt Ideal) ℓ) (g' : Dev Cert.KeyValuesGradIdeal.nD → PrngReg), Pre_KeyValueGradIdeal m →
    (∀ c : Dev Cert.KeyValueGradIdeal.nD,
      m' ((c.tc : Thread Cert.KeyValuesGradIdeal.nD Cert.KeyValuesGradIdeal.τ).loc Cert.KeyValuesGradIdeal.main_arg0) = m ((c.tc : Thread Cert.KeyValueGradIdeal.nD Cert.KeyValueGradIdeal.τ).loc Cert.KeyValueGradIdeal.main_arg0)
      ∧ m' ((c.tc : Thread Cert.KeyValuesGradIdeal.nD Cert.KeyValuesGradIdeal.τ).loc Cert.KeyValuesGradIdeal.main_arg1) = m ((c.tc : Thread Cert.KeyValueGradIdeal.nD Cert.KeyValueGradIdeal.τ).loc Cert.KeyValueGradIdeal.main_arg1)
      ∧ m' ((c.tc : Thread Cert.KeyValuesGradIdeal.nD Cert.KeyValuesGradIdeal.τ).loc Cert.KeyValuesGradIdeal.main_arg2) = m ((c.tc : Thread Cert.KeyValueGradIdeal.nD Cert.KeyValueGradIdeal.τ).loc Cert.KeyValueGradIdeal.main_arg2)
      ∧ m' ((c.tc : Thread Cert.KeyValuesGradIdeal.nD Cert.KeyValuesGradIdeal.τ).loc Cert.KeyValuesGradIdeal.main_arg3) = m ((c.tc : Thread Cert.KeyValueGradIdeal.nD Cert.KeyValueGradIdeal.τ).loc Cert.KeyValueGradIdeal.main_arg3)
      ∧ m' ((c.tc : Thread Cert.KeyValuesGradIdeal.nD Cert.KeyValuesGradIdeal.τ).loc Cert.KeyValuesGradIdeal.main_arg4) = m ((c.tc : Thread Cert.KeyValueGradIdeal.nD Cert.KeyValueGradIdeal.τ).loc Cert.KeyValueGradIdeal.main_arg4)
      ∧ m' ((c.tc : Thread Cert.KeyValuesGradIdeal.nD Cert.KeyValuesGradIdeal.τ).loc Cert.KeyValuesGradIdeal.main_arg5) = m ((c.tc : Thread Cert.KeyValueGradIdeal.nD Cert.KeyValueGradIdeal.τ).loc Cert.KeyValueGradIdeal.main_arg5)) →
    ∃ (v0 : (c : Dev Cert.KeyValueGradIdeal.nD) → Buf (Elt Ideal) ((c.tc : Thread Cert.KeyValueGradIdeal.nD Cert.KeyValueGradIdeal.τ).loc Cert.KeyValueGradIdeal.main_v0)),
      θ_run (Cert.KeyValueGradIdeal.defs (F := Ideal)) (onTc (τ := Cert.KeyValueGradIdeal.τ) (Cert.KeyValueGradIdeal.main (F := Ideal))) ⟨m, fun _ => 0, g⟩ (fun r => ∀ c : Dev Cert.KeyValueGradIdeal.nD,
          r.2.mem ((c.tc : Thread Cert.KeyValueGradIdeal.nD Cert.KeyValueGradIdeal.τ).loc Cert.KeyValueGradIdeal.main_v0) = v0 c
          ∧ r.2.mem ((c.tc : Thread Cert.KeyValueGradIdeal.nD Cert.KeyValueGradIdeal.τ).loc Cert.KeyValueGradIdeal.main_arg0) = m ((c.tc : Thread Cert.KeyValueGradIdeal.nD Cert.KeyValueGradIdeal.τ).loc Cert.KeyValueGradIdeal.main_arg0)
          ∧ r.2.mem ((c.tc : Thread Cert.KeyValueGradIdeal.nD Cert.KeyValueGradIdeal.τ).loc Cert.KeyValueGradIdeal.main_arg1) = m ((c.tc : Thread Cert.KeyValueGradIdeal.nD Cert.KeyValueGradIdeal.τ).loc Cert.KeyValueGradIdeal.main_arg1)
          ∧ r.2.mem ((c.tc : Thread Cert.KeyValueGradIdeal.nD Cert.KeyValueGradIdeal.τ).loc Cert.KeyValueGradIdeal.main_arg2) = m ((c.tc : Thread Cert.KeyValueGradIdeal.nD Cert.KeyValueGradIdeal.τ).loc Cert.KeyValueGradIdeal.main_arg2)
          ∧ r.2.mem ((c.tc : Thread Cert.KeyValueGradIdeal.nD Cert.KeyValueGradIdeal.τ).loc Cert.KeyValueGradIdeal.main_arg3) = m ((c.tc : Thread Cert.KeyValueGradIdeal.nD Cert.KeyValueGradIdeal.τ).loc Cert.KeyValueGradIdeal.main_arg3)
          ∧ r.2.mem ((c.tc : Thread Cert.KeyValueGradIdeal.nD Cert.KeyValueGradIdeal.τ).loc Cert.KeyValueGradIdeal.main_arg4) = m ((c.tc : Thread Cert.KeyValueGradIdeal.nD Cert.KeyValueGradIdeal.τ).loc Cert.KeyValueGradIdeal.main_arg4)
          ∧ r.2.mem ((c.tc : Thread Cert.KeyValueGradIdeal.nD Cert.KeyValueGradIdeal.τ).loc Cert.KeyValueGradIdeal.main_arg5) = m ((c.tc : Thread Cert.KeyValueGradIdeal.nD Cert.KeyValueGradIdeal.τ).loc Cert.KeyValueGradIdeal.main_arg5))
      ∧ θ_run (Cert.KeyValuesGradIdeal.defs (F := Ideal)) (onTc (τ := Cert.KeyValuesGradIdeal.τ) (Cert.KeyValuesGradIdeal.main (F := Ideal))) ⟨m', fun _ => 0, g'⟩ (fun r => ∀ c : Dev Cert.KeyValuesGradIdeal.nD,
          r.2.mem ((c.tc : Thread Cert.KeyValuesGradIdeal.nD Cert.KeyValuesGradIdeal.τ).loc Cert.KeyValuesGradIdeal.main_v14) = v0 c
          ∧ r.2.mem ((c.tc : Thread Cert.KeyValuesGradIdeal.nD Cert.KeyValuesGradIdeal.τ).loc Cert.KeyValuesGradIdeal.main_arg0) = m' ((c.tc : Thread Cert.KeyValuesGradIdeal.nD Cert.KeyValuesGradIdeal.τ).loc Cert.KeyValuesGradIdeal.main_arg0)
          ∧ r.2.mem ((c.tc : Thread Cert.KeyValuesGradIdeal.nD Cert.KeyValuesGradIdeal.τ).loc Cert.KeyValuesGradIdeal.main_arg1) = m' ((c.tc : Thread Cert.KeyValuesGradIdeal.nD Cert.KeyValuesGradIdeal.τ).loc Cert.KeyValuesGradIdeal.main_arg1)
          ∧ r.2.mem ((c.tc : Thread Cert.KeyValuesGradIdeal.nD Cert.KeyValuesGradIdeal.τ).loc Cert.KeyValuesGradIdeal.main_arg2) = m' ((c.tc : Thread Cert.KeyValuesGradIdeal.nD Cert.KeyValuesGradIdeal.τ).loc Cert.KeyValuesGradIdeal.main_arg2)
          ∧ r.2.mem ((c.tc : Thread Cert.KeyValuesGradIdeal.nD Cert.KeyValuesGradIdeal.τ).loc Cert.KeyValuesGradIdeal.main_arg3) = m' ((c.tc : Thread Cert.KeyValuesGradIdeal.nD Cert.KeyValuesGradIdeal.τ).loc Cert.KeyValuesGradIdeal.main_arg3)
          ∧ r.2.mem ((c.tc : Thread Cert.KeyValuesGradIdeal.nD Cert.KeyValuesGradIdeal.τ).loc Cert.KeyValuesGradIdeal.main_arg4) = m' ((c.tc : Thread Cert.KeyValuesGradIdeal.nD Cert.KeyValuesGradIdeal.τ).loc Cert.KeyValuesGradIdeal.main_arg4)
          ∧ r.2.mem ((c.tc : Thread Cert.KeyValuesGradIdeal.nD Cert.KeyValuesGradIdeal.τ).loc Cert.KeyValuesGradIdeal.main_arg5) = m' ((c.tc : Thread Cert.KeyValuesGradIdeal.nD Cert.KeyValuesGradIdeal.τ).loc Cert.KeyValuesGradIdeal.main_arg5))

def preserves_ForgetSums_ForgetSumsIdeal : Prop :=
  True

def algebraic_ForgetSumsIdeal_LogSumsIdeal [hForgetSumsIdeal : Cert.ForgetSumsIdeal.Facts] [hLogSumsIdeal : Cert.LogSumsIdeal.Facts] : Prop :=
  ∀ (m : (ℓ : Loc Cert.ForgetSumsIdeal.nD Cert.ForgetSumsIdeal.τ Cert.ForgetSumsIdeal.sig) → Buf (Elt Ideal) ℓ) (g : Dev Cert.ForgetSumsIdeal.nD → PrngReg)
    (m' : (ℓ : Loc Cert.LogSumsIdeal.nD Cert.LogSumsIdeal.τ Cert.LogSumsIdeal.sig) → Buf (Elt Ideal) ℓ) (g' : Dev Cert.LogSumsIdeal.nD → PrngReg), Pre_ForgetSumsIdeal m →
    (∀ c : Dev Cert.ForgetSumsIdeal.nD,
      m' ((c.tc : Thread Cert.LogSumsIdeal.nD Cert.LogSumsIdeal.τ).loc Cert.LogSumsIdeal.main_arg0) = m ((c.tc : Thread Cert.ForgetSumsIdeal.nD Cert.ForgetSumsIdeal.τ).loc Cert.ForgetSumsIdeal.main_arg0)
      ∧ m' ((c.tc : Thread Cert.LogSumsIdeal.nD Cert.LogSumsIdeal.τ).loc Cert.LogSumsIdeal.main_arg1) = m ((c.tc : Thread Cert.ForgetSumsIdeal.nD Cert.ForgetSumsIdeal.τ).loc Cert.ForgetSumsIdeal.main_arg1)) →
    ∃ (v0 : (c : Dev Cert.ForgetSumsIdeal.nD) → Buf (Elt Ideal) ((c.tc : Thread Cert.ForgetSumsIdeal.nD Cert.ForgetSumsIdeal.τ).loc Cert.ForgetSumsIdeal.main_v0)),
      θ_run (Cert.ForgetSumsIdeal.defs (F := Ideal)) (onTc (τ := Cert.ForgetSumsIdeal.τ) (Cert.ForgetSumsIdeal.main (F := Ideal))) ⟨m, fun _ => 0, g⟩ (fun r => ∀ c : Dev Cert.ForgetSumsIdeal.nD,
          r.2.mem ((c.tc : Thread Cert.ForgetSumsIdeal.nD Cert.ForgetSumsIdeal.τ).loc Cert.ForgetSumsIdeal.main_v0) = v0 c
          ∧ r.2.mem ((c.tc : Thread Cert.ForgetSumsIdeal.nD Cert.ForgetSumsIdeal.τ).loc Cert.ForgetSumsIdeal.main_arg0) = m ((c.tc : Thread Cert.ForgetSumsIdeal.nD Cert.ForgetSumsIdeal.τ).loc Cert.ForgetSumsIdeal.main_arg0)
          ∧ r.2.mem ((c.tc : Thread Cert.ForgetSumsIdeal.nD Cert.ForgetSumsIdeal.τ).loc Cert.ForgetSumsIdeal.main_arg1) = m ((c.tc : Thread Cert.ForgetSumsIdeal.nD Cert.ForgetSumsIdeal.τ).loc Cert.ForgetSumsIdeal.main_arg1))
      ∧ θ_run (Cert.LogSumsIdeal.defs (F := Ideal)) (onTc (τ := Cert.LogSumsIdeal.τ) (Cert.LogSumsIdeal.main (F := Ideal))) ⟨m', fun _ => 0, g'⟩ (fun r => ∀ c : Dev Cert.LogSumsIdeal.nD,
          r.2.mem ((c.tc : Thread Cert.LogSumsIdeal.nD Cert.LogSumsIdeal.τ).loc Cert.LogSumsIdeal.main_v3) = v0 c
          ∧ r.2.mem ((c.tc : Thread Cert.LogSumsIdeal.nD Cert.LogSumsIdeal.τ).loc Cert.LogSumsIdeal.main_arg0) = m' ((c.tc : Thread Cert.LogSumsIdeal.nD Cert.LogSumsIdeal.τ).loc Cert.LogSumsIdeal.main_arg0)
          ∧ r.2.mem ((c.tc : Thread Cert.LogSumsIdeal.nD Cert.LogSumsIdeal.τ).loc Cert.LogSumsIdeal.main_arg1) = m' ((c.tc : Thread Cert.LogSumsIdeal.nD Cert.LogSumsIdeal.τ).loc Cert.LogSumsIdeal.main_arg1))

def preserves_ForgetGrad_ForgetGradIdeal : Prop :=
  True

def algebraic_ForgetGradIdeal_LogSumsGradIdeal [hForgetGradIdeal : Cert.ForgetGradIdeal.Facts] [hLogSumsGradIdeal : Cert.LogSumsGradIdeal.Facts] : Prop :=
  ∀ (m : (ℓ : Loc Cert.ForgetGradIdeal.nD Cert.ForgetGradIdeal.τ Cert.ForgetGradIdeal.sig) → Buf (Elt Ideal) ℓ) (g : Dev Cert.ForgetGradIdeal.nD → PrngReg)
    (m' : (ℓ : Loc Cert.LogSumsGradIdeal.nD Cert.LogSumsGradIdeal.τ Cert.LogSumsGradIdeal.sig) → Buf (Elt Ideal) ℓ) (g' : Dev Cert.LogSumsGradIdeal.nD → PrngReg), Pre_ForgetGradIdeal m →
    (∀ c : Dev Cert.ForgetGradIdeal.nD,
      m' ((c.tc : Thread Cert.LogSumsGradIdeal.nD Cert.LogSumsGradIdeal.τ).loc Cert.LogSumsGradIdeal.main_arg0) = m ((c.tc : Thread Cert.ForgetGradIdeal.nD Cert.ForgetGradIdeal.τ).loc Cert.ForgetGradIdeal.main_arg0)
      ∧ m' ((c.tc : Thread Cert.LogSumsGradIdeal.nD Cert.LogSumsGradIdeal.τ).loc Cert.LogSumsGradIdeal.main_arg1) = m ((c.tc : Thread Cert.ForgetGradIdeal.nD Cert.ForgetGradIdeal.τ).loc Cert.ForgetGradIdeal.main_arg1)
      ∧ m' ((c.tc : Thread Cert.LogSumsGradIdeal.nD Cert.LogSumsGradIdeal.τ).loc Cert.LogSumsGradIdeal.main_arg2) = m ((c.tc : Thread Cert.ForgetGradIdeal.nD Cert.ForgetGradIdeal.τ).loc Cert.ForgetGradIdeal.main_arg2)) →
    ∃ (v0 : (c : Dev Cert.ForgetGradIdeal.nD) → Buf (Elt Ideal) ((c.tc : Thread Cert.ForgetGradIdeal.nD Cert.ForgetGradIdeal.τ).loc Cert.ForgetGradIdeal.main_v0_0)) (v1 : (c : Dev Cert.ForgetGradIdeal.nD) → Buf (Elt Ideal) ((c.tc : Thread Cert.ForgetGradIdeal.nD Cert.ForgetGradIdeal.τ).loc Cert.ForgetGradIdeal.main_v0_1)),
      θ_run (Cert.ForgetGradIdeal.defs (F := Ideal)) (onTc (τ := Cert.ForgetGradIdeal.τ) (Cert.ForgetGradIdeal.main (F := Ideal))) ⟨m, fun _ => 0, g⟩ (fun r => ∀ c : Dev Cert.ForgetGradIdeal.nD,
          r.2.mem ((c.tc : Thread Cert.ForgetGradIdeal.nD Cert.ForgetGradIdeal.τ).loc Cert.ForgetGradIdeal.main_v0_0) = v0 c
          ∧ r.2.mem ((c.tc : Thread Cert.ForgetGradIdeal.nD Cert.ForgetGradIdeal.τ).loc Cert.ForgetGradIdeal.main_v0_1) = v1 c
          ∧ r.2.mem ((c.tc : Thread Cert.ForgetGradIdeal.nD Cert.ForgetGradIdeal.τ).loc Cert.ForgetGradIdeal.main_arg0) = m ((c.tc : Thread Cert.ForgetGradIdeal.nD Cert.ForgetGradIdeal.τ).loc Cert.ForgetGradIdeal.main_arg0)
          ∧ r.2.mem ((c.tc : Thread Cert.ForgetGradIdeal.nD Cert.ForgetGradIdeal.τ).loc Cert.ForgetGradIdeal.main_arg1) = m ((c.tc : Thread Cert.ForgetGradIdeal.nD Cert.ForgetGradIdeal.τ).loc Cert.ForgetGradIdeal.main_arg1)
          ∧ r.2.mem ((c.tc : Thread Cert.ForgetGradIdeal.nD Cert.ForgetGradIdeal.τ).loc Cert.ForgetGradIdeal.main_arg2) = m ((c.tc : Thread Cert.ForgetGradIdeal.nD Cert.ForgetGradIdeal.τ).loc Cert.ForgetGradIdeal.main_arg2))
      ∧ θ_run (Cert.LogSumsGradIdeal.defs (F := Ideal)) (onTc (τ := Cert.LogSumsGradIdeal.τ) (Cert.LogSumsGradIdeal.main (F := Ideal))) ⟨m', fun _ => 0, g'⟩ (fun r => ∀ c : Dev Cert.LogSumsGradIdeal.nD,
          r.2.mem ((c.tc : Thread Cert.LogSumsGradIdeal.nD Cert.LogSumsGradIdeal.τ).loc Cert.LogSumsGradIdeal.main_v8) = v0 c
          ∧ r.2.mem ((c.tc : Thread Cert.LogSumsGradIdeal.nD Cert.LogSumsGradIdeal.τ).loc Cert.LogSumsGradIdeal.main_v9) = v1 c
          ∧ r.2.mem ((c.tc : Thread Cert.LogSumsGradIdeal.nD Cert.LogSumsGradIdeal.τ).loc Cert.LogSumsGradIdeal.main_arg0) = m' ((c.tc : Thread Cert.LogSumsGradIdeal.nD Cert.LogSumsGradIdeal.τ).loc Cert.LogSumsGradIdeal.main_arg0)
          ∧ r.2.mem ((c.tc : Thread Cert.LogSumsGradIdeal.nD Cert.LogSumsGradIdeal.τ).loc Cert.LogSumsGradIdeal.main_arg1) = m' ((c.tc : Thread Cert.LogSumsGradIdeal.nD Cert.LogSumsGradIdeal.τ).loc Cert.LogSumsGradIdeal.main_arg1)
          ∧ r.2.mem ((c.tc : Thread Cert.LogSumsGradIdeal.nD Cert.LogSumsGradIdeal.τ).loc Cert.LogSumsGradIdeal.main_arg2) = m' ((c.tc : Thread Cert.LogSumsGradIdeal.nD Cert.LogSumsGradIdeal.τ).loc Cert.LogSumsGradIdeal.main_arg2))

def Claim : Prop :=
  ∃ (hKernel : Cert.Kernel.Facts) (hKernelIdeal : Cert.KernelIdeal.Facts) (hReferenceIdeal : Cert.ReferenceIdeal.Facts) (hGatherWeights : Cert.GatherWeights.Facts) (hGatherWeightsIdeal : Cert.GatherWeightsIdeal.Facts) (hGatheredIdeal : Cert.GatheredIdeal.Facts) (hGathered : Cert.Gathered.Facts) (hUpdateRest : Cert.UpdateRest.Facts) (hUpdateRestIdeal : Cert.UpdateRestIdeal.Facts) (hUpdatedIdeal : Cert.UpdatedIdeal.Facts) (hSumPartials : Cert.SumPartials.Facts) (hSumPartialsIdeal : Cert.SumPartialsIdeal.Facts) (hSummedIdeal : Cert.SummedIdeal.Facts) (hGatherSmall : Cert.GatherSmall.Facts) (hGatherSmallIdeal : Cert.GatherSmallIdeal.Facts) (hSmallBlocksIdeal : Cert.SmallBlocksIdeal.Facts) (hSmallBlocks : Cert.SmallBlocks.Facts) (hGatherAda : Cert.GatherAda.Facts) (hGatherAdaIdeal : Cert.GatherAdaIdeal.Facts) (hAdaBlocksIdeal : Cert.AdaBlocksIdeal.Facts) (hAdaBlocks : Cert.AdaBlocks.Facts) (hAdaGrad : Cert.AdaGrad.Facts) (hAdaGradIdeal : Cert.AdaGradIdeal.Facts) (hConditionGradIdeal : Cert.ConditionGradIdeal.Facts) (hNormGrad : Cert.NormGrad.Facts) (hNormGradIdeal : Cert.NormGradIdeal.Facts) (hInputGradIdeal : Cert.InputGradIdeal.Facts) (hLossGrad : Cert.LossGrad.Facts) (hLossGradIdeal : Cert.LossGradIdeal.Facts) (hLossDerivativeIdeal : Cert.LossDerivativeIdeal.Facts) (hFfn : Cert.Ffn.Facts) (hFfnIdeal : Cert.FfnIdeal.Facts) (hMixedIdeal : Cert.MixedIdeal.Facts) (hResidualGrad : Cert.ResidualGrad.Facts) (hResidualGradIdeal : Cert.ResidualGradIdeal.Facts) (hGatedGradIdeal : Cert.GatedGradIdeal.Facts) (hActGrad : Cert.ActGrad.Facts) (hActGradIdeal : Cert.ActGradIdeal.Facts) (hSwigluGradIdeal : Cert.SwigluGradIdeal.Facts) (hHiddenGrad : Cert.HiddenGrad.Facts) (hHiddenGradIdeal : Cert.HiddenGradIdeal.Facts) (hProductsGradIdeal : Cert.ProductsGradIdeal.Facts) (hWeightGrad : Cert.WeightGrad.Facts) (hWeightGradIdeal : Cert.WeightGradIdeal.Facts) (hProductGradIdeal : Cert.ProductGradIdeal.Facts) (hOutGrad : Cert.OutGrad.Facts) (hOutGradIdeal : Cert.OutGradIdeal.Facts) (hOutProductGradIdeal : Cert.OutProductGradIdeal.Facts) (hSquareGrad : Cert.SquareGrad.Facts) (hSquareGradIdeal : Cert.SquareGradIdeal.Facts) (hSquareProductGradIdeal : Cert.SquareProductGradIdeal.Facts) (hGluIn : Cert.GluIn.Facts) (hGluInIdeal : Cert.GluInIdeal.Facts) (hGluIdeal : Cert.GluIdeal.Facts) (hResidualOut : Cert.ResidualOut.Facts) (hResidualOutIdeal : Cert.ResidualOutIdeal.Facts) (hResidualIdeal : Cert.ResidualIdeal.Facts) (hKeyProduct : Cert.KeyProduct.Facts) (hKeyProductIdeal : Cert.KeyProductIdeal.Facts) (hKeysIdeal : Cert.KeysIdeal.Facts) (hQueryProduct : Cert.QueryProduct.Facts) (hQueryProductIdeal : Cert.QueryProductIdeal.Facts) (hQueriesIdeal : Cert.QueriesIdeal.Facts) (hHeadGrad : Cert.HeadGrad.Facts) (hHeadGradIdeal : Cert.HeadGradIdeal.Facts) (hHeadProductGradIdeal : Cert.HeadProductGradIdeal.Facts) (hConvGrad : Cert.ConvGrad.Facts) (hConvGradIdeal : Cert.ConvGradIdeal.Facts) (hConvProductsGradIdeal : Cert.ConvProductsGradIdeal.Facts) (hAdaImages : Cert.AdaImages.Facts) (hAdaImagesIdeal : Cert.AdaImagesIdeal.Facts) (hImagesIdeal : Cert.ImagesIdeal.Facts) (hNormOut : Cert.NormOut.Facts) (hNormOutIdeal : Cert.NormOutIdeal.Facts) (hNormedIdeal : Cert.NormedIdeal.Facts) (hMixedGrad : Cert.MixedGrad.Facts) (hMixedGradIdeal : Cert.MixedGradIdeal.Facts) (hMixedFactorGradIdeal : Cert.MixedFactorGradIdeal.Facts) (hQueryGrad : Cert.QueryGrad.Facts) (hQueryGradIdeal : Cert.QueryGradIdeal.Facts) (hQueryFactorGradIdeal : Cert.QueryFactorGradIdeal.Facts) (hQueryWeightGrad : Cert.QueryWeightGrad.Facts) (hQueryWeightGradIdeal : Cert.QueryWeightGradIdeal.Facts) (hQueryProductGradIdeal : Cert.QueryProductGradIdeal.Facts) (hForgetWeightGrad : Cert.ForgetWeightGrad.Facts) (hForgetWeightGradIdeal : Cert.ForgetWeightGradIdeal.Facts) (hForgetProductGradIdeal : Cert.ForgetProductGradIdeal.Facts) (hForgetProduct : Cert.ForgetProduct.Facts) (hForgetProductIdeal : Cert.ForgetProductIdeal.Facts) (hForgetLogitsIdeal : Cert.ForgetLogitsIdeal.Facts) (hKeyValueGrad : Cert.KeyValueGrad.Facts) (hKeyValueGradIdeal : Cert.KeyValueGradIdeal.Facts) (hKeyValuesGradIdeal : Cert.KeyValuesGradIdeal.Facts) (hForgetSums : Cert.ForgetSums.Facts) (hForgetSumsIdeal : Cert.ForgetSumsIdeal.Facts) (hLogSumsIdeal : Cert.LogSumsIdeal.Facts) (hForgetGrad : Cert.ForgetGrad.Facts) (hForgetGradIdeal : Cert.ForgetGradIdeal.Facts) (hLogSumsGradIdeal : Cert.LogSumsGradIdeal.Facts),
    quiescent_Kernel (hKernel := hKernel)
    ∧ quiescent_KernelIdeal (hKernelIdeal := hKernelIdeal)
    ∧ quiescent_ReferenceIdeal (hReferenceIdeal := hReferenceIdeal)
    ∧ quiescent_GatherWeights (hGatherWeights := hGatherWeights)
    ∧ quiescent_GatherWeightsIdeal (hGatherWeightsIdeal := hGatherWeightsIdeal)
    ∧ quiescent_GatheredIdeal (hGatheredIdeal := hGatheredIdeal)
    ∧ quiescent_Gathered (hGathered := hGathered)
    ∧ quiescent_UpdateRest (hUpdateRest := hUpdateRest)
    ∧ quiescent_UpdateRestIdeal (hUpdateRestIdeal := hUpdateRestIdeal)
    ∧ quiescent_UpdatedIdeal (hUpdatedIdeal := hUpdatedIdeal)
    ∧ quiescent_SumPartials (hSumPartials := hSumPartials)
    ∧ quiescent_SumPartialsIdeal (hSumPartialsIdeal := hSumPartialsIdeal)
    ∧ quiescent_SummedIdeal (hSummedIdeal := hSummedIdeal)
    ∧ quiescent_GatherSmall (hGatherSmall := hGatherSmall)
    ∧ quiescent_GatherSmallIdeal (hGatherSmallIdeal := hGatherSmallIdeal)
    ∧ quiescent_SmallBlocksIdeal (hSmallBlocksIdeal := hSmallBlocksIdeal)
    ∧ quiescent_SmallBlocks (hSmallBlocks := hSmallBlocks)
    ∧ quiescent_GatherAda (hGatherAda := hGatherAda)
    ∧ quiescent_GatherAdaIdeal (hGatherAdaIdeal := hGatherAdaIdeal)
    ∧ quiescent_AdaBlocksIdeal (hAdaBlocksIdeal := hAdaBlocksIdeal)
    ∧ quiescent_AdaBlocks (hAdaBlocks := hAdaBlocks)
    ∧ quiescent_AdaGrad (hAdaGrad := hAdaGrad)
    ∧ quiescent_AdaGradIdeal (hAdaGradIdeal := hAdaGradIdeal)
    ∧ quiescent_ConditionGradIdeal (hConditionGradIdeal := hConditionGradIdeal)
    ∧ quiescent_NormGrad (hNormGrad := hNormGrad)
    ∧ quiescent_NormGradIdeal (hNormGradIdeal := hNormGradIdeal)
    ∧ quiescent_InputGradIdeal (hInputGradIdeal := hInputGradIdeal)
    ∧ quiescent_LossGrad (hLossGrad := hLossGrad)
    ∧ quiescent_LossGradIdeal (hLossGradIdeal := hLossGradIdeal)
    ∧ quiescent_LossDerivativeIdeal (hLossDerivativeIdeal := hLossDerivativeIdeal)
    ∧ quiescent_Ffn (hFfn := hFfn)
    ∧ quiescent_FfnIdeal (hFfnIdeal := hFfnIdeal)
    ∧ quiescent_MixedIdeal (hMixedIdeal := hMixedIdeal)
    ∧ quiescent_ResidualGrad (hResidualGrad := hResidualGrad)
    ∧ quiescent_ResidualGradIdeal (hResidualGradIdeal := hResidualGradIdeal)
    ∧ quiescent_GatedGradIdeal (hGatedGradIdeal := hGatedGradIdeal)
    ∧ quiescent_ActGrad (hActGrad := hActGrad)
    ∧ quiescent_ActGradIdeal (hActGradIdeal := hActGradIdeal)
    ∧ quiescent_SwigluGradIdeal (hSwigluGradIdeal := hSwigluGradIdeal)
    ∧ quiescent_HiddenGrad (hHiddenGrad := hHiddenGrad)
    ∧ quiescent_HiddenGradIdeal (hHiddenGradIdeal := hHiddenGradIdeal)
    ∧ quiescent_ProductsGradIdeal (hProductsGradIdeal := hProductsGradIdeal)
    ∧ quiescent_WeightGrad (hWeightGrad := hWeightGrad)
    ∧ quiescent_WeightGradIdeal (hWeightGradIdeal := hWeightGradIdeal)
    ∧ quiescent_ProductGradIdeal (hProductGradIdeal := hProductGradIdeal)
    ∧ quiescent_OutGrad (hOutGrad := hOutGrad)
    ∧ quiescent_OutGradIdeal (hOutGradIdeal := hOutGradIdeal)
    ∧ quiescent_OutProductGradIdeal (hOutProductGradIdeal := hOutProductGradIdeal)
    ∧ quiescent_SquareGrad (hSquareGrad := hSquareGrad)
    ∧ quiescent_SquareGradIdeal (hSquareGradIdeal := hSquareGradIdeal)
    ∧ quiescent_SquareProductGradIdeal (hSquareProductGradIdeal := hSquareProductGradIdeal)
    ∧ quiescent_GluIn (hGluIn := hGluIn)
    ∧ quiescent_GluInIdeal (hGluInIdeal := hGluInIdeal)
    ∧ quiescent_GluIdeal (hGluIdeal := hGluIdeal)
    ∧ quiescent_ResidualOut (hResidualOut := hResidualOut)
    ∧ quiescent_ResidualOutIdeal (hResidualOutIdeal := hResidualOutIdeal)
    ∧ quiescent_ResidualIdeal (hResidualIdeal := hResidualIdeal)
    ∧ quiescent_KeyProduct (hKeyProduct := hKeyProduct)
    ∧ quiescent_KeyProductIdeal (hKeyProductIdeal := hKeyProductIdeal)
    ∧ quiescent_KeysIdeal (hKeysIdeal := hKeysIdeal)
    ∧ quiescent_QueryProduct (hQueryProduct := hQueryProduct)
    ∧ quiescent_QueryProductIdeal (hQueryProductIdeal := hQueryProductIdeal)
    ∧ quiescent_QueriesIdeal (hQueriesIdeal := hQueriesIdeal)
    ∧ quiescent_HeadGrad (hHeadGrad := hHeadGrad)
    ∧ quiescent_HeadGradIdeal (hHeadGradIdeal := hHeadGradIdeal)
    ∧ quiescent_HeadProductGradIdeal (hHeadProductGradIdeal := hHeadProductGradIdeal)
    ∧ quiescent_ConvGrad (hConvGrad := hConvGrad)
    ∧ quiescent_ConvGradIdeal (hConvGradIdeal := hConvGradIdeal)
    ∧ quiescent_ConvProductsGradIdeal (hConvProductsGradIdeal := hConvProductsGradIdeal)
    ∧ quiescent_AdaImages (hAdaImages := hAdaImages)
    ∧ quiescent_AdaImagesIdeal (hAdaImagesIdeal := hAdaImagesIdeal)
    ∧ quiescent_ImagesIdeal (hImagesIdeal := hImagesIdeal)
    ∧ quiescent_NormOut (hNormOut := hNormOut)
    ∧ quiescent_NormOutIdeal (hNormOutIdeal := hNormOutIdeal)
    ∧ quiescent_NormedIdeal (hNormedIdeal := hNormedIdeal)
    ∧ quiescent_MixedGrad (hMixedGrad := hMixedGrad)
    ∧ quiescent_MixedGradIdeal (hMixedGradIdeal := hMixedGradIdeal)
    ∧ quiescent_MixedFactorGradIdeal (hMixedFactorGradIdeal := hMixedFactorGradIdeal)
    ∧ quiescent_QueryGrad (hQueryGrad := hQueryGrad)
    ∧ quiescent_QueryGradIdeal (hQueryGradIdeal := hQueryGradIdeal)
    ∧ quiescent_QueryFactorGradIdeal (hQueryFactorGradIdeal := hQueryFactorGradIdeal)
    ∧ quiescent_QueryWeightGrad (hQueryWeightGrad := hQueryWeightGrad)
    ∧ quiescent_QueryWeightGradIdeal (hQueryWeightGradIdeal := hQueryWeightGradIdeal)
    ∧ quiescent_QueryProductGradIdeal (hQueryProductGradIdeal := hQueryProductGradIdeal)
    ∧ quiescent_ForgetWeightGrad (hForgetWeightGrad := hForgetWeightGrad)
    ∧ quiescent_ForgetWeightGradIdeal (hForgetWeightGradIdeal := hForgetWeightGradIdeal)
    ∧ quiescent_ForgetProductGradIdeal (hForgetProductGradIdeal := hForgetProductGradIdeal)
    ∧ quiescent_ForgetProduct (hForgetProduct := hForgetProduct)
    ∧ quiescent_ForgetProductIdeal (hForgetProductIdeal := hForgetProductIdeal)
    ∧ quiescent_ForgetLogitsIdeal (hForgetLogitsIdeal := hForgetLogitsIdeal)
    ∧ quiescent_KeyValueGrad (hKeyValueGrad := hKeyValueGrad)
    ∧ quiescent_KeyValueGradIdeal (hKeyValueGradIdeal := hKeyValueGradIdeal)
    ∧ quiescent_KeyValuesGradIdeal (hKeyValuesGradIdeal := hKeyValuesGradIdeal)
    ∧ quiescent_ForgetSums (hForgetSums := hForgetSums)
    ∧ quiescent_ForgetSumsIdeal (hForgetSumsIdeal := hForgetSumsIdeal)
    ∧ quiescent_LogSumsIdeal (hLogSumsIdeal := hLogSumsIdeal)
    ∧ quiescent_ForgetGrad (hForgetGrad := hForgetGrad)
    ∧ quiescent_ForgetGradIdeal (hForgetGradIdeal := hForgetGradIdeal)
    ∧ quiescent_LogSumsGradIdeal (hLogSumsGradIdeal := hLogSumsGradIdeal)
    ∧ preserves_Kernel_KernelIdeal
    ∧ algebraic_KernelIdeal_ReferenceIdeal (hKernelIdeal := hKernelIdeal) (hReferenceIdeal := hReferenceIdeal)
    ∧ preserves_GatherWeights_GatherWeightsIdeal
    ∧ algebraic_GatherWeightsIdeal_GatheredIdeal (hGatherWeightsIdeal := hGatherWeightsIdeal) (hGatheredIdeal := hGatheredIdeal)
    ∧ bitexact_GatherWeights_Gathered (hGatherWeights := hGatherWeights) (hGathered := hGathered)
    ∧ preserves_UpdateRest_UpdateRestIdeal
    ∧ algebraic_UpdateRestIdeal_UpdatedIdeal (hUpdateRestIdeal := hUpdateRestIdeal) (hUpdatedIdeal := hUpdatedIdeal)
    ∧ preserves_SumPartials_SumPartialsIdeal
    ∧ algebraic_SumPartialsIdeal_SummedIdeal (hSumPartialsIdeal := hSumPartialsIdeal) (hSummedIdeal := hSummedIdeal)
    ∧ preserves_GatherSmall_GatherSmallIdeal
    ∧ algebraic_GatherSmallIdeal_SmallBlocksIdeal (hGatherSmallIdeal := hGatherSmallIdeal) (hSmallBlocksIdeal := hSmallBlocksIdeal)
    ∧ bitexact_GatherSmall_SmallBlocks (hGatherSmall := hGatherSmall) (hSmallBlocks := hSmallBlocks)
    ∧ preserves_GatherAda_GatherAdaIdeal
    ∧ algebraic_GatherAdaIdeal_AdaBlocksIdeal (hGatherAdaIdeal := hGatherAdaIdeal) (hAdaBlocksIdeal := hAdaBlocksIdeal)
    ∧ bitexact_GatherAda_AdaBlocks (hGatherAda := hGatherAda) (hAdaBlocks := hAdaBlocks)
    ∧ preserves_AdaGrad_AdaGradIdeal
    ∧ algebraic_AdaGradIdeal_ConditionGradIdeal (hAdaGradIdeal := hAdaGradIdeal) (hConditionGradIdeal := hConditionGradIdeal)
    ∧ preserves_NormGrad_NormGradIdeal
    ∧ algebraic_NormGradIdeal_InputGradIdeal (hNormGradIdeal := hNormGradIdeal) (hInputGradIdeal := hInputGradIdeal)
    ∧ preserves_LossGrad_LossGradIdeal
    ∧ algebraic_LossGradIdeal_LossDerivativeIdeal (hLossGradIdeal := hLossGradIdeal) (hLossDerivativeIdeal := hLossDerivativeIdeal)
    ∧ preserves_Ffn_FfnIdeal
    ∧ algebraic_FfnIdeal_MixedIdeal (hFfnIdeal := hFfnIdeal) (hMixedIdeal := hMixedIdeal)
    ∧ preserves_ResidualGrad_ResidualGradIdeal
    ∧ algebraic_ResidualGradIdeal_GatedGradIdeal (hResidualGradIdeal := hResidualGradIdeal) (hGatedGradIdeal := hGatedGradIdeal)
    ∧ preserves_ActGrad_ActGradIdeal
    ∧ algebraic_ActGradIdeal_SwigluGradIdeal (hActGradIdeal := hActGradIdeal) (hSwigluGradIdeal := hSwigluGradIdeal)
    ∧ preserves_HiddenGrad_HiddenGradIdeal
    ∧ algebraic_HiddenGradIdeal_ProductsGradIdeal (hHiddenGradIdeal := hHiddenGradIdeal) (hProductsGradIdeal := hProductsGradIdeal)
    ∧ preserves_WeightGrad_WeightGradIdeal
    ∧ algebraic_WeightGradIdeal_ProductGradIdeal (hWeightGradIdeal := hWeightGradIdeal) (hProductGradIdeal := hProductGradIdeal)
    ∧ preserves_OutGrad_OutGradIdeal
    ∧ algebraic_OutGradIdeal_OutProductGradIdeal (hOutGradIdeal := hOutGradIdeal) (hOutProductGradIdeal := hOutProductGradIdeal)
    ∧ preserves_SquareGrad_SquareGradIdeal
    ∧ algebraic_SquareGradIdeal_SquareProductGradIdeal (hSquareGradIdeal := hSquareGradIdeal) (hSquareProductGradIdeal := hSquareProductGradIdeal)
    ∧ preserves_GluIn_GluInIdeal
    ∧ algebraic_GluInIdeal_GluIdeal (hGluInIdeal := hGluInIdeal) (hGluIdeal := hGluIdeal)
    ∧ preserves_ResidualOut_ResidualOutIdeal
    ∧ algebraic_ResidualOutIdeal_ResidualIdeal (hResidualOutIdeal := hResidualOutIdeal) (hResidualIdeal := hResidualIdeal)
    ∧ preserves_KeyProduct_KeyProductIdeal
    ∧ algebraic_KeyProductIdeal_KeysIdeal (hKeyProductIdeal := hKeyProductIdeal) (hKeysIdeal := hKeysIdeal)
    ∧ preserves_QueryProduct_QueryProductIdeal
    ∧ algebraic_QueryProductIdeal_QueriesIdeal (hQueryProductIdeal := hQueryProductIdeal) (hQueriesIdeal := hQueriesIdeal)
    ∧ preserves_HeadGrad_HeadGradIdeal
    ∧ algebraic_HeadGradIdeal_HeadProductGradIdeal (hHeadGradIdeal := hHeadGradIdeal) (hHeadProductGradIdeal := hHeadProductGradIdeal)
    ∧ preserves_ConvGrad_ConvGradIdeal
    ∧ algebraic_ConvGradIdeal_ConvProductsGradIdeal (hConvGradIdeal := hConvGradIdeal) (hConvProductsGradIdeal := hConvProductsGradIdeal)
    ∧ preserves_AdaImages_AdaImagesIdeal
    ∧ algebraic_AdaImagesIdeal_ImagesIdeal (hAdaImagesIdeal := hAdaImagesIdeal) (hImagesIdeal := hImagesIdeal)
    ∧ preserves_NormOut_NormOutIdeal
    ∧ algebraic_NormOutIdeal_NormedIdeal (hNormOutIdeal := hNormOutIdeal) (hNormedIdeal := hNormedIdeal)
    ∧ preserves_MixedGrad_MixedGradIdeal
    ∧ algebraic_MixedGradIdeal_MixedFactorGradIdeal (hMixedGradIdeal := hMixedGradIdeal) (hMixedFactorGradIdeal := hMixedFactorGradIdeal)
    ∧ preserves_QueryGrad_QueryGradIdeal
    ∧ algebraic_QueryGradIdeal_QueryFactorGradIdeal (hQueryGradIdeal := hQueryGradIdeal) (hQueryFactorGradIdeal := hQueryFactorGradIdeal)
    ∧ preserves_QueryWeightGrad_QueryWeightGradIdeal
    ∧ algebraic_QueryWeightGradIdeal_QueryProductGradIdeal (hQueryWeightGradIdeal := hQueryWeightGradIdeal) (hQueryProductGradIdeal := hQueryProductGradIdeal)
    ∧ preserves_ForgetWeightGrad_ForgetWeightGradIdeal
    ∧ algebraic_ForgetWeightGradIdeal_ForgetProductGradIdeal (hForgetWeightGradIdeal := hForgetWeightGradIdeal) (hForgetProductGradIdeal := hForgetProductGradIdeal)
    ∧ preserves_ForgetProduct_ForgetProductIdeal
    ∧ algebraic_ForgetProductIdeal_ForgetLogitsIdeal (hForgetProductIdeal := hForgetProductIdeal) (hForgetLogitsIdeal := hForgetLogitsIdeal)
    ∧ preserves_KeyValueGrad_KeyValueGradIdeal
    ∧ algebraic_KeyValueGradIdeal_KeyValuesGradIdeal (hKeyValueGradIdeal := hKeyValueGradIdeal) (hKeyValuesGradIdeal := hKeyValuesGradIdeal)
    ∧ preserves_ForgetSums_ForgetSumsIdeal
    ∧ algebraic_ForgetSumsIdeal_LogSumsIdeal (hForgetSumsIdeal := hForgetSumsIdeal) (hLogSumsIdeal := hLogSumsIdeal)
    ∧ preserves_ForgetGrad_ForgetGradIdeal
    ∧ algebraic_ForgetGradIdeal_LogSumsGradIdeal (hForgetGradIdeal := hForgetGradIdeal) (hLogSumsGradIdeal := hLogSumsGradIdeal)
-- ==== Kernel.lean ====
abbrev S8x3072x1024 : Shape := ⟨3, ![8, 3072, 1024]⟩
abbrev S3072x1024 : Shape := ⟨2, ![3072, 1024]⟩
abbrev S7 : Shape := ⟨1, ![7]⟩
abbrev S_ : Shape := ⟨0, ![]⟩
abbrev S1x3072x1024 : Shape := ⟨3, ![1, 3072, 1024]⟩
abbrev S1 : Shape := ⟨1, ![1]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x3072x1024, .bf16⟩
  | .hbm, ⟨1, _⟩ => ⟨S3072x1024, .f32⟩
  | .hbm, ⟨2, _⟩ => ⟨S3072x1024, .f32⟩
  | .hbm, ⟨3, _⟩ => ⟨S3072x1024, .f32⟩
  | .hbm, ⟨4, _⟩ => ⟨S8x3072x1024, .bf16⟩
  | .hbm, ⟨5, _⟩ => ⟨S3072x1024, .f32⟩
  | .hbm, ⟨6, _⟩ => ⟨S3072x1024, .f32⟩
  | .hbm, ⟨7, _⟩ => ⟨S3072x1024, .f32⟩
  | .hbm, ⟨8, _⟩ => ⟨S3072x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x3072x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v21 : BitVec 32 := Scalar.addi v20 v17
  let c0_i32_19 : BitVec 32 := 0#32
  let c0_i32_20 : BitVec 32 := 0#32
  ![v21.toNat, 0, 0]
def k0_dev1 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v22 : BitVec 32 := Scalar.muli v2 c4_i32_13
  let v23 : BitVec 32 := Scalar.addi c0_i32_14 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v24 : BitVec 32 := Scalar.muli v5 c2_i32_15
  let v25 : BitVec 32 := Scalar.addi v23 v24
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_16 : BitVec 32 := 1#32
  let v26 : BitVec 32 := Scalar.muli v17 c1_i32_16
  let v27 : BitVec 32 := Scalar.addi v25 v26
  v27.toNat
def k0_off3 (d0 : Dev nD) : Fin 3 → Nat :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.muli c4_i32_22 v2
  let c2_i32_23 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_21 v5
  let v38 : BitVec 32 := Scalar.muli c2_i32_23 v36
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.addi v39 v8
  let c0_i32_32 : BitVec 32 := 0#32
  let c0_i32_33 : BitVec 32 := 0#32
  ![v40.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v41 : BitVec 32 := Scalar.muli v2 c4_i32_26
  let v42 : BitVec 32 := Scalar.addi c0_i32_27 v41
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_21 v5
  let c2_i32_28 : BitVec 32 := 2#32
  let v43 : BitVec 32 := Scalar.muli v36 c2_i32_28
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v45 : BitVec 32 := Scalar.muli v8 c1_i32_29
  let v46 : BitVec 32 := Scalar.addi v44 v45
  v46.toNat
def k0_off4 (d0 : Dev nD) : Fin 3 → Nat :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.muli c4_i32_36 v2
  let c2_i32_37 : BitVec 32 := 2#32
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.subi c1_i32_34 v5
  let v58 : BitVec 32 := Scalar.muli c2_i32_37 v55
  let v59 : BitVec 32 := Scalar.addi v57 v58
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_35 v8
  let v60 : BitVec 32 := Scalar.addi v59 v56
  let c0_i32_46 : BitVec 32 := 0#32
  let c0_i32_47 : BitVec 32 := 0#32
  ![v60.toNat, 0, 0]
def k0_dev3 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v61 : BitVec 32 := Scalar.muli v2 c4_i32_40
  let v62 : BitVec 32 := Scalar.addi c0_i32_41 v61
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.subi c1_i32_34 v5
  let c2_i32_42 : BitVec 32 := 2#32
  let v63 : BitVec 32 := Scalar.muli v55 c2_i32_42
  let v64 : BitVec 32 := Scalar.addi v62 v63
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_35 v8
  let c1_i32_43 : BitVec 32 := 1#32
  let v65 : BitVec 32 := Scalar.muli v56 c1_i32_43
  let v66 : BitVec 32 := Scalar.addi v64 v65
  v66.toNat
def k0_off5 (d0 : Dev nD) : Fin 3 → Nat :=
  let c4_i32_49 : BitVec 32 := 4#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_48 v2
  let v76 : BitVec 32 := Scalar.muli c4_i32_49 v75
  let c2_i32_50 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.muli c2_i32_50 v5
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v79 : BitVec 32 := Scalar.addi v78 v8
  let c0_i32_58 : BitVec 32 := 0#32
  let c0_i32_59 : BitVec 32 := 0#32
  ![v79.toNat, 0, 0]
def k0_dev4 (d0 : Dev nD) : Nat :=
  let c0_i32_53 : BitVec 32 := 0#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_48 v2
  let c4_i32_52 : BitVec 32 := 4#32
  let v80 : BitVec 32 := Scalar.muli v75 c4_i32_52
  let v81 : BitVec 32 := Scalar.addi c0_i32_53 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v82 : BitVec 32 := Scalar.muli v5 c2_i32_54
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v84 : BitVec 32 := Scalar.muli v8 c1_i32_55
  let v85 : BitVec 32 := Scalar.addi v83 v84
  v85.toNat
def k0_off6 (d0 : Dev nD) : Fin 3 → Nat :=
  let c4_i32_62 : BitVec 32 := 4#32
  let c1_i32_60 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_60 v2
  let v96 : BitVec 32 := Scalar.muli c4_i32_62 v94
  let c2_i32_63 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v97 : BitVec 32 := Scalar.muli c2_i32_63 v5
  let v98 : BitVec 32 := Scalar.addi v96 v97
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_61 v8
  let v99 : BitVec 32 := Scalar.addi v98 v95
  let c0_i32_72 : BitVec 32 := 0#32
  let c0_i32_73 : BitVec 32 := 0#32
  ![v99.toNat, 0, 0]
def k0_dev5 (d0 : Dev nD) : Nat :=
  let c0_i32_67 : BitVec 32 := 0#32
  let c1_i32_60 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_60 v2
  let c4_i32_66 : BitVec 32 := 4#32
  let v100 : BitVec 32 := Scalar.muli v94 c4_i32_66
  let v101 : BitVec 32 := Scalar.addi c0_i32_67 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v102 : BitVec 32 := Scalar.muli v5 c2_i32_68
  let v103 : BitVec 32 := Scalar.addi v101 v102
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_61 v8
  let c1_i32_69 : BitVec 32 := 1#32
  let v104 : BitVec 32 := Scalar.muli v95 c1_i32_69
  let v105 : BitVec 32 := Scalar.addi v103 v104
  v105.toNat
def k0_off7 (d0 : Dev nD) : Fin 3 → Nat :=
  let c4_i32_76 : BitVec 32 := 4#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_74 v2
  let v116 : BitVec 32 := Scalar.muli c4_i32_76 v114
  let c2_i32_77 : BitVec 32 := 2#32
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v115 : BitVec 32 := Scalar.subi c1_i32_75 v5
  let v117 : BitVec 32 := Scalar.muli c2_i32_77 v115
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v119 : BitVec 32 := Scalar.addi v118 v8
  let c0_i32_85 : BitVec 32 := 0#32
  let c0_i32_86 : BitVec 32 := 0#32
  ![v119.toNat, 0, 0]
def k0_dev6 (d0 : Dev nD) : Nat :=
  let c0_i32_80 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_74 v2
  let c4_i32_79 : BitVec 32 := 4#32
  let v120 : BitVec 32 := Scalar.muli v114 c4_i32_79
  let v121 : BitVec 32 := Scalar.addi c0_i32_80 v120
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v115 : BitVec 32 := Scalar.subi c1_i32_75 v5
  let c2_i32_81 : BitVec 32 := 2#32
  let v122 : BitVec 32 := Scalar.muli v115 c2_i32_81
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v124 : BitVec 32 := Scalar.muli v8 c1_i32_82
  let v125 : BitVec 32 := Scalar.addi v123 v124
  v125.toNat
def k0_off8 (d0 : Dev nD) : Fin 3 → Nat :=
  let c4_i32_90 : BitVec 32 := 4#32
  let c1_i32_87 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_87 v2
  let v137 : BitVec 32 := Scalar.muli c4_i32_90 v134
  let c2_i32_91 : BitVec 32 := 2#32
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_88 v5
  let v138 : BitVec 32 := Scalar.muli c2_i32_91 v135
  let v139 : BitVec 32 := Scalar.addi v137 v138
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_89 v8
  let v140 : BitVec 32 := Scalar.addi v139 v136
  let c0_i32_99 : BitVec 32 := 0#32
  let c0_i32_100 : BitVec 32 := 0#32
  ![v140.toNat, 0, 0]
def k0_dev7 (d0 : Dev nD) : Nat :=
  let c0_i32_94 : BitVec 32 := 0#32
  let c1_i32_87 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_87 v2
  let c4_i32_93 : BitVec 32 := 4#32
  let v141 : BitVec 32 := Scalar.muli v134 c4_i32_93
  let v142 : BitVec 32 := Scalar.addi c0_i32_94 v141
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_88 v5
  let c2_i32_95 : BitVec 32 := 2#32
  let v143 : BitVec 32 := Scalar.muli v135 c2_i32_95
  let v144 : BitVec 32 := Scalar.addi v142 v143
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_89 v8
  let c1_i32_96 : BitVec 32 := 1#32
  let v145 : BitVec 32 := Scalar.muli v136 c1_i32_96
  let v146 : BitVec 32 := Scalar.addi v144 v145
  v146.toNat
abbrev grid1 : Pipeline.Grid := ⟨1, ![12], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== ReferenceIdeal.lean ====
abbrev S64x3072x1024 : Shape := ⟨3, ![64, 3072, 1024]⟩
abbrev S24576x1024 : Shape := ⟨2, ![24576, 1024]⟩
abbrev S8x24576x1024 : Shape := ⟨3, ![8, 24576, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S64x3072x1024, .bf16⟩
  | .hbm, ⟨1, _⟩ => ⟨S24576x1024, .f32⟩
  | .hbm, ⟨2, _⟩ => ⟨S24576x1024, .f32⟩
  | .hbm, ⟨3, _⟩ => ⟨S24576x1024, .f32⟩
  | .hbm, ⟨4, _⟩ => ⟨S64x3072x1024, .f32⟩
  | .hbm, ⟨5, _⟩ => ⟨S8x24576x1024, .f32⟩
  | .hbm, ⟨6, _⟩ => ⟨S_, .f32⟩
  | .hbm, ⟨7, _⟩ => ⟨S24576x1024, .f32⟩
  | .hbm, ⟨8, _⟩ => ⟨S_, .f32⟩
  | .hbm, ⟨9, _⟩ => ⟨S24576x1024, .f32⟩
  | .hbm, ⟨10, _⟩ => ⟨S24576x1024, .f32⟩
  | .hbm, ⟨11, _⟩ => ⟨S_, .f32⟩
  | .hbm, ⟨12, _⟩ => ⟨S24576x1024, .f32⟩
  | .hbm, ⟨13, _⟩ => ⟨S24576x1024, .f32⟩
  | .hbm, ⟨14, _⟩ => ⟨S24576x1024, .f32⟩
  | .hbm, ⟨15, _⟩ => ⟨S_, .f32⟩
  | .hbm, ⟨16, _⟩ => ⟨S24576x1024, .f32⟩
  | .hbm, ⟨17, _⟩ => ⟨S24576x1024, .f32⟩
  | .hbm, ⟨18, _⟩ => ⟨S24576x1024, .f32⟩
  | .hbm, ⟨19, _⟩ => ⟨S_, .f32⟩
  | .hbm, ⟨20, _⟩ => ⟨S24576x1024, .f32⟩
  | .hbm, ⟨21, _⟩ => ⟨S24576x1024, .f32⟩
  | .hbm, ⟨22, _⟩ => ⟨S24576x1024, .f32⟩
  | .hbm, ⟨23, _⟩ => ⟨S_, .f32⟩
  | .hbm, ⟨24, _⟩ => ⟨S24576x1024, .f32⟩
  | .hbm, ⟨25, _⟩ => ⟨S24576x1024, .f32⟩
  | .hbm, ⟨26, _⟩ => ⟨S_, .f32⟩
  | .hbm, ⟨27, _⟩ => ⟨S24576x1024, .f32⟩
  | .hbm, ⟨28, _⟩ => ⟨S24576x1024, .f32⟩
  | .hbm, ⟨29, _⟩ => ⟨S24576x1024, .f32⟩
  | .hbm, ⟨30, _⟩ => ⟨S_, .f32⟩
  | .hbm, ⟨31, _⟩ => ⟨S24576x1024, .f32⟩
  | .hbm, ⟨32, _⟩ => ⟨S24576x1024, .f32⟩
  | .hbm, ⟨33, _⟩ => ⟨S24576x1024, .f32⟩
  | .hbm, ⟨34, _⟩ => ⟨S_, .f32⟩
  | .hbm, ⟨35, _⟩ => ⟨S24576x1024, .f32⟩
  | .hbm, ⟨36, _⟩ => ⟨S24576x1024, .f32⟩
  | .hbm, ⟨37, _⟩ => ⟨S24576x1024, .f32⟩
  | .hbm, ⟨38, _⟩ => ⟨S_, .f32⟩
  | .hbm, ⟨39, _⟩ => ⟨S24576x1024, .f32⟩
  | .hbm, ⟨40, _⟩ => ⟨S24576x1024, .f32⟩
  | _, _ => ⟨S64x3072x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== GatherWeights.lean ====
abbrev S3072x1024 : Shape := ⟨2, ![3072, 1024]⟩
abbrev S8x3072x1024 : Shape := ⟨3, ![8, 3072, 1024]⟩
abbrev S7 : Shape := ⟨1, ![7]⟩
abbrev S_ : Shape := ⟨0, ![]⟩
abbrev S1x3072x1024 : Shape := ⟨3, ![1, 3072, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S3072x1024, .bf16⟩
  | .hbm, ⟨1, _⟩ => ⟨S8x3072x1024, .bf16⟩
  | _, _ => ⟨S3072x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v16 : BitVec 32 := Scalar.muli v2 c4_i32_9
  let v17 : BitVec 32 := Scalar.addi c0_i32_10 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v18 : BitVec 32 := Scalar.muli v5 c2_i32_11
  let v19 : BitVec 32 := Scalar.addi v17 v18
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_12 : BitVec 32 := 1#32
  let v20 : BitVec 32 := Scalar.muli v15 c1_i32_12
  let v21 : BitVec 32 := Scalar.addi v19 v20
  v21.toNat
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v29 : BitVec 32 := Scalar.muli v2 c4_i32_18
  let v30 : BitVec 32 := Scalar.addi c0_i32_19 v29
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_15 v5
  let c2_i32_20 : BitVec 32 := 2#32
  let v31 : BitVec 32 := Scalar.muli v28 c2_i32_20
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v33 : BitVec 32 := Scalar.muli v8 c1_i32_21
  let v34 : BitVec 32 := Scalar.addi v32 v33
  v34.toNat
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v43 : BitVec 32 := Scalar.muli v2 c4_i32_28
  let v44 : BitVec 32 := Scalar.addi c0_i32_29 v43
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_24 v5
  let c2_i32_30 : BitVec 32 := 2#32
  let v45 : BitVec 32 := Scalar.muli v41 c2_i32_30
  let v46 : BitVec 32 := Scalar.addi v44 v45
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.subi c1_i32_25 v8
  let c1_i32_31 : BitVec 32 := 1#32
  let v47 : BitVec 32 := Scalar.muli v42 c1_i32_31
  let v48 : BitVec 32 := Scalar.addi v46 v47
  v48.toNat
def k0_dev4 (d0 : Dev nD) : Nat :=
  let c0_i32_37 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_34 v2
  let c4_i32_36 : BitVec 32 := 4#32
  let v56 : BitVec 32 := Scalar.muli v55 c4_i32_36
  let v57 : BitVec 32 := Scalar.addi c0_i32_37 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v58 : BitVec 32 := Scalar.muli v5 c2_i32_38
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v60 : BitVec 32 := Scalar.muli v8 c1_i32_39
  let v61 : BitVec 32 := Scalar.addi v59 v60
  v61.toNat
def k0_dev5 (d0 : Dev nD) : Nat :=
  let c0_i32_47 : BitVec 32 := 0#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_42 v2
  let c4_i32_46 : BitVec 32 := 4#32
  let v70 : BitVec 32 := Scalar.muli v68 c4_i32_46
  let v71 : BitVec 32 := Scalar.addi c0_i32_47 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v72 : BitVec 32 := Scalar.muli v5 c2_i32_48
  let v73 : BitVec 32 := Scalar.addi v71 v72
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v69 : BitVec 32 := Scalar.subi c1_i32_43 v8
  let c1_i32_49 : BitVec 32 := 1#32
  let v74 : BitVec 32 := Scalar.muli v69 c1_i32_49
  let v75 : BitVec 32 := Scalar.addi v73 v74
  v75.toNat
def k0_dev6 (d0 : Dev nD) : Nat :=
  let c0_i32_56 : BitVec 32 := 0#32
  let c1_i32_52 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v82 : BitVec 32 := Scalar.subi c1_i32_52 v2
  let c4_i32_55 : BitVec 32 := 4#32
  let v84 : BitVec 32 := Scalar.muli v82 c4_i32_55
  let v85 : BitVec 32 := Scalar.addi c0_i32_56 v84
  let c1_i32_53 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v83 : BitVec 32 := Scalar.subi c1_i32_53 v5
  let c2_i32_57 : BitVec 32 := 2#32
  let v86 : BitVec 32 := Scalar.muli v83 c2_i32_57
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v88 : BitVec 32 := Scalar.muli v8 c1_i32_58
  let v89 : BitVec 32 := Scalar.addi v87 v88
  v89.toNat
def k0_dev7 (d0 : Dev nD) : Nat :=
  let c0_i32_66 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v96 : BitVec 32 := Scalar.subi c1_i32_61 v2
  let c4_i32_65 : BitVec 32 := 4#32
  let v99 : BitVec 32 := Scalar.muli v96 c4_i32_65
  let v100 : BitVec 32 := Scalar.addi c0_i32_66 v99
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v97 : BitVec 32 := Scalar.subi c1_i32_62 v5
  let c2_i32_67 : BitVec 32 := 2#32
  let v101 : BitVec 32 := Scalar.muli v97 c2_i32_67
  let v102 : BitVec 32 := Scalar.addi v100 v101
  let c1_i32_63 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.subi c1_i32_63 v8
  let c1_i32_68 : BitVec 32 := 1#32
  let v103 : BitVec 32 := Scalar.muli v98 c1_i32_68
  let v104 : BitVec 32 := Scalar.addi v102 v103
  v104.toNat
-- ==== GatheredIdeal.lean ====
abbrev S24576x1024 : Shape := ⟨2, ![24576, 1024]⟩
abbrev S8x3072x1024 : Shape := ⟨3, ![8, 3072, 1024]⟩

abbrev nBuf : Space → Nat
  | .hbm => 2
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S8x3072x1024, .bf16⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Gathered.lean ====
abbrev S24576x1024 : Shape := ⟨2, ![24576, 1024]⟩
abbrev S8x3072x1024 : Shape := ⟨3, ![8, 3072, 1024]⟩

abbrev nBuf : Space → Nat
  | .hbm => 2
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S8x3072x1024, .bf16⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== UpdateRest.lean ====
abbrev S2048x1024 : Shape := ⟨2, ![2048, 1024]⟩
abbrev S1x2048x1024 : Shape := ⟨3, ![1, 2048, 1024]⟩
abbrev S1x256x1024 : Shape := ⟨3, ![1, 256, 1024]⟩
abbrev S256x1024 : Shape := ⟨2, ![256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateRestIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== UpdatedIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumPartials.lean ====
abbrev S464x128 : Shape := ⟨2, ![464, 128]⟩
abbrev S8x464x128 : Shape := ⟨3, ![8, 464, 128]⟩
abbrev S7 : Shape := ⟨1, ![7]⟩
abbrev S_ : Shape := ⟨0, ![]⟩
abbrev S1x464x128 : Shape := ⟨3, ![1, 464, 128]⟩
abbrev S1 : Shape := ⟨1, ![1]⟩

abbrev nBuf : Space → Nat
  | .hbm => 3
  | .vmem => 2
  | .smem => 0
  | _ => 0

abbrev bufTy : (tb : Table) → Fin (tcTables nBuf tb) → BufTy
  | .hbm, ⟨0, _⟩ => ⟨S464x128, .f32⟩
  | .hbm, ⟨1, _⟩ => ⟨S8x464x128, .f32⟩
  | .hbm, ⟨2, _⟩ => ⟨S464x128, .f32⟩
  | .local _ .vmem, ⟨0, _⟩ => ⟨S8x464x128, .f32⟩
  | .local _ .vmem, ⟨1, _⟩ => ⟨S464x128, .f32⟩
  | _, _ => ⟨S464x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg1_0 : Ref sig .tc := ⟨.vmem, 1, rfl⟩
abbrev cc1_sem0_0 : DmaSem sig := 15
abbrev cc1_sem1_0 : DmaSem sig := 16

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v16 : BitVec 32 := Scalar.muli v2 c4_i32_9
  let v17 : BitVec 32 := Scalar.addi c0_i32_10 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v18 : BitVec 32 := Scalar.muli v5 c2_i32_11
  let v19 : BitVec 32 := Scalar.addi v17 v18
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_12 : BitVec 32 := 1#32
  let v20 : BitVec 32 := Scalar.muli v15 c1_i32_12
  let v21 : BitVec 32 := Scalar.addi v19 v20
  v21.toNat
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v29 : BitVec 32 := Scalar.muli v2 c4_i32_18
  let v30 : BitVec 32 := Scalar.addi c0_i32_19 v29
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_15 v5
  let c2_i32_20 : BitVec 32 := 2#32
  let v31 : BitVec 32 := Scalar.muli v28 c2_i32_20
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v33 : BitVec 32 := Scalar.muli v8 c1_i32_21
  let v34 : BitVec 32 := Scalar.addi v32 v33
  v34.toNat
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v43 : BitVec 32 := Scalar.muli v2 c4_i32_28
  let v44 : BitVec 32 := Scalar.addi c0_i32_29 v43
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_24 v5
  let c2_i32_30 : BitVec 32 := 2#32
  let v45 : BitVec 32 := Scalar.muli v41 c2_i32_30
  let v46 : BitVec 32 := Scalar.addi v44 v45
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.subi c1_i32_25 v8
  let c1_i32_31 : BitVec 32 := 1#32
  let v47 : BitVec 32 := Scalar.muli v42 c1_i32_31
  let v48 : BitVec 32 := Scalar.addi v46 v47
  v48.toNat
def k0_dev4 (d0 : Dev nD) : Nat :=
  let c0_i32_37 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_34 v2
  let c4_i32_36 : BitVec 32 := 4#32
  let v56 : BitVec 32 := Scalar.muli v55 c4_i32_36
  let v57 : BitVec 32 := Scalar.addi c0_i32_37 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v58 : BitVec 32 := Scalar.muli v5 c2_i32_38
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v60 : BitVec 32 := Scalar.muli v8 c1_i32_39
  let v61 : BitVec 32 := Scalar.addi v59 v60
  v61.toNat
def k0_dev5 (d0 : Dev nD) : Nat :=
  let c0_i32_47 : BitVec 32 := 0#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_42 v2
  let c4_i32_46 : BitVec 32 := 4#32
  let v70 : BitVec 32 := Scalar.muli v68 c4_i32_46
  let v71 : BitVec 32 := Scalar.addi c0_i32_47 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v72 : BitVec 32 := Scalar.muli v5 c2_i32_48
  let v73 : BitVec 32 := Scalar.addi v71 v72
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v69 : BitVec 32 := Scalar.subi c1_i32_43 v8
  let c1_i32_49 : BitVec 32 := 1#32
  let v74 : BitVec 32 := Scalar.muli v69 c1_i32_49
  let v75 : BitVec 32 := Scalar.addi v73 v74
  v75.toNat
def k0_dev6 (d0 : Dev nD) : Nat :=
  let c0_i32_56 : BitVec 32 := 0#32
  let c1_i32_52 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v82 : BitVec 32 := Scalar.subi c1_i32_52 v2
  let c4_i32_55 : BitVec 32 := 4#32
  let v84 : BitVec 32 := Scalar.muli v82 c4_i32_55
  let v85 : BitVec 32 := Scalar.addi c0_i32_56 v84
  let c1_i32_53 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v83 : BitVec 32 := Scalar.subi c1_i32_53 v5
  let c2_i32_57 : BitVec 32 := 2#32
  let v86 : BitVec 32 := Scalar.muli v83 c2_i32_57
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v88 : BitVec 32 := Scalar.muli v8 c1_i32_58
  let v89 : BitVec 32 := Scalar.addi v87 v88
  v89.toNat
def k0_dev7 (d0 : Dev nD) : Nat :=
  let c0_i32_66 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v96 : BitVec 32 := Scalar.subi c1_i32_61 v2
  let c4_i32_65 : BitVec 32 := 4#32
  let v99 : BitVec 32 := Scalar.muli v96 c4_i32_65
  let v100 : BitVec 32 := Scalar.addi c0_i32_66 v99
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v97 : BitVec 32 := Scalar.subi c1_i32_62 v5
  let c2_i32_67 : BitVec 32 := 2#32
  let v101 : BitVec 32 := Scalar.muli v97 c2_i32_67
  let v102 : BitVec 32 := Scalar.addi v100 v101
  let c1_i32_63 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.subi c1_i32_63 v8
  let c1_i32_68 : BitVec 32 := 1#32
  let v103 : BitVec 32 := Scalar.muli v98 c1_i32_68
  let v104 : BitVec 32 := Scalar.addi v102 v103
  v104.toNat
abbrev grid1 : Pipeline.Grid := .none

abbrev stage1_0 : Fin 1 → Memref sig .tc .vmem S8x464x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S464x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== SummedIdeal.lean ====
abbrev S3712x128 : Shape := ⟨2, ![3712, 128]⟩
abbrev S8x464x128 : Shape := ⟨3, ![8, 464, 128]⟩
abbrev S_ : Shape := ⟨0, ![]⟩
abbrev S464x128 : Shape := ⟨2, ![464, 128]⟩

abbrev nBuf : Space → Nat
  | .hbm => 4
  | .vmem => 0
  | .smem => 0
  | _ => 0

abbrev bufTy : (tb : Table) → Fin (tcTables nBuf tb) → BufTy
  | .hbm, ⟨0, _⟩ => ⟨S3712x128, .f32⟩
  | .hbm, ⟨1, _⟩ => ⟨S8x464x128, .f32⟩
  | .hbm, ⟨2, _⟩ => ⟨S_, .f32⟩
  | .hbm, ⟨3, _⟩ => ⟨S464x128, .f32⟩
  | _, _ => ⟨S3712x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GatherSmall.lean ====
abbrev S48x128 : Shape := ⟨2, ![48, 128]⟩
abbrev S8x48x128 : Shape := ⟨3, ![8, 48, 128]⟩
abbrev S7 : Shape := ⟨1, ![7]⟩
abbrev S_ : Shape := ⟨0, ![]⟩
abbrev S1x48x128 : Shape := ⟨3, ![1, 48, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S48x128, .f32⟩
  | .hbm, ⟨1, _⟩ => ⟨S8x48x128, .f32⟩
  | _, _ => ⟨S48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v16 : BitVec 32 := Scalar.muli v2 c4_i32_9
  let v17 : BitVec 32 := Scalar.addi c0_i32_10 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v18 : BitVec 32 := Scalar.muli v5 c2_i32_11
  let v19 : BitVec 32 := Scalar.addi v17 v18
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_12 : BitVec 32 := 1#32
  let v20 : BitVec 32 := Scalar.muli v15 c1_i32_12
  let v21 : BitVec 32 := Scalar.addi v19 v20
  v21.toNat
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v29 : BitVec 32 := Scalar.muli v2 c4_i32_18
  let v30 : BitVec 32 := Scalar.addi c0_i32_19 v29
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_15 v5
  let c2_i32_20 : BitVec 32 := 2#32
  let v31 : BitVec 32 := Scalar.muli v28 c2_i32_20
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v33 : BitVec 32 := Scalar.muli v8 c1_i32_21
  let v34 : BitVec 32 := Scalar.addi v32 v33
  v34.toNat
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v43 : BitVec 32 := Scalar.muli v2 c4_i32_28
  let v44 : BitVec 32 := Scalar.addi c0_i32_29 v43
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_24 v5
  let c2_i32_30 : BitVec 32 := 2#32
  let v45 : BitVec 32 := Scalar.muli v41 c2_i32_30
  let v46 : BitVec 32 := Scalar.addi v44 v45
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.subi c1_i32_25 v8
  let c1_i32_31 : BitVec 32 := 1#32
  let v47 : BitVec 32 := Scalar.muli v42 c1_i32_31
  let v48 : BitVec 32 := Scalar.addi v46 v47
  v48.toNat
def k0_dev4 (d0 : Dev nD) : Nat :=
  let c0_i32_37 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_34 v2
  let c4_i32_36 : BitVec 32 := 4#32
  let v56 : BitVec 32 := Scalar.muli v55 c4_i32_36
  let v57 : BitVec 32 := Scalar.addi c0_i32_37 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v58 : BitVec 32 := Scalar.muli v5 c2_i32_38
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v60 : BitVec 32 := Scalar.muli v8 c1_i32_39
  let v61 : BitVec 32 := Scalar.addi v59 v60
  v61.toNat
def k0_dev5 (d0 : Dev nD) : Nat :=
  let c0_i32_47 : BitVec 32 := 0#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_42 v2
  let c4_i32_46 : BitVec 32 := 4#32
  let v70 : BitVec 32 := Scalar.muli v68 c4_i32_46
  let v71 : BitVec 32 := Scalar.addi c0_i32_47 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v72 : BitVec 32 := Scalar.muli v5 c2_i32_48
  let v73 : BitVec 32 := Scalar.addi v71 v72
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v69 : BitVec 32 := Scalar.subi c1_i32_43 v8
  let c1_i32_49 : BitVec 32 := 1#32
  let v74 : BitVec 32 := Scalar.muli v69 c1_i32_49
  let v75 : BitVec 32 := Scalar.addi v73 v74
  v75.toNat
def k0_dev6 (d0 : Dev nD) : Nat :=
  let c0_i32_56 : BitVec 32 := 0#32
  let c1_i32_52 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v82 : BitVec 32 := Scalar.subi c1_i32_52 v2
  let c4_i32_55 : BitVec 32 := 4#32
  let v84 : BitVec 32 := Scalar.muli v82 c4_i32_55
  let v85 : BitVec 32 := Scalar.addi c0_i32_56 v84
  let c1_i32_53 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v83 : BitVec 32 := Scalar.subi c1_i32_53 v5
  let c2_i32_57 : BitVec 32 := 2#32
  let v86 : BitVec 32 := Scalar.muli v83 c2_i32_57
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v88 : BitVec 32 := Scalar.muli v8 c1_i32_58
  let v89 : BitVec 32 := Scalar.addi v87 v88
  v89.toNat
def k0_dev7 (d0 : Dev nD) : Nat :=
  let c0_i32_66 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v96 : BitVec 32 := Scalar.subi c1_i32_61 v2
  let c4_i32_65 : BitVec 32 := 4#32
  let v99 : BitVec 32 := Scalar.muli v96 c4_i32_65
  let v100 : BitVec 32 := Scalar.addi c0_i32_66 v99
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v97 : BitVec 32 := Scalar.subi c1_i32_62 v5
  let c2_i32_67 : BitVec 32 := 2#32
  let v101 : BitVec 32 := Scalar.muli v97 c2_i32_67
  let v102 : BitVec 32 := Scalar.addi v100 v101
  let c1_i32_63 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.subi c1_i32_63 v8
  let c1_i32_68 : BitVec 32 := 1#32
  let v103 : BitVec 32 := Scalar.muli v98 c1_i32_68
  let v104 : BitVec 32 := Scalar.addi v102 v103
  v104.toNat
-- ==== SmallBlocksIdeal.lean ====
abbrev S384x128 : Shape := ⟨2, ![384, 128]⟩
abbrev S8x48x128 : Shape := ⟨3, ![8, 48, 128]⟩

abbrev nBuf : Space → Nat
  | .hbm => 2
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S8x48x128, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== SmallBlocks.lean ====
abbrev S384x128 : Shape := ⟨2, ![384, 128]⟩
abbrev S8x48x128 : Shape := ⟨3, ![8, 48, 128]⟩

abbrev nBuf : Space → Nat
  | .hbm => 2
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S8x48x128, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherAda.lean ====
abbrev S8x1792 : Shape := ⟨2, ![8, 1792]⟩
abbrev S8x8x1792 : Shape := ⟨3, ![8, 8, 1792]⟩
abbrev S7 : Shape := ⟨1, ![7]⟩
abbrev S_ : Shape := ⟨0, ![]⟩
abbrev S1x8x1792 : Shape := ⟨3, ![1, 8, 1792]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x1792, .f32⟩
  | .hbm, ⟨1, _⟩ => ⟨S8x8x1792, .f32⟩
  | _, _ => ⟨S8x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v16 : BitVec 32 := Scalar.muli v2 c4_i32_9
  let v17 : BitVec 32 := Scalar.addi c0_i32_10 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v18 : BitVec 32 := Scalar.muli v5 c2_i32_11
  let v19 : BitVec 32 := Scalar.addi v17 v18
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_12 : BitVec 32 := 1#32
  let v20 : BitVec 32 := Scalar.muli v15 c1_i32_12
  let v21 : BitVec 32 := Scalar.addi v19 v20
  v21.toNat
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v29 : BitVec 32 := Scalar.muli v2 c4_i32_18
  let v30 : BitVec 32 := Scalar.addi c0_i32_19 v29
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_15 v5
  let c2_i32_20 : BitVec 32 := 2#32
  let v31 : BitVec 32 := Scalar.muli v28 c2_i32_20
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v33 : BitVec 32 := Scalar.muli v8 c1_i32_21
  let v34 : BitVec 32 := Scalar.addi v32 v33
  v34.toNat
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v43 : BitVec 32 := Scalar.muli v2 c4_i32_28
  let v44 : BitVec 32 := Scalar.addi c0_i32_29 v43
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_24 v5
  let c2_i32_30 : BitVec 32 := 2#32
  let v45 : BitVec 32 := Scalar.muli v41 c2_i32_30
  let v46 : BitVec 32 := Scalar.addi v44 v45
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.subi c1_i32_25 v8
  let c1_i32_31 : BitVec 32 := 1#32
  let v47 : BitVec 32 := Scalar.muli v42 c1_i32_31
  let v48 : BitVec 32 := Scalar.addi v46 v47
  v48.toNat
def k0_dev4 (d0 : Dev nD) : Nat :=
  let c0_i32_37 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_34 v2
  let c4_i32_36 : BitVec 32 := 4#32
  let v56 : BitVec 32 := Scalar.muli v55 c4_i32_36
  let v57 : BitVec 32 := Scalar.addi c0_i32_37 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v58 : BitVec 32 := Scalar.muli v5 c2_i32_38
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v60 : BitVec 32 := Scalar.muli v8 c1_i32_39
  let v61 : BitVec 32 := Scalar.addi v59 v60
  v61.toNat
def k0_dev5 (d0 : Dev nD) : Nat :=
  let c0_i32_47 : BitVec 32 := 0#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_42 v2
  let c4_i32_46 : BitVec 32 := 4#32
  let v70 : BitVec 32 := Scalar.muli v68 c4_i32_46
  let v71 : BitVec 32 := Scalar.addi c0_i32_47 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v72 : BitVec 32 := Scalar.muli v5 c2_i32_48
  let v73 : BitVec 32 := Scalar.addi v71 v72
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v69 : BitVec 32 := Scalar.subi c1_i32_43 v8
  let c1_i32_49 : BitVec 32 := 1#32
  let v74 : BitVec 32 := Scalar.muli v69 c1_i32_49
  let v75 : BitVec 32 := Scalar.addi v73 v74
  v75.toNat
def k0_dev6 (d0 : Dev nD) : Nat :=
  let c0_i32_56 : BitVec 32 := 0#32
  let c1_i32_52 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v82 : BitVec 32 := Scalar.subi c1_i32_52 v2
  let c4_i32_55 : BitVec 32 := 4#32
  let v84 : BitVec 32 := Scalar.muli v82 c4_i32_55
  let v85 : BitVec 32 := Scalar.addi c0_i32_56 v84
  let c1_i32_53 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v83 : BitVec 32 := Scalar.subi c1_i32_53 v5
  let c2_i32_57 : BitVec 32 := 2#32
  let v86 : BitVec 32 := Scalar.muli v83 c2_i32_57
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v88 : BitVec 32 := Scalar.muli v8 c1_i32_58
  let v89 : BitVec 32 := Scalar.addi v87 v88
  v89.toNat
def k0_dev7 (d0 : Dev nD) : Nat :=
  let c0_i32_66 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v96 : BitVec 32 := Scalar.subi c1_i32_61 v2
  let c4_i32_65 : BitVec 32 := 4#32
  let v99 : BitVec 32 := Scalar.muli v96 c4_i32_65
  let v100 : BitVec 32 := Scalar.addi c0_i32_66 v99
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v97 : BitVec 32 := Scalar.subi c1_i32_62 v5
  let c2_i32_67 : BitVec 32 := 2#32
  let v101 : BitVec 32 := Scalar.muli v97 c2_i32_67
  let v102 : BitVec 32 := Scalar.addi v100 v101
  let c1_i32_63 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.subi c1_i32_63 v8
  let c1_i32_68 : BitVec 32 := 1#32
  let v103 : BitVec 32 := Scalar.muli v98 c1_i32_68
  let v104 : BitVec 32 := Scalar.addi v102 v103
  v104.toNat
-- ==== AdaBlocks.lean ====
abbrev S64x1792 : Shape := ⟨2, ![64, 1792]⟩
abbrev S8x8x1792 : Shape := ⟨3, ![8, 8, 1792]⟩

abbrev nBuf : Space → Nat
  | .hbm => 2
  | .vmem => 0
  | .smem => 0
  | _ => 0

abbrev bufTy : (tb : Table) → Fin (tcTables nBuf tb) → BufTy
  | .hbm, ⟨0, _⟩ => ⟨S64x1792, .f32⟩
  | .hbm, ⟨1, _⟩ => ⟨S8x8x1792, .f32⟩
  | _, _ => ⟨S64x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdaGrad.lean ====
abbrev S8x1024 : Shape := ⟨2, ![8, 1024]⟩
abbrev S8x1792 : Shape := ⟨2, ![8, 1792]⟩
abbrev S1024x8 : Shape := ⟨2, ![1024, 8]⟩
abbrev S1024x1792 : Shape := ⟨2, ![1024, 1792]⟩
abbrev S8x256 : Shape := ⟨2, ![8, 256]⟩
abbrev S1024x256 : Shape := ⟨2, ![1024, 256]⟩
abbrev S1024x1 : Shape := ⟨2, ![1024, 1]⟩
abbrev S1x256 : Shape := ⟨2, ![1, 256]⟩

abbrev nBuf : Space → Nat
  | .hbm => 4
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x1792, .f32⟩
  | .hbm, ⟨2, _⟩ => ⟨S1024x8, .f32⟩
  | .hbm, ⟨3, _⟩ => ⟨S1024x1792, .f32⟩
  | .local _ .vmem, ⟨0, _⟩ => ⟨S1024x8, .f32⟩
  | .local _ .vmem, ⟨1, _⟩ => ⟨S8x256, .f32⟩
  | .local _ .vmem, ⟨2, _⟩ => ⟨S8x256, .f32⟩
  | .local _ .vmem, ⟨3, _⟩ => ⟨S1024x256, .f32⟩
  | .local _ .vmem, ⟨4, _⟩ => ⟨S1024x256, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConditionGradIdeal.lean ====
abbrev S8x1024 : Shape := ⟨2, ![8, 1024]⟩
abbrev S8x1792 : Shape := ⟨2, ![8, 1792]⟩
abbrev S_ : Shape := ⟨0, ![]⟩
abbrev S1024x8 : Shape := ⟨2, ![1024, 8]⟩
abbrev S1024x1792 : Shape := ⟨2, ![1024, 1792]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1792, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1024x8, .f32⟩
  | .hbm, ⟨12, _⟩ => ⟨S1024x1792, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== NormGrad.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InputGradIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S5x1024 : Shape := ⟨2, ![5, 1024]⟩
abbrev S8x1024 : Shape := ⟨2, ![8, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S_, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S_, .f32⟩
  | .hbm, ⟨73, _⟩ => ⟨S5x1024, .f32⟩
  | .hbm, ⟨74, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== LossGrad.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossDerivativeIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S6x1024 : Shape := ⟨2, ![6, 1024]⟩
abbrev S8x1024 : Shape := ⟨2, ![8, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S1x1024, .f32⟩
  | .hbm, ⟨74, _⟩ => ⟨S_, .f32⟩
  | .hbm, ⟨75, _⟩ => ⟨S6x1024, .f32⟩
  | .hbm, ⟨76, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S_ : Shape := ⟨0, ![]⟩
abbrev S1x2816 : Shape := ⟨2, ![1, 2816]⟩
abbrev S8192x2816 : Shape := ⟨2, ![8192, 2816]⟩
abbrev S1024x1408 : Shape := ⟨2, ![1024, 1408]⟩
abbrev S1x1408 : Shape := ⟨2, ![1, 1408]⟩
abbrev S512x1408 : Shape := ⟨2, ![512, 1408]⟩
abbrev S512x2816 : Shape := ⟨2, ![512, 2816]⟩
abbrev S2816x512 : Shape := ⟨2, ![2816, 512]⟩
abbrev S1x512 : Shape := ⟨2, ![1, 512]⟩
abbrev S512x512 : Shape := ⟨2, ![512, 512]⟩

abbrev nBuf : Space → Nat
  | .hbm => 20
  | .vmem => 37
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S8192x1024, .bf16⟩
  | .hbm, ⟨9, _⟩ => ⟨S_, .f32⟩
  | .hbm, ⟨10, _⟩ => ⟨S1x2816, .f32⟩
  | .hbm, ⟨11, _⟩ => ⟨S_, .f32⟩
  | .hbm, ⟨12, _⟩ => ⟨S1x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | .hbm, ⟨16, _⟩ => ⟨S_, .f32⟩
  | .hbm, ⟨17, _⟩ => ⟨S1x1024, .f32⟩
  | .hbm, ⟨18, _⟩ => ⟨S8192x1024, .f32⟩
  | .hbm, ⟨19, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S1x1408, .f32⟩
  | .local _ .vmem, ⟨17, _⟩ => ⟨S512x1408, .f32⟩
  | .local _ .vmem, ⟨18, _⟩ => ⟨S512x1408, .f32⟩
  | .local _ .vmem, ⟨19, _⟩ => ⟨S512x1408, .f32⟩
  | .local _ .vmem, ⟨20, _⟩ => ⟨S512x1408, .f32⟩
  | .local _ .vmem, ⟨21, _⟩ => ⟨S512x1408, .bf16⟩
  | .local _ .vmem, ⟨22, _⟩ => ⟨S512x1408, .bf16⟩
  | .local _ .vmem, ⟨23, _⟩ => ⟨S512x2816, .bf16⟩
  | .local _ .vmem, ⟨24, _⟩ => ⟨S512x2816, .bf16⟩
  | .local _ .vmem, ⟨25, _⟩ => ⟨S2816x512, .bf16⟩
  | .local _ .vmem, ⟨26, _⟩ => ⟨S2816x512, .bf16⟩
  | .local _ .vmem, ⟨27, _⟩ => ⟨S1x512, .f32⟩
  | .local _ .vmem, ⟨28, _⟩ => ⟨S1x512, .f32⟩
  | .local _ .vmem, ⟨29, _⟩ => ⟨S512x512, .f32⟩
  | .local _ .vmem, ⟨30, _⟩ => ⟨S512x512, .f32⟩
  | .local _ .vmem, ⟨31, _⟩ => ⟨S1x512, .f32⟩
  | .local _ .vmem, ⟨32, _⟩ => ⟨S1x512, .f32⟩
  | .local _ .vmem, ⟨33, _⟩ => ⟨S512x512, .f32⟩
  | .local _ .vmem, ⟨34, _⟩ => ⟨S512x512, .f32⟩
  | .local _ .vmem, ⟨35, _⟩ => ⟨S512x512, .bf16⟩
  | .local _ .vmem, ⟨36, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_cst_1 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg6_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34
abbrev cc2_sem6_0 : DmaSem sig := 35
abbrev cc2_sem6_1 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x1408 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![16, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2816x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S512x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== MixedIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1024x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S1024x2816, .f32⟩
  | .hbm, ⟨44, _⟩ => ⟨S8192x2816, .f32⟩
  | .hbm, ⟨45, _⟩ => ⟨S8192x2816, .f32⟩
  | .hbm, ⟨46, _⟩ => ⟨S2816x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== ResidualGrad.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .bf16⟩
  | .hbm, ⟨4, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GatedGradIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S6x1024 : Shape := ⟨2, ![6, 1024]⟩
abbrev S8x1024 : Shape := ⟨2, ![8, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S_, .f32⟩
  | .hbm, ⟨21, _⟩ => ⟨S1024, .f32⟩
  | .hbm, ⟨22, _⟩ => ⟨S8192x1024, .bf16⟩
  | .hbm, ⟨23, _⟩ => ⟨S1x1024, .f32⟩
  | .hbm, ⟨24, _⟩ => ⟨S_, .f32⟩
  | .hbm, ⟨25, _⟩ => ⟨S6x1024, .f32⟩
  | .hbm, ⟨26, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== ActGrad.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluGradIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S_, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .bf16⟩
  | .hbm, ⟨32, _⟩ => ⟨S8192x2816, .f32⟩
  | .hbm, ⟨33, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_v6_0 : Ref sig .tc := ⟨.hbm, 25, rfl⟩
abbrev main_call0_v11 : Ref sig .tc := ⟨.hbm, 26, rfl⟩
abbrev main_call0_v12 : Ref sig .tc := ⟨.hbm, 27, rfl⟩
abbrev main_v6_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩

abbrev nD : Nat := 1
abbrev τ : Topo := Topo.v7x

variable {F : FTy → Type} [FloatOps F]
-- ==== HiddenGrad.lean ====
abbrev S8192x2816 : Shape := ⟨2, ![8192, 2816]⟩
abbrev S1024x2816 : Shape := ⟨2, ![1024, 2816]⟩
abbrev S8192x1024 : Shape := ⟨2, ![8192, 1024]⟩
abbrev S512x2816 : Shape := ⟨2, ![512, 2816]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x2816, .bf16⟩
  | .hbm, ⟨3, _⟩ => ⟨S1024x2816, .bf16⟩
  | .hbm, ⟨4, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x512, .f32⟩
  | .local _ .vmem, ⟨9, _⟩ => ⟨S512x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProductsGradIdeal.lean ====
abbrev S8192x2816 : Shape := ⟨2, ![8192, 2816]⟩
abbrev S1024x2816 : Shape := ⟨2, ![1024, 2816]⟩
abbrev S_ : Shape := ⟨0, ![]⟩
abbrev S8192x1024 : Shape := ⟨2, ![8192, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x2816, .bf16⟩
  | .hbm, ⟨3, _⟩ => ⟨S1024x2816, .bf16⟩
  | .hbm, ⟨4, _⟩ => ⟨S_, .f32⟩
  | .hbm, ⟨5, _⟩ => ⟨S8192x1024, .f32⟩
  | .hbm, ⟨6, _⟩ => ⟨S1024x2816, .f32⟩
  | .hbm, ⟨7, _⟩ => ⟨S8192x2816, .f32⟩
  | .hbm, ⟨8, _⟩ => ⟨S1024x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== WeightGrad.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductGradIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutGrad.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProductGradIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SquareGrad.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareProductGradIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GluIn.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GluIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== ResidualOut.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ResidualIdeal.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KeyProduct.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KeysIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QueryProduct.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueriesIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HeadGrad.lean ====
abbrev S8192x1024 : Shape := ⟨2, ![8192, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HeadProductGradIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvGrad.lean ====
abbrev S8192x1024 : Shape := ⟨2, ![8192, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvProductsGradIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .hbm, ⟨4, _⟩ => ⟨S_, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== AdaImages.lean ====
abbrev S8x1024 : Shape := ⟨2, ![8, 1024]⟩
abbrev S1024x1792 : Shape := ⟨2, ![1024, 1792]⟩
abbrev S8x1792 : Shape := ⟨2, ![8, 1792]⟩
abbrev S1024x256 : Shape := ⟨2, ![1024, 256]⟩
abbrev S8x256 : Shape := ⟨2, ![8, 256]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024x1792, .f32⟩
  | .hbm, ⟨2, _⟩ => ⟨S8x1792, .f32⟩
  | .local _ .vmem, ⟨0, _⟩ => ⟨S8x1024, .f32⟩
  | .local _ .vmem, ⟨1, _⟩ => ⟨S1024x256, .f32⟩
  | .local _ .vmem, ⟨2, _⟩ => ⟨S1024x256, .f32⟩
  | .local _ .vmem, ⟨3, _⟩ => ⟨S8x256, .f32⟩
  | .local _ .vmem, ⟨4, _⟩ => ⟨S8x256, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ImagesIdeal.lean ====
abbrev S8x1024 : Shape := ⟨2, ![8, 1024]⟩
abbrev S1024x1792 : Shape := ⟨2, ![1024, 1792]⟩
abbrev S_ : Shape := ⟨0, ![]⟩
abbrev S8x1792 : Shape := ⟨2, ![8, 1792]⟩

abbrev nBuf : Space → Nat
  | .hbm => 12
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1792, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1792, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== NormOut.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormedIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== MixedGrad.lean ====
abbrev S8192x1024 : Shape := ⟨2, ![8192, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixedFactorGradIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QueryGrad.lean ====
abbrev S8192x1024 : Shape := ⟨2, ![8192, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryFactorGradIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QueryWeightGrad.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryProductGradIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ForgetWeightGrad.lean ====
abbrev S8192x1024 : Shape := ⟨2, ![8192, 1024]⟩
abbrev S8192x128 : Shape := ⟨2, ![8192, 128]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S512x1024, .bf16⟩
  | .local _ .vmem, ⟨1, _⟩ => ⟨S512x1024, .bf16⟩
  | .local _ .vmem, ⟨2, _⟩ => ⟨S512x128, .bf16⟩
  | .local _ .vmem, ⟨3, _⟩ => ⟨S512x128, .bf16⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ForgetProductGradIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ForgetProduct.lean ====
abbrev S8192x1024 : Shape := ⟨2, ![8192, 1024]⟩
abbrev S1024x128 : Shape := ⟨2, ![1024, 128]⟩
abbrev S8192x128 : Shape := ⟨2, ![8192, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ForgetLogitsIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KeyValueGrad.lean ====
abbrev S8192x1024 : Shape := ⟨2, ![8192, 1024]⟩
abbrev S1024x1024 : Shape := ⟨2, ![1024, 1024]⟩
abbrev S8192x128 : Shape := ⟨2, ![8192, 128]⟩
abbrev S1024x128 : Shape := ⟨2, ![1024, 128]⟩
abbrev S512x1024 : Shape := ⟨2, ![512, 1024]⟩
abbrev S512x128 : Shape := ⟨2, ![512, 128]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .hbm, ⟨4, _⟩ => ⟨S8192x128, .bf16⟩
  | .hbm, ⟨5, _⟩ => ⟨S1024x128, .bf16⟩
  | .hbm, ⟨6, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x512, .f32⟩
  | .local _ .vmem, ⟨13, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KeyValuesGradIdeal.lean ====
abbrev S8192x1024 : Shape := ⟨2, ![8192, 1024]⟩
abbrev S1024x1024 : Shape := ⟨2, ![1024, 1024]⟩
abbrev S8192x128 : Shape := ⟨2, ![8192, 128]⟩
abbrev S1024x128 : Shape := ⟨2, ![1024, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .hbm, ⟨4, _⟩ => ⟨S8192x128, .bf16⟩
  | .hbm, ⟨5, _⟩ => ⟨S1024x128, .bf16⟩
  | .hbm, ⟨6, _⟩ => ⟨S_, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S1024x128, .f32⟩
  | .hbm, ⟨13, _⟩ => ⟨S8192x128, .f32⟩
  | .hbm, ⟨14, _⟩ => ⟨S8192x1024, .f32⟩
  | .hbm, ⟨15, _⟩ => ⟨S8192x1024, .f32⟩
  | .hbm, ⟨16, _⟩ => ⟨S8192x128, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== ForgetSums.lean ====
abbrev S8192x128 : Shape := ⟨2, ![8192, 128]⟩
abbrev S1x128 : Shape := ⟨2, ![1, 128]⟩
abbrev S256x128 : Shape := ⟨2, ![256, 128]⟩
abbrev S8x128 : Shape := ⟨2, ![8, 128]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S8192x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S8x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LogSumsIdeal.lean ====
abbrev S8192x128 : Shape := ⟨2, ![8192, 128]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .i1⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S_, .f32⟩
  | .hbm, ⟨22, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_call1_call0_cst : Ref sig .tc := ⟨.hbm, 20, rfl⟩
abbrev main_call1_call0_v0 : Ref sig .tc := ⟨.hbm, 21, rfl⟩
abbrev main_v3 : Ref sig .tc := ⟨.hbm, 22, rfl⟩

abbrev nD : Nat := 1
abbrev τ : Topo := Topo.v7x

variable {F : FTy → Type} [FloatOps F]
-- ==== ForgetGrad.lean ====
abbrev S8192x128 : Shape := ⟨2, ![8192, 128]⟩
abbrev S1x128 : Shape := ⟨2, ![1, 128]⟩
abbrev S8x128 : Shape := ⟨2, ![8, 128]⟩
abbrev S256x128 : Shape := ⟨2, ![256, 128]⟩
abbrev S256x256 : Shape := ⟨2, ![256, 256]⟩
abbrev S128 : Shape := ⟨1, ![128]⟩

abbrev nBuf : Space → Nat
  | .hbm => 5
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x128, .f32⟩
  | .hbm, ⟨3, _⟩ => ⟨S8192x128, .bf16⟩
  | .hbm, ⟨4, _⟩ => ⟨S8x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S256x128, .bf16⟩
  | .local _ .vmem, ⟨6, _⟩ => ⟨S256x128, .bf16⟩
  | .local _ .vmem, ⟨7, _⟩ => ⟨S8x128, .f32⟩
  | .local _ .vmem, ⟨8, _⟩ => ⟨S8x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LogSumsGradIdeal.lean ====
abbrev S8192x128 : Shape := ⟨2, ![8192, 128]⟩
abbrev S1x128 : Shape := ⟨2, ![1, 128]⟩
abbrev S_ : Shape := ⟨0, ![]⟩
abbrev S128 : Shape := ⟨1, ![128]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S_, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .i1⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x128, .i1⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S_, .f32⟩
  | .hbm, ⟨27, _⟩ => ⟨S8192x128, .f32⟩
  | .hbm, ⟨28, _⟩ => ⟨S8192x128, .i1⟩
  | .hbm, ⟨29, _⟩ => ⟨S_, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x128, .f32⟩
  | .hbm, ⟨42, _⟩ => ⟨S8192x128, .i1⟩
  | .hbm, ⟨43, _⟩ => ⟨S_, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S_, .f32⟩
  | .hbm, ⟨55, _⟩ => ⟨S8192x128, .f32⟩
  | .hbm, ⟨56, _⟩ => ⟨S_, .f32⟩
  | .hbm, ⟨57, _⟩ => ⟨S_, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S_, .f32⟩
  | .hbm, ⟨63, _⟩ => ⟨S128, .f32⟩
  | .hbm, ⟨64, _⟩ => ⟨S1x128, .f32⟩
  | .hbm, ⟨65, _⟩ => ⟨S8192x128, .bf16⟩
  | .hbm, ⟨66, _⟩ => ⟨S_, .i32⟩
  | .hbm, ⟨67, _⟩ => ⟨S_, .f32⟩
  | .hbm, ⟨68, _⟩ => ⟨S8x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_c : Ref sig .tc := ⟨.hbm, 66, rfl⟩
abbrev main_call4_v0 : Ref sig .tc := ⟨.hbm, 67, rfl⟩
abbrev main_v9 : Ref sig .tc := ⟨.hbm, 68, rfl⟩

abbrev nD : Nat := 1
abbrev τ : Topo := Topo.v7x

variable {F : FTy → Type} [FloatOps F]
-- ==== Proof.Exchange.lean ====
/-
  An exchange with no barrier: every core copies one block to its own row of its result and sends one block to the same
  row of each peer's result, all transfers started before the first wait. Copy `k` of core `c` goes to `peer k c`, and
  `peer k` is an involution, so the transfer that lands on `c`'s receive semaphore `k` is `peer k c`'s copy `k`.

  The protocol. Each core has `2 n + 1` cells of one round of one duty: send `k`, receive `k` and local, all of the same
  amount. The send duty is paid by the read-out of the core's own copy `k` and hands its source back; the receive duty is
  paid by the landing of the peer's copy `k` and hands the core the peer's row of its result, written; the local duty
  hands back the core's own row, written, and its source. A core owes the receive credits of its `n` peers at the launch,
  has paid them when its transfers are started, and waits only after that, owing nothing. There being no barrier, the
  rows of a core's result are with the cores that write them from the launch on (`deal_swap`).
-/
module

public import Idealize.ShloMosaic.Lib.Pipeline.Launch
public import Idealize.ShloMosaic.Lib.Tactic
public import Idealize.ShloMosaic.Lib.Rounds.Family

@[expose] public section

set_option Elab.async false

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ownSems0 launchCred launchCred_sum launchCred_tallyAt)

/-! ## The resource algebra: the pipeline's rounds and the exchange's -/

abbrev UR (nD : Nat) (τ : Topo) (sig : RefSig) : Type := URounds (GSem nD τ sig) Unit
abbrev UU (nD : Nat) (τ : Topo) (sig : RefSig) : Type := UR nD τ sig × UR nD τ sig

variable {nD : Nat} {τ : Topo} {sig : RefSig} {Val : EltTy → Type}

local notation "𝕄" => MT nD τ sig Unit Val ℕ (UU nD τ sig) ℕ

/-- The pipeline's copy; -/
def EP : Emb (UR nD τ sig) 𝕄 :=
  (Emb.inl : Emb (UR nD τ sig) (UU nD τ sig)).trans (uEmb (nD := nD) (sig := sig) (Ix := Unit) (Val := Val) (Name := ℕ) (U := UU nD τ sig) (Lvl := ℕ)).toEmb

/-- the exchange's. -/
def EX : Emb (UR nD τ sig) 𝕄 :=
  (Emb.inr : Emb (UR nD τ sig) (UU nD τ sig)).trans (uEmb (nD := nD) (sig := sig) (Ix := Unit) (Val := Val) (Name := ℕ) (U := UU nD τ sig) (Lvl := ℕ)).toEmb

instance EP_lands : (EP : Emb (UR nD τ sig) 𝕄).LandsIn (upEmb : UEmb _ 𝕄) := by unfold EP; infer_instance
instance EX_lands : (EX : Emb (UR nD τ sig) 𝕄).LandsIn (upEmb : UEmb _ 𝕄) := by unfold EX; infer_instance

theorem ownU_pair (a b : UR nD τ sig) : (ownU (a, b) : sProp 𝕄) ⊢ iprop(BI.own (EP a) ∗ BI.own (EX b)) :=
  BI.own_op_elim ((uEmb (nD := nD) (sig := sig) (Ix := Unit) (Val := Val) (Name := ℕ) (U := UU nD τ sig) (Lvl := ℕ)).toEmb.op_of_mem
    (Prod.mk_mem_op (URA.mem_op_one a) (URA.mem_one_op b)))

/-! ## The exchange -/

/-- The operands of an exchange: `n` copies per core, blocks of shape `s`. -/
structure Xch (nD : Nat) (τ : Topo) (sig : RefSig) (n : ℕ) (sp sp' : Space) (s : Shape) (e : EltTy) where
  own : Dev nD → Memref sig .tc sp s e
  src : Fin n → Dev nD → Memref sig .tc sp s e
  dst : Dev nD → Memref sig .tc sp' s e
  peer : Fin n → Dev nD → Dev nD
  peer_peer : ∀ k c, peer k (peer k c) = c
  sem : Fin n ⊕ Fin n ⊕ Unit → DmaSem sig
  sem_inj : Function.Injective sem
  wown : ∀ c, (own c).view.WordExact
  wsrc : ∀ k c, (src k c).view.WordExact
  wdst : ∀ c, (dst c).view.WordExact
  shared : ∀ c, (dst c).view.ref.isScScratch = false
  typedL : ∀ c, DmaTarget.Typed sp (.dma (sem (.inr (.inr ())))) (.here (dst c) : DmaTarget nD τ sig .tc sp' s e)
  typedR : ∀ k c, DmaTarget.Typed sp (.dma (sem (.inr (.inl k))))
    (.remote (Dev.tc (peer k c) : Thread nD τ) (dst c) (.dma (sem (.inl k))) (shared c) : DmaTarget nD τ sig .tc sp' s e)
  N : ℕ
  N_pos : 0 < N
  cred_dst : ∀ c, (dst c).view.dmaCredit = N
  cred_src : ∀ k c, (src k c).view.dmaCredit = N
  qo : PosShare TreeShare
  q : Fin n → PosShare TreeShare

namespace Xch

variable {n : ℕ} {sp sp' : Space} {s : Shape} {e : EltTy} (X : Xch nD τ sig n sp sp' s e)

/-! ### The program -/

section Program

variable {Λ : Labels}

/-- The remote copies of the list started in order, then `k`; -/
def starts (c : Dev nD) (k : Prog (TpuEff nD τ sig Val Λ .tc) PUnit) : List (Fin n) → Prog (TpuEff nD τ sig Val Λ .tc) PUnit
  | [] => k
  | j :: l => .op (.enqueueDma (X.src j c) (.remote (Dev.tc (X.peer j c)) (X.dst c) (.dma (X.sem (.inl j))) (X.shared c)) (.dma (X.sem (.inr (.inl j))))
      (X.wsrc j c) (X.wdst c) (X.typedR j c)) fun _ => starts c k l

/-- each waited for: its source read out, the peer's landed; -/
def waits (c : Dev nD) (k : Prog (TpuEff nD τ sig Val Λ .tc) PUnit) : List (Fin n) → Prog (TpuEff nD τ sig Val Λ .tc) PUnit
  | [] => k
  | j :: l => .op (.waitDma2 (X.sem (.inl j)) (X.dst c) (X.src j c) (X.wdst c) (X.wsrc j c)) fun _ =>
      .op (.waitDma2 (X.sem (.inr (.inl j))) (X.src j c) (X.dst c) (X.wsrc j c) (X.wdst c)) fun _ => waits c k l

/-- the exchange. -/
def body (l : List (Fin n)) (c : Dev nD) : Prog (TpuEff nD τ sig Val Λ .tc) PUnit :=
  .op (.enqueueDma (X.own c) (.here (X.dst c)) (.dma (X.sem (.inr (.inr ())))) (X.wown c) (X.wdst c) (X.typedL c)) fun _ =>
    X.starts c (X.waits c (.op (.waitDma2 (X.sem (.inr (.inr ()))) (X.own c) (X.dst c) (X.wown c) (X.wdst c)) fun _ => .ret ⟨⟩) l) l

end Program

/-! ### The cells and their contents -/

abbrev osem (k : Fin n ⊕ Fin n ⊕ Unit) : SemLoc sig := .dma (X.sem k)

abbrev kcell (ck : Dev nD × (Fin n ⊕ Fin n ⊕ Unit)) : GSem nD τ sig := ((ck.1 : Thread nD τ), X.osem ck.2)

theorem kcell_inj : Function.Injective X.kcell := fun x y h => by
  obtain ⟨c, k⟩ := x; obtain ⟨c', k'⟩ := y
  have h1 : c = c' := congrArg (fun g : GSem nD τ sig => g.1.1) h
  have h2 : X.sem k = X.sem k' := SemLoc.dma.inj (congrArg (fun g : GSem nD τ sig => g.2) h)
  rw [h1, X.sem_inj h2]

abbrev sendC (k : Fin n) (c : Dev nD) : GSem nD τ sig := X.kcell (c, .inl k)
abbrev recvC (k : Fin n) (c : Dev nD) : GSem nD τ sig := X.kcell (c, .inr (.inl k))
abbrev locC (c : Dev nD) : GSem nD τ sig := X.kcell (c, .inr (.inr ()))

variable (m : (ℓ : Loc nD τ sig) → Buf Val ℓ)

/-- The local copy's source, as launched; -/
def ownP (c : Dev nD) : sProp 𝕄 := (X.own c).view.loc (c : Thread nD τ) ↦[(X.own c).view.set]{X.qo} m ((X.own c).view.loc (c : Thread nD τ))
/-- copy `k`'s source, as launched; -/
def srcP (k : Fin n) (c : Dev nD) : sProp 𝕄 := (X.src k c).view.loc (c : Thread nD τ) ↦[(X.src k c).view.set]{X.q k} m ((X.src k c).view.loc (c : Thread nD τ))
/-- row `a` of core `b`'s result, as launched; -/
def rowP (a b : Dev nD) : sProp 𝕄 := (X.dst a).view.loc (b : Thread nD τ) ↦[(X.dst a).view.set]{fullShare} m ((X.dst a).view.loc (b : Thread nD τ))
/-- holding core `a`'s copy `k`; -/
def landed (k : Fin n) (a b : Dev nD) : sProp 𝕄 := (X.dst a).view.loc (b : Thread nD τ) ↦[(X.dst a).view.set]{fullShare}
  (X.dst a).view.write Val (m ((X.dst a).view.loc (b : Thread nD τ))) ((X.src k a).view.read Val (m ((X.src k a).view.loc (a : Thread nD τ)))) Finset.univ
/-- row `c` of core `c`'s result, holding its own block. -/
def landedOwn (c : Dev nD) : sProp 𝕄 := (X.dst c).view.loc (c : Thread nD τ) ↦[(X.dst c).view.set]{fullShare}
  (X.dst c).view.write Val (m ((X.dst c).view.loc (c : Thread nD τ))) ((X.own c).view.read Val (m ((X.own c).view.loc (c : Thread nD τ)))) Finset.univ

/-- What each cell's duty hands its owner. -/
def pay : Dev nD × (Fin n ⊕ Fin n ⊕ Unit) → sProp 𝕄
  | (c, .inl k) => X.srcP m k c
  | (c, .inr (.inl k)) => X.landed m k (X.peer k c) c
  | (c, .inr (.inr _)) => iprop(X.landedOwn m c ∗ X.ownP m c)

instance pay_storable (ck : Dev nD × (Fin n ⊕ Fin n ⊕ Unit)) : BI.Storable (upEmb : UEmb _ 𝕄) (X.pay m ck) := by
  obtain ⟨c, k | k | k⟩ := ck
  · show BI.Storable upEmb (X.srcP m k c); unfold srcP; infer_instance
  · show BI.Storable upEmb (X.landed m k (X.peer k c) c); unfold landed; infer_instance
  · show BI.Storable upEmb iprop(X.landedOwn m c ∗ X.ownP m c); unfold landedOwn ownP; infer_instance

open Classical in
/-- The schedule. -/
def Rd : Rounds.Schedule (GSem nD τ sig) Unit 𝕄 where
  duties g r := if r = 0 ∧ ∃ ck, X.kcell ck = g then {()} else ∅
  unitless _ := False
  amount _ _ _ := X.N
  payload g _ _ := if h : ∃ ck, X.kcell ck = g then X.pay m h.choose else iprop(emp)
  amount_pos _ _ _ _ := X.N_pos

instance Rd_storable (g : GSem nD τ sig) (r : ℕ) (d : Unit) : BI.Storable (upEmb : UEmb _ 𝕄) ((X.Rd m).payload g r d) := by
  unfold Rd; dsimp only; split <;> infer_instance

theorem duties_cell (ck) : (X.Rd m).duties (X.kcell ck) 0 = {()} := by
  unfold Rd; dsimp only; exact if_pos ⟨rfl, ck, rfl⟩
theorem mem_cell (ck) : () ∈ (X.Rd m).duties (X.kcell ck) 0 := by rw [duties_cell]; exact Finset.mem_singleton_self _
theorem duties_later (g : GSem nD τ sig) (r : ℕ) (hr : 1 ≤ r) : (X.Rd m).duties g r = ∅ := by
  unfold Rd; dsimp only; exact if_neg fun h => by omega
theorem payload_cell (ck) (r : ℕ) (d : Unit) : (X.Rd m).payload (X.kcell ck) r d = X.pay m ck := by
  have h : ∃ ck', X.kcell ck' = X.kcell ck := ⟨ck, rfl⟩
  unfold Rd; dsimp only; rw [dif_pos h, X.kcell_inj h.choose_spec]
theorem amount_cell (g : GSem nD τ sig) (r : ℕ) (d : Unit) : (X.Rd m).amount g r d = X.N := rfl
theorem expect_cell (ck) : (X.Rd m).expect (X.kcell ck) 0 = X.N := by
  unfold Schedule.expect Schedule.amountOf; rw [duties_cell, Finset.sum_singleton, amount_cell]
theorem rest_cell (ck) : bigSep ((X.Rd m).duties (X.kcell ck) 0 \ ∅) (fun d => (X.Rd m).payload (X.kcell ck) 0 d) = X.pay m ck := by
  rw [Finset.sdiff_empty, duties_cell, bigSep_singleton, payload_cell]

/-- The records every core may consult: the invariants under one map of names, the reached-marks. -/
def records (κ : Dev nD × (Fin n ⊕ Fin n ⊕ Unit) → ℕ) : sProp 𝕄 :=
  iprop((bigSep Finset.univ fun ck => cellInv EX (X.Rd m) (κ ck) (X.kcell ck)) ∗ bigSep Finset.univ fun ck => reached EX (X.kcell ck) 0)

instance records_persistent (κ) : BI.Persistent (X.records m κ) := by unfold records; infer_instance

theorem records_inv (κ) (ck) : X.records m κ ⊢ cellInv EX (X.Rd m) (κ ck) (X.kcell ck) := by
  have h : (bigSep Finset.univ fun ck => (cellInv EX (X.Rd m) (κ ck) (X.kcell ck) : sProp 𝕄)) ⊢ cellInv EX (X.Rd m) (κ ck) (X.kcell ck) := bigSep_elim (Finset.mem_univ ck)
  unfold records; iintro ⟨H, -⟩
  iapply h; iexact H
theorem records_reached (κ) (ck) : X.records m κ ⊢ reached EX (X.kcell ck) 0 := by
  have h : (bigSep Finset.univ fun ck => (reached EX (X.kcell ck) 0 : sProp 𝕄)) ⊢ reached EX (X.kcell ck) 0 := bigSep_elim (Finset.mem_univ ck)
  unfold records; iintro ⟨-, H⟩
  iapply h; iexact H

/-! ### The run of the exchange on one core -/

section Wp

variable {Λ : Labels} (defs : Defs nD τ sig Val Λ) (𝒱 : Variants) (κ : Dev nD × (Fin n ⊕ Fin n ⊕ Unit) → ℕ) (c : Dev nD)

/-- What starting copy `k` needs; -/
def toStart (k : Fin n) : sProp 𝕄 := iprop(X.srcP m k c ∗ X.rowP m c (X.peer k c) ∗ dutyTok EX (X.sendC k c) 0 () ∗ dutyTok EX (X.recvC k (X.peer k c)) 0 ())
/-- what waiting for it needs; -/
def toWait (k : Fin n) : sProp 𝕄 := iprop(cred (tallyAt (X.sendC k c) () X.N) ∗ cred (tallyAt (X.recvC k c) () X.N)
  ∗ atPos EX (X.sendC k c) 0 ∅ 0 ∗ atPos EX (X.recvC k c) 0 ∅ 0)
/-- what the wait hands back. -/
def waited (k : Fin n) : sProp 𝕄 := iprop((X.srcP m k c ∗ X.landed m k (X.peer k c) c)
  ∗ atPos EX (X.sendC k c) 1 ∅ 0 ∗ atPos EX (X.recvC k c) 1 ∅ 0)
/-- The receive credits the core owes for the copies of a list. -/
def dues (l : List (Fin n)) : CellTallies nD τ sig Unit := ∑ k ∈ l.toFinset, tallyAt (X.recvC k (X.peer k c)) () X.N

theorem dues_cons {j : Fin n} {l : List (Fin n)} (hj : j ∉ l) :
    X.dues (τ := τ) c (j :: l) = X.dues c l + tallyAt (X.recvC j (X.peer j c)) () X.N := by
  unfold dues; rw [List.toFinset_cons, Finset.sum_insert (by simpa using hj), add_comm]

theorem big_cons {j : Fin n} {l : List (Fin n)} (hj : j ∉ l) (Φ : Fin n → sProp 𝕄) :
    bigSep (j :: l).toFinset Φ = iprop(Φ j ∗ bigSep l.toFinset Φ) := by
  rw [List.toFinset_cons]; exact BI.bigSep_insert (by simpa using hj)

theorem wp_starts (k : Prog (TpuEff nD τ sig Val Λ .tc) PUnit) (Q : PUnit → sProp 𝕄) (W : Waits sig Unit) (l : List (Fin n)) (hl : l.Nodup) :
    iprop(X.records m κ ∗ bigSep l.toFinset (X.toStart m c) ∗ owes (c : Thread nD τ) (X.dues c l) W)
      ⊢ iprop(((bigSep l.toFinset fun k => cred (tallyAt (X.sendC k c) () X.N)) ∗ owes (c : Thread nD τ) 0 W
            -∗ wp frame (wpE defs 𝒱 (c : Thread nD τ) none) Set.univ k Q)
          -∗ wp frame (wpE defs 𝒱 (c : Thread nD τ) none) Set.univ (X.starts c k l) Q) := by
  induction l with
  | nil =>
    rw [show X.dues (τ := τ) c [] = 0 from by unfold dues; simp]
    iintro ⟨-, -, HO⟩ Hk
    iapply Hk
    isplitr [HO]
    · rw [List.toFinset_nil, bigSep_empty]; iempintro
    · iexact HO
  | cons j l ih =>
    obtain ⟨hj, hl'⟩ := List.nodup_cons.mp hl
    rw [big_cons hj, big_cons hj, dues_cons X c hj]
    unfold toStart
    iintro ⟨#HR, ⟨⟨Hs, Hd, Ht, Ht'⟩, Hrest⟩, HO⟩ Hk
    unfold starts srcP rowP
    iapply (Rounds.wp_send_pointsTo 𝒱 EX (X.Rd m) (c : Thread nD τ) none (c' := (X.peer j c : Thread nD τ)) (κ₁ := κ (c, .inl j)) (κ₂ := κ (X.peer j c, .inr (.inl j)))
      (r₁ := 0) (r₂ := 0) (d₁ := ()) (d₂ := ())
      (X.mem_cell m (c, .inl j)) (X.mem_cell m (X.peer j c, .inr (.inl j))) () () X.N (X.cred_dst c) rfl rfl (X.dues c l) rfl (W := W)
      (by rw [show (((c : Thread nD τ), (SemLoc.dma (X.sem (.inl j)) : SemLoc sig)) : GSem nD τ sig) = X.kcell (c, .inl j) from rfl, payload_cell]; exact BI.Entails.refl _)
      (by rw [show (((X.peer j c : Thread nD τ), (SemLoc.dma (X.sem (.inr (.inl j))) : SemLoc sig)) : GSem nD τ sig) = X.kcell (X.peer j c, .inr (.inl j)) from rfl, payload_cell]
          show _ ⊢ X.landed m j (X.peer j (X.peer j c)) (X.peer j c)
          rw [X.peer_peer]; exact BI.Entails.refl _)) $$ [Hs Hd HO Ht Ht']
    · isplitr; · iapply (X.records_inv m κ (c, .inl j)); iexact HR
      isplitr; · iapply (X.records_inv m κ (X.peer j c, .inr (.inl j))); iexact HR
      isplitl [Hs]; · iexact Hs
      isplitl [Hd]; · iexact Hd
      isplitl [HO]; · iexact HO
      isplitl [Ht]; · iexact Ht
      isplitr; · iapply (X.records_reached m κ (c, .inl j)); iexact HR
      isplitl [Ht']; · iexact Ht'
      iapply (X.records_reached m κ (X.peer j c, .inr (.inl j))); iexact HR
    iintro ⟨Hc, HO⟩
    iapply (ih hl') $$ [Hrest HO]
    · isplitr; · iexact HR
      isplitl [Hrest]; · iexact Hrest
      iexact HO
    iintro ⟨Hcs, HO⟩
    iapply Hk
    isplitr [HO]
    · isplitl [Hc]; · iexact Hc
      iexact Hcs
    · iexact HO

theorem wp_waits (k : Prog (TpuEff nD τ sig Val Λ .tc) PUnit) (Q : PUnit → sProp 𝕄) (l : List (Fin n)) (hl : l.Nodup) (W : Waits sig Unit) :
    iprop(X.records m κ ∗ bigSep l.toFinset (X.toWait c) ∗ owes (c : Thread nD τ) 0 W)
      ⊢ iprop((bigSep l.toFinset (X.waited m c) ∗ (∃ W', owes (c : Thread nD τ) 0 W')
            -∗ wp frame (wpE defs 𝒱 (c : Thread nD τ) none) Set.univ k Q)
          -∗ wp frame (wpE defs 𝒱 (c : Thread nD τ) none) Set.univ (X.waits c k l) Q) := by
  induction l generalizing W with
  | nil =>
    iintro ⟨-, -, HO⟩ Hk
    iapply Hk
    isplitr [HO]
    · rw [List.toFinset_nil, bigSep_empty]; iempintro
    · iexists W; iexact HO
  | cons j l ih =>
    obtain ⟨hj, hl'⟩ := List.nodup_cons.mp hl
    rw [big_cons hj, big_cons hj]
    unfold toWait
    iintro ⟨#HR, ⟨⟨HcS, HcV, HaS, HaV⟩, Hrest⟩, HO⟩ Hk
    unfold waits
    iapply (Rounds.wp_wait_rest_token 𝒱 EX (X.Rd m) (c : Thread nD τ) none (κ := κ (c, .inl j))
      (wpE_waitDma2_eq 𝒱 (c : Thread nD τ) none Set.univ) (Set.mem_univ _) () (O := 0) (W := W) (R := 0) (m := 0) (T := ∅)
      (by rw [Nat.zero_add, X.cred_src]; exact (X.expect_cell m (c, .inl j)).symm)) $$ [HcS HO HaS]
    · isplitr; · iapply (X.records_inv m κ (c, .inl j)); iexact HR
      isplitl [HcS]; · rw [X.cred_src]; iexact HcS
      isplitl [HO]; · iexact HO
      isplitr; · rw [MayWait_zero]; iempintro
      iexact HaS
    iintro ⟨HO, HaS, -, Hp⟩
    ihave Hs := (Entails.of_eq ((X.rest_cell m (c, .inl j)).trans (show X.pay m (c, .inl j) = X.srcP m j c from rfl))) $$ Hp
    iapply (Rounds.wp_wait_rest_token 𝒱 EX (X.Rd m) (c : Thread nD τ) none (κ := κ (c, .inr (.inl j)))
      (wpE_waitDma2_eq 𝒱 (c : Thread nD τ) none Set.univ) (Set.mem_univ _) () (O := 0) (R := 0) (m := 0) (T := ∅)
      (by rw [Nat.zero_add, X.cred_dst]; exact (X.expect_cell m (c, .inr (.inl j))).symm)) $$ [HcV HO HaV]
    · isplitr; · iapply (X.records_inv m κ (c, .inr (.inl j))); iexact HR
      isplitl [HcV]; · rw [X.cred_dst]; iexact HcV
      isplitl [HO]; · iexact HO
      isplitr; · rw [MayWait_zero]; iempintro
      iexact HaV
    iintro ⟨HO, HaV, -, Hp⟩
    ihave Hv := (Entails.of_eq ((X.rest_cell m (c, .inr (.inl j))).trans (show X.pay m (c, .inr (.inl j)) = X.landed m j (X.peer j c) c from rfl))) $$ Hp
    iapply (ih hl') $$ [Hrest HO]
    · isplitr; · iexact HR
      isplitl [Hrest]; · iexact Hrest
      iexact HO
    iintro ⟨Hws, HO⟩
    iapply Hk
    isplitr [HO]
    · isplitr [Hws]
      · unfold waited
        isplitl [Hs Hv]
        · isplitl [Hs]; · iexact Hs
          iexact Hv
        isplitl [HaS] <;> iassumption
      iexact Hws
    · iexact HO

/-- What a core starts the exchange with, beside its dues: -/
def start : sProp 𝕄 :=
  iprop((∃ κ, X.records m κ)
    ∗ (bigSep Finset.univ fun k => atPos EX (X.kcell (c, k)) 0 ∅ 0)
    ∗ (X.ownP m c ∗ X.rowP m c c ∗ dutyTok EX (X.locC c) 0 ())
    ∗ bigSep Finset.univ (X.toStart m c)
    ∗ bigSep Finset.univ fun k => cred (tallyAt (X.recvC k c) () X.N))

/-- and what it ends with. -/
def finish : sProp 𝕄 :=
  iprop((X.ownP m c ∗ X.landedOwn m c) ∗ (bigSep Finset.univ fun k => iprop(X.srcP m k c ∗ X.landed m k (X.peer k c) c)) ∗ ownSems0 X.osem c)

theorem split_cells (Φ : Fin n ⊕ Fin n ⊕ Unit → sProp 𝕄) :
    bigSep Finset.univ Φ = iprop((bigSep Finset.univ fun k => Φ (.inl k)) ∗ (bigSep Finset.univ fun k => Φ (.inr (.inl k))) ∗ Φ (.inr (.inr ()))) := by
  rw [BI.bigSep_univ_sum, BI.bigSep_univ_sum (fun b => Φ (.inr b)), show (Finset.univ : Finset Unit) = {()} from rfl, bigSep_singleton]; rfl

theorem wp_body (l : List (Fin n)) (hl : l.Nodup) (hu : l.toFinset = Finset.univ) (W : Waits sig Unit) (Q : PUnit → sProp 𝕄) :
    iprop(X.start m c ∗ owes (c : Thread nD τ) (X.dues c l) W ∗ ((X.finish m c ∗ ∃ W', owes (c : Thread nD τ) 0 W') -∗ Q ⟨⟩))
      ⊢ wp frame (wpE defs 𝒱 (c : Thread nD τ) none) Set.univ (X.body l c) Q := by
  unfold start body
  rw [split_cells]
  iintro ⟨⟨⟨%κ, #HR⟩, ⟨HaS, HaV, HaL⟩, ⟨Hown, Hrow, HtL⟩, Hst, Hcr⟩, HO, Hk⟩
  unfold ownP rowP
  iapply (Rounds.wp_copy_pointsTo 𝒱 EX (X.Rd m) (c : Thread nD τ) none (κ := κ (c, .inr (.inr ()))) (r := 0) (d := ()) (X.mem_cell m (c, .inr (.inr ()))) () X.N
    (X.cred_dst c) rfl
    (by rw [show (((c : Thread nD τ), (SemLoc.dma (X.sem (.inr (.inr ()))) : SemLoc sig)) : GSem nD τ sig) = X.kcell (c, .inr (.inr ())) from rfl, payload_cell]; exact BI.Entails.refl _))
    $$ [Hown Hrow HtL]
  · isplitr; · iapply (X.records_inv m κ (c, .inr (.inr ()))); iexact HR
    isplitl [Hown]; · iexact Hown
    isplitl [Hrow]; · iexact Hrow
    isplitl [HtL]; · iexact HtL
    iapply (X.records_reached m κ (c, .inr (.inr ()))); iexact HR
  iintro HcL
  iapply (X.wp_starts m defs 𝒱 κ c _ Q W l hl) $$ [Hst HO]
  · rw [hu]
    isplitr; · iexact HR
    isplitl [Hst] <;> iassumption
  iintro ⟨HcS, HO⟩
  iapply (X.wp_waits m defs 𝒱 κ c _ Q l hl W) $$ [HcS Hcr HaS HaV HO]
  · isplitr; · iexact HR
    isplitr [HO]
    · unfold toWait; rw [hu]; simp only [bigSep_sep']
      isplitl [HcS]; · iexact HcS
      isplitl [Hcr]; · iexact Hcr
      isplitl [HaS] <;> iassumption
    iexact HO
  iintro ⟨Hw, ⟨%W', HO⟩⟩
  iapply (Rounds.wp_wait_rest_token 𝒱 EX (X.Rd m) (c : Thread nD τ) none (κ := κ (c, .inr (.inr ())))
    (wpE_waitDma2_eq 𝒱 (c : Thread nD τ) none Set.univ) (Set.mem_univ _) () (O := 0) (R := 0) (m := 0) (T := ∅)
    (by rw [Nat.zero_add, X.cred_dst]; exact (X.expect_cell m (c, .inr (.inr ()))).symm)) $$ [HcL HO HaL]
  · isplitr; · iapply (X.records_inv m κ (c, .inr (.inr ()))); iexact HR
    isplitl [HcL]; · rw [X.cred_dst]; iexact HcL
    isplitl [HO]; · iexact HO
    isplitr; · rw [MayWait_zero]; iempintro
    iexact HaL
  iintro ⟨HO, HaL, -, Hp⟩
  ihave Hl := (Entails.of_eq ((X.rest_cell m (c, .inr (.inr ()))).trans (show X.pay m (c, .inr (.inr ())) = iprop(X.landedOwn m c ∗ X.ownP m c) from rfl))) $$ Hp
  icases Hl with ⟨Hlo, Hown⟩
  ihave Hw := (Entails.of_eq (show bigSep l.toFinset (X.waited m c) = iprop((bigSep Finset.univ fun k => iprop(X.srcP m k c ∗ X.landed m k (X.peer k c) c))
      ∗ (bigSep Finset.univ fun k => atPos EX (X.sendC k c) 1 ∅ 0) ∗ bigSep Finset.univ fun k => atPos EX (X.recvC k c) 1 ∅ 0) from by
    unfold waited; rw [hu]; simp only [bigSep_sep'])) $$ Hw
  icases Hw with ⟨Hv, HaS, HaV⟩
  iapply (fupd_wp frame (wpE defs 𝒱 (c : Thread nD τ) none) Set.univ _ _)
  imod (Rounds.cells_close EX (X.Rd m) Finset.univ (fun k => X.kcell (c, k)) (fun k => κ (c, k)) (Es := Set.univ) (fun _ _ => Set.mem_univ _) (fun _ _ h => h) (fun _ => 1)
    (fun k _ r hr => X.duties_later m _ r hr)) $$ [HaS HaV HaL] with Hz
  · rw [bigSep_sep']
    isplitr
    · iapply (show X.records m κ ⊢ bigSep Finset.univ fun k => cellInv EX (X.Rd m) (κ (c, k)) (X.kcell (c, k)) from
        (BI.bigSep_of_persistent Finset.univ _).trans (bigSep_mono fun k _ => X.records_inv m κ (c, k)))
      iexact HR
    · rw [split_cells]
      isplitl [HaS]; · iexact HaS
      isplitl [HaV] <;> iassumption
  imodintro
  rw [wp_ret]; imodintro
  iapply Hk
  isplitr [HO]
  · unfold finish ownSems0
    isplitl [Hown Hlo]
    · isplitl [Hown] <;> iassumption
    isplitl [Hv] <;> iassumption
  · iexists _; iexact HO

end Wp

/-! ### The launch -/

/-- The cells and their tokens at the launch; -/
def cells : Finset (GSem nD τ sig) := Finset.univ.map ⟨X.kcell, X.kcell_inj⟩
def toks : Finset (GSem nD τ sig × ℕ × Unit) :=
  Finset.univ.map ⟨fun ck => (X.kcell ck, 0, ()), fun _ _ h => X.kcell_inj (congrArg Prod.fst h)⟩

/-- what the launch element deals core `c`. -/
def G (c : Dev nD) : sProp 𝕄 :=
  bigSep Finset.univ fun k => iprop(roundState EX (X.Rd m) (X.kcell (c, k)) 0 ∗ reached EX (X.kcell (c, k)) 0 ∗ atPos EX (X.kcell (c, k)) 0 ∅ 0 ∗ dutyTok EX (X.kcell (c, k)) 0 ())

theorem fund : (BI.own (EX (initOf X.cells X.toks)) : sProp 𝕄) ⊢ |={Set.univ}=> bigSep Finset.univ (X.G m) := by
  have hS (Φ : GSem nD τ sig → sProp 𝕄) : bigSep X.cells Φ = bigSep Finset.univ fun c : Dev nD => bigSep Finset.univ fun k => Φ (X.kcell (c, k)) := by
    unfold cells; rw [bigSep_map, bigSep_univ_prod]; rfl
  have hT : bigSep X.toks (fun x => (dutyTok EX x.1 x.2.1 x.2.2 : sProp 𝕄)) = bigSep Finset.univ fun c : Dev nD => bigSep Finset.univ fun k => dutyTok EX (X.kcell (c, k)) 0 () := by
    unfold toks; rw [bigSep_map, bigSep_univ_prod]; rfl
  iintro H
  imod (Rounds.fund EX (X.Rd m) X.cells X.toks) $$ H with ⟨Hst, Hr, Hat, Htok⟩
  ihave Hst := (Entails.of_eq (hS fun g => roundState EX (X.Rd m) g 0)) $$ Hst
  ihave Hr := (Entails.of_eq (hS fun g => reached EX g 0)) $$ Hr
  ihave Hat := (Entails.of_eq (hS fun g => atPos EX g 0 ∅ 0)) $$ Hat
  ihave Htok := (Entails.of_eq hT) $$ Htok
  imodintro
  unfold G; simp only [bigSep_sep']
  isplitl [Hst]; · iexact Hst
  isplitl [Hr]; · iexact Hr
  isplitl [Hat] <;> iassumption

/-- What core `b` has for its peers `peer k b`, carried to them. -/
theorem deal_swap (Φ : Fin n → Dev nD → Dev nD → sProp 𝕄) :
    (bigSep Finset.univ fun b : Dev nD => bigSep Finset.univ fun k => Φ k (X.peer k b) b)
      = bigSep Finset.univ fun c : Dev nD => bigSep Finset.univ fun k => Φ k c (X.peer k c) := by
  rw [BI.bigSep_univ_comm fun (b : Dev nD) k => Φ k (X.peer k b) b, BI.bigSep_univ_comm fun (c : Dev nD) k => Φ k c (X.peer k c)]
  refine BI.bigSep_congr fun k _ => ?_
  rw [BI.bigSep_univ_equiv (⟨X.peer k, X.peer k, X.peer_peer k, X.peer_peer k⟩ : Dev nD ≃ Dev nD)]
  exact BI.bigSep_congr fun c _ => by
    show Φ k (X.peer k (X.peer k c)) (X.peer k c) = _
    rw [X.peer_peer]

/-- The receive credits of a core, out of the launch credit. -/
theorem credits (l : List (Fin n)) (c : Dev nD) :
    (launchCred (fun d => X.dues (τ := τ) d l) c : sProp 𝕄) ⊢ bigSep l.toFinset fun k => cred (tallyAt (X.recvC k c) () X.N) := by
  unfold dues
  rw [launchCred_sum]
  exact bigSep_mono fun k _ => launchCred_tallyAt (X.osem (.inr (.inl k))) (X.peer k) (X.peer k) (X.peer_peer k) (X.peer_peer k) () X.N c

/-- Every core's cells opened from its semaphores at zero, and everything dealt: one map of names, the records to every
    core, the receive tokens and the rows to the cores that send. -/
theorem glob (l : List (Fin n)) (hu : l.toFinset = Finset.univ) :
    (bigSep Finset.univ fun c : Dev nD => iprop(ownSems0 X.osem c ∗ X.G m c
        ∗ (X.ownP m c ∗ X.rowP m c c) ∗ (bigSep Finset.univ fun k => X.srcP m k c) ∗ (bigSep Finset.univ fun k => X.rowP m (X.peer k c) c)
        ∗ launchCred (fun d => X.dues (τ := τ) d l) c))
      ⊢ |={Set.univ}=> bigSep Finset.univ (X.start m) := by
  have halloc (c : Dev nD) : iprop(ownSems0 X.osem c ∗ bigSep Finset.univ fun k => roundState EX (X.Rd m) (X.kcell (c, k)) 0)
      ⊢ |={Set.univ}=> (bigSep Finset.univ fun k => iprop(∃ κ : ℕ, cellInv EX (X.Rd m) κ (X.kcell (c, k))) : sProp 𝕄) := by
    unfold ownSems0
    rw [← bigSep_sep']
    exact (bigSep_mono fun k _ => (Rounds.body_intro EX (X.Rd m) (X.kcell (c, k))).trans inv_alloc).trans (bigSep_fupd _ _)
  have hrow := X.deal_swap (τ := τ) (Val := Val) fun k a b => X.rowP m a b
  have htok := X.deal_swap (τ := τ) (Val := Val) fun k a b => dutyTok EX (X.recvC k b) 0 ()
  simp only [bigSep_sep', G]
  rw [hrow]
  iintro ⟨Hos, ⟨Hst, Hr, Hat, Htok⟩, ⟨Hown, Hrow⟩, Hsrc, Hrows, Hcr⟩
  imod (((Entails.of_eq (bigSep_sep' _ _ _).symm).trans (bigSep_mono fun c _ => halloc c)).trans (bigSep_fupd _ _)) $$ [Hos Hst] with HI
  · isplitl [Hos] <;> iassumption
  imodintro
  ihave HI := (Entails.of_eq (bigSep_univ_prod (fun ck : Dev nD × (Fin n ⊕ Fin n ⊕ Unit) => iprop(∃ κ : ℕ, cellInv EX (X.Rd m) κ (X.kcell ck)))).symm) $$ HI
  ihave HK := (BI.bigSep_exists_pi Finset.univ (fun (ck : Dev nD × (Fin n ⊕ Fin n ⊕ Unit)) (κ : ℕ) => (cellInv EX (X.Rd m) κ (X.kcell ck) : sProp 𝕄))) $$ HI
  icases HK with ⟨%κ, HI⟩
  ihave Hr := (Entails.of_eq (bigSep_univ_prod (fun ck : Dev nD × (Fin n ⊕ Fin n ⊕ Unit) => (reached EX (X.kcell ck) 0 : sProp 𝕄))).symm) $$ Hr
  ihave Htok := (Entails.of_eq ((BI.bigSep_congr fun c _ => split_cells fun k => (dutyTok EX (X.kcell (c, k)) 0 () : sProp 𝕄)).trans (by
    simp only [bigSep_sep']; rw [htok]))) $$ Htok
  icases Htok with ⟨HtS, HtR, HtL⟩
  have hrec : X.records m κ ⊢ bigSep Finset.univ fun _ : Dev nD => iprop(∃ κ, X.records m κ) :=
    (BI.bigSep_of_persistent Finset.univ _).trans (bigSep_mono fun c _ => show X.records m κ ⊢ (iprop(∃ κ, X.records m κ) : sProp 𝕄) from by iintro H; iexists κ; iexact H)
  have hcr : (bigSep Finset.univ (launchCred fun d => X.dues (τ := τ) d l) : sProp 𝕄) ⊢ bigSep Finset.univ fun c : Dev nD => bigSep Finset.univ fun k => cred (tallyAt (X.recvC k c) () X.N) :=
    bigSep_mono fun c _ => (X.credits l c).trans (by rw [hu])
  unfold start toStart
  simp only [bigSep_sep']
  isplitl [HI Hr]
  · iapply hrec
    unfold records
    isplitl [HI] <;> iassumption
  isplitl [Hat]; · iexact Hat
  isplitl [Hown Hrow HtL]
  · isplitl [Hown]; · iexact Hown
    isplitl [Hrow] <;> iassumption
  isplitr [Hcr]
  · isplitl [Hsrc]; · iexact Hsrc
    isplitl [Hrows]; · iexact Hrows
    isplitl [HtS] <;> iassumption
  · iapply hcr; iexact Hcr

end Xch

end Cert.Proof

end
-- ==== Proof.Launch.lean ====
/-
  The launch of a program whose FIRST item is a kernel region that exchanges data between the cores with no barrier.
  Such a region's semaphore cells have to be open, and the rows of a core's result that the other cores write have to be
  with their writers, before any core starts: both are dealt here, in one step over all cores (`hglob`), which is given
  every core's own semaphores at zero together with its unscoped buffers, its dues and its launch credit. The items
  after the first are an ordinary list of segments. No cell is given a level: every wait of the programs here is made by
  a core that owes nothing.
-/
module

public import Idealize.ShloMosaic.Lib.Pipeline.Regions

@[expose] public section

set_option Elab.async false

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Pipeline.PerCore

variable {nD : Nat} {τ : Topo} {sig : RefSig} {Val : EltTy → Type}
variable {Ix : Type} [DecidableEq Ix] {U : Type} [URA U]

local notation "𝕄" => MT nD τ sig Ix Val ℕ U ℕ

/-- No cell has a level. -/
abbrev noLev : GSem nD τ sig → Finset Ix := fun _ => ∅

theorem noLev_emp (lv : GSem nD τ sig → Ix → ℕ) : (levAts noLev lv : sProp 𝕄) = BI.emp :=
  (bigSep_congr (Ψ := fun _ => (BI.emp : sProp 𝕄)) fun _ _ => BI.bigSep_empty).trans (BI.bigSep_emp_const _)

theorem noLev_intro (lv : GSem nD τ sig → Ix → ℕ) : (⊢ (levAts noLev lv : sProp 𝕄)) := by
  rw [noLev_emp]; exact .rfl

section

variable {Λ₀ : Idealize.SL.Sem.Labels} {P : Type} [Fintype P]
variable (pcs : P → PCfg sig Λ₀ Val) (a : Dev nD → (p : P) → (pcs p).Adm)
  (pdats : (p : P) → (c : Dev nD) → Dat τ Val Ix ℕ U ℕ (pinD pcs a c p) c) (ι : Ix)
  (phinj : Function.Injective (PerCore.cellOf (nD := nD) (pinD pcs a)))
  (EP : Emb (URounds (GSem nD τ sig) Unit) (MT nD τ sig Ix Val ℕ U ℕ))
  (defs₀ : Defs nD τ sig Val Λ₀) (𝒱₀ : Variants) (lv : GSem nD τ sig → Ix → ℕ)

local notation "𝔻" => Pipeline.defs pcs defs₀
local notation "𝕍" => Variants.lift 𝒱₀

/-- The exchanging region: as a kernel region of the library, but its own semaphores are no part of what its entry is
    given – the launch has already turned them into open cells, held in `pre` – and they return at zero at its exit. -/
structure FirstRegion (p : P) where
  win : WinFacts₀ (pcs p).spec
  block_pos : ∀ w : Fin (pcs p).W, 0 < ((pcs p).spec w).block.numel
  stage_whole : ∀ (w : Fin (pcs p).W) (s : Fin ((pcs p).spec w).nbuf), (((pcs p).spec w).stage s).IsWhole
  K : Type
  [fK : Fintype K]
  osem : K → SemLoc sig
  ho : OwnSemFacts (pcs p).spec osem
  hbody : ∀ c, BodyObligationLoose (pdats p c) defs₀ 𝒱₀ ι Set.univ
  hwaits : ∀ c, (BI.emp : sProp 𝕄) ⊢ cellsWaits (pinD pcs a) pdats ι p c
  pre : Dev nD → sProp 𝕄
  post : Dev nD → sProp 𝕄
  X : Dev nD → sProp 𝕄
  Y : Dev nD → sProp 𝕄
  Z : Dev nD → sProp 𝕄
  hentry : ∀ c, pre c ⊢ |={Set.univ}=> iprop((pdats p c).arrays ((pdats p c).arrAt · 0) ∗ prefHeld (pcs p).pre c (fun _ => fullShare) (a c p).1
        ∗ (pdats p c).owesAt ι 0 ∗ X c ∗ Z c)
  hin : ∀ c, iprop(X c ∗ prefHeld (pcs p).pre c (fun _ => fullShare) (a c p).1 ∗ scopedRest (pcs p).spec c) ⊢ (pdats p c).Φ 0
  hout : ∀ c, (pdats p c).Φ (Fin.last (pinD pcs a c p).N) ⊢ iprop(Y c ∗ ownSems0 osem c ∗ scopedRest (pcs p).spec c)
  hexit : ∀ c, iprop((pdats p c).arrays ((pdats p c).arrAt · (pinD pcs a c p).N) ∗ (pdats p c).owesAt ι (Fin.last (pinD pcs a c p).N) ∗ Y c ∗ Z c)
    ⊢ |={Set.univ}=> post c

attribute [instance] FirstRegion.fK

variable {pcs a pdats ι defs₀ 𝒱₀}

/-- What a core keeps at the region's door beside `pre`: the boundary without the region's own semaphores. -/
def FirstRegion.door {p : P} (R : FirstRegion pcs a pdats ι defs₀ 𝒱₀ p) (c : Dev nD) : sProp 𝕄 :=
  iprop(scopedBufs (c.tc : Thread nD τ) ∗ cellsSems0 (pinD pcs a) p c ∗ idleSems0 (pinD pcs a) phinj p (fun _ => R.ho) c ∗ opIdle (c.tc : Thread nD τ))

theorem FirstRegion.boundary_split {p : P} (R : FirstRegion pcs a pdats ι defs₀ 𝒱₀ p) (c : Dev nD) :
    (boundary (c.tc : Thread nD τ) : sProp 𝕄) ⊢ iprop(R.door phinj c ∗ ownSems0 R.osem c) := by
  unfold boundary FirstRegion.door
  rw [scopedSems0_split (pinD pcs a) phinj p (fun _ => R.win) (fun _ => R.ho) c]
  iintro ⟨Hb, ⟨⟨Hc, Ho⟩, Hi⟩, Hid⟩
  isplitr [Ho]
  · isplitl [Hb]; · iexact Hb
    isplitl [Hc]; · iexact Hc
    isplitl [Hi] <;> iassumption
  iexact Ho

include phinj in
/-- The region's step. -/
theorem FirstRegion.wp [∀ e, Nonempty (Val e)] [EP.LandsIn (upEmb : UEmb _ 𝕄)]
    {p : P} (R : FirstRegion pcs a pdats ι defs₀ 𝒱₀ p) (c : Dev nD)
    (k : PUnit → Prog (TpuEff nD τ sig Val (Sig Λ₀ P fun p => (pcs p).Adm) .tc) PUnit) (Q : PUnit → sProp 𝕄) :
    iprop((iprop(boundary (c.tc : Thread nD τ) ∗ R.post c) -∗ wp frame (wpE 𝔻 𝕍 (c.tc : Thread nD τ) none) Set.univ (k ⟨⟩) Q)
        ∗ R.door phinj c ∗ R.pre c ∗ cellsGhost (pinD pcs a) EP p c ∗ toksInit (pinD pcs a) EP p c)
      ⊢ wp frame (wpE 𝔻 𝕍 (c.tc : Thread nD τ) none) Set.univ (.op (.customCall (entry p) ()) k) Q := by
  classical
  have hsb := scopedBufs_split (pinD pcs a) p c R.win.stage_scoped R.win.stage_inj R.stage_whole (nD := nD) (τ := τ) (Ix := Ix) (Val := Val) (Name := ℕ) (U := U) (Lvl := ℕ)
  have hout' : iprop((pdats p c).Φ (Fin.last (pinD pcs a c p).N) ∗ cellsSems0 (pinD pcs a) p c ∗ Dat.staging (pinD pcs a c p) c ∗ idleSems0 (pinD pcs a) phinj p (fun _ => R.ho) c)
      ⊢ iprop(R.Y c ∗ scopedSems0 (c.tc : Thread nD τ) ∗ scopedBufs (c.tc : Thread nD τ)) := by
    rw [scopedSems0_split (pinD pcs a) phinj p (fun _ => R.win) (fun _ => R.ho) c, hsb]
    iintro ⟨HΦ, Hcells, Hst, Hidle⟩
    ihave H := (R.hout c) $$ HΦ
    icases H with ⟨HY, Hos, Hrest⟩
    isplitl [HY]; · iexact HY
    isplitl [Hcells Hos Hidle]
    · isplitr [Hidle]
      · isplitl [Hcells] <;> iassumption
      iexact Hidle
    isplitl [Hst] <;> iassumption
  unfold FirstRegion.door
  iintro ⟨Hk, ⟨Hsc, Hcells, Hidle, Hidl⟩, Hpre, Hg, Ht⟩
  ihave Hw := (R.hwaits c) $$ []
  · iempintro
  iapply (fupd_wp frame (wpE 𝔻 𝕍 (c.tc : Thread nD τ) none) Set.univ _ _)
  imod (cellsInit_alloc (pinD pcs a) pdats EP phinj p c) $$ [Hcells Hg] with ⟨%κ, -, Hinit⟩
  · isplitl [Hcells] <;> iassumption
  imod (R.hentry c) $$ Hpre with ⟨Harr, Hpf, HO, HX, HZ⟩
  imodintro
  iapply (wp_customCall_entry_frame pcs a pdats ι EP κ phinj p defs₀ 𝒱₀ (fun _ => fullShare) c Set.univ (fun _ _ => Set.mem_univ _)
      (R.hbody c) R.block_pos none (fun u h => nomatch h) (X := R.X c) (Y := R.Y c) (R := scopedRest (pcs p).spec c)
      (I := idleSems0 (pinD pcs a) phinj p (fun _ => R.ho) c) (Entails.of_eq hsb) (R.hin c) hout' (k := k) (Q := Q)) $$ [Harr HO Hw Hinit Ht Hpf HX Hidle Hsc]
  · isplitl [Harr HO Hw Hinit Ht]
    · unfold PerCore.EntryPre
      isplitl [Harr]; · iexact Harr
      isplitl [HO]; · iexact HO
      isplitl [Hw]; · iexact Hw
      isplitl [Hinit] <;> iassumption
    isplitl [Hpf]; · iexact Hpf
    isplitl [HX]; · iexact HX
    isplitl [Hidle] <;> iassumption
  iintro ⟨Hpost, HY, Hss, Hsc⟩
  unfold PerCore.EntryPost
  icases Hpost with ⟨Ha, HO⟩
  iapply (fupd_wp frame (wpE 𝔻 𝕍 (c.tc : Thread nD τ) none) Set.univ _ _)
  imod (R.hexit c) $$ [Ha HO HY HZ] with Hpost
  · isplitl [Ha]; · iexact Ha
    isplitl [HO]; · iexact HO
    isplitl [HY] <;> iassumption
  imodintro
  iapply Hk
  isplitr [Hpost]
  · unfold boundary
    isplitl [Hsc]; · iexact Hsc
    isplitl [Hss] <;> iassumption
  iexact Hpost

/-- What the launch deals a core. -/
abbrev dealt (m : (ℓ : Loc nD τ sig) → Buf Val ℓ) (g : Dev nD → PrngReg) (O₀ : Dev nD → CellTallies nD τ sig Ix) (G : Dev nD → sProp 𝕄) (c : Dev nD) : sProp 𝕄 :=
  iprop(unscopedBufs c (fun b => m ((c.tc : Thread nD τ).loc b)) ∗ owes (c.tc : Thread nD τ) (O₀ c) ∅ ∗ launchCred O₀ c ∗ G c)

/-- The run of such a program. -/
theorem run_first [DecidableEq P] [∀ e, Nonempty (Val e)] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    {p : P} (R : FirstRegion pcs a pdats ι defs₀ 𝒱₀ p)
    (segs : List (Seg pcs a pdats ι defs₀ 𝒱₀ noLev lv))
    (hmain : ∀ c, main c = .op (.customCall (entry p) ()) fun _ => Seg.run segs)
    (hnd : (p :: Seg.pipes segs).Nodup)
    (O₀ : Dev nD → CellTallies nD τ sig Ix)
    (G : Dev nD → sProp 𝕄) (u₀ : U)
    (hu₀ : (ownU u₀ : sProp 𝕄)
      ⊢ |={Set.univ}=> iprop(BI.own (EP (initOf (cells (pinD pcs a) phinj) (launchToks (pinD pcs a) phinj))) ∗ bigSep Finset.univ G))
    (hglob : (bigSep Finset.univ fun c : Dev nD => iprop(ownSems0 R.osem c ∗ dealt m g O₀ G c)) ⊢ |={Set.univ}=> bigSep Finset.univ R.pre)
    (Tₙ : Dev nD → sProp 𝕄) (hch : ∀ c, Seg.ChainsAt c R.post segs fun c => iprop(Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let pre : Dev nD → sProp 𝕄 := fun c => iprop(R.door phinj c ∗ R.pre c ∗ PerCore.ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- the launch: each core's boundary opened at its own semaphores, all of them turned into `R.pre` at once
    have hcore : ∀ c : Dev nD, iprop(coreInit (Ix := Ix) (Name := ℕ) (U := U) (Lvl := ℕ) (owing O₀) 0 (⟨m, fun _ => 0, g⟩ : MemSt nD τ sig Val) (c.tc : Thread nD τ) ∗ G c)
        ⊢ iprop(R.door phinj c ∗ ownSems0 R.osem c ∗ dealt m g O₀ G c : sProp 𝕄) := fun c => by
      iintro ⟨Hc, HG⟩
      ihave H := (coreInit_boundary_owing O₀ m g c) $$ Hc
      icases H with ⟨Hb, Hub, -, HO, -, -, Hcr⟩
      ihave Hb' := (R.boundary_split phinj c) $$ Hb
      icases Hb' with ⟨Hd, Ho⟩
      isplitl [Hd]; · iexact Hd
      isplitl [Ho]; · iexact Ho
      unfold dealt
      isplitl [Hub]; · iexact Hub
      isplitl [HO]; · iexact HO
      isplitl [Hcr] <;> iassumption
    iintro ⟨Hcores, Hu⟩
    imod hu₀ $$ Hu with ⟨HP, HG⟩
    imod (fund_ghost (pinD pcs a) EP phinj) $$ HP with ⟨Hg, Ht⟩
    ihave Hall := ((Entails.of_eq (bigSep_sep' Finset.univ _ G).symm).trans ((bigSep_mono fun c _ => hcore c).trans (Entails.of_eq (bigSep_sep' _ _ _)))) $$ [Hcores HG]
    · isplitl [Hcores] <;> iassumption
    icases Hall with ⟨Hd, Hrest⟩
    imod hglob $$ Hrest with HT
    imodintro
    iexists ()
    isplitr []
    · simp only [pre, bigSep_sep', PerCore.ghostOn]
      isplitl [Hd]; · iexact Hd
      isplitl [HT]; · iexact HT
      isplitl [Hg] <;> iassumption
    · iempintro
  · -- a core's run: the region, then the segments
    simp only [pre]
    rw [hmain c, PerCore.ghostOn_erase pcs a EP (Finset.mem_univ p)]
    obtain ⟨hp, hnd'⟩ := List.nodup_cons.mp hnd
    iintro ⟨Hd, HT, ⟨Hg, Ht⟩, Hrest⟩
    iapply (R.wp phinj EP c (fun _ => Seg.run segs) _)
    isplitl [Hrest]
    · iintro ⟨Hbd, Hpost⟩
      ihave Hla := (noLev_intro (nD := nD) (τ := τ) (sig := sig) (Val := Val) (U := U) lv)
      iapply (PerCore.wp_segs pcs a pdats ι phinj EP defs₀ 𝒱₀ noLev lv c segs (Finset.univ.erase p) R.post _ hnd'
        (fun p' hp' => Finset.mem_erase.mpr ⟨fun h => hp (h ▸ hp'), Finset.mem_univ _⟩) (hch c))
      isplitr [Hbd Hpost Hrest Hla]
      · iintro ⟨Hbd', HT, HW⟩
        unfold post; simp only [liftTc_tc, fin]
        isplitl [HT Hbd']
        · isplitl [HT] <;> iassumption
        iexact HW
      · isplitl [Hbd]; · iexact Hbd
        isplitl [Hpost]; · iexact Hpost
        isplitl [Hla] <;> iassumption
    · isplitl [Hd]; · iexact Hd
      isplitl [HT]; · iexact HT
      isplitl [Hg] <;> iassumption
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end

end Cert.Proof

end
-- ==== Proof.Rows.lean ====
/-
  A result buffer held row by row, one row per core: the core's own row and the rows its peers write are the whole of it.
  And the launch of an exchange out of what a core is dealt.
-/
module

public import proofs.«01_k».proof.Proof.Exchange
public import proofs.«01_k».proof.Proof.Launch
public import Idealize.ShloMosaic.Lib.Ring

@[expose] public section

set_option Elab.async false

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ownSems0 launchCred)

variable {nD : Nat} {τ : Topo} {sig : RefSig} {Val : EltTy → Type}

local notation "𝕄" => MT nD τ sig Unit Val ℕ (UU nD τ sig) ℕ

/-- A core and its peers are all the cores, each once. -/
abbrev Everyone {n : ℕ} (peer : Fin n → Dev nD → Dev nD) : Prop :=
  ∀ c, Function.Bijective (Sum.elim (fun _ : Unit => c) fun k => peer k c)

section Rows

variable {n : ℕ} {peer : Fin n → Dev nD → Dev nD} (hp : Everyone peer) (c : Dev nD)

include hp in
theorem bigSep_everyone (Φ : Dev nD → sProp 𝕄) : bigSep Finset.univ Φ = iprop(Φ c ∗ bigSep Finset.univ fun k => Φ (peer k c)) := by
  rw [bigSep_univ_equiv (Equiv.ofBijective _ (hp c)), bigSep_univ_sum]
  have h : (bigSep Finset.univ fun a : Unit => Φ ((Equiv.ofBijective _ (hp c)) (.inl a))) = Φ c := by
    rw [show (Finset.univ : Finset Unit) = {()} from rfl, bigSep_singleton]; rfl
  rw [h]; rfl

variable {ℓ : Loc nD τ sig} (I : Dev nD → Finset (Idx ℓ)) (hd : ∀ b b', b ≠ b' → Disjoint (I b) (I b')) (hc : Finset.univ.biUnion I = Finset.univ)

include hp hd hc in
/-- The buffer whole is the core's row and its peers' rows; -/
theorem rows_split (f : Buf Val ℓ) :
    (ℓ ↦{fullShare} f : sProp 𝕄) = iprop((ℓ ↦[I c]{fullShare} f) ∗ bigSep Finset.univ fun k => ℓ ↦[I (peer k c)]{fullShare} f) := by
  rw [Ring.pointsTo_blocks I hd hc f, bigSep_everyone hp c]

include hp hd hc in
/-- and rows that agree with one array, each on its own elements, are the buffer at that array. -/
theorem rows_join (f : Dev nD → Buf Val ℓ) (g : Buf Val ℓ) (h : ∀ a, ∀ i ∈ I a, f a i = g i) :
    iprop((ℓ ↦[I c]{fullShare} f c) ∗ bigSep Finset.univ fun k => ℓ ↦[I (peer k c)]{fullShare} f (peer k c)) ⊢ (ℓ ↦{fullShare} g : sProp 𝕄) := by
  rw [rows_split hp c I hd hc g, pointsTo_congr (h c), BI.bigSep_congr fun k (_ : k ∈ Finset.univ) => pointsTo_congr (h (peer k c))]

end Rows

/-- A buffer held whole is read off the final memory. -/
theorem read_pt {ℓ : Loc nD τ sig} (q : PosShare TreeShare) (f : Buf Val ℓ) (st : Phys nD τ sig Val) :
    iprop((ℓ ↦{q} f : sProp 𝕄) ∗ SI st) ⊢ iprop(⌜st.mem.mem ℓ = f⌝ ∗ SI st) := by
  have h := pointsTo_read_all (Ix := Unit) (Name := ℕ) (U := UU nD τ sig) (Lvl := ℕ) ({()} : Finset Unit) (fun _ => ℓ) (fun _ => f) st q
  rw [bigSep_singleton] at h
  refine h.trans ?_
  iintro ⟨%h, HSI⟩
  isplitr; · ipureintro; exact h () (Finset.mem_singleton_self _)
  iexact HSI

/-- A program replaced by an equal one under the weakest precondition. -/
theorem wp_of_eq {Λ : Labels} (defs : Defs nD τ sig Val Λ) (𝒱 : Variants) (c : Thread nD τ) {P : sProp 𝕄} {p q : Prog (TpuEff nD τ sig Val Λ c.2) PUnit}
    {Q : PUnit → sProp 𝕄} (h : p = q) (hw : P ⊢ wp frame (wpE defs 𝒱 c none) Set.univ q Q) : P ⊢ wp frame (wpE defs 𝒱 c none) Set.univ p Q := h ▸ hw

section Glob

variable {n : ℕ} {sp sp' : Space} {s : Shape} {e : EltTy} (X : Xch nD τ sig n sp sp' s e) (m : (ℓ : Loc nD τ sig) → Buf Val ℓ)

/-- What the exchange needs of a core's buffers. -/
def Xch.bufs (c : Dev nD) : sProp 𝕄 :=
  iprop((X.ownP m c ∗ X.rowP m c c) ∗ (bigSep Finset.univ fun k => X.srcP m k c) ∗ bigSep Finset.univ fun k => X.rowP m (X.peer k c) c)

/-- The launch of the exchange: every core's buffers parted into what the exchange needs and the rest. -/
theorem Xch.deal (l : List (Fin n)) (hu : l.toFinset = Finset.univ) (g : Dev nD → PrngReg) (rest : Dev nD → sProp 𝕄)
    (hc : ∀ c, unscopedBufs c (fun b => m ((c.tc : Thread nD τ).loc b)) ⊢ iprop(X.bufs m c ∗ rest c)) :
    (bigSep Finset.univ fun c : Dev nD => iprop(ownSems0 X.osem c ∗ dealt m g (fun d => X.dues (τ := τ) d l) (X.G m) c))
      ⊢ |={Set.univ}=> bigSep Finset.univ fun c => iprop(X.start m c ∗ owes (c.tc : Thread nD τ) (X.dues c l) ∅ ∗ rest c) := by
  have h1 (c : Dev nD) : iprop(ownSems0 X.osem c ∗ dealt m g (fun d => X.dues (τ := τ) d l) (X.G m) c)
      ⊢ (iprop((ownSems0 X.osem c ∗ X.G m c
        ∗ (X.ownP m c ∗ X.rowP m c c) ∗ (bigSep Finset.univ fun k => X.srcP m k c) ∗ (bigSep Finset.univ fun k => X.rowP m (X.peer k c) c)
        ∗ launchCred (fun d => X.dues (τ := τ) d l) c) ∗ (owes (c.tc : Thread nD τ) (X.dues c l) ∅ ∗ rest c)) : sProp 𝕄) := by
    unfold dealt
    iintro ⟨Ho, Hub, HO, Hcr, HG⟩
    ihave H := (hc c) $$ Hub
    unfold Xch.bufs
    icases H with ⟨⟨Ha, Hb, Hd⟩, Hr⟩
    isplitr [HO Hr]
    · isplitl [Ho]; · iexact Ho
      isplitl [HG]; · iexact HG
      isplitl [Ha]; · iexact Ha
      isplitl [Hb]; · iexact Hb
      isplitl [Hd] <;> iassumption
    isplitl [HO] <;> iassumption
  refine (bigSep_mono fun c _ => h1 c).trans ?_
  rw [bigSep_sep', bigSep_sep' (Φ := X.start m)]
  show (iprop(_ ∗ _) : sProp 𝕄) ⊢ _
  iintro ⟨H, Hr⟩
  imod (X.glob m l hu) $$ H with H
  imodintro
  isplitl [H] <;> iassumption

end Glob

end Cert.Proof

end
-- ==== Proof.Gather.lean ====
module
public import proofs.«01_k».proof.Proof.Rows
public import Idealize.ShloMosaic.Lib.Transfers
public import Idealize.ShloMosaic.Lib.Pipeline.RegionArrays
public import Idealize.ShloMosaic.Lib.Quiescent
public import proofs.«01_k».proof.Proof.Gen.GatherWeightsIdeal
public import proofs.«01_k».proof.Proof.Gen.GatherWeightsIdeal.Skeleton
public import proofs.«01_k».proof.Proof.Gen.GatherWeightsIdeal.Launch
@[expose] public section
set_option Elab.async false
noncomputable section
namespace Cert.Proof.Gather
open Cert.GatherWeightsIdeal Cert.GatherWeightsIdeal.Gen
open Idealize.ShloMosaic Idealize.ShloMosaic.TcCoe
open Idealize.ShloMosaic.Pipeline (ownSems0 launchCred)
open Idealize.SL Idealize.SL.RA Idealize.SL.BI
open scoped Idealize.SL.BI
open Idealize.SL.BI.BIBase Idealize.SL.BI.Laws Idealize.SL.ProofMode Idealize.SL.Sem
variable {F : FTy → Type} [FloatOps F]

/-- The device that copy `k` of device `c` goes to. -/
noncomputable def peer : Fin 7 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩

theorem peer_peer : ∀ k c, peer k (peer k c) = c := by decide +kernel

noncomputable def semOf : Fin 7 ⊕ Fin 7 ⊕ Unit → DmaSem sig
  | .inl k => ⟨k.val, show k.val < 15 by omega⟩
  | .inr (.inl k) => ⟨7 + k.val, show 7 + k.val < 15 by omega⟩
  | .inr (.inr _) => ⟨14, show 14 < 15 by omega⟩

theorem semOf_inj : Function.Injective semOf := by decide +kernel

abbrev xM : Memref sig .tc .hbm S3072x1024 .bf16 := Memref.whole main_arg0
abbrev oM : Memref sig .tc .hbm S8x3072x1024 .bf16 := Memref.whole main_v1

noncomputable def row (c : Dev nD) : Memref sig .tc .hbm S3072x1024 .bf16 :=
  (oM.slice (Rect.unit (s := S8x3072x1024) (k0_off1 c) S1x3072x1024.size (k0_off1_inb c)) (fun _ => rfl)).squeeze S3072x1024 squeezes_S1x3072x1024_S3072x1024

noncomputable def X : Xch nD τ sig 7 .hbm .hbm S3072x1024 .bf16 where
  own _ := xM
  src _ _ := xM
  dst := row
  peer := peer
  peer_peer := peer_peer
  sem := semOf
  sem_inj := semOf_inj
  wown _ := (Memref.isWhole_whole _).wordExact
  wsrc _ _ := (Memref.isWhole_whole _).wordExact
  wdst c := (((Memref.isWhole_whole main_v1).wordExact_slice rfl _ (k0_off1_wordsbf16 c)).reshape _ _)
  shared _ := rfl
  typedL _ := ⟨Or.inl rfl, trivial⟩
  typedR _ _ := ⟨⟨rfl, Or.inl rfl⟩, trivial⟩
  N := View.dmaCredit xM.view
  N_pos := View.dmaCredit_pos _ (by decide)
  cred_dst _ := rfl
  cred_src _ _ := rfl
  qo := Transfers.shareDrop fullShare 7
  q := Transfers.shareTok fullShare 7

set_option maxRecDepth 4096 in
theorem body_eq : (cc0_gather_weights (F := F) (Memref.whole main_arg0) (Memref.isWhole_whole _) (Memref.whole main_v1) (Memref.isWhole_whole _) cc0_scratch0 cc0_scratch1 cc0_scratch2)
    = .op .deviceId fun c => X.body [0, 1, 2, 3, 4, 5, 6] c := rfl

/-! ## The rows of the result -/

theorem everyone : Everyone peer := by decide +kernel

theorem off1 : ∀ c : Dev nD, k0_off1 c = ![c.val, 0, 0] := by decide +kernel

/-- Element `x` of row `a` lies in the result at `(a, x)`. -/
theorem row_emb (a : Dev nD) (x : S3072x1024.Idx) : (row a).view.emb x = (Fin.cons (show Fin 8 from a) x : S8x3072x1024.Idx) := by
  show (Rect.unit (s := S8x3072x1024) (k0_off1 a) S1x3072x1024.size (k0_off1_inb a)).emb (Shape.reshapeEquiv _ x) = _
  rw [Shape.reshapeEquiv_cons_one]
  funext b
  apply Fin.ext
  refine Fin.cases ?_ (fun b => ?_) b
  · show k0_off1 a 0 + 1 * 0 = a.val
    rw [off1]; rfl
  · show k0_off1 a b.succ + 1 * (x b).val = (x b).val
    rw [off1]; fin_cases b <;> simp

/-- Row `a`'s elements. -/
noncomputable def rowSet (a : Dev nD) : Finset S8x3072x1024.Idx := (row a).view.set

theorem mem_row (a : Dev nD) (i : S8x3072x1024.Idx) : i ∈ rowSet a ↔ (i 0).val = a.val := by
  constructor
  · intro h
    obtain ⟨x, -, rfl⟩ := Finset.mem_map.mp h
    exact congrArg (fun j : S8x3072x1024.Idx => (j 0).val) (row_emb a x)
  · intro h
    refine Finset.mem_map.mpr ⟨Fin.tail i, Finset.mem_univ _, (row_emb a (Fin.tail i)).trans ?_⟩
    conv_rhs => rw [← Fin.cons_self_tail i]
    congr 1
    exact Fin.ext h.symm

theorem rows_disjoint (a b : Dev nD) (h : a ≠ b) : Disjoint (rowSet a) (rowSet b) :=
  Finset.disjoint_left.mpr fun i ha hb => h (Fin.ext (((mem_row a i).mp ha).symm.trans ((mem_row b i).mp hb)))

theorem rows_cover : (Finset.univ.biUnion rowSet) = Finset.univ :=
  Finset.eq_univ_iff_forall.mpr fun i => Finset.mem_biUnion.mpr ⟨⟨(i 0).val, (i 0).isLt⟩, Finset.mem_univ _, (mem_row _ i).mpr rfl⟩

/-! ## The run -/

section Run

variable (m : (ℓ : Loc nD τ sig) → Buf (Elt F) ℓ)

local notation "𝕄" => MT nD τ sig Unit (Elt F) ℕ (UU nD τ sig) ℕ

/-- The gathered array: row `a` is device `a`'s argument. -/
noncomputable def gathered : S8x3072x1024.Idx → Elt F .bf16 := fun i => m (((show Dev nD from i 0).tc : Thread nD τ).loc main_arg0) (Fin.tail i)

/-- What device `b`'s result holds once row `a` has landed. -/
noncomputable def written (b a : Dev nD) : S8x3072x1024.Idx → Elt F .bf16 :=
  (row a).view.write (Elt F) (m ((b.tc : Thread nD τ).loc main_v1)) (m ((a.tc : Thread nD τ).loc main_arg0)) Finset.univ

theorem written_eq (b a : Dev nD) (i : S8x3072x1024.Idx) (hi : i ∈ rowSet a) : written m b a i = gathered m i := by
  obtain ⟨x, -, rfl⟩ := Finset.mem_map.mp hi
  have h1 : written m b a ((row a).view.emb x) = m ((a.tc : Thread nD τ).loc main_arg0) x :=
    View.write_emb_of_mem (v := (row a).view) (Val := Elt F) _ _ (Finset.mem_univ x)
  exact h1.trans (congrArg (gathered m) (row_emb a x)).symm

abbrev order : List (Fin 7) := [0, 1, 2, 3, 4, 5, 6]

theorem srcs_eq (c : Dev nD) : (bigSep Finset.univ fun k => X.srcP m k c : sProp 𝕄)
    = bigSep Finset.univ fun k : Fin 7 => (c.tc : Thread nD τ).loc main_arg0 ↦{Transfers.shareTok fullShare 7 k} m ((c.tc : Thread nD τ).loc main_arg0) :=
  BI.bigSep_congr fun k _ => by
    unfold Xch.srcP
    rw [show (X.src k c).view.set = Finset.univ from (Memref.isWhole_whole main_arg0).set_eq_univ]; rfl

theorem own_eq (c : Dev nD) :
    (X.ownP m c : sProp 𝕄) = ((c.tc : Thread nD τ).loc main_arg0 ↦{Transfers.shareDrop fullShare 7} m ((c.tc : Thread nD τ).loc main_arg0)) := by
  unfold Xch.ownP
  rw [show (X.own c).view.set = Finset.univ from (Memref.isWhole_whole main_arg0).set_eq_univ]; rfl

theorem bufs_eq (c : Dev nD) : (X.bufs m c : sProp 𝕄)
    = iprop((((c.tc : Thread nD τ).loc main_arg0 ↦{Transfers.shareDrop fullShare 7} m ((c.tc : Thread nD τ).loc main_arg0))
        ∗ ((c.tc : Thread nD τ).loc main_v1 ↦[rowSet c]{fullShare} m ((c.tc : Thread nD τ).loc main_v1)))
      ∗ (bigSep Finset.univ fun k : Fin 7 => (c.tc : Thread nD τ).loc main_arg0 ↦{Transfers.shareTok fullShare 7 k} m ((c.tc : Thread nD τ).loc main_arg0))
      ∗ bigSep Finset.univ fun k : Fin 7 => (c.tc : Thread nD τ).loc main_v1 ↦[rowSet (peer k c)]{fullShare} m ((c.tc : Thread nD τ).loc main_v1)) := by
  unfold Xch.bufs
  rw [own_eq, srcs_eq]
  rfl

theorem landed_eq (k : Fin 7) (c : Dev nD) :
    (X.landed m k (peer k c) c : sProp 𝕄) = ((c.tc : Thread nD τ).loc main_v1 ↦[rowSet (peer k c)]{fullShare} written m c (peer k c)) := rfl

theorem finish_eq (c : Dev nD) : (X.finish m c : sProp 𝕄)
    = iprop((((c.tc : Thread nD τ).loc main_arg0 ↦{Transfers.shareDrop fullShare 7} m ((c.tc : Thread nD τ).loc main_arg0))
        ∗ ((c.tc : Thread nD τ).loc main_v1 ↦[rowSet c]{fullShare} written m c c))
      ∗ ((bigSep Finset.univ fun k : Fin 7 => (c.tc : Thread nD τ).loc main_arg0 ↦{Transfers.shareTok fullShare 7 k} m ((c.tc : Thread nD τ).loc main_arg0))
        ∗ bigSep Finset.univ fun k : Fin 7 => (c.tc : Thread nD τ).loc main_v1 ↦[rowSet (peer k c)]{fullShare} written m c (peer k c))
      ∗ ownSems0 X.osem c) := by
  unfold Xch.finish
  rw [own_eq, bigSep_sep' (Φ := fun k => X.srcP m k c), srcs_eq]
  rfl

/-- A device's buffers: the argument shared out to the copies, the result row by row. -/
theorem bufs_split (c : Dev nD) :
    (unscopedBufs c (fun b => m ((c.tc : Thread nD τ).loc b)) : sProp 𝕄) ⊢ iprop(X.bufs m c ∗ emp) := by
  have h0 := Pipeline.PerCore.unscopedBufs_split₀ (fun _ : Dev nD => cfgs) 0 c (fun w => w.elim0) (fun b => m ((c.tc : Thread nD τ).loc b))
    (Ix := Unit) (Val := Elt F) (Name := ℕ) (U := UU nD τ sig) (Lvl := ℕ) (τ := τ)
  have h3 := rows_split (Val := Elt F) everyone c (ℓ := (c.tc : Thread nD τ).loc main_v1) rowSet rows_disjoint rows_cover (m ((c.tc : Thread nD τ).loc main_v1))
  have h4 := Transfers.pointsTo_toks_split (Ix := Unit) (Val := Elt F) (Name := ℕ) (U := UU nD τ sig) (Lvl := ℕ) (ℓ := (c.tc : Thread nD τ).loc main_arg0) (S := Finset.univ) (f := m ((c.tc : Thread nD τ).loc main_arg0)) fullShare 7
  rw [h0, unscopedRest0_eq, h3, bufs_eq]
  iintro ⟨-, Ha, Hr, Hp⟩
  ihave Ha := h4 $$ Ha
  icases Ha with ⟨Ha, Hs⟩
  isplitl [Ha Hr Hs Hp]
  · isplitl [Ha Hr]
    · isplitl [Ha] <;> iassumption
    isplitl [Hs] <;> iassumption
  iempintro

/-- The device's buffers after the exchange. -/
abbrev done (c : Dev nD) : sProp 𝕄 :=
  iprop(((c.tc : Thread nD τ).loc main_arg0 ↦{fullShare} m ((c.tc : Thread nD τ).loc main_arg0)) ∗ ((c.tc : Thread nD τ).loc main_v1 ↦{fullShare} gathered m))

theorem finish_done (c : Dev nD) : X.finish m c ⊢ (iprop(done m c ∗ ownSems0 X.osem c) : sProp 𝕄) := by
  have h3 := rows_join (Val := Elt F) everyone c (ℓ := (c.tc : Thread nD τ).loc main_v1) rowSet rows_disjoint rows_cover (written m c) (gathered m) (written_eq m c)
  have h4 := Transfers.pointsTo_toks_join (Ix := Unit) (Val := Elt F) (Name := ℕ) (U := UU nD τ sig) (Lvl := ℕ) (ℓ := (c.tc : Thread nD τ).loc main_arg0) (S := Finset.univ) (f := m ((c.tc : Thread nD τ).loc main_arg0)) fullShare 7
  rw [finish_eq]
  iintro ⟨⟨Ha, Hr⟩, ⟨Hs, Hl⟩, Ho⟩
  isplitr [Ho]
  · isplitl [Ha Hs]
    · iapply h4
      isplitl [Ha] <;> iassumption
    · iapply h3
      isplitl [Hr] <;> iassumption
  iexact Ho

/-! ## The region -/

abbrev adm : Dev nD → (p : Fin 1) → (pcfgs (F := F) p).Adm := fun _ p => (cfgs p).toPCfg_adm

/-- The exchange as the region's proof data: no window, the invariant is the exchange's state. -/
noncomputable def dats (p : Fin 1) (c : Dev nD) : Pipeline.Dat τ (Elt F) Unit ℕ (UU nD τ sig) ℕ (Pipeline.pinD (pcfgs (F := F)) adm c p) c where
  A w := w.elim0
  after w _ := w.elim0
  Φ t := match t with
    | ⟨0, _⟩ => X.start m c
    | ⟨_ + 1, _⟩ => X.finish m c
  q w := w.elim0
  owed t := match t with
    | ⟨0, _⟩ => X.dues c order
    | ⟨_ + 1, _⟩ => 0

theorem arrays_none (c : Dev nD) (A) : ((dats m 0 c).arrays A : sProp 𝕄) = BI.emp := by
  unfold Pipeline.Dat.arrays
  exact BI.bigSep_empty

theorem windows_none (Φ : Fin 0 → sProp 𝕄) : bigSep Finset.univ Φ = BI.emp := BI.bigSep_empty

theorem body_step (c : Dev nD) : Pipeline.BodyObligation (dats m 0 c) (defs₀ (F := F)) Variants.none () Set.univ := fun t => by
  obtain rfl := fin_N0 t
  refine wp_of_eq (defs₀ (F := F)) Variants.none (c.tc : Thread nD τ) body_eq ?_
  rw [wp_deviceId]
  unfold Pipeline.Dat.owesAt Pipeline.owesWithin
  show iprop(X.start m c ∗ (∃ W, ⌜_⌝ ∗ owes (c.tc : Thread nD τ) (X.dues c order) W) ∗ _) ⊢ _
  iintro ⟨HS, ⟨%W, -, HO⟩, -⟩
  iapply (X.wp_body m (defs₀ (F := F)) Variants.none c order (by decide) (by decide) W)
  isplitl [HS]; · iexact HS
  isplitl [HO]; · iexact HO
  iintro ⟨HF, %W', HO⟩
  isplitl [HF]
  · show X.finish m c ⊢ X.finish m c
    exact .rfl
  isplitl [HO]
  · iexists W'
    isplitr; · ipureintro; exact fun _ _ => Or.inl trivial
    iexact HO
  rw [windows_none]
  iempintro

/-- The exchange as the program's first region. -/
theorem winFacts : Pipeline.WinFacts₀ cfg0.spec := by decide

example : (pcfgs (F := F) 0).W = cfg0.W := rfl
example : (pcfgs (F := F) 0).spec = cfg0.spec := rfl

theorem ownFacts : Pipeline.OwnSemFacts cfg0.spec X.osem := by decide +kernel

noncomputable def region : FirstRegion (pcfgs (F := F)) adm (dats m) () (defs₀ (F := F)) Variants.none 0 where
  win := winFacts
  block_pos w := w.elim0
  stage_whole w := w.elim0
  K := Fin 7 ⊕ Fin 7 ⊕ Unit
  fK := inferInstance
  osem := X.osem
  ho := ⟨ownFacts.1, ownFacts.2, ownFacts.3⟩
  hbody c := (body_step m c).loose
  hwaits c := by
    unfold Pipeline.PerCore.cellsWaits
    exact Entails.of_eq (windows_none _).symm
  pre c := iprop(X.start m c ∗ owes (c.tc : Thread nD τ) (X.dues c order) ∅ ∗ emp)
  post c := iprop(done m c ∗ ∃ W, owes (c.tc : Thread nD τ) 0 W)
  X c := X.start m c
  Y c := done m c
  Z _ := iprop(emp)
  hentry c := by
    rw [arrays_none, Pipeline.prefHeld_of_none _ rfl]
    iintro ⟨HS, HO, -⟩
    imodintro
    isplitr; · iempintro
    isplitr; · iempintro
    isplitl [HO]
    · unfold Pipeline.Dat.owesAt Pipeline.owesWithin
      iexists (∅ : Waits sig Unit)
      isplitr; · ipureintro; exact fun _ _ => Or.inl trivial
      iexact HO
    isplitl [HS]; · iexact HS
    iempintro
  hin c := by
    show iprop(X.start m c ∗ _ ∗ _) ⊢ X.start m c
    iintro ⟨H, -, -⟩
    iexact H
  hout c := by
    show X.finish m c ⊢ _
    refine (finish_done m c).trans ?_
    rw [scopedRest0_eq]
    iintro ⟨H, Ho⟩
    isplitl [H]; · iexact H
    isplitl [Ho]; · iexact Ho
    iempintro
  hexit c := by
    unfold Pipeline.Dat.owesAt Pipeline.owesWithin
    iintro ⟨-, ⟨%W, -, HO⟩, H, -⟩
    imodintro
    isplitl [H]; · iexact H
    iexists W
    iexact HO

theorem cells_inj : Function.Injective (Pipeline.PerCore.cellOf (nD := nD) (τ := τ) (Pipeline.pinD (pcfgs (F := F)) adm)) := cellOf_inj

/-- Every device ends with its argument unchanged and the gathered array as its result, nothing in flight. -/
theorem run_main (g : Dev nD → PrngReg) :
    θ_run (defs (F := F)) (onTc (main (F := F))) ⟨m, fun _ => 0, g⟩ fun r =>
      (∀ c : Dev nD, r.2.mem ((c.tc : Thread nD τ).loc main_v1) = gathered m
        ∧ r.2.mem ((c.tc : Thread nD τ).loc main_arg0) = m ((c.tc : Thread nD τ).loc main_arg0)) ∧ r.2.sem = fun _ => 0 := by
  refine run_first cells_inj EP (fun _ _ => 0) m g main (region m) [] (fun _ => rfl) (List.nodup_singleton _)
    (fun d => X.dues d order) (X.G m)
    (Rounds.initOf (Pipeline.PerCore.cells (Pipeline.pinD (pcfgs (F := F)) adm) cells_inj) (Pipeline.PerCore.launchToks (Pipeline.pinD (pcfgs (F := F)) adm) cells_inj), Rounds.initOf X.cells X.toks) ?_ (X.deal m order (by decide) g (fun _ => iprop(emp)) (bufs_split m))
    (done m) (fun c => BI.Entails.refl _)
    (fun c s => s.mem ((c.tc : Thread nD τ).loc main_v1) = gathered m
        ∧ s.mem ((c.tc : Thread nD τ).loc main_arg0) = m ((c.tc : Thread nD τ).loc main_arg0)) (fun c s' => ?_)
    (fun s h hz => ⟨h, sem_eq_zero_of_scoped (by decide) hz⟩)
  · iintro H
    ihave H := (ownU_pair _ _) $$ H
    icases H with ⟨HP, HX⟩
    imod (X.fund m) $$ HX with HX
    imodintro
    isplitl [HP] <;> iassumption
  · iintro ⟨⟨Ha, Hv⟩, HSI⟩
    ihave H := (read_pt _ _ s') $$ [Ha HSI]
    · isplitl [Ha] <;> iassumption
    icases H with ⟨%ha, HSI⟩
    ihave H := (read_pt _ _ s') $$ [Hv HSI]
    · isplitl [Hv] <;> iassumption
    icases H with ⟨%hv, HSI⟩
    imodintro
    isplitr; · ipureintro; exact ⟨hv, ha⟩
    iexact HSI

end Run

end Cert.Proof.Gather

end
-- ==== Proof.GatherValue.lean ====
/-
  The all-gather's claims: the gathered array is the whole array reshaped into its eight blocks, and both programs end
  with nothing in flight.
-/
module

public import proofs.«01_k».proof.Defs
public import proofs.«01_k».proof.Proof.Gather
public import proofs.«01_k».proof.Proof.Gen.GatherWeights
public import proofs.«01_k».proof.Proof.Gen.GatheredIdeal
public import proofs.«01_k».proof.Proof.Gen.GatheredIdeal.Run
public import proofs.«01_k».proof.Proof.Gen.Gathered

@[expose] public section

set_option Elab.async false

noncomputable section

namespace Cert.Proof.Gather

open Idealize.ShloMosaic Idealize.ShloMosaic.TcCoe Idealize.SL.Sem
open Cert.GatherWeightsIdeal Cert.GatherWeightsIdeal.Gen

variable {F : FTy → Type} [FloatOps F]

abbrev Whole : Shape := ⟨2, ![24576, 1024]⟩

theorem casts : Whole.ShapeCasts S8x3072x1024 := by decide

/-- The gathered blocks of an array are the array, reshaped. -/
theorem gathered_eq (m : (ℓ : Loc nD τ sig) → Buf (Elt F) ℓ) (w : Whole.Idx → Elt F .bf16)
    (h : ∀ c : Dev nD, m ((c.tc : Thread nD τ).loc main_arg0) = Layout.block ⟨2, ![3072, 1024]⟩ Whole 0 8 c w) :
    gathered m = shapeCast S8x3072x1024 w casts := by
  funext i
  unfold gathered
  rw [h]
  refine congrArg w (Shape.reshapeEquiv_eq_of_rowMajor _ ?_).symm
  rw [Shape.rowMajor_val_two, Shape.rowMajor_val_three]
  rfl

/-- The reference's run, with nothing in flight. -/
theorem run_whole (m : (ℓ : Loc Cert.GatheredIdeal.nD Cert.GatheredIdeal.τ Cert.GatheredIdeal.sig) → Buf (Elt F) ℓ) (g : Dev Cert.GatheredIdeal.nD → PrngReg) :
    θ_run (Cert.GatheredIdeal.defs (F := F)) (onTc (τ := Cert.GatheredIdeal.τ) (Cert.GatheredIdeal.main (F := F))) ⟨m, fun _ => 0, g⟩ fun r =>
      (∀ c : Dev Cert.GatheredIdeal.nD,
        r.2.mem ((c.tc : Thread Cert.GatheredIdeal.nD Cert.GatheredIdeal.τ).loc Cert.GatheredIdeal.main_v0)
            = shapeCast S8x3072x1024 (m ((c.tc : Thread Cert.GatheredIdeal.nD Cert.GatheredIdeal.τ).loc Cert.GatheredIdeal.main_arg0)) casts
          ∧ r.2.mem ((c.tc : Thread Cert.GatheredIdeal.nD Cert.GatheredIdeal.τ).loc Cert.GatheredIdeal.main_arg0)
            = m ((c.tc : Thread Cert.GatheredIdeal.nD Cert.GatheredIdeal.τ).loc Cert.GatheredIdeal.main_arg0))
      ∧ r.2.sem = fun _ => 0 :=
  (θ_run Cert.GatheredIdeal.defs _ _).mono (fun r h => ⟨h, sem_eq_zero_of_no_sems rfl _⟩) (Cert.GatheredIdeal.Value.run m g)

/-! ## The claims -/

theorem quiescent_ideal : Cert.quiescent_GatherWeightsIdeal := fun m g _ =>
  (θ_run Cert.GatherWeightsIdeal.defs _ _).mono (fun _ h => ⟨fun c => (h.1 c).2, h.2⟩) (run_main (F := Ideal) m g)

theorem quiescent_bits : Cert.quiescent_GatherWeights := fun m g _ =>
  (θ_run Cert.GatherWeightsIdeal.defs _ _).mono (fun _ h => ⟨fun c => (h.1 c).2, h.2⟩) (run_main (F := Bits) m g)

theorem quiescent_whole_ideal : Cert.quiescent_GatheredIdeal := fun m g _ =>
  (θ_run Cert.GatheredIdeal.defs _ _).mono (fun _ h => ⟨fun c => (h.1 c).2, h.2⟩) (run_whole (F := Ideal) m g)

theorem quiescent_whole_bits : Cert.quiescent_Gathered := fun m g _ =>
  (θ_run Cert.GatheredIdeal.defs _ _).mono (fun _ h => ⟨fun c => (h.1 c).2, h.2⟩) (run_whole (F := Bits) m g)

theorem algebraic : Cert.algebraic_GatherWeightsIdeal_GatheredIdeal := fun m g m' g' _ h =>
  ⟨shapeCast S8x3072x1024 (m' (((0 : Dev Cert.GatheredIdeal.nD).tc : Thread Cert.GatheredIdeal.nD Cert.GatheredIdeal.τ).loc Cert.GatheredIdeal.main_arg0)) casts,
    (θ_run Cert.GatherWeightsIdeal.defs _ _).mono (fun _ hr c => ⟨(hr.1 c).1.trans (gathered_eq m _ h), (hr.1 c).2⟩) (run_main (F := Ideal) m g),
    (θ_run Cert.GatheredIdeal.defs _ _).mono (fun _ hr => hr.1 0) (run_whole (F := Ideal) m' g')⟩

theorem bitexact : Cert.bitexact_GatherWeights_Gathered := fun m g m' g' _ h =>
  ⟨shapeCast S8x3072x1024 (m' (((0 : Dev Cert.GatheredIdeal.nD).tc : Thread Cert.GatheredIdeal.nD Cert.GatheredIdeal.τ).loc Cert.GatheredIdeal.main_arg0)) casts,
    (θ_run Cert.GatherWeightsIdeal.defs _ _).mono (fun _ hr c => ⟨(hr.1 c).1.trans (gathered_eq m _ h), (hr.1 c).2⟩) (run_main (F := Bits) m g),
    (θ_run Cert.GatheredIdeal.defs _ _).mono (fun _ hr => hr.1 0) (run_whole (F := Bits) m' g')⟩

end Cert.Proof.Gather

end
-- ==== Proof.Consts.lean ====
/-
  The literals of the reference's bias corrections, as the reals their patterns denote.
-/
module

public import Idealize.ShloMosaic.PureOps.Ideal

@[expose] public section

noncomputable section

namespace Cert.Proof.Consts

open Idealize.ShloMosaic

theorem ofBits_bias1 : Ideal.ofBits .f32 0x3F26BD02#32 = ((5463681 / 8388608 : ℝ) : EReal) := by
  simp [Ideal.ofBits, Ideal.ieee, -EReal.coe_mul]; norm_num

theorem ofBits_bias2 : Ideal.ofBits .f32 0x3C231ACC#32 = ((2672307 / 268435456 : ℝ) : EReal) := by
  simp [Ideal.ofBits, Ideal.ieee, -EReal.coe_mul]; norm_num

theorem ofBits_zero : Ideal.ofBits .f32 0x00000000#32 = 0 := by
  simp [Ideal.ofBits, Ideal.ieee]

end Cert.Proof.Consts

end
-- ==== Proof.Scatter.lean ====
/-
  The reduce-scatter's exchange: device `c` sends row `j` of its argument to device `j`, which keeps it as row `c` of its
  receive buffer. The rows sent are the argument's rows, one to a peer, and one stays; the receive buffer ends with row
  `j` being row `c` of device `j`'s argument.
-/
module

public import proofs.«01_k».proof.Proof.Rows
public import Idealize.ShloMosaic.Lib.Quiescent
public import proofs.«01_k».proof.Proof.Gen.KernelIdeal
public import proofs.«01_k».proof.Proof.Gen.KernelIdeal.Skeleton
public import proofs.«01_k».proof.Proof.Gen.KernelIdeal.Launch

@[expose] public section

set_option Elab.async false

noncomputable section

namespace Cert.Proof.Scatter

open Cert.KernelIdeal Cert.KernelIdeal.Gen
open Idealize.ShloMosaic Idealize.ShloMosaic.TcCoe
open Idealize.ShloMosaic.Pipeline (ownSems0 launchCred)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The device that copy `k` of device `c` goes to. -/
noncomputable def peer : Fin 7 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩

theorem peer_peer : ∀ k c, peer k (peer k c) = c := by decide +kernel

noncomputable def semOf : Fin 7 ⊕ Fin 7 ⊕ Unit → DmaSem sig
  | .inl k => ⟨k.val, show k.val < 31 by omega⟩
  | .inr (.inl k) => ⟨7 + k.val, show 7 + k.val < 31 by omega⟩
  | .inr (.inr _) => ⟨14, show 14 < 31 by omega⟩

theorem semOf_inj : Function.Injective semOf := by decide +kernel

abbrev xM : Memref sig .tc .hbm S8x3072x1024 .bf16 := Memref.whole main_arg0
abbrev oM : Memref sig .tc .hbm S8x3072x1024 .bf16 := Memref.whole main_v1

/-- The row of a buffer at offset `o`. -/
noncomputable def rowOf (M : Memref sig .tc .hbm S8x3072x1024 .bf16) (o : Fin 3 → ℕ) (h : ∀ a, o a + S1x3072x1024.size a ≤ S8x3072x1024.size a) :
    Memref sig .tc .hbm S3072x1024 .bf16 :=
  (M.slice (Rect.unit (s := S8x3072x1024) o S1x3072x1024.size h) (fun _ => rfl)).squeeze S3072x1024 squeezes_S1x3072x1024_S3072x1024

theorem rowOf_congr (M : Memref sig .tc .hbm S8x3072x1024 .bf16) {o o' : Fin 3 → ℕ} (e : o = o') (h h') : rowOf M o h = rowOf M o' h' := by
  subst e; rfl

/-- Where copy `k`'s source starts, as printed. -/
noncomputable def offS : Fin 7 → Dev nD → Fin 3 → ℕ
  | 0, c => k0_off2 c
  | 1, c => k0_off3 c
  | 2, c => k0_off4 c
  | 3, c => k0_off5 c
  | 4, c => k0_off6 c
  | 5, c => k0_off7 c
  | 6, c => k0_off8 c

theorem offS_eq : ∀ k c, offS k c = k0_off1 (peer k c) := by decide +kernel

theorem offS_inb (k : Fin 7) (c : Dev nD) : ∀ a, offS k c a + S1x3072x1024.size a ≤ S8x3072x1024.size a := by
  rw [offS_eq]; exact k0_off1_inb (peer k c)

noncomputable def rowX (c : Dev nD) : Memref sig .tc .hbm S3072x1024 .bf16 := rowOf xM (k0_off1 c) (k0_off1_inb c)
noncomputable def row (c : Dev nD) : Memref sig .tc .hbm S3072x1024 .bf16 := rowOf oM (k0_off1 c) (k0_off1_inb c)

theorem src_eq (k : Fin 7) (c : Dev nD) : rowOf xM (offS k c) (offS_inb k c) = rowX (peer k c) := rowOf_congr xM (offS_eq k c) _ _

theorem rowX_words (c : Dev nD) : (rowX c).view.WordExact :=
  ((Memref.isWhole_whole main_arg0).wordExact_slice rfl _ (k0_off1_wordsbf16 c)).reshape _ _
theorem row_words (c : Dev nD) : (row c).view.WordExact :=
  ((Memref.isWhole_whole main_v1).wordExact_slice rfl _ (k0_off1_wordsbf16 c)).reshape _ _

noncomputable def X : Xch nD τ sig 7 .hbm .hbm S3072x1024 .bf16 where
  own := rowX
  src k c := rowOf xM (offS k c) (offS_inb k c)
  dst := row
  peer := peer
  peer_peer := peer_peer
  sem := semOf
  sem_inj := semOf_inj
  wown := rowX_words
  wsrc k c := by rw [src_eq]; exact rowX_words _
  wdst := row_words
  shared _ := rfl
  typedL _ := ⟨Or.inl rfl, trivial⟩
  typedR _ _ := ⟨⟨rfl, Or.inl rfl⟩, trivial⟩
  N := View.dmaCredit (row 0).view
  N_pos := View.dmaCredit_pos _ (by decide)
  cred_dst _ := rfl
  cred_src _ _ := rfl
  qo := fullShare
  q _ := fullShare

set_option maxRecDepth 4096 in
theorem body_eq : (cc0_scatter_grads (F := F) (Memref.whole main_arg0) (Memref.isWhole_whole _) (Memref.whole main_v1) (Memref.isWhole_whole _) cc0_scratch0 cc0_scratch1 cc0_scratch2)
    = .op .deviceId fun c => X.body [0, 1, 2, 3, 4, 5, 6] c := rfl

/-! ## The rows -/

theorem everyone : Everyone peer := by decide +kernel

theorem off1 : ∀ c : Dev nD, k0_off1 c = ![c.val, 0, 0] := by decide +kernel

/-- Element `x` of a row lies in the buffer at the row's number and `x`. -/
theorem rect_emb (a : Dev nD) (x : S3072x1024.Idx) (h : S3072x1024.numel = S1x3072x1024.numel) :
    (Rect.unit (s := S8x3072x1024) (k0_off1 a) S1x3072x1024.size (k0_off1_inb a)).emb (Shape.reshapeEquiv h x)
      = (Fin.cons (show Fin 8 from a) x : S8x3072x1024.Idx) := by
  rw [Shape.reshapeEquiv_cons_one]
  funext b
  apply Fin.ext
  refine Fin.cases ?_ (fun b => ?_) b
  · show k0_off1 a 0 + 1 * 0 = a.val
    rw [off1]; rfl
  · show k0_off1 a b.succ + 1 * (x b).val = (x b).val
    rw [off1]; fin_cases b <;> simp

theorem row_emb (a : Dev nD) (x : S3072x1024.Idx) : (row a).view.emb x = (Fin.cons (show Fin 8 from a) x : S8x3072x1024.Idx) := rect_emb a x _
theorem rowX_emb (a : Dev nD) (x : S3072x1024.Idx) : (rowX a).view.emb x = (Fin.cons (show Fin 8 from a) x : S8x3072x1024.Idx) := rect_emb a x _

/-- Row `a`'s elements. -/
noncomputable def rowSet (a : Dev nD) : Finset S8x3072x1024.Idx := (row a).view.set

theorem mem_row (a : Dev nD) (i : S8x3072x1024.Idx) : i ∈ rowSet a ↔ (i 0).val = a.val := by
  constructor
  · intro h
    obtain ⟨x, -, rfl⟩ := Finset.mem_map.mp h
    exact congrArg (fun j : S8x3072x1024.Idx => (j 0).val) (row_emb a x)
  · intro h
    refine Finset.mem_map.mpr ⟨Fin.tail i, Finset.mem_univ _, (row_emb a (Fin.tail i)).trans ?_⟩
    conv_rhs => rw [← Fin.cons_self_tail i]
    congr 1
    exact Fin.ext h.symm

theorem rows_disjoint (a b : Dev nD) (h : a ≠ b) : Disjoint (rowSet a) (rowSet b) :=
  Finset.disjoint_left.mpr fun i ha hb => h (Fin.ext (((mem_row a i).mp ha).symm.trans ((mem_row b i).mp hb)))

theorem rows_cover : (Finset.univ.biUnion rowSet) = Finset.univ :=
  Finset.eq_univ_iff_forall.mpr fun i => Finset.mem_biUnion.mpr ⟨⟨(i 0).val, (i 0).isLt⟩, Finset.mem_univ _, (mem_row _ i).mpr rfl⟩

/-! ## What is received -/

section Run

variable (m : (ℓ : Loc nD τ sig) → Buf (Elt F) ℓ)

local notation "𝕄" => MT nD τ sig Unit (Elt F) ℕ (UU nD τ sig) ℕ

/-- Device `c`'s receive buffer: row `j` is row `c` of device `j`'s argument. -/
noncomputable def received (c : Dev nD) : S8x3072x1024.Idx → Elt F .bf16 :=
  fun i => m (((show Dev nD from i 0).tc : Thread nD τ).loc main_arg0) (Fin.cons (show Fin 8 from c) (Fin.tail i))

/-- What device `b`'s receive buffer holds once row `a` has landed. -/
noncomputable def written (b a : Dev nD) : S8x3072x1024.Idx → Elt F .bf16 :=
  (row a).view.write (Elt F) (m ((b.tc : Thread nD τ).loc main_v1)) ((rowX b).view.read (Elt F) (m ((a.tc : Thread nD τ).loc main_arg0))) Finset.univ

theorem written_eq (b a : Dev nD) (i : S8x3072x1024.Idx) (hi : i ∈ rowSet a) : written m b a i = received m b i := by
  obtain ⟨x, -, rfl⟩ := Finset.mem_map.mp hi
  have h1 : written m b a ((row a).view.emb x) = (rowX b).view.read (Elt F) (m ((a.tc : Thread nD τ).loc main_arg0)) x :=
    View.write_emb_of_mem (v := (row a).view) (Val := Elt F) _ _ (Finset.mem_univ x)
  have h2 : (rowX b).view.read (Elt F) (m ((a.tc : Thread nD τ).loc main_arg0)) x = m ((a.tc : Thread nD τ).loc main_arg0) (Fin.cons (show Fin 8 from b) x) :=
    congrArg (m ((a.tc : Thread nD τ).loc main_arg0)) (rowX_emb b x)
  exact (h1.trans h2).trans (congrArg (received m b) (row_emb a x)).symm

abbrev order : List (Fin 7) := [0, 1, 2, 3, 4, 5, 6]

theorem own_eq (c : Dev nD) : (X.ownP m c : sProp 𝕄) = ((c.tc : Thread nD τ).loc main_arg0 ↦[rowSet c]{fullShare} m ((c.tc : Thread nD τ).loc main_arg0)) := rfl

theorem srcP_eq (k : Fin 7) (c : Dev nD) :
    (X.srcP m k c : sProp 𝕄) = ((c.tc : Thread nD τ).loc main_arg0 ↦[rowSet (peer k c)]{fullShare} m ((c.tc : Thread nD τ).loc main_arg0)) := by
  unfold Xch.srcP
  rw [show X.src k c = rowX (peer k c) from src_eq k c]
  rfl

theorem landed_eq (k : Fin 7) (c : Dev nD) :
    (X.landed m k (X.peer k c) c : sProp 𝕄) = ((c.tc : Thread nD τ).loc main_v1 ↦[rowSet (peer k c)]{fullShare} written m c (peer k c)) := by
  unfold Xch.landed
  rw [show X.src k (X.peer k c) = rowX c from (src_eq k (peer k c)).trans (congrArg rowX (peer_peer k c))]
  rfl

theorem bufs_eq (c : Dev nD) : (X.bufs m c : sProp 𝕄)
    = iprop((((c.tc : Thread nD τ).loc main_arg0 ↦[rowSet c]{fullShare} m ((c.tc : Thread nD τ).loc main_arg0))
        ∗ ((c.tc : Thread nD τ).loc main_v1 ↦[rowSet c]{fullShare} m ((c.tc : Thread nD τ).loc main_v1)))
      ∗ (bigSep Finset.univ fun k : Fin 7 => (c.tc : Thread nD τ).loc main_arg0 ↦[rowSet (peer k c)]{fullShare} m ((c.tc : Thread nD τ).loc main_arg0))
      ∗ bigSep Finset.univ fun k : Fin 7 => (c.tc : Thread nD τ).loc main_v1 ↦[rowSet (peer k c)]{fullShare} m ((c.tc : Thread nD τ).loc main_v1)) := by
  unfold Xch.bufs
  simp only [own_eq, srcP_eq]
  rfl

theorem finish_eq (c : Dev nD) : (X.finish m c : sProp 𝕄)
    = iprop((((c.tc : Thread nD τ).loc main_arg0 ↦[rowSet c]{fullShare} m ((c.tc : Thread nD τ).loc main_arg0))
        ∗ ((c.tc : Thread nD τ).loc main_v1 ↦[rowSet c]{fullShare} written m c c))
      ∗ ((bigSep Finset.univ fun k : Fin 7 => (c.tc : Thread nD τ).loc main_arg0 ↦[rowSet (peer k c)]{fullShare} m ((c.tc : Thread nD τ).loc main_arg0))
        ∗ bigSep Finset.univ fun k : Fin 7 => (c.tc : Thread nD τ).loc main_v1 ↦[rowSet (peer k c)]{fullShare} written m c (peer k c))
      ∗ ownSems0 X.osem c) := by
  unfold Xch.finish
  rw [bigSep_sep' (Φ := fun k => X.srcP m k c)]
  simp only [own_eq, srcP_eq, landed_eq]
  rfl

/-- The buffers the exchange leaves alone. -/
abbrev others (c : Dev nD) : sProp 𝕄 :=
  iprop(((c.tc : Thread nD τ).loc main_arg1 ↦{fullShare} m ((c.tc : Thread nD τ).loc main_arg1))
    ∗ ((c.tc : Thread nD τ).loc main_arg2 ↦{fullShare} m ((c.tc : Thread nD τ).loc main_arg2))
    ∗ ((c.tc : Thread nD τ).loc main_arg3 ↦{fullShare} m ((c.tc : Thread nD τ).loc main_arg3))
    ∗ ((c.tc : Thread nD τ).loc main_v2_0 ↦{fullShare} m ((c.tc : Thread nD τ).loc main_v2_0))
    ∗ ((c.tc : Thread nD τ).loc main_v2_1 ↦{fullShare} m ((c.tc : Thread nD τ).loc main_v2_1))
    ∗ ((c.tc : Thread nD τ).loc main_v2_2 ↦{fullShare} m ((c.tc : Thread nD τ).loc main_v2_2))
    ∗ ((c.tc : Thread nD τ).loc main_v2_3 ↦{fullShare} m ((c.tc : Thread nD τ).loc main_v2_3)))

/-- A device's buffers: the argument and the receive buffer row by row, and the others. -/
theorem bufs_split (c : Dev nD) :
    (unscopedBufs c (fun b => m ((c.tc : Thread nD τ).loc b)) : sProp 𝕄) ⊢ iprop(X.bufs m c ∗ others m c) := by
  have h0 := Pipeline.PerCore.unscopedBufs_split₀ (fun _ : Dev nD => cfgs) 0 c (fun w => w.elim0) (fun b => m ((c.tc : Thread nD τ).loc b))
    (Ix := Unit) (Val := Elt F) (Name := ℕ) (U := UU nD τ sig) (Lvl := ℕ) (τ := τ)
  have h3 := rows_split (Val := Elt F) everyone c (ℓ := (c.tc : Thread nD τ).loc main_v1) rowSet rows_disjoint rows_cover (m ((c.tc : Thread nD τ).loc main_v1))
  have h4 := rows_split (Val := Elt F) everyone c (ℓ := (c.tc : Thread nD τ).loc main_arg0) rowSet rows_disjoint rows_cover (m ((c.tc : Thread nD τ).loc main_arg0))
  have h5 := unscopedRest0_eq (Ix := Unit) (Name := ℕ) (U := UU nD τ sig) (Lvl := ℕ) c (fun b => m ((c.tc : Thread nD τ).loc b))
  beta_reduce at h5
  rw [h0]
  refine (sep_mono .rfl (Entails.of_eq h5)).trans ?_
  rw [h3, h4, bufs_eq]
  iintro ⟨-, ⟨Ha, Hs⟩, H1, H2, H3, ⟨Hr, Hp⟩, H4⟩
  isplitl [Ha Hr Hs Hp]
  · isplitl [Ha Hr]
    · isplitl [Ha] <;> iassumption
    isplitl [Hs] <;> iassumption
  isplitl [H1]; · iexact H1
  isplitl [H2]; · iexact H2
  isplitl [H3] <;> iassumption

/-- The argument and the receive buffer after the exchange. -/
abbrev done (c : Dev nD) : sProp 𝕄 :=
  iprop(((c.tc : Thread nD τ).loc main_arg0 ↦{fullShare} m ((c.tc : Thread nD τ).loc main_arg0)) ∗ ((c.tc : Thread nD τ).loc main_v1 ↦{fullShare} received m c))

theorem finish_done (c : Dev nD) : X.finish m c ⊢ (iprop(done m c ∗ ownSems0 X.osem c) : sProp 𝕄) := by
  have h3 := rows_join (Val := Elt F) everyone c (ℓ := (c.tc : Thread nD τ).loc main_v1) rowSet rows_disjoint rows_cover (written m c) (received m c) (written_eq m c)
  have h4 := rows_split (Val := Elt F) everyone c (ℓ := (c.tc : Thread nD τ).loc main_arg0) rowSet rows_disjoint rows_cover (m ((c.tc : Thread nD τ).loc main_arg0))
  rw [finish_eq]
  unfold done
  rw [h4]
  iintro ⟨⟨Ha, Hr⟩, ⟨Hs, Hl⟩, Ho⟩
  isplitr [Ho]
  · isplitl [Ha Hs]
    · isplitl [Ha] <;> iassumption
    · iapply h3
      isplitl [Hr] <;> iassumption
  iexact Ho

end Run

end Cert.Proof.Scatter

end
-- ==== Proof.Adamw.lean ====
/-
  The update call: one block of 256 rows of the eight received partial gradients, of the weights and of the two moments
  per grid point, and from them the gradient, the step and the new moments, each element from the elements at its own
  place. Here: the functions of one element, what the body does to one block, and the blocks put together.
-/
module

public import proofs.«01_k».proof.Proof.Scatter
public import proofs.«01_k».proof.Proof.Gen.KernelIdeal.Points
public import Idealize.ShloMosaic.Lib.Pipeline.FrameBody
public import Idealize.ShloMosaic.Lib.Pipeline.ValueKit
public import Idealize.ShloMosaic.Lib.Tactic

@[expose] public section

set_option Elab.async false
set_option maxRecDepth 16384

noncomputable section

namespace Cert.Proof.Adamw

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-! ## One element -/

/-- A literal. -/
abbrev lit (b : BitVec 32) : F .f32 := Scalar.ofBits .f32 b

/-- The gradient: the eight devices' parts, widened and summed in device order. -/
noncomputable def gradE (x : Fin 8 → F .bf16) : F .f32 :=
  let w (j : Fin 8) : F .f32 := FloatOps.extf .f32 bitsLt_bf16_f32 (x j)
  FloatOps.addf (FloatOps.addf (FloatOps.addf (FloatOps.addf (FloatOps.addf (FloatOps.addf (FloatOps.addf (w 0) (w 1)) (w 2)) (w 3)) (w 4)) (w 5)) (w 6)) (w 7)

/-- The first moment. -/
noncomputable def momE (g a : F .f32) : F .f32 :=
  FloatOps.addf (FloatOps.mulf (lit 0x3F666666#32) a) (FloatOps.mulf (lit 0x3DCCCCCD#32) g)

/-- The second moment. -/
noncomputable def sqE (g v : F .f32) : F .f32 :=
  FloatOps.addf (FloatOps.mulf (lit 0x3F7FBE77#32) v) (FloatOps.mulf (lit 0x3A83126F#32) (FloatOps.mulf g g))

/-- The step. -/
noncomputable def stepE (g w a v : F .f32) : F .f32 :=
  FloatOps.mulf (lit 0xBA83126F#32)
    (FloatOps.addf
      (FloatOps.divf (FloatOps.mulf (momE g a) (Named.named κ "inv_bias1" 0x3FC48605#32))
        (FloatOps.addf (FloatOps.sqrt (FloatOps.mulf (sqE g v) (Named.named κ "inv_bias2" 0x42C8E6D3#32))) (lit 0x322BCC77#32)))
      (FloatOps.mulf (lit 0x3C23D70A#32) w))

/-! ## One block -/

/-- Element `y` of part `j` of a stack of blocks. -/
noncomputable def at3 (j : Fin 8) (y : S256x1024.Idx) : S8x256x1024.Idx := Fin.cons j y

noncomputable def gradB (x : Vec F S8x256x1024 .bf16) : Vec F S256x1024 .f32 := fun y => gradE fun j => x (at3 j y)
noncomputable def momB (x : Vec F S8x256x1024 .bf16) (a : Vec F S256x1024 .f32) : Vec F S256x1024 .f32 := fun y => momE (gradB x y) (a y)
noncomputable def sqB (x : Vec F S8x256x1024 .bf16) (v : Vec F S256x1024 .f32) : Vec F S256x1024 .f32 := fun y => sqE (gradB x y) (v y)
noncomputable def stepB (x : Vec F S8x256x1024 .bf16) (w a v : Vec F S256x1024 .f32) : Vec F S256x1024 .f32 := fun y => stepE (gradB x y) (w y) (a y) (v y)

/-- Part `j` of a stack, and a whole block. -/
noncomputable abbrev part (j : ℕ) (h : ∀ a, (![j, 0, 0] : Fin 3 → ℕ) a + S1x256x1024.size a ≤ S8x256x1024.size a) : Rect S8x256x1024 :=
  Rect.unit (s := S8x256x1024) ![j, 0, 0] S1x256x1024.size h

noncomputable abbrev all : Rect S256x1024 := Rect.unit (s := S256x1024) ![0, 0] S256x1024.size inb_S256x1024_S256x1024_0_0

theorem part_apply (x : Vec F S8x256x1024 .bf16) (j : Fin 8) (h) (hc) (y : S256x1024.Idx) :
    shapeCast S256x1024 (View.ld x (part j.val h)) hc y = x (at3 j y) := by
  show x ((part j.val h).emb (Shape.reshapeEquiv hc y)) = _
  congr 1
  rw [Shape.reshapeEquiv_cons_one]
  funext b
  apply Fin.ext
  refine Fin.cases ?_ (fun b => ?_) b
  · show j.val + 1 * 0 = j.val
    omega
  · show (![j.val, 0, 0] : Fin 3 → ℕ) b.succ + 1 * (y b).val = (y b).val
    fin_cases b <;> simp

theorem cast_self (x : Vec F S256x1024 .f32) (h) : shapeCast S256x1024 x h = x := by
  funext y
  show x (Shape.reshapeEquiv h y) = x y
  rw [Shape.reshapeEquiv_self]

theorem pay4_eq (x : Vec F S8x256x1024 .bf16) :
    k1_pay4 (View.ld x (part 0 inb_S8x256x1024_S1x256x1024_0_0_0)) (View.ld x (part 1 inb_S8x256x1024_S1x256x1024_1_0_0))
      (View.ld x (part 2 inb_S8x256x1024_S1x256x1024_2_0_0)) (View.ld x (part 3 inb_S8x256x1024_S1x256x1024_3_0_0))
      (View.ld x (part 4 inb_S8x256x1024_S1x256x1024_4_0_0)) (View.ld x (part 5 inb_S8x256x1024_S1x256x1024_5_0_0))
      (View.ld x (part 6 inb_S8x256x1024_S1x256x1024_6_0_0)) (View.ld x (part 7 inb_S8x256x1024_S1x256x1024_7_0_0)) = gradB x := by
  funext y
  have e0 : shapeCast S256x1024 (View.ld x (part 0 inb_S8x256x1024_S1x256x1024_0_0_0)) shapeCasts_S1x256x1024_S256x1024 y = x (at3 0 y) := part_apply x 0 _ _ y
  have e1 : shapeCast S256x1024 (View.ld x (part 1 inb_S8x256x1024_S1x256x1024_1_0_0)) shapeCasts_S1x256x1024_S256x1024 y = x (at3 1 y) := part_apply x 1 _ _ y
  have e2 : shapeCast S256x1024 (View.ld x (part 2 inb_S8x256x1024_S1x256x1024_2_0_0)) shapeCasts_S1x256x1024_S256x1024 y = x (at3 2 y) := part_apply x 2 _ _ y
  have e3 : shapeCast S256x1024 (View.ld x (part 3 inb_S8x256x1024_S1x256x1024_3_0_0)) shapeCasts_S1x256x1024_S256x1024 y = x (at3 3 y) := part_apply x 3 _ _ y
  have e4 : shapeCast S256x1024 (View.ld x (part 4 inb_S8x256x1024_S1x256x1024_4_0_0)) shapeCasts_S1x256x1024_S256x1024 y = x (at3 4 y) := part_apply x 4 _ _ y
  have e5 : shapeCast S256x1024 (View.ld x (part 5 inb_S8x256x1024_S1x256x1024_5_0_0)) shapeCasts_S1x256x1024_S256x1024 y = x (at3 5 y) := part_apply x 5 _ _ y
  have e6 : shapeCast S256x1024 (View.ld x (part 6 inb_S8x256x1024_S1x256x1024_6_0_0)) shapeCasts_S1x256x1024_S256x1024 y = x (at3 6 y) := part_apply x 6 _ _ y
  have e7 : shapeCast S256x1024 (View.ld x (part 7 inb_S8x256x1024_S1x256x1024_7_0_0)) shapeCasts_S1x256x1024_S256x1024 y = x (at3 7 y) := part_apply x 7 _ _ y
  unfold k1_pay4 gradB gradE
  simp only [addf, extf]
  rw [e0, e1, e2, e3, e4, e5, e6, e7]

theorem pay1_eq (x : Vec F S8x256x1024 .bf16) (a : Vec F S256x1024 .f32) : k1_pay1 (gradB x) (k1_pay5 a) = momB x a := by
  unfold k1_pay5
  rw [cast_self]
  rfl

theorem pay2_eq (x : Vec F S8x256x1024 .bf16) (v : Vec F S256x1024 .f32) : k1_pay2 (gradB x) v = sqB x v := by
  unfold k1_pay2
  rw [show shapeCast S256x1024 v shapeCasts_S256x1024_S256x1024 = v from cast_self v _]
  rfl

theorem pay3_eq (x : Vec F S8x256x1024 .bf16) (w a v : Vec F S256x1024 .f32) : k1_pay3 (gradB x) (k1_pay5 a) v w = stepB x w a v := by
  unfold k1_pay3
  rw [show shapeCast S256x1024 w shapeCasts_S256x1024_S256x1024 = w from cast_self w _, pay1_eq, pay2_eq]
  rfl

/-! ## The body -/

theorem whole_store (p : Vec F S256x1024 .f32) : (View.canon [(⟨all, p⟩ : View.Piece (Elt F) S256x1024 .f32)] : Vec F S256x1024 .f32) = p :=
  View.canon_cons_unit_lit (Val := Elt F) (S := S256x1024) (e := .f32) inb_S256x1024_S256x1024_0_0 p [] (by decide)

theorem whole_load (x : Vec F S256x1024 .f32) : View.ld x all = x :=
  View.ld_unit_lit (Val := Elt F) (S := S256x1024) (e := .f32) inb_S256x1024_S256x1024_0_0 x (by decide)

/-- The one store of a window covers it. -/
theorem whole_covers (p : Vec F S256x1024 .f32) (y : S256x1024.Idx) : ∃ pc ∈ ([⟨all, p⟩] : List (View.Piece (Elt F) S256x1024 .f32)), y ∈ pc.1.set :=
  View.cover_of_tiled [⟨all, p⟩] S256x1024.size (by rfl) y

section Body

local notation "𝕄" => MT nD τ sig Unit (Elt F) ℕ (UU nD τ sig) ℕ

set_option maxHeartbeats 1000000 in
/-- The body on any staging buffers: the inputs stay, the outputs end at the block's gradient, step and moments. -/
theorem body_triple (c : Dev nD) (i : grid1.Coords)
    (bx : Memref sig .tc .vmem S8x256x1024 .bf16) (hx : bx.IsWhole) (bw : Memref sig .tc .vmem S256x1024 .f32) (hw : bw.IsWhole)
    (ba : Memref sig .tc .vmem S256x1024 .f32) (ha : ba.IsWhole) (bv : Memref sig .tc .vmem S256x1024 .f32) (hv : bv.IsWhole)
    (og : Memref sig .tc .vmem S256x1024 .f32) (hog : og.IsWhole) (os : Memref sig .tc .vmem S256x1024 .f32) (hos : os.IsWhole)
    (oa : Memref sig .tc .vmem S256x1024 .f32) (hoa : oa.IsWhole) (ov : Memref sig .tc .vmem S256x1024 .f32) (hov : ov.IsWhole)
    (x : Vec F S8x256x1024 .bf16) (w a v : Vec F S256x1024 .f32) (K : PUnit → sProp 𝕄) :
    iprop((owns (c : Thread nD τ) bx fullShare x ∗ owns (c : Thread nD τ) bw fullShare w ∗ owns (c : Thread nD τ) ba fullShare a ∗ owns (c : Thread nD τ) bv fullShare v)
        ∗ ((∃ d, owns (c : Thread nD τ) og fullShare d) ∗ (∃ d, owns (c : Thread nD τ) os fullShare d) ∗ (∃ d, owns (c : Thread nD τ) oa fullShare d) ∗ (∃ d, owns (c : Thread nD τ) ov fullShare d))
        ∗ (iprop((owns (c : Thread nD τ) bx fullShare x ∗ owns (c : Thread nD τ) bw fullShare w ∗ owns (c : Thread nD τ) ba fullShare a ∗ owns (c : Thread nD τ) bv fullShare v)
            ∗ owns (c : Thread nD τ) og fullShare (gradB x) ∗ owns (c : Thread nD τ) os fullShare (stepB x w a v)
            ∗ owns (c : Thread nD τ) oa fullShare (momB x a) ∗ owns (c : Thread nD τ) ov fullShare (sqB x v)) -∗ K ⟨⟩))
      ⊢ wp frame (wpE (defs₀ (F := F)) Variants.none c none) Set.univ (cc1_adamw_main i bx hx bw hw ba ha bv hv og hog os hos oa hoa ov hov) K := by
  simp only [cc1_adamw_main_eq_skeleton]; unfold cc1_adamw_main_skel
  simp only [k1_part1_eq_skeleton]
  unfold owns
  iintro ⟨⟨⟨%fx, %ex, Hx⟩, ⟨%fw, %ew, Hw⟩, ⟨%fa, %ea, Ha⟩, %fv, %ev, Hv⟩, ⟨⟨%dg, %fg, -, Hg⟩, ⟨%ds, %fs, -, Hs⟩, ⟨%da, %fm, -, Hm⟩, %dv, %fq, -, Hq⟩, Hk⟩
  subst ex ew ea ev
  sl_exec
  sl_step
  iapply Hk
  isplitl [Hx Hw Ha Hv]
  · isplitl [Hx]
    · iexists fx; isplitr; · ipureintro; rfl
      iexact Hx
    isplitl [Hw]
    · iexists fw; isplitr; · ipureintro; rfl
      iexact Hw
    isplitl [Ha]
    · iexists fa; isplitr; · ipureintro; rfl
      iexact Ha
    iexists fv; isplitr; · ipureintro; rfl
    iexact Hv
  isplitl [Hg]
  · iexists _; isplitr
    swap; · iexact Hg
    ipureintro
    refine ((View.read_writes_eq_canon _ _ _ (whole_covers _)).trans (whole_store _)).trans ?_
    exact pay4_eq _
  isplitl [Hs]
  · iexists _; isplitr
    swap; · iexact Hs
    ipureintro
    refine ((View.read_writes_eq_canon _ _ _ (whole_covers _)).trans (whole_store _)).trans ?_
    refine Eq.trans ?_ (pay3_eq _ _ _ _)
    rw [← pay4_eq, ← whole_load (bw.view.read (Elt F) fw), ← whole_load (ba.view.read (Elt F) fa), ← whole_load (bv.view.read (Elt F) fv)]
    rfl
  isplitl [Hm]
  · iexists _; isplitr
    swap; · iexact Hm
    ipureintro
    refine ((View.read_writes_eq_canon _ _ _ (whole_covers _)).trans (whole_store _)).trans ?_
    refine Eq.trans ?_ (pay1_eq _ _)
    rw [← pay4_eq, ← whole_load (ba.view.read (Elt F) fa)]
    rfl
  iexists _; isplitr
  swap; · iexact Hq
  ipureintro
  refine ((View.read_writes_eq_canon _ _ _ (whole_covers _)).trans (whole_store _)).trans ?_
  refine Eq.trans ?_ (pay2_eq _ _)
  rw [← pay4_eq, ← whole_load (bv.view.read (Elt F) fv)]
  rfl

/-! ## The blocks put together -/

variable (m : (ℓ : Loc nD τ sig) → Buf (Elt F) ℓ)

/-- Device `c`'s results: its rows of the gradient, of the moments and of the step. -/
noncomputable def gradA (c : Dev nD) : S3072x1024.Idx → F .f32 :=
  fun i => gradE fun j => Scatter.received m c (Fin.cons (show Fin 8 from j) i : S8x3072x1024.Idx)
noncomputable def momA (c : Dev nD) : S3072x1024.Idx → F .f32 := fun i => momE (gradA m c i) (m ((c.tc : Thread nD τ).loc main_arg2) i)
noncomputable def sqA (c : Dev nD) : S3072x1024.Idx → F .f32 := fun i => sqE (gradA m c i) (m ((c.tc : Thread nD τ).loc main_arg3) i)
noncomputable def stepA (c : Dev nD) : S3072x1024.Idx → F .f32 :=
  fun i => stepE (gradA m c i) (m ((c.tc : Thread nD τ).loc main_arg1) i) (m ((c.tc : Thread nD τ).loc main_arg2) i) (m ((c.tc : Thread nD τ).loc main_arg3) i)

/-- What the windows' arrays hold when the call starts. -/
noncomputable def entry (c : Dev nD) : (w : Fin cfg1.W) → Buf (Elt F) ((c.tc : Thread nD τ).loc (Pipeline.arrRef spec1 w))
  | ⟨0, _⟩ => Scatter.received m c
  | ⟨1, _⟩ => m ((c.tc : Thread nD τ).loc main_arg1)
  | ⟨2, _⟩ => m ((c.tc : Thread nD τ).loc main_arg2)
  | ⟨3, _⟩ => m ((c.tc : Thread nD τ).loc main_arg3)
  | ⟨4, _⟩ => m ((c.tc : Thread nD τ).loc main_v2_0)
  | ⟨5, _⟩ => m ((c.tc : Thread nD τ).loc main_v2_1)
  | ⟨6, _⟩ => m ((c.tc : Thread nD τ).loc main_v2_2)
  | ⟨7, _⟩ => m ((c.tc : Thread nD τ).loc main_v2_3)

/-- A window's block at a point. -/
noncomputable def blockAt (c : Dev nD) (w : Fin cfg1.W) (t : Fin cfg1.N) : ((cfg1.win w).xblock (cfg1.grid.coords t)).Idx → Elt F (cfg1.win w).elt :=
  ((cfg1.win w).blk t).view.read (Elt F) (entry m c w)

noncomputable def dat1 (c : Dev nD) : Dat τ (Elt F) Unit ℕ (UU nD τ sig) ℕ cfg1 c where
  A := entry m c
  after w t := match w with
    | ⟨0, _⟩ => blockAt m c 0 t
    | ⟨1, _⟩ => blockAt m c 1 t
    | ⟨2, _⟩ => blockAt m c 2 t
    | ⟨3, _⟩ => blockAt m c 3 t
    | ⟨4, _⟩ => gradB (blockAt m c 0 t)
    | ⟨5, _⟩ => stepB (blockAt m c 0 t) (blockAt m c 1 t) (blockAt m c 2 t) (blockAt m c 3 t)
    | ⟨6, _⟩ => momB (blockAt m c 0 t) (blockAt m c 2 t)
    | ⟨7, _⟩ => sqB (blockAt m c 0 t) (blockAt m c 3 t)
  Φ _ := iprop(emp)
  q _ := fullShare
  owed _ := 0

theorem after_0 (c : Dev nD) (t : Fin cfg1.N) : (dat1 m c).after 0 t = blockAt m c 0 t := by dsimp only [dat1]
theorem after_1 (c : Dev nD) (t : Fin cfg1.N) : (dat1 m c).after 1 t = blockAt m c 1 t := by dsimp only [dat1]
theorem after_2 (c : Dev nD) (t : Fin cfg1.N) : (dat1 m c).after 2 t = blockAt m c 2 t := by dsimp only [dat1]
theorem after_3 (c : Dev nD) (t : Fin cfg1.N) : (dat1 m c).after 3 t = blockAt m c 3 t := by dsimp only [dat1]
theorem after_4 (c : Dev nD) (t : Fin cfg1.N) : (dat1 m c).after 4 t = gradB (blockAt m c 0 t) := by dsimp only [dat1]
theorem after_5 (c : Dev nD) (t : Fin cfg1.N) : (dat1 m c).after 5 t = stepB (blockAt m c 0 t) (blockAt m c 1 t) (blockAt m c 2 t) (blockAt m c 3 t) := by dsimp only [dat1]
theorem after_6 (c : Dev nD) (t : Fin cfg1.N) : (dat1 m c).after 6 t = momB (blockAt m c 0 t) (blockAt m c 2 t) := by dsimp only [dat1]
theorem after_7 (c : Dev nD) (t : Fin cfg1.N) : (dat1 m c).after 7 t = sqB (blockAt m c 0 t) (blockAt m c 3 t) := by dsimp only [dat1]

/-! Every point fetches every input's block. -/

theorem before_0 (c : Dev nD) (t : Fin cfg1.N) (d) : (dat1 m c).before 0 t d = blockAt m c 0 t :=
  ((dat1 m c).before_fetched 0 t (fetch1_0 t) d).trans (by unfold Dat.fetched Dat.blockOf blockAt; rfl)
theorem before_1 (c : Dev nD) (t : Fin cfg1.N) (d) : (dat1 m c).before 1 t d = blockAt m c 1 t :=
  ((dat1 m c).before_fetched 1 t (fetch1_1 t) d).trans (by unfold Dat.fetched Dat.blockOf blockAt; rfl)
theorem before_2 (c : Dev nD) (t : Fin cfg1.N) (d) : (dat1 m c).before 2 t d = blockAt m c 2 t :=
  ((dat1 m c).before_fetched 2 t (fetch1_2 t) d).trans (by unfold Dat.fetched Dat.blockOf blockAt; rfl)
theorem before_3 (c : Dev nD) (t : Fin cfg1.N) (d) : (dat1 m c).before 3 t d = blockAt m c 3 t :=
  ((dat1 m c).before_fetched 3 t (fetch1_3 t) d).trans (by unfold Dat.fetched Dat.blockOf blockAt; rfl)

/-- The body at a point, in the windows' buffers. -/
theorem body_point (c : Dev nD) (t : Fin cfg1.N) :
    iprop((dat1 m c).Φ t.castSucc ∗ (dat1 m c).owesAt () t.castSucc
      ∗ (∃ d, owns (c : Thread nD τ) (st1_0 t) fullShare ((dat1 m c).before 0 t d)) ∗ (∃ d, owns (c : Thread nD τ) (st1_1 t) fullShare ((dat1 m c).before 1 t d))
      ∗ (∃ d, owns (c : Thread nD τ) (st1_2 t) fullShare ((dat1 m c).before 2 t d)) ∗ (∃ d, owns (c : Thread nD τ) (st1_3 t) fullShare ((dat1 m c).before 3 t d))
      ∗ (∃ d, owns (c : Thread nD τ) (st1_4 t) fullShare ((dat1 m c).before 4 t d)) ∗ (∃ d, owns (c : Thread nD τ) (st1_5 t) fullShare ((dat1 m c).before 5 t d))
      ∗ (∃ d, owns (c : Thread nD τ) (st1_6 t) fullShare ((dat1 m c).before 6 t d)) ∗ (∃ d, owns (c : Thread nD τ) (st1_7 t) fullShare ((dat1 m c).before 7 t d)))
    ⊢ wp frame (wpE (defs₀ (F := F)) Variants.none c none) Set.univ (bodyAt1 t) fun _ => iprop((dat1 m c).Φ t.succ ∗ (dat1 m c).owesAt () t.succ
      ∗ owns (c : Thread nD τ) (st1_0 t) fullShare ((dat1 m c).after 0 t) ∗ owns (c : Thread nD τ) (st1_1 t) fullShare ((dat1 m c).after 1 t)
      ∗ owns (c : Thread nD τ) (st1_2 t) fullShare ((dat1 m c).after 2 t) ∗ owns (c : Thread nD τ) (st1_3 t) fullShare ((dat1 m c).after 3 t)
      ∗ owns (c : Thread nD τ) (st1_4 t) fullShare ((dat1 m c).after 4 t) ∗ owns (c : Thread nD τ) (st1_5 t) fullShare ((dat1 m c).after 5 t)
      ∗ owns (c : Thread nD τ) (st1_6 t) fullShare ((dat1 m c).after 6 t) ∗ owns (c : Thread nD τ) (st1_7 t) fullShare ((dat1 m c).after 7 t)) := by
  simp only [before_0, before_1, before_2, before_3, after_0, after_1, after_2, after_3, after_4, after_5, after_6, after_7]
  rw [show (dat1 m c).Φ t.succ = (dat1 m c).Φ t.castSucc from rfl, show (dat1 m c).owesAt () t.succ = (dat1 m c).owesAt () t.castSucc from rfl]
  unfold bodyAt1
  iintro ⟨HΦ, Ho, ⟨%d0, H0⟩, ⟨%d1, H1⟩, ⟨%d2, H2⟩, ⟨%d3, H3⟩, H4, H5, H6, H7⟩
  iapply (body_triple c (grid1.coords t) _ _ _ _ _ _ _ _ _ _ _ _ _ _ _ _ (blockAt m c 0 t) (blockAt m c 1 t) (blockAt m c 2 t) (blockAt m c 3 t) _)
  isplitl [H0 H1 H2 H3]
  · isplitl [H0]; · iexact H0
    isplitl [H1]; · iexact H1
    isplitl [H2]; · iexact H2
    iexact H3
  isplitl [H4 H5 H6 H7]
  · isplitl [H4]
    · icases H4 with ⟨%d, H⟩; iexists _; iexact H
    isplitl [H5]
    · icases H5 with ⟨%d, H⟩; iexists _; iexact H
    isplitl [H6]
    · icases H6 with ⟨%d, H⟩; iexists _; iexact H
    icases H7 with ⟨%d, H⟩; iexists _; iexact H
  iintro ⟨⟨H0, H1, H2, H3⟩, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg1.N) : defs₀ (F := F) .tc cfg1.body (cfg1.bodyArgs t (cfg1.slots t)) = bodyAt1 t := by
  unfold defs₀; rw [Defs.onTc_tc]

theorem body_ok (c : Dev nD) : BodyObligation (dat1 m c) (defs₀ (F := F)) Variants.none () Set.univ := fun t => by
  rw [bigSep_W1, bigSep_W1, body_row]
  exact triple_restated (body_point m c t) rfl .rfl fun _ => .rfl

/-! ## The results -/

/-- Where a point's block lies in an array of rows, and in the stack of received rows. -/
theorem starts_0 : ∀ t : Fin cfg1.N, win1_0.index t = ![0, (grid1.coords t 0).val, 0] := (by decide +kernel : ∀ t : Fin grid1.N, _)
theorem starts_1 : ∀ t : Fin cfg1.N, win1_1.index t = ![(grid1.coords t 0).val, 0] := (by decide +kernel : ∀ t : Fin grid1.N, _)
theorem starts_2 : ∀ t : Fin cfg1.N, win1_2.index t = ![(grid1.coords t 0).val, 0] := (by decide +kernel : ∀ t : Fin grid1.N, _)
theorem starts_3 : ∀ t : Fin cfg1.N, win1_3.index t = ![(grid1.coords t 0).val, 0] := (by decide +kernel : ∀ t : Fin grid1.N, _)
theorem starts_4 : ∀ t : Fin cfg1.N, win1_4.index t = ![(grid1.coords t 0).val, 0] := (by decide +kernel : ∀ t : Fin grid1.N, _)
theorem starts_5 : ∀ t : Fin cfg1.N, win1_5.index t = ![(grid1.coords t 0).val, 0] := (by decide +kernel : ∀ t : Fin grid1.N, _)
theorem starts_6 : ∀ t : Fin cfg1.N, win1_6.index t = ![(grid1.coords t 0).val, 0] := (by decide +kernel : ∀ t : Fin grid1.N, _)
theorem starts_7 : ∀ t : Fin cfg1.N, win1_7.index t = ![(grid1.coords t 0).val, 0] := (by decide +kernel : ∀ t : Fin grid1.N, _)

/-- The array index of element `y` of point `t`'s block. -/
noncomputable def place (t : Fin cfg1.N) (y : S256x1024.Idx) : S3072x1024.Idx := (win1_4.blk t).view.emb y

theorem place_0 (t : Fin cfg1.N) (j : Fin 8) (y : S256x1024.Idx) : (win1_0.blk t).view.emb (at3 j y) = (Fin.cons (show Fin 8 from j) (place t y) : S8x3072x1024.Idx) := by
  funext b
  apply Fin.ext
  refine Fin.cases ?_ (fun b => ?_) b
  · blk_simp [starts_0]
    rfl
  · fin_cases b
    · have h : ((win1_4.blk t).view.emb y 0).val = (grid1.coords t 0).val * 256 + (y 0).val := by blk_simp [starts_4]
      blk_simp [starts_0]
      exact h.symm
    · have h : ((win1_4.blk t).view.emb y 1).val = (y 1).val := by blk_simp [starts_4]
      blk_simp [starts_0]
      refine Eq.trans ?_ h.symm
      exact Nat.zero_add _
theorem place_1 (t : Fin cfg1.N) (y : S256x1024.Idx) : (win1_1.blk t).view.emb y = place t y := by
  unfold place
  blk_ext [starts_1, starts_4]
theorem place_2 (t : Fin cfg1.N) (y : S256x1024.Idx) : (win1_2.blk t).view.emb y = place t y := by
  unfold place
  blk_ext [starts_2, starts_4]
theorem place_3 (t : Fin cfg1.N) (y : S256x1024.Idx) : (win1_3.blk t).view.emb y = place t y := by
  unfold place
  blk_ext [starts_3, starts_4]
theorem place_5 (t : Fin cfg1.N) (y : S256x1024.Idx) : (win1_5.blk t).view.emb y = place t y := by
  unfold place
  blk_ext [starts_5, starts_4]
theorem place_6 (t : Fin cfg1.N) (y : S256x1024.Idx) : (win1_6.blk t).view.emb y = place t y := by
  unfold place
  blk_ext [starts_6, starts_4]
theorem place_7 (t : Fin cfg1.N) (y : S256x1024.Idx) : (win1_7.blk t).view.emb y = place t y := by
  unfold place
  blk_ext [starts_7, starts_4]

theorem grad_at (c : Dev nD) (t : Fin cfg1.N) (y : S256x1024.Idx) : gradB (blockAt m c 0 t) y = gradA m c (place t y) :=
  congrArg gradE (funext fun j => congrArg (Scatter.received m c) (place_0 t j y))

theorem w_at (c : Dev nD) (t : Fin cfg1.N) (y : S256x1024.Idx) : blockAt m c 1 t y = m ((c.tc : Thread nD τ).loc main_arg1) (place t y) :=
  congrArg (m ((c.tc : Thread nD τ).loc main_arg1)) (place_1 t y)
theorem mom_at (c : Dev nD) (t : Fin cfg1.N) (y : S256x1024.Idx) : blockAt m c 2 t y = m ((c.tc : Thread nD τ).loc main_arg2) (place t y) :=
  congrArg (m ((c.tc : Thread nD τ).loc main_arg2)) (place_2 t y)
theorem sq_at (c : Dev nD) (t : Fin cfg1.N) (y : S256x1024.Idx) : blockAt m c 3 t y = m ((c.tc : Thread nD τ).loc main_arg3) (place t y) :=
  congrArg (m ((c.tc : Thread nD τ).loc main_arg3)) (place_3 t y)

theorem final_grad (c : Dev nD) : (dat1 m c).arrAt 4 cfg1.N = gradA m c := by
  refine (dat1 m c).arrAt_eq_of_covers 4 _ (by decide +kernel) fun t hf y => ?_
  blk_simp
  rw [after_4]
  exact grad_at m c t y

theorem final_step (c : Dev nD) : (dat1 m c).arrAt 5 cfg1.N = stepA m c := by
  refine (dat1 m c).arrAt_eq_of_covers 5 _ (by decide +kernel) fun t hf y => ?_
  blk_simp
  rw [after_5]
  refine Eq.trans ?_ (congrArg (stepA m c) (place_5 t y)).symm
  unfold stepB stepA
  rw [grad_at, w_at, mom_at, sq_at]

theorem final_mom (c : Dev nD) : (dat1 m c).arrAt 6 cfg1.N = momA m c := by
  refine (dat1 m c).arrAt_eq_of_covers 6 _ (by decide +kernel) fun t hf y => ?_
  blk_simp
  rw [after_6]
  refine Eq.trans ?_ (congrArg (momA m c) (place_6 t y)).symm
  unfold momB momA
  rw [grad_at, mom_at]

theorem final_sq (c : Dev nD) : (dat1 m c).arrAt 7 cfg1.N = sqA m c := by
  refine (dat1 m c).arrAt_eq_of_covers 7 _ (by decide +kernel) fun t hf y => ?_
  blk_simp
  rw [after_7]
  refine Eq.trans ?_ (congrArg (sqA m c) (place_7 t y)).symm
  unfold sqB sqA
  rw [grad_at, sq_at]

/-- What the windows' arrays hold at the end. -/
noncomputable def result (c : Dev nD) : (w : Fin cfg1.W) → Buf (Elt F) ((c.tc : Thread nD τ).loc (Pipeline.arrRef spec1 w))
  | ⟨0, _⟩ => Scatter.received m c
  | ⟨1, _⟩ => m ((c.tc : Thread nD τ).loc main_arg1)
  | ⟨2, _⟩ => m ((c.tc : Thread nD τ).loc main_arg2)
  | ⟨3, _⟩ => m ((c.tc : Thread nD τ).loc main_arg3)
  | ⟨4, _⟩ => gradA m c
  | ⟨5, _⟩ => stepA m c
  | ⟨6, _⟩ => momA m c
  | ⟨7, _⟩ => sqA m c

theorem final (c : Dev nD) : ∀ w, (dat1 m c).arrAt w cfg1.N = result m c w
  | ⟨0, _⟩ => (dat1 m c).arrAt_in 0 rfl _
  | ⟨1, _⟩ => (dat1 m c).arrAt_in 1 rfl _
  | ⟨2, _⟩ => (dat1 m c).arrAt_in 2 rfl _
  | ⟨3, _⟩ => (dat1 m c).arrAt_in 3 rfl _
  | ⟨4, _⟩ => final_grad m c
  | ⟨5, _⟩ => final_step m c
  | ⟨6, _⟩ => final_mom m c
  | ⟨7, _⟩ => final_sq m c

end Body

end Cert.Proof.Adamw

end
-- ==== Proof.Step.lean ====
/-
  The reduce-scatter with the update: the exchange as the first region, the update as the second, and the run of both.
-/
module

public import proofs.«01_k».proof.Proof.Launch
public import proofs.«01_k».proof.Proof.Adamw
public import Idealize.ShloMosaic.Lib.Transfers
public import Idealize.ShloMosaic.Lib.Pipeline.RegionArrays
public import Idealize.ShloMosaic.Lib.Quiescent

@[expose] public section

set_option Elab.async false

noncomputable section

namespace Cert.Proof.Scatter

open Cert.KernelIdeal Cert.KernelIdeal.Gen
open Idealize.ShloMosaic Idealize.ShloMosaic.TcCoe
open Idealize.ShloMosaic.Pipeline (ownSems0 launchCred)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (m : (ℓ : Loc nD τ sig) → Buf (Elt F) ℓ)

local notation "𝕄" => MT nD τ sig Unit (Elt F) ℕ (UU nD τ sig) ℕ

abbrev adm : Dev nD → (p : Fin 2) → (pcfgs (F := F) p).Adm := fun _ p => (cfgs p).toPCfg_adm

/-- The buffers the update stages its blocks in: the exchange leaves them alone. -/
abbrev staged (c : Dev nD) : sProp 𝕄 := Pipeline.scopedRest (cfg0.spec) c

/-- The exchange: no window; the invariant is the exchange's state, beside the staging buffers. -/
noncomputable def dat0 (c : Dev nD) : Pipeline.Dat τ (Elt F) Unit ℕ (UU nD τ sig) ℕ (Pipeline.pinD (pcfgs (F := F)) adm c 0) c where
  A w := w.elim0
  after w _ := w.elim0
  Φ t := match t with
    | ⟨0, _⟩ => iprop(X.start m c ∗ staged c)
    | ⟨_ + 1, _⟩ => iprop(X.finish m c ∗ staged c)
  q w := w.elim0
  owed t := match t with
    | ⟨0, _⟩ => X.dues c order
    | ⟨_ + 1, _⟩ => 0

noncomputable def dats : (p : Fin 2) → (c : Dev nD) → Pipeline.Dat τ (Elt F) Unit ℕ (UU nD τ sig) ℕ (Pipeline.pinD (pcfgs (F := F)) adm c p) c
  | ⟨0, _⟩, c => dat0 m c
  | ⟨1, _⟩, c => Adamw.dat1 m c

/-! ## The exchange's region -/

theorem arrays_none (c : Dev nD) (A) : ((dats m 0 c).arrays A : sProp 𝕄) = BI.emp := by
  unfold Pipeline.Dat.arrays
  exact BI.bigSep_empty

theorem windows_none (Φ : Fin 0 → sProp 𝕄) : bigSep Finset.univ Φ = BI.emp := BI.bigSep_empty

theorem exchange_ok (c : Dev nD) : Pipeline.BodyObligation (dats m 0 c) (defs₀ (F := F)) Variants.none () Set.univ := fun t => by
  obtain rfl := fin_N0 t
  refine wp_of_eq (defs₀ (F := F)) Variants.none (c.tc : Thread nD τ) body_eq ?_
  rw [wp_deviceId]
  unfold Pipeline.Dat.owesAt Pipeline.owesWithin
  show iprop((X.start m c ∗ staged c) ∗ (∃ W, ⌜_⌝ ∗ owes (c.tc : Thread nD τ) (X.dues c order) W) ∗ _) ⊢ _
  iintro ⟨⟨HS, Hst⟩, ⟨%W, -, HO⟩, -⟩
  iapply (X.wp_body m (defs₀ (F := F)) Variants.none c order (by decide) (by decide) W)
  isplitl [HS]; · iexact HS
  isplitl [HO]; · iexact HO
  iintro ⟨HF, %W', HO⟩
  isplitl [HF Hst]
  · show iprop(staged c ∗ X.finish m c) ⊢ iprop(X.finish m c ∗ staged c)
    iintro ⟨Hst, HF⟩
    isplitl [HF] <;> iassumption
  isplitl [HO]
  · iexists W'
    isplitr; · ipureintro; exact fun _ _ => Or.inl trivial
    iexact HO
  rw [windows_none]
  iempintro

theorem winFacts : Pipeline.WinFacts₀ cfg0.spec := by decide
theorem ownFacts : Pipeline.OwnSemFacts cfg0.spec X.osem := by decide +kernel

noncomputable def region0 : FirstRegion (pcfgs (F := F)) adm (dats m) () (defs₀ (F := F)) Variants.none 0 where
  win := winFacts
  block_pos w := w.elim0
  stage_whole w := w.elim0
  K := Fin 7 ⊕ Fin 7 ⊕ Unit
  fK := inferInstance
  osem := X.osem
  ho := ⟨ownFacts.1, ownFacts.2, ownFacts.3⟩
  hbody c := (exchange_ok m c).loose
  hwaits c := by
    unfold Pipeline.PerCore.cellsWaits
    exact Entails.of_eq (windows_none _).symm
  pre c := iprop(X.start m c ∗ owes (c.tc : Thread nD τ) (X.dues c order) ∅ ∗ others m c)
  post c := iprop(done m c ∗ others m c ∗ ∃ W, owes (c.tc : Thread nD τ) 0 W)
  X c := X.start m c
  Y c := done m c
  Z c := others m c
  hentry c := by
    rw [arrays_none, Pipeline.prefHeld_of_none _ rfl]
    iintro ⟨HS, HO, Ht⟩
    imodintro
    isplitr; · iempintro
    isplitr; · iempintro
    isplitl [HO]
    · unfold Pipeline.Dat.owesAt Pipeline.owesWithin
      iexists (∅ : Waits sig Unit)
      isplitr; · ipureintro; exact fun _ _ => Or.inl trivial
      iexact HO
    isplitl [HS]; · iexact HS
    iexact Ht
  hin c := by
    show iprop(X.start m c ∗ _ ∗ staged c) ⊢ iprop(X.start m c ∗ staged c)
    iintro ⟨H, -, Hst⟩
    isplitl [H] <;> iassumption
  hout c := by
    show iprop(X.finish m c ∗ staged c) ⊢ iprop(done m c ∗ ownSems0 X.osem c ∗ staged c)
    iintro ⟨H, Hst⟩
    ihave H := (finish_done m c) $$ H
    icases H with ⟨H, Ho⟩
    isplitl [H]; · iexact H
    isplitl [Ho] <;> iassumption
  hexit c := by
    unfold Pipeline.Dat.owesAt Pipeline.owesWithin
    iintro ⟨-, ⟨%W, -, HO⟩, H, Ht⟩
    imodintro
    isplitl [H]; · iexact H
    isplitl [Ht]; · iexact Ht
    iexists W
    iexact HO

/-! ## The update's region -/

/-- A device's buffers at the end. -/
abbrev last (c : Dev nD) : sProp 𝕄 :=
  iprop(((c.tc : Thread nD τ).loc main_arg0 ↦{fullShare} m ((c.tc : Thread nD τ).loc main_arg0))
    ∗ ((c.tc : Thread nD τ).loc main_v1 ↦{fullShare} received m c)
    ∗ ((c.tc : Thread nD τ).loc main_arg1 ↦{fullShare} m ((c.tc : Thread nD τ).loc main_arg1))
    ∗ ((c.tc : Thread nD τ).loc main_arg2 ↦{fullShare} m ((c.tc : Thread nD τ).loc main_arg2))
    ∗ ((c.tc : Thread nD τ).loc main_arg3 ↦{fullShare} m ((c.tc : Thread nD τ).loc main_arg3))
    ∗ ((c.tc : Thread nD τ).loc main_v2_0 ↦{fullShare} Adamw.gradA m c)
    ∗ ((c.tc : Thread nD τ).loc main_v2_1 ↦{fullShare} Adamw.stepA m c)
    ∗ ((c.tc : Thread nD τ).loc main_v2_2 ↦{fullShare} Adamw.momA m c)
    ∗ ((c.tc : Thread nD τ).loc main_v2_3 ↦{fullShare} Adamw.sqA m c))

theorem share1 (c : Dev nD) (w) : (dats m 1 c).share w = fullShare := (dats m 1 c).share_full (fun _ => rfl) w

/-- The windows' arrays one by one. -/
theorem arrays1 (c : Dev nD) (G : (w : Fin cfg1.W) → Buf (Elt F) ((c.tc : Thread nD τ).loc (Pipeline.arrRef spec1 w))) :
    ((dats m 1 c).arrays G : sProp 𝕄) = iprop(((c.tc : Thread nD τ).loc main_v1 ↦{fullShare} G 0)
      ∗ ((c.tc : Thread nD τ).loc main_arg1 ↦{fullShare} G 1) ∗ ((c.tc : Thread nD τ).loc main_arg2 ↦{fullShare} G 2)
      ∗ ((c.tc : Thread nD τ).loc main_arg3 ↦{fullShare} G 3) ∗ ((c.tc : Thread nD τ).loc main_v2_0 ↦{fullShare} G 4)
      ∗ ((c.tc : Thread nD τ).loc main_v2_1 ↦{fullShare} G 5) ∗ ((c.tc : Thread nD τ).loc main_v2_2 ↦{fullShare} G 6)
      ∗ ((c.tc : Thread nD τ).loc main_v2_3 ↦{fullShare} G 7)) :=
  (Pipeline.PerCore.arrays_eq (Pipeline.pinD (pcfgs (F := F)) adm) (dats m) 1 c arr_whole1 (share1 m c) G).trans (bigSep_W1 _)

theorem staged1 (c : Dev nD) : (Pipeline.scopedRest (Pipeline.pinD (pcfgs (F := F)) adm c 1).spec c : sProp 𝕄) = BI.emp := scopedRest1_eq c

theorem enter1 (c : Dev nD) (P Q : sProp 𝕄) : iprop(P ∗ Q ∗ Pipeline.scopedRest (Pipeline.pinD (pcfgs (F := F)) adm c 1).spec c) ⊢ P ∗ Q := by
  rw [staged1]
  iintro ⟨HP, HQ, -⟩
  isplitl [HP] <;> iassumption

theorem leave1 (c : Dev nD) : (iprop(emp) : sProp 𝕄) ⊢ iprop(emp ∗ BI.emp ∗ Pipeline.scopedRest (Pipeline.pinD (pcfgs (F := F)) adm c 1).spec c) := by
  rw [staged1]
  iintro -
  isplitr; · iempintro
  isplitr; · iempintro
  iempintro

noncomputable def region1 : Pipeline.PerCore.RegionSeg (pcfgs (F := F)) adm (dats m) () (defs₀ (F := F)) Variants.none noLev (fun _ _ => (0 : ℕ)) 1 where
  win := winFacts1.to₀
  block_pos := block_pos1
  stage_whole := stage_whole1
  K := PEmpty
  osem k := k.elim
  ho := Pipeline.OwnSemFacts.none _
  hbody c := (Adamw.body_ok m c).loose
  hwaits c := Pipeline.PerCore.hwaits_of_owed_zero (pcfgs (F := F)) adm (dats m) () noLev (fun _ _ => (0 : ℕ)) 1 (fun _ _ => rfl) c
  pre c := iprop(done m c ∗ others m c ∗ ∃ W, owes (c.tc : Thread nD τ) 0 W)
  post c := iprop(last m c ∗ ∃ W, owes (c.tc : Thread nD τ) (0 : CellTallies nD τ sig Unit) W)
  X _ := iprop(emp)
  Y _ := iprop(emp)
  Z c := iprop((c.tc : Thread nD τ).loc main_arg0 ↦{fullShare} m ((c.tc : Thread nD τ).loc main_arg0))
  hentry c := by
    have ha := arrays1 m c (Adamw.entry m c)
    rw [Pipeline.ownSems0_none, Pipeline.prefHeld_of_none _ rfl]
    show _ ⊢ |={Set.univ}=> iprop((dats m 1 c).arrays (Adamw.entry m c) ∗ _)
    rw [ha]
    iintro ⟨⟨⟨Ha, Hr⟩, ⟨H1, H2, H3, H4, H5, H6, H7⟩, %W, HO⟩, -, -⟩
    imodintro
    isplitl [Hr H1 H2 H3 H4 H5 H6 H7]
    · isplitl [Hr]; · iexact Hr
      isplitl [H1]; · iexact H1
      isplitl [H2]; · iexact H2
      isplitl [H3]; · iexact H3
      isplitl [H4]; · iexact H4
      isplitl [H5]; · iexact H5
      isplitl [H6]; · iexact H6
      iexact H7
    isplitr; · iempintro
    isplitl [HO]
    · unfold Pipeline.Dat.owesAt Pipeline.owesWithin
      iexists W
      isplitr; · ipureintro; exact fun _ _ => Or.inl trivial
      iexact HO
    isplitr; · iempintro
    iexact Ha
  hin c := by
    refine (enter1 c _ _).trans ?_
    show _ ⊢ iprop(emp)
    rw [Pipeline.prefHeld_of_none _ rfl]
    iintro ⟨-, -⟩
    iempintro
  hout c := by
    rw [Pipeline.ownSems0_none]
    exact leave1 c
  hexit c := by
    have ha := arrays1 m c (Adamw.result m c)
    have hr : ((dats m 1 c).arrAt · cfg1.N) = Adamw.result m c := funext (Adamw.final m c)
    show iprop((dats m 1 c).arrays ((dats m 1 c).arrAt · cfg1.N) ∗ _) ⊢ _
    rw [hr, ha]
    unfold Pipeline.Dat.owesAt Pipeline.owesWithin
    iintro ⟨⟨Hr, H1, H2, H3, H4, H5, H6, H7⟩, ⟨%W, -, HO⟩, -, Ha⟩
    imodintro
    isplitr [HO]
    · isplitl [Ha]; · iexact Ha
      isplitl [Hr]; · iexact Hr
      isplitl [H1]; · iexact H1
      isplitl [H2]; · iexact H2
      isplitl [H3]; · iexact H3
      isplitl [H4]; · iexact H4
      isplitl [H5]; · iexact H5
      isplitl [H6]; · iexact H6
      iexact H7
    iexists W
    iexact HO

/-! ## The run -/

theorem cells_inj : Function.Injective (Pipeline.PerCore.cellOf (nD := nD) (τ := τ) (Pipeline.pinD (pcfgs (F := F)) adm)) := cellOf_inj

/-- What a device's memory holds at the end. -/
abbrev Ends (c : Dev nD) (s : MemSt nD τ sig (Elt F)) : Prop :=
  (s.mem ((c.tc : Thread nD τ).loc main_v2_0) = Adamw.gradA m c ∧ s.mem ((c.tc : Thread nD τ).loc main_v2_1) = Adamw.stepA m c
    ∧ s.mem ((c.tc : Thread nD τ).loc main_v2_2) = Adamw.momA m c ∧ s.mem ((c.tc : Thread nD τ).loc main_v2_3) = Adamw.sqA m c)
  ∧ (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))

/-- Every device ends with its arguments unchanged and its rows of the four results, nothing in flight. -/
theorem run_main (g : Dev nD → PrngReg) :
    θ_run (defs (F := F)) (onTc (main (F := F))) ⟨m, fun _ => 0, g⟩ fun r => (∀ c : Dev nD, Ends m c r.2) ∧ r.2.sem = fun _ => 0 := by
  refine run_first cells_inj EP (fun _ _ => 0) m g main (region0 m) [.region (region1 m)] (fun _ => rfl) (show [(0 : Fin 2), 1].Nodup by decide)
    (fun d => X.dues d order) (X.G m)
    (Rounds.initOf (Pipeline.PerCore.cells (Pipeline.pinD (pcfgs (F := F)) adm) cells_inj) (Pipeline.PerCore.launchToks (Pipeline.pinD (pcfgs (F := F)) adm) cells_inj), Rounds.initOf X.cells X.toks) ?_ (X.deal m order (by decide) g (others m) (bufs_split m))
    (last m) (fun c => ⟨BI.Entails.refl _, BI.Entails.refl _⟩)
    (Ends m) (fun c s' => ?_)
    (fun s h hz => ⟨h, sem_eq_zero_of_scoped (by decide) hz⟩)
  · iintro H
    ihave H := (ownU_pair _ _) $$ H
    icases H with ⟨HP, HX⟩
    imod (X.fund m) $$ HX with HX
    imodintro
    isplitl [HP] <;> iassumption
  · iintro ⟨⟨Ha, -, H1, H2, H3, H4, H5, H6, H7⟩, HSI⟩
    ihave H := (read_pt _ _ s') $$ [Ha HSI]
    · isplitl [Ha] <;> iassumption
    icases H with ⟨%ha, HSI⟩
    ihave H := (read_pt _ _ s') $$ [H1 HSI]
    · isplitl [H1] <;> iassumption
    icases H with ⟨%h1, HSI⟩
    ihave H := (read_pt _ _ s') $$ [H2 HSI]
    · isplitl [H2] <;> iassumption
    icases H with ⟨%h2, HSI⟩
    ihave H := (read_pt _ _ s') $$ [H3 HSI]
    · isplitl [H3] <;> iassumption
    icases H with ⟨%h3, HSI⟩
    ihave H := (read_pt _ _ s') $$ [H4 HSI]
    · isplitl [H4] <;> iassumption
    icases H with ⟨%h4, HSI⟩
    ihave H := (read_pt _ _ s') $$ [H5 HSI]
    · isplitl [H5] <;> iassumption
    icases H with ⟨%h5, HSI⟩
    ihave H := (read_pt _ _ s') $$ [H6 HSI]
    · isplitl [H6] <;> iassumption
    icases H with ⟨%h6, HSI⟩
    ihave H := (read_pt _ _ s') $$ [H7 HSI]
    · isplitl [H7] <;> iassumption
    icases H with ⟨%h7, HSI⟩
    imodintro
    isplitr; · ipureintro; exact ⟨⟨h4, h5, h6, h7⟩, ha, h1, h2, h3⟩
    iexact HSI

end Cert.Proof.Scatter

end
-- ==== Proof.StepValue.lean ====
/-
  The reduce-scatter with the update against the reference: a device's rows of the sum over the devices' gradients, and
  from equal gradients equal moments and steps, the kernel's products with the named reciprocals being the reference's
  quotients.
-/
module

public import proofs.«01_k».proof.Defs
public import proofs.«01_k».proof.Proof.Consts
public import proofs.«01_k».proof.Proof.Step
public import proofs.«01_k».proof.Proof.Gen.Kernel
public import proofs.«01_k».proof.Proof.Gen.ReferenceIdeal
public import proofs.«01_k».proof.Proof.Gen.ReferenceIdeal.Run
public import Idealize.ShloMosaic.Lib.Pointwise.Reduce
public import Idealize.ShloMosaic.Lib.ValueLayout

@[expose] public section

set_option Elab.async false

noncomputable section

namespace Cert.Proof.Scatter

open Idealize.ShloMosaic Idealize.ShloMosaic.TcCoe Idealize.SL.Sem
open Cert.KernelIdeal Cert.KernelIdeal.Gen

abbrev Rows : Shape := ⟨2, ![24576, 1024]⟩
abbrev Parts : Shape := ⟨3, ![64, 3072, 1024]⟩

theorem tiles : Layout.Tiles ⟨2, ![3072, 1024]⟩ Rows 0 8 := by decide

/-- Where row `i` of device `c` is in the whole array. -/
abbrev spot (c : Dev nD) (i : S3072x1024.Idx) : Rows.Idx := tiles.idx (show Fin 8 from c) i

/-! ## The gradient -/

/-- The reference's gradient. -/
abbrev grad (x : FVec Ideal Parts .bf16) : FVec Ideal Rows .f32 :=
  Host.reduceAdd (shapeCast Cert.ReferenceIdeal.S8x24576x1024 (extf .f32 x Cert.ReferenceIdeal.Gen.bitsLt_bf16_f32) Cert.ReferenceIdeal.Gen.shapeCasts_S64x3072x1024_S8x24576x1024)
    (constant Cert.ReferenceIdeal.S_ .f32 0x00000000#32) Cert.ReferenceIdeal.Gen.reducesTo_S8x24576x1024_S24576x1024_d0 Cert.ReferenceIdeal.Gen.h_S_

theorem gradE_sum (x : Fin 8 → Ideal .bf16) : Adamw.gradE x = ∑ j, (x j : EReal) := by
  rw [Fin.sum_univ_eight]
  rfl

/-- Where part `j` of a device's rows lies, counted in the reshaped array and in the parts' own. -/
theorem part_at (x : FVec Ideal Parts .bf16) (j : Fin 8) (c : Dev nD) (i : S3072x1024.Idx) (p : Parts.Idx)
    (h0 : (p 0).val = 8 * j.val + c.val) (h1 : (p 1).val = (i 0).val) (h2 : (p 2).val = (i 1).val) (q : Cert.ReferenceIdeal.S8x24576x1024.Idx)
    (g0 : (q 0).val = j.val) (g1 : (q 1).val = c.val * 3072 + (i 0).val) (g2 : (q 2).val = (i 1).val) :
    shapeCast Cert.ReferenceIdeal.S8x24576x1024 x Cert.ReferenceIdeal.Gen.shapeCasts_S64x3072x1024_S8x24576x1024 q = x p := by
  refine congrArg x (Shape.reshapeEquiv_eq_of_rowMajor _ ?_)
  rw [Shape.rowMajor_val_three, Shape.rowMajor_val_three]
  show ((p 0).val * 3072 + (p 1).val) * 1024 + (p 2).val = ((q 0).val * 24576 + (q 1).val) * 1024 + (q 2).val
  rw [h0, h1, h2, g0, g1, g2]
  omega

/-- The launch memory's parts are the blocks of the whole array of parts. -/
abbrev Split (m : (ℓ : Loc nD τ sig) → Buf (Elt Ideal) ℓ) (x : FVec Ideal Parts .bf16) : Prop :=
  ∀ c : Dev nD, m ((c.tc : Thread nD τ).loc main_arg0) = Layout.block ⟨3, ![8, 3072, 1024]⟩ Parts 0 8 c x

theorem grad_eq (m : (ℓ : Loc nD τ sig) → Buf (Elt Ideal) ℓ) (x : FVec Ideal Parts .bf16) (h : Split m x) (c : Dev nD) (i : S3072x1024.Idx) :
    Adamw.gradA m c i = grad x (spot c i) := by
  unfold Adamw.gradA
  rw [gradE_sum]
  show _ = Ideal.hostReduceAdd _ _ (Ideal.ofBits .f32 0x00000000#32) (spot c i)
  rw [Ideal.hostReduceAdd_r3_a0, Consts.ofBits_zero, zero_add]
  refine Finset.sum_congr rfl fun j _ => ?_
  unfold received
  rw [h]
  refine (part_at x j c i _ ?_ ?_ ?_ _ ?_ ?_ ?_).symm
  · show j.val * 8 + c.val = 8 * j.val + c.val
    omega
  all_goals rfl

/-! ## The moments and the step -/

/-- A literal at every row. -/
abbrev fill (b : BitVec 32) : FVec Ideal Rows .f32 :=
  broadcastInDim Cert.ReferenceIdeal.S24576x1024 ![] Cert.ReferenceIdeal.Gen.bcast_S_S24576x1024 (constant Cert.ReferenceIdeal.S_ .f32 b)

/-- The reference's moments and step. -/
abbrev mom (g a : FVec Ideal Rows .f32) : FVec Ideal Rows .f32 := addf (mulf (fill 0x3F666666#32) a) (mulf (fill 0x3DCCCCCD#32) g)
abbrev sq (g v : FVec Ideal Rows .f32) : FVec Ideal Rows .f32 := addf (mulf (fill 0x3F7FBE77#32) v) (mulf (fill 0x3A83126F#32) (mulf g g))
abbrev step (g w a v : FVec Ideal Rows .f32) : FVec Ideal Rows .f32 :=
  mulf (fill 0xBA83126F#32)
    (addf (Host.divf (Host.divf (mom g a) (fill 0x3F26BD02#32)) (addf (Host.sqrt (Host.divf (sq g v) (fill 0x3C231ACC#32))) (fill 0x322BCC77#32)))
      (mulf (fill 0x3C23D70A#32) w))

theorem inv_bias1 : Named.named (F := Ideal) κ "inv_bias1" (φ := .f32) 0x3FC48605#32 = ((8388608 / 5463681 : ℝ) : EReal) :=
  IdealRules.named_const.ideal_named_scalar _ _ _ _ rfl
theorem inv_bias2 : Named.named (F := Ideal) κ "inv_bias2" (φ := .f32) 0x42C8E6D3#32 = ((268435456 / 2672307 : ℝ) : EReal) :=
  IdealRules.named_const.ideal_named_scalar _ _ _ _ rfl

theorem div_bias1 (x : EReal) : Ideal.div x (Ideal.ofBits .f32 0x3F26BD02#32) = x * ((8388608 / 5463681 : ℝ) : EReal) := by
  rw [Consts.ofBits_bias1, Ideal.div_coe (by norm_num), one_div, inv_div]
theorem div_bias2 (x : EReal) : Ideal.div x (Ideal.ofBits .f32 0x3C231ACC#32) = x * ((268435456 / 2672307 : ℝ) : EReal) := by
  rw [Consts.ofBits_bias2, Ideal.div_coe (by norm_num), one_div, inv_div]

theorem momE_eq (g a : FVec Ideal Rows .f32) (p : Rows.Idx) : Adamw.momE (g p) (a p) = mom g a p := rfl
theorem sqE_eq (g v : FVec Ideal Rows .f32) (p : Rows.Idx) : Adamw.sqE (g p) (v p) = sq g v p := rfl

theorem stepE_eq (g w a v : FVec Ideal Rows .f32) (p : Rows.Idx) : Adamw.stepE (g p) (w p) (a p) (v p) = step g w a v p := by
  unfold Adamw.stepE
  rw [inv_bias1, inv_bias2, momE_eq, sqE_eq]
  have h1 : Host.divf (mom g a) (fill 0x3F26BD02#32) p = mom g a p * ((8388608 / 5463681 : ℝ) : EReal) := div_bias1 _
  have h2 : Host.divf (sq g v) (fill 0x3C231ACC#32) p = sq g v p * ((268435456 / 2672307 : ℝ) : EReal) := div_bias2 _
  show _ = Ideal.ofBits .f32 0xBA83126F#32 * (Ideal.div (Host.divf (mom g a) (fill 0x3F26BD02#32) p)
    (Ideal.sqrt (Host.divf (sq g v) (fill 0x3C231ACC#32) p) + Ideal.ofBits .f32 0x322BCC77#32) + Ideal.ofBits .f32 0x3C23D70A#32 * w p)
  rw [h1, h2]
  rfl

/-! ## The run of the reference -/

/-- The reference's run, with nothing in flight. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      (∀ c : Dev Cert.ReferenceIdeal.nD,
        let at_ (b : Ref Cert.ReferenceIdeal.sig .tc) := m ((c.tc : Thread Cert.ReferenceIdeal.nD Cert.ReferenceIdeal.τ).loc b)
        let end_ (b : Ref Cert.ReferenceIdeal.sig .tc) := r.2.mem ((c.tc : Thread Cert.ReferenceIdeal.nD Cert.ReferenceIdeal.τ).loc b)
        end_ Cert.ReferenceIdeal.main_v2 = grad (at_ Cert.ReferenceIdeal.main_arg0)
        ∧ end_ Cert.ReferenceIdeal.main_v26 = step (grad (at_ Cert.ReferenceIdeal.main_arg0)) (at_ Cert.ReferenceIdeal.main_arg1) (at_ Cert.ReferenceIdeal.main_arg2) (at_ Cert.ReferenceIdeal.main_arg3)
        ∧ end_ Cert.ReferenceIdeal.main_v7 = mom (grad (at_ Cert.ReferenceIdeal.main_arg0)) (at_ Cert.ReferenceIdeal.main_arg2)
        ∧ end_ Cert.ReferenceIdeal.main_v13 = sq (grad (at_ Cert.ReferenceIdeal.main_arg0)) (at_ Cert.ReferenceIdeal.main_arg3)
        ∧ end_ Cert.ReferenceIdeal.main_arg0 = at_ Cert.ReferenceIdeal.main_arg0 ∧ end_ Cert.ReferenceIdeal.main_arg1 = at_ Cert.ReferenceIdeal.main_arg1
        ∧ end_ Cert.ReferenceIdeal.main_arg2 = at_ Cert.ReferenceIdeal.main_arg2 ∧ end_ Cert.ReferenceIdeal.main_arg3 = at_ Cert.ReferenceIdeal.main_arg3)
      ∧ r.2.sem = fun _ => 0 :=
  (θ_run Cert.ReferenceIdeal.defs _ _).mono (fun r h => ⟨h, sem_eq_zero_of_no_sems rfl r.2⟩) (Cert.ReferenceIdeal.Value.run m g)

/-! ## The claims -/

/-- The named constants read as their literals, for the program whose text has the literals. -/
instance literal : Named Bits where
  named _ _ {φ} b := Scalar.ofBits φ b

/-- Read so, the two programs are one. -/
theorem bodies_same : @Cert.Kernel.defs₀ Bits _ _ = @Cert.KernelIdeal.defs₀ Bits _ _ _ := by
  funext p ℓ a
  match p, ℓ, a with
  | .tc, ⟨0, _⟩, a => rfl
  | .tc, ⟨1, _⟩, a => rfl
  | .tc, ⟨n + 2, h⟩, a => exact absurd h (Nat.not_lt.2 (Nat.le_add_left _ _))
  | .scScalar _, _, _ => rfl
  | .scVector _ _, _, _ => rfl

theorem defs_same : @Cert.Kernel.defs Bits _ _ = @Cert.KernelIdeal.defs Bits _ _ _ :=
  congrArg (Pipeline.defs Cert.KernelIdeal.pcfgs) bodies_same

theorem quiescent_bits : Cert.quiescent_Kernel := fun m g _ => by
  rw [defs_same]
  exact (θ_run Cert.KernelIdeal.defs _ _).mono (fun _ h => ⟨fun c => (h.1 c).2, h.2⟩) (run_main (F := Bits) m g)

theorem quiescent_ideal : Cert.quiescent_KernelIdeal := fun m g _ =>
  (θ_run Cert.KernelIdeal.defs _ _).mono (fun _ h => ⟨fun c => (h.1 c).2, h.2⟩) (run_main (F := Ideal) m g)

theorem quiescent_reference : Cert.quiescent_ReferenceIdeal := fun m g _ =>
  (θ_run Cert.ReferenceIdeal.defs _ _).mono (fun _ h => ⟨fun c => (h.1 c).2.2.2.2, h.2⟩) (run_reference m g)

theorem preserves : Cert.preserves_Kernel_KernelIdeal :=
  ⟨IdealRules.named_const.statement κ "inv_bias1" .f32 0x3FC48605#32 ((8388608 / 5463681 : ℝ) : EReal) rfl,
    IdealRules.named_const.statement κ "inv_bias2" .f32 0x42C8E6D3#32 ((268435456 / 2672307 : ℝ) : EReal) rfl⟩

theorem algebraic : Cert.algebraic_KernelIdeal_ReferenceIdeal := fun m g m' g' _ h => by
  have hg (c : Dev nD) (i) := grad_eq m _ (fun c => (h c).1) c i
  refine ⟨_, _, _, _, (θ_run Cert.KernelIdeal.defs _ _).mono (fun _ hr c => ?_) (run_main (F := Ideal) m g),
    (θ_run Cert.ReferenceIdeal.defs _ _).mono (fun _ hr => hr.1 0) (run_reference m' g')⟩
  obtain ⟨⟨e0, e1, e2, e3⟩, e⟩ := hr.1 c
  refine ⟨e0.trans ?_, e1.trans ?_, e2.trans ?_, e3.trans ?_, e⟩
  · funext i
    exact hg c i
  · funext i
    unfold Adamw.stepA
    rw [hg, (h c).2.1, (h c).2.2.1, (h c).2.2.2]
    exact stepE_eq _ _ _ _ _
  · funext i
    unfold Adamw.momA
    rw [hg, (h c).2.2.1]
    exact momE_eq _ _ _
  · funext i
    unfold Adamw.sqA
    rw [hg, (h c).2.2.2]
    exact sqE_eq _ _ _

end Cert.Proof.Scatter

end
-- ==== Proof.Rest.lean ====
/-
  The update of the small weights: on one device a block of 256 rows of the gradient, of the weights and of the two moments
  per grid point, each element of the results from the elements at its own place.
-/
module

public import proofs.«01_k».proof.Defs
public import proofs.«01_k».proof.Proof.Consts
public import proofs.«01_k».proof.Proof.Gen.UpdateRest
public import proofs.«01_k».proof.Proof.Gen.UpdateRestIdeal
public import proofs.«01_k».proof.Proof.Gen.UpdateRestIdeal.Frame
public import proofs.«01_k».proof.Proof.Gen.UpdateRestIdeal.Value
public import proofs.«01_k».proof.Proof.Gen.UpdatedIdeal
public import proofs.«01_k».proof.Proof.Gen.UpdatedIdeal.Run
public import Idealize.ShloMosaic.Lib.Pipeline.ValueKit
public import Idealize.ShloMosaic.Lib.Tactic
public import Idealize.ShloMosaic.Lib.ValueLayout

@[expose] public section

set_option Elab.async false
set_option maxRecDepth 16384

noncomputable section

namespace Cert.Proof.Rest

open Cert.UpdateRestIdeal Cert.UpdateRestIdeal.Gen
open Idealize.ShloMosaic Idealize.ShloMosaic.TcCoe Idealize.ShloMosaic.Tactic Idealize.SL.Sem
open Idealize.ShloMosaic.Pipeline (Dat)

variable {F : FTy → Type} [FloatOps F] [Named F]

/-! ## One element -/

abbrev lit (b : BitVec 32) : F .f32 := Scalar.ofBits .f32 b

/-- The first moment, the second moment, the step. -/
noncomputable def momE (g a : F .f32) : F .f32 :=
  FloatOps.addf (FloatOps.mulf (lit 0x3F666666#32) a) (FloatOps.mulf (lit 0x3DCCCCCD#32) g)
noncomputable def sqE (g v : F .f32) : F .f32 :=
  FloatOps.addf (FloatOps.mulf (lit 0x3F7FBE77#32) v) (FloatOps.mulf (lit 0x3A83126F#32) (FloatOps.mulf g g))
noncomputable def stepE (g w a v : F .f32) : F .f32 :=
  FloatOps.mulf (lit 0xBA83126F#32)
    (FloatOps.addf
      (FloatOps.divf (FloatOps.mulf (momE g a) (Named.named κ "inv_bias1" 0x3FC48605#32))
        (FloatOps.addf (FloatOps.sqrt (FloatOps.mulf (sqE g v) (Named.named κ "inv_bias2" 0x42C8E6D3#32))) (lit 0x322BCC77#32)))
      (FloatOps.mulf (lit 0x3C23D70A#32) w))

/-! ## One block -/

/-- Element `y` of a block of the gradient, which has one leading place. -/
noncomputable def lift (y : S256x1024.Idx) : S1x256x1024.Idx := Fin.cons (show Fin 1 from 0) y

theorem pay1_at (x : Vec F S1x256x1024 .f32) (y : S256x1024.Idx) : k0_pay1 x y = x (lift y) :=
  congrArg x (Shape.reshapeEquiv_cons_one _ y)

theorem whole_store (p : Vec F S256x1024 .f32) : (View.canon [(⟨r0_1, p⟩ : View.Piece (Elt F) S256x1024 .f32)] : Vec F S256x1024 .f32) = p :=
  View.canon_cons_unit_lit (Val := Elt F) (S := S256x1024) (e := .f32) inb_S256x1024_S256x1024_0_0 p [] (by decide)
theorem whole_load (x : Vec F S256x1024 .f32) : View.ld x r0_1 = x :=
  View.ld_unit_lit (Val := Elt F) (S := S256x1024) (e := .f32) inb_S256x1024_S256x1024_0_0 x (by decide)
theorem lifted_load (x : Vec F S1x256x1024 .f32) : View.ld x r0_0 = x :=
  View.ld_unit_lit (Val := Elt F) (S := S1x256x1024) (e := .f32) inb_S1x256x1024_S1x256x1024_0_0_0 x (by decide)

variable (x : Vec F S1x256x1024 .f32) (w a v : Vec F S256x1024 .f32) (y : S256x1024.Idx)

theorem grad_block : out0_4 x w a v y = x (lift y) := by
  unfold out0_4
  rw [whole_store, lifted_load, pay1_at]

theorem mom_block : out0_6 x w a v y = momE (x (lift y)) (a y) := by
  unfold out0_6
  rw [whole_store, lifted_load, whole_load, ← pay1_at x y]
  rfl

theorem sq_block : out0_7 x w a v y = sqE (x (lift y)) (v y) := by
  unfold out0_7
  rw [whole_store, lifted_load, whole_load, ← pay1_at x y]
  rfl

theorem step_block : out0_5 x w a v y = stepE (x (lift y)) (w y) (a y) (v y) := by
  unfold out0_5
  rw [whole_store, lifted_load, whole_load, whole_load, whole_load, ← pay1_at x y]
  rfl

/-! ## The arrays -/

section Arrays

variable (m : (ℓ : Loc nD τ sig) → Buf (Elt F) ℓ)

abbrev gA (c : Dev nD) : FVec F S2048x1024 .f32 := m ((c.tc : Thread nD τ).loc main_arg0)
abbrev wA (c : Dev nD) : FVec F S2048x1024 .f32 := m ((c.tc : Thread nD τ).loc main_arg1)
abbrev aA (c : Dev nD) : FVec F S2048x1024 .f32 := m ((c.tc : Thread nD τ).loc main_arg2)
abbrev vA (c : Dev nD) : FVec F S2048x1024 .f32 := m ((c.tc : Thread nD τ).loc main_arg3)

/-- The results. -/
noncomputable def momA (c : Dev nD) : FVec F S2048x1024 .f32 := fun i => momE (gA m c i) (aA m c i)
noncomputable def sqA (c : Dev nD) : FVec F S2048x1024 .f32 := fun i => sqE (gA m c i) (vA m c i)
noncomputable def stepA (c : Dev nD) : FVec F S2048x1024 .f32 := fun i => stepE (gA m c i) (wA m c i) (aA m c i) (vA m c i)

/-- The gradient as the call is given it. -/
theorem given (c : Dev nD) : V m c main_v0 = broadcastInDim S1x2048x1024 ![1, 2] bcast_S2048x1024_S1x2048x1024_1_2 (gA m c) := by
  show StableHlo.after hostOps0 (fun b => m (c, b)) main_v0 = _
  after_results_simp

theorem starts_0 : ∀ t : Fin cfg0.N, win0_0.index t = ![0, (grid0.coords t 0).val, 0] := (by decide +kernel : ∀ t : Fin grid0.N, _)
theorem starts_1 : ∀ t : Fin cfg0.N, win0_1.index t = ![(grid0.coords t 0).val, 0] := (by decide +kernel : ∀ t : Fin grid0.N, _)
theorem starts_2 : ∀ t : Fin cfg0.N, win0_2.index t = ![(grid0.coords t 0).val, 0] := (by decide +kernel : ∀ t : Fin grid0.N, _)
theorem starts_3 : ∀ t : Fin cfg0.N, win0_3.index t = ![(grid0.coords t 0).val, 0] := (by decide +kernel : ∀ t : Fin grid0.N, _)
theorem starts_4 : ∀ t : Fin cfg0.N, win0_4.index t = ![(grid0.coords t 0).val, 0] := (by decide +kernel : ∀ t : Fin grid0.N, _)
theorem starts_5 : ∀ t : Fin cfg0.N, win0_5.index t = ![(grid0.coords t 0).val, 0] := (by decide +kernel : ∀ t : Fin grid0.N, _)
theorem starts_6 : ∀ t : Fin cfg0.N, win0_6.index t = ![(grid0.coords t 0).val, 0] := (by decide +kernel : ∀ t : Fin grid0.N, _)
theorem starts_7 : ∀ t : Fin cfg0.N, win0_7.index t = ![(grid0.coords t 0).val, 0] := (by decide +kernel : ∀ t : Fin grid0.N, _)

/-- The array index of element `y` of point `t`'s block. -/
noncomputable def place (t : Fin cfg0.N) (y : S256x1024.Idx) : S2048x1024.Idx := (win0_4.blk t).view.emb y

theorem place_1 (t : Fin cfg0.N) (y : S256x1024.Idx) : (win0_1.blk t).view.emb y = place t y := by
  unfold place
  blk_ext [starts_1, starts_4]
theorem place_2 (t : Fin cfg0.N) (y : S256x1024.Idx) : (win0_2.blk t).view.emb y = place t y := by
  unfold place
  blk_ext [starts_2, starts_4]
theorem place_3 (t : Fin cfg0.N) (y : S256x1024.Idx) : (win0_3.blk t).view.emb y = place t y := by
  unfold place
  blk_ext [starts_3, starts_4]
theorem place_5 (t : Fin cfg0.N) (y : S256x1024.Idx) : (win0_5.blk t).view.emb y = place t y := by
  unfold place
  blk_ext [starts_5, starts_4]
theorem place_6 (t : Fin cfg0.N) (y : S256x1024.Idx) : (win0_6.blk t).view.emb y = place t y := by
  unfold place
  blk_ext [starts_6, starts_4]
theorem place_7 (t : Fin cfg0.N) (y : S256x1024.Idx) : (win0_7.blk t).view.emb y = place t y := by
  unfold place
  blk_ext [starts_7, starts_4]

theorem w_at (c : Dev nD) (t : Fin cfg0.N) (y : S256x1024.Idx) : iblk m c 1 t y = wA m c (place t y) :=
  (congrFun (V_main_arg1 m c) _).trans (congrArg (wA m c) (place_1 t y))
theorem a_at (c : Dev nD) (t : Fin cfg0.N) (y : S256x1024.Idx) : iblk m c 2 t y = aA m c (place t y) :=
  (congrFun (V_main_arg2 m c) _).trans (congrArg (aA m c) (place_2 t y))
theorem v_at (c : Dev nD) (t : Fin cfg0.N) (y : S256x1024.Idx) : iblk m c 3 t y = vA m c (place t y) :=
  (congrFun (V_main_arg3 m c) _).trans (congrArg (vA m c) (place_3 t y))

theorem g_at (c : Dev nD) (t : Fin cfg0.N) (y : S256x1024.Idx) : iblk m c 0 t (lift y) = gA m c (place t y) := by
  refine (congrFun (given m c) _).trans (congrArg (gA m c) ?_)
  funext b
  apply Fin.ext
  fin_cases b
  · have h : ((win0_4.blk t).view.emb y 0).val = (grid0.coords t 0).val * 256 + (y 0).val := by blk_simp [starts_4]
    have h0 : ((win0_0.blk t).view.emb (lift y) 1).val = (grid0.coords t 0).val * 256 + (y 0).val := by
      blk_simp [starts_0]
      rfl
    exact h0.trans h.symm
  · have h : ((win0_4.blk t).view.emb y 1).val = (y 1).val := by blk_simp [starts_4]
    have h0 : ((win0_0.blk t).view.emb (lift y) 2).val = (y 1).val := by
      blk_simp [starts_0]
      rfl
    exact h0.trans h.symm

theorem final_grad (c : Dev nD) : (dats m 0 c).arrAt 4 cfg0.N = gA m c := by
  refine (dats m 0 c).arrAt_eq_of_covers 4 _ (by decide +kernel) fun t hf y => ?_
  blk_simp
  rw [after0_4]
  refine (grad_block _ _ _ _ _).trans ?_
  exact g_at m c t y

theorem final_step (c : Dev nD) : (dats m 0 c).arrAt 5 cfg0.N = stepA m c := by
  refine (dats m 0 c).arrAt_eq_of_covers 5 _ (by decide +kernel) fun t hf y => ?_
  blk_simp
  rw [after0_5]
  refine (step_block _ _ _ _ _).trans ?_
  rw [g_at, w_at, a_at, v_at]
  exact (congrArg (stepA m c) (place_5 t y)).symm

theorem final_mom (c : Dev nD) : (dats m 0 c).arrAt 6 cfg0.N = momA m c := by
  refine (dats m 0 c).arrAt_eq_of_covers 6 _ (by decide +kernel) fun t hf y => ?_
  blk_simp
  rw [after0_6]
  refine (mom_block _ _ _ _ _).trans ?_
  rw [g_at, a_at]
  exact (congrArg (momA m c) (place_6 t y)).symm

theorem final_sq (c : Dev nD) : (dats m 0 c).arrAt 7 cfg0.N = sqA m c := by
  refine (dats m 0 c).arrAt_eq_of_covers 7 _ (by decide +kernel) fun t hf y => ?_
  blk_simp
  rw [after0_7]
  refine (sq_block _ _ _ _ _).trans ?_
  rw [g_at, v_at]
  exact (congrArg (sqA m c) (place_7 t y)).symm

end Arrays

/-! ## Against the reference -/

/-- A literal at every place. -/
abbrev fill (b : BitVec 32) : FVec Ideal S2048x1024 .f32 :=
  broadcastInDim Cert.UpdatedIdeal.S2048x1024 ![] Cert.UpdatedIdeal.Gen.bcast_S_S2048x1024 (constant Cert.UpdatedIdeal.S_ .f32 b)

abbrev mom (g a : FVec Ideal S2048x1024 .f32) : FVec Ideal S2048x1024 .f32 := addf (mulf (fill 0x3F666666#32) a) (mulf (fill 0x3DCCCCCD#32) g)
abbrev sq (g v : FVec Ideal S2048x1024 .f32) : FVec Ideal S2048x1024 .f32 := addf (mulf (fill 0x3F7FBE77#32) v) (mulf (fill 0x3A83126F#32) (mulf g g))

theorem inv_bias1 : Named.named (F := Ideal) κ "inv_bias1" (φ := .f32) 0x3FC48605#32 = ((8388608 / 5463681 : ℝ) : EReal) :=
  IdealRules.named_const.ideal_named_scalar _ _ _ _ rfl
theorem inv_bias2 : Named.named (F := Ideal) κ "inv_bias2" (φ := .f32) 0x42C8E6D3#32 = ((268435456 / 2672307 : ℝ) : EReal) :=
  IdealRules.named_const.ideal_named_scalar _ _ _ _ rfl

theorem div_bias1 (x : EReal) : Ideal.div x (Ideal.ofBits .f32 0x3F26BD02#32) = x * ((8388608 / 5463681 : ℝ) : EReal) := by
  rw [Consts.ofBits_bias1, Ideal.div_coe (by norm_num), one_div, inv_div]
theorem div_bias2 (x : EReal) : Ideal.div x (Ideal.ofBits .f32 0x3C231ACC#32) = x * ((268435456 / 2672307 : ℝ) : EReal) := by
  rw [Consts.ofBits_bias2, Ideal.div_coe (by norm_num), one_div, inv_div]

/-- The step at a place: the products with the named reciprocals are the reference's quotients. -/
theorem step_eq (g w a v : FVec Ideal S2048x1024 .f32) :
    mulf (fill 0xBA83126F#32) (addf (Host.divf (Host.divf (mom g a) (fill 0x3F26BD02#32)) (addf (Host.sqrt (Host.divf (sq g v) (fill 0x3C231ACC#32))) (fill 0x322BCC77#32)))
      (mulf (fill 0x3C23D70A#32) w)) = fun i => stepE (F := Ideal) (g i) (w i) (a i) (v i) := by
  funext i
  unfold stepE
  rw [inv_bias1, inv_bias2]
  have h1 : Host.divf (mom g a) (fill 0x3F26BD02#32) i = mom g a i * ((8388608 / 5463681 : ℝ) : EReal) := div_bias1 _
  have h2 : Host.divf (sq g v) (fill 0x3C231ACC#32) i = sq g v i * ((268435456 / 2672307 : ℝ) : EReal) := div_bias2 _
  show Ideal.ofBits .f32 0xBA83126F#32 * (Ideal.div (Host.divf (mom g a) (fill 0x3F26BD02#32) i)
    (Ideal.sqrt (Host.divf (sq g v) (fill 0x3C231ACC#32) i) + Ideal.ofBits .f32 0x322BCC77#32) + Ideal.ofBits .f32 0x3C23D70A#32 * w i) = _
  rw [h1, h2]
  rfl

/-! ## The claims -/

/-- The named constants read as their literals. -/
instance literal : Named Bits where
  named _ _ {φ} b := Scalar.ofBits φ b

theorem bodies_same : @Cert.UpdateRest.defs₀ Bits _ _ = @Cert.UpdateRestIdeal.defs₀ Bits _ _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem defs_same : @Cert.UpdateRest.defs Bits _ _ = @Cert.UpdateRestIdeal.defs Bits _ _ _ :=
  congrArg (Pipeline.defs Cert.UpdateRestIdeal.pcfgs) bodies_same

theorem quiescent_bits : Cert.quiescent_UpdateRest := fun m g _ => by
  rw [defs_same]
  exact Cert.UpdateRestIdeal.Gen.frame (F := Bits) m g

theorem quiescent_ideal : Cert.quiescent_UpdateRestIdeal := fun m g _ => Cert.UpdateRestIdeal.Gen.frame (F := Ideal) m g

theorem quiescent_reference : Cert.quiescent_UpdatedIdeal := fun m g _ =>
  (θ_run Cert.UpdatedIdeal.defs _ _).mono (fun r h => ⟨fun c => (h c).2.2.2.2, sem_eq_zero_of_no_sems rfl r.2⟩) (Cert.UpdatedIdeal.Value.run (F := Ideal) m g)

theorem preserves : Cert.preserves_UpdateRest_UpdateRestIdeal :=
  ⟨IdealRules.named_const.statement κ "inv_bias1" .f32 0x3FC48605#32 ((8388608 / 5463681 : ℝ) : EReal) rfl,
    IdealRules.named_const.statement κ "inv_bias2" .f32 0x42C8E6D3#32 ((268435456 / 2672307 : ℝ) : EReal) rfl⟩

theorem algebraic : Cert.algebraic_UpdateRestIdeal_UpdatedIdeal := fun m g m' g' _ h => by
  refine ⟨gA m, stepA m, momA m, sqA m, (θ_run Cert.UpdateRestIdeal.defs _ _).mono (fun _ hr c => ?_) (Value.run_blocks (F := Ideal) m g),
    (θ_run Cert.UpdatedIdeal.defs _ _).mono (fun _ hr c => ?_) (Cert.UpdatedIdeal.Value.run (F := Ideal) m' g')⟩
  · obtain ⟨e0, e1, e2, e3, e⟩ := hr c
    exact ⟨e0.trans (final_grad m c), e1.trans (final_step m c), e2.trans (final_mom m c), e3.trans (final_sq m c), e⟩
  · obtain ⟨e0, e1, e2, e3, e⟩ := hr c
    obtain ⟨h0, h1, h2, h3⟩ := h c
    rw [h0, h1, h2, h3] at e1
    rw [h0, h2] at e2
    rw [h0, h3] at e3
    exact ⟨e0.trans h0, e1.trans (step_eq _ _ _ _), e2, e3, e⟩

end Cert.Proof.Rest

end
-- ==== Proof.Partials.lean ====
/-
  The exchange of the partial sums: every device's partial sums to every device.
-/
module
public import proofs.«01_k».proof.Proof.Rows
public import Idealize.ShloMosaic.Lib.Transfers
public import Idealize.ShloMosaic.Lib.Pipeline.RegionArrays
public import Idealize.ShloMosaic.Lib.Quiescent
public import proofs.«01_k».proof.Proof.Gen.SumPartialsIdeal
public import proofs.«01_k».proof.Proof.Gen.SumPartialsIdeal.Skeleton
public import proofs.«01_k».proof.Proof.Gen.SumPartialsIdeal.Launch
@[expose] public section
set_option Elab.async false
noncomputable section
namespace Cert.Proof.Partials
open Cert.SumPartialsIdeal Cert.SumPartialsIdeal.Gen
open Idealize.ShloMosaic Idealize.ShloMosaic.TcCoe
open Idealize.ShloMosaic.Pipeline (ownSems0 launchCred)
open Idealize.SL Idealize.SL.RA Idealize.SL.BI
open scoped Idealize.SL.BI
open Idealize.SL.BI.BIBase Idealize.SL.BI.Laws Idealize.SL.ProofMode Idealize.SL.Sem
variable {F : FTy → Type} [FloatOps F]

/-- The device that copy `k` of device `c` goes to. -/
noncomputable def peer : Fin 7 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩

theorem peer_peer : ∀ k c, peer k (peer k c) = c := by decide +kernel

noncomputable def semOf : Fin 7 ⊕ Fin 7 ⊕ Unit → DmaSem sig
  | .inl k => ⟨k.val, show k.val < 17 by omega⟩
  | .inr (.inl k) => ⟨7 + k.val, show 7 + k.val < 17 by omega⟩
  | .inr (.inr _) => ⟨14, show 14 < 17 by omega⟩

theorem semOf_inj : Function.Injective semOf := by decide +kernel

abbrev xM : Memref sig .tc .hbm S464x128 .f32 := Memref.whole main_arg0
abbrev oM : Memref sig .tc .hbm S8x464x128 .f32 := Memref.whole main_v1

noncomputable def row (c : Dev nD) : Memref sig .tc .hbm S464x128 .f32 :=
  (oM.slice (Rect.unit (s := S8x464x128) (k0_off1 c) S1x464x128.size (k0_off1_inb c)) (fun _ => rfl)).squeeze S464x128 squeezes_S1x464x128_S464x128

noncomputable def X : Xch nD τ sig 7 .hbm .hbm S464x128 .f32 where
  own _ := xM
  src _ _ := xM
  dst := row
  peer := peer
  peer_peer := peer_peer
  sem := semOf
  sem_inj := semOf_inj
  wown _ := (Memref.isWhole_whole _).wordExact
  wsrc _ _ := (Memref.isWhole_whole _).wordExact
  wdst c := (View.wordExact_bits rfl).reshape _ _
  shared _ := rfl
  typedL _ := ⟨Or.inl rfl, trivial⟩
  typedR _ _ := ⟨⟨rfl, Or.inl rfl⟩, trivial⟩
  N := View.dmaCredit xM.view
  N_pos := View.dmaCredit_pos _ (by decide)
  cred_dst _ := rfl
  cred_src _ _ := rfl
  qo := Transfers.shareDrop fullShare 7
  q := Transfers.shareTok fullShare 7

set_option maxRecDepth 4096 in
theorem body_eq : (cc0_gather_partials (F := F) (Memref.whole main_arg0) (Memref.isWhole_whole _) (Memref.whole main_v1) (Memref.isWhole_whole _) cc0_scratch0 cc0_scratch1 cc0_scratch2)
    = .op .deviceId fun c => X.body [0, 1, 2, 3, 4, 5, 6] c := rfl

/-! ## The rows of the result -/

theorem everyone : Everyone peer := by decide +kernel

theorem off1 : ∀ c : Dev nD, k0_off1 c = ![c.val, 0, 0] := by decide +kernel

/-- Element `x` of row `a` lies in the result at `(a, x)`. -/
theorem row_emb (a : Dev nD) (x : S464x128.Idx) : (row a).view.emb x = (Fin.cons (show Fin 8 from a) x : S8x464x128.Idx) := by
  show (Rect.unit (s := S8x464x128) (k0_off1 a) S1x464x128.size (k0_off1_inb a)).emb (Shape.reshapeEquiv _ x) = _
  rw [Shape.reshapeEquiv_cons_one]
  funext b
  apply Fin.ext
  refine Fin.cases ?_ (fun b => ?_) b
  · show k0_off1 a 0 + 1 * 0 = a.val
    rw [off1]; rfl
  · show k0_off1 a b.succ + 1 * (x b).val = (x b).val
    rw [off1]; fin_cases b <;> simp

/-- Row `a`'s elements. -/
noncomputable def rowSet (a : Dev nD) : Finset S8x464x128.Idx := (row a).view.set

theorem mem_row (a : Dev nD) (i : S8x464x128.Idx) : i ∈ rowSet a ↔ (i 0).val = a.val := by
  constructor
  · intro h
    obtain ⟨x, -, rfl⟩ := Finset.mem_map.mp h
    exact congrArg (fun j : S8x464x128.Idx => (j 0).val) (row_emb a x)
  · intro h
    refine Finset.mem_map.mpr ⟨Fin.tail i, Finset.mem_univ _, (row_emb a (Fin.tail i)).trans ?_⟩
    conv_rhs => rw [← Fin.cons_self_tail i]
    congr 1
    exact Fin.ext h.symm

theorem rows_disjoint (a b : Dev nD) (h : a ≠ b) : Disjoint (rowSet a) (rowSet b) :=
  Finset.disjoint_left.mpr fun i ha hb => h (Fin.ext (((mem_row a i).mp ha).symm.trans ((mem_row b i).mp hb)))

theorem rows_cover : (Finset.univ.biUnion rowSet) = Finset.univ :=
  Finset.eq_univ_iff_forall.mpr fun i => Finset.mem_biUnion.mpr ⟨⟨(i 0).val, (i 0).isLt⟩, Finset.mem_univ _, (mem_row _ i).mpr rfl⟩

/-! ## The run -/

section Run

variable (m : (ℓ : Loc nD τ sig) → Buf (Elt F) ℓ)

local notation "𝕄" => MT nD τ sig Unit (Elt F) ℕ (UU nD τ sig) ℕ

/-- The gathered array: row `a` is device `a`'s argument. -/
noncomputable def gathered : S8x464x128.Idx → Elt F .f32 := fun i => m (((show Dev nD from i 0).tc : Thread nD τ).loc main_arg0) (Fin.tail i)

/-- What device `b`'s result holds once row `a` has landed. -/
noncomputable def written (b a : Dev nD) : S8x464x128.Idx → Elt F .f32 :=
  (row a).view.write (Elt F) (m ((b.tc : Thread nD τ).loc main_v1)) (m ((a.tc : Thread nD τ).loc main_arg0)) Finset.univ

theorem written_eq (b a : Dev nD) (i : S8x464x128.Idx) (hi : i ∈ rowSet a) : written m b a i = gathered m i := by
  obtain ⟨x, -, rfl⟩ := Finset.mem_map.mp hi
  have h1 : written m b a ((row a).view.emb x) = m ((a.tc : Thread nD τ).loc main_arg0) x :=
    View.write_emb_of_mem (v := (row a).view) (Val := Elt F) _ _ (Finset.mem_univ x)
  exact h1.trans (congrArg (gathered m) (row_emb a x)).symm

abbrev order : List (Fin 7) := [0, 1, 2, 3, 4, 5, 6]

theorem srcs_eq (c : Dev nD) : (bigSep Finset.univ fun k => X.srcP m k c : sProp 𝕄)
    = bigSep Finset.univ fun k : Fin 7 => (c.tc : Thread nD τ).loc main_arg0 ↦{Transfers.shareTok fullShare 7 k} m ((c.tc : Thread nD τ).loc main_arg0) :=
  BI.bigSep_congr fun k _ => by
    unfold Xch.srcP
    rw [show (X.src k c).view.set = Finset.univ from (Memref.isWhole_whole main_arg0).set_eq_univ]; rfl

theorem own_eq (c : Dev nD) :
    (X.ownP m c : sProp 𝕄) = ((c.tc : Thread nD τ).loc main_arg0 ↦{Transfers.shareDrop fullShare 7} m ((c.tc : Thread nD τ).loc main_arg0)) := by
  unfold Xch.ownP
  rw [show (X.own c).view.set = Finset.univ from (Memref.isWhole_whole main_arg0).set_eq_univ]; rfl

theorem bufs_eq (c : Dev nD) : (X.bufs m c : sProp 𝕄)
    = iprop((((c.tc : Thread nD τ).loc main_arg0 ↦{Transfers.shareDrop fullShare 7} m ((c.tc : Thread nD τ).loc main_arg0))
        ∗ ((c.tc : Thread nD τ).loc main_v1 ↦[rowSet c]{fullShare} m ((c.tc : Thread nD τ).loc main_v1)))
      ∗ (bigSep Finset.univ fun k : Fin 7 => (c.tc : Thread nD τ).loc main_arg0 ↦{Transfers.shareTok fullShare 7 k} m ((c.tc : Thread nD τ).loc main_arg0))
      ∗ bigSep Finset.univ fun k : Fin 7 => (c.tc : Thread nD τ).loc main_v1 ↦[rowSet (peer k c)]{fullShare} m ((c.tc : Thread nD τ).loc main_v1)) := by
  unfold Xch.bufs
  rw [own_eq, srcs_eq]
  rfl

theorem landed_eq (k : Fin 7) (c : Dev nD) :
    (X.landed m k (peer k c) c : sProp 𝕄) = ((c.tc : Thread nD τ).loc main_v1 ↦[rowSet (peer k c)]{fullShare} written m c (peer k c)) := rfl

theorem finish_eq (c : Dev nD) : (X.finish m c : sProp 𝕄)
    = iprop((((c.tc : Thread nD τ).loc main_arg0 ↦{Transfers.shareDrop fullShare 7} m ((c.tc : Thread nD τ).loc main_arg0))
        ∗ ((c.tc : Thread nD τ).loc main_v1 ↦[rowSet c]{fullShare} written m c c))
      ∗ ((bigSep Finset.univ fun k : Fin 7 => (c.tc : Thread nD τ).loc main_arg0 ↦{Transfers.shareTok fullShare 7 k} m ((c.tc : Thread nD τ).loc main_arg0))
        ∗ bigSep Finset.univ fun k : Fin 7 => (c.tc : Thread nD τ).loc main_v1 ↦[rowSet (peer k c)]{fullShare} written m c (peer k c))
      ∗ ownSems0 X.osem c) := by
  unfold Xch.finish
  rw [own_eq, bigSep_sep' (Φ := fun k => X.srcP m k c), srcs_eq]
  rfl

/-- The buffer the exchange leaves alone. -/
abbrev others (c : Dev nD) : sProp 𝕄 := iprop((c.tc : Thread nD τ).loc main_v2 ↦{fullShare} m ((c.tc : Thread nD τ).loc main_v2))

/-- A device's buffers: the argument shared out to the copies, the result row by row. -/
theorem bufs_split (c : Dev nD) :
    (unscopedBufs c (fun b => m ((c.tc : Thread nD τ).loc b)) : sProp 𝕄) ⊢ iprop(X.bufs m c ∗ others m c) := by
  have h0 := Pipeline.PerCore.unscopedBufs_split₀ (fun _ : Dev nD => cfgs) 0 c (fun w => w.elim0) (fun b => m ((c.tc : Thread nD τ).loc b))
    (Ix := Unit) (Val := Elt F) (Name := ℕ) (U := UU nD τ sig) (Lvl := ℕ) (τ := τ)
  have h3 := rows_split (Val := Elt F) everyone c (ℓ := (c.tc : Thread nD τ).loc main_v1) rowSet rows_disjoint rows_cover (m ((c.tc : Thread nD τ).loc main_v1))
  have h4 := Transfers.pointsTo_toks_split (Ix := Unit) (Val := Elt F) (Name := ℕ) (U := UU nD τ sig) (Lvl := ℕ) (ℓ := (c.tc : Thread nD τ).loc main_arg0) (S := Finset.univ) (f := m ((c.tc : Thread nD τ).loc main_arg0)) fullShare 7
  have h5 := unscopedRest0_eq (Ix := Unit) (Name := ℕ) (U := UU nD τ sig) (Lvl := ℕ) c (fun b => m ((c.tc : Thread nD τ).loc b))
  beta_reduce at h5
  rw [h0]
  refine (sep_mono .rfl (Entails.of_eq h5)).trans ?_
  rw [h3, bufs_eq]
  iintro ⟨-, Ha, ⟨Hr, Hp⟩, Ht⟩
  ihave Ha := h4 $$ Ha
  icases Ha with ⟨Ha, Hs⟩
  isplitl [Ha Hr Hs Hp]
  · isplitl [Ha Hr]
    · isplitl [Ha] <;> iassumption
    isplitl [Hs] <;> iassumption
  iexact Ht

/-- The device's buffers after the exchange. -/
abbrev done (c : Dev nD) : sProp 𝕄 :=
  iprop(((c.tc : Thread nD τ).loc main_arg0 ↦{fullShare} m ((c.tc : Thread nD τ).loc main_arg0)) ∗ ((c.tc : Thread nD τ).loc main_v1 ↦{fullShare} gathered m))

theorem finish_done (c : Dev nD) : X.finish m c ⊢ (iprop(done m c ∗ ownSems0 X.osem c) : sProp 𝕄) := by
  have h3 := rows_join (Val := Elt F) everyone c (ℓ := (c.tc : Thread nD τ).loc main_v1) rowSet rows_disjoint rows_cover (written m c) (gathered m) (written_eq m c)
  have h4 := Transfers.pointsTo_toks_join (Ix := Unit) (Val := Elt F) (Name := ℕ) (U := UU nD τ sig) (Lvl := ℕ) (ℓ := (c.tc : Thread nD τ).loc main_arg0) (S := Finset.univ) (f := m ((c.tc : Thread nD τ).loc main_arg0)) fullShare 7
  rw [finish_eq]
  iintro ⟨⟨Ha, Hr⟩, ⟨Hs, Hl⟩, Ho⟩
  isplitr [Ho]
  · isplitl [Ha Hs]
    · iapply h4
      isplitl [Ha] <;> iassumption
    · iapply h3
      isplitl [Hr] <;> iassumption
  iexact Ho

end Run

end Cert.Proof.Partials

end
-- ==== Proof.PartialsSum.lean ====
/-
  The sum of the gathered partial sums: the exchange as the first region, the sum of the eight rows as the second, and the
  run of both.
-/
module

public import proofs.«01_k».proof.Defs
public import proofs.«01_k».proof.Proof.Launch
public import proofs.«01_k».proof.Proof.Partials
public import proofs.«01_k».proof.Proof.Consts
public import proofs.«01_k».proof.Proof.Gen.SumPartialsIdeal.Points
public import proofs.«01_k».proof.Proof.Gen.SumPartials
public import proofs.«01_k».proof.Proof.Gen.SummedIdeal
public import proofs.«01_k».proof.Proof.Gen.SummedIdeal.Run
public import Idealize.ShloMosaic.Lib.Pipeline.FrameBody
public import Idealize.ShloMosaic.Lib.Pipeline.ValueKit
public import Idealize.ShloMosaic.Lib.Pointwise.Reduce
public import Idealize.ShloMosaic.Lib.ValueLayout
public import Idealize.ShloMosaic.Lib.Tactic

@[expose] public section

set_option Elab.async false
set_option maxRecDepth 16384

noncomputable section

namespace Cert.Proof.Partials

open Cert.SumPartialsIdeal Cert.SumPartialsIdeal.Gen
open Idealize.ShloMosaic Idealize.ShloMosaic.TcCoe Idealize.ShloMosaic.Tactic
open Idealize.ShloMosaic.Pipeline (ownSems0 launchCred Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The sum of eight rows -/

/-- Eight numbers summed in device order. -/
noncomputable def sumE (x : Fin 8 → F .f32) : F .f32 :=
  FloatOps.addf (FloatOps.addf (FloatOps.addf (FloatOps.addf (FloatOps.addf (FloatOps.addf (FloatOps.addf (x 0) (x 1)) (x 2)) (x 3)) (x 4)) (x 5)) (x 6)) (x 7)

noncomputable def sumB (x : Vec F S8x464x128 .f32) : Vec F S464x128 .f32 := fun y => sumE fun j => x (Fin.cons (show Fin 8 from j) y : S8x464x128.Idx)

/-- Row `j` of a stack, and a whole block. -/
noncomputable abbrev part (j : ℕ) (h : ∀ a, (![j, 0, 0] : Fin 3 → ℕ) a + S1x464x128.size a ≤ S8x464x128.size a) : Rect S8x464x128 :=
  Rect.unit (s := S8x464x128) ![j, 0, 0] S1x464x128.size h

noncomputable abbrev all : Rect S464x128 := Rect.unit (s := S464x128) ![0, 0] S464x128.size inb_S464x128_S464x128_0_0

theorem part_apply (x : Vec F S8x464x128 .f32) (j : Fin 8) (h) (hc) (y : S464x128.Idx) :
    shapeCast S464x128 (View.ld x (part j.val h)) hc y = x (Fin.cons (show Fin 8 from j) y : S8x464x128.Idx) := by
  show x ((part j.val h).emb (Shape.reshapeEquiv hc y)) = _
  congr 1
  rw [Shape.reshapeEquiv_cons_one]
  funext b
  apply Fin.ext
  refine Fin.cases ?_ (fun b => ?_) b
  · show j.val + 1 * 0 = j.val
    omega
  · show (![j.val, 0, 0] : Fin 3 → ℕ) b.succ + 1 * (y b).val = (y b).val
    fin_cases b <;> simp

theorem pay1_eq (x : Vec F S8x464x128 .f32) :
    k1_pay1 (View.ld x (part 0 inb_S8x464x128_S1x464x128_0_0_0)) (View.ld x (part 1 inb_S8x464x128_S1x464x128_1_0_0))
      (View.ld x (part 2 inb_S8x464x128_S1x464x128_2_0_0)) (View.ld x (part 3 inb_S8x464x128_S1x464x128_3_0_0))
      (View.ld x (part 4 inb_S8x464x128_S1x464x128_4_0_0)) (View.ld x (part 5 inb_S8x464x128_S1x464x128_5_0_0))
      (View.ld x (part 6 inb_S8x464x128_S1x464x128_6_0_0)) (View.ld x (part 7 inb_S8x464x128_S1x464x128_7_0_0)) = sumB x := by
  funext y
  have e0 : shapeCast S464x128 (View.ld x (part 0 inb_S8x464x128_S1x464x128_0_0_0)) shapeCasts_S1x464x128_S464x128 y = x (Fin.cons (show Fin 8 from 0) y : S8x464x128.Idx) := part_apply x 0 _ _ y
  have e1 : shapeCast S464x128 (View.ld x (part 1 inb_S8x464x128_S1x464x128_1_0_0)) shapeCasts_S1x464x128_S464x128 y = x (Fin.cons (show Fin 8 from 1) y : S8x464x128.Idx) := part_apply x 1 _ _ y
  have e2 : shapeCast S464x128 (View.ld x (part 2 inb_S8x464x128_S1x464x128_2_0_0)) shapeCasts_S1x464x128_S464x128 y = x (Fin.cons (show Fin 8 from 2) y : S8x464x128.Idx) := part_apply x 2 _ _ y
  have e3 : shapeCast S464x128 (View.ld x (part 3 inb_S8x464x128_S1x464x128_3_0_0)) shapeCasts_S1x464x128_S464x128 y = x (Fin.cons (show Fin 8 from 3) y : S8x464x128.Idx) := part_apply x 3 _ _ y
  have e4 : shapeCast S464x128 (View.ld x (part 4 inb_S8x464x128_S1x464x128_4_0_0)) shapeCasts_S1x464x128_S464x128 y = x (Fin.cons (show Fin 8 from 4) y : S8x464x128.Idx) := part_apply x 4 _ _ y
  have e5 : shapeCast S464x128 (View.ld x (part 5 inb_S8x464x128_S1x464x128_5_0_0)) shapeCasts_S1x464x128_S464x128 y = x (Fin.cons (show Fin 8 from 5) y : S8x464x128.Idx) := part_apply x 5 _ _ y
  have e6 : shapeCast S464x128 (View.ld x (part 6 inb_S8x464x128_S1x464x128_6_0_0)) shapeCasts_S1x464x128_S464x128 y = x (Fin.cons (show Fin 8 from 6) y : S8x464x128.Idx) := part_apply x 6 _ _ y
  have e7 : shapeCast S464x128 (View.ld x (part 7 inb_S8x464x128_S1x464x128_7_0_0)) shapeCasts_S1x464x128_S464x128 y = x (Fin.cons (show Fin 8 from 7) y : S8x464x128.Idx) := part_apply x 7 _ _ y
  unfold k1_pay1 sumB sumE
  simp only [addf]
  rw [e0, e1, e2, e3, e4, e5, e6, e7]

theorem whole_store (p : Vec F S464x128 .f32) : (View.canon [(⟨all, p⟩ : View.Piece (Elt F) S464x128 .f32)] : Vec F S464x128 .f32) = p :=
  View.canon_cons_unit_lit (Val := Elt F) (S := S464x128) (e := .f32) inb_S464x128_S464x128_0_0 p [] (by decide)

/-- The one store covers the window. -/
theorem whole_covers (p : Vec F S464x128 .f32) (y : S464x128.Idx) : ∃ pc ∈ ([⟨all, p⟩] : List (View.Piece (Elt F) S464x128 .f32)), y ∈ pc.1.set :=
  View.cover_of_tiled [⟨all, p⟩] S464x128.size (by rfl) y

section Run

variable (m : (ℓ : Loc nD τ sig) → Buf (Elt F) ℓ)

local notation "𝕄" => MT nD τ sig Unit (Elt F) ℕ (UU nD τ sig) ℕ

set_option maxHeartbeats 1000000 in
/-- The body on any staging buffers: the input stays, the output ends at the sum. -/
theorem body_triple (c : Dev nD)
    (bx : Memref sig .tc .vmem S8x464x128 .f32) (hx : bx.IsWhole) (bo : Memref sig .tc .vmem S464x128 .f32) (ho : bo.IsWhole)
    (x : Vec F S8x464x128 .f32) (K : PUnit → sProp 𝕄) :
    iprop(owns (c : Thread nD τ) bx fullShare x ∗ (∃ d, owns (c : Thread nD τ) bo fullShare d)
        ∗ (iprop(owns (c : Thread nD τ) bx fullShare x ∗ owns (c : Thread nD τ) bo fullShare (sumB x)) -∗ K ⟨⟩))
      ⊢ wp frame (wpE (defs₀ (F := F)) Variants.none c none) Set.univ (cc1_sum_partials bx hx bo ho) K := by
  simp only [cc1_sum_partials_eq_skeleton]; unfold cc1_sum_partials_skel
  unfold owns
  iintro ⟨⟨%fx, %ex, Hx⟩, ⟨%dg, %fg, -, Hg⟩, Hk⟩
  subst ex
  sl_exec
  sl_step
  iapply Hk
  isplitl [Hx]
  · iexists fx; isplitr; · ipureintro; rfl
    iexact Hx
  iexists _; isplitr
  swap; · iexact Hg
  ipureintro
  refine ((View.read_writes_eq_canon _ _ _ (whole_covers _)).trans (whole_store _)).trans ?_
  exact pay1_eq _

/-! ## The sum's proof data -/

/-- The sum of the gathered rows. -/
noncomputable def total : S464x128.Idx → F .f32 := fun i => sumE fun j => gathered m (Fin.cons (show Fin 8 from j) i : S8x464x128.Idx)

/-- What the windows' arrays hold when the call starts. -/
noncomputable def entry (c : Dev nD) : (w : Fin cfg1.W) → Buf (Elt F) ((c.tc : Thread nD τ).loc (Pipeline.arrRef spec1 w))
  | ⟨0, _⟩ => gathered m
  | ⟨1, _⟩ => m ((c.tc : Thread nD τ).loc main_v2)

/-- The stack as the body reads it. -/
noncomputable def stack (c : Dev nD) (t : Fin cfg1.N) : ((cfg1.win 0).xblock (cfg1.grid.coords t)).Idx → Elt F (cfg1.win 0).elt :=
  ((cfg1.win 0).blk t).view.read (Elt F) (entry m c 0)

noncomputable def dat1 (c : Dev nD) : Dat τ (Elt F) Unit ℕ (UU nD τ sig) ℕ cfg1 c where
  A := entry m c
  after w t := match w with
    | ⟨0, _⟩ => stack m c t
    | ⟨1, _⟩ => sumB (stack m c t)
  Φ _ := iprop(emp)
  q _ := fullShare
  owed _ := 0

theorem after_0 (c : Dev nD) (t : Fin cfg1.N) : (dat1 m c).after 0 t = stack m c t := by dsimp only [dat1]
theorem after_1 (c : Dev nD) (t : Fin cfg1.N) : (dat1 m c).after 1 t = sumB (stack m c t) := by dsimp only [dat1]
theorem before_0 (c : Dev nD) (t : Fin cfg1.N) (d) : (dat1 m c).before 0 t d = stack m c t :=
  ((dat1 m c).before_fetched 0 t (fetch1_0 t) d).trans (by unfold Dat.fetched Dat.blockOf stack; rfl)

/-- The body in the windows' buffers. -/
theorem body_point (c : Dev nD) (t : Fin cfg1.N) :
    iprop((dat1 m c).Φ t.castSucc ∗ (dat1 m c).owesAt () t.castSucc
      ∗ (∃ d, owns (c : Thread nD τ) (st1_0 t) fullShare ((dat1 m c).before 0 t d)) ∗ (∃ d, owns (c : Thread nD τ) (st1_1 t) fullShare ((dat1 m c).before 1 t d)))
    ⊢ wp frame (wpE (defs₀ (F := F)) Variants.none c none) Set.univ (bodyAt1 t) fun _ => iprop((dat1 m c).Φ t.succ ∗ (dat1 m c).owesAt () t.succ
      ∗ owns (c : Thread nD τ) (st1_0 t) fullShare ((dat1 m c).after 0 t) ∗ owns (c : Thread nD τ) (st1_1 t) fullShare ((dat1 m c).after 1 t)) := by
  simp only [before_0, after_0, after_1]
  rw [show (dat1 m c).Φ t.succ = (dat1 m c).Φ t.castSucc from rfl, show (dat1 m c).owesAt () t.succ = (dat1 m c).owesAt () t.castSucc from rfl]
  unfold bodyAt1
  iintro ⟨HΦ, Ho, ⟨%d0, H0⟩, H1⟩
  iapply (body_triple c _ _ _ _ (stack m c t) _)
  isplitl [H0]; · iexact H0
  isplitl [H1]
  · icases H1 with ⟨%d, H⟩; iexists _; iexact H
  iintro ⟨H0, H1⟩
  isplitl [HΦ]; · iexact HΦ
  isplitl [Ho]; · iexact Ho
  isplitl [H0]; · iexact H0
  iexact H1

theorem body_row (t : Fin cfg1.N) : defs₀ (F := F) .tc cfg1.body (cfg1.bodyArgs t (cfg1.slots t)) = bodyAt1 t := by
  unfold defs₀; rw [Defs.onTc_tc]

theorem body_ok (c : Dev nD) : BodyObligation (dat1 m c) (defs₀ (F := F)) Variants.none () Set.univ := fun t => by
  rw [bigSep_W1, bigSep_W1, body_row]
  exact triple_restated (body_point m c t) rfl .rfl fun _ => .rfl

theorem starts_0 : ∀ t : Fin cfg1.N, win1_0.index t = ![0, 0, 0] := (by decide +kernel : ∀ t : Fin grid1.N, _)
theorem starts_1 : ∀ t : Fin cfg1.N, win1_1.index t = ![0, 0] := (by decide +kernel : ∀ t : Fin grid1.N, _)

/-- The windows are the whole arrays. -/
theorem place_0 (t : Fin cfg1.N) (y : S8x464x128.Idx) : (win1_0.blk t).view.emb y = y := by
  blk_ext [starts_0]
theorem place_1 (t : Fin cfg1.N) (y : S464x128.Idx) : (win1_1.blk t).view.emb y = y := by
  blk_ext [starts_1]

theorem stack_eq (c : Dev nD) (t : Fin cfg1.N) (y : S8x464x128.Idx) : stack m c t y = gathered m y :=
  congrArg (gathered m) (place_0 t y)

theorem final_sum (c : Dev nD) : (dat1 m c).arrAt 1 cfg1.N = total m := by
  refine (dat1 m c).arrAt_eq_of_covers 1 _ (by decide +kernel) fun t hf y => ?_
  blk_simp
  rw [after_1]
  refine Eq.trans ?_ (congrArg (total m) (place_1 t y)).symm
  exact congrArg sumE (funext fun j => stack_eq m c t _)

/-- What the windows' arrays hold at the end. -/
noncomputable def result (c : Dev nD) : (w : Fin cfg1.W) → Buf (Elt F) ((c.tc : Thread nD τ).loc (Pipeline.arrRef spec1 w))
  | ⟨0, _⟩ => gathered m
  | ⟨1, _⟩ => total m

theorem final (c : Dev nD) : ∀ w, (dat1 m c).arrAt w cfg1.N = result m c w
  | ⟨0, _⟩ => (dat1 m c).arrAt_in 0 rfl _
  | ⟨1, _⟩ => final_sum m c

abbrev adm : Dev nD → (p : Fin 2) → (pcfgs (F := F) p).Adm := fun _ p => (cfgs p).toPCfg_adm

/-- The buffers the sum stages its arrays in: the exchange leaves them alone. -/
abbrev staged (c : Dev nD) : sProp 𝕄 := Pipeline.scopedRest (cfg0.spec) c

/-- The exchange: no window; the invariant is the exchange's state, beside the staging buffers. -/
noncomputable def dat0 (c : Dev nD) : Dat τ (Elt F) Unit ℕ (UU nD τ sig) ℕ (Pipeline.pinD (pcfgs (F := F)) adm c 0) c where
  A w := w.elim0
  after w _ := w.elim0
  Φ t := match t with
    | ⟨0, _⟩ => iprop(X.start m c ∗ staged c)
    | ⟨_ + 1, _⟩ => iprop(X.finish m c ∗ staged c)
  q w := w.elim0
  owed t := match t with
    | ⟨0, _⟩ => X.dues c order
    | ⟨_ + 1, _⟩ => 0

noncomputable def dats : (p : Fin 2) → (c : Dev nD) → Dat τ (Elt F) Unit ℕ (UU nD τ sig) ℕ (Pipeline.pinD (pcfgs (F := F)) adm c p) c
  | ⟨0, _⟩, c => dat0 m c
  | ⟨1, _⟩, c => dat1 m c

/-! ## The exchange's region -/

theorem arrays_none (c : Dev nD) (A) : ((dats m 0 c).arrays A : sProp 𝕄) = BI.emp := by
  unfold Pipeline.Dat.arrays
  exact BI.bigSep_empty

theorem windows_none (Φ : Fin 0 → sProp 𝕄) : bigSep Finset.univ Φ = BI.emp := BI.bigSep_empty

theorem exchange_ok (c : Dev nD) : Pipeline.BodyObligation (dats m 0 c) (defs₀ (F := F)) Variants.none () Set.univ := fun t => by
  obtain rfl := fin_N0 t
  refine wp_of_eq (defs₀ (F := F)) Variants.none (c.tc : Thread nD τ) body_eq ?_
  rw [wp_deviceId]
  unfold Pipeline.Dat.owesAt Pipeline.owesWithin
  show iprop((X.start m c ∗ staged c) ∗ (∃ W, ⌜_⌝ ∗ owes (c.tc : Thread nD τ) (X.dues c order) W) ∗ _) ⊢ _
  iintro ⟨⟨HS, Hst⟩, ⟨%W, -, HO⟩, -⟩
  iapply (X.wp_body m (defs₀ (F := F)) Variants.none c order (by decide) (by decide) W)
  isplitl [HS]; · iexact HS
  isplitl [HO]; · iexact HO
  iintro ⟨HF, %W', HO⟩
  isplitl [HF Hst]
  · show iprop(staged c ∗ X.finish m c) ⊢ iprop(X.finish m c ∗ staged c)
    iintro ⟨Hst, HF⟩
    isplitl [HF] <;> iassumption
  isplitl [HO]
  · iexists W'
    isplitr; · ipureintro; exact fun _ _ => Or.inl trivial
    iexact HO
  rw [windows_none]
  iempintro

theorem winFacts : Pipeline.WinFacts₀ cfg0.spec := by decide
theorem ownFacts : Pipeline.OwnSemFacts cfg0.spec X.osem := by decide +kernel

noncomputable def region0 : FirstRegion (pcfgs (F := F)) adm (dats m) () (defs₀ (F := F)) Variants.none 0 where
  win := winFacts
  block_pos w := w.elim0
  stage_whole w := w.elim0
  K := Fin 7 ⊕ Fin 7 ⊕ Unit
  fK := inferInstance
  osem := X.osem
  ho := ⟨ownFacts.1, ownFacts.2, ownFacts.3⟩
  hbody c := (exchange_ok m c).loose
  hwaits c := by
    unfold Pipeline.PerCore.cellsWaits
    exact Entails.of_eq (windows_none _).symm
  pre c := iprop(X.start m c ∗ owes (c.tc : Thread nD τ) (X.dues c order) ∅ ∗ others m c)
  post c := iprop(done m c ∗ others m c ∗ ∃ W, owes (c.tc : Thread nD τ) 0 W)
  X c := X.start m c
  Y c := done m c
  Z c := others m c
  hentry c := by
    rw [arrays_none, Pipeline.prefHeld_of_none _ rfl]
    iintro ⟨HS, HO, Ht⟩
    imodintro
    isplitr; · iempintro
    isplitr; · iempintro
    isplitl [HO]
    · unfold Pipeline.Dat.owesAt Pipeline.owesWithin
      iexists (∅ : Waits sig Unit)
      isplitr; · ipureintro; exact fun _ _ => Or.inl trivial
      iexact HO
    isplitl [HS]; · iexact HS
    iexact Ht
  hin c := by
    show iprop(X.start m c ∗ _ ∗ staged c) ⊢ iprop(X.start m c ∗ staged c)
    iintro ⟨H, -, Hst⟩
    isplitl [H] <;> iassumption
  hout c := by
    show iprop(X.finish m c ∗ staged c) ⊢ iprop(done m c ∗ ownSems0 X.osem c ∗ staged c)
    iintro ⟨H, Hst⟩
    ihave H := (finish_done m c) $$ H
    icases H with ⟨H, Ho⟩
    isplitl [H]; · iexact H
    isplitl [Ho] <;> iassumption
  hexit c := by
    unfold Pipeline.Dat.owesAt Pipeline.owesWithin
    iintro ⟨-, ⟨%W, -, HO⟩, H, Ht⟩
    imodintro
    isplitl [H]; · iexact H
    isplitl [Ht]; · iexact Ht
    iexists W
    iexact HO

/-! ## The sum's region -/

/-- A device's buffers at the end. -/
abbrev last (c : Dev nD) : sProp 𝕄 :=
  iprop(((c.tc : Thread nD τ).loc main_arg0 ↦{fullShare} m ((c.tc : Thread nD τ).loc main_arg0))
    ∗ ((c.tc : Thread nD τ).loc main_v1 ↦{fullShare} gathered m) ∗ ((c.tc : Thread nD τ).loc main_v2 ↦{fullShare} total m))

theorem share1 (c : Dev nD) (w) : (dats m 1 c).share w = fullShare := (dats m 1 c).share_full (fun _ => rfl) w

/-- The windows' arrays one by one. -/
theorem arrays1 (c : Dev nD) (G : (w : Fin cfg1.W) → Buf (Elt F) ((c.tc : Thread nD τ).loc (Pipeline.arrRef spec1 w))) :
    ((dats m 1 c).arrays G : sProp 𝕄) = iprop(((c.tc : Thread nD τ).loc main_v1 ↦{fullShare} G 0) ∗ ((c.tc : Thread nD τ).loc main_v2 ↦{fullShare} G 1)) :=
  (Pipeline.PerCore.arrays_eq (Pipeline.pinD (pcfgs (F := F)) adm) (dats m) 1 c arr_whole1 (share1 m c) G).trans (bigSep_W1 _)

theorem staged1 (c : Dev nD) : (Pipeline.scopedRest (Pipeline.pinD (pcfgs (F := F)) adm c 1).spec c : sProp 𝕄) = BI.emp := scopedRest1_eq c

theorem enter1 (c : Dev nD) (P Q : sProp 𝕄) : iprop(P ∗ Q ∗ Pipeline.scopedRest (Pipeline.pinD (pcfgs (F := F)) adm c 1).spec c) ⊢ P ∗ Q := by
  rw [staged1]
  iintro ⟨HP, HQ, -⟩
  isplitl [HP] <;> iassumption

theorem leave1 (c : Dev nD) : (iprop(emp) : sProp 𝕄) ⊢ iprop(emp ∗ BI.emp ∗ Pipeline.scopedRest (Pipeline.pinD (pcfgs (F := F)) adm c 1).spec c) := by
  rw [staged1]
  iintro -
  isplitr; · iempintro
  isplitr; · iempintro
  iempintro

noncomputable def region1 : Pipeline.PerCore.RegionSeg (pcfgs (F := F)) adm (dats m) () (defs₀ (F := F)) Variants.none noLev (fun _ _ => (0 : ℕ)) 1 where
  win := winFacts1.to₀
  block_pos := block_pos1
  stage_whole := stage_whole1
  K := PEmpty
  osem k := k.elim
  ho := Pipeline.OwnSemFacts.none _
  hbody c := (body_ok m c).loose
  hwaits c := Pipeline.PerCore.hwaits_of_owed_zero (pcfgs (F := F)) adm (dats m) () noLev (fun _ _ => (0 : ℕ)) 1 (fun _ _ => rfl) c
  pre c := iprop(done m c ∗ others m c ∗ ∃ W, owes (c.tc : Thread nD τ) 0 W)
  post c := iprop(last m c ∗ ∃ W, owes (c.tc : Thread nD τ) (0 : CellTallies nD τ sig Unit) W)
  X _ := iprop(emp)
  Y _ := iprop(emp)
  Z c := iprop((c.tc : Thread nD τ).loc main_arg0 ↦{fullShare} m ((c.tc : Thread nD τ).loc main_arg0))
  hentry c := by
    have ha := arrays1 m c (entry m c)
    rw [Pipeline.ownSems0_none, Pipeline.prefHeld_of_none _ rfl]
    show _ ⊢ |={Set.univ}=> iprop((dats m 1 c).arrays (entry m c) ∗ _)
    rw [ha]
    iintro ⟨⟨⟨Ha, Hr⟩, Ht, %W, HO⟩, -, -⟩
    imodintro
    isplitl [Hr Ht]
    · isplitl [Hr]; · iexact Hr
      iexact Ht
    isplitr; · iempintro
    isplitl [HO]
    · unfold Pipeline.Dat.owesAt Pipeline.owesWithin
      iexists W
      isplitr; · ipureintro; exact fun _ _ => Or.inl trivial
      iexact HO
    isplitr; · iempintro
    iexact Ha
  hin c := by
    refine (enter1 c _ _).trans ?_
    show _ ⊢ iprop(emp)
    rw [Pipeline.prefHeld_of_none _ rfl]
    iintro ⟨-, -⟩
    iempintro
  hout c := by
    rw [Pipeline.ownSems0_none]
    exact leave1 c
  hexit c := by
    have ha := arrays1 m c (result m c)
    have hr : ((dats m 1 c).arrAt · cfg1.N) = result m c := funext (final m c)
    show iprop((dats m 1 c).arrays ((dats m 1 c).arrAt · cfg1.N) ∗ _) ⊢ _
    rw [hr, ha]
    unfold Pipeline.Dat.owesAt Pipeline.owesWithin
    iintro ⟨⟨Hr, Ht⟩, ⟨%W, -, HO⟩, -, Ha⟩
    imodintro
    isplitr [HO]
    · isplitl [Ha]; · iexact Ha
      isplitl [Hr]; · iexact Hr
      iexact Ht
    iexists W
    iexact HO

/-! ## The run -/

theorem cells_inj : Function.Injective (Pipeline.PerCore.cellOf (nD := nD) (τ := τ) (Pipeline.pinD (pcfgs (F := F)) adm)) := cellOf_inj

/-- What a device's memory holds at the end. -/
abbrev Ends (c : Dev nD) (s : MemSt nD τ sig (Elt F)) : Prop :=
  s.mem ((c.tc : Thread nD τ).loc main_v1) = gathered m ∧ s.mem ((c.tc : Thread nD τ).loc main_v2) = total m
    ∧ s.mem ((c.tc : Thread nD τ).loc main_arg0) = m ((c.tc : Thread nD τ).loc main_arg0)

/-- Every device ends with its argument unchanged, the gathered rows and their sum, nothing in flight. -/
theorem run_main (g : Dev nD → PrngReg) :
    θ_run (defs (F := F)) (onTc (main (F := F))) ⟨m, fun _ => 0, g⟩ fun r => (∀ c : Dev nD, Ends m c r.2) ∧ r.2.sem = fun _ => 0 := by
  refine run_first cells_inj EP (fun _ _ => 0) m g main (region0 m) [.region (region1 m)] (fun _ => rfl) (show [(0 : Fin 2), 1].Nodup by decide)
    (fun d => X.dues d order) (X.G m)
    (Rounds.initOf (Pipeline.PerCore.cells (Pipeline.pinD (pcfgs (F := F)) adm) cells_inj) (Pipeline.PerCore.launchToks (Pipeline.pinD (pcfgs (F := F)) adm) cells_inj), Rounds.initOf X.cells X.toks) ?_ (X.deal m order (by decide) g (others m) (bufs_split m))
    (last m) (fun c => ⟨BI.Entails.refl _, BI.Entails.refl _⟩)
    (Ends m) (fun c s' => ?_)
    (fun s h hz => ⟨h, sem_eq_zero_of_scoped (by decide) hz⟩)
  · iintro H
    ihave H := (ownU_pair _ _) $$ H
    icases H with ⟨HP, HX⟩
    imod (X.fund m) $$ HX with HX
    imodintro
    isplitl [HP] <;> iassumption
  · iintro ⟨⟨Ha, H1, H2⟩, HSI⟩
    ihave H := (read_pt _ _ s') $$ [Ha HSI]
    · isplitl [Ha] <;> iassumption
    icases H with ⟨%ha, HSI⟩
    ihave H := (read_pt _ _ s') $$ [H1 HSI]
    · isplitl [H1] <;> iassumption
    icases H with ⟨%h1, HSI⟩
    ihave H := (read_pt _ _ s') $$ [H2 HSI]
    · isplitl [H2] <;> iassumption
    icases H with ⟨%h2, HSI⟩
    imodintro
    isplitr; · ipureintro; exact ⟨h1, h2, ha⟩
    iexact HSI

end Run

/-! ## Against the reference -/

abbrev Whole : Shape := ⟨2, ![3712, 128]⟩

/-- The reference's results: the array cut into its eight blocks, and their sum. -/
abbrev blocks (x : FVec F Whole .f32) : FVec F Cert.SummedIdeal.S8x464x128 .f32 :=
  shapeCast _ x Cert.SummedIdeal.Gen.shapeCasts_S3712x128_S8x464x128
abbrev sum (x : FVec Ideal Whole .f32) : FVec Ideal Cert.SummedIdeal.S464x128 .f32 :=
  Host.reduceAdd (blocks x) (constant Cert.SummedIdeal.S_ .f32 0x00000000#32) Cert.SummedIdeal.Gen.reducesTo_S8x464x128_S464x128_d0 Cert.SummedIdeal.Gen.h_S_

theorem gathered_eq (m : (ℓ : Loc nD τ sig) → Buf (Elt F) ℓ) (w : FVec F Whole .f32)
    (h : ∀ c : Dev nD, m ((c.tc : Thread nD τ).loc main_arg0) = Layout.block ⟨2, ![464, 128]⟩ Whole 0 8 c w) :
    gathered m = blocks w := by
  funext i
  unfold gathered
  rw [h]
  refine congrArg w (Shape.reshapeEquiv_eq_of_rowMajor _ ?_).symm
  rw [Shape.rowMajor_val_two, Shape.rowMajor_val_three]
  rfl

theorem sumE_sum (x : Fin 8 → Ideal .f32) : sumE x = ∑ j, (x j : EReal) := by
  rw [Fin.sum_univ_eight]
  rfl

theorem total_eq (m : (ℓ : Loc nD τ sig) → Buf (Elt Ideal) ℓ) (w : FVec Ideal Whole .f32) (h : gathered m = blocks w) : total m = sum w := by
  funext i
  unfold total
  rw [sumE_sum, h]
  show _ = Ideal.hostReduceAdd _ _ (Ideal.ofBits .f32 0x00000000#32) i
  rw [Ideal.hostReduceAdd_r3_a0, Consts.ofBits_zero, zero_add]
  rfl

/-! ## The claims -/

theorem quiescent_ideal : Cert.quiescent_SumPartialsIdeal := fun m g _ =>
  (θ_run Cert.SumPartialsIdeal.defs _ _).mono (fun _ h => ⟨fun c => (h.1 c).2.2, h.2⟩) (run_main (F := Ideal) m g)

theorem bodies_same : @Cert.SumPartials.defs₀ Bits _ _ = @Cert.SumPartialsIdeal.defs₀ Bits _ _ := by
  funext p ℓ a
  match p, ℓ, a with
  | .tc, ⟨0, _⟩, a => rfl
  | .tc, ⟨1, _⟩, a => rfl
  | .tc, ⟨n + 2, h⟩, a => exact absurd h (Nat.not_lt.2 (Nat.le_add_left _ _))
  | .scScalar _, _, _ => rfl
  | .scVector _ _, _, _ => rfl

theorem defs_same : @Cert.SumPartials.defs Bits _ _ = @Cert.SumPartialsIdeal.defs Bits _ _ :=
  congrArg (Pipeline.defs Cert.SumPartialsIdeal.pcfgs) bodies_same

theorem quiescent_bits : Cert.quiescent_SumPartials := fun m g _ => by
  rw [defs_same]
  exact (θ_run Cert.SumPartialsIdeal.defs _ _).mono (fun _ h => ⟨fun c => (h.1 c).2.2, h.2⟩) (run_main (F := Bits) m g)

theorem quiescent_reference : Cert.quiescent_SummedIdeal := fun m g _ =>
  (θ_run Cert.SummedIdeal.defs _ _).mono (fun r h => ⟨fun c => (h c).2.2, sem_eq_zero_of_no_sems rfl r.2⟩) (Cert.SummedIdeal.Value.run (F := Ideal) m g)

theorem algebraic : Cert.algebraic_SumPartialsIdeal_SummedIdeal := fun m g m' g' _ h => by
  have hg := gathered_eq m _ h
  exact ⟨_, _, (θ_run Cert.SumPartialsIdeal.defs _ _).mono (fun _ hr c => ⟨(hr.1 c).1.trans hg, (hr.1 c).2.1.trans (total_eq m _ hg), (hr.1 c).2.2⟩) (run_main (F := Ideal) m g),
    (θ_run Cert.SummedIdeal.defs _ _).mono (fun _ hr => hr 0) (Cert.SummedIdeal.Value.run (F := Ideal) m' g')⟩

end Cert.Proof.Partials

end
-- ==== Proof.Small.lean ====
/-
  The all-gather of the conditioning inputs and of the small convolution weights.
-/
module
public import proofs.«01_k».proof.Proof.Rows
public import Idealize.ShloMosaic.Lib.Transfers
public import Idealize.ShloMosaic.Lib.Pipeline.RegionArrays
public import Idealize.ShloMosaic.Lib.Quiescent
public import proofs.«01_k».proof.Proof.Gen.GatherSmallIdeal
public import proofs.«01_k».proof.Proof.Gen.GatherSmallIdeal.Skeleton
public import proofs.«01_k».proof.Proof.Gen.GatherSmallIdeal.Launch
@[expose] public section
set_option Elab.async false
noncomputable section
namespace Cert.Proof.Small
open Cert.GatherSmallIdeal Cert.GatherSmallIdeal.Gen
open Idealize.ShloMosaic Idealize.ShloMosaic.TcCoe
open Idealize.ShloMosaic.Pipeline (ownSems0 launchCred)
open Idealize.SL Idealize.SL.RA Idealize.SL.BI
open scoped Idealize.SL.BI
open Idealize.SL.BI.BIBase Idealize.SL.BI.Laws Idealize.SL.ProofMode Idealize.SL.Sem
variable {F : FTy → Type} [FloatOps F]

/-- The device that copy `k` of device `c` goes to. -/
noncomputable def peer : Fin 7 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩

theorem peer_peer : ∀ k c, peer k (peer k c) = c := by decide +kernel

noncomputable def semOf : Fin 7 ⊕ Fin 7 ⊕ Unit → DmaSem sig
  | .inl k => ⟨k.val, show k.val < 15 by omega⟩
  | .inr (.inl k) => ⟨7 + k.val, show 7 + k.val < 15 by omega⟩
  | .inr (.inr _) => ⟨14, show 14 < 15 by omega⟩

theorem semOf_inj : Function.Injective semOf := by decide +kernel

abbrev xM : Memref sig .tc .hbm S48x128 .f32 := Memref.whole main_arg0
abbrev oM : Memref sig .tc .hbm S8x48x128 .f32 := Memref.whole main_v1

noncomputable def row (c : Dev nD) : Memref sig .tc .hbm S48x128 .f32 :=
  (oM.slice (Rect.unit (s := S8x48x128) (k0_off1 c) S1x48x128.size (k0_off1_inb c)) (fun _ => rfl)).squeeze S48x128 squeezes_S1x48x128_S48x128

noncomputable def X : Xch nD τ sig 7 .hbm .hbm S48x128 .f32 where
  own _ := xM
  src _ _ := xM
  dst := row
  peer := peer
  peer_peer := peer_peer
  sem := semOf
  sem_inj := semOf_inj
  wown _ := (Memref.isWhole_whole _).wordExact
  wsrc _ _ := (Memref.isWhole_whole _).wordExact
  wdst c := (View.wordExact_bits rfl).reshape _ _
  shared _ := rfl
  typedL _ := ⟨Or.inl rfl, trivial⟩
  typedR _ _ := ⟨⟨rfl, Or.inl rfl⟩, trivial⟩
  N := View.dmaCredit xM.view
  N_pos := View.dmaCredit_pos _ (by decide)
  cred_dst _ := rfl
  cred_src _ _ := rfl
  qo := Transfers.shareDrop fullShare 7
  q := Transfers.shareTok fullShare 7

set_option maxRecDepth 4096 in
theorem body_eq : (cc0_gather_small (F := F) (Memref.whole main_arg0) (Memref.isWhole_whole _) (Memref.whole main_v1) (Memref.isWhole_whole _) cc0_scratch0 cc0_scratch1 cc0_scratch2)
    = .op .deviceId fun c => X.body [0, 1, 2, 3, 4, 5, 6] c := rfl

/-! ## The rows of the result -/

theorem everyone : Everyone peer := by decide +kernel

theorem off1 : ∀ c : Dev nD, k0_off1 c = ![c.val, 0, 0] := by decide +kernel

/-- Element `x` of row `a` lies in the result at `(a, x)`. -/
theorem row_emb (a : Dev nD) (x : S48x128.Idx) : (row a).view.emb x = (Fin.cons (show Fin 8 from a) x : S8x48x128.Idx) := by
  show (Rect.unit (s := S8x48x128) (k0_off1 a) S1x48x128.size (k0_off1_inb a)).emb (Shape.reshapeEquiv _ x) = _
  rw [Shape.reshapeEquiv_cons_one]
  funext b
  apply Fin.ext
  refine Fin.cases ?_ (fun b => ?_) b
  · show k0_off1 a 0 + 1 * 0 = a.val
    rw [off1]; rfl
  · show k0_off1 a b.succ + 1 * (x b).val = (x b).val
    rw [off1]; fin_cases b <;> simp

/-- Row `a`'s elements. -/
noncomputable def rowSet (a : Dev nD) : Finset S8x48x128.Idx := (row a).view.set

theorem mem_row (a : Dev nD) (i : S8x48x128.Idx) : i ∈ rowSet a ↔ (i 0).val = a.val := by
  constructor
  · intro h
    obtain ⟨x, -, rfl⟩ := Finset.mem_map.mp h
    exact congrArg (fun j : S8x48x128.Idx => (j 0).val) (row_emb a x)
  · intro h
    refine Finset.mem_map.mpr ⟨Fin.tail i, Finset.mem_univ _, (row_emb a (Fin.tail i)).trans ?_⟩
    conv_rhs => rw [← Fin.cons_self_tail i]
    congr 1
    exact Fin.ext h.symm

theorem rows_disjoint (a b : Dev nD) (h : a ≠ b) : Disjoint (rowSet a) (rowSet b) :=
  Finset.disjoint_left.mpr fun i ha hb => h (Fin.ext (((mem_row a i).mp ha).symm.trans ((mem_row b i).mp hb)))

theorem rows_cover : (Finset.univ.biUnion rowSet) = Finset.univ :=
  Finset.eq_univ_iff_forall.mpr fun i => Finset.mem_biUnion.mpr ⟨⟨(i 0).val, (i 0).isLt⟩, Finset.mem_univ _, (mem_row _ i).mpr rfl⟩

/-! ## The run -/

section Run

variable (m : (ℓ : Loc nD τ sig) → Buf (Elt F) ℓ)

local notation "𝕄" => MT nD τ sig Unit (Elt F) ℕ (UU nD τ sig) ℕ

/-- The gathered array: row `a` is device `a`'s argument. -/
noncomputable def gathered : S8x48x128.Idx → Elt F .f32 := fun i => m (((show Dev nD from i 0).tc : Thread nD τ).loc main_arg0) (Fin.tail i)

/-- What device `b`'s result holds once row `a` has landed. -/
noncomputable def written (b a : Dev nD) : S8x48x128.Idx → Elt F .f32 :=
  (row a).view.write (Elt F) (m ((b.tc : Thread nD τ).loc main_v1)) (m ((a.tc : Thread nD τ).loc main_arg0)) Finset.univ

theorem written_eq (b a : Dev nD) (i : S8x48x128.Idx) (hi : i ∈ rowSet a) : written m b a i = gathered m i := by
  obtain ⟨x, -, rfl⟩ := Finset.mem_map.mp hi
  have h1 : written m b a ((row a).view.emb x) = m ((a.tc : Thread nD τ).loc main_arg0) x :=
    View.write_emb_of_mem (v := (row a).view) (Val := Elt F) _ _ (Finset.mem_univ x)
  exact h1.trans (congrArg (gathered m) (row_emb a x)).symm

abbrev order : List (Fin 7) := [0, 1, 2, 3, 4, 5, 6]

theorem srcs_eq (c : Dev nD) : (bigSep Finset.univ fun k => X.srcP m k c : sProp 𝕄)
    = bigSep Finset.univ fun k : Fin 7 => (c.tc : Thread nD τ).loc main_arg0 ↦{Transfers.shareTok fullShare 7 k} m ((c.tc : Thread nD τ).loc main_arg0) :=
  BI.bigSep_congr fun k _ => by
    unfold Xch.srcP
    rw [show (X.src k c).view.set = Finset.univ from (Memref.isWhole_whole main_arg0).set_eq_univ]; rfl

theorem own_eq (c : Dev nD) :
    (X.ownP m c : sProp 𝕄) = ((c.tc : Thread nD τ).loc main_arg0 ↦{Transfers.shareDrop fullShare 7} m ((c.tc : Thread nD τ).loc main_arg0)) := by
  unfold Xch.ownP
  rw [show (X.own c).view.set = Finset.univ from (Memref.isWhole_whole main_arg0).set_eq_univ]; rfl

theorem bufs_eq (c : Dev nD) : (X.bufs m c : sProp 𝕄)
    = iprop((((c.tc : Thread nD τ).loc main_arg0 ↦{Transfers.shareDrop fullShare 7} m ((c.tc : Thread nD τ).loc main_arg0))
        ∗ ((c.tc : Thread nD τ).loc main_v1 ↦[rowSet c]{fullShare} m ((c.tc : Thread nD τ).loc main_v1)))
      ∗ (bigSep Finset.univ fun k : Fin 7 => (c.tc : Thread nD τ).loc main_arg0 ↦{Transfers.shareTok fullShare 7 k} m ((c.tc : Thread nD τ).loc main_arg0))
      ∗ bigSep Finset.univ fun k : Fin 7 => (c.tc : Thread nD τ).loc main_v1 ↦[rowSet (peer k c)]{fullShare} m ((c.tc : Thread nD τ).loc main_v1)) := by
  unfold Xch.bufs
  rw [own_eq, srcs_eq]
  rfl

theorem landed_eq (k : Fin 7) (c : Dev nD) :
    (X.landed m k (peer k c) c : sProp 𝕄) = ((c.tc : Thread nD τ).loc main_v1 ↦[rowSet (peer k c)]{fullShare} written m c (peer k c)) := rfl

theorem finish_eq (c : Dev nD) : (X.finish m c : sProp 𝕄)
    = iprop((((c.tc : Thread nD τ).loc main_arg0 ↦{Transfers.shareDrop fullShare 7} m ((c.tc : Thread nD τ).loc main_arg0))
        ∗ ((c.tc : Thread nD τ).loc main_v1 ↦[rowSet c]{fullShare} written m c c))
      ∗ ((bigSep Finset.univ fun k : Fin 7 => (c.tc : Thread nD τ).loc main_arg0 ↦{Transfers.shareTok fullShare 7 k} m ((c.tc : Thread nD τ).loc main_arg0))
        ∗ bigSep Finset.univ fun k : Fin 7 => (c.tc : Thread nD τ).loc main_v1 ↦[rowSet (peer k c)]{fullShare} written m c (peer k c))
      ∗ ownSems0 X.osem c) := by
  unfold Xch.finish
  rw [own_eq, bigSep_sep' (Φ := fun k => X.srcP m k c), srcs_eq]
  rfl

/-- A device's buffers: the argument shared out to the copies, the result row by row. -/
theorem bufs_split (c : Dev nD) :
    (unscopedBufs c (fun b => m ((c.tc : Thread nD τ).loc b)) : sProp 𝕄) ⊢ iprop(X.bufs m c ∗ emp) := by
  have h0 := Pipeline.PerCore.unscopedBufs_split₀ (fun _ : Dev nD => cfgs) 0 c (fun w => w.elim0) (fun b => m ((c.tc : Thread nD τ).loc b))
    (Ix := Unit) (Val := Elt F) (Name := ℕ) (U := UU nD τ sig) (Lvl := ℕ) (τ := τ)
  have h3 := rows_split (Val := Elt F) everyone c (ℓ := (c.tc : Thread nD τ).loc main_v1) rowSet rows_disjoint rows_cover (m ((c.tc : Thread nD τ).loc main_v1))
  have h4 := Transfers.pointsTo_toks_split (Ix := Unit) (Val := Elt F) (Name := ℕ) (U := UU nD τ sig) (Lvl := ℕ) (ℓ := (c.tc : Thread nD τ).loc main_arg0) (S := Finset.univ) (f := m ((c.tc : Thread nD τ).loc main_arg0)) fullShare 7
  rw [h0, unscopedRest0_eq, h3, bufs_eq]
  iintro ⟨-, Ha, Hr, Hp⟩
  ihave Ha := h4 $$ Ha
  icases Ha with ⟨Ha, Hs⟩
  isplitl [Ha Hr Hs Hp]
  · isplitl [Ha Hr]
    · isplitl [Ha] <;> iassumption
    isplitl [Hs] <;> iassumption
  iempintro

/-- The device's buffers after the exchange. -/
abbrev done (c : Dev nD) : sProp 𝕄 :=
  iprop(((c.tc : Thread nD τ).loc main_arg0 ↦{fullShare} m ((c.tc : Thread nD τ).loc main_arg0)) ∗ ((c.tc : Thread nD τ).loc main_v1 ↦{fullShare} gathered m))

theorem finish_done (c : Dev nD) : X.finish m c ⊢ (iprop(done m c ∗ ownSems0 X.osem c) : sProp 𝕄) := by
  have h3 := rows_join (Val := Elt F) everyone c (ℓ := (c.tc : Thread nD τ).loc main_v1) rowSet rows_disjoint rows_cover (written m c) (gathered m) (written_eq m c)
  have h4 := Transfers.pointsTo_toks_join (Ix := Unit) (Val := Elt F) (Name := ℕ) (U := UU nD τ sig) (Lvl := ℕ) (ℓ := (c.tc : Thread nD τ).loc main_arg0) (S := Finset.univ) (f := m ((c.tc : Thread nD τ).loc main_arg0)) fullShare 7
  rw [finish_eq]
  iintro ⟨⟨Ha, Hr⟩, ⟨Hs, Hl⟩, Ho⟩
  isplitr [Ho]
  · isplitl [Ha Hs]
    · iapply h4
      isplitl [Ha] <;> iassumption
    · iapply h3
      isplitl [Hr] <;> iassumption
  iexact Ho

/-! ## The region -/

abbrev adm : Dev nD → (p : Fin 1) → (pcfgs (F := F) p).Adm := fun _ p => (cfgs p).toPCfg_adm

/-- The exchange as the region's proof data: no window, the invariant is the exchange's state. -/
noncomputable def dats (p : Fin 1) (c : Dev nD) : Pipeline.Dat τ (Elt F) Unit ℕ (UU nD τ sig) ℕ (Pipeline.pinD (pcfgs (F := F)) adm c p) c where
  A w := w.elim0
  after w _ := w.elim0
  Φ t := match t with
    | ⟨0, _⟩ => X.start m c
    | ⟨_ + 1, _⟩ => X.finish m c
  q w := w.elim0
  owed t := match t with
    | ⟨0, _⟩ => X.dues c order
    | ⟨_ + 1, _⟩ => 0

theorem arrays_none (c : Dev nD) (A) : ((dats m 0 c).arrays A : sProp 𝕄) = BI.emp := by
  unfold Pipeline.Dat.arrays
  exact BI.bigSep_empty

theorem windows_none (Φ : Fin 0 → sProp 𝕄) : bigSep Finset.univ Φ = BI.emp := BI.bigSep_empty

theorem body_step (c : Dev nD) : Pipeline.BodyObligation (dats m 0 c) (defs₀ (F := F)) Variants.none () Set.univ := fun t => by
  obtain rfl := fin_N0 t
  refine wp_of_eq (defs₀ (F := F)) Variants.none (c.tc : Thread nD τ) body_eq ?_
  rw [wp_deviceId]
  unfold Pipeline.Dat.owesAt Pipeline.owesWithin
  show iprop(X.start m c ∗ (∃ W, ⌜_⌝ ∗ owes (c.tc : Thread nD τ) (X.dues c order) W) ∗ _) ⊢ _
  iintro ⟨HS, ⟨%W, -, HO⟩, -⟩
  iapply (X.wp_body m (defs₀ (F := F)) Variants.none c order (by decide) (by decide) W)
  isplitl [HS]; · iexact HS
  isplitl [HO]; · iexact HO
  iintro ⟨HF, %W', HO⟩
  isplitl [HF]
  · show X.finish m c ⊢ X.finish m c
    exact .rfl
  isplitl [HO]
  · iexists W'
    isplitr; · ipureintro; exact fun _ _ => Or.inl trivial
    iexact HO
  rw [windows_none]
  iempintro

/-- The exchange as the program's first region. -/
theorem winFacts : Pipeline.WinFacts₀ cfg0.spec := by decide

example : (pcfgs (F := F) 0).W = cfg0.W := rfl
example : (pcfgs (F := F) 0).spec = cfg0.spec := rfl

theorem ownFacts : Pipeline.OwnSemFacts cfg0.spec X.osem := by decide +kernel

noncomputable def region : FirstRegion (pcfgs (F := F)) adm (dats m) () (defs₀ (F := F)) Variants.none 0 where
  win := winFacts
  block_pos w := w.elim0
  stage_whole w := w.elim0
  K := Fin 7 ⊕ Fin 7 ⊕ Unit
  fK := inferInstance
  osem := X.osem
  ho := ⟨ownFacts.1, ownFacts.2, ownFacts.3⟩
  hbody c := (body_step m c).loose
  hwaits c := by
    unfold Pipeline.PerCore.cellsWaits
    exact Entails.of_eq (windows_none _).symm
  pre c := iprop(X.start m c ∗ owes (c.tc : Thread nD τ) (X.dues c order) ∅ ∗ emp)
  post c := iprop(done m c ∗ ∃ W, owes (c.tc : Thread nD τ) 0 W)
  X c := X.start m c
  Y c := done m c
  Z _ := iprop(emp)
  hentry c := by
    rw [arrays_none, Pipeline.prefHeld_of_none _ rfl]
    iintro ⟨HS, HO, -⟩
    imodintro
    isplitr; · iempintro
    isplitr; · iempintro
    isplitl [HO]
    · unfold Pipeline.Dat.owesAt Pipeline.owesWithin
      iexists (∅ : Waits sig Unit)
      isplitr; · ipureintro; exact fun _ _ => Or.inl trivial
      iexact HO
    isplitl [HS]; · iexact HS
    iempintro
  hin c := by
    show iprop(X.start m c ∗ _ ∗ _) ⊢ X.start m c
    iintro ⟨H, -, -⟩
    iexact H
  hout c := by
    show X.finish m c ⊢ _
    refine (finish_done m c).trans ?_
    rw [scopedRest0_eq]
    iintro ⟨H, Ho⟩
    isplitl [H]; · iexact H
    isplitl [Ho]; · iexact Ho
    iempintro
  hexit c := by
    unfold Pipeline.Dat.owesAt Pipeline.owesWithin
    iintro ⟨-, ⟨%W, -, HO⟩, H, -⟩
    imodintro
    isplitl [H]; · iexact H
    iexists W
    iexact HO

theorem cells_inj : Function.Injective (Pipeline.PerCore.cellOf (nD := nD) (τ := τ) (Pipeline.pinD (pcfgs (F := F)) adm)) := cellOf_inj

/-- Every device ends with its argument unchanged and the gathered array as its result, nothing in flight. -/
theorem run_main (g : Dev nD → PrngReg) :
    θ_run (defs (F := F)) (onTc (main (F := F))) ⟨m, fun _ => 0, g⟩ fun r =>
      (∀ c : Dev nD, r.2.mem ((c.tc : Thread nD τ).loc main_v1) = gathered m
        ∧ r.2.mem ((c.tc : Thread nD τ).loc main_arg0) = m ((c.tc : Thread nD τ).loc main_arg0)) ∧ r.2.sem = fun _ => 0 := by
  refine run_first cells_inj EP (fun _ _ => 0) m g main (region m) [] (fun _ => rfl) (List.nodup_singleton _)
    (fun d => X.dues d order) (X.G m)
    (Rounds.initOf (Pipeline.PerCore.cells (Pipeline.pinD (pcfgs (F := F)) adm) cells_inj) (Pipeline.PerCore.launchToks (Pipeline.pinD (pcfgs (F := F)) adm) cells_inj), Rounds.initOf X.cells X.toks) ?_ (X.deal m order (by decide) g (fun _ => iprop(emp)) (bufs_split m))
    (done m) (fun c => BI.Entails.refl _)
    (fun c s => s.mem ((c.tc : Thread nD τ).loc main_v1) = gathered m
        ∧ s.mem ((c.tc : Thread nD τ).loc main_arg0) = m ((c.tc : Thread nD τ).loc main_arg0)) (fun c s' => ?_)
    (fun s h hz => ⟨h, sem_eq_zero_of_scoped (by decide) hz⟩)
  · iintro H
    ihave H := (ownU_pair _ _) $$ H
    icases H with ⟨HP, HX⟩
    imod (X.fund m) $$ HX with HX
    imodintro
    isplitl [HP] <;> iassumption
  · iintro ⟨⟨Ha, Hv⟩, HSI⟩
    ihave H := (read_pt _ _ s') $$ [Ha HSI]
    · isplitl [Ha] <;> iassumption
    icases H with ⟨%ha, HSI⟩
    ihave H := (read_pt _ _ s') $$ [Hv HSI]
    · isplitl [Hv] <;> iassumption
    icases H with ⟨%hv, HSI⟩
    imodintro
    isplitr; · ipureintro; exact ⟨hv, ha⟩
    iexact HSI

end Run

end Cert.Proof.Small

end
-- ==== Proof.SmallValue.lean ====
/-
  The claims of this all-gather: the gathered array is the whole array reshaped into its eight blocks, and both programs end
  with nothing in flight.
-/
module

public import proofs.«01_k».proof.Defs
public import proofs.«01_k».proof.Proof.Small
public import proofs.«01_k».proof.Proof.Gen.GatherSmall
public import proofs.«01_k».proof.Proof.Gen.SmallBlocksIdeal
public import proofs.«01_k».proof.Proof.Gen.SmallBlocksIdeal.Run
public import proofs.«01_k».proof.Proof.Gen.SmallBlocks

@[expose] public section

set_option Elab.async false

noncomputable section

namespace Cert.Proof.Small

open Idealize.ShloMosaic Idealize.ShloMosaic.TcCoe Idealize.SL.Sem
open Cert.GatherSmallIdeal Cert.GatherSmallIdeal.Gen

variable {F : FTy → Type} [FloatOps F]

abbrev Whole : Shape := ⟨2, ![384, 128]⟩

theorem casts : Whole.ShapeCasts S8x48x128 := by decide

/-- The gathered blocks of an array are the array, reshaped. -/
theorem gathered_eq (m : (ℓ : Loc nD τ sig) → Buf (Elt F) ℓ) (w : Whole.Idx → Elt F .f32)
    (h : ∀ c : Dev nD, m ((c.tc : Thread nD τ).loc main_arg0) = Layout.block ⟨2, ![48, 128]⟩ Whole 0 8 c w) :
    gathered m = shapeCast S8x48x128 w casts := by
  funext i
  unfold gathered
  rw [h]
  refine congrArg w (Shape.reshapeEquiv_eq_of_rowMajor _ ?_).symm
  rw [Shape.rowMajor_val_two, Shape.rowMajor_val_three]
  rfl

/-- The reference's run, with nothing in flight. -/
theorem run_whole (m : (ℓ : Loc Cert.SmallBlocksIdeal.nD Cert.SmallBlocksIdeal.τ Cert.SmallBlocksIdeal.sig) → Buf (Elt F) ℓ) (g : Dev Cert.SmallBlocksIdeal.nD → PrngReg) :
    θ_run (Cert.SmallBlocksIdeal.defs (F := F)) (onTc (τ := Cert.SmallBlocksIdeal.τ) (Cert.SmallBlocksIdeal.main (F := F))) ⟨m, fun _ => 0, g⟩ fun r =>
      (∀ c : Dev Cert.SmallBlocksIdeal.nD,
        r.2.mem ((c.tc : Thread Cert.SmallBlocksIdeal.nD Cert.SmallBlocksIdeal.τ).loc Cert.SmallBlocksIdeal.main_v0)
            = shapeCast S8x48x128 (m ((c.tc : Thread Cert.SmallBlocksIdeal.nD Cert.SmallBlocksIdeal.τ).loc Cert.SmallBlocksIdeal.main_arg0)) casts
          ∧ r.2.mem ((c.tc : Thread Cert.SmallBlocksIdeal.nD Cert.SmallBlocksIdeal.τ).loc Cert.SmallBlocksIdeal.main_arg0)
            = m ((c.tc : Thread Cert.SmallBlocksIdeal.nD Cert.SmallBlocksIdeal.τ).loc Cert.SmallBlocksIdeal.main_arg0))
      ∧ r.2.sem = fun _ => 0 :=
  (θ_run Cert.SmallBlocksIdeal.defs _ _).mono (fun r h => ⟨h, sem_eq_zero_of_no_sems rfl _⟩) (Cert.SmallBlocksIdeal.Value.run m g)

/-! ## The claims -/

theorem quiescent_ideal : Cert.quiescent_GatherSmallIdeal := fun m g _ =>
  (θ_run Cert.GatherSmallIdeal.defs _ _).mono (fun _ h => ⟨fun c => (h.1 c).2, h.2⟩) (run_main (F := Ideal) m g)

theorem quiescent_bits : Cert.quiescent_GatherSmall := fun m g _ =>
  (θ_run Cert.GatherSmallIdeal.defs _ _).mono (fun _ h => ⟨fun c => (h.1 c).2, h.2⟩) (run_main (F := Bits) m g)

theorem quiescent_whole_ideal : Cert.quiescent_SmallBlocksIdeal := fun m g _ =>
  (θ_run Cert.SmallBlocksIdeal.defs _ _).mono (fun _ h => ⟨fun c => (h.1 c).2, h.2⟩) (run_whole (F := Ideal) m g)

theorem quiescent_whole_bits : Cert.quiescent_SmallBlocks := fun m g _ =>
  (θ_run Cert.SmallBlocksIdeal.defs _ _).mono (fun _ h => ⟨fun c => (h.1 c).2, h.2⟩) (run_whole (F := Bits) m g)

theorem algebraic : Cert.algebraic_GatherSmallIdeal_SmallBlocksIdeal := fun m g m' g' _ h =>
  ⟨shapeCast S8x48x128 (m' (((0 : Dev Cert.SmallBlocksIdeal.nD).tc : Thread Cert.SmallBlocksIdeal.nD Cert.SmallBlocksIdeal.τ).loc Cert.SmallBlocksIdeal.main_arg0)) casts,
    (θ_run Cert.GatherSmallIdeal.defs _ _).mono (fun _ hr c => ⟨(hr.1 c).1.trans (gathered_eq m _ h), (hr.1 c).2⟩) (run_main (F := Ideal) m g),
    (θ_run Cert.SmallBlocksIdeal.defs _ _).mono (fun _ hr => hr.1 0) (run_whole (F := Ideal) m' g')⟩

theorem bitexact : Cert.bitexact_GatherSmall_SmallBlocks := fun m g m' g' _ h =>
  ⟨shapeCast S8x48x128 (m' (((0 : Dev Cert.SmallBlocksIdeal.nD).tc : Thread Cert.SmallBlocksIdeal.nD Cert.SmallBlocksIdeal.τ).loc Cert.SmallBlocksIdeal.main_arg0)) casts,
    (θ_run Cert.GatherSmallIdeal.defs _ _).mono (fun _ hr c => ⟨(hr.1 c).1.trans (gathered_eq m _ h), (hr.1 c).2⟩) (run_main (F := Bits) m g),
    (θ_run Cert.SmallBlocksIdeal.defs _ _).mono (fun _ hr => hr.1 0) (run_whole (F := Bits) m' g')⟩

end Cert.Proof.Small

end
-- ==== Proof.Ada.lean ====
/-
  The all-gather of the conditioning rows.
-/
module
public import proofs.«01_k».proof.Proof.Rows
public import Idealize.ShloMosaic.Lib.Transfers
public import Idealize.ShloMosaic.Lib.Pipeline.RegionArrays
public import Idealize.ShloMosaic.Lib.Quiescent
public import proofs.«01_k».proof.Proof.Gen.GatherAdaIdeal
public import proofs.«01_k».proof.Proof.Gen.GatherAdaIdeal.Skeleton
public import proofs.«01_k».proof.Proof.Gen.GatherAdaIdeal.Launch
@[expose] public section
set_option Elab.async false
noncomputable section
namespace Cert.Proof.Ada
open Cert.GatherAdaIdeal Cert.GatherAdaIdeal.Gen
open Idealize.ShloMosaic Idealize.ShloMosaic.TcCoe
open Idealize.ShloMosaic.Pipeline (ownSems0 launchCred)
open Idealize.SL Idealize.SL.RA Idealize.SL.BI
open scoped Idealize.SL.BI
open Idealize.SL.BI.BIBase Idealize.SL.BI.Laws Idealize.SL.ProofMode Idealize.SL.Sem
variable {F : FTy → Type} [FloatOps F]

/-- The device that copy `k` of device `c` goes to. -/
noncomputable def peer : Fin 7 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩

theorem peer_peer : ∀ k c, peer k (peer k c) = c := by decide +kernel

noncomputable def semOf : Fin 7 ⊕ Fin 7 ⊕ Unit → DmaSem sig
  | .inl k => ⟨k.val, show k.val < 15 by omega⟩
  | .inr (.inl k) => ⟨7 + k.val, show 7 + k.val < 15 by omega⟩
  | .inr (.inr _) => ⟨14, show 14 < 15 by omega⟩

theorem semOf_inj : Function.Injective semOf := by decide +kernel

abbrev xM : Memref sig .tc .hbm S8x1792 .f32 := Memref.whole main_arg0
abbrev oM : Memref sig .tc .hbm S8x8x1792 .f32 := Memref.whole main_v1

noncomputable def row (c : Dev nD) : Memref sig .tc .hbm S8x1792 .f32 :=
  (oM.slice (Rect.unit (s := S8x8x1792) (k0_off1 c) S1x8x1792.size (k0_off1_inb c)) (fun _ => rfl)).squeeze S8x1792 squeezes_S1x8x1792_S8x1792

noncomputable def X : Xch nD τ sig 7 .hbm .hbm S8x1792 .f32 where
  own _ := xM
  src _ _ := xM
  dst := row
  peer := peer
  peer_peer := peer_peer
  sem := semOf
  sem_inj := semOf_inj
  wown _ := (Memref.isWhole_whole _).wordExact
  wsrc _ _ := (Memref.isWhole_whole _).wordExact
  wdst c := (View.wordExact_bits rfl).reshape _ _
  shared _ := rfl
  typedL _ := ⟨Or.inl rfl, trivial⟩
  typedR _ _ := ⟨⟨rfl, Or.inl rfl⟩, trivial⟩
  N := View.dmaCredit xM.view
  N_pos := View.dmaCredit_pos _ (by decide)
  cred_dst _ := rfl
  cred_src _ _ := rfl
  qo := Transfers.shareDrop fullShare 7
  q := Transfers.shareTok fullShare 7

set_option maxRecDepth 4096 in
theorem body_eq : (cc0_gather_ada (F := F) (Memref.whole main_arg0) (Memref.isWhole_whole _) (Memref.whole main_v1) (Memref.isWhole_whole _) cc0_scratch0 cc0_scratch1 cc0_scratch2)
    = .op .deviceId fun c => X.body [0, 1, 2, 3, 4, 5, 6] c := rfl

/-! ## The rows of the result -/

theorem everyone : Everyone peer := by decide +kernel

theorem off1 : ∀ c : Dev nD, k0_off1 c = ![c.val, 0, 0] := by decide +kernel

/-- Element `x` of row `a` lies in the result at `(a, x)`. -/
theorem row_emb (a : Dev nD) (x : S8x1792.Idx) : (row a).view.emb x = (Fin.cons (show Fin 8 from a) x : S8x8x1792.Idx) := by
  show (Rect.unit (s := S8x8x1792) (k0_off1 a) S1x8x1792.size (k0_off1_inb a)).emb (Shape.reshapeEquiv _ x) = _
  rw [Shape.reshapeEquiv_cons_one]
  funext b
  apply Fin.ext
  refine Fin.cases ?_ (fun b => ?_) b
  · show k0_off1 a 0 + 1 * 0 = a.val
    rw [off1]; rfl
  · show k0_off1 a b.succ + 1 * (x b).val = (x b).val
    rw [off1]; fin_cases b <;> simp

/-- Row `a`'s elements. -/
noncomputable def rowSet (a : Dev nD) : Finset S8x8x1792.Idx := (row a).view.set

theorem mem_row (a : Dev nD) (i : S8x8x1792.Idx) : i ∈ rowSet a ↔ (i 0).val = a.val := by
  constructor
  · intro h
    obtain ⟨x, -, rfl⟩ := Finset.mem_map.mp h
    exact congrArg (fun j : S8x8x1792.Idx => (j 0).val) (row_emb a x)
  · intro h
    refine Finset.mem_map.mpr ⟨Fin.tail i, Finset.mem_univ _, (row_emb a (Fin.tail i)).trans ?_⟩
    conv_rhs => rw [← Fin.cons_self_tail i]
    congr 1
    exact Fin.ext h.symm

theorem rows_disjoint (a b : Dev nD) (h : a ≠ b) : Disjoint (rowSet a) (rowSet b) :=
  Finset.disjoint_left.mpr fun i ha hb => h (Fin.ext (((mem_row a i).mp ha).symm.trans ((mem_row b i).mp hb)))

theorem rows_cover : (Finset.univ.biUnion rowSet) = Finset.univ :=
  Finset.eq_univ_iff_forall.mpr fun i => Finset.mem_biUnion.mpr ⟨⟨(i 0).val, (i 0).isLt⟩, Finset.mem_univ _, (mem_row _ i).mpr rfl⟩

/-! ## The run -/

section Run

variable (m : (ℓ : Loc nD τ sig) → Buf (Elt F) ℓ)

local notation "𝕄" => MT nD τ sig Unit (Elt F) ℕ (UU nD τ sig) ℕ

/-- The gathered array: row `a` is device `a`'s argument. -/
noncomputable def gathered : S8x8x1792.Idx → Elt F .f32 := fun i => m (((show Dev nD from i 0).tc : Thread nD τ).loc main_arg0) (Fin.tail i)

/-- What device `b`'s result holds once row `a` has landed. -/
noncomputable def written (b a : Dev nD) : S8x8x1792.Idx → Elt F .f32 :=
  (row a).view.write (Elt F) (m ((b.tc : Thread nD τ).loc main_v1)) (m ((a.tc : Thread nD τ).loc main_arg0)) Finset.univ

theorem written_eq (b a : Dev nD) (i : S8x8x1792.Idx) (hi : i ∈ rowSet a) : written m b a i = gathered m i := by
  obtain ⟨x, -, rfl⟩ := Finset.mem_map.mp hi
  have h1 : written m b a ((row a).view.emb x) = m ((a.tc : Thread nD τ).loc main_arg0) x :=
    View.write_emb_of_mem (v := (row a).view) (Val := Elt F) _ _ (Finset.mem_univ x)
  exact h1.trans (congrArg (gathered m) (row_emb a x)).symm

abbrev order : List (Fin 7) := [0, 1, 2, 3, 4, 5, 6]

theorem srcs_eq (c : Dev nD) : (bigSep Finset.univ fun k => X.srcP m k c : sProp 𝕄)
    = bigSep Finset.univ fun k : Fin 7 => (c.tc : Thread nD τ).loc main_arg0 ↦{Transfers.shareTok fullShare 7 k} m ((c.tc : Thread nD τ).loc main_arg0) :=
  BI.bigSep_congr fun k _ => by
    unfold Xch.srcP
    rw [show (X.src k c).view.set = Finset.univ from (Memref.isWhole_whole main_arg0).set_eq_univ]; rfl

theorem own_eq (c : Dev nD) :
    (X.ownP m c : sProp 𝕄) = ((c.tc : Thread nD τ).loc main_arg0 ↦{Transfers.shareDrop fullShare 7} m ((c.tc : Thread nD τ).loc main_arg0)) := by
  unfold Xch.ownP
  rw [show (X.own c).view.set = Finset.univ from (Memref.isWhole_whole main_arg0).set_eq_univ]; rfl

theorem bufs_eq (c : Dev nD) : (X.bufs m c : sProp 𝕄)
    = iprop((((c.tc : Thread nD τ).loc main_arg0 ↦{Transfers.shareDrop fullShare 7} m ((c.tc : Thread nD τ).loc main_arg0))
        ∗ ((c.tc : Thread nD τ).loc main_v1 ↦[rowSet c]{fullShare} m ((c.tc : Thread nD τ).loc main_v1)))
      ∗ (bigSep Finset.univ fun k : Fin 7 => (c.tc : Thread nD τ).loc main_arg0 ↦{Transfers.shareTok fullShare 7 k} m ((c.tc : Thread nD τ).loc main_arg0))
      ∗ bigSep Finset.univ fun k : Fin 7 => (c.tc : Thread nD τ).loc main_v1 ↦[rowSet (peer k c)]{fullShare} m ((c.tc : Thread nD τ).loc main_v1)) := by
  unfold Xch.bufs
  rw [own_eq, srcs_eq]
  rfl

theorem landed_eq (k : Fin 7) (c : Dev nD) :
    (X.landed m k (peer k c) c : sProp 𝕄) = ((c.tc : Thread nD τ).loc main_v1 ↦[rowSet (peer k c)]{fullShare} written m c (peer k c)) := rfl

theorem finish_eq (c : Dev nD) : (X.finish m c : sProp 𝕄)
    = iprop((((c.tc : Thread nD τ).loc main_arg0 ↦{Transfers.shareDrop fullShare 7} m ((c.tc : Thread nD τ).loc main_arg0))
        ∗ ((c.tc : Thread nD τ).loc main_v1 ↦[rowSet c]{fullShare} written m c c))
      ∗ ((bigSep Finset.univ fun k : Fin 7 => (c.tc : Thread nD τ).loc main_arg0 ↦{Transfers.shareTok fullShare 7 k} m ((c.tc : Thread nD τ).loc main_arg0))
        ∗ bigSep Finset.univ fun k : Fin 7 => (c.tc : Thread nD τ).loc main_v1 ↦[rowSet (peer k c)]{fullShare} written m c (peer k c))
      ∗ ownSems0 X.osem c) := by
  unfold Xch.finish
  rw [own_eq, bigSep_sep' (Φ := fun k => X.srcP m k c), srcs_eq]
  rfl

/-- A device's buffers: the argument shared out to the copies, the result row by row. -/
theorem bufs_split (c : Dev nD) :
    (unscopedBufs c (fun b => m ((c.tc : Thread nD τ).loc b)) : sProp 𝕄) ⊢ iprop(X.bufs m c ∗ emp) := by
  have h0 := Pipeline.PerCore.unscopedBufs_split₀ (fun _ : Dev nD => cfgs) 0 c (fun w => w.elim0) (fun b => m ((c.tc : Thread nD τ).loc b))
    (Ix := Unit) (Val := Elt F) (Name := ℕ) (U := UU nD τ sig) (Lvl := ℕ) (τ := τ)
  have h3 := rows_split (Val := Elt F) everyone c (ℓ := (c.tc : Thread nD τ).loc main_v1) rowSet rows_disjoint rows_cover (m ((c.tc : Thread nD τ).loc main_v1))
  have h4 := Transfers.pointsTo_toks_split (Ix := Unit) (Val := Elt F) (Name := ℕ) (U := UU nD τ sig) (Lvl := ℕ) (ℓ := (c.tc : Thread nD τ).loc main_arg0) (S := Finset.univ) (f := m ((c.tc : Thread nD τ).loc main_arg0)) fullShare 7
  rw [h0, unscopedRest0_eq, h3, bufs_eq]
  iintro ⟨-, Ha, Hr, Hp⟩
  ihave Ha := h4 $$ Ha
  icases Ha with ⟨Ha, Hs⟩
  isplitl [Ha Hr Hs Hp]
  · isplitl [Ha Hr]
    · isplitl [Ha] <;> iassumption
    isplitl [Hs] <;> iassumption
  iempintro

/-- The device's buffers after the exchange. -/
abbrev done (c : Dev nD) : sProp 𝕄 :=
  iprop(((c.tc : Thread nD τ).loc main_arg0 ↦{fullShare} m ((c.tc : Thread nD τ).loc main_arg0)) ∗ ((c.tc : Thread nD τ).loc main_v1 ↦{fullShare} gathered m))

theorem finish_done (c : Dev nD) : X.finish m c ⊢ (iprop(done m c ∗ ownSems0 X.osem c) : sProp 𝕄) := by
  have h3 := rows_join (Val := Elt F) everyone c (ℓ := (c.tc : Thread nD τ).loc main_v1) rowSet rows_disjoint rows_cover (written m c) (gathered m) (written_eq m c)
  have h4 := Transfers.pointsTo_toks_join (Ix := Unit) (Val := Elt F) (Name := ℕ) (U := UU nD τ sig) (Lvl := ℕ) (ℓ := (c.tc : Thread nD τ).loc main_arg0) (S := Finset.univ) (f := m ((c.tc : Thread nD τ).loc main_arg0)) fullShare 7
  rw [finish_eq]
  iintro ⟨⟨Ha, Hr⟩, ⟨Hs, Hl⟩, Ho⟩
  isplitr [Ho]
  · isplitl [Ha Hs]
    · iapply h4
      isplitl [Ha] <;> iassumption
    · iapply h3
      isplitl [Hr] <;> iassumption
  iexact Ho

/-! ## The region -/

abbrev adm : Dev nD → (p : Fin 1) → (pcfgs (F := F) p).Adm := fun _ p => (cfgs p).toPCfg_adm

/-- The exchange as the region's proof data: no window, the invariant is the exchange's state. -/
noncomputable def dats (p : Fin 1) (c : Dev nD) : Pipeline.Dat τ (Elt F) Unit ℕ (UU nD τ sig) ℕ (Pipeline.pinD (pcfgs (F := F)) adm c p) c where
  A w := w.elim0
  after w _ := w.elim0
  Φ t := match t with
    | ⟨0, _⟩ => X.start m c
    | ⟨_ + 1, _⟩ => X.finish m c
  q w := w.elim0
  owed t := match t with
    | ⟨0, _⟩ => X.dues c order
    | ⟨_ + 1, _⟩ => 0

theorem arrays_none (c : Dev nD) (A) : ((dats m 0 c).arrays A : sProp 𝕄) = BI.emp := by
  unfold Pipeline.Dat.arrays
  exact BI.bigSep_empty

theorem windows_none (Φ : Fin 0 → sProp 𝕄) : bigSep Finset.univ Φ = BI.emp := BI.bigSep_empty

theorem body_step (c : Dev nD) : Pipeline.BodyObligation (dats m 0 c) (defs₀ (F := F)) Variants.none () Set.univ := fun t => by
  obtain rfl := fin_N0 t
  refine wp_of_eq (defs₀ (F := F)) Variants.none (c.tc : Thread nD τ) body_eq ?_
  rw [wp_deviceId]
  unfold Pipeline.Dat.owesAt Pipeline.owesWithin
  show iprop(X.start m c ∗ (∃ W, ⌜_⌝ ∗ owes (c.tc : Thread nD τ) (X.dues c order) W) ∗ _) ⊢ _
  iintro ⟨HS, ⟨%W, -, HO⟩, -⟩
  iapply (X.wp_body m (defs₀ (F := F)) Variants.none c order (by decide) (by decide) W)
  isplitl [HS]; · iexact HS
  isplitl [HO]; · iexact HO
  iintro ⟨HF, %W', HO⟩
  isplitl [HF]
  · show X.finish m c ⊢ X.finish m c
    exact .rfl
  isplitl [HO]
  · iexists W'
    isplitr; · ipureintro; exact fun _ _ => Or.inl trivial
    iexact HO
  rw [windows_none]
  iempintro

/-- The exchange as the program's first region. -/
theorem winFacts : Pipeline.WinFacts₀ cfg0.spec := by decide

example : (pcfgs (F := F) 0).W = cfg0.W := rfl
example : (pcfgs (F := F) 0).spec = cfg0.spec := rfl

theorem ownFacts : Pipeline.OwnSemFacts cfg0.spec X.osem := by decide +kernel

noncomputable def region : FirstRegion (pcfgs (F := F)) adm (dats m) () (defs₀ (F := F)) Variants.none 0 where
  win := winFacts
  block_pos w := w.elim0
  stage_whole w := w.elim0
  K := Fin 7 ⊕ Fin 7 ⊕ Unit
  fK := inferInstance
  osem := X.osem
  ho := ⟨ownFacts.1, ownFacts.2, ownFacts.3⟩
  hbody c := (body_step m c).loose
  hwaits c := by
    unfold Pipeline.PerCore.cellsWaits
    exact Entails.of_eq (windows_none _).symm
  pre c := iprop(X.start m c ∗ owes (c.tc : Thread nD τ) (X.dues c order) ∅ ∗ emp)
  post c := iprop(done m c ∗ ∃ W, owes (c.tc : Thread nD τ) 0 W)
  X c := X.start m c
  Y c := done m c
  Z _ := iprop(emp)
  hentry c := by
    rw [arrays_none, Pipeline.prefHeld_of_none _ rfl]
    iintro ⟨HS, HO, -⟩
    imodintro
    isplitr; · iempintro
    isplitr; · iempintro
    isplitl [HO]
    · unfold Pipeline.Dat.owesAt Pipeline.owesWithin
      iexists (∅ : Waits sig Unit)
      isplitr; · ipureintro; exact fun _ _ => Or.inl trivial
      iexact HO
    isplitl [HS]; · iexact HS
    iempintro
  hin c := by
    show iprop(X.start m c ∗ _ ∗ _) ⊢ X.start m c
    iintro ⟨H, -, -⟩
    iexact H
  hout c := by
    show X.finish m c ⊢ _
    refine (finish_done m c).trans ?_
    rw [scopedRest0_eq]
    iintro ⟨H, Ho⟩
    isplitl [H]; · iexact H
    isplitl [Ho]; · iexact Ho
    iempintro
  hexit c := by
    unfold Pipeline.Dat.owesAt Pipeline.owesWithin
    iintro ⟨-, ⟨%W, -, HO⟩, H, -⟩
    imodintro
    isplitl [H]; · iexact H
    iexists W
    iexact HO

theorem cells_inj : Function.Injective (Pipeline.PerCore.cellOf (nD := nD) (τ := τ) (Pipeline.pinD (pcfgs (F := F)) adm)) := cellOf_inj

/-- Every device ends with its argument unchanged and the gathered array as its result, nothing in flight. -/
theorem run_main (g : Dev nD → PrngReg) :
    θ_run (defs (F := F)) (onTc (main (F := F))) ⟨m, fun _ => 0, g⟩ fun r =>
      (∀ c : Dev nD, r.2.mem ((c.tc : Thread nD τ).loc main_v1) = gathered m
        ∧ r.2.mem ((c.tc : Thread nD τ).loc main_arg0) = m ((c.tc : Thread nD τ).loc main_arg0)) ∧ r.2.sem = fun _ => 0 := by
  refine run_first cells_inj EP (fun _ _ => 0) m g main (region m) [] (fun _ => rfl) (List.nodup_singleton _)
    (fun d => X.dues d order) (X.G m)
    (Rounds.initOf (Pipeline.PerCore.cells (Pipeline.pinD (pcfgs (F := F)) adm) cells_inj) (Pipeline.PerCore.launchToks (Pipeline.pinD (pcfgs (F := F)) adm) cells_inj), Rounds.initOf X.cells X.toks) ?_ (X.deal m order (by decide) g (fun _ => iprop(emp)) (bufs_split m))
    (done m) (fun c => BI.Entails.refl _)
    (fun c s => s.mem ((c.tc : Thread nD τ).loc main_v1) = gathered m
        ∧ s.mem ((c.tc : Thread nD τ).loc main_arg0) = m ((c.tc : Thread nD τ).loc main_arg0)) (fun c s' => ?_)
    (fun s h hz => ⟨h, sem_eq_zero_of_scoped (by decide) hz⟩)
  · iintro H
    ihave H := (ownU_pair _ _) $$ H
    icases H with ⟨HP, HX⟩
    imod (X.fund m) $$ HX with HX
    imodintro
    isplitl [HP] <;> iassumption
  · iintro ⟨⟨Ha, Hv⟩, HSI⟩
    ihave H := (read_pt _ _ s') $$ [Ha HSI]
    · isplitl [Ha] <;> iassumption
    icases H with ⟨%ha, HSI⟩
    ihave H := (read_pt _ _ s') $$ [Hv HSI]
    · isplitl [Hv] <;> iassumption
    icases H with ⟨%hv, HSI⟩
    imodintro
    isplitr; · ipureintro; exact ⟨hv, ha⟩
    iexact HSI

end Run

end Cert.Proof.Ada

end
-- ==== Proof.AdaValue.lean ====
/-
  The claims of this all-gather: the gathered array is the whole array reshaped into its eight blocks, and both programs end
  with nothing in flight.
-/
module

public import proofs.«01_k».proof.Defs
public import proofs.«01_k».proof.Proof.Ada
public import proofs.«01_k».proof.Proof.Gen.GatherAda
public import proofs.«01_k».proof.Proof.Gen.AdaBlocksIdeal
public import proofs.«01_k».proof.Proof.Gen.AdaBlocksIdeal.Run
public import proofs.«01_k».proof.Proof.Gen.AdaBlocks

@[expose] public section

set_option Elab.async false

noncomputable section

namespace Cert.Proof.Ada

open Idealize.ShloMosaic Idealize.ShloMosaic.TcCoe Idealize.SL.Sem
open Cert.GatherAdaIdeal Cert.GatherAdaIdeal.Gen

variable {F : FTy → Type} [FloatOps F]

abbrev Whole : Shape := ⟨2, ![64, 1792]⟩

theorem casts : Whole.ShapeCasts S8x8x1792 := by decide

/-- The gathered blocks of an array are the array, reshaped. -/
theorem gathered_eq (m : (ℓ : Loc nD τ sig) → Buf (Elt F) ℓ) (w : Whole.Idx → Elt F .f32)
    (h : ∀ c : Dev nD, m ((c.tc : Thread nD τ).loc main_arg0) = Layout.block ⟨2, ![8, 1792]⟩ Whole 0 8 c w) :
    gathered m = shapeCast S8x8x1792 w casts := by
  funext i
  unfold gathered
  rw [h]
  refine congrArg w (Shape.reshapeEquiv_eq_of_rowMajor _ ?_).symm
  rw [Shape.rowMajor_val_two, Shape.rowMajor_val_three]
  rfl

/-- The reference's run, with nothing in flight. -/
theorem run_whole (m : (ℓ : Loc Cert.AdaBlocksIdeal.nD Cert.AdaBlocksIdeal.τ Cert.AdaBlocksIdeal.sig) → Buf (Elt F) ℓ) (g : Dev Cert.AdaBlocksIdeal.nD → PrngReg) :
    θ_run (Cert.AdaBlocksIdeal.defs (F := F)) (onTc (τ := Cert.AdaBlocksIdeal.τ) (Cert.AdaBlocksIdeal.main (F := F))) ⟨m, fun _ => 0, g⟩ fun r =>
      (∀ c : Dev Cert.AdaBlocksIdeal.nD,
        r.2.mem ((c.tc : Thread Cert.AdaBlocksIdeal.nD Cert.AdaBlocksIdeal.τ).loc Cert.AdaBlocksIdeal.main_v0)
            = shapeCast S8x8x1792 (m ((c.tc : Thread Cert.AdaBlocksIdeal.nD Cert.AdaBlocksIdeal.τ).loc Cert.AdaBlocksIdeal.main_arg0)) casts
          ∧ r.2.mem ((c.tc : Thread Cert.AdaBlocksIdeal.nD Cert.AdaBlocksIdeal.τ).loc Cert.AdaBlocksIdeal.main_arg0)
            = m ((c.tc : Thread Cert.AdaBlocksIdeal.nD Cert.AdaBlocksIdeal.τ).loc Cert.AdaBlocksIdeal.main_arg0))
      ∧ r.2.sem = fun _ => 0 :=
  (θ_run Cert.AdaBlocksIdeal.defs _ _).mono (fun r h => ⟨h, sem_eq_zero_of_no_sems rfl _⟩) (Cert.AdaBlocksIdeal.Value.run m g)

/-! ## The claims -/

theorem quiescent_ideal : Cert.quiescent_GatherAdaIdeal := fun m g _ =>
  (θ_run Cert.GatherAdaIdeal.defs _ _).mono (fun _ h => ⟨fun c => (h.1 c).2, h.2⟩) (run_main (F := Ideal) m g)

theorem quiescent_bits : Cert.quiescent_GatherAda := fun m g _ =>
  (θ_run Cert.GatherAdaIdeal.defs _ _).mono (fun _ h => ⟨fun c => (h.1 c).2, h.2⟩) (run_main (F := Bits) m g)

theorem quiescent_whole_ideal : Cert.quiescent_AdaBlocksIdeal := fun m g _ =>
  (θ_run Cert.AdaBlocksIdeal.defs _ _).mono (fun _ h => ⟨fun c => (h.1 c).2, h.2⟩) (run_whole (F := Ideal) m g)

theorem quiescent_whole_bits : Cert.quiescent_AdaBlocks := fun m g _ =>
  (θ_run Cert.AdaBlocksIdeal.defs _ _).mono (fun _ h => ⟨fun c => (h.1 c).2, h.2⟩) (run_whole (F := Bits) m g)

theorem algebraic : Cert.algebraic_GatherAdaIdeal_AdaBlocksIdeal := fun m g m' g' _ h =>
  ⟨shapeCast S8x8x1792 (m' (((0 : Dev Cert.AdaBlocksIdeal.nD).tc : Thread Cert.AdaBlocksIdeal.nD Cert.AdaBlocksIdeal.τ).loc Cert.AdaBlocksIdeal.main_arg0)) casts,
    (θ_run Cert.GatherAdaIdeal.defs _ _).mono (fun _ hr c => ⟨(hr.1 c).1.trans (gathered_eq m _ h), (hr.1 c).2⟩) (run_main (F := Ideal) m g),
    (θ_run Cert.AdaBlocksIdeal.defs _ _).mono (fun _ hr => hr.1 0) (run_whole (F := Ideal) m' g')⟩

theorem bitexact : Cert.bitexact_GatherAda_AdaBlocks := fun m g m' g' _ h =>
  ⟨shapeCast S8x8x1792 (m' (((0 : Dev Cert.AdaBlocksIdeal.nD).tc : Thread Cert.AdaBlocksIdeal.nD Cert.AdaBlocksIdeal.τ).loc Cert.AdaBlocksIdeal.main_arg0)) casts,
    (θ_run Cert.GatherAdaIdeal.defs _ _).mono (fun _ hr c => ⟨(hr.1 c).1.trans (gathered_eq m _ h), (hr.1 c).2⟩) (run_main (F := Bits) m g),
    (θ_run Cert.AdaBlocksIdeal.defs _ _).mono (fun _ hr => hr.1 0) (run_whole (F := Bits) m' g')⟩

end Cert.Proof.Ada

end
-- ==== Proof.AdaGrad.lean ====
/-
  The gradient of the conditioning weights: on one device a block of 256 columns per grid point, each element the sum
  over the eight rows of the batch of a product of the condition's activation and of the gradient of its image.
-/
module

public import proofs.«01_k».proof.Defs
public import proofs.«01_k».proof.Proof.Gen.AdaGrad
public import proofs.«01_k».proof.Proof.Gen.AdaGradIdeal
public import proofs.«01_k».proof.Proof.Gen.AdaGradIdeal.Frame
public import proofs.«01_k».proof.Proof.Gen.AdaGradIdeal.Value
public import proofs.«01_k».proof.Proof.Gen.ConditionGradIdeal
public import proofs.«01_k».proof.Proof.Gen.ConditionGradIdeal.Run
public import Idealize.ShloMosaic.Lib.Pipeline.ValueKit
public import Idealize.ShloMosaic.Lib.Tactic
public import Idealize.ShloMosaic.Lib.Pointwise.Tactic
public import Idealize.ShloMosaic.Lib.ValueLayout

@[expose] public section

set_option Elab.async false
set_option maxRecDepth 16384

noncomputable section

namespace Cert.Proof.AdaGrad

open Cert.AdaGradIdeal Cert.AdaGradIdeal.Gen
open Idealize.ShloMosaic Idealize.ShloMosaic.TcCoe Idealize.ShloMosaic.Tactic Idealize.SL.Sem
open Idealize.ShloMosaic.Pointwise
open Idealize.ShloMosaic.Pipeline (Dat)

/-! ## One block -/

/-- The activation of one element of the condition. -/
noncomputable def act (x : EReal) : EReal := x * Ideal.logistic x

theorem block (x : Vec Ideal S1024x8 .f32) (d : Vec Ideal S8x256 .f32) (y : S1024x256.Idx) :
    out0_2 x d y = (∑ b : Fin 8, act (x (ix2 (y 0) b)) * d (ix2 b (y 1)) : EReal) := by
  unfold out0_2 act
  rw [Cert.AdaGradIdeal.Value.canon2_eq, Fin.sum_univ_eight]
  pointwise

/-! ## The arrays -/

section Arrays

variable (m : (ℓ : Loc nD τ sig) → Buf (Elt Ideal) ℓ)

abbrev cA (c : Dev nD) : FVec Ideal S8x1024 .f32 := m ((c.tc : Thread nD τ).loc main_arg0)
abbrev dA (c : Dev nD) : FVec Ideal S8x1792 .f32 := m ((c.tc : Thread nD τ).loc main_arg1)

/-- The result. -/
noncomputable def gradA (c : Dev nD) : FVec Ideal S1024x1792 .f32 := fun i =>
  (∑ b : Fin 8, act (cA m c (ix2 b (i 0))) * dA m c (ix2 b (i 1)) : EReal)

/-- The condition as the call is given it. -/
theorem given (c : Dev nD) : V m c main_v0 = transpose S1024x8 [1, 0] (cA m c) transposes_S8x1024_S1024x8_1_0 := by
  show StableHlo.after hostOps0 (fun b => m (c, b)) main_v0 = _
  after_results_simp

theorem starts_0 : ∀ t : Fin cfg0.N, win0_0.index t = ![0, 0] := (by decide +kernel : ∀ t : Fin grid0.N, _)
theorem starts_1 : ∀ t : Fin cfg0.N, win0_1.index t = ![0, (grid0.coords t 0).val] := (by decide +kernel : ∀ t : Fin grid0.N, _)
theorem starts_2 : ∀ t : Fin cfg0.N, win0_2.index t = ![0, (grid0.coords t 0).val] := (by decide +kernel : ∀ t : Fin grid0.N, _)

/-- The array index of element `y` of point `t`'s block. -/
noncomputable def place (t : Fin cfg0.N) (y : S1024x256.Idx) : S1024x1792.Idx := (win0_2.blk t).view.emb y

theorem d_at (c : Dev nD) (t : Fin cfg0.N) (y : S1024x256.Idx) (b : Fin 8) :
    iblk m c 1 t (ix2 b (y 1)) = dA m c (ix2 b (place t y 1)) := by
  refine (congrFun (V_main_arg1 m c) _).trans (congrArg (dA m c) ?_)
  unfold place
  funext a
  apply Fin.ext
  fin_cases a
  · have h0 : ((win0_1.blk t).view.emb (ix2 b (y 1)) 0).val = b.val := by
      blk_simp [starts_1]
    exact h0
  · have h : ((win0_2.blk t).view.emb y 1).val = (grid0.coords t 0).val * 256 + (y 1).val := by blk_simp [starts_2]
    have h0 : ((win0_1.blk t).view.emb (ix2 b (y 1)) 1).val = (grid0.coords t 0).val * 256 + (y 1).val := by
      blk_simp [starts_1]
    exact h0.trans h.symm

theorem c_at (c : Dev nD) (t : Fin cfg0.N) (y : S1024x256.Idx) (b : Fin 8) :
    iblk m c 0 t (ix2 (y 0) b) = cA m c (ix2 b (place t y 0)) := by
  refine (congrFun (given m c) _).trans ?_
  refine (Pointwise.transpose_apply _ _ _ _).trans (congrArg (cA m c) ?_)
  unfold place
  funext a
  apply Fin.ext
  fin_cases a
  · have h0 : ((win0_0.blk t).view.emb (ix2 (y 0) b) 1).val = b.val := by
      blk_simp [starts_0]
    exact h0
  · have h : ((win0_2.blk t).view.emb y 0).val = (y 0).val := by blk_simp [starts_2]
    have h0 : ((win0_0.blk t).view.emb (ix2 (y 0) b) 0).val = (y 0).val := by
      blk_simp [starts_0]
    exact h0.trans h.symm

theorem final (c : Dev nD) : (dats m 0 c).arrAt 2 cfg0.N = gradA m c := by
  refine (dats m 0 c).arrAt_eq_of_covers 2 _ (by decide +kernel) fun t hf y => ?_
  blk_simp
  rw [after0_2]
  refine (block _ _ _).trans ?_
  exact Finset.sum_congr rfl fun b _ => by rw [c_at, d_at]; rfl

end Arrays

/-! ## Against the reference -/

theorem grad_eq (x : FVec Ideal S8x1024 .f32) (d : FVec Ideal S8x1792 .f32) :
    Host.dotGeneral Cert.ConditionGradIdeal.dot_S1024x8_S8x1792_S1024x1792_1_0_0_1_n_n none
      (transpose S1024x8 [1, 0] (mulf x (Host.divf (broadcastInDim S8x1024 ![] Cert.ConditionGradIdeal.Gen.bcast_S_S8x1024 (constant Cert.ConditionGradIdeal.S_ .f32 0x3F800000#32))
        (addf (broadcastInDim S8x1024 ![] Cert.ConditionGradIdeal.Gen.bcast_S_S8x1024 (constant Cert.ConditionGradIdeal.S_ .f32 0x3F800000#32)) (Host.exp (Host.negf x)))))
        Cert.ConditionGradIdeal.Gen.transposes_S8x1024_S1024x8_1_0) d
    = fun i : S1024x1792.Idx => (∑ b : Fin 8, act (x (ix2 b (i 0))) * d (ix2 b (i 1)) : EReal) := by
  funext i
  pointwise [act, Ideal.logistic]

/-! ## The claims -/

theorem bodies_same : @Cert.AdaGrad.defs₀ Bits _ _ = @Cert.AdaGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem defs_same : @Cert.AdaGrad.defs Bits _ _ = @Cert.AdaGradIdeal.defs Bits _ _ :=
  congrArg (Pipeline.defs Cert.AdaGradIdeal.pcfgs) bodies_same

theorem quiescent_bits : Cert.quiescent_AdaGrad := fun m g _ => by
  rw [defs_same]
  exact Cert.AdaGradIdeal.Gen.frame (F := Bits) m g

theorem quiescent_ideal : Cert.quiescent_AdaGradIdeal := fun m g _ => Cert.AdaGradIdeal.Gen.frame (F := Ideal) m g

theorem quiescent_reference : Cert.quiescent_ConditionGradIdeal := fun m g _ =>
  (θ_run Cert.ConditionGradIdeal.defs _ _).mono (fun r h => ⟨fun c => (h c).2, sem_eq_zero_of_no_sems rfl r.2⟩) (Cert.ConditionGradIdeal.Value.run (F := Ideal) m g)

theorem algebraic : Cert.algebraic_AdaGradIdeal_ConditionGradIdeal := fun m g m' g' _ h => by
  refine ⟨gradA m, (θ_run Cert.AdaGradIdeal.defs _ _).mono (fun _ hr c => ?_) (Cert.AdaGradIdeal.Value.run_blocks (F := Ideal) m g),
    (θ_run Cert.ConditionGradIdeal.defs _ _).mono (fun _ hr c => ?_) (Cert.ConditionGradIdeal.Value.run (F := Ideal) m' g')⟩
  · obtain ⟨e0, e⟩ := hr c
    exact ⟨e0.trans (final m c), e⟩
  · obtain ⟨e0, e⟩ := hr c
    obtain ⟨h0, h1⟩ := h c
    rw [h0, h1] at e0
    exact ⟨e0.trans (grad_eq _ _), e⟩

end Cert.Proof.AdaGrad

end
-- ==== Proof.NormGradMath.lean ====
/-
  The derivative of a root-mean-square norm in the extended reals, two ways: with the normed row projected out of the
  gradient, and with the two halves of the derivative of the mean of the squares added.
-/
module

public import Idealize.ShloMosaic.PureOps.Ideal
public import Idealize.ShloMosaic.Lib.IdealHost
public import Mathlib.Algebra.BigOperators.Group.Finset.Basic

@[expose] public section

noncomputable section

namespace Cert.Proof.NormGrad

open Idealize.ShloMosaic

theorem ofBits_width : Ideal.ofBits .f32 0x44800000#32 = ((1024 : ℝ) : EReal) := by
  simp [Ideal.ofBits, Ideal.ieee, -EReal.coe_mul]; norm_num

theorem ofBits_eps : Ideal.ofBits .f32 0x358637BD#32 = ((8796093 / 8796093022208 : ℝ) : EReal) := by
  simp [Ideal.ofBits, Ideal.ieee, -EReal.coe_mul]; norm_num

theorem ofBits_mhalf : Ideal.ofBits .f32 0xBF000000#32 = ((-1 / 2 : ℝ) : EReal) := by
  simp [Ideal.ofBits, Ideal.ieee, -EReal.coe_mul]; norm_num

theorem ofBits_zero : Ideal.ofBits .f32 0x00000000#32 = 0 := by
  simp [Ideal.ofBits, Ideal.ieee]

theorem ofBits_one : Ideal.ofBits .f32 0x3F800000#32 = 1 := Ideal.ofBits_one_f32

theorem square_nonneg (x : EReal) : 0 ≤ x * x := by
  rcases le_total 0 x with h | h
  · exact mul_nonneg h h
  · have := mul_nonneg (EReal.neg_nonneg.2 h) (EReal.neg_nonneg.2 h)
    rwa [neg_mul_neg] at this

theorem sum_mul_coe {n : ℕ} (r : ℝ) (hr : 0 ≤ r) (f : Fin n → EReal) : ∑ j, f j * (r : EReal) = (∑ j, f j) * (r : EReal) := by
  classical
  have h : ∀ s : Finset (Fin n), ∑ j ∈ s, f j * (r : EReal) = (∑ j ∈ s, f j) * (r : EReal) := fun s => by
    induction s using Finset.induction_on with
    | empty => simp
    | insert a s ha ih =>
      rw [Finset.sum_insert ha, Finset.sum_insert ha, ih,
        EReal.right_distrib_of_nonneg_of_ne_top (by exact_mod_cast hr) (EReal.coe_ne_top r)]
  exact h _

theorem twice (k : ℝ) (y : EReal) : (k : EReal) * y + (k : EReal) * y = ((2 * k : ℝ) : EReal) * y := by
  induction y with
  | bot =>
    rcases lt_trichotomy k 0 with h | rfl | h
    · rw [EReal.coe_mul_bot_of_neg h, EReal.coe_mul_bot_of_neg (by linarith)]; rfl
    · simp
    · rw [EReal.coe_mul_bot_of_pos h, EReal.coe_mul_bot_of_pos (by linarith)]; rfl
  | coe y =>
    norm_cast
    ring
  | top =>
    rcases lt_trichotomy k 0 with h | rfl | h
    · rw [EReal.coe_mul_top_of_neg h, EReal.coe_mul_top_of_neg (by linarith)]; rfl
    · simp
    · rw [EReal.coe_mul_top_of_pos h, EReal.coe_mul_top_of_pos (by linarith)]; rfl

/-- The mean of a row's squares, kept off zero. -/
def mean (x : Fin 1024 → EReal) : EReal :=
  Ideal.div (∑ k, x k * x k) ((1024 : ℝ) : EReal) + ((8796093 / 8796093022208 : ℝ) : EReal)

/-- The reciprocal of the norm. -/
def inv (x : Fin 1024 → EReal) : EReal := Ideal.rsqrt (mean x)

theorem mean_cases (x : Fin 1024 → EReal) : mean x = ⊤ ∨ ∃ v : ℝ, 0 < v ∧ mean x = (v : EReal) := by
  have hs : 0 ≤ ∑ k, x k * x k := Finset.sum_nonneg fun k _ => square_nonneg (x k)
  have hd : 0 ≤ Ideal.div (∑ k, x k * x k) ((1024 : ℝ) : EReal) := by
    rw [Ideal.div_coe (by norm_num)]
    exact mul_nonneg hs (by exact_mod_cast (by norm_num : (0 : ℝ) ≤ 1 / 1024))
  unfold mean
  generalize Ideal.div (∑ k, x k * x k) ((1024 : ℝ) : EReal) = q at hd
  induction q with
  | bot => exact absurd hd (by simp)
  | coe q =>
    right
    refine ⟨q + 8796093 / 8796093022208, ?_, by norm_cast⟩
    have : (0 : ℝ) ≤ q := by exact_mod_cast hd
    positivity
  | top => left; rfl

theorem grad_same (x d : Fin 1024 → EReal) (j : Fin 1024) :
    inv x * (d j - x j * inv x * Ideal.div (∑ k, d k * (x k * inv x)) ((1024 : ℝ) : EReal))
    = d j * inv x
      + x j * Ideal.div ((∑ k, x k * d k) * (((-1 / 2 : ℝ) : EReal) * Ideal.div (inv x) (mean x))) ((1024 : ℝ) : EReal)
      + Ideal.div ((∑ k, x k * d k) * (((-1 / 2 : ℝ) : EReal) * Ideal.div (inv x) (mean x))) ((1024 : ℝ) : EReal) * x j := by
  rcases mean_cases x with h | ⟨v, hv, h⟩
  · have hi : inv x = 0 := by rw [inv, h]; rfl
    rw [hi, h]
    have h0 : Ideal.div 0 ⊤ = 0 := by simp [Ideal.div]
    rw [h0, Ideal.div_coe (by norm_num), Ideal.div_coe (by norm_num)]
    simp
  · have hs : 0 < Real.sqrt v := Real.sqrt_pos.2 hv
    have hi : inv x = (((Real.sqrt v)⁻¹ : ℝ) : EReal) := by
      rw [inv, h, Ideal.rsqrt_coe, if_neg hv.not_gt, if_neg hv.ne']
    generalize hr : (Real.sqrt v)⁻¹ = r at hi
    have hr0 : 0 ≤ r := by rw [← hr]; positivity
    have hv' : 1 / v = r * r := by
      rw [← hr, ← mul_inv, Real.mul_self_sqrt hv.le, one_div]
    rw [hi, h, Ideal.div_coe hv.ne', hv', Ideal.div_coe (by norm_num), Ideal.div_coe (by norm_num)]
    have hsum : ∑ k, d k * (x k * (r : EReal)) = (∑ k, x k * d k) * (r : EReal) := by
      rw [← sum_mul_coe r hr0]
      exact Finset.sum_congr rfl fun k _ => by rw [← mul_assoc, mul_comm (d k)]
    rw [hsum]
    generalize ∑ k, x k * d k = S
    generalize x j = X
    generalize d j = D
    rw [sub_eq_add_neg, EReal.left_distrib_of_nonneg_of_ne_top (by exact_mod_cast hr0) (EReal.coe_ne_top r), add_assoc]
    have e1 : (r : EReal) * -(X * r * (S * r * ((1 / 1024 : ℝ) : EReal))) = ((2 * (-(r * r * r) / 2048) : ℝ) : EReal) * (X * S) := by
      rw [mul_neg, ← neg_mul, ← EReal.coe_neg]
      have : (2 * (-(r * r * r) / 2048) : ℝ) = -r * r * r * (1 / 1024) := by ring
      rw [this, EReal.coe_mul, EReal.coe_mul, EReal.coe_mul]
      ac_rfl
    have e2 : X * (S * (((-1 / 2 : ℝ) : EReal) * ((r : EReal) * ((r * r : ℝ) : EReal))) * ((1 / 1024 : ℝ) : EReal))
        = ((-(r * r * r) / 2048 : ℝ) : EReal) * (X * S) := by
      have : (-(r * r * r) / 2048 : ℝ) = (-1 / 2) * r * (r * r) * (1 / 1024) := by ring
      rw [this]
      simp only [EReal.coe_mul]
      ac_rfl
    rw [e1, mul_comm (S * _ * _) X, e2, twice, mul_comm (r : EReal) D]

end Cert.Proof.NormGrad

end
-- ==== Proof.NormGrad.lean ====
/-
  The derivative of the norm and the modulation: on one device a block of 512 rows per grid point, the gradient of each
  row written back at its point, the gradients of the shift, the scale and the norm's weights accumulated over the
  sixteen points in three rows of one block.
-/
module

public import proofs.«01_k».proof.Defs
public import proofs.«01_k».proof.Proof.NormGradMath
public import proofs.«01_k».proof.Proof.Gen.NormGrad
public import proofs.«01_k».proof.Proof.Gen.NormGradIdeal
public import proofs.«01_k».proof.Proof.Gen.NormGradIdeal.Frame
public import proofs.«01_k».proof.Proof.Gen.NormGradIdeal.Value
public import proofs.«01_k».proof.Proof.Gen.InputGradIdeal
public import proofs.«01_k».proof.Proof.Gen.InputGradIdeal.Run
public import Idealize.ShloMosaic.Lib.Pipeline.ValueKit
public import Idealize.ShloMosaic.Lib.Tactic
public import Idealize.ShloMosaic.Lib.Pointwise.Tactic
public import Idealize.ShloMosaic.Lib.ValueLayout
public import Idealize.ShloMosaic.Lib.WritesUnit
public import Idealize.ShloMosaic.Lib.Pipeline.ReadBack
public import Idealize.ShloMosaic.Lib.Tactic.CleanTypes

@[expose] public section

set_option Elab.async false
set_option maxRecDepth 16384

noncomputable section

namespace Cert.Proof.NormGrad

open Cert.NormGradIdeal Cert.NormGradIdeal.Gen
open Idealize.ShloMosaic Idealize.ShloMosaic.TcCoe Idealize.ShloMosaic.Tactic Idealize.SL.Sem
open Idealize.ShloMosaic.Pointwise
open Idealize.ShloMosaic.Pipeline (Dat)

/-! ## One block -/

/-- A row of a block or of the array. -/
abbrev row {n : ℕ} (x : (⟨2, ![n, 1024]⟩ : Shape).Idx → EReal) (r : Fin n) (k : Fin 1024) : EReal := x (ix2 r k)

/-- The gradient of a normed row. -/
abbrev inner {n : ℕ} (d : (⟨2, ![n, 1024]⟩ : Shape).Idx → EReal) (g s : S1x1024.Idx → EReal) (r : Fin n) (k : Fin 1024) : EReal :=
  d (ix2 r k) * (1 + s (ix2 0 k)) * g (ix2 0 k)

/-- The gradient of one element, the residual's added. -/
noncomputable def through {n : ℕ} (d x : (⟨2, ![n, 1024]⟩ : Shape).Idx → EReal) (g s : S1x1024.Idx → EReal)
    (u : (⟨2, ![n, 1024]⟩ : Shape).Idx → EReal) (r : Fin n) (j : Fin 1024) : EReal :=
  u (ix2 r j) + inv (row x r) * (inner d g s r j
    - row x r j * inv (row x r) * Ideal.div (∑ k, inner d g s r k * (row x r k * inv (row x r))) ((1024 : ℝ) : EReal))

/-- What one row adds to the sums: to the shift's, the scale's, the weights'. -/
noncomputable def adds {n : ℕ} (d x : (⟨2, ![n, 1024]⟩ : Shape).Idx → EReal) (g s : S1x1024.Idx → EReal) (k : ℕ) (r : Fin n) (j : Fin 1024) : EReal :=
  if k = 0 then d (ix2 r j)
  else if k = 1 then d (ix2 r j) * (row x r j * inv (row x r) * g (ix2 0 j))
  else if k = 2 then d (ix2 r j) * (1 + s (ix2 0 j)) * (row x r j * inv (row x r))
  else 0

theorem pay5_at (x : Vec Ideal S512x1024 .f32) (r : Fin 512) : k0_pay5 x (ix2 r 0) = inv (row x r) := by
  unfold k0_pay5 inv mean
  rw [← ofBits_width, ← ofBits_eps]
  pointwise

theorem pay6_at (x : Vec Ideal S512x1024 .f32) (r : Fin 512) (j : Fin 1024) :
    k0_pay6 x (ix2 r j) = row x r j * inv (row x r) := by
  unfold k0_pay6
  rw [← pay5_at]
  pointwise

theorem pay7_at (d : Vec Ideal S512x1024 .f32) (s : Vec Ideal S1x1024 .f32) (r : Fin 512) (j : Fin 1024) :
    k0_pay7 d s (ix2 r j) = (d (ix2 r j) * (1 + s (ix2 0 j)) : EReal) := by
  unfold k0_pay7
  rw [← ofBits_one]
  pointwise

theorem pay8_at (x d : Vec Ideal S512x1024 .f32) (g s : Vec Ideal S1x1024 .f32) (u : Vec Ideal S512x1024 .f32)
    (r : Fin 512) (j : Fin 1024) : k0_pay8 x d g s u (ix2 r j) = through d x g s u r j := by
  unfold k0_pay8 through inner
  rw [← ofBits_width]
  pointwise [pay5_at, pay6_at, pay7_at]

theorem pay1_at (d : Vec Ideal S512x1024 .f32) (w : Vec Ideal S1x1024 .f32) (j : Fin 1024) :
    k0_pay1 d w (ix2 0 j) = (w (ix2 0 j) + ∑ r : Fin 512, d (ix2 r j) : EReal) := by
  unfold k0_pay1
  pointwise

theorem pay2_at (d : Vec Ideal S512x1024 .f32) (g : Vec Ideal S1x1024 .f32) (x : Vec Ideal S512x1024 .f32)
    (w : Vec Ideal S1x1024 .f32) (j : Fin 1024) :
    k0_pay2 d g (k0_pay6 x) w (ix2 0 j)
      = (w (ix2 0 j) + ∑ r : Fin 512, d (ix2 r j) * (row x r j * inv (row x r) * g (ix2 0 j)) : EReal) := by
  unfold k0_pay2
  pointwise [pay6_at]

theorem pay3_at (d : Vec Ideal S512x1024 .f32) (s : Vec Ideal S1x1024 .f32) (x : Vec Ideal S512x1024 .f32)
    (w : Vec Ideal S1x1024 .f32) (j : Fin 1024) :
    k0_pay3 (k0_pay6 x) (k0_pay7 d s) w (ix2 0 j)
      = (w (ix2 0 j) + ∑ r : Fin 512, d (ix2 r j) * (1 + s (ix2 0 j)) * (row x r j * inv (row x r)) : EReal) := by
  unfold k0_pay3
  pointwise [pay6_at, pay7_at]

theorem pay4_at (y : S8x1024.Idx) : (k0_pay4 : FVec Ideal S8x1024 .f32) y = (0 : EReal) := by
  unfold k0_pay4
  rw [← ofBits_zero]
  pointwise

/-! ## One point -/

variable (m : (ℓ : Loc nD τ sig) → Buf (Elt Ideal) ℓ)

theorem left_5 (c : Dev nD) (t : Fin cfg0.N) (r : Fin 512) (j : Fin 1024) :
    (outsAt0 m c t.val t.isLt).1 (ix2 r j)
      = through (iblk m c 0 t) (iblk m c 1 t) (iblk m c 2 t) (iblk m c 3 t) (iblk m c 4 t) r j := by
  rw [← pay8_at]
  by_cases h0 : t.val % 16 = 0
  · rw [outsAt0_A m c t h0]
    frame_out
  · rw [outsAt0_B m c t h0]
    frame_out

/-- Three one-row stores over earlier ones, read at an element. -/
theorem rows_at (v : View sig .tc .vmem S8x1024 .f32) (f : v.ty.Contents (Elt Ideal)) (w0 w1 w2 : S1x1024.Idx → EReal)
    (L : List (View.Piece (Elt Ideal) S8x1024 .f32)) (k : Fin 8) (j : Fin 1024) :
    v.read (Elt Ideal) (v.writes (Elt Ideal) f
      (⟨Rect.unit ![2, 0] ![1, 1024] inb_S8x1024_S1x1024_2_0, w2⟩ :: ⟨Rect.unit ![1, 0] ![1, 1024] inb_S8x1024_S1x1024_1_0, w1⟩
        :: ⟨Rect.unit ![0, 0] ![1, 1024] inb_S8x1024_S1x1024_0_0, w0⟩ :: L)) (ix2 k j)
    = (if k.val = 0 then w0 (ix2 0 j) else if k.val = 1 then w1 (ix2 0 j) else if k.val = 2 then w2 (ix2 0 j)
        else v.read (Elt Ideal) (v.writes (Elt Ideal) f L) (ix2 k j) : EReal) := by
  by_cases h2 : k.val = 2
  · rw [if_neg (by omega), if_neg (by omega), if_pos h2]
    exact View.read_writes_cons_rows_of_mem v f _ w2 _ (ix2 k j) (ix2 0 j) rfl (by show k.val = 2 + 0; omega) rfl
  refine (View.read_writes_cons_rows_of_not_mem (o := 2) (W := 1) v f _ w2 _ (ix2 k j) rfl rfl (by show k.val < 2 ∨ 2 + 1 ≤ k.val; omega)).trans ?_
  by_cases h1 : k.val = 1
  · rw [if_neg (by omega), if_pos h1]
    exact View.read_writes_cons_rows_of_mem v f _ w1 _ (ix2 k j) (ix2 0 j) rfl (by show k.val = 1 + 0; omega) rfl
  refine (View.read_writes_cons_rows_of_not_mem (o := 1) (W := 1) v f _ w1 _ (ix2 k j) rfl rfl (by show k.val < 1 ∨ 1 + 1 ≤ k.val; omega)).trans ?_
  by_cases h0 : k.val = 0
  · rw [if_pos h0]
    exact View.read_writes_cons_rows_of_mem v f _ w0 _ (ix2 k j) (ix2 0 j) rfl (by show k.val = 0 + 0; omega) rfl
  rw [if_neg h0, if_neg h1, if_neg h2]
  exact View.read_writes_cons_rows_of_not_mem (o := 0) (W := 1) v f _ w0 _ (ix2 k j) rfl rfl (by show k.val < 0 ∨ 0 + 1 ≤ k.val; omega)

/-- One row of a block, loaded. -/
theorem ld_at (X : Vec Ideal S8x1024 .f32) (k : Fin 8) (inb : ∀ a : Fin 2, (![k.val, 0] : Fin 2 → ℕ) a + (![1, 1024] : Fin 2 → ℕ) a ≤ S8x1024.size a) (j : Fin 1024) :
    View.ld X (Rect.unit (s := S8x1024) ![k.val, 0] ![1, 1024] inb) (ix2 0 j) = X (ix2 k j) := by
  refine congrArg X (funext fun a => Fin.ext ?_)
  fin_cases a
  · show k.val + 1 * 0 = k.val; omega
  · show 0 + 1 * j.val = j.val; omega

theorem sum_adds {n : ℕ} (d x : (⟨2, ![n, 1024]⟩ : Shape).Idx → EReal) (g s : S1x1024.Idx → EReal) (k : ℕ) (j : Fin 1024) (b : EReal) :
    (b + ∑ r, adds d x g s k r j : EReal)
      = (if k = 0 then b + ∑ r, d (ix2 r j) else if k = 1 then b + ∑ r, d (ix2 r j) * (row x r j * inv (row x r) * g (ix2 0 j))
        else if k = 2 then b + ∑ r, d (ix2 r j) * (1 + s (ix2 0 j)) * (row x r j * inv (row x r)) else b : EReal) := by
  unfold adds
  by_cases h0 : k = 0
  · simp only [if_pos h0]
  by_cases h1 : k = 1
  · simp only [if_neg h0, if_pos h1]
  by_cases h2 : k = 2
  · simp only [if_neg h0, if_neg h1, if_pos h2]
  simp only [if_neg h0, if_neg h1, if_neg h2, Finset.sum_const_zero, add_zero]

theorem first_6 (c : Dev nD) (t : Fin cfg0.N) (h0 : t.val % 16 = 0) (k : Fin 8) (j : Fin 1024) :
    (outsAt0 m c t.val t.isLt).2 (ix2 k j)
      = (0 + ∑ r, adds (iblk m c 0 t) (iblk m c 1 t) (iblk m c 2 t) (iblk m c 3 t) k.val r j : EReal) := by
  rw [outsAt0_A m c t h0]
  frame_out
  rw [← View.read_writes_junk_eq_canon (ms0_6 t).view]
  refine (rows_at _ _ _ _ _ _ k j).trans ?_
  rw [sum_adds, pay1_at, pay2_at, pay3_at]
  rw [View.readCov_fill _ _ _ _ _ (by decide), View.readCov_skip _ _ _ _ _ (by decide), View.readCov_fill _ _ _ _ _ (by decide),
    View.readCov_skip _ _ _ _ _ (by decide), View.readCov_skip _ _ _ _ _ (by decide), View.readCov_fill _ _ _ _ _ (by decide)]
  have e0 := ld_at (k0_pay4 (F := Ideal)) 0 inb_S8x1024_S1x1024_0_0 j
  have e1 := ld_at (k0_pay4 (F := Ideal)) 1 inb_S8x1024_S1x1024_1_0 j
  have e2 := ld_at (k0_pay4 (F := Ideal)) 2 inb_S8x1024_S1x1024_2_0 j
  rw [pay4_at] at e0 e1 e2
  have e3 : (ms0_6 t).view.read (Elt Ideal) ((ms0_6 t).view.writes (Elt Ideal) (ms0_6 t).view.junk
      [⟨Rect.unit ![0, 0] ![8, 1024] inb_S8x1024_S8x1024_0_0, k0_pay4 (F := Ideal)⟩]) (ix2 k j) = (0 : EReal) := by
    refine (View.read_writes_cons_rows_of_mem _ _ _ _ _ (ix2 k j) (ix2 k j) rfl (Nat.zero_add _).symm rfl).trans (pay4_at _)
  exact if_congr Iff.rfl (congrArg (· + _) e0) (if_congr Iff.rfl (congrArg (· + _) e1) (if_congr Iff.rfl (congrArg (· + _) e2) e3))

theorem next_6 (c : Dev nD) (t : Fin cfg0.N) (h0 : ¬ t.val % 16 = 0) (k : Fin 8) (j : Fin 1024) :
    (outsAt0 m c t.val t.isLt).2 (ix2 k j)
      = ((outsAt0 m c (t.val - 1) (Nat.lt_of_le_of_lt (Nat.sub_le _ _) t.isLt)).2 (ix2 k j)
          + ∑ r, adds (iblk m c 0 t) (iblk m c 1 t) (iblk m c 2 t) (iblk m c 3 t) k.val r j : EReal) := by
  rw [outsAt0_B m c t h0]
  generalize (outsAt0 m c (t.val - 1) (Nat.lt_of_le_of_lt (Nat.sub_le _ _) t.isLt)).2 = X
  frame_out
  refine (rows_at _ _ _ _ _ _ k j).trans ?_
  rw [sum_adds, pay1_at, pay2_at, pay3_at]
  have e0 := ld_at X 0 inb_S8x1024_S1x1024_0_0 j
  have e1 := ld_at X 1 inb_S8x1024_S1x1024_1_0 j
  have e2 := ld_at X 2 inb_S8x1024_S1x1024_2_0 j
  by_cases k0 : k.val = 0
  · obtain rfl : k = 0 := Fin.ext k0
    rw [if_pos k0, if_pos k0]
    exact congrArg (· + _) e0
  by_cases k1 : k.val = 1
  · obtain rfl : k = 1 := Fin.ext k1
    rw [if_neg k0, if_pos k1, if_neg k0, if_pos k1]
    exact congrArg (· + _) e1
  by_cases k2 : k.val = 2
  · obtain rfl : k = 2 := Fin.ext k2
    rw [if_neg k0, if_neg k1, if_pos k2, if_neg k0, if_neg k1, if_pos k2]
    exact congrArg (· + _) e2
  rw [if_neg k0, if_neg k1, if_neg k2, if_neg k0, if_neg k1, if_neg k2, View.writes_nil]
  exact congrFun (Memref.IsWhole.read_unread _ X) _

/-! ## The arrays -/

abbrev dA (c : Dev nD) : FVec Ideal S8192x1024 .f32 := m ((c.tc : Thread nD τ).loc main_arg0)
abbrev xA (c : Dev nD) : FVec Ideal S8192x1024 .f32 := m ((c.tc : Thread nD τ).loc main_arg1)
abbrev gA (c : Dev nD) : FVec Ideal S1x1024 .f32 := m ((c.tc : Thread nD τ).loc main_arg2)
abbrev sA (c : Dev nD) : FVec Ideal S1x1024 .f32 := m ((c.tc : Thread nD τ).loc main_arg3)
abbrev uA (c : Dev nD) : FVec Ideal S8192x1024 .f32 := m ((c.tc : Thread nD τ).loc main_arg4)

/-- The gradient. -/
noncomputable def gradA (d x : FVec Ideal S8192x1024 .f32) (g s : FVec Ideal S1x1024 .f32) (u : FVec Ideal S8192x1024 .f32) :
    FVec Ideal S8192x1024 .f32 := fun i => through d x g s u (i 0) (i 1)

/-- The sums over all rows. -/
noncomputable def sumsA (d x : FVec Ideal S8192x1024 .f32) (g s : FVec Ideal S1x1024 .f32) : FVec Ideal S8x1024 .f32 :=
  fun i => (0 + ∑ r, adds d x g s (i 0).val r (i 1) : EReal)

theorem starts_0 : ∀ t : Fin cfg0.N, win0_0.index t = ![t.val, 0] := (by decide +kernel : ∀ t : Fin grid0.N, _)
theorem starts_1 : ∀ t : Fin cfg0.N, win0_1.index t = ![t.val, 0] := (by decide +kernel : ∀ t : Fin grid0.N, _)
theorem starts_2 : ∀ t : Fin cfg0.N, win0_2.index t = ![0, 0] := (by decide +kernel : ∀ t : Fin grid0.N, _)
theorem starts_3 : ∀ t : Fin cfg0.N, win0_3.index t = ![0, 0] := (by decide +kernel : ∀ t : Fin grid0.N, _)
theorem starts_4 : ∀ t : Fin cfg0.N, win0_4.index t = ![t.val, 0] := (by decide +kernel : ∀ t : Fin grid0.N, _)
theorem starts_5 : ∀ t : Fin cfg0.N, win0_5.index t = ![t.val, 0] := (by decide +kernel : ∀ t : Fin grid0.N, _)
theorem starts_6 : ∀ t : Fin cfg0.N, win0_6.index t = ![0, 0] := (by decide +kernel : ∀ t : Fin grid0.N, _)

theorem points : cfg0.N = 16 := N_0

/-- The array's row that is row `r` of point `t`'s block. -/
def at_ (t : Fin cfg0.N) (r : Fin 512) : Fin 8192 :=
  ⟨t.val * 512 + r.val, by have := t.isLt; have := r.isLt; have := points; omega⟩

theorem d_at (c : Dev nD) (t : Fin cfg0.N) (r : Fin 512) (j : Fin 1024) : iblk m c 0 t (ix2 r j) = dA m c (ix2 (at_ t r) j) := by
  refine (congrFun (V_main_arg0 m c) _).trans (congrArg (dA m c) (funext fun a => Fin.ext ?_))
  fin_cases a
  · have h : ((win0_0.blk t).view.emb (ix2 r j) 0).val = t.val * 512 + r.val := by blk_simp [starts_0]
    exact h
  · have h : ((win0_0.blk t).view.emb (ix2 r j) 1).val = j.val := by blk_simp [starts_0]
    exact h

theorem x_at (c : Dev nD) (t : Fin cfg0.N) (r : Fin 512) (j : Fin 1024) : iblk m c 1 t (ix2 r j) = xA m c (ix2 (at_ t r) j) := by
  refine (congrFun (V_main_arg1 m c) _).trans (congrArg (xA m c) (funext fun a => Fin.ext ?_))
  fin_cases a
  · have h : ((win0_1.blk t).view.emb (ix2 r j) 0).val = t.val * 512 + r.val := by blk_simp [starts_1]
    exact h
  · have h : ((win0_1.blk t).view.emb (ix2 r j) 1).val = j.val := by blk_simp [starts_1]
    exact h

theorem u_at (c : Dev nD) (t : Fin cfg0.N) (r : Fin 512) (j : Fin 1024) : iblk m c 4 t (ix2 r j) = uA m c (ix2 (at_ t r) j) := by
  refine (congrFun (V_main_arg4 m c) _).trans (congrArg (uA m c) (funext fun a => Fin.ext ?_))
  fin_cases a
  · have h : ((win0_4.blk t).view.emb (ix2 r j) 0).val = t.val * 512 + r.val := by blk_simp [starts_4]
    exact h
  · have h : ((win0_4.blk t).view.emb (ix2 r j) 1).val = j.val := by blk_simp [starts_4]
    exact h

theorem g_at (c : Dev nD) (t : Fin cfg0.N) (j : Fin 1024) : iblk m c 2 t (ix2 0 j) = gA m c (ix2 0 j) := by
  refine (congrFun (V_main_arg2 m c) _).trans (congrArg (gA m c) (funext fun a => Fin.ext ?_))
  fin_cases a
  · have h : ((win0_2.blk t).view.emb (ix2 0 j) 0).val = 0 := by
      blk_simp [starts_2]
      rfl
    exact h
  · have h : ((win0_2.blk t).view.emb (ix2 0 j) 1).val = j.val := by blk_simp [starts_2]
    exact h

theorem s_at (c : Dev nD) (t : Fin cfg0.N) (j : Fin 1024) : iblk m c 3 t (ix2 0 j) = sA m c (ix2 0 j) := by
  refine (congrFun (V_main_arg3 m c) _).trans (congrArg (sA m c) (funext fun a => Fin.ext ?_))
  fin_cases a
  · have h : ((win0_3.blk t).view.emb (ix2 0 j) 0).val = 0 := by
      blk_simp [starts_3]
      rfl
    exact h
  · have h : ((win0_3.blk t).view.emb (ix2 0 j) 1).val = j.val := by blk_simp [starts_3]
    exact h

theorem rows_x (c : Dev nD) (t : Fin cfg0.N) (r : Fin 512) : row (iblk m c 1 t) r = row (xA m c) (at_ t r) :=
  funext fun k => x_at m c t r k

theorem through_at (c : Dev nD) (t : Fin cfg0.N) (r : Fin 512) (j : Fin 1024) :
    through (iblk m c 0 t) (iblk m c 1 t) (iblk m c 2 t) (iblk m c 3 t) (iblk m c 4 t) r j
      = through (dA m c) (xA m c) (gA m c) (sA m c) (uA m c) (at_ t r) j := by
  have hi : inner (iblk m c 0 t) (iblk m c 2 t) (iblk m c 3 t) r = inner (dA m c) (gA m c) (sA m c) (at_ t r) :=
    funext fun k => by unfold inner; rw [d_at, g_at, s_at]
  unfold through
  rw [hi, rows_x, u_at]

theorem adds_at (c : Dev nD) (t : Fin cfg0.N) (k : ℕ) (r : Fin 512) (j : Fin 1024) :
    adds (iblk m c 0 t) (iblk m c 1 t) (iblk m c 2 t) (iblk m c 3 t) k r j
      = adds (dA m c) (xA m c) (gA m c) (sA m c) k (at_ t r) j := by
  unfold adds
  rw [d_at, g_at, s_at, rows_x]

theorem final_5 (c : Dev nD) : (dats m 0 c).arrAt 5 cfg0.N = gradA (dA m c) (xA m c) (gA m c) (sA m c) (uA m c) := by
  refine (dats m 0 c).arrAt_eq_of_covers 5 _ (by decide +kernel) fun t hf y => ?_
  blk_simp
  rw [after0_5]
  have hy : y = ix2 (n0 := 512) (n1 := 1024) (y 0) (y 1) := eq_ix2 y
  refine (congrArg _ hy).trans ((left_5 m c t (y 0) (y 1)).trans ((through_at m c t _ _).trans ?_))
  have e0 : ((win0_5.blk t).view.emb y) 0 = at_ t (y 0) := by
    apply Fin.ext
    show _ = t.val * 512 + (y 0).val
    blk_simp [starts_5]
  have e1 : ((win0_5.blk t).view.emb y) 1 = y 1 := by
    apply Fin.ext
    blk_simp [starts_5]
  unfold gradA
  rw [← e0, ← e1]

theorem final_6 (c : Dev nD) : (dats m 0 c).arrAt 6 cfg0.N = sumsA (dA m c) (xA m c) (gA m c) (sA m c) := by
  refine (dats m 0 c).arrAt_eq_of_after_last 6 t0_15 (by decide +kernel) _ fun j => ?_
  blk_simp
  rw [after0_6]
  have hs := Pipeline.eq_sum_fin_of_reset_step_last (fun n h => ((outsAt0 m c n h).2 j : EReal)) 16 0
    (fun t => ∑ r, adds (iblk m c 0 t) (iblk m c 1 t) (iblk m c 2 t) (iblk m c 3 t) (j 0).val r (j 1))
    (fun t h => (congrArg _ (eq_ix2 j)).trans (first_6 m c t h (j 0) (j 1)))
    (fun t h => (congrArg _ (eq_ix2 j)).trans ((next_6 m c t h (j 0) (j 1)).trans (congrArg (· + _) (congrArg _ (eq_ix2 j).symm))))
    points.le t0_15 (show 15 + 1 = cfg0.N from points.symm)
  refine hs.trans ?_
  have ht := Fin.sum_univ_tiles cfg0.N 512 (N := 8192) (by rw [points])
    (fun r => adds (dA m c) (xA m c) (gA m c) (sA m c) (j 0).val r (j 1))
  refine congrArg (fun z : EReal => 0 + z) (Eq.trans ?_ ht.symm)
  exact Finset.sum_congr rfl fun t _ => Finset.sum_congr rfl fun r _ => adds_at m c t _ r _

/-! ## Against the reference -/

section Reference

variable (m' : (ℓ : Loc Cert.InputGradIdeal.nD Cert.InputGradIdeal.τ Cert.InputGradIdeal.sig) → Buf (Elt Ideal) ℓ)

theorem reference_grad (c : Dev Cert.InputGradIdeal.nD) :
    Cert.InputGradIdeal.Value.res_main_v52 m' c
      = gradA (m' ((c.tc : Thread Cert.InputGradIdeal.nD Cert.InputGradIdeal.τ).loc Cert.InputGradIdeal.main_arg0))
          (m' ((c.tc : Thread Cert.InputGradIdeal.nD Cert.InputGradIdeal.τ).loc Cert.InputGradIdeal.main_arg1))
          (m' ((c.tc : Thread Cert.InputGradIdeal.nD Cert.InputGradIdeal.τ).loc Cert.InputGradIdeal.main_arg2))
          (m' ((c.tc : Thread Cert.InputGradIdeal.nD Cert.InputGradIdeal.τ).loc Cert.InputGradIdeal.main_arg3))
          (m' ((c.tc : Thread Cert.InputGradIdeal.nD Cert.InputGradIdeal.τ).loc Cert.InputGradIdeal.main_arg4)) := by
  unfold Cert.InputGradIdeal.Value.res_main_v52
  generalize m' ((c.tc : Thread Cert.InputGradIdeal.nD Cert.InputGradIdeal.τ).loc Cert.InputGradIdeal.main_arg0) = d
  generalize m' ((c.tc : Thread Cert.InputGradIdeal.nD Cert.InputGradIdeal.τ).loc Cert.InputGradIdeal.main_arg1) = x
  generalize m' ((c.tc : Thread Cert.InputGradIdeal.nD Cert.InputGradIdeal.τ).loc Cert.InputGradIdeal.main_arg2) = g
  generalize m' ((c.tc : Thread Cert.InputGradIdeal.nD Cert.InputGradIdeal.τ).loc Cert.InputGradIdeal.main_arg3) = s
  generalize m' ((c.tc : Thread Cert.InputGradIdeal.nD Cert.InputGradIdeal.τ).loc Cert.InputGradIdeal.main_arg4) = u
  clean_types
  funext i
  obtain ⟨r, j, rfl⟩ : ∃ (r : Fin 8192) (j : Fin 1024), i = ix2 r j := ⟨i 0, i 1, eq_ix2 i⟩
  refine Eq.trans ?_ (congrArg (@HAdd.hAdd EReal EReal EReal _ (u (ix2 r j))) (grad_same (row x r) (inner d g s r) j)).symm
  unfold inner inv mean
  rw [← ofBits_width, ← ofBits_eps, ← ofBits_mhalf, ← ofBits_one]
  pointwise
  rw [Fin.sum_univ_one]

end Reference

/-! ## The claims -/

theorem bodies_same : @Cert.NormGrad.defs₀ Bits _ _ = @Cert.NormGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem defs_same : @Cert.NormGrad.defs Bits _ _ = @Cert.NormGradIdeal.defs Bits _ _ :=
  congrArg (Pipeline.defs Cert.NormGradIdeal.pcfgs) bodies_same

theorem quiescent_bits : Cert.quiescent_NormGrad := fun m g _ => by
  rw [defs_same]
  exact Cert.NormGradIdeal.Gen.frame (F := Bits) m g

theorem quiescent_ideal : Cert.quiescent_NormGradIdeal := fun m g _ => Cert.NormGradIdeal.Gen.frame (F := Ideal) m g

theorem quiescent_reference : Cert.quiescent_InputGradIdeal := fun m g _ =>
  (θ_run Cert.InputGradIdeal.defs _ _).mono (fun r h => ⟨fun c => (h c).2.2, sem_eq_zero_of_no_sems rfl r.2⟩) (Cert.InputGradIdeal.Value.run (F := Ideal) m g)

theorem algebraic : Cert.algebraic_NormGradIdeal_InputGradIdeal := fun m g m' g' _ h => by
  refine ⟨fun c => gradA (dA m c) (xA m c) (gA m c) (sA m c) (uA m c), fun c => sumsA (dA m c) (xA m c) (gA m c) (sA m c),
    (θ_run Cert.NormGradIdeal.defs _ _).mono (fun _ hr c => ?_) (Cert.NormGradIdeal.Value.run_blocks (F := Ideal) m g),
    (θ_run Cert.InputGradIdeal.defs _ _).mono (fun _ hr c => ?_) (Cert.InputGradIdeal.Value.run (F := Ideal) m' g')⟩
  · obtain ⟨e0, e1, e⟩ := hr c
    exact ⟨e0.trans (final_5 m c), e1.trans (final_6 m c), e⟩
  · obtain ⟨e0, e1, e⟩ := hr c
    obtain ⟨h0, h1, h2, h3, h4⟩ := h c
    refine ⟨(e0.trans (reference_grad m' c)).trans (by rw [h0, h1, h2, h3, h4]), e1.trans ?_, e⟩
    rw [h0, h1, h2, h3]
    show _ = sumsA (dA m c) (xA m c) (gA m c) (sA m c)
    unfold dA xA gA sA
    generalize m ((c.tc : Thread nD τ).loc main_arg0) = d
    generalize m ((c.tc : Thread nD τ).loc main_arg1) = x
    generalize m ((c.tc : Thread nD τ).loc main_arg2) = g
    generalize m ((c.tc : Thread nD τ).loc main_arg3) = s
    clean_types
    funext i
    obtain ⟨k, j, rfl⟩ : ∃ (k : Fin 8) (j : Fin 1024), i = ix2 k j := ⟨i 0, i 1, eq_ix2 i⟩
    refine Eq.trans ?_ (sum_adds d x g s k.val j 0).symm
    unfold inv mean
    rw [← ofBits_width, ← ofBits_eps, ← ofBits_one]
    pointwise
    by_cases k0 : k.val = 0
    · rw [dif_pos (by omega), if_pos k0]
    by_cases k1 : k.val = 1
    · rw [dif_neg (by omega), dif_pos (by omega), if_neg k0, if_pos k1]
      exact Finset.sum_congr rfl fun r _ => mul_comm _ _
    by_cases k2 : k.val = 2
    · rw [dif_neg (by omega), dif_neg (by omega), dif_pos (by omega), if_neg k0, if_neg k1, if_pos k2, Fin.sum_univ_one]
      exact Finset.sum_congr rfl fun r _ => mul_comm _ _
    rw [dif_neg (by omega), dif_neg (by omega), dif_neg (by omega), if_neg k0, if_neg k1, if_neg k2]

end Cert.Proof.NormGrad

end
-- ==== Proof.LossGrad.lean ====
/-
  The loss and its derivative: on one device a block of 512 rows per grid point, the gradient of each row written back at
  its point, the gradient of the norm's weights and the loss accumulated over the sixteen points in two rows of one block.
-/
module

public import proofs.«01_k».proof.Defs
public import proofs.«01_k».proof.Proof.NormGradMath
public import proofs.«01_k».proof.Proof.Gen.LossGrad
public import proofs.«01_k».proof.Proof.Gen.LossGradIdeal
public import proofs.«01_k».proof.Proof.Gen.LossGradIdeal.Frame
public import proofs.«01_k».proof.Proof.Gen.LossGradIdeal.Value
public import proofs.«01_k».proof.Proof.Gen.LossDerivativeIdeal
public import proofs.«01_k».proof.Proof.Gen.LossDerivativeIdeal.Run
public import Idealize.ShloMosaic.Lib.Pipeline.ValueKit
public import Idealize.ShloMosaic.Lib.Tactic
public import Idealize.ShloMosaic.Lib.Pointwise.Tactic
public import Idealize.ShloMosaic.Lib.ValueLayout
public import Idealize.ShloMosaic.Lib.WritesUnit
public import Idealize.ShloMosaic.Lib.Pipeline.ReadBack
public import Idealize.ShloMosaic.Lib.Tactic.CleanTypes

@[expose] public section

set_option Elab.async false
set_option maxRecDepth 16384

noncomputable section

namespace Cert.Proof.LossGrad

open Cert.LossGradIdeal Cert.LossGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.NormGrad (inv mean grad_same sum_mul_coe ofBits_width ofBits_eps ofBits_mhalf ofBits_zero ofBits_one)

theorem ofBits_inverse : Ideal.ofBits .f32 0x3A800000#32 = ((1 / 1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- Half of a mean's derivative of a square. -/
theorem half_twice (y : EReal) :
    Ideal.div (((1 / 2 : ℝ) : EReal) * 1) ((1024 : ℝ) : EReal) * (((2 : ℝ) : EReal) * y) = y * ((1 / 1024 : ℝ) : EReal) := by
  rw [Ideal.div_coe (by norm_num), mul_one, ← mul_assoc, ← EReal.coe_mul, ← EReal.coe_mul, mul_comm y]
  norm_num

/-! ## One block -/

/-- A row of a block or of the array. -/
abbrev row {n : ℕ} (x : (⟨2, ![n, 1024]⟩ : Shape).Idx → EReal) (r : Fin n) (k : Fin 1024) : EReal := x (ix2 r k)

/-- The error of one element. -/
noncomputable def err {n : ℕ} (x : (⟨2, ![n, 1024]⟩ : Shape).Idx → EReal) (g : S1x1024.Idx → EReal)
    (y : (⟨2, ![n, 1024]⟩ : Shape).Idx → EReal) (r : Fin n) (j : Fin 1024) : EReal :=
  row x r j * inv (row x r) * g (ix2 0 j) - y (ix2 r j)

/-- The gradient of one normed element, before the norm's weight. -/
noncomputable def slope {n : ℕ} (x : (⟨2, ![n, 1024]⟩ : Shape).Idx → EReal) (g : S1x1024.Idx → EReal)
    (y : (⟨2, ![n, 1024]⟩ : Shape).Idx → EReal) (r : Fin n) (j : Fin 1024) : EReal := err x g y r j * ((1 / 1024 : ℝ) : EReal)

/-- The gradient of one normed element. -/
noncomputable def inner {n : ℕ} (x : (⟨2, ![n, 1024]⟩ : Shape).Idx → EReal) (g : S1x1024.Idx → EReal)
    (y : (⟨2, ![n, 1024]⟩ : Shape).Idx → EReal) (r : Fin n) (j : Fin 1024) : EReal := slope x g y r j * g (ix2 0 j)

/-- The gradient of one element. -/
noncomputable def through {n : ℕ} (x : (⟨2, ![n, 1024]⟩ : Shape).Idx → EReal) (g : S1x1024.Idx → EReal)
    (y : (⟨2, ![n, 1024]⟩ : Shape).Idx → EReal) (r : Fin n) (j : Fin 1024) : EReal :=
  inv (row x r) * (inner x g y r j
    - row x r j * inv (row x r) * Ideal.div (∑ k, inner x g y r k * (row x r k * inv (row x r))) ((1024 : ℝ) : EReal))

/-- The mean of a row's squared errors. -/
noncomputable def miss {n : ℕ} (x : (⟨2, ![n, 1024]⟩ : Shape).Idx → EReal) (g : S1x1024.Idx → EReal)
    (y : (⟨2, ![n, 1024]⟩ : Shape).Idx → EReal) (r : Fin n) : EReal :=
  Ideal.div (∑ k, err x g y r k * err x g y r k) ((1024 : ℝ) : EReal)

/-- What one row adds to the sums: to the weights' gradient, to the loss. -/
noncomputable def adds {n : ℕ} (x : (⟨2, ![n, 1024]⟩ : Shape).Idx → EReal) (g : S1x1024.Idx → EReal)
    (y : (⟨2, ![n, 1024]⟩ : Shape).Idx → EReal) (k : ℕ) (r : Fin n) (j : Fin 1024) : EReal :=
  if k = 0 then slope x g y r j * (row x r j * inv (row x r))
  else if k = 1 then miss x g y r * ((1 / 2 : ℝ) : EReal)
  else 0

theorem pay4_at (x : Vec Ideal S512x1024 .f32) (r : Fin 512) : k0_pay4 x (ix2 r 0) = inv (row x r) := by
  unfold k0_pay4 NormGrad.inv mean
  rw [← ofBits_width, ← ofBits_eps]
  pointwise

theorem pay5_at (x : Vec Ideal S512x1024 .f32) (r : Fin 512) (j : Fin 1024) :
    k0_pay5 x (ix2 r j) = row x r j * inv (row x r) := by
  unfold k0_pay5
  rw [← pay4_at]
  pointwise

theorem pay6_at (x : Vec Ideal S512x1024 .f32) (g : Vec Ideal S1x1024 .f32) (y : Vec Ideal S512x1024 .f32) (r : Fin 512)
    (j : Fin 1024) : k0_pay6 x g y (ix2 r j) = err x g y r j := by
  unfold k0_pay6 err
  pointwise [pay5_at]

theorem pay7_at (x : Vec Ideal S512x1024 .f32) (g : Vec Ideal S1x1024 .f32) (y : Vec Ideal S512x1024 .f32) (r : Fin 512)
    (j : Fin 1024) : k0_pay7 x g y (ix2 r j) = slope x g y r j := by
  unfold k0_pay7 slope
  rw [← ofBits_inverse]
  pointwise [pay6_at]

theorem pay8_at (x : Vec Ideal S512x1024 .f32) (g : Vec Ideal S1x1024 .f32) (y : Vec Ideal S512x1024 .f32)
    (r : Fin 512) (j : Fin 1024) : k0_pay8 x g y (ix2 r j) = through x g y r j := by
  unfold k0_pay8 through inner
  rw [← ofBits_width]
  pointwise [pay4_at, pay5_at, pay7_at]

theorem pay10_at (x : Vec Ideal S512x1024 .f32) (g : Vec Ideal S1x1024 .f32) (y : Vec Ideal S512x1024 .f32)
    (w : Vec Ideal S1x1024 .f32) (j : Fin 1024) :
    k0_pay1 (k0_pay9 w) (k0_pay10 x g y) (ix2 0 j)
      = (w (ix2 0 j) + ∑ r : Fin 512, slope x g y r j * (row x r j * inv (row x r)) : EReal) := by
  unfold k0_pay1 k0_pay9 k0_pay10
  pointwise [pay5_at, pay7_at]

theorem pay2_at (x : Vec Ideal S512x1024 .f32) (g : Vec Ideal S1x1024 .f32) (y : Vec Ideal S512x1024 .f32)
    (w : Vec Ideal S1x1024 .f32) (j : Fin 1024) :
    k0_pay2 (k0_pay6 x g y) w (ix2 0 j)
      = (w (ix2 0 j) + ∑ r : Fin 512, miss x g y r * ((1 / 2 : ℝ) : EReal) : EReal) := by
  rw [sum_mul_coe (1 / 2) (by norm_num) (fun r => miss x g y r), mul_comm (∑ r : Fin 512, miss x g y r)]
  unfold k0_pay2 miss
  rw [← ofBits_width, ← ofBits_half]
  pointwise [pay6_at]
  simp only [Fin.sum_univ_one]

theorem pay3_at (y : S8x1024.Idx) : (k0_pay3 : FVec Ideal S8x1024 .f32) y = (0 : EReal) := by
  unfold k0_pay3
  rw [← ofBits_zero]
  pointwise

/-! ## One point -/

variable (m : (ℓ : Loc nD τ sig) → Buf (Elt Ideal) ℓ)

theorem left_3 (c : Dev nD) (t : Fin cfg0.N) (r : Fin 512) (j : Fin 1024) :
    (outsAt0 m c t.val t.isLt).1 (ix2 r j) = through (iblk m c 0 t) (iblk m c 1 t) (iblk m c 2 t) r j := by
  rw [← pay8_at]
  by_cases h0 : t.val % 16 = 0
  · rw [outsAt0_A m c t h0]
    frame_out
  · rw [outsAt0_B m c t h0]
    frame_out

/-- Two one-row stores over earlier ones, read at an element. -/
theorem rows_at {sg : RefSig} (v : View sg .tc .vmem S8x1024 .f32) (f : v.ty.Contents (Elt Ideal)) (w0 w1 : S1x1024.Idx → EReal)
    (L : List (View.Piece (Elt Ideal) S8x1024 .f32)) (k : Fin 8) (j : Fin 1024) :
    v.read (Elt Ideal) (v.writes (Elt Ideal) f
      (⟨Rect.unit ![1, 0] ![1, 1024] inb_S8x1024_S1x1024_1_0, w1⟩
        :: ⟨Rect.unit ![0, 0] ![1, 1024] inb_S8x1024_S1x1024_0_0, w0⟩ :: L)) (ix2 k j)
    = (if k.val = 0 then w0 (ix2 0 j) else if k.val = 1 then w1 (ix2 0 j)
        else v.read (Elt Ideal) (v.writes (Elt Ideal) f L) (ix2 k j) : EReal) := by
  by_cases h1 : k.val = 1
  · rw [if_neg (by omega), if_pos h1]
    exact View.read_writes_cons_rows_of_mem v f _ w1 _ (ix2 k j) (ix2 0 j) rfl (by show k.val = 1 + 0; omega) rfl
  refine (View.read_writes_cons_rows_of_not_mem (o := 1) (W := 1) v f _ w1 _ (ix2 k j) rfl rfl (by show k.val < 1 ∨ 1 + 1 ≤ k.val; omega)).trans ?_
  by_cases h0 : k.val = 0
  · rw [if_pos h0]
    exact View.read_writes_cons_rows_of_mem v f _ w0 _ (ix2 k j) (ix2 0 j) rfl (by show k.val = 0 + 0; omega) rfl
  rw [if_neg h0, if_neg h1]
  exact View.read_writes_cons_rows_of_not_mem (o := 0) (W := 1) v f _ w0 _ (ix2 k j) rfl rfl (by show k.val < 0 ∨ 0 + 1 ≤ k.val; omega)

/-- One row of a block, loaded. -/
theorem ld_at (X : Vec Ideal S8x1024 .f32) (k : Fin 8) (inb : ∀ a : Fin 2, (![k.val, 0] : Fin 2 → ℕ) a + (![1, 1024] : Fin 2 → ℕ) a ≤ S8x1024.size a) (j : Fin 1024) :
    View.ld X (Rect.unit (s := S8x1024) ![k.val, 0] ![1, 1024] inb) (ix2 0 j) = X (ix2 k j) := by
  refine congrArg X (funext fun a => Fin.ext ?_)
  fin_cases a
  · show k.val + 1 * 0 = k.val; omega
  · show 0 + 1 * j.val = j.val; omega

theorem sum_adds {n : ℕ} (x : (⟨2, ![n, 1024]⟩ : Shape).Idx → EReal) (g : S1x1024.Idx → EReal)
    (y : (⟨2, ![n, 1024]⟩ : Shape).Idx → EReal) (k : ℕ) (j : Fin 1024) (b : EReal) :
    (b + ∑ r, adds x g y k r j : EReal)
      = (if k = 0 then b + ∑ r, slope x g y r j * (row x r j * inv (row x r))
        else if k = 1 then b + ∑ r, miss x g y r * ((1 / 2 : ℝ) : EReal) else b : EReal) := by
  unfold adds
  by_cases h0 : k = 0
  · simp only [if_pos h0]
  by_cases h1 : k = 1
  · simp only [if_neg h0, if_pos h1]
  simp only [if_neg h0, if_neg h1, Finset.sum_const_zero, add_zero]

theorem first_4 (c : Dev nD) (t : Fin cfg0.N) (h0 : t.val % 16 = 0) (k : Fin 8) (j : Fin 1024) :
    (outsAt0 m c t.val t.isLt).2 (ix2 k j)
      = (0 + ∑ r, adds (iblk m c 0 t) (iblk m c 1 t) (iblk m c 2 t) k.val r j : EReal) := by
  rw [outsAt0_A m c t h0]
  frame_out
  rw [← View.read_writes_junk_eq_canon (ms0_4 t).view]
  refine (rows_at _ _ _ _ _ k j).trans ?_
  rw [sum_adds, pay10_at, pay2_at]
  rw [View.readCov_fill _ _ _ _ _ (by decide), View.readCov_skip _ _ _ _ _ (by decide), View.readCov_fill _ _ _ _ _ (by decide)]
  have e0 := ld_at (k0_pay3 (F := Ideal)) 0 inb_S8x1024_S1x1024_0_0 j
  have e1 := ld_at (k0_pay3 (F := Ideal)) 1 inb_S8x1024_S1x1024_1_0 j
  rw [pay3_at] at e0 e1
  have e2 : (ms0_4 t).view.read (Elt Ideal) ((ms0_4 t).view.writes (Elt Ideal) (ms0_4 t).view.junk
      [⟨Rect.unit ![0, 0] ![8, 1024] inb_S8x1024_S8x1024_0_0, k0_pay3 (F := Ideal)⟩]) (ix2 k j) = (0 : EReal) := by
    refine (View.read_writes_cons_rows_of_mem _ _ _ _ _ (ix2 k j) (ix2 k j) rfl (Nat.zero_add _).symm rfl).trans (pay3_at _)
  exact if_congr Iff.rfl (congrArg (· + _) e0) (if_congr Iff.rfl (congrArg (· + _) e1) e2)

theorem next_4 (c : Dev nD) (t : Fin cfg0.N) (h0 : ¬ t.val % 16 = 0) (k : Fin 8) (j : Fin 1024) :
    (outsAt0 m c t.val t.isLt).2 (ix2 k j)
      = ((outsAt0 m c (t.val - 1) (Nat.lt_of_le_of_lt (Nat.sub_le _ _) t.isLt)).2 (ix2 k j)
          + ∑ r, adds (iblk m c 0 t) (iblk m c 1 t) (iblk m c 2 t) k.val r j : EReal) := by
  rw [outsAt0_B m c t h0]
  generalize (outsAt0 m c (t.val - 1) (Nat.lt_of_le_of_lt (Nat.sub_le _ _) t.isLt)).2 = X
  frame_out
  refine (rows_at _ _ _ _ _ k j).trans ?_
  rw [sum_adds, pay10_at, pay2_at]
  have e0 := ld_at X 0 inb_S8x1024_S1x1024_0_0 j
  have e1 := ld_at X 1 inb_S8x1024_S1x1024_1_0 j
  by_cases k0 : k.val = 0
  · obtain rfl : k = 0 := Fin.ext k0
    rw [if_pos k0, if_pos k0]
    exact congrArg (· + _) e0
  by_cases k1 : k.val = 1
  · obtain rfl : k = 1 := Fin.ext k1
    rw [if_neg k0, if_pos k1, if_neg k0, if_pos k1]
    exact congrArg (· + _) e1
  rw [if_neg k0, if_neg k1, if_neg k0, if_neg k1, View.writes_nil]
  exact congrFun (Memref.IsWhole.read_unread _ X) _

/-! ## The arrays -/

abbrev xA (c : Dev nD) : FVec Ideal S8192x1024 .f32 := m ((c.tc : Thread nD τ).loc main_arg0)
abbrev gA (c : Dev nD) : FVec Ideal S1x1024 .f32 := m ((c.tc : Thread nD τ).loc main_arg1)
abbrev yA (c : Dev nD) : FVec Ideal S8192x1024 .f32 := m ((c.tc : Thread nD τ).loc main_arg2)

/-- The gradient. -/
noncomputable def gradA (x : FVec Ideal S8192x1024 .f32) (g : FVec Ideal S1x1024 .f32) (y : FVec Ideal S8192x1024 .f32) :
    FVec Ideal S8192x1024 .f32 := fun i => through x g y (i 0) (i 1)

/-- The sums over all rows. -/
noncomputable def sumsA (x : FVec Ideal S8192x1024 .f32) (g : FVec Ideal S1x1024 .f32) (y : FVec Ideal S8192x1024 .f32) :
    FVec Ideal S8x1024 .f32 := fun i => (0 + ∑ r, adds x g y (i 0).val r (i 1) : EReal)

theorem starts_0 : ∀ t : Fin cfg0.N, win0_0.index t = ![t.val, 0] := (by decide +kernel : ∀ t : Fin grid0.N, _)
theorem starts_1 : ∀ t : Fin cfg0.N, win0_1.index t = ![0, 0] := (by decide +kernel : ∀ t : Fin grid0.N, _)
theorem starts_2 : ∀ t : Fin cfg0.N, win0_2.index t = ![t.val, 0] := (by decide +kernel : ∀ t : Fin grid0.N, _)
theorem starts_3 : ∀ t : Fin cfg0.N, win0_3.index t = ![t.val, 0] := (by decide +kernel : ∀ t : Fin grid0.N, _)
theorem starts_4 : ∀ t : Fin cfg0.N, win0_4.index t = ![0, 0] := (by decide +kernel : ∀ t : Fin grid0.N, _)

theorem points : cfg0.N = 16 := N_0

/-- The array's row that is row `r` of point `t`'s block. -/
def at_ (t : Fin cfg0.N) (r : Fin 512) : Fin 8192 :=
  ⟨t.val * 512 + r.val, by have := t.isLt; have := r.isLt; have := points; omega⟩

theorem x_at (c : Dev nD) (t : Fin cfg0.N) (r : Fin 512) (j : Fin 1024) : iblk m c 0 t (ix2 r j) = xA m c (ix2 (at_ t r) j) := by
  refine (congrFun (V_main_arg0 m c) _).trans (congrArg (xA m c) (funext fun a => Fin.ext ?_))
  fin_cases a
  · have h : ((win0_0.blk t).view.emb (ix2 r j) 0).val = t.val * 512 + r.val := by blk_simp [starts_0]
    exact h
  · have h : ((win0_0.blk t).view.emb (ix2 r j) 1).val = j.val := by blk_simp [starts_0]
    exact h

theorem y_at (c : Dev nD) (t : Fin cfg0.N) (r : Fin 512) (j : Fin 1024) : iblk m c 2 t (ix2 r j) = yA m c (ix2 (at_ t r) j) := by
  refine (congrFun (V_main_arg2 m c) _).trans (congrArg (yA m c) (funext fun a => Fin.ext ?_))
  fin_cases a
  · have h : ((win0_2.blk t).view.emb (ix2 r j) 0).val = t.val * 512 + r.val := by blk_simp [starts_2]
    exact h
  · have h : ((win0_2.blk t).view.emb (ix2 r j) 1).val = j.val := by blk_simp [starts_2]
    exact h

theorem g_at (c : Dev nD) (t : Fin cfg0.N) (j : Fin 1024) : iblk m c 1 t (ix2 0 j) = gA m c (ix2 0 j) := by
  refine (congrFun (V_main_arg1 m c) _).trans (congrArg (gA m c) (funext fun a => Fin.ext ?_))
  fin_cases a
  · have h : ((win0_1.blk t).view.emb (ix2 0 j) 0).val = 0 := by
      blk_simp [starts_1]
      rfl
    exact h
  · have h : ((win0_1.blk t).view.emb (ix2 0 j) 1).val = j.val := by blk_simp [starts_1]
    exact h

theorem rows_x (c : Dev nD) (t : Fin cfg0.N) (r : Fin 512) : row (iblk m c 0 t) r = row (xA m c) (at_ t r) :=
  funext fun k => x_at m c t r k

theorem err_at (c : Dev nD) (t : Fin cfg0.N) (r : Fin 512) :
    err (iblk m c 0 t) (iblk m c 1 t) (iblk m c 2 t) r = err (xA m c) (gA m c) (yA m c) (at_ t r) := by
  funext j
  unfold err
  rw [rows_x, g_at, y_at]

theorem through_at (c : Dev nD) (t : Fin cfg0.N) (r : Fin 512) (j : Fin 1024) :
    through (iblk m c 0 t) (iblk m c 1 t) (iblk m c 2 t) r j = through (xA m c) (gA m c) (yA m c) (at_ t r) j := by
  have hi : inner (iblk m c 0 t) (iblk m c 1 t) (iblk m c 2 t) r = inner (xA m c) (gA m c) (yA m c) (at_ t r) :=
    funext fun k => by unfold inner slope; rw [err_at, g_at]
  unfold through
  rw [hi, rows_x]

theorem adds_at (c : Dev nD) (t : Fin cfg0.N) (k : ℕ) (r : Fin 512) (j : Fin 1024) :
    adds (iblk m c 0 t) (iblk m c 1 t) (iblk m c 2 t) k r j = adds (xA m c) (gA m c) (yA m c) k (at_ t r) j := by
  unfold adds slope miss
  rw [err_at, rows_x]

theorem final_3 (c : Dev nD) : (dats m 0 c).arrAt 3 cfg0.N = gradA (xA m c) (gA m c) (yA m c) := by
  refine (dats m 0 c).arrAt_eq_of_covers 3 _ (by decide +kernel) fun t hf y => ?_
  blk_simp
  rw [after0_3]
  have hy : y = ix2 (n0 := 512) (n1 := 1024) (y 0) (y 1) := eq_ix2 y
  refine (congrArg _ hy).trans ((left_3 m c t (y 0) (y 1)).trans ((through_at m c t _ _).trans ?_))
  have e0 : ((win0_3.blk t).view.emb y) 0 = at_ t (y 0) := by
    apply Fin.ext
    show _ = t.val * 512 + (y 0).val
    blk_simp [starts_3]
  have e1 : ((win0_3.blk t).view.emb y) 1 = y 1 := by
    apply Fin.ext
    blk_simp [starts_3]
  unfold gradA
  rw [← e0, ← e1]

theorem final_4 (c : Dev nD) : (dats m 0 c).arrAt 4 cfg0.N = sumsA (xA m c) (gA m c) (yA m c) := by
  refine (dats m 0 c).arrAt_eq_of_after_last 4 t0_15 (by decide +kernel) _ fun j => ?_
  blk_simp
  rw [after0_4]
  have hs := Pipeline.eq_sum_fin_of_reset_step_last (fun n h => ((outsAt0 m c n h).2 j : EReal)) 16 0
    (fun t => ∑ r, adds (iblk m c 0 t) (iblk m c 1 t) (iblk m c 2 t) (j 0).val r (j 1))
    (fun t h => (congrArg _ (eq_ix2 j)).trans (first_4 m c t h (j 0) (j 1)))
    (fun t h => (congrArg _ (eq_ix2 j)).trans ((next_4 m c t h (j 0) (j 1)).trans (congrArg (· + _) (congrArg _ (eq_ix2 j).symm))))
    points.le t0_15 (show 15 + 1 = cfg0.N from points.symm)
  refine hs.trans ?_
  have ht := Fin.sum_univ_tiles cfg0.N 512 (N := 8192) (by rw [points])
    (fun r => adds (xA m c) (gA m c) (yA m c) (j 0).val r (j 1))
  refine congrArg (fun z : EReal => 0 + z) (Eq.trans ?_ ht.symm)
  exact Finset.sum_congr rfl fun t _ => Finset.sum_congr rfl fun r _ => adds_at m c t _ r _

/-! ## Against the reference -/

section Reference

/-- The gradient of one normed element as the derivatives of the square, the mean and the half multiply up. -/
noncomputable def chain {n : ℕ} (x : (⟨2, ![n, 1024]⟩ : Shape).Idx → EReal) (g : S1x1024.Idx → EReal)
    (y : (⟨2, ![n, 1024]⟩ : Shape).Idx → EReal) (r : Fin n) (j : Fin 1024) : EReal :=
  Ideal.div (((1 / 2 : ℝ) : EReal) * 1) ((1024 : ℝ) : EReal) * (((2 : ℝ) : EReal) * err x g y r j)

theorem slope_chain {n : ℕ} (x : (⟨2, ![n, 1024]⟩ : Shape).Idx → EReal) (g : S1x1024.Idx → EReal)
    (y : (⟨2, ![n, 1024]⟩ : Shape).Idx → EReal) : slope x g y = chain x g y :=
  funext fun r => funext fun j => (half_twice (err x g y r j)).symm

variable (m' : (ℓ : Loc Cert.LossDerivativeIdeal.nD Cert.LossDerivativeIdeal.τ Cert.LossDerivativeIdeal.sig) → Buf (Elt Ideal) ℓ)

theorem reference_grad (c : Dev Cert.LossDerivativeIdeal.nD) :
    Cert.LossDerivativeIdeal.Value.res_main_v51 m' c
      = gradA (m' ((c.tc : Thread Cert.LossDerivativeIdeal.nD Cert.LossDerivativeIdeal.τ).loc Cert.LossDerivativeIdeal.main_arg0))
          (m' ((c.tc : Thread Cert.LossDerivativeIdeal.nD Cert.LossDerivativeIdeal.τ).loc Cert.LossDerivativeIdeal.main_arg1))
          (m' ((c.tc : Thread Cert.LossDerivativeIdeal.nD Cert.LossDerivativeIdeal.τ).loc Cert.LossDerivativeIdeal.main_arg2)) := by
  unfold Cert.LossDerivativeIdeal.Value.res_main_v51
  generalize m' ((c.tc : Thread Cert.LossDerivativeIdeal.nD Cert.LossDerivativeIdeal.τ).loc Cert.LossDerivativeIdeal.main_arg0) = x
  generalize m' ((c.tc : Thread Cert.LossDerivativeIdeal.nD Cert.LossDerivativeIdeal.τ).loc Cert.LossDerivativeIdeal.main_arg1) = g
  generalize m' ((c.tc : Thread Cert.LossDerivativeIdeal.nD Cert.LossDerivativeIdeal.τ).loc Cert.LossDerivativeIdeal.main_arg2) = y
  clean_types
  funext i
  obtain ⟨r, j, rfl⟩ : ∃ (r : Fin 8192) (j : Fin 1024), i = ix2 r j := ⟨i 0, i 1, eq_ix2 i⟩
  refine Eq.trans ?_ (grad_same (row x r) (inner x g y r) j).symm
  unfold inner
  rw [slope_chain]
  unfold chain err NormGrad.inv mean
  rw [← ofBits_width, ← ofBits_eps, ← ofBits_mhalf, ← ofBits_half, ← ofBits_two, ← ofBits_one]
  pointwise
  rw [Fin.sum_univ_one]

theorem reference_sums (c : Dev Cert.LossDerivativeIdeal.nD) :
    Cert.LossDerivativeIdeal.Value.res_main_v55 m' c
      = sumsA (m' ((c.tc : Thread Cert.LossDerivativeIdeal.nD Cert.LossDerivativeIdeal.τ).loc Cert.LossDerivativeIdeal.main_arg0))
          (m' ((c.tc : Thread Cert.LossDerivativeIdeal.nD Cert.LossDerivativeIdeal.τ).loc Cert.LossDerivativeIdeal.main_arg1))
          (m' ((c.tc : Thread Cert.LossDerivativeIdeal.nD Cert.LossDerivativeIdeal.τ).loc Cert.LossDerivativeIdeal.main_arg2)) := by
  unfold Cert.LossDerivativeIdeal.Value.res_main_v55
  generalize m' ((c.tc : Thread Cert.LossDerivativeIdeal.nD Cert.LossDerivativeIdeal.τ).loc Cert.LossDerivativeIdeal.main_arg0) = x
  generalize m' ((c.tc : Thread Cert.LossDerivativeIdeal.nD Cert.LossDerivativeIdeal.τ).loc Cert.LossDerivativeIdeal.main_arg1) = g
  generalize m' ((c.tc : Thread Cert.LossDerivativeIdeal.nD Cert.LossDerivativeIdeal.τ).loc Cert.LossDerivativeIdeal.main_arg2) = y
  clean_types
  funext i
  obtain ⟨k, j, rfl⟩ : ∃ (k : Fin 8) (j : Fin 1024), i = ix2 k j := ⟨i 0, i 1, eq_ix2 i⟩
  refine Eq.trans ?_ (sum_adds x g y k.val j 0).symm
  rw [slope_chain, sum_mul_coe (1 / 2) (by norm_num) (fun r => miss x g y r), mul_comm (∑ r : Fin 8192, miss x g y r)]
  unfold chain miss err NormGrad.inv mean
  rw [← ofBits_width, ← ofBits_eps, ← ofBits_half, ← ofBits_two, ← ofBits_one]
  pointwise
  by_cases k0 : k.val = 0
  · rw [dif_pos (by omega), if_pos k0, Fin.sum_univ_one]
    exact Finset.sum_congr rfl fun r _ => mul_comm _ _
  by_cases k1 : k.val = 1
  · rw [dif_neg (by omega), dif_pos (by omega), if_neg k0, if_pos k1]
  rw [dif_neg (by omega), dif_neg (by omega), if_neg k0, if_neg k1]

end Reference

/-! ## The claims -/

theorem bodies_same : @Cert.LossGrad.defs₀ Bits _ _ = @Cert.LossGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem defs_same : @Cert.LossGrad.defs Bits _ _ = @Cert.LossGradIdeal.defs Bits _ _ :=
  congrArg (Pipeline.defs Cert.LossGradIdeal.pcfgs) bodies_same

theorem quiescent_bits : Cert.quiescent_LossGrad := fun m g _ => by
  rw [defs_same]
  exact Cert.LossGradIdeal.Gen.frame (F := Bits) m g

theorem quiescent_ideal : Cert.quiescent_LossGradIdeal := fun m g _ => Cert.LossGradIdeal.Gen.frame (F := Ideal) m g

theorem quiescent_reference : Cert.quiescent_LossDerivativeIdeal := fun m g _ =>
  (θ_run Cert.LossDerivativeIdeal.defs _ _).mono (fun r h => ⟨fun c => (h c).2.2, sem_eq_zero_of_no_sems rfl r.2⟩) (Cert.LossDerivativeIdeal.Value.run (F := Ideal) m g)

theorem algebraic : Cert.algebraic_LossGradIdeal_LossDerivativeIdeal := fun m g m' g' _ h => by
  refine ⟨fun c => gradA (xA m c) (gA m c) (yA m c), fun c => sumsA (xA m c) (gA m c) (yA m c),
    (θ_run Cert.LossGradIdeal.defs _ _).mono (fun _ hr c => ?_) (Cert.LossGradIdeal.Value.run_blocks (F := Ideal) m g),
    (θ_run Cert.LossDerivativeIdeal.defs _ _).mono (fun _ hr c => ?_) (Cert.LossDerivativeIdeal.Value.run (F := Ideal) m' g')⟩
  · obtain ⟨e0, e1, e⟩ := hr c
    exact ⟨e0.trans (final_3 m c), e1.trans (final_4 m c), e⟩
  · obtain ⟨e0, e1, e⟩ := hr c
    obtain ⟨h0, h1, h2⟩ := h c
    exact ⟨(e0.trans (reference_grad m' c)).trans (by rw [h0, h1, h2]), (e1.trans (reference_sums m' c)).trans (by rw [h0, h1, h2]), e⟩

end Cert.Proof.LossGrad

end
-- ==== Proof.WeightGrad.lean ====
/-
  The gradient of a large weight: a product contracted over the sequence, on one device a block of 1408 columns at a time,
  accumulated over the sixteen blocks of 512 rows.
-/
module

public import proofs.«01_k».proof.Defs
public import proofs.«01_k».proof.Proof.NormGradMath
public import proofs.«01_k».proof.Proof.Gen.WeightGrad
public import proofs.«01_k».proof.Proof.Gen.WeightGradIdeal
public import proofs.«01_k».proof.Proof.Gen.WeightGradIdeal.Frame
public import proofs.«01_k».proof.Proof.Gen.WeightGradIdeal.Value
public import proofs.«01_k».proof.Proof.Gen.ProductGradIdeal
public import proofs.«01_k».proof.Proof.Gen.ProductGradIdeal.Run
public import Idealize.ShloMosaic.Lib.Pipeline.ValueKit
public import Idealize.ShloMosaic.Lib.Tactic
public import Idealize.ShloMosaic.Lib.Pointwise.Tactic
public import Idealize.ShloMosaic.Lib.ValueLayout

@[expose] public section

set_option Elab.async false
set_option maxRecDepth 16384

noncomputable section

namespace Cert.Proof.WeightGrad

open Cert.WeightGradIdeal Cert.WeightGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.NormGrad (ofBits_zero)

/-! ## One point -/

/-- What one block of 512 rows adds to an element. -/
noncomputable def part (a : Vec Ideal S512x1024 .bf16) (b : Vec Ideal S512x1408 .bf16) (i : S1024x1408.Idx) : EReal :=
  (∑ r : Fin 512, (a (ix2 r (i 0)) : EReal) * b (ix2 r (i 1)) : EReal)

theorem pay2_at (acc : Vec Ideal S1024x1408 .f32) (a : Vec Ideal S512x1024 .bf16) (b : Vec Ideal S512x1408 .bf16)
    (i : S1024x1408.Idx) : k0_pay2 acc a b i = (acc i + part a b i : EReal) := by
  unfold k0_pay2 part
  pointwise

theorem pay1_at (i : S1024x1408.Idx) : (k0_pay1 : FVec Ideal S1024x1408 .f32) i = (0 : EReal) := by
  unfold k0_pay1
  rw [← ofBits_zero]
  pointwise

variable (m : (ℓ : Loc nD τ sig) → Buf (Elt Ideal) ℓ)

theorem first (c : Dev nD) (t : Fin cfg0.N) (h0 : t.val % 16 = 0) (i : S1024x1408.Idx) :
    outsAt0 m c t.val t.isLt i = (0 + part (iblk m c 0 t) (iblk m c 1 t) i : EReal) := by
  rw [outsAt0_A m c t h0, Cert.WeightGradIdeal.Value.out_A_2_eq, pay2_at, pay1_at]

theorem next (c : Dev nD) (t : Fin cfg0.N) (h0 : ¬ t.val % 16 = 0) (i : S1024x1408.Idx) :
    outsAt0 m c t.val t.isLt i
      = (outsAt0 m c (t.val - 1) (Nat.lt_of_le_of_lt (Nat.sub_le _ _) t.isLt) i + part (iblk m c 0 t) (iblk m c 1 t) i : EReal) := by
  rw [outsAt0_B m c t h0, Cert.WeightGradIdeal.Value.out_B_2_eq, pay2_at]

/-! ## The array -/

abbrev aA (c : Dev nD) : FVec Ideal S8192x1024 .bf16 := m ((c.tc : Thread nD τ).loc main_arg0)
abbrev bA (c : Dev nD) : FVec Ideal S8192x2816 .bf16 := m ((c.tc : Thread nD τ).loc main_arg1)

/-- The gradient: the product contracted over all rows. -/
noncomputable def gradA (a : FVec Ideal S8192x1024 .bf16) (b : FVec Ideal S8192x2816 .bf16) : FVec Ideal S1024x2816 .f32 := fun i =>
  (∑ r : Fin 8192, (a (ix2 r (i 0)) : EReal) * b (ix2 r (i 1)) : EReal)

theorem starts_0 : ∀ t : Fin cfg0.N, win0_0.index t = ![t.val % 16, 0] := (by decide +kernel : ∀ t : Fin grid0.N, _)
theorem starts_1 : ∀ t : Fin cfg0.N, win0_1.index t = ![t.val % 16, t.val / 16] := (by decide +kernel : ∀ t : Fin grid0.N, _)
theorem starts_2 : ∀ t : Fin cfg0.N, win0_2.index t = ![0, t.val / 16] := (by decide +kernel : ∀ t : Fin grid0.N, _)

theorem points : cfg0.N = 32 := N_0

/-- The array's row that is row `r` of the `s`-th block of rows. -/
def at_ (s : Fin 16) (r : Fin 512) : Fin 8192 := ⟨s.val * 512 + r.val, by have := s.isLt; have := r.isLt; omega⟩

theorem a_at (c : Dev nD) (t : Fin cfg0.N) (s : Fin 16) (hs : t.val % 16 = s.val) (r : Fin 512) (j : Fin 1024) :
    iblk m c 0 t (ix2 r j) = aA m c (ix2 (at_ s r) j) := by
  refine (congrFun (V_main_arg0 m c) _).trans (congrArg (aA m c) (funext fun a => Fin.ext ?_))
  fin_cases a
  · have h : ((win0_0.blk t).view.emb (ix2 r j) 0).val = t.val % 16 * 512 + r.val := by blk_simp [starts_0]
    rw [hs] at h
    exact h
  · have h : ((win0_0.blk t).view.emb (ix2 r j) 1).val = j.val := by blk_simp [starts_0]
    exact h

theorem b_at (c : Dev nD) (t : Fin cfg0.N) (s : Fin 16) (hs : t.val % 16 = s.val) (r : Fin 512) (j : Fin 1408)
    (l : Fin 2816) (hl : l.val = t.val / 16 * 1408 + j.val) :
    iblk m c 1 t (ix2 r j) = bA m c (ix2 (at_ s r) l) := by
  refine (congrFun (V_main_arg1 m c) _).trans (congrArg (bA m c) (funext fun a => Fin.ext ?_))
  fin_cases a
  · have h : ((win0_1.blk t).view.emb (ix2 r j) 0).val = t.val % 16 * 512 + r.val := by blk_simp [starts_1]
    rw [hs] at h
    exact h
  · have h : ((win0_1.blk t).view.emb (ix2 r j) 1).val = t.val / 16 * 1408 + j.val := by blk_simp [starts_1]
    exact h.trans hl.symm

/-- One point's share, of the arrays. -/
theorem part_at (c : Dev nD) (t : Fin cfg0.N) (s : Fin 16) (hs : t.val % 16 = s.val) (i : S1024x1408.Idx)
    (l : Fin 2816) (hl : l.val = t.val / 16 * 1408 + (i 1).val) :
    part (iblk m c 0 t) (iblk m c 1 t) i
      = (∑ r : Fin 512, (aA m c (ix2 (at_ s r) (i 0)) : EReal) * bA m c (ix2 (at_ s r) l) : EReal) := by
  unfold part
  exact Finset.sum_congr rfl fun r _ => congrArg₂ (fun u v : EReal => u * v) (a_at m c t s hs r (i 0)) (b_at m c t s hs r (i 1) l hl)

theorem after_last (c : Dev nD) (t : Fin cfg0.N) (hm : t.val % 16 = 15) (i : S1024x1408.Idx) (l : Fin 2816)
    (hl : l.val = t.val / 16 * 1408 + (i 1).val) :
    outsAt0 m c t.val t.isLt i = (∑ r : Fin 8192, (aA m c (ix2 r (i 0)) : EReal) * bA m c (ix2 r l) : EReal) := by
  have hf := Pipeline.eq_sum_fin_of_reset_step_apply_of_flush (fun n h => outsAt0 m c n h) 16 (fun _ => (0 : EReal))
    (fun t i => part (iblk m c 0 t) (iblk m c 1 t) i) (fun t h i => first m c t h i) (fun t h i => next m c t h i) t hm i
  refine hf.trans ((zero_add _).trans ?_)
  rw [Fin.sum_univ_tiles (N := 8192) 16 512 rfl]
  refine Finset.sum_congr rfl fun s _ => ?_
  have hs := s.isLt
  exact part_at m c _ s (by show (16 * (t.val / 16) + s.val) % 16 = s.val; omega) i l
    (by show l.val = (16 * (t.val / 16) + s.val) / 16 * 1408 + (i 1).val; omega)

theorem final (c : Dev nD) : (dats m 0 c).arrAt 2 cfg0.N = gradA (aA m c) (bA m c) := by
  refine (dats m 0 c).arrAt_eq_of_covers 2 _ (by decide +kernel) fun t hf y => ?_
  have hm : t.val % 16 = 15 := (flush0_2 t).mp hf
  blk_simp
  rw [after0_2]
  have e0 : ((win0_2.blk t).view.emb y) 0 = y 0 := by
    apply Fin.ext
    blk_simp [starts_2]
  have e1 : (((win0_2.blk t).view.emb y) 1).val = t.val / 16 * 1408 + (y 1).val := by blk_simp [starts_2]
  refine (after_last m c t hm y _ e1).trans ?_
  unfold gradA
  rw [e0]

/-! ## Against the reference -/

theorem reference_grad (a : FVec Ideal S8192x1024 .bf16) (b : FVec Ideal S8192x2816 .bf16) :
    transpose S1024x2816 [1, 0] (Host.dotGeneral Cert.ProductGradIdeal.dot_S8192x2816_S8192x1024_S2816x1024_0_0_1_1_n_n none
      (extf .f32 b Cert.ProductGradIdeal.Gen.bitsLt_bf16_f32) (extf .f32 a Cert.ProductGradIdeal.Gen.bitsLt_bf16_f32))
      Cert.ProductGradIdeal.Gen.transposes_S2816x1024_S1024x2816_1_0 = gradA a b := by
  funext i
  unfold gradA
  pointwise
  exact Finset.sum_congr rfl fun r _ => mul_comm _ _

/-! ## The claims -/

theorem bodies_same : @Cert.WeightGrad.defs₀ Bits _ _ = @Cert.WeightGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem defs_same : @Cert.WeightGrad.defs Bits _ _ = @Cert.WeightGradIdeal.defs Bits _ _ :=
  congrArg (Pipeline.defs Cert.WeightGradIdeal.pcfgs) bodies_same

theorem quiescent_bits : Cert.quiescent_WeightGrad := fun m g _ => by
  rw [defs_same]
  exact Cert.WeightGradIdeal.Gen.frame (F := Bits) m g

theorem quiescent_ideal : Cert.quiescent_WeightGradIdeal := fun m g _ => Cert.WeightGradIdeal.Gen.frame (F := Ideal) m g

theorem quiescent_reference : Cert.quiescent_ProductGradIdeal := fun m g _ =>
  (θ_run Cert.ProductGradIdeal.defs _ _).mono (fun r h => ⟨fun c => (h c).2, sem_eq_zero_of_no_sems rfl r.2⟩) (Cert.ProductGradIdeal.Value.run (F := Ideal) m g)

theorem algebraic : Cert.algebraic_WeightGradIdeal_ProductGradIdeal := fun m g m' g' _ h => by
  refine ⟨fun c => gradA (aA m c) (bA m c),
    (θ_run Cert.WeightGradIdeal.defs _ _).mono (fun _ hr c => ?_) (Cert.WeightGradIdeal.Value.run_blocks (F := Ideal) m g),
    (θ_run Cert.ProductGradIdeal.defs _ _).mono (fun _ hr c => ?_) (Cert.ProductGradIdeal.Value.run (F := Ideal) m' g')⟩
  · obtain ⟨e0, e⟩ := hr c
    exact ⟨e0.trans (final m c), e⟩
  · obtain ⟨e0, e⟩ := hr c
    obtain ⟨h0, h1⟩ := h c
    refine ⟨(e0.trans (reference_grad _ _)).trans ?_, e⟩
    rw [h0, h1]

end Cert.Proof.WeightGrad

end
-- ==== Proof.Ffn.lean ====
/-
  The channel mixer, on one device: the norm and the modulation, the gated product and the product with the gate and the
  residual, three calls one after the other.
-/
module

public import proofs.«01_k».proof.Defs
public import proofs.«01_k».proof.Proof.NormGradMath
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.MixedIdeal
public import proofs.«01_k».proof.Proof.Gen.MixedIdeal.Run
public import Idealize.ShloMosaic.Lib.Pipeline.ValueKit
public import Idealize.ShloMosaic.Lib.Tactic
public import Idealize.ShloMosaic.Lib.Pointwise.Tactic
public import Idealize.ShloMosaic.Lib.ValueLayout
public import Idealize.ShloMosaic.Lib.Tactic.CleanTypes

@[expose] public section

set_option Elab.async false
set_option maxRecDepth 16384

noncomputable section

namespace Cert.Proof.Ffn

open Cert.FfnIdeal Cert.FfnIdeal.Gen
open Idealize.ShloMosaic Idealize.ShloMosaic.TcCoe Idealize.ShloMosaic.Tactic Idealize.SL.Sem
open Idealize.ShloMosaic.Pointwise
open Idealize.ShloMosaic.Pipeline (Dat)
open Cert.Proof.NormGrad (inv mean ofBits_width ofBits_eps ofBits_zero ofBits_one)

/-! ## One element -/

/-- A row of a block or of the array. -/
abbrev row {n : ℕ} (x : (⟨2, ![n, 1024]⟩ : Shape).Idx → EReal) (r : Fin n) (k : Fin 1024) : EReal := x (ix2 r k)

/-- One normed and modulated element. -/
noncomputable def normed {n : ℕ} (x : (⟨2, ![n, 1024]⟩ : Shape).Idx → EReal) (g sh sc : S1x1024.Idx → EReal)
    (r : Fin n) (j : Fin 1024) : EReal :=
  row x r j * inv (row x r) * g (ix2 0 j) * (1 + sc (ix2 0 j)) + sh (ix2 0 j)

/-- One element of a product. -/
noncomputable def prod {n k l : ℕ} (a : (⟨2, ![n, k]⟩ : Shape).Idx → EReal) (w : (⟨2, ![k, l]⟩ : Shape).Idx → EReal)
    (r : Fin n) (j : Fin l) : EReal := ∑ i, a (ix2 r i) * w (ix2 i j)

/-- One gated element. -/
noncomputable def gated (u w : EReal) : EReal := u * Ideal.logistic u * w

/-- One element of the residual with the gated product added. -/
noncomputable def added (x gt p b : EReal) : EReal := x + gt * (p + b)

theorem pay0_at (x : Vec Ideal S512x1024 .f32) (g sc sh : Vec Ideal S1x1024 .f32) (r : Fin 512) (j : Fin 1024) :
    k0_pay1 x g sc sh (ix2 r j) = normed x g sh sc r j := by
  unfold k0_pay1 normed NormGrad.inv mean
  rw [← ofBits_width, ← ofBits_eps, ← ofBits_one]
  pointwise

theorem pay2_at (h : Vec Ideal S512x1024 .bf16) (w : Vec Ideal S1024x1408 .bf16) (b : Vec Ideal S1x1408 .f32)
    (r : Fin 512) (j : Fin 1408) : k1_pay2 h w b (ix2 r j) = (prod h w r j + b (ix2 0 j) : EReal) := by
  unfold k1_pay2 k1_pay1 prod
  pointwise

theorem pay3_at (h : Vec Ideal S512x1024 .bf16) (w : Vec Ideal S1024x1408 .bf16) (b : Vec Ideal S1x1408 .f32)
    (r : Fin 512) (j : Fin 1408) : k1_pay3 h w b (ix2 r j) = (prod h w r j + b (ix2 0 j) : EReal) := by
  unfold k1_pay3 k1_pay1 prod
  pointwise

theorem pay4_at (h : Vec Ideal S512x1024 .bf16) (wa wb : Vec Ideal S1024x1408 .bf16) (ba bb : Vec Ideal S1x1408 .f32)
    (r : Fin 512) (j : Fin 1408) :
    k1_pay4 h wa ba wb bb (ix2 r j) = gated (prod h wa r j + ba (ix2 0 j)) (prod h wb r j + bb (ix2 0 j)) := by
  unfold k1_pay4 gated
  pointwise [pay2_at, pay3_at]

theorem pay5_at (a : Vec Ideal S512x2816 .bf16) (w : Vec Ideal S2816x512 .bf16) (b : Vec Ideal S1x512 .f32)
    (x : Vec Ideal S512x512 .f32) (gt : Vec Ideal S1x512 .f32) (r : Fin 512) (j : Fin 512) :
    k2_pay3 a w b x gt (ix2 r j) = added (x (ix2 r j)) (gt (ix2 0 j)) (prod a w r j) (b (ix2 0 j)) := by
  unfold k2_pay3 k2_pay1 added prod
  pointwise

theorem left_0 (x : Vec Ideal S512x1024 .f32) (g sh sc : Vec Ideal S1x1024 .f32) (r : Fin 512) (j : Fin 1024) :
    out0_4 x g sh sc (ix2 r j) = normed x g sh sc r j := by
  rw [← pay0_at]
  frame_out

theorem left_1 (h : Vec Ideal S512x1024 .bf16) (wa wb : Vec Ideal S1024x1408 .bf16) (ba bb : Vec Ideal S1x1408 .f32)
    (r : Fin 512) (j : Fin 1408) :
    out1_7 h wa wb ba bb (ix2 r j) = gated (prod h wa r j + ba (ix2 0 j)) (prod h wb r j + bb (ix2 0 j)) := by
  rw [← pay4_at]
  frame_out

theorem left_2 (a : Vec Ideal S512x2816 .bf16) (w : Vec Ideal S2816x512 .bf16) (b : Vec Ideal S1x512 .f32)
    (x : Vec Ideal S512x512 .f32) (gt : Vec Ideal S1x512 .f32) (r : Fin 512) (j : Fin 512) :
    out2_5 a w b x gt (ix2 r j) = added (x (ix2 r j)) (gt (ix2 0 j)) (prod a w r j) (b (ix2 0 j)) := by
  rw [← pay5_at]
  frame_out

/-! ## The first call -/

section First

variable (V : (c : Dev nD) → (b : Ref sig .tc) → Buf (Elt Ideal) ((c : Thread nD τ).loc b))

/-- The normed and modulated rows. -/
noncomputable def normedA (x : FVec Ideal S8192x1024 .f32) (g sh sc : FVec Ideal S1x1024 .f32) : FVec Ideal S8192x1024 .bf16 :=
  fun i => normed x g sh sc (i 0) (i 1)

theorem starts0_0 : ∀ t : Fin cfg0.N, win0_0.index t = ![t.val, 0] := (by decide +kernel : ∀ t : Fin grid0.N, _)
theorem starts0_1 : ∀ t : Fin cfg0.N, win0_1.index t = ![0, 0] := (by decide +kernel : ∀ t : Fin grid0.N, _)
theorem starts0_2 : ∀ t : Fin cfg0.N, win0_2.index t = ![0, 0] := (by decide +kernel : ∀ t : Fin grid0.N, _)
theorem starts0_3 : ∀ t : Fin cfg0.N, win0_3.index t = ![0, 0] := (by decide +kernel : ∀ t : Fin grid0.N, _)
theorem starts0_4 : ∀ t : Fin cfg0.N, win0_4.index t = ![t.val, 0] := (by decide +kernel : ∀ t : Fin grid0.N, _)

theorem x0_at (c : Dev nD) (t : Fin cfg0.N) (r : Fin 512) (j : Fin 1024) (l : Fin 8192) (hl : l.val = t.val * 512 + r.val) :
    iblk0 V c 0 t (ix2 r j) = V c main_arg0 (ix2 l j) := by
  refine congrArg (V c main_arg0) (funext fun a => Fin.ext ?_)
  fin_cases a
  · have h : ((win0_0.blk t).view.emb (ix2 r j) 0).val = t.val * 512 + r.val := by blk_simp [starts0_0]
    exact h.trans hl.symm
  · have h : ((win0_0.blk t).view.emb (ix2 r j) 1).val = j.val := by blk_simp [starts0_0]
    exact h

theorem g0_at (c : Dev nD) (t : Fin cfg0.N) (j : Fin 1024) : iblk0 V c 1 t (ix2 0 j) = V c main_arg1 (ix2 0 j) := by
  refine congrArg (V c main_arg1) (funext fun a => Fin.ext ?_)
  fin_cases a
  · have h : ((win0_1.blk t).view.emb (ix2 0 j) 0).val = 0 := by
      blk_simp [starts0_1]
      rfl
    exact h
  · have h : ((win0_1.blk t).view.emb (ix2 0 j) 1).val = j.val := by blk_simp [starts0_1]
    exact h

theorem sh0_at (c : Dev nD) (t : Fin cfg0.N) (j : Fin 1024) : iblk0 V c 2 t (ix2 0 j) = V c main_arg2 (ix2 0 j) := by
  refine congrArg (V c main_arg2) (funext fun a => Fin.ext ?_)
  fin_cases a
  · have h : ((win0_2.blk t).view.emb (ix2 0 j) 0).val = 0 := by
      blk_simp [starts0_2]
      rfl
    exact h
  · have h : ((win0_2.blk t).view.emb (ix2 0 j) 1).val = j.val := by blk_simp [starts0_2]
    exact h

theorem sc0_at (c : Dev nD) (t : Fin cfg0.N) (j : Fin 1024) : iblk0 V c 3 t (ix2 0 j) = V c main_arg3 (ix2 0 j) := by
  refine congrArg (V c main_arg3) (funext fun a => Fin.ext ?_)
  fin_cases a
  · have h : ((win0_3.blk t).view.emb (ix2 0 j) 0).val = 0 := by
      blk_simp [starts0_3]
      rfl
    exact h
  · have h : ((win0_3.blk t).view.emb (ix2 0 j) 1).val = j.val := by blk_simp [starts0_3]
    exact h

theorem normed_at (c : Dev nD) (t : Fin cfg0.N) (r : Fin 512) (j : Fin 1024) (l : Fin 8192) (hl : l.val = t.val * 512 + r.val) :
    normed (iblk0 V c 0 t) (iblk0 V c 1 t) (iblk0 V c 2 t) (iblk0 V c 3 t) r j
      = normed (V c main_arg0) (V c main_arg1) (V c main_arg2) (V c main_arg3) l j := by
  have hx : row (iblk0 V c 0 t) r = row (V c main_arg0) l := funext fun k => x0_at V c t r k l hl
  unfold normed
  rw [hx, g0_at, sh0_at, sc0_at]

theorem final_0 (c : Dev nD) :
    (dat0 V c).arrAt 4 cfg0.N = normedA (V c main_arg0) (V c main_arg1) (V c main_arg2) (V c main_arg3) := by
  refine (dat0 V c).arrAt_eq_of_covers 4 _ (by decide +kernel) fun t hf y => ?_
  blk_simp
  rw [after0_4]
  have hy : y = ix2 (n0 := 512) (n1 := 1024) (y 0) (y 1) := eq_ix2 y
  have e0 : (((win0_4.blk t).view.emb y) 0).val = t.val * 512 + (y 0).val := by blk_simp [starts0_4]
  have e1 : ((win0_4.blk t).view.emb y) 1 = y 1 := by
    apply Fin.ext
    blk_simp [starts0_4]
  refine (congrArg _ hy).trans ((left_0 _ _ _ _ (y 0) (y 1)).trans ((normed_at V c t _ _ _ e0).trans ?_))
  unfold normedA
  rw [← e1]

end First

/-! ## The second call -/

section Second

variable (V : (c : Dev nD) → (b : Ref sig .tc) → Buf (Elt Ideal) ((c : Thread nD τ).loc b))

/-- The gated product. -/
noncomputable def gatedA (h : FVec Ideal S8192x1024 .bf16) (wa wb : FVec Ideal S1024x2816 .bf16) (ba bb : FVec Ideal S1x2816 .f32) :
    FVec Ideal S8192x2816 .bf16 :=
  fun i => gated (prod h wa (i 0) (i 1) + ba (ix2 0 (i 1))) (prod h wb (i 0) (i 1) + bb (ix2 0 (i 1)))

theorem starts1_0 : ∀ t : Fin cfg1.N, win1_0.index t = ![t.val / 2, 0] := (by decide +kernel : ∀ t : Fin grid1.N, _)
theorem starts1_1 : ∀ t : Fin cfg1.N, win1_1.index t = ![0, t.val % 2] := (by decide +kernel : ∀ t : Fin grid1.N, _)
theorem starts1_2 : ∀ t : Fin cfg1.N, win1_2.index t = ![0, t.val % 2] := (by decide +kernel : ∀ t : Fin grid1.N, _)
theorem starts1_3 : ∀ t : Fin cfg1.N, win1_3.index t = ![0, t.val % 2] := (by decide +kernel : ∀ t : Fin grid1.N, _)
theorem starts1_4 : ∀ t : Fin cfg1.N, win1_4.index t = ![0, t.val % 2] := (by decide +kernel : ∀ t : Fin grid1.N, _)
theorem starts1_7 : ∀ t : Fin cfg1.N, win1_7.index t = ![t.val / 2, t.val % 2] := (by decide +kernel : ∀ t : Fin grid1.N, _)

theorem h1_at (c : Dev nD) (t : Fin cfg1.N) (r : Fin 512) (k : Fin 1024) (l : Fin 8192) (hl : l.val = t.val / 2 * 512 + r.val) :
    iblk1 V c 0 t (ix2 r k) = V c main_v0 (ix2 l k) := by
  refine congrArg (V c main_v0) (funext fun a => Fin.ext ?_)
  fin_cases a
  · have h : ((win1_0.blk t).view.emb (ix2 r k) 0).val = t.val / 2 * 512 + r.val := by blk_simp [starts1_0]
    exact h.trans hl.symm
  · have h : ((win1_0.blk t).view.emb (ix2 r k) 1).val = k.val := by blk_simp [starts1_0]
    exact h

theorem wa1_at (c : Dev nD) (t : Fin cfg1.N) (k : Fin 1024) (j : Fin 1408) (l : Fin 2816) (hl : l.val = t.val % 2 * 1408 + j.val) :
    iblk1 V c 1 t (ix2 k j) = V c main_arg5 (ix2 k l) := by
  refine congrArg (V c main_arg5) (funext fun a => Fin.ext ?_)
  fin_cases a
  · have h : ((win1_1.blk t).view.emb (ix2 k j) 0).val = k.val := by blk_simp [starts1_1]
    exact h
  · have h : ((win1_1.blk t).view.emb (ix2 k j) 1).val = t.val % 2 * 1408 + j.val := by blk_simp [starts1_1]
    exact h.trans hl.symm

theorem wb1_at (c : Dev nD) (t : Fin cfg1.N) (k : Fin 1024) (j : Fin 1408) (l : Fin 2816) (hl : l.val = t.val % 2 * 1408 + j.val) :
    iblk1 V c 2 t (ix2 k j) = V c main_arg6 (ix2 k l) := by
  refine congrArg (V c main_arg6) (funext fun a => Fin.ext ?_)
  fin_cases a
  · have h : ((win1_2.blk t).view.emb (ix2 k j) 0).val = k.val := by blk_simp [starts1_2]
    exact h
  · have h : ((win1_2.blk t).view.emb (ix2 k j) 1).val = t.val % 2 * 1408 + j.val := by blk_simp [starts1_2]
    exact h.trans hl.symm

theorem ba1_at (c : Dev nD) (t : Fin cfg1.N) (j : Fin 1408) (l : Fin 2816) (hl : l.val = t.val % 2 * 1408 + j.val) :
    iblk1 V c 3 t (ix2 0 j) = V c main_v1 (ix2 0 l) := by
  refine congrArg (V c main_v1) (funext fun a => Fin.ext ?_)
  fin_cases a
  · have h : ((win1_3.blk t).view.emb (ix2 0 j) 0).val = 0 := by
      blk_simp [starts1_3]
      rfl
    exact h
  · have h : ((win1_3.blk t).view.emb (ix2 0 j) 1).val = t.val % 2 * 1408 + j.val := by blk_simp [starts1_3]
    exact h.trans hl.symm

theorem bb1_at (c : Dev nD) (t : Fin cfg1.N) (j : Fin 1408) (l : Fin 2816) (hl : l.val = t.val % 2 * 1408 + j.val) :
    iblk1 V c 4 t (ix2 0 j) = V c main_v2 (ix2 0 l) := by
  refine congrArg (V c main_v2) (funext fun a => Fin.ext ?_)
  fin_cases a
  · have h : ((win1_4.blk t).view.emb (ix2 0 j) 0).val = 0 := by
      blk_simp [starts1_4]
      rfl
    exact h
  · have h : ((win1_4.blk t).view.emb (ix2 0 j) 1).val = t.val % 2 * 1408 + j.val := by blk_simp [starts1_4]
    exact h.trans hl.symm

theorem gated_at (c : Dev nD) (t : Fin cfg1.N) (r : Fin 512) (j : Fin 1408) (l : Fin 8192) (k : Fin 2816)
    (hl : l.val = t.val / 2 * 512 + r.val) (hk : k.val = t.val % 2 * 1408 + j.val) :
    gated (prod (iblk1 V c 0 t) (iblk1 V c 1 t) r j + iblk1 V c 3 t (ix2 0 j))
        (prod (iblk1 V c 0 t) (iblk1 V c 2 t) r j + iblk1 V c 4 t (ix2 0 j))
      = gated (prod (V c main_v0) (V c main_arg5) l k + V c main_v1 (ix2 0 k))
        (prod (V c main_v0) (V c main_arg6) l k + V c main_v2 (ix2 0 k)) := by
  have ha : prod (iblk1 V c 0 t) (iblk1 V c 1 t) r j = prod (V c main_v0) (V c main_arg5) l k :=
    Finset.sum_congr rfl fun i _ => congrArg₂ (fun u v : EReal => u * v) (h1_at V c t r i l hl) (wa1_at V c t i j k hk)
  have hb : prod (iblk1 V c 0 t) (iblk1 V c 2 t) r j = prod (V c main_v0) (V c main_arg6) l k :=
    Finset.sum_congr rfl fun i _ => congrArg₂ (fun u v : EReal => u * v) (h1_at V c t r i l hl) (wb1_at V c t i j k hk)
  rw [ha, hb, ba1_at V c t j k hk, bb1_at V c t j k hk]

theorem final_1 (c : Dev nD) :
    (dat1 V c).arrAt 7 cfg1.N = gatedA (V c main_v0) (V c main_arg5) (V c main_arg6) (V c main_v1) (V c main_v2) := by
  refine (dat1 V c).arrAt_eq_of_covers 7 _ (by decide +kernel) fun t hf y => ?_
  blk_simp
  rw [after1_7]
  have hy : y = ix2 (n0 := 512) (n1 := 1408) (y 0) (y 1) := eq_ix2 y
  have e0 : (((win1_7.blk t).view.emb y) 0).val = t.val / 2 * 512 + (y 0).val := by blk_simp [starts1_7]
  have e1 : (((win1_7.blk t).view.emb y) 1).val = t.val % 2 * 1408 + (y 1).val := by blk_simp [starts1_7]
  exact (congrArg _ hy).trans ((left_1 _ _ _ _ _ (y 0) (y 1)).trans (gated_at V c t _ _ _ _ e0 e1))

end Second

/-! ## The third call -/

section Third

variable (V : (c : Dev nD) → (b : Ref sig .tc) → Buf (Elt Ideal) ((c : Thread nD τ).loc b))

/-- The product with the gate and the residual. -/
noncomputable def addedA (a : FVec Ideal S8192x2816 .bf16) (w : FVec Ideal S2816x1024 .bf16) (b : FVec Ideal S1x1024 .f32)
    (x : FVec Ideal S8192x1024 .f32) (gt : FVec Ideal S1x1024 .f32) : FVec Ideal S8192x1024 .f32 :=
  fun i => added (x i) (gt (ix2 0 (i 1))) (prod a w (i 0) (i 1)) (b (ix2 0 (i 1)))

theorem starts2_0 : ∀ t : Fin cfg2.N, win2_0.index t = ![t.val / 2, 0] := (by decide +kernel : ∀ t : Fin grid2.N, _)
theorem starts2_1 : ∀ t : Fin cfg2.N, win2_1.index t = ![0, t.val % 2] := (by decide +kernel : ∀ t : Fin grid2.N, _)
theorem starts2_2 : ∀ t : Fin cfg2.N, win2_2.index t = ![0, t.val % 2] := (by decide +kernel : ∀ t : Fin grid2.N, _)
theorem starts2_3 : ∀ t : Fin cfg2.N, win2_3.index t = ![t.val / 2, t.val % 2] := (by decide +kernel : ∀ t : Fin grid2.N, _)
theorem starts2_4 : ∀ t : Fin cfg2.N, win2_4.index t = ![0, t.val % 2] := (by decide +kernel : ∀ t : Fin grid2.N, _)
theorem starts2_5 : ∀ t : Fin cfg2.N, win2_5.index t = ![t.val / 2, t.val % 2] := (by decide +kernel : ∀ t : Fin grid2.N, _)

theorem a2_at (c : Dev nD) (t : Fin cfg2.N) (r : Fin 512) (k : Fin 2816) (l : Fin 8192) (hl : l.val = t.val / 2 * 512 + r.val) :
    iblk2 V c 0 t (ix2 r k) = V c main_v3_2 (ix2 l k) := by
  refine congrArg (V c main_v3_2) (funext fun a => Fin.ext ?_)
  fin_cases a
  · have h : ((win2_0.blk t).view.emb (ix2 r k) 0).val = t.val / 2 * 512 + r.val := by blk_simp [starts2_0]
    exact h.trans hl.symm
  · have h : ((win2_0.blk t).view.emb (ix2 r k) 1).val = k.val := by blk_simp [starts2_0]
    exact h

theorem w2_at (c : Dev nD) (t : Fin cfg2.N) (k : Fin 2816) (j : Fin 512) (l : Fin 1024) (hl : l.val = t.val % 2 * 512 + j.val) :
    iblk2 V c 1 t (ix2 k j) = V c main_arg7 (ix2 k l) := by
  refine congrArg (V c main_arg7) (funext fun a => Fin.ext ?_)
  fin_cases a
  · have h : ((win2_1.blk t).view.emb (ix2 k j) 0).val = k.val := by blk_simp [starts2_1]
    exact h
  · have h : ((win2_1.blk t).view.emb (ix2 k j) 1).val = t.val % 2 * 512 + j.val := by blk_simp [starts2_1]
    exact h.trans hl.symm

theorem b2_at (c : Dev nD) (t : Fin cfg2.N) (j : Fin 512) (l : Fin 1024) (hl : l.val = t.val % 2 * 512 + j.val) :
    iblk2 V c 2 t (ix2 0 j) = V c main_v4 (ix2 0 l) := by
  refine congrArg (V c main_v4) (funext fun a => Fin.ext ?_)
  fin_cases a
  · have h : ((win2_2.blk t).view.emb (ix2 0 j) 0).val = 0 := by
      blk_simp [starts2_2]
      rfl
    exact h
  · have h : ((win2_2.blk t).view.emb (ix2 0 j) 1).val = t.val % 2 * 512 + j.val := by blk_simp [starts2_2]
    exact h.trans hl.symm

theorem x2_at (c : Dev nD) (t : Fin cfg2.N) (r j : Fin 512) (l : Fin 8192) (k : Fin 1024)
    (hl : l.val = t.val / 2 * 512 + r.val) (hk : k.val = t.val % 2 * 512 + j.val) :
    iblk2 V c 3 t (ix2 r j) = V c main_arg0 (ix2 l k) := by
  refine congrArg (V c main_arg0) (funext fun a => Fin.ext ?_)
  fin_cases a
  · have h : ((win2_3.blk t).view.emb (ix2 r j) 0).val = t.val / 2 * 512 + r.val := by blk_simp [starts2_3]
    exact h.trans hl.symm
  · have h : ((win2_3.blk t).view.emb (ix2 r j) 1).val = t.val % 2 * 512 + j.val := by blk_simp [starts2_3]
    exact h.trans hk.symm

theorem gt2_at (c : Dev nD) (t : Fin cfg2.N) (j : Fin 512) (l : Fin 1024) (hl : l.val = t.val % 2 * 512 + j.val) :
    iblk2 V c 4 t (ix2 0 j) = V c main_arg4 (ix2 0 l) := by
  refine congrArg (V c main_arg4) (funext fun a => Fin.ext ?_)
  fin_cases a
  · have h : ((win2_4.blk t).view.emb (ix2 0 j) 0).val = 0 := by
      blk_simp [starts2_4]
      rfl
    exact h
  · have h : ((win2_4.blk t).view.emb (ix2 0 j) 1).val = t.val % 2 * 512 + j.val := by blk_simp [starts2_4]
    exact h.trans hl.symm

theorem added_at (c : Dev nD) (t : Fin cfg2.N) (r j : Fin 512) (l : Fin 8192) (k : Fin 1024)
    (hl : l.val = t.val / 2 * 512 + r.val) (hk : k.val = t.val % 2 * 512 + j.val) :
    added (iblk2 V c 3 t (ix2 r j)) (iblk2 V c 4 t (ix2 0 j)) (prod (iblk2 V c 0 t) (iblk2 V c 1 t) r j) (iblk2 V c 2 t (ix2 0 j))
      = added (V c main_arg0 (ix2 l k)) (V c main_arg4 (ix2 0 k)) (prod (V c main_v3_2) (V c main_arg7) l k) (V c main_v4 (ix2 0 k)) := by
  have hp : prod (iblk2 V c 0 t) (iblk2 V c 1 t) r j = prod (V c main_v3_2) (V c main_arg7) l k :=
    Finset.sum_congr rfl fun i _ => congrArg₂ (fun u v : EReal => u * v) (a2_at V c t r i l hl) (w2_at V c t i j k hk)
  rw [hp, x2_at V c t r j l k hl hk, gt2_at V c t j k hk, b2_at V c t j k hk]

theorem final_2 (c : Dev nD) :
    (dat2 V c).arrAt 5 cfg2.N = addedA (V c main_v3_2) (V c main_arg7) (V c main_v4) (V c main_arg0) (V c main_arg4) := by
  refine (dat2 V c).arrAt_eq_of_covers 5 _ (by decide +kernel) fun t hf y => ?_
  blk_simp
  rw [after2_5]
  have hy : y = ix2 (n0 := 512) (n1 := 512) (y 0) (y 1) := eq_ix2 y
  have e0 : (((win2_5.blk t).view.emb y) 0).val = t.val / 2 * 512 + (y 0).val := by blk_simp [starts2_5]
  have e1 : (((win2_5.blk t).view.emb y) 1).val = t.val % 2 * 512 + (y 1).val := by blk_simp [starts2_5]
  refine (congrArg _ hy).trans ((left_2 _ _ _ _ _ (y 0) (y 1)).trans ((added_at V c t _ _ _ _ e0 e1).trans ?_))
  unfold addedA
  rw [← eq_ix2 ((win2_5.blk t).view.emb y)]

end Third

/-! ## The three calls -/

section Chain

variable (m : (ℓ : Loc nD τ sig) → Buf (Elt Ideal) ℓ) (ρ : Dev nD → PrngReg)

theorem arg_mem (a : Ref sig .tc) (h : a ∈ argRefs) (c : Dev nD) :
    V2 m ρ c a = m ((c : Thread nD τ).loc a) ∧ V4 m ρ c a = m ((c : Thread nD τ).loc a) :=
  ⟨W2_args m ρ c a h, W4_args m ρ c a h⟩

/-- A row of zeros. -/
abbrev zeros (n : ℕ) : FVec Ideal (⟨2, ![1, n]⟩ : Shape) .f32 := fun _ => (0 : EReal)

theorem zeros_is {n : ℕ} (h) : broadcastInDim (⟨2, ![1, n]⟩ : Shape) ![] h (constant (F := Ideal) S_ .f32 0x00000000#32) = zeros n := by
  funext i
  show _ = (0 : EReal)
  rw [← ofBits_zero]
  pointwise

theorem ba_zero (c : Dev nD) : V2 m ρ c main_v1 = zeros 2816 := by
  refine Eq.trans ?_ (zeros_is bcast_S_S1x2816)
  show StableHlo.after hostOps1 (W1 m ρ c) main_v1 = _
  after_results_simp

theorem bb_zero (c : Dev nD) : V2 m ρ c main_v2 = zeros 2816 := by
  refine Eq.trans ?_ (zeros_is bcast_S_S1x2816)
  show StableHlo.after hostOps1 (W1 m ρ c) main_v2 = _
  after_results_simp

theorem b_zero (c : Dev nD) : V4 m ρ c main_v4 = zeros 1024 := by
  refine Eq.trans ?_ (zeros_is bcast_S_S1x1024)
  show StableHlo.after hostOps2 (W3 m ρ c) main_v4 = _
  after_results_simp

/-- The channel mixer. -/
noncomputable def mixedA (x : FVec Ideal S8192x1024 .f32) (g sh sc gt : FVec Ideal S1x1024 .f32)
    (wa wb : FVec Ideal S1024x2816 .bf16) (w : FVec Ideal S2816x1024 .bf16) : FVec Ideal S8192x1024 .f32 := fun i =>
  (x i + gt (ix2 0 (i 1)) * ∑ k : Fin 2816,
    gated (∑ l : Fin 1024, normed x g sh sc (i 0) l * wa (ix2 l k)) (∑ l : Fin 1024, normed x g sh sc (i 0) l * wb (ix2 l k))
      * w (ix2 k (i 1)) : EReal)

theorem h_is (c : Dev nD) : V2 m ρ c main_v0
    = normedA (m ((c : Thread nD τ).loc main_arg0)) (m ((c : Thread nD τ).loc main_arg1)) (m ((c : Thread nD τ).loc main_arg2)) (m ((c : Thread nD τ).loc main_arg3)) :=
  (W2_of m ρ c main_v0 (by decide)).trans ((W1_arr m ρ c 4).trans (final_0 (V0 m ρ) c))

theorem act_is (c : Dev nD) : V4 m ρ c main_v3_2
    = gatedA (V2 m ρ c main_v0) (V2 m ρ c main_arg5) (V2 m ρ c main_arg6) (V2 m ρ c main_v1) (V2 m ρ c main_v2) :=
  (W4_of m ρ c main_v3_2 (by decide)).trans ((W3_arr m ρ c 7).trans (final_1 (V2 m ρ) c))

theorem result (c : Dev nD) : W5 m ρ c (Proc.devRef .tc main_v5_0)
    = mixedA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine ((W5_arr m ρ c 5).trans (final_2 (V4 m ρ) c)).trans ?_
  rw [act_is, h_is, (arg_mem m ρ main_arg5 (by decide) c).1, (arg_mem m ρ main_arg6 (by decide) c).1,
    (arg_mem m ρ main_arg7 (by decide) c).2, (arg_mem m ρ main_arg0 (by decide) c).2, (arg_mem m ρ main_arg4 (by decide) c).2,
    ba_zero, bb_zero, b_zero]
  funext i
  unfold addedA added prod gatedA prod normedA mixedA
  simp only [add_zero]
  rfl

end Chain

/-! ## Against the reference -/

section Reference

variable (m' : (ℓ : Loc Cert.MixedIdeal.nD Cert.MixedIdeal.τ Cert.MixedIdeal.sig) → Buf (Elt Ideal) ℓ)

theorem reference_mixed (c : Dev Cert.MixedIdeal.nD) :
    Cert.MixedIdeal.Value.res_main_v30 m' c
      = mixedA (m' ((c.tc : Thread Cert.MixedIdeal.nD Cert.MixedIdeal.τ).loc Cert.MixedIdeal.main_arg0))
          (m' ((c.tc : Thread Cert.MixedIdeal.nD Cert.MixedIdeal.τ).loc Cert.MixedIdeal.main_arg1))
          (m' ((c.tc : Thread Cert.MixedIdeal.nD Cert.MixedIdeal.τ).loc Cert.MixedIdeal.main_arg2))
          (m' ((c.tc : Thread Cert.MixedIdeal.nD Cert.MixedIdeal.τ).loc Cert.MixedIdeal.main_arg3))
          (m' ((c.tc : Thread Cert.MixedIdeal.nD Cert.MixedIdeal.τ).loc Cert.MixedIdeal.main_arg4))
          (m' ((c.tc : Thread Cert.MixedIdeal.nD Cert.MixedIdeal.τ).loc Cert.MixedIdeal.main_arg5))
          (m' ((c.tc : Thread Cert.MixedIdeal.nD Cert.MixedIdeal.τ).loc Cert.MixedIdeal.main_arg6))
          (m' ((c.tc : Thread Cert.MixedIdeal.nD Cert.MixedIdeal.τ).loc Cert.MixedIdeal.main_arg7)) := by
  unfold Cert.MixedIdeal.Value.res_main_v30
  generalize m' ((c.tc : Thread Cert.MixedIdeal.nD Cert.MixedIdeal.τ).loc Cert.MixedIdeal.main_arg0) = x
  generalize m' ((c.tc : Thread Cert.MixedIdeal.nD Cert.MixedIdeal.τ).loc Cert.MixedIdeal.main_arg1) = g
  generalize m' ((c.tc : Thread Cert.MixedIdeal.nD Cert.MixedIdeal.τ).loc Cert.MixedIdeal.main_arg2) = sh
  generalize m' ((c.tc : Thread Cert.MixedIdeal.nD Cert.MixedIdeal.τ).loc Cert.MixedIdeal.main_arg3) = sc
  generalize m' ((c.tc : Thread Cert.MixedIdeal.nD Cert.MixedIdeal.τ).loc Cert.MixedIdeal.main_arg4) = gt
  generalize m' ((c.tc : Thread Cert.MixedIdeal.nD Cert.MixedIdeal.τ).loc Cert.MixedIdeal.main_arg5) = wa
  generalize m' ((c.tc : Thread Cert.MixedIdeal.nD Cert.MixedIdeal.τ).loc Cert.MixedIdeal.main_arg6) = wb
  generalize m' ((c.tc : Thread Cert.MixedIdeal.nD Cert.MixedIdeal.τ).loc Cert.MixedIdeal.main_arg7) = w
  clean_types
  funext i
  obtain ⟨r, j, rfl⟩ : ∃ (r : Fin 8192) (j : Fin 1024), i = ix2 r j := ⟨i 0, i 1, eq_ix2 i⟩
  unfold mixedA gated normed Ideal.logistic NormGrad.inv mean
  rw [← ofBits_width, ← ofBits_eps, ← ofBits_one]
  pointwise

end Reference

/-! ## The claims -/

section Run

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

-- the implicit arguments are found by unification through plain definitions in a metavariable's type
set_option backward.isDefEq.respectTransparency.types false in
/-- Every run ends with each buffer as the last call leaves it. -/
theorem ends : θ_run defs (onTc (τ := τ) (main (F := F))) ⟨m, fun _ => 0, ρ⟩ fun r =>
    ∀ c : Dev nD, ∀ b ∈ Pipeline.ucRefs τ sig, r.2.mem (((c : Thread nD τ)).1, b) = W5 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ own (emb₁ (initOf (Pipeline.cells cfgs cellOf_inj) (Pipeline.launchToks cfgs cellOf_inj))) from .rfl)
        iexact Hu
      · iapply (show (Idealize.SL.BI.emp : sProp 𝕄) ⊢ bigSep Finset.univ (fun _ : Dev nD => (Idealize.SL.BI.emp : sProp 𝕄)) from by
          rw [bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hr, -⟩, -⟩
      imodintro
      isplitl [Hb]
      · iexact Hb
      isplitl [Hr]
      · iexists _
        iexact Hr
      · iexists ∅
        iexact Ho)
    (QY := fun c s => ∀ b ∈ Pipeline.ucRefs τ sig, s.mem (((c : Thread nD τ)).1, b) = W5 m ρ c b)
    (hfin := fun c s => by
      iintro ⟨⟨Hb, -⟩, Hs⟩
      unfold StableHlo.held
      imodintro
      iapply (pointsTo_read_all (Pipeline.ucRefs τ sig) (fun b => (((c : Thread nD τ)).1, b)) (W5 m ρ c) s)
      isplitl [Hb] <;> iassumption)
    (hQ := fun s h _ => h)

end Run

theorem quiescent_bits : Cert.quiescent_Ffn := fun m g _ => Cert.Ffn.Gen.frame (F := Bits) m g

theorem quiescent_ideal : Cert.quiescent_FfnIdeal := fun m g _ => Cert.FfnIdeal.Gen.frame (F := Ideal) m g

theorem quiescent_reference : Cert.quiescent_MixedIdeal := fun m g _ =>
  (θ_run Cert.MixedIdeal.defs _ _).mono (fun r h => ⟨fun c => (h c).2, sem_eq_zero_of_no_sems rfl r.2⟩) (Cert.MixedIdeal.Value.run (F := Ideal) m g)

theorem algebraic : Cert.algebraic_FfnIdeal_MixedIdeal := fun m g m' g' _ h => by
  refine ⟨fun c => mixedA (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)),
    (θ_run Cert.FfnIdeal.defs _ _).mono (fun _ hr c => ?_) (ends (F := Ideal) m g),
    (θ_run Cert.MixedIdeal.defs _ _).mono (fun _ hr c => ?_) (Cert.MixedIdeal.Value.run (F := Ideal) m' g')⟩
  · exact ⟨(hr c _ (mem_uc main_v5_0 (by decide))).trans (result m g c),
      (hr c _ (mem_uc main_arg0 (by decide))).trans (W5_main_arg0 m g c),
      (hr c _ (mem_uc main_arg1 (by decide))).trans (W5_main_arg1 m g c),
      (hr c _ (mem_uc main_arg2 (by decide))).trans (W5_main_arg2 m g c),
      (hr c _ (mem_uc main_arg3 (by decide))).trans (W5_main_arg3 m g c),
      (hr c _ (mem_uc main_arg4 (by decide))).trans (W5_main_arg4 m g c),
      (hr c _ (mem_uc main_arg5 (by decide))).trans (W5_main_arg5 m g c),
      (hr c _ (mem_uc main_arg6 (by decide))).trans (W5_main_arg6 m g c),
      (hr c _ (mem_uc main_arg7 (by decide))).trans (W5_main_arg7 m g c)⟩
  · obtain ⟨e0, e⟩ := hr c
    obtain ⟨h0, h1, h2, h3, h4, h5, h6, h7⟩ := h c
    exact ⟨(e0.trans (reference_mixed m' c)).trans (by rw [h0, h1, h2, h3, h4, h5, h6, h7]), e⟩

end Cert.Proof.Ffn

end
-- ==== Proof.ResidualGrad.lean ====
/-
  The gradient through a gated residual, on one device: a block of 512 rows per grid point, the gated gradient written back
  at its point, the gradient of the gate and that of the bias accumulated over the sixteen points in two rows of one block.
-/
module

public import proofs.«01_k».proof.Defs
public import proofs.«01_k».proof.Proof.LossGrad
public import proofs.«01_k».proof.Proof.Gen.ResidualGrad
public import proofs.«01_k».proof.Proof.Gen.ResidualGradIdeal
public import proofs.«01_k».proof.Proof.Gen.ResidualGradIdeal.Frame
public import proofs.«01_k».proof.Proof.Gen.ResidualGradIdeal.Value
public import proofs.«01_k».proof.Proof.Gen.GatedGradIdeal
public import proofs.«01_k».proof.Proof.Gen.GatedGradIdeal.Run

@[expose] public section

set_option Elab.async false
set_option maxRecDepth 16384

noncomputable section

namespace Cert.Proof.ResidualGrad

open Cert.ResidualGradIdeal Cert.ResidualGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.NormGrad (ofBits_zero)
open Cert.Proof.LossGrad (rows_at ld_at)

/-! ## One block -/

/-- What one row adds to the sums: to the gate's gradient, to the bias's. -/
noncomputable def adds {n : ℕ} (d y : (⟨2, ![n, 1024]⟩ : Shape).Idx → EReal) (gt : S1x1024.Idx → EReal)
    (k : ℕ) (r : Fin n) (j : Fin 1024) : EReal :=
  if k = 0 then d (ix2 r j) * y (ix2 r j)
  else if k = 1 then d (ix2 r j) * gt (ix2 0 j)
  else 0

theorem pay3_at (d : Vec Ideal S512x1024 .f32) (gt : Vec Ideal S1x1024 .f32) (r : Fin 512) (j : Fin 1024) :
    k0_pay3 d gt (ix2 r j) = (d (ix2 r j) * gt (ix2 0 j) : EReal) := by
  unfold k0_pay3 k0_pay2
  pointwise

theorem pay4_at (d : Vec Ideal S512x1024 .f32) (w : Vec Ideal S1x1024 .f32) (y : Vec Ideal S512x1024 .bf16) (j : Fin 1024) :
    k0_pay4 d w y (ix2 0 j) = (w (ix2 0 j) + ∑ r : Fin 512, d (ix2 r j) * y (ix2 r j) : EReal) := by
  unfold k0_pay4
  pointwise

theorem pay5_at (d : Vec Ideal S512x1024 .f32) (gt w : Vec Ideal S1x1024 .f32) (j : Fin 1024) :
    k0_pay5 d gt w (ix2 0 j) = (w (ix2 0 j) + ∑ r : Fin 512, d (ix2 r j) * gt (ix2 0 j) : EReal) := by
  unfold k0_pay5 k0_pay2
  pointwise

theorem pay1_at (y : S8x1024.Idx) : (k0_pay1 : FVec Ideal S8x1024 .f32) y = (0 : EReal) := by
  unfold k0_pay1
  rw [← ofBits_zero]
  pointwise

/-! ## One point -/

variable (m : (ℓ : Loc nD τ sig) → Buf (Elt Ideal) ℓ)

theorem left_3 (c : Dev nD) (t : Fin cfg0.N) (r : Fin 512) (j : Fin 1024) :
    (outsAt0 m c t.val t.isLt).1 (ix2 r j) = k0_pay3 (iblk m c 0 t) (iblk m c 2 t) (ix2 r j) := by
  by_cases h0 : t.val % 16 = 0
  · rw [outsAt0_A m c t h0]
    frame_out
  · rw [outsAt0_B m c t h0]
    frame_out

theorem sum_adds {n : ℕ} (d y : (⟨2, ![n, 1024]⟩ : Shape).Idx → EReal) (gt : S1x1024.Idx → EReal) (k : ℕ) (j : Fin 1024) (b : EReal) :
    (b + ∑ r, adds d y gt k r j : EReal)
      = (if k = 0 then b + ∑ r, d (ix2 r j) * y (ix2 r j)
        else if k = 1 then b + ∑ r : Fin n, d (ix2 r j) * gt (ix2 0 j) else b : EReal) := by
  unfold adds
  by_cases h0 : k = 0
  · simp only [if_pos h0]
  by_cases h1 : k = 1
  · simp only [if_neg h0, if_pos h1]
  simp only [if_neg h0, if_neg h1, Finset.sum_const_zero, add_zero]

theorem first_4 (c : Dev nD) (t : Fin cfg0.N) (h0 : t.val % 16 = 0) (k : Fin 8) (j : Fin 1024) :
    (outsAt0 m c t.val t.isLt).2 (ix2 k j)
      = (0 + ∑ r, adds (iblk m c 0 t) (iblk m c 1 t) (iblk m c 2 t) k.val r j : EReal) := by
  rw [outsAt0_A m c t h0]
  frame_out
  rw [← View.read_writes_junk_eq_canon (ms0_4 t).view]
  refine (rows_at _ _ _ _ _ k j).trans ?_
  rw [sum_adds, pay4_at, pay5_at]
  rw [View.readCov_fill _ _ _ _ _ (by decide), View.readCov_skip _ _ _ _ _ (by decide), View.readCov_fill _ _ _ _ _ (by decide)]
  have e0 := ld_at (k0_pay1 (F := Ideal)) 0 inb_S8x1024_S1x1024_0_0 j
  have e1 := ld_at (k0_pay1 (F := Ideal)) 1 inb_S8x1024_S1x1024_1_0 j
  rw [pay1_at] at e0 e1
  have e2 : (ms0_4 t).view.read (Elt Ideal) ((ms0_4 t).view.writes (Elt Ideal) (ms0_4 t).view.junk
      [⟨Rect.unit ![0, 0] ![8, 1024] inb_S8x1024_S8x1024_0_0, k0_pay1 (F := Ideal)⟩]) (ix2 k j) = (0 : EReal) := by
    refine (View.read_writes_cons_rows_of_mem _ _ _ _ _ (ix2 k j) (ix2 k j) rfl (Nat.zero_add _).symm rfl).trans (pay1_at _)
  exact if_congr Iff.rfl (congrArg (· + _) e0) (if_congr Iff.rfl (congrArg (· + _) e1) e2)

theorem next_4 (c : Dev nD) (t : Fin cfg0.N) (h0 : ¬ t.val % 16 = 0) (k : Fin 8) (j : Fin 1024) :
    (outsAt0 m c t.val t.isLt).2 (ix2 k j)
      = ((outsAt0 m c (t.val - 1) (Nat.lt_of_le_of_lt (Nat.sub_le _ _) t.isLt)).2 (ix2 k j)
          + ∑ r, adds (iblk m c 0 t) (iblk m c 1 t) (iblk m c 2 t) k.val r j : EReal) := by
  rw [outsAt0_B m c t h0]
  generalize (outsAt0 m c (t.val - 1) (Nat.lt_of_le_of_lt (Nat.sub_le _ _) t.isLt)).2 = X
  frame_out
  refine (rows_at _ _ _ _ _ k j).trans ?_
  rw [sum_adds, pay4_at, pay5_at]
  have e0 := ld_at X 0 inb_S8x1024_S1x1024_0_0 j
  have e1 := ld_at X 1 inb_S8x1024_S1x1024_1_0 j
  by_cases k0 : k.val = 0
  · obtain rfl : k = 0 := Fin.ext k0
    rw [if_pos k0, if_pos k0]
    exact congrArg (· + _) e0
  by_cases k1 : k.val = 1
  · obtain rfl : k = 1 := Fin.ext k1
    rw [if_neg k0, if_pos k1, if_neg k0, if_pos k1]
    exact congrArg (· + _) e1
  rw [if_neg k0, if_neg k1, if_neg k0, if_neg k1, View.writes_nil]
  exact congrFun (Memref.IsWhole.read_unread _ X) _

/-! ## The arrays -/

abbrev dA (c : Dev nD) : FVec Ideal S8192x1024 .f32 := m ((c.tc : Thread nD τ).loc main_arg0)
abbrev yA (c : Dev nD) : FVec Ideal S8192x1024 .bf16 := m ((c.tc : Thread nD τ).loc main_arg1)
abbrev gtA (c : Dev nD) : FVec Ideal S1x1024 .f32 := m ((c.tc : Thread nD τ).loc main_arg2)

/-- The gated gradient. -/
noncomputable def timesA (d : FVec Ideal S8192x1024 .f32) (gt : FVec Ideal S1x1024 .f32) : FVec Ideal S8192x1024 .bf16 :=
  fun i => (d i * gt (ix2 0 (i 1)) : EReal)

/-- The sums over all rows. -/
noncomputable def sumsA (d : FVec Ideal S8192x1024 .f32) (y : FVec Ideal S8192x1024 .bf16) (gt : FVec Ideal S1x1024 .f32) :
    FVec Ideal S8x1024 .f32 := fun i => (0 + ∑ r, adds d y gt (i 0).val r (i 1) : EReal)

theorem starts_0 : ∀ t : Fin cfg0.N, win0_0.index t = ![t.val, 0] := (by decide +kernel : ∀ t : Fin grid0.N, _)
theorem starts_1 : ∀ t : Fin cfg0.N, win0_1.index t = ![t.val, 0] := (by decide +kernel : ∀ t : Fin grid0.N, _)
theorem starts_2 : ∀ t : Fin cfg0.N, win0_2.index t = ![0, 0] := (by decide +kernel : ∀ t : Fin grid0.N, _)
theorem starts_3 : ∀ t : Fin cfg0.N, win0_3.index t = ![t.val, 0] := (by decide +kernel : ∀ t : Fin grid0.N, _)
theorem starts_4 : ∀ t : Fin cfg0.N, win0_4.index t = ![0, 0] := (by decide +kernel : ∀ t : Fin grid0.N, _)

theorem points : cfg0.N = 16 := N_0

/-- The array's row that is row `r` of point `t`'s block. -/
def at_ (t : Fin cfg0.N) (r : Fin 512) : Fin 8192 :=
  ⟨t.val * 512 + r.val, by have := t.isLt; have := r.isLt; have := points; omega⟩

theorem d_at (c : Dev nD) (t : Fin cfg0.N) (r : Fin 512) (j : Fin 1024) (i : S8192x1024.Idx)
    (h0 : (i 0).val = t.val * 512 + r.val) (h1 : (i 1).val = j.val) : iblk m c 0 t (ix2 r j) = dA m c i := by
  refine (congrFun (V_main_arg0 m c) _).trans (congrArg (dA m c) (funext fun a => Fin.ext ?_))
  fin_cases a
  · have h : ((win0_0.blk t).view.emb (ix2 r j) 0).val = t.val * 512 + r.val := by blk_simp [starts_0]
    exact h.trans h0.symm
  · have h : ((win0_0.blk t).view.emb (ix2 r j) 1).val = j.val := by blk_simp [starts_0]
    exact h.trans h1.symm

theorem y_at (c : Dev nD) (t : Fin cfg0.N) (r : Fin 512) (j : Fin 1024) (i : S8192x1024.Idx)
    (h0 : (i 0).val = t.val * 512 + r.val) (h1 : (i 1).val = j.val) : iblk m c 1 t (ix2 r j) = yA m c i := by
  refine (congrFun (V_main_arg1 m c) _).trans (congrArg (yA m c) (funext fun a => Fin.ext ?_))
  fin_cases a
  · have h : ((win0_1.blk t).view.emb (ix2 r j) 0).val = t.val * 512 + r.val := by blk_simp [starts_1]
    exact h.trans h0.symm
  · have h : ((win0_1.blk t).view.emb (ix2 r j) 1).val = j.val := by blk_simp [starts_1]
    exact h.trans h1.symm

theorem gt_at (c : Dev nD) (t : Fin cfg0.N) (j : Fin 1024) (l : Fin 1024) (hl : l.val = j.val) :
    iblk m c 2 t (ix2 0 j) = gtA m c (ix2 0 l) := by
  refine (congrFun (V_main_arg2 m c) _).trans (congrArg (gtA m c) (funext fun a => Fin.ext ?_))
  fin_cases a
  · have h : ((win0_2.blk t).view.emb (ix2 0 j) 0).val = 0 := by
      blk_simp [starts_2]
      rfl
    exact h
  · have h : ((win0_2.blk t).view.emb (ix2 0 j) 1).val = j.val := by blk_simp [starts_2]
    exact h.trans hl.symm

theorem adds_at (c : Dev nD) (t : Fin cfg0.N) (k : ℕ) (r : Fin 512) (j : Fin 1024) :
    adds (iblk m c 0 t) (iblk m c 1 t) (iblk m c 2 t) k r j = adds (dA m c) (yA m c) (gtA m c) k (at_ t r) j := by
  unfold adds
  rw [d_at m c t r j (ix2 (at_ t r) j) rfl rfl, y_at m c t r j (ix2 (at_ t r) j) rfl rfl, gt_at m c t j j rfl]

theorem final_3 (c : Dev nD) : (dats m 0 c).arrAt 3 cfg0.N = timesA (dA m c) (gtA m c) := by
  refine (dats m 0 c).arrAt_eq_of_covers 3 _ (by decide +kernel) fun t hf y => ?_
  blk_simp
  rw [after0_3]
  have hy : y = ix2 (n0 := 512) (n1 := 1024) (y 0) (y 1) := eq_ix2 y
  have e0 : (((win0_3.blk t).view.emb y) 0).val = t.val * 512 + (y 0).val := by blk_simp [starts_3]
  have e1 : (((win0_3.blk t).view.emb y) 1).val = (y 1).val := by blk_simp [starts_3]
  refine (congrArg _ hy).trans (((left_3 m c t (y 0) (y 1)).trans (pay3_at _ _ _ _)).trans ?_)
  exact congrArg₂ (fun u v : EReal => u * v) (d_at m c t _ _ _ e0 e1) (gt_at m c t _ _ e1)

theorem final_4 (c : Dev nD) : (dats m 0 c).arrAt 4 cfg0.N = sumsA (dA m c) (yA m c) (gtA m c) := by
  refine (dats m 0 c).arrAt_eq_of_after_last 4 t0_15 (by decide +kernel) _ fun j => ?_
  blk_simp
  rw [after0_4]
  have hs := Pipeline.eq_sum_fin_of_reset_step_last (fun n h => ((outsAt0 m c n h).2 j : EReal)) 16 0
    (fun t => ∑ r, adds (iblk m c 0 t) (iblk m c 1 t) (iblk m c 2 t) (j 0).val r (j 1))
    (fun t h => (congrArg _ (eq_ix2 j)).trans (first_4 m c t h (j 0) (j 1)))
    (fun t h => (congrArg _ (eq_ix2 j)).trans ((next_4 m c t h (j 0) (j 1)).trans (congrArg (· + _) (congrArg _ (eq_ix2 j).symm))))
    points.le t0_15 (show 15 + 1 = cfg0.N from points.symm)
  refine hs.trans ?_
  have ht := Fin.sum_univ_tiles cfg0.N 512 (N := 8192) (by rw [points])
    (fun r => adds (dA m c) (yA m c) (gtA m c) (j 0).val r (j 1))
  refine congrArg (fun z : EReal => 0 + z) (Eq.trans ?_ ht.symm)
  exact Finset.sum_congr rfl fun t _ => Finset.sum_congr rfl fun r _ => adds_at m c t _ r _

/-! ## Against the reference -/

section Reference

open Cert.GatedGradIdeal (S_ S6x1024)
open Cert.GatedGradIdeal.Gen (bcast_S1x1024_S8192x1024_0_1 bcast_S1024_S1x1024_1 bcast_S_S1024 bcast_S_S6x1024
  reducesTo_S8192x1024_S1024_d0 reducesTo_S1x1024_S1024_d0 h_S_ concatenates_S1x1024_S1x1024_S6x1024_S8x1024_d0)

/-- The reference's zero. -/
abbrev zero : FVec Ideal S_ .f32 := constant S_ .f32 0x00000000#32

/-- The reference's gated gradient. -/
abbrev times (d : FVec Ideal S8192x1024 .f32) (gt : FVec Ideal S1x1024 .f32) : FVec Ideal S8192x1024 .f32 :=
  mulf (broadcastInDim S8192x1024 ![0, 1] bcast_S1x1024_S8192x1024_0_1 gt) d

theorem reference_times (d : FVec Ideal S8192x1024 .f32) (gt : FVec Ideal S1x1024 .f32) :
    truncf .bf16 (times d gt) Cert.GatedGradIdeal.Gen.bitsLt_bf16_f32 = timesA d gt := by
  funext i
  obtain ⟨r, j, rfl⟩ : ∃ (r : Fin 8192) (j : Fin 1024), i = ix2 r j := ⟨i 0, i 1, eq_ix2 i⟩
  refine Eq.trans ?_ (mul_comm (gt (ix2 0 j) : EReal) (d (ix2 r j)))
  pointwise

theorem reference_sums (d : FVec Ideal S8192x1024 .f32) (y : FVec Ideal S8192x1024 .bf16) (gt : FVec Ideal S1x1024 .f32) :
    (concatenate S8x1024 0
      [⟨S1x1024, (shapeCast _ (Host.reduceAdd (mulf d (addf (extf .f32 y Cert.GatedGradIdeal.Gen.bitsLt_bf16_f32)
          (broadcastInDim S8192x1024 ![0, 1] bcast_S1x1024_S8192x1024_0_1
            (broadcastInDim S1x1024 ![1] bcast_S1024_S1x1024_1 (broadcastInDim S1024 ![] bcast_S_S1024 zero)))))
          zero reducesTo_S8192x1024_S1024_d0 h_S_) Cert.GatedGradIdeal.Gen.shapeCasts_S1024_S1x1024 : FVec Ideal S1x1024 .f32)⟩,
       ⟨S1x1024, (broadcastInDim S1x1024 ![1] bcast_S1024_S1x1024_1 (Host.reduceAdd (shapeCast _
          (Host.reduceAdd (times d gt) zero reducesTo_S8192x1024_S1024_d0 h_S_) Cert.GatedGradIdeal.Gen.shapeCasts_S1024_S1x1024)
          zero reducesTo_S1x1024_S1024_d0 h_S_) : FVec Ideal S1x1024 .f32)⟩,
       ⟨S6x1024, (broadcastInDim S6x1024 ![] bcast_S_S6x1024 zero : FVec Ideal S6x1024 .f32)⟩]
      concatenates_S1x1024_S1x1024_S6x1024_S8x1024_d0 : FVec Ideal S8x1024 .f32)
      = sumsA d y gt := by
  funext i
  obtain ⟨k, j, rfl⟩ : ∃ (k : Fin 8) (j : Fin 1024), i = ix2 k j := ⟨i 0, i 1, eq_ix2 i⟩
  refine Eq.trans ?_ (sum_adds d y gt k.val j 0).symm
  pointwise
  by_cases k0 : k.val = 0
  · rw [dif_pos (by omega), if_pos k0]
  by_cases k1 : k.val = 1
  · rw [dif_neg (by omega), dif_pos (by omega), if_neg k0, if_pos k1, Fin.sum_univ_one]
    exact Finset.sum_congr rfl fun r _ => mul_comm _ _
  rw [dif_neg (by omega), dif_neg (by omega), if_neg k0, if_neg k1]

end Reference

/-! ## The claims -/

theorem bodies_same : @Cert.ResidualGrad.defs₀ Bits _ _ = @Cert.ResidualGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem defs_same : @Cert.ResidualGrad.defs Bits _ _ = @Cert.ResidualGradIdeal.defs Bits _ _ :=
  congrArg (Pipeline.defs Cert.ResidualGradIdeal.pcfgs) bodies_same

theorem quiescent_bits : Cert.quiescent_ResidualGrad := fun m g _ => by
  rw [defs_same]
  exact Cert.ResidualGradIdeal.Gen.frame (F := Bits) m g

theorem quiescent_ideal : Cert.quiescent_ResidualGradIdeal := fun m g _ => Cert.ResidualGradIdeal.Gen.frame (F := Ideal) m g

theorem quiescent_reference : Cert.quiescent_GatedGradIdeal := fun m g _ =>
  (θ_run Cert.GatedGradIdeal.defs _ _).mono (fun r h => ⟨fun c => (h c).2.2, sem_eq_zero_of_no_sems rfl r.2⟩) (Cert.GatedGradIdeal.Value.run (F := Ideal) m g)

theorem algebraic : Cert.algebraic_ResidualGradIdeal_GatedGradIdeal := fun m g m' g' _ h => by
  refine ⟨fun c => timesA (dA m c) (gtA m c), fun c => sumsA (dA m c) (yA m c) (gtA m c),
    (θ_run Cert.ResidualGradIdeal.defs _ _).mono (fun _ hr c => ?_) (Cert.ResidualGradIdeal.Value.run_blocks (F := Ideal) m g),
    (θ_run Cert.GatedGradIdeal.defs _ _).mono (fun _ hr c => ?_) (Cert.GatedGradIdeal.Value.run (F := Ideal) m' g')⟩
  · obtain ⟨e0, e1, e⟩ := hr c
    exact ⟨e0.trans (final_3 m c), e1.trans (final_4 m c), e⟩
  · obtain ⟨e0, e1, e⟩ := hr c
    obtain ⟨h0, h1, h2⟩ := h c
    have w0 := reference_times (m' ((c.tc : Thread nD τ).loc Cert.GatedGradIdeal.main_arg0)) (m' ((c.tc : Thread nD τ).loc Cert.GatedGradIdeal.main_arg2))
    have w1 := reference_sums (m' ((c.tc : Thread nD τ).loc Cert.GatedGradIdeal.main_arg0))
      (m' ((c.tc : Thread nD τ).loc Cert.GatedGradIdeal.main_arg1)) (m' ((c.tc : Thread nD τ).loc Cert.GatedGradIdeal.main_arg2))
    refine ⟨(e0.trans w0).trans (congrArg₂ timesA h0 h2), (e1.trans w1).trans ?_, e⟩
    exact (congrArg₂ (fun d y => sumsA d y _) h0 h1).trans (congrArg (sumsA _ _) h2)

end Cert.Proof.ResidualGrad

end
-- ==== Proof.ActGrad.lean ====
/-
  The gradients of the two factors of the gated product, on one device: a block of 512 rows and 1408 columns per grid
  point, each written back once.
-/
module

public import proofs.«01_k».proof.Defs
public import proofs.«01_k».proof.Proof.NormGradMath
public import proofs.«01_k».proof.Proof.Gen.ActGrad
public import proofs.«01_k».proof.Proof.Gen.ActGradIdeal
public import proofs.«01_k».proof.Proof.Gen.ActGradIdeal.Frame
public import proofs.«01_k».proof.Proof.Gen.ActGradIdeal.Value
public import proofs.«01_k».proof.Proof.Gen.SwigluGradIdeal
public import proofs.«01_k».proof.Proof.Gen.SwigluGradIdeal.Run
public import Idealize.ShloMosaic.Lib.Pipeline.ValueKit
public import Idealize.ShloMosaic.Lib.Tactic
public import Idealize.ShloMosaic.Lib.Pointwise.Tactic
public import Idealize.ShloMosaic.Lib.ValueLayout

@[expose] public section

set_option Elab.async false
set_option maxRecDepth 16384

noncomputable section

namespace Cert.Proof.ActGrad

open Cert.ActGradIdeal Cert.ActGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.NormGrad (ofBits_one)

/-! ## One element -/

/-- The derivative of the activation. -/
noncomputable def slope (u : EReal) : EReal := Ideal.logistic u * (1 + u * (1 - Ideal.logistic u))

/-- The derivative as the product rule gives it, also at the infinities. -/
theorem slope_same (u : EReal) :
    1 * Ideal.logistic u + u * (1 * (Ideal.logistic u * (1 - Ideal.logistic u))) = slope u := by
  unfold slope
  induction u using EReal.rec with
  | bot => rw [Ideal.logistic_bot, zero_mul, zero_mul, mul_zero, mul_zero, add_zero]
  | top =>
    have h : (1 : EReal) - 1 = 0 := by rw [← EReal.coe_one, ← EReal.coe_sub, sub_self, EReal.coe_zero]
    rw [Ideal.logistic_top, h, mul_zero, mul_zero, mul_zero, add_zero, add_zero]
  | coe u =>
    rw [Ideal.logistic_coe]
    generalize (1 + Real.exp (-u))⁻¹ = s
    norm_cast
    ring

/-- One element of a product with a transpose. -/
noncomputable def prodT {n k l : ℕ} (a : (⟨2, ![n, k]⟩ : Shape).Idx → EReal) (w : (⟨2, ![l, k]⟩ : Shape).Idx → EReal)
    (r : Fin n) (j : Fin l) : EReal := ∑ i, a (ix2 r i) * w (ix2 j i)

theorem pay1_at (a : Vec Ideal S512x1024 .bf16) (w : Vec Ideal S1408x1024 .bf16) (r : Fin 512) (j : Fin 1408) :
    k0_pay1 a w (ix2 r j) = prodT a w r j := by
  unfold k0_pay1 prodT
  pointwise

theorem pay3_at (a : Vec Ideal S512x1024 .bf16) (w : Vec Ideal S1408x1024 .bf16) (u : Vec Ideal S512x1408 .f32)
    (r : Fin 512) (j : Fin 1408) :
    k0_pay3 a w u (ix2 r j) = (prodT a w r j * (u (ix2 r j) * Ideal.logistic (u (ix2 r j))) : EReal) := by
  unfold k0_pay3 k0_pay2
  pointwise [pay1_at]

theorem pay4_at (a : Vec Ideal S512x1024 .bf16) (w : Vec Ideal S1408x1024 .bf16) (u v : Vec Ideal S512x1408 .f32)
    (r : Fin 512) (j : Fin 1408) :
    k0_pay4 a w u v (ix2 r j) = (prodT a w r j * v (ix2 r j) * slope (u (ix2 r j)) : EReal) := by
  unfold k0_pay4 k0_pay2 slope
  rw [← ofBits_one]
  pointwise [pay1_at]

theorem left_4 (a : Vec Ideal S512x1024 .bf16) (w : Vec Ideal S1408x1024 .bf16) (u v : Vec Ideal S512x1408 .f32)
    (r : Fin 512) (j : Fin 1408) :
    out0_4 a w u v (ix2 r j) = (prodT a w r j * v (ix2 r j) * slope (u (ix2 r j)) : EReal) := by
  rw [← pay4_at]
  frame_out

theorem left_5 (a : Vec Ideal S512x1024 .bf16) (w : Vec Ideal S1408x1024 .bf16) (u v : Vec Ideal S512x1408 .f32)
    (r : Fin 512) (j : Fin 1408) :
    out0_5 a w u v (ix2 r j) = (prodT a w r j * (u (ix2 r j) * Ideal.logistic (u (ix2 r j))) : EReal) := by
  rw [← pay3_at]
  frame_out

/-! ## The arrays -/

variable (m : (ℓ : Loc nD τ sig) → Buf (Elt Ideal) ℓ)

abbrev aA (c : Dev nD) : FVec Ideal S8192x1024 .bf16 := m ((c.tc : Thread nD τ).loc main_arg0)
abbrev wA (c : Dev nD) : FVec Ideal S2816x1024 .bf16 := m ((c.tc : Thread nD τ).loc main_arg1)
abbrev uA (c : Dev nD) : FVec Ideal S8192x2816 .f32 := m ((c.tc : Thread nD τ).loc main_arg2)
abbrev vA (c : Dev nD) : FVec Ideal S8192x2816 .f32 := m ((c.tc : Thread nD τ).loc main_arg3)

/-- The gradient of the factor under the activation. -/
noncomputable def underA (a : FVec Ideal S8192x1024 .bf16) (w : FVec Ideal S2816x1024 .bf16) (u v : FVec Ideal S8192x2816 .f32) :
    FVec Ideal S8192x2816 .bf16 := fun i => (prodT a w (i 0) (i 1) * v i * slope (u i) : EReal)

/-- The gradient of the other factor. -/
noncomputable def otherA (a : FVec Ideal S8192x1024 .bf16) (w : FVec Ideal S2816x1024 .bf16) (u : FVec Ideal S8192x2816 .f32) :
    FVec Ideal S8192x2816 .bf16 := fun i => (prodT a w (i 0) (i 1) * (u i * Ideal.logistic (u i)) : EReal)

theorem starts_0 : ∀ t : Fin cfg0.N, win0_0.index t = ![t.val / 2, 0] := (by decide +kernel : ∀ t : Fin grid0.N, _)
theorem starts_1 : ∀ t : Fin cfg0.N, win0_1.index t = ![t.val % 2, 0] := (by decide +kernel : ∀ t : Fin grid0.N, _)
theorem starts_2 : ∀ t : Fin cfg0.N, win0_2.index t = ![t.val / 2, t.val % 2] := (by decide +kernel : ∀ t : Fin grid0.N, _)
theorem starts_3 : ∀ t : Fin cfg0.N, win0_3.index t = ![t.val / 2, t.val % 2] := (by decide +kernel : ∀ t : Fin grid0.N, _)
theorem starts_4 : ∀ t : Fin cfg0.N, win0_4.index t = ![t.val / 2, t.val % 2] := (by decide +kernel : ∀ t : Fin grid0.N, _)
theorem starts_5 : ∀ t : Fin cfg0.N, win0_5.index t = ![t.val / 2, t.val % 2] := (by decide +kernel : ∀ t : Fin grid0.N, _)

theorem a_at (c : Dev nD) (t : Fin cfg0.N) (r : Fin 512) (k : Fin 1024) (l : Fin 8192) (hl : l.val = t.val / 2 * 512 + r.val) :
    iblk m c 0 t (ix2 r k) = aA m c (ix2 l k) := by
  refine (congrFun (V_main_arg0 m c) _).trans (congrArg (aA m c) (funext fun a => Fin.ext ?_))
  fin_cases a
  · have h : ((win0_0.blk t).view.emb (ix2 r k) 0).val = t.val / 2 * 512 + r.val := by blk_simp [starts_0]
    exact h.trans hl.symm
  · have h : ((win0_0.blk t).view.emb (ix2 r k) 1).val = k.val := by blk_simp [starts_0]
    exact h

theorem w_at (c : Dev nD) (t : Fin cfg0.N) (j : Fin 1408) (k : Fin 1024) (l : Fin 2816) (hl : l.val = t.val % 2 * 1408 + j.val) :
    iblk m c 1 t (ix2 j k) = wA m c (ix2 l k) := by
  refine (congrFun (V_main_arg1 m c) _).trans (congrArg (wA m c) (funext fun a => Fin.ext ?_))
  fin_cases a
  · have h : ((win0_1.blk t).view.emb (ix2 j k) 0).val = t.val % 2 * 1408 + j.val := by blk_simp [starts_1]
    exact h.trans hl.symm
  · have h : ((win0_1.blk t).view.emb (ix2 j k) 1).val = k.val := by blk_simp [starts_1]
    exact h

theorem u_at (c : Dev nD) (t : Fin cfg0.N) (r : Fin 512) (j : Fin 1408) (i : S8192x2816.Idx)
    (h0 : (i 0).val = t.val / 2 * 512 + r.val) (h1 : (i 1).val = t.val % 2 * 1408 + j.val) :
    iblk m c 2 t (ix2 r j) = uA m c i := by
  refine (congrFun (V_main_arg2 m c) _).trans (congrArg (uA m c) (funext fun a => Fin.ext ?_))
  fin_cases a
  · have h : ((win0_2.blk t).view.emb (ix2 r j) 0).val = t.val / 2 * 512 + r.val := by blk_simp [starts_2]
    exact h.trans h0.symm
  · have h : ((win0_2.blk t).view.emb (ix2 r j) 1).val = t.val % 2 * 1408 + j.val := by blk_simp [starts_2]
    exact h.trans h1.symm

theorem v_at (c : Dev nD) (t : Fin cfg0.N) (r : Fin 512) (j : Fin 1408) (i : S8192x2816.Idx)
    (h0 : (i 0).val = t.val / 2 * 512 + r.val) (h1 : (i 1).val = t.val % 2 * 1408 + j.val) :
    iblk m c 3 t (ix2 r j) = vA m c i := by
  refine (congrFun (V_main_arg3 m c) _).trans (congrArg (vA m c) (funext fun a => Fin.ext ?_))
  fin_cases a
  · have h : ((win0_3.blk t).view.emb (ix2 r j) 0).val = t.val / 2 * 512 + r.val := by blk_simp [starts_3]
    exact h.trans h0.symm
  · have h : ((win0_3.blk t).view.emb (ix2 r j) 1).val = t.val % 2 * 1408 + j.val := by blk_simp [starts_3]
    exact h.trans h1.symm

theorem prod_at (c : Dev nD) (t : Fin cfg0.N) (r : Fin 512) (j : Fin 1408) (l : Fin 8192) (k : Fin 2816)
    (hl : l.val = t.val / 2 * 512 + r.val) (hk : k.val = t.val % 2 * 1408 + j.val) :
    prodT (iblk m c 0 t) (iblk m c 1 t) r j = prodT (aA m c) (wA m c) l k :=
  Finset.sum_congr rfl fun i _ => congrArg₂ (fun u v : EReal => u * v) (a_at m c t r i l hl) (w_at m c t j i k hk)

theorem final_4 (c : Dev nD) : (dats m 0 c).arrAt 4 cfg0.N = underA (aA m c) (wA m c) (uA m c) (vA m c) := by
  refine (dats m 0 c).arrAt_eq_of_covers 4 _ (by decide +kernel) fun t hf y => ?_
  blk_simp
  rw [after0_4]
  have hy : y = ix2 (n0 := 512) (n1 := 1408) (y 0) (y 1) := eq_ix2 y
  have e0 : (((win0_4.blk t).view.emb y) 0).val = t.val / 2 * 512 + (y 0).val := by blk_simp [starts_4]
  have e1 : (((win0_4.blk t).view.emb y) 1).val = t.val % 2 * 1408 + (y 1).val := by blk_simp [starts_4]
  refine (congrArg _ hy).trans ((left_4 _ _ _ _ (y 0) (y 1)).trans ?_)
  rw [prod_at m c t _ _ _ _ e0 e1, u_at m c t _ _ _ e0 e1, v_at m c t _ _ _ e0 e1]
  rfl

theorem final_5 (c : Dev nD) : (dats m 0 c).arrAt 5 cfg0.N = otherA (aA m c) (wA m c) (uA m c) := by
  refine (dats m 0 c).arrAt_eq_of_covers 5 _ (by decide +kernel) fun t hf y => ?_
  blk_simp
  rw [after0_5]
  have hy : y = ix2 (n0 := 512) (n1 := 1408) (y 0) (y 1) := eq_ix2 y
  have e0 : (((win0_5.blk t).view.emb y) 0).val = t.val / 2 * 512 + (y 0).val := by blk_simp [starts_5]
  have e1 : (((win0_5.blk t).view.emb y) 1).val = t.val % 2 * 1408 + (y 1).val := by blk_simp [starts_5]
  refine (congrArg _ hy).trans ((left_5 _ _ _ (iblk m c 3 t) (y 0) (y 1)).trans ?_)
  rw [prod_at m c t _ _ _ _ e0 e1, u_at m c t _ _ _ e0 e1]
  rfl

/-! ## Against the reference -/

section Reference

open Cert.SwigluGradIdeal.Gen (bcast_S_S8192x2816)

/-- The reference's array of ones. -/
abbrev ones : FVec Ideal S8192x2816 .f32 :=
  broadcastInDim S8192x2816 ![] bcast_S_S8192x2816 (constant Cert.SwigluGradIdeal.S_ .f32 0x3F800000#32)

/-- The reference's logistic. -/
abbrev logistics (u : FVec Ideal S8192x2816 .f32) : FVec Ideal S8192x2816 .f32 :=
  Host.divf ones (addf ones (Host.exp (Host.negf u)))

/-- The reference's product with the transpose. -/
abbrev product (a : FVec Ideal S8192x1024 .bf16) (w : FVec Ideal S2816x1024 .bf16) : FVec Ideal S8192x2816 .f32 :=
  Host.dotGeneral Cert.SwigluGradIdeal.dot_S8192x1024_S2816x1024_S8192x2816_1_1_0_0_n_n none
    (extf .f32 a bitsLt_bf16_f32) (extf .f32 w bitsLt_bf16_f32)

theorem reference_under (a : FVec Ideal S8192x1024 .bf16) (w : FVec Ideal S2816x1024 .bf16) (u v : FVec Ideal S8192x2816 .f32) :
    truncf .bf16 (mulf (mulf (product a w) v)
      (addf (mulf ones (logistics u)) (mulf u (mulf ones (mulf (logistics u) (subf ones (logistics u))))))) bitsLt_bf16_f32
      = underA a w u v := by
  funext i
  obtain ⟨r, j, rfl⟩ : ∃ (r : Fin 8192) (j : Fin 2816), i = ix2 r j := ⟨i 0, i 1, eq_ix2 i⟩
  refine Eq.trans ?_ (congrArg (fun z : EReal => prodT a w r j * v (ix2 r j) * z) (slope_same (u (ix2 r j))))
  unfold prodT Ideal.logistic
  rw [← ofBits_one]
  pointwise

theorem reference_other (a : FVec Ideal S8192x1024 .bf16) (w : FVec Ideal S2816x1024 .bf16) (u : FVec Ideal S8192x2816 .f32) :
    truncf .bf16 (mulf (product a w) (mulf u (logistics u))) bitsLt_bf16_f32 = otherA a w u := by
  funext i
  obtain ⟨r, j, rfl⟩ : ∃ (r : Fin 8192) (j : Fin 2816), i = ix2 r j := ⟨i 0, i 1, eq_ix2 i⟩
  unfold otherA prodT Ideal.logistic
  rw [← ofBits_one]
  pointwise

end Reference

/-! ## The claims -/

theorem bodies_same : @Cert.ActGrad.defs₀ Bits _ _ = @Cert.ActGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem defs_same : @Cert.ActGrad.defs Bits _ _ = @Cert.ActGradIdeal.defs Bits _ _ :=
  congrArg (Pipeline.defs Cert.ActGradIdeal.pcfgs) bodies_same

theorem quiescent_bits : Cert.quiescent_ActGrad := fun m g _ => by
  rw [defs_same]
  exact Cert.ActGradIdeal.Gen.frame (F := Bits) m g

theorem quiescent_ideal : Cert.quiescent_ActGradIdeal := fun m g _ => Cert.ActGradIdeal.Gen.frame (F := Ideal) m g

theorem quiescent_reference : Cert.quiescent_SwigluGradIdeal := fun m g _ =>
  (θ_run Cert.SwigluGradIdeal.defs _ _).mono (fun r h => ⟨fun c => (h c).2.2, sem_eq_zero_of_no_sems rfl r.2⟩) (Cert.SwigluGradIdeal.Value.run (F := Ideal) m g)

theorem algebraic : Cert.algebraic_ActGradIdeal_SwigluGradIdeal := fun m g m' g' _ h => by
  refine ⟨fun c => underA (aA m c) (wA m c) (uA m c) (vA m c), fun c => otherA (aA m c) (wA m c) (uA m c),
    (θ_run Cert.ActGradIdeal.defs _ _).mono (fun _ hr c => ?_) (Cert.ActGradIdeal.Value.run_blocks (F := Ideal) m g),
    (θ_run Cert.SwigluGradIdeal.defs _ _).mono (fun _ hr c => ?_) (Cert.SwigluGradIdeal.Value.run (F := Ideal) m' g')⟩
  · obtain ⟨e0, e1, e⟩ := hr c
    exact ⟨e0.trans (final_4 m c), e1.trans (final_5 m c), e⟩
  · obtain ⟨e0, e1, e⟩ := hr c
    obtain ⟨h0, h1, h2, h3⟩ := h c
    exact ⟨(e0.trans (reference_under _ _ _ _)).trans (by rw [h0, h1, h2, h3]), (e1.trans (reference_other _ _ _)).trans (by rw [h0, h1, h2]), e⟩

end Cert.Proof.ActGrad

end
-- ==== Proof.HiddenGrad.lean ====
/-
  The gradient of the channel mixer's hidden rows, on one device: the two products with transposes added, a block of 512
  rows and 512 columns per grid point.
-/
module

public import proofs.«01_k».proof.Defs
public import proofs.«01_k».proof.Proof.ActGrad
public import proofs.«01_k».proof.Proof.Gen.HiddenGrad
public import proofs.«01_k».proof.Proof.Gen.HiddenGradIdeal
public import proofs.«01_k».proof.Proof.Gen.HiddenGradIdeal.Frame
public import proofs.«01_k».proof.Proof.Gen.HiddenGradIdeal.Value
public import proofs.«01_k».proof.Proof.Gen.ProductsGradIdeal
public import proofs.«01_k».proof.Proof.Gen.ProductsGradIdeal.Run

@[expose] public section

set_option Elab.async false
set_option maxRecDepth 16384

noncomputable section

namespace Cert.Proof.HiddenGrad

open Cert.HiddenGradIdeal Cert.HiddenGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.ActGrad (prodT)

theorem pay_at (a wa b wb : Vec Ideal S512x2816 .bf16) (r : Fin 512) (j : Fin 512) :
    k0_pay1 a wa b wb (ix2 r j) = (prodT a wa r j + prodT b wb r j : EReal) := by
  unfold k0_pay1 prodT
  pointwise

theorem left_4 (a wa b wb : Vec Ideal S512x2816 .bf16) (r : Fin 512) (j : Fin 512) :
    out0_4 a wa b wb (ix2 r j) = (prodT a wa r j + prodT b wb r j : EReal) := by
  rw [← pay_at]
  frame_out

variable (m : (ℓ : Loc nD τ sig) → Buf (Elt Ideal) ℓ)

abbrev aA (c : Dev nD) : FVec Ideal S8192x2816 .bf16 := m ((c.tc : Thread nD τ).loc main_arg0)
abbrev waA (c : Dev nD) : FVec Ideal S1024x2816 .bf16 := m ((c.tc : Thread nD τ).loc main_arg1)
abbrev bA (c : Dev nD) : FVec Ideal S8192x2816 .bf16 := m ((c.tc : Thread nD τ).loc main_arg2)
abbrev wbA (c : Dev nD) : FVec Ideal S1024x2816 .bf16 := m ((c.tc : Thread nD τ).loc main_arg3)

/-- The two products, added. -/
noncomputable def bothA (a : FVec Ideal S8192x2816 .bf16) (wa : FVec Ideal S1024x2816 .bf16) (b : FVec Ideal S8192x2816 .bf16)
    (wb : FVec Ideal S1024x2816 .bf16) : FVec Ideal S8192x1024 .f32 :=
  fun i => (prodT a wa (i 0) (i 1) + prodT b wb (i 0) (i 1) : EReal)

theorem starts_0 : ∀ t : Fin cfg0.N, win0_0.index t = ![t.val / 2, 0] := (by decide +kernel : ∀ t : Fin grid0.N, _)
theorem starts_1 : ∀ t : Fin cfg0.N, win0_1.index t = ![t.val % 2, 0] := (by decide +kernel : ∀ t : Fin grid0.N, _)
theorem starts_2 : ∀ t : Fin cfg0.N, win0_2.index t = ![t.val / 2, 0] := (by decide +kernel : ∀ t : Fin grid0.N, _)
theorem starts_3 : ∀ t : Fin cfg0.N, win0_3.index t = ![t.val % 2, 0] := (by decide +kernel : ∀ t : Fin grid0.N, _)
theorem starts_4 : ∀ t : Fin cfg0.N, win0_4.index t = ![t.val / 2, t.val % 2] := (by decide +kernel : ∀ t : Fin grid0.N, _)

theorem a_at (c : Dev nD) (t : Fin cfg0.N) (r : Fin 512) (k : Fin 2816) (l : Fin 8192) (hl : l.val = t.val / 2 * 512 + r.val) :
    iblk m c 0 t (ix2 r k) = aA m c (ix2 l k) := by
  refine (congrFun (V_main_arg0 m c) _).trans (congrArg (aA m c) (funext fun a => Fin.ext ?_))
  fin_cases a
  · have h : ((win0_0.blk t).view.emb (ix2 r k) 0).val = t.val / 2 * 512 + r.val := by blk_simp [starts_0]
    exact h.trans hl.symm
  · have h : ((win0_0.blk t).view.emb (ix2 r k) 1).val = k.val := by blk_simp [starts_0]
    exact h

theorem wa_at (c : Dev nD) (t : Fin cfg0.N) (j : Fin 512) (k : Fin 2816) (l : Fin 1024) (hl : l.val = t.val % 2 * 512 + j.val) :
    iblk m c 1 t (ix2 j k) = waA m c (ix2 l k) := by
  refine (congrFun (V_main_arg1 m c) _).trans (congrArg (waA m c) (funext fun a => Fin.ext ?_))
  fin_cases a
  · have h : ((win0_1.blk t).view.emb (ix2 j k) 0).val = t.val % 2 * 512 + j.val := by blk_simp [starts_1]
    exact h.trans hl.symm
  · have h : ((win0_1.blk t).view.emb (ix2 j k) 1).val = k.val := by blk_simp [starts_1]
    exact h

theorem b_at (c : Dev nD) (t : Fin cfg0.N) (r : Fin 512) (k : Fin 2816) (l : Fin 8192) (hl : l.val = t.val / 2 * 512 + r.val) :
    iblk m c 2 t (ix2 r k) = bA m c (ix2 l k) := by
  refine (congrFun (V_main_arg2 m c) _).trans (congrArg (bA m c) (funext fun a => Fin.ext ?_))
  fin_cases a
  · have h : ((win0_2.blk t).view.emb (ix2 r k) 0).val = t.val / 2 * 512 + r.val := by blk_simp [starts_2]
    exact h.trans hl.symm
  · have h : ((win0_2.blk t).view.emb (ix2 r k) 1).val = k.val := by blk_simp [starts_2]
    exact h

theorem wb_at (c : Dev nD) (t : Fin cfg0.N) (j : Fin 512) (k : Fin 2816) (l : Fin 1024) (hl : l.val = t.val % 2 * 512 + j.val) :
    iblk m c 3 t (ix2 j k) = wbA m c (ix2 l k) := by
  refine (congrFun (V_main_arg3 m c) _).trans (congrArg (wbA m c) (funext fun a => Fin.ext ?_))
  fin_cases a
  · have h : ((win0_3.blk t).view.emb (ix2 j k) 0).val = t.val % 2 * 512 + j.val := by blk_simp [starts_3]
    exact h.trans hl.symm
  · have h : ((win0_3.blk t).view.emb (ix2 j k) 1).val = k.val := by blk_simp [starts_3]
    exact h

theorem final (c : Dev nD) : (dats m 0 c).arrAt 4 cfg0.N = bothA (aA m c) (waA m c) (bA m c) (wbA m c) := by
  refine (dats m 0 c).arrAt_eq_of_covers 4 _ (by decide +kernel) fun t hf y => ?_
  blk_simp
  rw [after0_4]
  have hy : y = ix2 (n0 := 512) (n1 := 512) (y 0) (y 1) := eq_ix2 y
  have e0 : (((win0_4.blk t).view.emb y) 0).val = t.val / 2 * 512 + (y 0).val := by blk_simp [starts_4]
  have e1 : (((win0_4.blk t).view.emb y) 1).val = t.val % 2 * 512 + (y 1).val := by blk_simp [starts_4]
  refine (congrArg _ hy).trans ((left_4 _ _ _ _ (y 0) (y 1)).trans ?_)
  exact congrArg₂ (fun u v : EReal => u + v)
    (Finset.sum_congr rfl fun i _ => congrArg₂ (fun u v : EReal => u * v) (a_at m c t (y 0) i _ e0) (wa_at m c t (y 1) i _ e1))
    (Finset.sum_congr rfl fun i _ => congrArg₂ (fun u v : EReal => u * v) (b_at m c t (y 0) i _ e0) (wb_at m c t (y 1) i _ e1))

/-! ## Against the reference -/

theorem reference_both (a : FVec Ideal S8192x2816 .bf16) (wa : FVec Ideal S1024x2816 .bf16) (b : FVec Ideal S8192x2816 .bf16)
    (wb : FVec Ideal S1024x2816 .bf16) :
    addf (Host.dotGeneral Cert.ProductsGradIdeal.dot_S8192x2816_S1024x2816_S8192x1024_1_1_0_0_n_n none
        (extf .f32 b Cert.ProductsGradIdeal.Gen.bitsLt_bf16_f32) (extf .f32 wb Cert.ProductsGradIdeal.Gen.bitsLt_bf16_f32))
      (Host.dotGeneral Cert.ProductsGradIdeal.dot_S8192x2816_S1024x2816_S8192x1024_1_1_0_0_n_n none
        (extf .f32 a Cert.ProductsGradIdeal.Gen.bitsLt_bf16_f32) (extf .f32 wa Cert.ProductsGradIdeal.Gen.bitsLt_bf16_f32))
      = bothA a wa b wb := by
  funext i
  obtain ⟨r, j, rfl⟩ : ∃ (r : Fin 8192) (j : Fin 1024), i = ix2 r j := ⟨i 0, i 1, eq_ix2 i⟩
  refine Eq.trans ?_ (add_comm (prodT b wb r j) (prodT a wa r j))
  unfold prodT
  pointwise

/-! ## The claims -/

theorem bodies_same : @Cert.HiddenGrad.defs₀ Bits _ _ = @Cert.HiddenGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem defs_same : @Cert.HiddenGrad.defs Bits _ _ = @Cert.HiddenGradIdeal.defs Bits _ _ :=
  congrArg (Pipeline.defs Cert.HiddenGradIdeal.pcfgs) bodies_same

theorem quiescent_bits : Cert.quiescent_HiddenGrad := fun m g _ => by
  rw [defs_same]
  exact Cert.HiddenGradIdeal.Gen.frame (F := Bits) m g

theorem quiescent_ideal : Cert.quiescent_HiddenGradIdeal := fun m g _ => Cert.HiddenGradIdeal.Gen.frame (F := Ideal) m g

theorem quiescent_reference : Cert.quiescent_ProductsGradIdeal := fun m g _ =>
  (θ_run Cert.ProductsGradIdeal.defs _ _).mono (fun r h => ⟨fun c => (h c).2, sem_eq_zero_of_no_sems rfl r.2⟩) (Cert.ProductsGradIdeal.Value.run (F := Ideal) m g)

theorem algebraic : Cert.algebraic_HiddenGradIdeal_ProductsGradIdeal := fun m g m' g' _ h => by
  refine ⟨fun c => bothA (aA m c) (waA m c) (bA m c) (wbA m c),
    (θ_run Cert.HiddenGradIdeal.defs _ _).mono (fun _ hr c => ?_) (Cert.HiddenGradIdeal.Value.run_blocks (F := Ideal) m g),
    (θ_run Cert.ProductsGradIdeal.defs _ _).mono (fun _ hr c => ?_) (Cert.ProductsGradIdeal.Value.run (F := Ideal) m' g')⟩
  · obtain ⟨e0, e⟩ := hr c
    exact ⟨e0.trans (final m c), e⟩
  · obtain ⟨e0, e⟩ := hr c
    obtain ⟨h0, h1, h2, h3⟩ := h c
    exact ⟨(e0.trans (reference_both _ _ _ _)).trans (by rw [h0, h1, h2, h3]), e⟩

end Cert.Proof.HiddenGrad

end
-- ==== Proof.Blocks.lean ====
/-
  Reading an array at an index that is known by its two coordinates, and its products of two arrays block by block.
-/
module

public import proofs.«01_k».proof.Proof.ActGrad
public import proofs.«01_k».proof.Proof.Ffn

@[expose] public section

set_option Elab.async false

noncomputable section

namespace Cert.Proof.Blocks

open Idealize.ShloMosaic Idealize.ShloMosaic.Pointwise
open Cert.Proof.Ffn (prod)
open Cert.Proof.ActGrad (prodT)

/-- An array at the index whose coordinates are `l` and `k`. -/
theorem at_ix2 {n k : ℕ} {α : Type} (x : (⟨2, ![n, k]⟩ : Shape).Idx → α) {i : (⟨2, ![n, k]⟩ : Shape).Idx} {l : Fin n} {j : Fin k}
    (h0 : (i 0).val = l.val) (h1 : (i 1).val = j.val) : x i = x (ix2 l j) :=
  congrArg x ((eq_ix2 i).trans (congrArg₂ ix2 (Fin.ext h0) (Fin.ext h1)))

/-- The array's row that is row `r` of the `s`-th of sixteen blocks of rows. -/
def rowOf (s : Fin 16) (r : Fin 512) : Fin 8192 := ⟨s.val * 512 + r.val, by have := s.isLt; have := r.isLt; omega⟩

variable {n k l n' l' : ℕ}

/-- A product of blocks is the product's block: the rows and the columns that the blocks share with the arrays suffice. -/
theorem prod_block {a : (⟨2, ![n, k]⟩ : Shape).Idx → EReal} {w : (⟨2, ![k, l]⟩ : Shape).Idx → EReal}
    {a' : (⟨2, ![n', k]⟩ : Shape).Idx → EReal} {w' : (⟨2, ![k, l']⟩ : Shape).Idx → EReal} {r : Fin n} {j : Fin l} {r' : Fin n'} {j' : Fin l'}
    (ha : ∀ i, a (ix2 r i) = a' (ix2 r' i)) (hw : ∀ i, w (ix2 i j) = w' (ix2 i j')) : prod a w r j = prod a' w' r' j' :=
  Finset.sum_congr rfl fun i _ => congrArg₂ (fun u v : EReal => u * v) (ha i) (hw i)

/-- The same with the second factor transposed. -/
theorem prodT_block {a : (⟨2, ![n, k]⟩ : Shape).Idx → EReal} {w : (⟨2, ![l, k]⟩ : Shape).Idx → EReal}
    {a' : (⟨2, ![n', k]⟩ : Shape).Idx → EReal} {w' : (⟨2, ![l', k]⟩ : Shape).Idx → EReal} {r : Fin n} {j : Fin l} {r' : Fin n'} {j' : Fin l'}
    (ha : ∀ i, a (ix2 r i) = a' (ix2 r' i)) (hw : ∀ i, w (ix2 j i) = w' (ix2 j' i)) : prodT a w r j = prodT a' w' r' j' :=
  Finset.sum_congr rfl fun i _ => congrArg₂ (fun u v : EReal => u * v) (ha i) (hw i)

/-- The product with the first factor transposed: contracted over the rows. -/
noncomputable def prodR (a : (⟨2, ![n, k]⟩ : Shape).Idx → EReal) (b : (⟨2, ![n, l]⟩ : Shape).Idx → EReal) (i : Fin k) (j : Fin l) : EReal :=
  ∑ r, a (ix2 r i) * b (ix2 r j)

/-- The product over 8192 rows, in sixteen blocks. -/
theorem prodR_blocks (a : (⟨2, ![8192, k]⟩ : Shape).Idx → EReal) (b : (⟨2, ![8192, l]⟩ : Shape).Idx → EReal) (i : Fin k) (j : Fin l) :
    prodR a b i j = ∑ s : Fin 16, ∑ r : Fin 512, a (ix2 (rowOf s r) i) * b (ix2 (rowOf s r) j) :=
  Fin.sum_univ_tiles (N := 8192) 16 512 rfl (fun r => a (ix2 r i) * b (ix2 r j))

/-- One block's share of it. -/
theorem prodR_block {a : (⟨2, ![512, n']⟩ : Shape).Idx → EReal} {b : (⟨2, ![512, l']⟩ : Shape).Idx → EReal}
    {a' : (⟨2, ![8192, k]⟩ : Shape).Idx → EReal} {b' : (⟨2, ![8192, l]⟩ : Shape).Idx → EReal} {s : Fin 16}
    {i : Fin n'} {j : Fin l'} {i' : Fin k} {j' : Fin l}
    (ha : ∀ r, a (ix2 r i) = a' (ix2 (rowOf s r) i')) (hb : ∀ r, b (ix2 r j) = b' (ix2 (rowOf s r) j')) :
    prodR a b i j = ∑ r : Fin 512, a' (ix2 (rowOf s r) i') * b' (ix2 (rowOf s r) j') :=
  Finset.sum_congr rfl fun r _ => congrArg₂ (fun u v : EReal => u * v) (ha r) (hb r)

end Cert.Proof.Blocks

end
-- ==== Proof.NormOut.lean ====
/-
  The norm with its modulation, on one device: a block of 512 rows per grid point.
-/
module

public import proofs.«01_k».proof.Defs
public import proofs.«01_k».proof.Proof.Blocks
public import proofs.«01_k».proof.Proof.Gen.NormOut
public import proofs.«01_k».proof.Proof.Gen.NormOutIdeal
public import proofs.«01_k».proof.Proof.Gen.NormOutIdeal.Frame
public import proofs.«01_k».proof.Proof.Gen.NormOutIdeal.Value
public import proofs.«01_k».proof.Proof.Gen.NormedIdeal
public import proofs.«01_k».proof.Proof.Gen.NormedIdeal.Run

@[expose] public section

set_option Elab.async false
set_option maxRecDepth 16384

noncomputable section

namespace Cert.Proof.NormOut

open Cert.NormOutIdeal Cert.NormOutIdeal.Gen
open Idealize.ShloMosaic Idealize.ShloMosaic.TcCoe Idealize.ShloMosaic.Tactic Idealize.SL.Sem
open Idealize.ShloMosaic.Pointwise
open Idealize.ShloMosaic.Pipeline (Dat)
open Cert.Proof.NormGrad (inv mean ofBits_width ofBits_eps ofBits_one)
open Cert.Proof.Ffn (row normed normedA)
open Cert.Proof.Blocks (at_ix2)

theorem pay_at (x : Vec Ideal S512x1024 .f32) (g sc sh : Vec Ideal S1x1024 .f32) (r : Fin 512) (j : Fin 1024) :
    k0_pay1 x g sc sh (ix2 r j) = normed x g sh sc r j := by
  unfold k0_pay1 normed NormGrad.inv mean
  rw [← ofBits_width, ← ofBits_eps, ← ofBits_one]
  pointwise

theorem left (x : Vec Ideal S512x1024 .f32) (g sh sc : Vec Ideal S1x1024 .f32) (r : Fin 512) (j : Fin 1024) :
    out0_4 x g sh sc (ix2 r j) = normed x g sh sc r j := by
  rw [← pay_at]
  frame_out

variable (m : (ℓ : Loc nD τ sig) → Buf (Elt Ideal) ℓ)

abbrev xA (c : Dev nD) : FVec Ideal S8192x1024 .f32 := m ((c.tc : Thread nD τ).loc main_arg0)
abbrev gA (c : Dev nD) : FVec Ideal S1x1024 .f32 := m ((c.tc : Thread nD τ).loc main_arg1)
abbrev shA (c : Dev nD) : FVec Ideal S1x1024 .f32 := m ((c.tc : Thread nD τ).loc main_arg2)
abbrev scA (c : Dev nD) : FVec Ideal S1x1024 .f32 := m ((c.tc : Thread nD τ).loc main_arg3)

theorem starts_0 : ∀ t : Fin cfg0.N, win0_0.index t = ![t.val, 0] := (by decide +kernel : ∀ t : Fin grid0.N, _)
theorem starts_1 : ∀ t : Fin cfg0.N, win0_1.index t = ![0, 0] := (by decide +kernel : ∀ t : Fin grid0.N, _)
theorem starts_2 : ∀ t : Fin cfg0.N, win0_2.index t = ![0, 0] := (by decide +kernel : ∀ t : Fin grid0.N, _)
theorem starts_3 : ∀ t : Fin cfg0.N, win0_3.index t = ![0, 0] := (by decide +kernel : ∀ t : Fin grid0.N, _)
theorem starts_4 : ∀ t : Fin cfg0.N, win0_4.index t = ![t.val, 0] := (by decide +kernel : ∀ t : Fin grid0.N, _)

theorem x_at (c : Dev nD) (t : Fin cfg0.N) (r : Fin 512) (j : Fin 1024) (l : Fin 8192) (hl : l.val = t.val * 512 + r.val) :
    iblk m c 0 t (ix2 r j) = xA m c (ix2 l j) := by
  have e0 : ((win0_0.blk t).view.emb (ix2 r j) 0).val = t.val * 512 + r.val := by blk_simp [starts_0]
  have e1 : ((win0_0.blk t).view.emb (ix2 r j) 1).val = j.val := by blk_simp [starts_0]
  exact (congrFun (V_main_arg0 m c) _).trans (at_ix2 (xA m c) (e0.trans hl.symm) e1)

theorem g_at (c : Dev nD) (t : Fin cfg0.N) (j : Fin 1024) : iblk m c 1 t (ix2 0 j) = gA m c (ix2 0 j) := by
  have e0 : ((win0_1.blk t).view.emb (ix2 0 j) 0).val = 0 := by
    blk_simp [starts_1]
    rfl
  have e1 : ((win0_1.blk t).view.emb (ix2 0 j) 1).val = j.val := by blk_simp [starts_1]
  exact (congrFun (V_main_arg1 m c) _).trans (at_ix2 (gA m c) (l := 0) e0 e1)

theorem sh_at (c : Dev nD) (t : Fin cfg0.N) (j : Fin 1024) : iblk m c 2 t (ix2 0 j) = shA m c (ix2 0 j) := by
  have e0 : ((win0_2.blk t).view.emb (ix2 0 j) 0).val = 0 := by
    blk_simp [starts_2]
    rfl
  have e1 : ((win0_2.blk t).view.emb (ix2 0 j) 1).val = j.val := by blk_simp [starts_2]
  exact (congrFun (V_main_arg2 m c) _).trans (at_ix2 (shA m c) (l := 0) e0 e1)

theorem sc_at (c : Dev nD) (t : Fin cfg0.N) (j : Fin 1024) : iblk m c 3 t (ix2 0 j) = scA m c (ix2 0 j) := by
  have e0 : ((win0_3.blk t).view.emb (ix2 0 j) 0).val = 0 := by
    blk_simp [starts_3]
    rfl
  have e1 : ((win0_3.blk t).view.emb (ix2 0 j) 1).val = j.val := by blk_simp [starts_3]
  exact (congrFun (V_main_arg3 m c) _).trans (at_ix2 (scA m c) (l := 0) e0 e1)

theorem normed_at (c : Dev nD) (t : Fin cfg0.N) (r : Fin 512) (j : Fin 1024) (l : Fin 8192) (hl : l.val = t.val * 512 + r.val) :
    normed (iblk m c 0 t) (iblk m c 1 t) (iblk m c 2 t) (iblk m c 3 t) r j = normed (xA m c) (gA m c) (shA m c) (scA m c) l j := by
  have hx : row (iblk m c 0 t) r = row (xA m c) l := funext fun k => x_at m c t r k l hl
  unfold normed
  rw [hx, g_at, sh_at, sc_at]

theorem final (c : Dev nD) : (dats m 0 c).arrAt 4 cfg0.N = normedA (xA m c) (gA m c) (shA m c) (scA m c) := by
  refine (dats m 0 c).arrAt_eq_of_covers 4 _ (by decide +kernel) fun t hf y => ?_
  blk_simp
  rw [after0_4]
  have e0 : (((win0_4.blk t).view.emb y) 0).val = t.val * 512 + (y 0).val := by blk_simp [starts_4]
  have e1 : ((win0_4.blk t).view.emb y) 1 = y 1 := by
    apply Fin.ext
    blk_simp [starts_4]
  refine (congrArg _ (eq_ix2 y)).trans ((left _ _ _ _ (y 0) (y 1)).trans ((normed_at m c t _ _ _ e0).trans ?_))
  unfold normedA
  rw [← e1]

/-! ## Against the reference -/

section Reference

open Cert.NormedIdeal (S_ S8192 S8192x1 S1024)
open Cert.NormedIdeal.Gen

theorem reference_normed (x : FVec Ideal S8192x1024 .f32) (g sh sc : FVec Ideal S1x1024 .f32) :
    truncf .bf16 (addf (mulf (mulf (mulf x (broadcastInDim S8192x1024 ![0, 1] bcast_S8192x1_S8192x1024_0_1 (Host.rsqrt (addf
        (Host.divf (broadcastInDim S8192x1 ![0] bcast_S8192_S8192x1_0 (Host.reduceAdd (mulf x x) (constant S_ .f32 0x00000000#32)
          reducesTo_S8192x1024_S8192_d1 Cert.NormedIdeal.Gen.h_S_)) (broadcastInDim S8192x1 ![] bcast_S_S8192x1 (constant S_ .f32 0x44800000#32)))
        (broadcastInDim S8192x1 ![] bcast_S_S8192x1 (constant S_ .f32 0x358637BD#32))))))
      (broadcastInDim S8192x1024 ![0, 1] bcast_S1x1024_S8192x1024_0_1 (broadcastInDim S1x1024 ![1] bcast_S1024_S1x1024_1
        (shapeCast _ g shapeCasts_S1x1024_S1024))))
      (broadcastInDim S8192x1024 ![0, 1] bcast_S1x1024_S8192x1024_0_1 (addf (broadcastInDim S1x1024 ![] bcast_S_S1x1024 (constant S_ .f32 0x3F800000#32)) sc)))
      (broadcastInDim S8192x1024 ![0, 1] bcast_S1x1024_S8192x1024_0_1 sh)) Cert.NormedIdeal.Gen.bitsLt_bf16_f32 = normedA x g sh sc := by
  funext i
  obtain ⟨r, j, rfl⟩ : ∃ (r : Fin 8192) (j : Fin 1024), i = ix2 r j := ⟨i 0, i 1, eq_ix2 i⟩
  unfold normedA normed NormGrad.inv mean
  rw [← ofBits_width, ← ofBits_eps, ← ofBits_one]
  pointwise

end Reference

/-! ## The claims -/

theorem bodies_same : @Cert.NormOut.defs₀ Bits _ _ = @Cert.NormOutIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_NormOut := fun m g _ => by
  rw [show @Cert.NormOut.defs Bits _ _ = @Cert.NormOutIdeal.defs Bits _ _ from
    congrArg (Pipeline.defs Cert.NormOutIdeal.pcfgs) bodies_same]
  exact Cert.NormOutIdeal.Gen.frame (F := Bits) m g

theorem quiescent_ideal : Cert.quiescent_NormOutIdeal := fun m g _ => Cert.NormOutIdeal.Gen.frame (F := Ideal) m g

theorem quiescent_reference : Cert.quiescent_NormedIdeal := fun m g _ =>
  (θ_run Cert.NormedIdeal.defs _ _).mono (fun r h => ⟨fun c => (h c).2, sem_eq_zero_of_no_sems rfl r.2⟩) (Cert.NormedIdeal.Value.run (F := Ideal) m g)

theorem algebraic : Cert.algebraic_NormOutIdeal_NormedIdeal := fun m g m' g' _ h => by
  refine ⟨fun c => normedA (xA m c) (gA m c) (shA m c) (scA m c),
    (θ_run Cert.NormOutIdeal.defs _ _).mono (fun _ hr c => ?_) (Cert.NormOutIdeal.Value.run_blocks (F := Ideal) m g),
    (θ_run Cert.NormedIdeal.defs _ _).mono (fun _ hr c => ?_) (Cert.NormedIdeal.Value.run (F := Ideal) m' g')⟩
  · exact ⟨(hr c).1.trans (final m c), (hr c).2⟩
  · obtain ⟨h0, h1, h2, h3⟩ := h c
    exact ⟨((hr c).1.trans (reference_normed _ _ _ _)).trans (by rw [h0, h1, h2, h3]), (hr c).2⟩

end Cert.Proof.NormOut

end
-- ==== Proof.MixedGrad.lean ====
/-
  The gradient of the convolution's output, on one device: a block of 512 rows and 512 columns per grid point.
-/
module

public import proofs.«01_k».proof.Defs
public import proofs.«01_k».proof.Proof.Blocks
public import proofs.«01_k».proof.Proof.Gen.MixedGrad
public import proofs.«01_k».proof.Proof.Gen.MixedGradIdeal
public import proofs.«01_k».proof.Proof.Gen.MixedGradIdeal.Frame
public import proofs.«01_k».proof.Proof.Gen.MixedGradIdeal.Value
public import proofs.«01_k».proof.Proof.Gen.MixedFactorGradIdeal
public import proofs.«01_k».proof.Proof.Gen.MixedFactorGradIdeal.Run

@[expose] public section

set_option Elab.async false
set_option maxRecDepth 16384

noncomputable section

namespace Cert.Proof.MixedGrad

open Cert.MixedGradIdeal Cert.MixedGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.ActGrad (prodT)
open Cert.Proof.Blocks (at_ix2 prodT_block)

theorem pay_at (d w : Vec Ideal S512x1024 .bf16) (r j : Fin 512) : k0_pay1 d w (ix2 r j) = prodT d w r j := by
  unfold k0_pay1 prodT
  pointwise

theorem left (d w : Vec Ideal S512x1024 .bf16) (r j : Fin 512) : out0_2 d w (ix2 r j) = prodT d w r j := by
  rw [← pay_at]
  frame_out

variable (m : (ℓ : Loc nD τ sig) → Buf (Elt Ideal) ℓ)

abbrev dA (c : Dev nD) : FVec Ideal S8192x1024 .bf16 := m ((c.tc : Thread nD τ).loc main_arg0)
abbrev wA (c : Dev nD) : FVec Ideal S1024x1024 .bf16 := m ((c.tc : Thread nD τ).loc main_arg1)

/-- The product with the weights transposed. -/
noncomputable def backA (d : FVec Ideal S8192x1024 .bf16) (w : FVec Ideal S1024x1024 .bf16) : FVec Ideal S8192x1024 .f32 :=
  fun i => prodT d w (i 0) (i 1)

theorem starts_0 : ∀ t : Fin cfg0.N, win0_0.index t = ![t.val / 2, 0] := (by decide +kernel : ∀ t : Fin grid0.N, _)
theorem starts_1 : ∀ t : Fin cfg0.N, win0_1.index t = ![t.val % 2, 0] := (by decide +kernel : ∀ t : Fin grid0.N, _)
theorem starts_2 : ∀ t : Fin cfg0.N, win0_2.index t = ![t.val / 2, t.val % 2] := (by decide +kernel : ∀ t : Fin grid0.N, _)

theorem d_at (c : Dev nD) (t : Fin cfg0.N) (r : Fin 512) (k : Fin 1024) (l : Fin 8192) (hl : l.val = t.val / 2 * 512 + r.val) :
    iblk m c 0 t (ix2 r k) = dA m c (ix2 l k) := by
  have e0 : ((win0_0.blk t).view.emb (ix2 r k) 0).val = t.val / 2 * 512 + r.val := by blk_simp [starts_0]
  have e1 : ((win0_0.blk t).view.emb (ix2 r k) 1).val = k.val := by blk_simp [starts_0]
  exact (congrFun (V_main_arg0 m c) _).trans (at_ix2 (dA m c) (e0.trans hl.symm) e1)

theorem w_at (c : Dev nD) (t : Fin cfg0.N) (j : Fin 512) (k : Fin 1024) (l : Fin 1024) (hl : l.val = t.val % 2 * 512 + j.val) :
    iblk m c 1 t (ix2 j k) = wA m c (ix2 l k) := by
  have e0 : ((win0_1.blk t).view.emb (ix2 j k) 0).val = t.val % 2 * 512 + j.val := by blk_simp [starts_1]
  have e1 : ((win0_1.blk t).view.emb (ix2 j k) 1).val = k.val := by blk_simp [starts_1]
  exact (congrFun (V_main_arg1 m c) _).trans (at_ix2 (wA m c) (e0.trans hl.symm) e1)

theorem final (c : Dev nD) : (dats m 0 c).arrAt 2 cfg0.N = backA (dA m c) (wA m c) := by
  refine (dats m 0 c).arrAt_eq_of_covers 2 _ (by decide +kernel) fun t hf y => ?_
  blk_simp
  rw [after0_2]
  have e0 : (((win0_2.blk t).view.emb y) 0).val = t.val / 2 * 512 + (y 0).val := by blk_simp [starts_2]
  have e1 : (((win0_2.blk t).view.emb y) 1).val = t.val % 2 * 512 + (y 1).val := by blk_simp [starts_2]
  refine (congrArg _ (eq_ix2 y)).trans ((left _ _ (y 0) (y 1)).trans ?_)
  exact prodT_block (fun i => d_at m c t _ i _ e0) (fun i => w_at m c t _ i _ e1)

theorem reference_back (d : FVec Ideal S8192x1024 .bf16) (w : FVec Ideal S1024x1024 .bf16) :
    Host.dotGeneral Cert.MixedFactorGradIdeal.dot_S8192x1024_S1024x1024_S8192x1024_1_1_0_0_n_n none
      (extf .f32 d Cert.MixedFactorGradIdeal.Gen.bitsLt_bf16_f32) (extf .f32 w Cert.MixedFactorGradIdeal.Gen.bitsLt_bf16_f32) = backA d w := by
  funext i
  unfold backA prodT
  pointwise

/-! ## The claims -/

theorem bodies_same : @Cert.MixedGrad.defs₀ Bits _ _ = @Cert.MixedGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_MixedGrad := fun m g _ => by
  rw [show @Cert.MixedGrad.defs Bits _ _ = @Cert.MixedGradIdeal.defs Bits _ _ from
    congrArg (Pipeline.defs Cert.MixedGradIdeal.pcfgs) bodies_same]
  exact Cert.MixedGradIdeal.Gen.frame (F := Bits) m g

theorem quiescent_ideal : Cert.quiescent_MixedGradIdeal := fun m g _ => Cert.MixedGradIdeal.Gen.frame (F := Ideal) m g

theorem quiescent_reference : Cert.quiescent_MixedFactorGradIdeal := fun m g _ =>
  (θ_run Cert.MixedFactorGradIdeal.defs _ _).mono (fun r h => ⟨fun c => (h c).2, sem_eq_zero_of_no_sems rfl r.2⟩) (Cert.MixedFactorGradIdeal.Value.run (F := Ideal) m g)

theorem algebraic : Cert.algebraic_MixedGradIdeal_MixedFactorGradIdeal := fun m g m' g' _ h => by
  refine ⟨fun c => backA (dA m c) (wA m c),
    (θ_run Cert.MixedGradIdeal.defs _ _).mono (fun _ hr c => ?_) (Cert.MixedGradIdeal.Value.run_blocks (F := Ideal) m g),
    (θ_run Cert.MixedFactorGradIdeal.defs _ _).mono (fun _ hr c => ?_) (Cert.MixedFactorGradIdeal.Value.run (F := Ideal) m' g')⟩
  · exact ⟨(hr c).1.trans (final m c), (hr c).2⟩
  · exact ⟨((hr c).1.trans (reference_back _ _)).trans (congrArg₂ backA (h c).1 (h c).2), (hr c).2⟩

end Cert.Proof.MixedGrad

end
-- ==== Proof.QueryGrad.lean ====
/-
  The gradient of the attention's normed input, on one device: a block of 512 rows and 512 columns per grid point.
-/
module

public import proofs.«01_k».proof.Defs
public import proofs.«01_k».proof.Proof.Blocks
public import proofs.«01_k».proof.Proof.Gen.QueryGrad
public import proofs.«01_k».proof.Proof.Gen.QueryGradIdeal
public import proofs.«01_k».proof.Proof.Gen.QueryGradIdeal.Frame
public import proofs.«01_k».proof.Proof.Gen.QueryGradIdeal.Value
public import proofs.«01_k».proof.Proof.Gen.QueryFactorGradIdeal
public import proofs.«01_k».proof.Proof.Gen.QueryFactorGradIdeal.Run

@[expose] public section

set_option Elab.async false
set_option maxRecDepth 16384

noncomputable section

namespace Cert.Proof.QueryGrad

open Cert.QueryGradIdeal Cert.QueryGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.ActGrad (prodT)
open Cert.Proof.Blocks (at_ix2 prodT_block)

theorem pay_at (d : Vec Ideal S512x1024 .f32) (w : Vec Ideal S512x1024 .bf16) (r j : Fin 512) : k0_pay1 d w (ix2 r j) = prodT d w r j := by
  unfold k0_pay1 prodT
  pointwise

theorem left (d : Vec Ideal S512x1024 .f32) (w : Vec Ideal S512x1024 .bf16) (r j : Fin 512) : out0_2 d w (ix2 r j) = prodT d w r j := by
  rw [← pay_at]
  frame_out

variable (m : (ℓ : Loc nD τ sig) → Buf (Elt Ideal) ℓ)

abbrev dA (c : Dev nD) : FVec Ideal S8192x1024 .f32 := m ((c.tc : Thread nD τ).loc main_arg0)
abbrev wA (c : Dev nD) : FVec Ideal S1024x1024 .bf16 := m ((c.tc : Thread nD τ).loc main_arg1)

/-- The product with the weights transposed. -/
noncomputable def backA (d : FVec Ideal S8192x1024 .f32) (w : FVec Ideal S1024x1024 .bf16) : FVec Ideal S8192x1024 .f32 :=
  fun i => prodT d w (i 0) (i 1)

theorem starts_0 : ∀ t : Fin cfg0.N, win0_0.index t = ![t.val / 2, 0] := (by decide +kernel : ∀ t : Fin grid0.N, _)
theorem starts_1 : ∀ t : Fin cfg0.N, win0_1.index t = ![t.val % 2, 0] := (by decide +kernel : ∀ t : Fin grid0.N, _)
theorem starts_2 : ∀ t : Fin cfg0.N, win0_2.index t = ![t.val / 2, t.val % 2] := (by decide +kernel : ∀ t : Fin grid0.N, _)

theorem d_at (c : Dev nD) (t : Fin cfg0.N) (r : Fin 512) (k : Fin 1024) (l : Fin 8192) (hl : l.val = t.val / 2 * 512 + r.val) :
    iblk m c 0 t (ix2 r k) = dA m c (ix2 l k) := by
  have e0 : ((win0_0.blk t).view.emb (ix2 r k) 0).val = t.val / 2 * 512 + r.val := by blk_simp [starts_0]
  have e1 : ((win0_0.blk t).view.emb (ix2 r k) 1).val = k.val := by blk_simp [starts_0]
  exact (congrFun (V_main_arg0 m c) _).trans (at_ix2 (dA m c) (e0.trans hl.symm) e1)

theorem w_at (c : Dev nD) (t : Fin cfg0.N) (j : Fin 512) (k : Fin 1024) (l : Fin 1024) (hl : l.val = t.val % 2 * 512 + j.val) :
    iblk m c 1 t (ix2 j k) = wA m c (ix2 l k) := by
  have e0 : ((win0_1.blk t).view.emb (ix2 j k) 0).val = t.val % 2 * 512 + j.val := by blk_simp [starts_1]
  have e1 : ((win0_1.blk t).view.emb (ix2 j k) 1).val = k.val := by blk_simp [starts_1]
  exact (congrFun (V_main_arg1 m c) _).trans (at_ix2 (wA m c) (e0.trans hl.symm) e1)

theorem final (c : Dev nD) : (dats m 0 c).arrAt 2 cfg0.N = backA (dA m c) (wA m c) := by
  refine (dats m 0 c).arrAt_eq_of_covers 2 _ (by decide +kernel) fun t hf y => ?_
  blk_simp
  rw [after0_2]
  have e0 : (((win0_2.blk t).view.emb y) 0).val = t.val / 2 * 512 + (y 0).val := by blk_simp [starts_2]
  have e1 : (((win0_2.blk t).view.emb y) 1).val = t.val % 2 * 512 + (y 1).val := by blk_simp [starts_2]
  refine (congrArg _ (eq_ix2 y)).trans ((left _ _ (y 0) (y 1)).trans ?_)
  exact prodT_block (fun i => d_at m c t _ i _ e0) (fun i => w_at m c t _ i _ e1)

theorem reference_back (d : FVec Ideal S8192x1024 .f32) (w : FVec Ideal S1024x1024 .bf16) :
    Host.dotGeneral Cert.QueryFactorGradIdeal.dot_S8192x1024_S1024x1024_S8192x1024_1_1_0_0_n_n none
      d (extf .f32 w Cert.QueryFactorGradIdeal.Gen.bitsLt_bf16_f32) = backA d w := by
  funext i
  unfold backA prodT
  pointwise

/-! ## The claims -/

theorem bodies_same : @Cert.QueryGrad.defs₀ Bits _ _ = @Cert.QueryGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_QueryGrad := fun m g _ => by
  rw [show @Cert.QueryGrad.defs Bits _ _ = @Cert.QueryGradIdeal.defs Bits _ _ from
    congrArg (Pipeline.defs Cert.QueryGradIdeal.pcfgs) bodies_same]
  exact Cert.QueryGradIdeal.Gen.frame (F := Bits) m g

theorem quiescent_ideal : Cert.quiescent_QueryGradIdeal := fun m g _ => Cert.QueryGradIdeal.Gen.frame (F := Ideal) m g

theorem quiescent_reference : Cert.quiescent_QueryFactorGradIdeal := fun m g _ =>
  (θ_run Cert.QueryFactorGradIdeal.defs _ _).mono (fun r h => ⟨fun c => (h c).2, sem_eq_zero_of_no_sems rfl r.2⟩) (Cert.QueryFactorGradIdeal.Value.run (F := Ideal) m g)

theorem algebraic : Cert.algebraic_QueryGradIdeal_QueryFactorGradIdeal := fun m g m' g' _ h => by
  refine ⟨fun c => backA (dA m c) (wA m c),
    (θ_run Cert.QueryGradIdeal.defs _ _).mono (fun _ hr c => ?_) (Cert.QueryGradIdeal.Value.run_blocks (F := Ideal) m g),
    (θ_run Cert.QueryFactorGradIdeal.defs _ _).mono (fun _ hr c => ?_) (Cert.QueryFactorGradIdeal.Value.run (F := Ideal) m' g')⟩
  · exact ⟨(hr c).1.trans (final m c), (hr c).2⟩
  · exact ⟨((hr c).1.trans (reference_back _ _)).trans (congrArg₂ backA (h c).1 (h c).2), (hr c).2⟩

end Cert.Proof.QueryGrad

end
-- ==== Proof.QueryWeightGrad.lean ====
/-
  The gradient of the queries' weights: a product contracted over the sequence, on one device the whole of it accumulated over
  the sixteen blocks of 512 positions, the queries' gradient in f32.
-/
module

public import proofs.«01_k».proof.Defs
public import proofs.«01_k».proof.Proof.Blocks
public import proofs.«01_k».proof.Proof.Gen.QueryWeightGrad
public import proofs.«01_k».proof.Proof.Gen.QueryWeightGradIdeal
public import proofs.«01_k».proof.Proof.Gen.QueryWeightGradIdeal.Frame
public import proofs.«01_k».proof.Proof.Gen.QueryWeightGradIdeal.Value
public import proofs.«01_k».proof.Proof.Gen.QueryProductGradIdeal
public import proofs.«01_k».proof.Proof.Gen.QueryProductGradIdeal.Run

@[expose] public section

set_option Elab.async false
set_option maxRecDepth 16384

noncomputable section

namespace Cert.Proof.QueryWeightGrad

open Cert.QueryWeightGradIdeal Cert.QueryWeightGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.NormGrad (ofBits_zero)
open Cert.Proof.Blocks (at_ix2 rowOf prodR prodR_blocks prodR_block)

/-! ## One point -/

theorem pay2_at (acc : Vec Ideal S1024x1024 .f32) (a : Vec Ideal S512x1024 .bf16) (b : Vec Ideal S512x1024 .f32) (i : S1024x1024.Idx) :
    k0_pay2 acc a b i = (acc i + prodR a b (i 0) (i 1) : EReal) := by
  unfold k0_pay2 prodR
  pointwise

theorem pay1_at (i : S1024x1024.Idx) : (k0_pay1 : FVec Ideal S1024x1024 .f32) i = (0 : EReal) := by
  unfold k0_pay1
  rw [← ofBits_zero]
  pointwise

variable (m : (ℓ : Loc nD τ sig) → Buf (Elt Ideal) ℓ)

theorem first (c : Dev nD) (t : Fin cfg0.N) (h0 : t.val % 16 = 0) (i : S1024x1024.Idx) :
    outsAt0 m c t.val t.isLt i = (0 + prodR (iblk m c 0 t) (iblk m c 1 t) (i 0) (i 1) : EReal) := by
  rw [outsAt0_A m c t h0, Cert.QueryWeightGradIdeal.Value.out_A_2_eq, pay2_at, pay1_at]

theorem next (c : Dev nD) (t : Fin cfg0.N) (h0 : ¬ t.val % 16 = 0) (i : S1024x1024.Idx) :
    outsAt0 m c t.val t.isLt i = (outsAt0 m c (t.val - 1) (Nat.lt_of_le_of_lt (Nat.sub_le _ _) t.isLt) i
      + prodR (iblk m c 0 t) (iblk m c 1 t) (i 0) (i 1) : EReal) := by
  rw [outsAt0_B m c t h0, Cert.QueryWeightGradIdeal.Value.out_B_2_eq, pay2_at]

/-! ## The array -/

abbrev aA (c : Dev nD) : FVec Ideal S8192x1024 .bf16 := m ((c.tc : Thread nD τ).loc main_arg0)
abbrev bA (c : Dev nD) : FVec Ideal S8192x1024 .f32 := m ((c.tc : Thread nD τ).loc main_arg1)

/-- The gradient: the product contracted over all rows. -/
noncomputable def gradA (a : FVec Ideal S8192x1024 .bf16) (b : FVec Ideal S8192x1024 .f32) : FVec Ideal S1024x1024 .f32 := fun i => prodR a b (i 0) (i 1)

theorem starts_0 : ∀ t : Fin cfg0.N, win0_0.index t = ![t.val % 16, 0] := (by decide +kernel : ∀ t : Fin grid0.N, _)
theorem starts_1 : ∀ t : Fin cfg0.N, win0_1.index t = ![t.val % 16, 0] := (by decide +kernel : ∀ t : Fin grid0.N, _)
theorem starts_2 : ∀ t : Fin cfg0.N, win0_2.index t = ![0, 0] := (by decide +kernel : ∀ t : Fin grid0.N, _)

theorem a_at (c : Dev nD) (t : Fin cfg0.N) (s : Fin 16) (hs : t.val % 16 = s.val) (r : Fin 512) (j : Fin 1024) :
    iblk m c 0 t (ix2 r j) = aA m c (ix2 (rowOf s r) j) := by
  have e0 : ((win0_0.blk t).view.emb (ix2 r j) 0).val = t.val % 16 * 512 + r.val := by blk_simp [starts_0]
  have e1 : ((win0_0.blk t).view.emb (ix2 r j) 1).val = j.val := by blk_simp [starts_0]
  rw [hs] at e0
  exact (congrFun (V_main_arg0 m c) _).trans (at_ix2 (aA m c) (l := rowOf s r) e0 e1)

theorem b_at (c : Dev nD) (t : Fin cfg0.N) (s : Fin 16) (hs : t.val % 16 = s.val) (r : Fin 512) (j : Fin 1024) :
    iblk m c 1 t (ix2 r j) = bA m c (ix2 (rowOf s r) j) := by
  have e0 : ((win0_1.blk t).view.emb (ix2 r j) 0).val = t.val % 16 * 512 + r.val := by blk_simp [starts_1]
  have e1 : ((win0_1.blk t).view.emb (ix2 r j) 1).val = j.val := by blk_simp [starts_1]
  rw [hs] at e0
  exact (congrFun (V_main_arg1 m c) _).trans (at_ix2 (bA m c) (l := rowOf s r) e0 e1)

theorem after_last (c : Dev nD) (t : Fin cfg0.N) (hm : t.val % 16 = 15) (i : S1024x1024.Idx) :
    outsAt0 m c t.val t.isLt i = prodR (aA m c) (bA m c) (i 0) (i 1) := by
  have hf := Pipeline.eq_sum_fin_of_reset_step_apply_of_flush (fun n h => outsAt0 m c n h) 16 (fun _ => (0 : EReal))
    (fun t i => prodR (iblk m c 0 t) (iblk m c 1 t) (i 0) (i 1)) (fun t h i => first m c t h i) (fun t h i => next m c t h i) t hm i
  refine hf.trans ((zero_add _).trans ?_)
  refine (Finset.sum_congr rfl fun s _ => ?_).trans (prodR_blocks (aA m c) (bA m c) (i 0) (i 1)).symm
  have hs : (16 * (t.val / 16) + s.val) % 16 = s.val := by have := s.isLt; omega
  exact prodR_block (fun r => a_at m c _ s hs r (i 0)) (fun r => b_at m c _ s hs r (i 1))

theorem final (c : Dev nD) : (dats m 0 c).arrAt 2 cfg0.N = gradA (aA m c) (bA m c) := by
  refine (dats m 0 c).arrAt_eq_of_covers 2 _ (by decide +kernel) fun t hf y => ?_
  have hm : t.val % 16 = 15 := (flush0_2 t).mp hf
  blk_simp
  rw [after0_2]
  have e0 : ((win0_2.blk t).view.emb y) 0 = y 0 := by
    apply Fin.ext
    blk_simp [starts_2]
  have e1 : ((win0_2.blk t).view.emb y) 1 = y 1 := by
    apply Fin.ext
    blk_simp [starts_2]
  refine (after_last m c t hm y).trans ?_
  unfold gradA
  rw [e0, e1]

/-! ## Against the reference -/

theorem reference_grad (a : FVec Ideal S8192x1024 .bf16) (b : FVec Ideal S8192x1024 .f32) :
    transpose S1024x1024 [1, 0] (Host.dotGeneral Cert.QueryProductGradIdeal.dot_S8192x1024_S8192x1024_S1024x1024_0_0_1_1_n_n none
      b (extf .f32 a Cert.QueryProductGradIdeal.Gen.bitsLt_bf16_f32))
      Cert.QueryProductGradIdeal.Gen.transposes_S1024x1024_S1024x1024_1_0 = gradA a b := by
  funext i
  unfold gradA prodR
  pointwise
  exact Finset.sum_congr rfl fun r _ => mul_comm _ _

/-! ## The claims -/

theorem bodies_same : @Cert.QueryWeightGrad.defs₀ Bits _ _ = @Cert.QueryWeightGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_QueryWeightGrad := fun m g _ => by
  rw [show @Cert.QueryWeightGrad.defs Bits _ _ = @Cert.QueryWeightGradIdeal.defs Bits _ _ from
    congrArg (Pipeline.defs Cert.QueryWeightGradIdeal.pcfgs) bodies_same]
  exact Cert.QueryWeightGradIdeal.Gen.frame (F := Bits) m g

theorem quiescent_ideal : Cert.quiescent_QueryWeightGradIdeal := fun m g _ => Cert.QueryWeightGradIdeal.Gen.frame (F := Ideal) m g

theorem quiescent_reference : Cert.quiescent_QueryProductGradIdeal := fun m g _ =>
  (θ_run Cert.QueryProductGradIdeal.defs _ _).mono (fun r h => ⟨fun c => (h c).2, sem_eq_zero_of_no_sems rfl r.2⟩) (Cert.QueryProductGradIdeal.Value.run (F := Ideal) m g)

theorem algebraic : Cert.algebraic_QueryWeightGradIdeal_QueryProductGradIdeal := fun m g m' g' _ h => by
  refine ⟨fun c => gradA (aA m c) (bA m c),
    (θ_run Cert.QueryWeightGradIdeal.defs _ _).mono (fun _ hr c => ?_) (Cert.QueryWeightGradIdeal.Value.run_blocks (F := Ideal) m g),
    (θ_run Cert.QueryProductGradIdeal.defs _ _).mono (fun _ hr c => ?_) (Cert.QueryProductGradIdeal.Value.run (F := Ideal) m' g')⟩
  · obtain ⟨e0, e⟩ := hr c
    exact ⟨e0.trans (final m c), e⟩
  · obtain ⟨e0, e⟩ := hr c
    obtain ⟨h0, h1⟩ := h c
    exact ⟨(e0.trans (reference_grad _ _)).trans (by rw [h0, h1]), e⟩

end Cert.Proof.QueryWeightGrad

end
-- ==== Proof.ForgetWeightGrad.lean ====
/-
  The gradient of the forget gates' weights: a product contracted over the sequence, on one device the whole of it accumulated
  over the sixteen blocks of 512 positions.
-/
module

public import proofs.«01_k».proof.Defs
public import proofs.«01_k».proof.Proof.Blocks
public import proofs.«01_k».proof.Proof.Gen.ForgetWeightGrad
public import proofs.«01_k».proof.Proof.Gen.ForgetWeightGradIdeal
public import proofs.«01_k».proof.Proof.Gen.ForgetWeightGradIdeal.Frame
public import proofs.«01_k».proof.Proof.Gen.ForgetWeightGradIdeal.Value
public import proofs.«01_k».proof.Proof.Gen.ForgetProductGradIdeal
public import proofs.«01_k».proof.Proof.Gen.ForgetProductGradIdeal.Run

@[expose] public section

set_option Elab.async false
set_option maxRecDepth 16384

noncomputable section

namespace Cert.Proof.ForgetWeightGrad

open Cert.ForgetWeightGradIdeal Cert.ForgetWeightGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.NormGrad (ofBits_zero)
open Cert.Proof.Blocks (at_ix2 rowOf prodR prodR_blocks prodR_block)

/-! ## One point -/

theorem pay2_at (acc : Vec Ideal S1024x128 .f32) (a : Vec Ideal S512x1024 .bf16) (b : Vec Ideal S512x128 .bf16) (i : S1024x128.Idx) :
    k0_pay2 acc a b i = (acc i + prodR a b (i 0) (i 1) : EReal) := by
  unfold k0_pay2 prodR
  pointwise

theorem pay1_at (i : S1024x128.Idx) : (k0_pay1 : FVec Ideal S1024x128 .f32) i = (0 : EReal) := by
  unfold k0_pay1
  rw [← ofBits_zero]
  pointwise

variable (m : (ℓ : Loc nD τ sig) → Buf (Elt Ideal) ℓ)

theorem first (c : Dev nD) (t : Fin cfg0.N) (h0 : t.val % 16 = 0) (i : S1024x128.Idx) :
    outsAt0 m c t.val t.isLt i = (0 + prodR (iblk m c 0 t) (iblk m c 1 t) (i 0) (i 1) : EReal) := by
  rw [outsAt0_A m c t h0, Cert.ForgetWeightGradIdeal.Value.out_A_2_eq, pay2_at, pay1_at]

theorem next (c : Dev nD) (t : Fin cfg0.N) (h0 : ¬ t.val % 16 = 0) (i : S1024x128.Idx) :
    outsAt0 m c t.val t.isLt i = (outsAt0 m c (t.val - 1) (Nat.lt_of_le_of_lt (Nat.sub_le _ _) t.isLt) i
      + prodR (iblk m c 0 t) (iblk m c 1 t) (i 0) (i 1) : EReal) := by
  rw [outsAt0_B m c t h0, Cert.ForgetWeightGradIdeal.Value.out_B_2_eq, pay2_at]

/-! ## The array -/

abbrev aA (c : Dev nD) : FVec Ideal S8192x1024 .bf16 := m ((c.tc : Thread nD τ).loc main_arg0)
abbrev bA (c : Dev nD) : FVec Ideal S8192x128 .bf16 := m ((c.tc : Thread nD τ).loc main_arg1)

/-- The gradient: the product contracted over all rows. -/
noncomputable def gradA (a : FVec Ideal S8192x1024 .bf16) (b : FVec Ideal S8192x128 .bf16) : FVec Ideal S1024x128 .f32 := fun i => prodR a b (i 0) (i 1)

theorem starts_0 : ∀ t : Fin cfg0.N, win0_0.index t = ![t.val % 16, 0] := (by decide +kernel : ∀ t : Fin grid0.N, _)
theorem starts_1 : ∀ t : Fin cfg0.N, win0_1.index t = ![t.val % 16, 0] := (by decide +kernel : ∀ t : Fin grid0.N, _)
theorem starts_2 : ∀ t : Fin cfg0.N, win0_2.index t = ![0, 0] := (by decide +kernel : ∀ t : Fin grid0.N, _)

theorem a_at (c : Dev nD) (t : Fin cfg0.N) (s : Fin 16) (hs : t.val % 16 = s.val) (r : Fin 512) (j : Fin 1024) :
    iblk m c 0 t (ix2 r j) = aA m c (ix2 (rowOf s r) j) := by
  have e0 : ((win0_0.blk t).view.emb (ix2 r j) 0).val = t.val % 16 * 512 + r.val := by blk_simp [starts_0]
  have e1 : ((win0_0.blk t).view.emb (ix2 r j) 1).val = j.val := by blk_simp [starts_0]
  rw [hs] at e0
  exact (congrFun (V_main_arg0 m c) _).trans (at_ix2 (aA m c) (l := rowOf s r) e0 e1)

theorem b_at (c : Dev nD) (t : Fin cfg0.N) (s : Fin 16) (hs : t.val % 16 = s.val) (r : Fin 512) (j : Fin 128) :
    iblk m c 1 t (ix2 r j) = bA m c (ix2 (rowOf s r) j) := by
  have e0 : ((win0_1.blk t).view.emb (ix2 r j) 0).val = t.val % 16 * 512 + r.val := by blk_simp [starts_1]
  have e1 : ((win0_1.blk t).view.emb (ix2 r j) 1).val = j.val := by blk_simp [starts_1]
  rw [hs] at e0
  exact (congrFun (V_main_arg1 m c) _).trans (at_ix2 (bA m c) (l := rowOf s r) e0 e1)

theorem after_last (c : Dev nD) (t : Fin cfg0.N) (hm : t.val % 16 = 15) (i : S1024x128.Idx) :
    outsAt0 m c t.val t.isLt i = prodR (aA m c) (bA m c) (i 0) (i 1) := by
  have hf := Pipeline.eq_sum_fin_of_reset_step_apply_of_flush (fun n h => outsAt0 m c n h) 16 (fun _ => (0 : EReal))
    (fun t i => prodR (iblk m c 0 t) (iblk m c 1 t) (i 0) (i 1)) (fun t h i => first m c t h i) (fun t h i => next m c t h i) t hm i
  refine hf.trans ((zero_add _).trans ?_)
  refine (Finset.sum_congr rfl fun s _ => ?_).trans (prodR_blocks (aA m c) (bA m c) (i 0) (i 1)).symm
  have hs : (16 * (t.val / 16) + s.val) % 16 = s.val := by have := s.isLt; omega
  exact prodR_block (fun r => a_at m c _ s hs r (i 0)) (fun r => b_at m c _ s hs r (i 1))

theorem final (c : Dev nD) : (dats m 0 c).arrAt 2 cfg0.N = gradA (aA m c) (bA m c) := by
  refine (dats m 0 c).arrAt_eq_of_covers 2 _ (by decide +kernel) fun t hf y => ?_
  have hm : t.val % 16 = 15 := (flush0_2 t).mp hf
  blk_simp
  rw [after0_2]
  have e0 : ((win0_2.blk t).view.emb y) 0 = y 0 := by
    apply Fin.ext
    blk_simp [starts_2]
  have e1 : ((win0_2.blk t).view.emb y) 1 = y 1 := by
    apply Fin.ext
    blk_simp [starts_2]
  refine (after_last m c t hm y).trans ?_
  unfold gradA
  rw [e0, e1]

/-! ## Against the reference -/

theorem reference_grad (a : FVec Ideal S8192x1024 .bf16) (b : FVec Ideal S8192x128 .bf16) :
    transpose S1024x128 [1, 0] (Host.dotGeneral Cert.ForgetProductGradIdeal.dot_S8192x128_S8192x1024_S128x1024_0_0_1_1_n_n none
      (extf .f32 b Cert.ForgetProductGradIdeal.Gen.bitsLt_bf16_f32) (extf .f32 a Cert.ForgetProductGradIdeal.Gen.bitsLt_bf16_f32))
      Cert.ForgetProductGradIdeal.Gen.transposes_S128x1024_S1024x128_1_0 = gradA a b := by
  funext i
  unfold gradA prodR
  pointwise
  exact Finset.sum_congr rfl fun r _ => mul_comm _ _

/-! ## The claims -/

theorem bodies_same : @Cert.ForgetWeightGrad.defs₀ Bits _ _ = @Cert.ForgetWeightGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_ForgetWeightGrad := fun m g _ => by
  rw [show @Cert.ForgetWeightGrad.defs Bits _ _ = @Cert.ForgetWeightGradIdeal.defs Bits _ _ from
    congrArg (Pipeline.defs Cert.ForgetWeightGradIdeal.pcfgs) bodies_same]
  exact Cert.ForgetWeightGradIdeal.Gen.frame (F := Bits) m g

theorem quiescent_ideal : Cert.quiescent_ForgetWeightGradIdeal := fun m g _ => Cert.ForgetWeightGradIdeal.Gen.frame (F := Ideal) m g

theorem quiescent_reference : Cert.quiescent_ForgetProductGradIdeal := fun m g _ =>
  (θ_run Cert.ForgetProductGradIdeal.defs _ _).mono (fun r h => ⟨fun c => (h c).2, sem_eq_zero_of_no_sems rfl r.2⟩) (Cert.ForgetProductGradIdeal.Value.run (F := Ideal) m g)

theorem algebraic : Cert.algebraic_ForgetWeightGradIdeal_ForgetProductGradIdeal := fun m g m' g' _ h => by
  refine ⟨fun c => gradA (aA m c) (bA m c),
    (θ_run Cert.ForgetWeightGradIdeal.defs _ _).mono (fun _ hr c => ?_) (Cert.ForgetWeightGradIdeal.Value.run_blocks (F := Ideal) m g),
    (θ_run Cert.ForgetProductGradIdeal.defs _ _).mono (fun _ hr c => ?_) (Cert.ForgetProductGradIdeal.Value.run (F := Ideal) m' g')⟩
  · obtain ⟨e0, e⟩ := hr c
    exact ⟨e0.trans (final m c), e⟩
  · obtain ⟨e0, e⟩ := hr c
    obtain ⟨h0, h1⟩ := h c
    exact ⟨(e0.trans (reference_grad _ _)).trans (by rw [h0, h1]), e⟩

end Cert.Proof.ForgetWeightGrad

end
-- ==== Proof.ForgetProduct.lean ====
/-
  The projection to the forget gates' logits, on one device: a block of 512 rows per grid point.
-/
module

public import proofs.«01_k».proof.Defs
public import proofs.«01_k».proof.Proof.Blocks
public import proofs.«01_k».proof.Proof.Gen.ForgetProduct
public import proofs.«01_k».proof.Proof.Gen.ForgetProductIdeal
public import proofs.«01_k».proof.Proof.Gen.ForgetProductIdeal.Frame
public import proofs.«01_k».proof.Proof.Gen.ForgetProductIdeal.Value
public import proofs.«01_k».proof.Proof.Gen.ForgetLogitsIdeal
public import proofs.«01_k».proof.Proof.Gen.ForgetLogitsIdeal.Run

@[expose] public section

set_option Elab.async false
set_option maxRecDepth 16384

noncomputable section

namespace Cert.Proof.ForgetProduct

open Cert.ForgetProductIdeal Cert.ForgetProductIdeal.Gen
open Idealize.ShloMosaic Idealize.ShloMosaic.TcCoe Idealize.ShloMosaic.Tactic Idealize.SL.Sem
open Idealize.ShloMosaic.Pointwise
open Idealize.ShloMosaic.Pipeline (Dat)
open Cert.Proof.Ffn (prod)
open Cert.Proof.Blocks (at_ix2 prod_block)

theorem pay_at (h : Vec Ideal S512x1024 .bf16) (w : Vec Ideal S1024x128 .bf16) (r : Fin 512) (j : Fin 128) :
    k0_pay1 h w (ix2 r j) = prod h w r j := by
  unfold k0_pay1 prod
  pointwise

theorem left (h : Vec Ideal S512x1024 .bf16) (w : Vec Ideal S1024x128 .bf16) (r : Fin 512) (j : Fin 128) : out0_2 h w (ix2 r j) = prod h w r j := by
  rw [← pay_at]
  frame_out

variable (m : (ℓ : Loc nD τ sig) → Buf (Elt Ideal) ℓ)

abbrev hA (c : Dev nD) : FVec Ideal S8192x1024 .bf16 := m ((c.tc : Thread nD τ).loc main_arg0)
abbrev wA (c : Dev nD) : FVec Ideal S1024x128 .bf16 := m ((c.tc : Thread nD τ).loc main_arg1)

/-- The product. -/
noncomputable def prodA (h : FVec Ideal S8192x1024 .bf16) (w : FVec Ideal S1024x128 .bf16) : FVec Ideal S8192x128 .f32 :=
  fun i => prod h w (i 0) (i 1)

theorem starts_0 : ∀ t : Fin cfg0.N, win0_0.index t = ![t.val, 0] := (by decide +kernel : ∀ t : Fin grid0.N, _)
theorem starts_1 : ∀ t : Fin cfg0.N, win0_1.index t = ![0, 0] := (by decide +kernel : ∀ t : Fin grid0.N, _)
theorem starts_2 : ∀ t : Fin cfg0.N, win0_2.index t = ![t.val, 0] := (by decide +kernel : ∀ t : Fin grid0.N, _)

theorem h_at (c : Dev nD) (t : Fin cfg0.N) (r : Fin 512) (k : Fin 1024) (l : Fin 8192) (hl : l.val = t.val * 512 + r.val) :
    iblk m c 0 t (ix2 r k) = hA m c (ix2 l k) := by
  have e0 : ((win0_0.blk t).view.emb (ix2 r k) 0).val = t.val * 512 + r.val := by blk_simp [starts_0]
  have e1 : ((win0_0.blk t).view.emb (ix2 r k) 1).val = k.val := by blk_simp [starts_0]
  exact (congrFun (V_main_arg0 m c) _).trans (at_ix2 (hA m c) (e0.trans hl.symm) e1)

theorem w_at (c : Dev nD) (t : Fin cfg0.N) (k : Fin 1024) (j l : Fin 128) (hl : l.val = j.val) :
    iblk m c 1 t (ix2 k j) = wA m c (ix2 k l) := by
  have e0 : ((win0_1.blk t).view.emb (ix2 k j) 0).val = k.val := by blk_simp [starts_1]
  have e1 : ((win0_1.blk t).view.emb (ix2 k j) 1).val = j.val := by blk_simp [starts_1]
  exact (congrFun (V_main_arg1 m c) _).trans (at_ix2 (wA m c) e0 (e1.trans hl.symm))

theorem final (c : Dev nD) : (dats m 0 c).arrAt 2 cfg0.N = prodA (hA m c) (wA m c) := by
  refine (dats m 0 c).arrAt_eq_of_covers 2 _ (by decide +kernel) fun t hf y => ?_
  blk_simp
  rw [after0_2]
  have e0 : (((win0_2.blk t).view.emb y) 0).val = t.val * 512 + (y 0).val := by blk_simp [starts_2]
  have e1 : (((win0_2.blk t).view.emb y) 1).val = (y 1).val := by blk_simp [starts_2]
  refine (congrArg _ (eq_ix2 y)).trans ((left _ _ (y 0) (y 1)).trans ?_)
  exact prod_block (fun i => h_at m c t _ i _ e0) (fun i => w_at m c t i _ _ e1)

theorem reference_prod (h : FVec Ideal S8192x1024 .bf16) (w : FVec Ideal S1024x128 .bf16) :
    Host.dotGeneral Cert.ForgetLogitsIdeal.dot_S8192x1024_S1024x128_S8192x128_1_0_0_1_n_n none
      (extf .f32 h Cert.ForgetLogitsIdeal.Gen.bitsLt_bf16_f32) (extf .f32 w Cert.ForgetLogitsIdeal.Gen.bitsLt_bf16_f32)
      = prodA h w := by
  funext i
  unfold prodA prod
  pointwise

/-! ## The claims -/

theorem bodies_same : @Cert.ForgetProduct.defs₀ Bits _ _ = @Cert.ForgetProductIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_ForgetProduct := fun m g _ => by
  rw [show @Cert.ForgetProduct.defs Bits _ _ = @Cert.ForgetProductIdeal.defs Bits _ _ from
    congrArg (Pipeline.defs Cert.ForgetProductIdeal.pcfgs) bodies_same]
  exact Cert.ForgetProductIdeal.Gen.frame (F := Bits) m g

theorem quiescent_ideal : Cert.quiescent_ForgetProductIdeal := fun m g _ => Cert.ForgetProductIdeal.Gen.frame (F := Ideal) m g

theorem quiescent_reference : Cert.quiescent_ForgetLogitsIdeal := fun m g _ =>
  (θ_run Cert.ForgetLogitsIdeal.defs _ _).mono (fun r h => ⟨fun c => (h c).2, sem_eq_zero_of_no_sems rfl r.2⟩) (Cert.ForgetLogitsIdeal.Value.run (F := Ideal) m g)

theorem algebraic : Cert.algebraic_ForgetProductIdeal_ForgetLogitsIdeal := fun m g m' g' _ h => by
  refine ⟨fun c => prodA (hA m c) (wA m c),
    (θ_run Cert.ForgetProductIdeal.defs _ _).mono (fun _ hr c => ?_) (Cert.ForgetProductIdeal.Value.run_blocks (F := Ideal) m g),
    (θ_run Cert.ForgetLogitsIdeal.defs _ _).mono (fun _ hr c => ?_) (Cert.ForgetLogitsIdeal.Value.run (F := Ideal) m' g')⟩
  · exact ⟨(hr c).1.trans (final m c), (hr c).2⟩
  · exact ⟨((hr c).1.trans (reference_prod _ _)).trans (congrArg₂ prodA (h c).1 (h c).2), (hr c).2⟩

end Cert.Proof.ForgetProduct

end
-- ==== Proof.KeyValueGrad.lean ====
/-
  The gradient of the normed input of the keys, the values and the forget gates, on one device: a block of 512 rows and 512
  columns per grid point, the sum of three products.
-/
module

public import proofs.«01_k».proof.Defs
public import proofs.«01_k».proof.Proof.Blocks
public import proofs.«01_k».proof.Proof.Gen.KeyValueGrad
public import proofs.«01_k».proof.Proof.Gen.KeyValueGradIdeal
public import proofs.«01_k».proof.Proof.Gen.KeyValueGradIdeal.Frame
public import proofs.«01_k».proof.Proof.Gen.KeyValueGradIdeal.Value
public import proofs.«01_k».proof.Proof.Gen.KeyValuesGradIdeal
public import proofs.«01_k».proof.Proof.Gen.KeyValuesGradIdeal.Run

@[expose] public section

set_option Elab.async false
set_option maxRecDepth 16384

noncomputable section

namespace Cert.Proof.KeyValueGrad

open Cert.KeyValueGradIdeal Cert.KeyValueGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.ActGrad (prodT)
open Cert.Proof.Blocks (at_ix2 prodT_block)

theorem pay_at (a wa b wb : Vec Ideal S512x1024 .bf16) (f wf : Vec Ideal S512x128 .bf16) (r j : Fin 512) :
    k0_pay1 a wa b wb f wf (ix2 r j) = (prodT a wa r j + prodT b wb r j + prodT f wf r j : EReal) := by
  unfold k0_pay1 prodT
  pointwise

theorem left (a wa b wb : Vec Ideal S512x1024 .bf16) (f wf : Vec Ideal S512x128 .bf16) (r j : Fin 512) :
    out0_6 a wa b wb f wf (ix2 r j) = (prodT a wa r j + prodT b wb r j + prodT f wf r j : EReal) := by
  rw [← pay_at]
  frame_out

variable (m : (ℓ : Loc nD τ sig) → Buf (Elt Ideal) ℓ)

abbrev aA (c : Dev nD) : FVec Ideal S8192x1024 .bf16 := m ((c.tc : Thread nD τ).loc main_arg0)
abbrev waA (c : Dev nD) : FVec Ideal S1024x1024 .bf16 := m ((c.tc : Thread nD τ).loc main_arg1)
abbrev bA (c : Dev nD) : FVec Ideal S8192x1024 .bf16 := m ((c.tc : Thread nD τ).loc main_arg2)
abbrev wbA (c : Dev nD) : FVec Ideal S1024x1024 .bf16 := m ((c.tc : Thread nD τ).loc main_arg3)
abbrev fA (c : Dev nD) : FVec Ideal S8192x128 .bf16 := m ((c.tc : Thread nD τ).loc main_arg4)
abbrev wfA (c : Dev nD) : FVec Ideal S1024x128 .bf16 := m ((c.tc : Thread nD τ).loc main_arg5)

/-- The three products, added. -/
noncomputable def sumA (a : FVec Ideal S8192x1024 .bf16) (wa : FVec Ideal S1024x1024 .bf16) (b : FVec Ideal S8192x1024 .bf16)
    (wb : FVec Ideal S1024x1024 .bf16) (f : FVec Ideal S8192x128 .bf16) (wf : FVec Ideal S1024x128 .bf16) : FVec Ideal S8192x1024 .f32 :=
  fun i => (prodT a wa (i 0) (i 1) + prodT b wb (i 0) (i 1) + prodT f wf (i 0) (i 1) : EReal)

theorem starts_0 : ∀ t : Fin cfg0.N, win0_0.index t = ![t.val / 2, 0] := (by decide +kernel : ∀ t : Fin grid0.N, _)
theorem starts_1 : ∀ t : Fin cfg0.N, win0_1.index t = ![t.val % 2, 0] := (by decide +kernel : ∀ t : Fin grid0.N, _)
theorem starts_2 : ∀ t : Fin cfg0.N, win0_2.index t = ![t.val / 2, 0] := (by decide +kernel : ∀ t : Fin grid0.N, _)
theorem starts_3 : ∀ t : Fin cfg0.N, win0_3.index t = ![t.val % 2, 0] := (by decide +kernel : ∀ t : Fin grid0.N, _)
theorem starts_4 : ∀ t : Fin cfg0.N, win0_4.index t = ![t.val / 2, 0] := (by decide +kernel : ∀ t : Fin grid0.N, _)
theorem starts_5 : ∀ t : Fin cfg0.N, win0_5.index t = ![t.val % 2, 0] := (by decide +kernel : ∀ t : Fin grid0.N, _)
theorem starts_6 : ∀ t : Fin cfg0.N, win0_6.index t = ![t.val / 2, t.val % 2] := (by decide +kernel : ∀ t : Fin grid0.N, _)

theorem a_at (c : Dev nD) (t : Fin cfg0.N) (r : Fin 512) (k : Fin 1024) (l : Fin 8192) (hl : l.val = t.val / 2 * 512 + r.val) :
    iblk m c 0 t (ix2 r k) = aA m c (ix2 l k) := by
  have e0 : ((win0_0.blk t).view.emb (ix2 r k) 0).val = t.val / 2 * 512 + r.val := by blk_simp [starts_0]
  have e1 : ((win0_0.blk t).view.emb (ix2 r k) 1).val = k.val := by blk_simp [starts_0]
  exact (congrFun (V_main_arg0 m c) _).trans (at_ix2 (aA m c) (e0.trans hl.symm) e1)

theorem wa_at (c : Dev nD) (t : Fin cfg0.N) (j : Fin 512) (k : Fin 1024) (l : Fin 1024) (hl : l.val = t.val % 2 * 512 + j.val) :
    iblk m c 1 t (ix2 j k) = waA m c (ix2 l k) := by
  have e0 : ((win0_1.blk t).view.emb (ix2 j k) 0).val = t.val % 2 * 512 + j.val := by blk_simp [starts_1]
  have e1 : ((win0_1.blk t).view.emb (ix2 j k) 1).val = k.val := by blk_simp [starts_1]
  exact (congrFun (V_main_arg1 m c) _).trans (at_ix2 (waA m c) (e0.trans hl.symm) e1)

theorem b_at (c : Dev nD) (t : Fin cfg0.N) (r : Fin 512) (k : Fin 1024) (l : Fin 8192) (hl : l.val = t.val / 2 * 512 + r.val) :
    iblk m c 2 t (ix2 r k) = bA m c (ix2 l k) := by
  have e0 : ((win0_2.blk t).view.emb (ix2 r k) 0).val = t.val / 2 * 512 + r.val := by blk_simp [starts_2]
  have e1 : ((win0_2.blk t).view.emb (ix2 r k) 1).val = k.val := by blk_simp [starts_2]
  exact (congrFun (V_main_arg2 m c) _).trans (at_ix2 (bA m c) (e0.trans hl.symm) e1)

theorem wb_at (c : Dev nD) (t : Fin cfg0.N) (j : Fin 512) (k : Fin 1024) (l : Fin 1024) (hl : l.val = t.val % 2 * 512 + j.val) :
    iblk m c 3 t (ix2 j k) = wbA m c (ix2 l k) := by
  have e0 : ((win0_3.blk t).view.emb (ix2 j k) 0).val = t.val % 2 * 512 + j.val := by blk_simp [starts_3]
  have e1 : ((win0_3.blk t).view.emb (ix2 j k) 1).val = k.val := by blk_simp [starts_3]
  exact (congrFun (V_main_arg3 m c) _).trans (at_ix2 (wbA m c) (e0.trans hl.symm) e1)

theorem f_at (c : Dev nD) (t : Fin cfg0.N) (r : Fin 512) (k : Fin 128) (l : Fin 8192) (hl : l.val = t.val / 2 * 512 + r.val) :
    iblk m c 4 t (ix2 r k) = fA m c (ix2 l k) := by
  have e0 : ((win0_4.blk t).view.emb (ix2 r k) 0).val = t.val / 2 * 512 + r.val := by blk_simp [starts_4]
  have e1 : ((win0_4.blk t).view.emb (ix2 r k) 1).val = k.val := by blk_simp [starts_4]
  exact (congrFun (V_main_arg4 m c) _).trans (at_ix2 (fA m c) (e0.trans hl.symm) e1)

theorem wf_at (c : Dev nD) (t : Fin cfg0.N) (j : Fin 512) (k : Fin 128) (l : Fin 1024) (hl : l.val = t.val % 2 * 512 + j.val) :
    iblk m c 5 t (ix2 j k) = wfA m c (ix2 l k) := by
  have e0 : ((win0_5.blk t).view.emb (ix2 j k) 0).val = t.val % 2 * 512 + j.val := by blk_simp [starts_5]
  have e1 : ((win0_5.blk t).view.emb (ix2 j k) 1).val = k.val := by blk_simp [starts_5]
  exact (congrFun (V_main_arg5 m c) _).trans (at_ix2 (wfA m c) (e0.trans hl.symm) e1)

theorem final (c : Dev nD) : (dats m 0 c).arrAt 6 cfg0.N = sumA (aA m c) (waA m c) (bA m c) (wbA m c) (fA m c) (wfA m c) := by
  refine (dats m 0 c).arrAt_eq_of_covers 6 _ (by decide +kernel) fun t hf y => ?_
  blk_simp
  rw [after0_6]
  have e0 : (((win0_6.blk t).view.emb y) 0).val = t.val / 2 * 512 + (y 0).val := by blk_simp [starts_6]
  have e1 : (((win0_6.blk t).view.emb y) 1).val = t.val % 2 * 512 + (y 1).val := by blk_simp [starts_6]
  refine (congrArg _ (eq_ix2 y)).trans ((left _ _ _ _ _ _ (y 0) (y 1)).trans ?_)
  exact congrArg₂ (fun u v : EReal => u + v) (congrArg₂ (fun u v : EReal => u + v)
    (prodT_block (fun i => a_at m c t _ i _ e0) (fun i => wa_at m c t _ i _ e1))
    (prodT_block (fun i => b_at m c t _ i _ e0) (fun i => wb_at m c t _ i _ e1)))
    (prodT_block (fun i => f_at m c t _ i _ e0) (fun i => wf_at m c t _ i _ e1))

theorem reference_sum (a : FVec Ideal S8192x1024 .bf16) (wa : FVec Ideal S1024x1024 .bf16) (b : FVec Ideal S8192x1024 .bf16)
    (wb : FVec Ideal S1024x1024 .bf16) (f : FVec Ideal S8192x128 .bf16) (wf : FVec Ideal S1024x128 .bf16) :
    addf (addf (Host.dotGeneral Cert.KeyValuesGradIdeal.dot_S8192x128_S1024x128_S8192x1024_1_1_0_0_n_n none
        (extf .f32 f Cert.KeyValuesGradIdeal.Gen.bitsLt_bf16_f32) (extf .f32 wf Cert.KeyValuesGradIdeal.Gen.bitsLt_bf16_f32))
      (Host.dotGeneral Cert.KeyValuesGradIdeal.dot_S8192x1024_S1024x1024_S8192x1024_1_1_0_0_n_n none
        (extf .f32 b Cert.KeyValuesGradIdeal.Gen.bitsLt_bf16_f32) (extf .f32 wb Cert.KeyValuesGradIdeal.Gen.bitsLt_bf16_f32)))
      (Host.dotGeneral Cert.KeyValuesGradIdeal.dot_S8192x1024_S1024x1024_S8192x1024_1_1_0_0_n_n none
        (extf .f32 a Cert.KeyValuesGradIdeal.Gen.bitsLt_bf16_f32) (extf .f32 wa Cert.KeyValuesGradIdeal.Gen.bitsLt_bf16_f32))
      = sumA a wa b wb f wf := by
  funext i
  have h (u v w : EReal) : w + v + u = u + v + w := by rw [add_comm w v, add_comm _ u, add_assoc]
  refine Eq.trans ?_ (h (prodT a wa (i 0) (i 1)) (prodT b wb (i 0) (i 1)) (prodT f wf (i 0) (i 1)))
  unfold prodT
  pointwise

/-! ## The claims -/

theorem bodies_same : @Cert.KeyValueGrad.defs₀ Bits _ _ = @Cert.KeyValueGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_KeyValueGrad := fun m g _ => by
  rw [show @Cert.KeyValueGrad.defs Bits _ _ = @Cert.KeyValueGradIdeal.defs Bits _ _ from
    congrArg (Pipeline.defs Cert.KeyValueGradIdeal.pcfgs) bodies_same]
  exact Cert.KeyValueGradIdeal.Gen.frame (F := Bits) m g

theorem quiescent_ideal : Cert.quiescent_KeyValueGradIdeal := fun m g _ => Cert.KeyValueGradIdeal.Gen.frame (F := Ideal) m g

theorem quiescent_reference : Cert.quiescent_KeyValuesGradIdeal := fun m g _ =>
  (θ_run Cert.KeyValuesGradIdeal.defs _ _).mono (fun r h => ⟨fun c => (h c).2, sem_eq_zero_of_no_sems rfl r.2⟩) (Cert.KeyValuesGradIdeal.Value.run (F := Ideal) m g)

theorem algebraic : Cert.algebraic_KeyValueGradIdeal_KeyValuesGradIdeal := fun m g m' g' _ h => by
  refine ⟨fun c => sumA (aA m c) (waA m c) (bA m c) (wbA m c) (fA m c) (wfA m c),
    (θ_run Cert.KeyValueGradIdeal.defs _ _).mono (fun _ hr c => ?_) (Cert.KeyValueGradIdeal.Value.run_blocks (F := Ideal) m g),
    (θ_run Cert.KeyValuesGradIdeal.defs _ _).mono (fun _ hr c => ?_) (Cert.KeyValuesGradIdeal.Value.run (F := Ideal) m' g')⟩
  · exact ⟨(hr c).1.trans (final m c), (hr c).2⟩
  · obtain ⟨h0, h1, h2, h3, h4, h5⟩ := h c
    exact ⟨((hr c).1.trans (reference_sum _ _ _ _ _ _)).trans (by rw [h0, h1, h2, h3, h4, h5]), (hr c).2⟩

end Cert.Proof.KeyValueGrad

end
-- ==== Proof.Sums.lean ====
/-
  Running sums: of an array down its rows, of a block whose rows are summed by a triangle of ones and zeros, and the
  logarithm of the logistic that the forget gates sum.
-/
module

public import proofs.«01_k».proof.Proof.Blocks
public import Idealize.ShloMosaic.Lib.WordCmp
public import Idealize.ShloMosaic.Lib.WritesUnit
public import Idealize.ShloMosaic.Lib.Pipeline.ReadBack
public import Idealize.ShloMosaic.Lib.Pipeline.ValueKit

@[expose] public section

set_option Elab.async false

noncomputable section

namespace Cert.Proof.Sums

open Idealize.ShloMosaic Idealize.ShloMosaic.Pointwise

/-! ## Sums over a window of rows -/

/-- A column's entry at row `n`, and nothing past its last row. -/
def col {R C : ℕ} (x : (⟨2, ![R, C]⟩ : Shape).Idx → EReal) (j : Fin C) (n : ℕ) : EReal := if h : n < R then x (ix2 ⟨n, h⟩ j) else 0

theorem col_of_lt {R C : ℕ} (x : (⟨2, ![R, C]⟩ : Shape).Idx → EReal) (j : Fin C) {n : ℕ} (h : n < R) : col x j n = x (ix2 ⟨n, h⟩ j) := dif_pos h

/-- The sum over a window of as many rows as the array has, `lo` of them before the row itself: a sum over the window's rows. -/
theorem window_sum {R C lo hi : ℕ} (x : (⟨2, ![R, C]⟩ : Shape).Idx → EReal)
    (h : (⟨2, ![R, C]⟩ : Shape).ReduceWindows (![R, 1] : Fin 2 → ℕ) ![1, 1] ![lo, 0] ![hi, 0] ⟨2, ![R, C]⟩) (r : Fin R) (j : Fin C) :
    Ideal.hostReduceWindowAdd (![R, 1] : Fin 2 → ℕ) ![1, 1] ![lo, 0] ![hi, 0] h x 0 (ix2 r j)
      = ∑ n ∈ Finset.range R, if lo ≤ r.val + n then col x j (r.val + n - lo) else 0 := by
  have hs := sum_idx_eq_foldl (⟨2, ![R, 1]⟩ : Shape) fun y =>
    if lo ≤ r.val + (y 0).val then col x j (r.val + (y 0).val - lo) else 0
  rw [sum_idx2] at hs
  rw [← Fin.sum_univ_eq_sum_range fun n => if lo ≤ r.val + n then col x j (r.val + n - lo) else 0]
  refine Eq.trans ?_ (hs.symm.trans (Finset.sum_congr rfl fun a _ => Fin.sum_univ_one _))
  unfold Ideal.hostReduceWindowAdd Host.reduceWindow
  show List.foldl _ _ _ = List.foldl _ _ _
  refine congrArg (fun f => List.foldl f 0 _) (funext fun s => funext fun n => congrArg (fun v : EReal => s + v) ?_)
  obtain ⟨a, b, hab⟩ : ∃ (a : Fin R) (b : Fin 1), (⟨2, ![R, 1]⟩ : Shape).rowMajor.symm n = ix2 a b := ⟨_, _, eq_ix2 _⟩
  have e0 : ((⟨2, ![R, 1]⟩ : Shape).rowMajor.symm n 0).val = a.val := congrArg (fun y => (y 0).val) hab
  have e1 : ((⟨2, ![R, 1]⟩ : Shape).rowMajor.symm n 1).val = 0 := (congrArg (fun y => (y 1).val) hab).trans (Nat.lt_one_iff.1 b.isLt)
  rw [e0]
  by_cases hl : lo ≤ r.val + a.val ∧ r.val + a.val - lo < R
  · rw [if_pos hl.1, col_of_lt x j hl.2]
    refine (dif_pos fun c => ?_).trans (congrArg x (funext fun c => Fin.ext ?_))
    · match c with
      | ⟨0, _⟩ =>
        show lo ≤ r.val * 1 + ((⟨2, ![R, 1]⟩ : Shape).rowMajor.symm n 0).val ∧ r.val * 1 + ((⟨2, ![R, 1]⟩ : Shape).rowMajor.symm n 0).val - lo < R
        rw [e0, Nat.mul_one]
        exact hl
      | ⟨1, _⟩ =>
        show 0 ≤ j.val * 1 + ((⟨2, ![R, 1]⟩ : Shape).rowMajor.symm n 1).val ∧ j.val * 1 + ((⟨2, ![R, 1]⟩ : Shape).rowMajor.symm n 1).val - 0 < C
        rw [e1]
        have := j.isLt
        omega
    · match c with
      | ⟨0, _⟩ =>
        show r.val * 1 + ((⟨2, ![R, 1]⟩ : Shape).rowMajor.symm n 0).val - lo = r.val + a.val - lo
        rw [e0, Nat.mul_one]
      | ⟨1, _⟩ =>
        show j.val * 1 + ((⟨2, ![R, 1]⟩ : Shape).rowMajor.symm n 1).val - 0 = j.val
        rw [e1]
        omega
  · have hz : (if lo ≤ r.val + a.val then col x j (r.val + a.val - lo) else 0) = 0 := by
      by_cases h' : lo ≤ r.val + a.val
      · rw [if_pos h']
        exact dif_neg fun h'' => hl ⟨h', h''⟩
      · exact if_neg h'
    rw [hz]
    refine dif_neg fun hin => hl ?_
    have h0 := hin 0
    change lo ≤ r.val * 1 + ((⟨2, ![R, 1]⟩ : Shape).rowMajor.symm n 0).val ∧ r.val * 1 + ((⟨2, ![R, 1]⟩ : Shape).rowMajor.symm n 0).val - lo < R at h0
    rwa [e0, Nat.mul_one] at h0

/-- The running sum down the rows. -/
theorem running_sum {R C lo : ℕ} (hR : lo + 1 = R) (x : (⟨2, ![R, C]⟩ : Shape).Idx → EReal)
    (h : (⟨2, ![R, C]⟩ : Shape).ReduceWindows (![R, 1] : Fin 2 → ℕ) ![1, 1] ![lo, 0] ![0, 0] ⟨2, ![R, C]⟩) (r : Fin R) (j : Fin C) :
    Ideal.hostReduceWindowAdd (![R, 1] : Fin 2 → ℕ) ![1, 1] ![lo, 0] ![0, 0] h x 0 (ix2 r j) = ∑ n ∈ Finset.range (r.val + 1), col x j n := by
  have hr := r.isLt
  have e : Finset.range R = Finset.range (lo - r.val + (r.val + 1)) := congrArg _ (by omega)
  rw [window_sum, e, Finset.sum_range_add, Finset.sum_eq_zero, zero_add]
  · refine Finset.sum_congr rfl fun n _ => ?_
    rw [if_pos (by omega), show r.val + (lo - r.val + n) - lo = n by omega]
  · intro n hn
    have := Finset.mem_range.1 hn
    exact if_neg (by omega)

/-- The running sum up the rows. -/
theorem running_sum_up {R C hi : ℕ} (x : (⟨2, ![R, C]⟩ : Shape).Idx → EReal)
    (h : (⟨2, ![R, C]⟩ : Shape).ReduceWindows (![R, 1] : Fin 2 → ℕ) ![1, 1] ![0, 0] ![hi, 0] ⟨2, ![R, C]⟩) (r : Fin R) (j : Fin C) :
    Ideal.hostReduceWindowAdd (![R, 1] : Fin 2 → ℕ) ![1, 1] ![0, 0] ![hi, 0] h x 0 (ix2 r j) = ∑ n ∈ Finset.range R, col x j (r.val + n) := by
  rw [window_sum]
  exact Finset.sum_congr rfl fun n _ => (if_pos (Nat.zero_le _)).trans (by rw [Nat.sub_zero])

/-- The host's sums over a window, from zero. -/
theorem host_running_sum {R C lo : ℕ} {u : Shape} (hR : lo + 1 = R) (x : FVec Ideal ⟨2, ![R, C]⟩ .f32) (init : FVec Ideal u .f32)
    (h : (⟨2, ![R, C]⟩ : Shape).ReduceWindows (![R, 1] : Fin 2 → ℕ) ![1, 1] ![lo, 0] ![0, 0] ⟨2, ![R, C]⟩) (hu : 0 < u.numel)
    (h0 : init (Shape.Idx.first hu) = (0 : EReal)) (r : Fin R) (j : Fin C) :
    Host.reduceWindowAdd (![R, 1] : Fin 2 → ℕ) ![1, 1] ![lo, 0] ![0, 0] x init h hu (ix2 r j) = (∑ n ∈ Finset.range (r.val + 1), col x j n : EReal) := by
  show Ideal.hostReduceWindowAdd (![R, 1] : Fin 2 → ℕ) ![1, 1] ![lo, 0] ![0, 0] h x (init (Shape.Idx.first hu)) (ix2 r j) = _
  rw [h0]
  exact running_sum hR x h r j

theorem host_running_sum_up {R C hi : ℕ} {u : Shape} (x : FVec Ideal ⟨2, ![R, C]⟩ .f32) (init : FVec Ideal u .f32)
    (h : (⟨2, ![R, C]⟩ : Shape).ReduceWindows (![R, 1] : Fin 2 → ℕ) ![1, 1] ![0, 0] ![hi, 0] ⟨2, ![R, C]⟩) (hu : 0 < u.numel)
    (h0 : init (Shape.Idx.first hu) = (0 : EReal)) (r : Fin R) (j : Fin C) :
    Host.reduceWindowAdd (![R, 1] : Fin 2 → ℕ) ![1, 1] ![0, 0] ![hi, 0] x init h hu (ix2 r j) = (∑ n ∈ Finset.range R, col x j (r.val + n) : EReal) := by
  show Ideal.hostReduceWindowAdd (![R, 1] : Fin 2 → ℕ) ![1, 1] ![0, 0] ![hi, 0] h x (init (Shape.Idx.first hu)) (ix2 r j) = _
  rw [h0]
  exact running_sum_up x h r j

/-- A column's sum from a row on. -/
theorem sum_from {R C : ℕ} (x : (⟨2, ![R, C]⟩ : Shape).Idx → EReal) (j : Fin C) {r : ℕ} (hr : r ≤ R) :
    ∑ n ∈ Finset.range R, col x j (r + n) = ∑ n ∈ Finset.Ico r R, col x j n := by
  have e : Finset.range R = Finset.range (R - r + r) := congrArg _ (by omega)
  rw [Finset.sum_Ico_eq_sum_range, e, Finset.sum_range_add, Finset.sum_eq_zero (s := Finset.range r), add_zero]
  exact fun n _ => dif_neg (by omega)

/-! ## Sums by a triangle of ones and zeros -/

/-- One where the word is set, zero elsewhere. -/
theorem sitofp_ofBool (p : Bool) : FloatOps.sitofp (F := Ideal) FTy.f32 (BitVec.setWidth 32 (BitVec.ofBool p)) = (if p then 1 else 0 : EReal) := by
  show ((((BitVec.setWidth 32 (BitVec.ofBool p)).toInt : ℝ)) : EReal) = _
  cases p
  · show (((0 : ℤ) : ℝ) : EReal) = 0
    norm_num
  · show (((1 : ℤ) : ℝ) : EReal) = 1
    norm_num

theorem lower_entry (r k : Fin 256) :
    FloatOps.sitofp (F := Ideal) FTy.f32 (BitVec.setWidth 32 (IntOp.cmpi .sge (BitVec.ofNat 32 r.val) (BitVec.ofNat 32 k.val)))
      = (if k.val ≤ r.val then 1 else 0 : EReal) := by
  have hr := r.isLt
  have hk := k.isLt
  rw [WordCmp.cmpi_sge_ofNat (by omega) (by omega), sitofp_ofBool]
  simp

theorem upper_entry (r k : Fin 256) :
    FloatOps.sitofp (F := Ideal) FTy.f32 (BitVec.setWidth 32 (IntOp.cmpi .sge (BitVec.ofNat 32 k.val) (BitVec.ofNat 32 r.val)))
      = (if r.val ≤ k.val then 1 else 0 : EReal) := lower_entry k r

/-- The rows from row `r` on. -/
theorem sum_upper (r : Fin 256) (f : Fin 256 → EReal) (g : ℕ → EReal) (hg : ∀ k : Fin 256, f k = g k.val) :
    ∑ k : Fin 256, (if r.val ≤ k.val then 1 else 0 : EReal) * f k = ∑ k ∈ Finset.Ico r.val 256, g k := by
  have e : ∀ k : Fin 256, (if r.val ≤ k.val then 1 else 0 : EReal) * f k = (fun n : ℕ => if r.val ≤ n then g n else 0) k.val := fun k => by
    rw [hg]
    by_cases h : r.val ≤ k.val
    · rw [if_pos h, one_mul]
      exact (if_pos h).symm
    · rw [if_neg h, zero_mul]
      exact (if_neg h).symm
  rw [Finset.sum_congr rfl fun k _ => e k, Fin.sum_univ_eq_sum_range (fun n : ℕ => if r.val ≤ n then g n else 0), ← Finset.sum_filter]
  refine Finset.sum_congr (Finset.ext fun n => ?_) fun _ _ => rfl
  rw [Finset.mem_filter, Finset.mem_range, Finset.mem_Ico, and_comm]

/-- The rows up to row `r`. -/
theorem sum_lower (r : Fin 256) (f : Fin 256 → EReal) (g : ℕ → EReal) (hg : ∀ k : Fin 256, f k = g k.val) :
    ∑ k : Fin 256, (if k.val ≤ r.val then 1 else 0 : EReal) * f k = ∑ k ∈ Finset.range (r.val + 1), g k := by
  have hr := r.isLt
  have e : ∀ k : Fin 256, (if k.val ≤ r.val then 1 else 0 : EReal) * f k = (fun n : ℕ => if n ≤ r.val then g n else 0) k.val := fun k => by
    rw [hg]
    by_cases h : k.val ≤ r.val
    · rw [if_pos h, one_mul]
      exact (if_pos h).symm
    · rw [if_neg h, zero_mul]
      exact (if_neg h).symm
  have e' : Finset.range 256 = Finset.range (r.val + 1 + (255 - r.val)) := congrArg _ (by omega)
  rw [Finset.sum_congr rfl fun k _ => e k, Fin.sum_univ_eq_sum_range (fun n : ℕ => if n ≤ r.val then g n else 0),
    e', Finset.sum_range_add, Finset.sum_congr (s₁ := Finset.range (r.val + 1)) rfl fun n hn =>
      if_pos (Nat.lt_succ_iff.1 (Finset.mem_range.1 hn)), Finset.sum_eq_zero (s := Finset.range (255 - r.val)) fun n _ => if_neg (by omega), add_zero]

/-! ## The logarithm of the logistic -/

/-- The logarithm of the logistic. -/
def logLogistic (u : EReal) : EReal := min u 0 - Ideal.log (1 + Ideal.exp (0 - FloatOps.absf (F := Ideal) (φ := .f32) u))

theorem absf_eq (u : EReal) : FloatOps.absf (F := Ideal) (φ := .f32) u = max u (-u) := rfl

/-- It is the negated softplus of the negated argument. -/
theorem neg_softplus (u : EReal) :
    -(max (-u) 0 + Ideal.log1p (Ideal.exp (-FloatOps.absf (F := Ideal) (φ := .f32) (-u)))) = logLogistic u := by
  unfold logLogistic
  rw [absf_eq, absf_eq, neg_neg, max_comm (-u) u, zero_sub]
  unfold Ideal.log1p
  obtain ⟨t, ht⟩ : ∃ t : ℝ, Ideal.log (1 + Ideal.exp (-max u (-u))) = (t : EReal) := by
    induction u with
    | bot => exact ⟨Real.log 1, by rw [EReal.neg_bot, max_eq_right bot_le, EReal.neg_top, Ideal.exp_bot, add_zero]; exact if_neg (by norm_num)⟩
    | top => exact ⟨Real.log 1, by rw [EReal.neg_top, max_eq_left bot_le, EReal.neg_top, Ideal.exp_bot, add_zero]; exact if_neg (by norm_num)⟩
    | coe v =>
      refine ⟨Real.log (1 + Real.exp (-max v (-v))), ?_⟩
      rw [← EReal.coe_neg, ← EReal.coe_strictMono.monotone.map_max, ← EReal.coe_neg, Ideal.exp_coe, ← EReal.coe_one, ← EReal.coe_add, Ideal.log_coe, if_neg (not_le.2 (by positivity))]
  rw [ht, EReal.neg_add (Or.inr (EReal.coe_ne_top t)) (Or.inr (EReal.coe_ne_bot t))]
  congr 1
  induction u with
  | bot => rw [EReal.neg_bot, max_eq_left le_top, min_eq_left bot_le, EReal.neg_top]
  | top => rw [EReal.neg_top, max_eq_right bot_le, min_eq_right le_top, neg_zero]
  | coe v =>
    rw [← EReal.coe_neg, ← EReal.coe_zero, ← EReal.coe_strictMono.monotone.map_max, ← EReal.coe_strictMono.monotone.map_min, ← EReal.coe_neg]
    refine congrArg _ ?_
    rcases le_total v 0 with h | h
    · rw [max_eq_left (by linarith), min_eq_left h, neg_neg]
    · rw [max_eq_right (by linarith), min_eq_right h, neg_zero]

/-- The derivative of the logarithm of the logistic, as the exponential of the softplus's difference. -/
theorem exp_sub_softplus (x : EReal) :
    Ideal.exp ((if -x = ⊤ then 0 else -x) - (if -logLogistic x = ⊤ then 0 else -logLogistic x)) = 1 - Ideal.logistic x := by
  rw [← neg_softplus, neg_neg, absf_eq, neg_neg]
  unfold Ideal.log1p
  induction x with
  | bot =>
    rw [EReal.neg_bot, if_pos rfl, max_eq_left bot_le, max_eq_left le_top, EReal.neg_top, Ideal.exp_bot, add_zero, Ideal.logistic_bot, sub_zero,
      show Ideal.log 1 = ((0 : ℝ) : EReal) from (if_neg (by norm_num : ¬(1 : ℝ) ≤ 0)).trans (congrArg _ Real.log_one), EReal.top_add_coe, if_pos rfl,
      sub_zero]
    exact (Ideal.exp_coe 0).trans (congrArg _ Real.exp_zero)
  | top =>
    rw [EReal.neg_top, if_neg bot_ne_top, max_eq_right bot_le, max_eq_right bot_le, EReal.neg_top, Ideal.exp_bot, add_zero, Ideal.logistic_top,
      show Ideal.log 1 = ((0 : ℝ) : EReal) from (if_neg (by norm_num : ¬(1 : ℝ) ≤ 0)).trans (congrArg _ Real.log_one), EReal.bot_sub, Ideal.exp_bot]
    exact (EReal.sub_self (EReal.coe_ne_top 1) (EReal.coe_ne_bot 1)).symm
  | coe v =>
    have e : max (-v) 0 + Real.log (1 + Real.exp (-max (-v) v)) = Real.log (1 + Real.exp (-v)) := by
      rcases le_total v 0 with h | h
      · rw [max_eq_left (by linarith), max_eq_left (by linarith), neg_neg]
        nth_rewrite 1 [← Real.log_exp (-v)]
        rw [← Real.log_mul (by positivity) (by positivity), mul_add, ← Real.exp_add]
        norm_num [add_comm]
      · rw [max_eq_right (by linarith), max_eq_right (by linarith), zero_add]
    have p : (0 : ℝ) < 1 + Real.exp (-v) := by positivity
    rw [← EReal.coe_neg, if_neg (EReal.coe_ne_top _), ← EReal.coe_strictMono.monotone.map_max, ← EReal.coe_zero, ← EReal.coe_strictMono.monotone.map_max,
      ← EReal.coe_neg, Ideal.exp_coe, ← EReal.coe_one, ← EReal.coe_add, Ideal.log_coe, if_neg (not_le.2 (by positivity)), ← EReal.coe_add, e,
      if_neg (EReal.coe_ne_top _), ← EReal.coe_sub, Ideal.exp_coe, Ideal.logistic_coe, ← EReal.coe_sub, Real.exp_sub, Real.exp_log p]
    refine congrArg _ ?_
    field_simp
    ring

/-! ## A buffer of eight rows whose first row is stored -/

section Top

variable {sig : RefSig} (inb : ∀ a, (![0, 0] : Fin 2 → ℕ) a + (⟨2, ![1, 128]⟩ : Shape).size a ≤ (⟨2, ![8, 128]⟩ : Shape).size a)
  (inb' : ∀ a, (![0, 0] : Fin 2 → ℕ) a + (⟨2, ![8, 128]⟩ : Shape).size a ≤ (⟨2, ![8, 128]⟩ : Shape).size a)

theorem top_at (j : Fin 128) : (Rect.unit (s := ⟨2, ![8, 128]⟩) ![0, 0] ![1, 128] inb).emb (ix2 0 j) = ix2 0 j := by
  funext a
  match a with
  | ⟨0, _⟩ => rfl
  | ⟨1, _⟩ => exact Fin.ext ((Nat.zero_add _).trans (Nat.one_mul _))

theorem below_top {r : Fin 8} (hr : r.val ≠ 0) (j : Fin 128) : ix2 r j ∉ (Rect.unit (s := ⟨2, ![8, 128]⟩) ![0, 0] ![1, 128] inb).set :=
  Rect.not_mem_set_of_axis _ _ 0 0 1 rfl rfl rfl (Or.inr (Nat.one_le_iff_ne_zero.2 hr))

theorem canon_top (w : Vec Ideal ⟨2, ![1, 128]⟩ .f32) (L : List (View.Piece (Elt Ideal) ⟨2, ![8, 128]⟩ .f32)) (j : Fin 128) :
    View.canon (⟨Rect.unit ![0, 0] ![1, 128] inb, w⟩ :: L) (ix2 0 j) = w (ix2 0 j) := by
  have h := View.canon_cons_emb (Val := Elt Ideal) (Rect.unit (s := ⟨2, ![8, 128]⟩) ![0, 0] ![1, 128] inb) w L (ix2 0 j)
  rwa [top_at] at h

/-- Below it, what the buffer was filled with. -/
theorem canon_below (w : Vec Ideal ⟨2, ![1, 128]⟩ .f32) (z : Vec Ideal ⟨2, ![8, 128]⟩ .f32) {r : Fin 8} (hr : r.val ≠ 0) (j : Fin 128) :
    View.canon (Val := Elt Ideal) [⟨Rect.unit ![0, 0] ![1, 128] inb, w⟩, ⟨Rect.unit ![0, 0] ![8, 128] inb', z⟩] (ix2 r j) = z (ix2 r j) := by
  rw [View.canon_cons_of_not_mem _ _ (below_top inb hr j)]
  refine congrFun (View.canon_cons_unit_lit (Val := Elt Ideal) inb' z [] fun a => ?_) _
  match a with
  | ⟨0, _⟩ => rfl
  | ⟨1, _⟩ => rfl

theorem read_top (v : View sig .tc .vmem ⟨2, ![8, 128]⟩ .f32) (f : v.ty.Contents (Elt Ideal)) (w : Vec Ideal ⟨2, ![1, 128]⟩ .f32)
    (L : List (View.Piece (Elt Ideal) ⟨2, ![8, 128]⟩ .f32)) (j : Fin 128) :
    v.read (Elt Ideal) (v.writes (Elt Ideal) f (⟨Rect.unit ![0, 0] ![1, 128] inb, w⟩ :: L)) (ix2 0 j) = w (ix2 0 j) :=
  View.read_writes_cons_hit v f (Rect.unit (s := ⟨2, ![8, 128]⟩) ![0, 0] ![1, 128] inb) w L (ix2 0 j) _ (top_at inb j)

theorem read_below (v : View sig .tc .vmem ⟨2, ![8, 128]⟩ .f32) (f : v.ty.Contents (Elt Ideal)) (w : Vec Ideal ⟨2, ![1, 128]⟩ .f32) {r : Fin 8}
    (hr : r.val ≠ 0) (j : Fin 128) :
    v.read (Elt Ideal) (v.writes (Elt Ideal) f [⟨Rect.unit ![0, 0] ![1, 128] inb, w⟩]) (ix2 r j) = v.read (Elt Ideal) f (ix2 r j) :=
  View.read_writes_cons_miss v f _ _ _ (below_top inb hr j)

/-- The first row, read after the buffer was filled. -/
theorem filled (v : View sig .tc .vmem ⟨2, ![8, 128]⟩ .f32) (z : Vec Ideal ⟨2, ![8, 128]⟩ .f32) (hz : ∀ i, z i = (0 : EReal)) :
    v.readCov (Val := Elt Ideal) [⟨Rect.unit ![0, 0] ![8, 128] inb', z⟩] (Rect.unit ![0, 0] ![1, 128] inb).toLoadRect = fun _ => (0 : EReal) := by
  refine (View.readCov_fill (Val := Elt Ideal) v inb' z [] (Rect.unit ![0, 0] ![1, 128] inb) fun a => ?_).trans ?_
  · match a with
    | ⟨0, _⟩ => rfl
    | ⟨1, _⟩ => rfl
  · funext y
    exact hz _

/-- The first row, loaded from a buffer. -/
theorem ld_top (z : Vec Ideal ⟨2, ![8, 128]⟩ .f32) (j : Fin 128) :
    View.ld (Val := Elt Ideal) z (Rect.unit ![0, 0] ![1, 128] inb) (ix2 0 j) = z (ix2 0 j) :=
  View.ld_unit_apply_of (Val := Elt Ideal) z ![0, 0] ![1, 128] inb (ix2 0 j) (ix2 0 j) fun a => by
    match a with
    | ⟨0, _⟩ => rfl
    | ⟨1, _⟩ => exact (Nat.zero_add _).symm

end Top

end Cert.Proof.Sums

end
-- ==== Proof.ForgetSums.lean ====
/-
  The running sums of the forget gates' logarithms, on one device: a block of 256 rows per grid point, the sum so far
  carried from point to point.
-/
module

public import proofs.«01_k».proof.Defs
public import proofs.«01_k».proof.Proof.Sums
public import proofs.«01_k».proof.Proof.Gen.ForgetSums
public import proofs.«01_k».proof.Proof.Gen.ForgetSumsIdeal
public import proofs.«01_k».proof.Proof.Gen.ForgetSumsIdeal.Frame
public import proofs.«01_k».proof.Proof.Gen.ForgetSumsIdeal.Value
public import proofs.«01_k».proof.Proof.Gen.LogSumsIdeal
public import proofs.«01_k».proof.Proof.Gen.LogSumsIdeal.Run
public import Idealize.ShloMosaic.Lib.Pipeline.ReadBack
public import Idealize.ShloMosaic.Lib.WritesUnit

@[expose] public section

set_option Elab.async false
set_option maxRecDepth 16384

noncomputable section

namespace Cert.Proof.ForgetSums

open Cert.ForgetSumsIdeal Cert.ForgetSumsIdeal.Gen
open Idealize.ShloMosaic Idealize.ShloMosaic.TcCoe Idealize.ShloMosaic.Tactic Idealize.SL.Sem
open Idealize.ShloMosaic.Pointwise
open Idealize.ShloMosaic.Pipeline (Dat)
open Cert.Proof.Blocks (at_ix2)
open Cert.Proof.Sums

/-! ## One block -/

/-- A block's gate. -/
def gateAt (x : Vec Ideal S256x128 .f32) (b : Vec Ideal S1x128 .f32) (j : Fin 128) (k : Fin 256) : EReal := logLogistic (x (ix2 k j) + b (ix2 0 j))

theorem pay_at (x : Vec Ideal S256x128 .f32) (b z : Vec Ideal S1x128 .f32) (r : Fin 256) (j : Fin 128) :
    k0_pay2 x b z (ix2 r j)
      = (∑ k : Fin 256, (if k.val ≤ r.val then 1 else 0 : EReal) * logLogistic (x (ix2 k j) + b (ix2 0 j)) + z (ix2 0 j) : EReal) := by
  rw [Finset.sum_congr rfl fun k _ => congrArg (fun e : EReal => e * logLogistic (x (ix2 k j) + b (ix2 0 j))) (lower_entry r k).symm]
  unfold k0_pay2 logLogistic
  pointwise

/-- A block's running sums over what the rows before it add up to. -/
theorem pay_block {x : Vec Ideal S256x128 .f32} {b z : Vec Ideal S1x128 .f32} (g : ℕ → EReal) (s : ℕ) (r : Fin 256) (j : Fin 128)
    (hg : ∀ k : Fin 256, gateAt x b j k = g (s + k.val)) (hz : z (ix2 0 j) = (∑ n ∈ Finset.range s, g n : EReal)) :
    k0_pay2 x b z (ix2 r j) = (∑ n ∈ Finset.range (s + r.val + 1), g n : EReal) := by
  rw [pay_at, sum_lower r (fun k => logLogistic (x (ix2 k j) + b (ix2 0 j))) (fun n => g (s + n)) hg, hz, add_comm, show s + r.val + 1 = s + (r.val + 1) from rfl, Finset.sum_range_add _ s]

/-- The last row's. -/
theorem pay_last {x : Vec Ideal S256x128 .f32} {b z : Vec Ideal S1x128 .f32} (g : ℕ → EReal) (s : ℕ) (j : Fin 128)
    (hg : ∀ k : Fin 256, gateAt x b j k = g (s + k.val)) (hz : z (ix2 0 j) = (∑ n ∈ Finset.range s, g n : EReal)) :
    k0_pay2 x b z (ix2 255 j) = (∑ n ∈ Finset.range (s + 256), g n : EReal) :=
  (pay_block g s 255 j hg hz).trans (congrArg (fun n => ∑ k ∈ Finset.range n, g k) (Nat.add_assoc s 255 1))

theorem fill_at (i : S8x128.Idx) : k0_pay1 (F := Ideal) i = (0 : EReal) := by
  unfold k0_pay1
  pointwise

theorem last_at (x : Vec Ideal S256x128 .f32) (b z : Vec Ideal S1x128 .f32) (j : Fin 128) : k0_pay3 x b z (ix2 0 j) = k0_pay2 x b z (ix2 255 j) := by
  unfold k0_pay3
  pointwise

section Block

variable (c : Dev nD) (i : grid0.Coords) (arg1 : Memref sig .tc .vmem S256x128 .f32) (harg1 : arg1.IsWhole)
  (arg2 : Memref sig .tc .vmem S1x128 .f32) (harg2 : arg2.IsWhole) (arg3 : Memref sig .tc .vmem S256x128 .f32) (harg3 : arg3.IsWhole)
  (arg4 : Memref sig .tc .vmem S8x128 .f32) (harg4 : arg4.IsWhole)
  {x : Vec Ideal S256x128 .f32} {b : Vec Ideal S1x128 .f32} (g : ℕ → EReal) (s : ℕ) (j : Fin 128)

theorem left_A (hc : cond0_0 i) (hg : ∀ k : Fin 256, gateAt x b j k = g k.val) (r : Fin 256) :
    out0_A_2 c i arg1 harg1 arg2 harg2 arg3 harg3 arg4 harg4 hc x b (ix2 r j) = (∑ n ∈ Finset.range (r.val + 1), g n : EReal) := by
  rw [← Nat.zero_add r.val]
  refine Eq.trans ?_ (pay_block (x := x) (b := b) (z := fun _ => (0 : EReal)) g 0 r j (fun k => (hg k).trans (by rw [Nat.zero_add])) rfl)
  frame_out
  refine congrArg (fun z => k0_pay2 x b z (ix2 r j)) ?_
  exact filled _ _ _ _ fill_at

theorem kept_A (hc : cond0_0 i) (hg : ∀ k : Fin 256, gateAt x b j k = g k.val) :
    sout0_A_0 c i arg1 harg1 arg2 harg2 arg3 harg3 arg4 harg4 hc x b (ix2 0 j) = (∑ n ∈ Finset.range (0 + 256), g n : EReal) := by
  refine Eq.trans ?_ (pay_last (x := x) (b := b) (z := fun _ => (0 : EReal)) g 0 j (fun k => (hg k).trans (by rw [Nat.zero_add])) rfl)
  frame_out
  refine (canon_top _ _ _ j).trans ((last_at _ _ _ j).trans ?_)
  exact congrArg (fun z => k0_pay2 x b z (ix2 255 j)) (filled _ _ _ _ fill_at)

theorem left_B (hc : ¬cond0_0 i) (z : Vec Ideal S8x128 .f32) (hg : ∀ k : Fin 256, gateAt x b j k = g (s + k.val))
    (hz : z (ix2 0 j) = (∑ n ∈ Finset.range s, g n : EReal)) (r : Fin 256) :
    out0_B_2 c i arg1 harg1 arg2 harg2 arg3 harg3 arg4 harg4 hc x b z (ix2 r j) = (∑ n ∈ Finset.range (s + r.val + 1), g n : EReal) := by
  refine Eq.trans ?_ (pay_block (x := x) (b := b) (z := View.ld z (Rect.unit ![0, 0] ![1, 128] inb_S8x128_S1x128_0_0)) g s r j hg
    ((ld_top _ z j).trans hz))
  frame_out

theorem kept_B (hc : ¬cond0_0 i) (z : Vec Ideal S8x128 .f32) (hg : ∀ k : Fin 256, gateAt x b j k = g (s + k.val))
    (hz : z (ix2 0 j) = (∑ n ∈ Finset.range s, g n : EReal)) :
    sout0_B_0 c i arg1 harg1 arg2 harg2 arg3 harg3 arg4 harg4 hc x b z (ix2 0 j) = (∑ n ∈ Finset.range (s + 256), g n : EReal) := by
  refine Eq.trans ?_ (pay_last (x := x) (b := b) (z := View.ld z (Rect.unit ![0, 0] ![1, 128] inb_S8x128_S1x128_0_0)) g s j hg
    ((ld_top _ z j).trans hz))
  frame_out
  exact (read_top _ _ _ _ _ j).trans (last_at _ _ _ j)

end Block

variable (m : (ℓ : Loc nD τ sig) → Buf (Elt Ideal) ℓ)

abbrev xA (c : Dev nD) : FVec Ideal S8192x128 .f32 := m ((c.tc : Thread nD τ).loc main_arg0)
abbrev bA (c : Dev nD) : FVec Ideal S1x128 .f32 := m ((c.tc : Thread nD τ).loc main_arg1)

/-- The gates' logarithms. -/
noncomputable def gates (x : FVec Ideal S8192x128 .f32) (b : FVec Ideal S1x128 .f32) : FVec Ideal S8192x128 .f32 :=
  fun i => logLogistic (x i + b (ix2 0 (i 1)))

/-- Their running sums. -/
noncomputable def sumsA (x : FVec Ideal S8192x128 .f32) (b : FVec Ideal S1x128 .f32) : FVec Ideal S8192x128 .f32 :=
  fun i => (∑ n ∈ Finset.range ((i 0).val + 1), col (gates x b) (i 1) n : EReal)

theorem starts_0 : ∀ t : Fin cfg0.N, win0_0.index t = ![t.val, 0] := (by decide +kernel : ∀ t : Fin grid0.N, _)
theorem starts_1 : ∀ t : Fin cfg0.N, win0_1.index t = ![0, 0] := (by decide +kernel : ∀ t : Fin grid0.N, _)
theorem starts_2 : ∀ t : Fin cfg0.N, win0_2.index t = ![t.val, 0] := (by decide +kernel : ∀ t : Fin grid0.N, _)
theorem points : cfg0.N = 32 := (by decide +kernel : grid0.N = 32)

theorem x_at (c : Dev nD) (t : Fin cfg0.N) (r : Fin 256) (j : Fin 128) (l : Fin 8192) (hl : l.val = t.val * 256 + r.val) :
    iblk m c 0 t (ix2 r j) = xA m c (ix2 l j) := by
  have e0 : ((win0_0.blk t).view.emb (ix2 r j) 0).val = t.val * 256 + r.val := by blk_simp [starts_0]
  have e1 : ((win0_0.blk t).view.emb (ix2 r j) 1).val = j.val := by blk_simp [starts_0]
  exact (congrFun (V_main_arg0 m c) _).trans (at_ix2 (xA m c) (e0.trans hl.symm) e1)

theorem b_at (c : Dev nD) (t : Fin cfg0.N) (j : Fin 128) : iblk m c 1 t (ix2 0 j) = bA m c (ix2 0 j) := by
  have e0 : ((win0_1.blk t).view.emb (ix2 0 j) 0).val = 0 := by
    blk_simp [starts_1]
    rfl
  have e1 : ((win0_1.blk t).view.emb (ix2 0 j) 1).val = j.val := by blk_simp [starts_1]
  exact (congrFun (V_main_arg1 m c) _).trans (at_ix2 (bA m c) (l := 0) e0 e1)

theorem gates_at (c : Dev nD) (t : Fin cfg0.N) (j : Fin 128) (k : Fin 256) :
    gateAt (iblk m c 0 t) (iblk m c 1 t) j k = col (gates (xA m c) (bA m c)) j (t.val * 256 + k.val) := by
  have ht : t.val < 32 := lt_of_lt_of_eq t.isLt points
  have hk := k.isLt
  have hl : t.val * 256 + k.val < 8192 := by omega
  unfold gateAt
  rw [col_of_lt _ _ hl, x_at m c t k j ⟨_, hl⟩ rfl, b_at]
  rfl

/-- What a point leaves: its rows' running sums, and the sum through its last row. -/
theorem outs_at (c : Dev nD) : ∀ (n : ℕ) (hn : n < cfg0.N) (j : Fin 128),
    (∀ r : Fin 256, (outsAt0 m c n hn).1 (ix2 r j)
      = (∑ k ∈ Finset.range (n * 256 + r.val + 1), col (gates (xA m c) (bA m c)) j k : EReal))
    ∧ (outsAt0 m c n hn).2 (ix2 0 j) = (∑ k ∈ Finset.range (n * 256 + 256), col (gates (xA m c) (bA m c)) j k : EReal)
  | 0, hn, j => by
    have hg : ∀ k : Fin 256, gateAt (iblk m c 0 ⟨0, hn⟩) (iblk m c 1 ⟨0, hn⟩) j k = col (gates (xA m c) (bA m c)) j k.val :=
      fun k => (gates_at m c ⟨0, hn⟩ j k).trans (by rw [Nat.zero_mul, Nat.zero_add])
    rw [Nat.zero_mul, outsAt0_A m c ⟨0, hn⟩ (Nat.zero_mod _)]
    dsimp only
    refine ⟨fun r => ?_, kept_A c _ _ _ _ _ _ _ _ _ _ j _ hg⟩
    rw [Nat.zero_add]
    exact left_A c _ _ _ _ _ _ _ _ _ _ j _ hg r
  | n + 1, hn, j => by
    have hz := (outs_at c n (Nat.lt_of_succ_lt hn) j).2
    rw [← Nat.succ_mul] at hz
    have hN : n + 1 < 32 := lt_of_lt_of_eq hn points
    rw [outsAt0_B m c ⟨n + 1, hn⟩ (by show ¬(n + 1) % 32 = 0; omega)]
    dsimp only
    exact ⟨left_B c _ _ _ _ _ _ _ _ _ _ _ j _ _ (gates_at m c ⟨n + 1, hn⟩ j) hz, kept_B c _ _ _ _ _ _ _ _ _ _ _ j _ _ (gates_at m c ⟨n + 1, hn⟩ j) hz⟩

theorem final (c : Dev nD) : (dats m 0 c).arrAt 2 cfg0.N = sumsA (xA m c) (bA m c) := by
  refine (dats m 0 c).arrAt_eq_of_covers 2 _ (by decide +kernel) fun t hf y => ?_
  blk_simp
  rw [after0_2]
  have e0 : (((win0_2.blk t).view.emb y) 0).val = t.val * 256 + (y 0).val := by blk_simp [starts_2]
  have e1 : ((win0_2.blk t).view.emb y) 1 = y 1 := by
    apply Fin.ext
    blk_simp [starts_2]
  refine (congrArg _ (eq_ix2 y)).trans (((outs_at m c t.val t.isLt (y 1)).1 (y 0)).trans ?_)
  unfold sumsA
  rw [e0, e1]

/-! ## Against the reference -/

section Reference

open Cert.LogSumsIdeal (S_)
open Cert.LogSumsIdeal.Gen

/-- The reference's gates. -/
abbrev gatesR (x : FVec Ideal S8192x128 .f32) (b : FVec Ideal S1x128 .f32) : FVec Ideal S8192x128 .f32 :=
  Host.negf (select (cmpf .une (subf (Host.negf (addf x (broadcastInDim S8192x128 ![0, 1] bcast_S1x128_S8192x128_0_1 b)))
      (broadcastInDim S8192x128 ![] bcast_S_S8192x128 (constant S_ .f32 0x00000000#32)))
      (subf (Host.negf (addf x (broadcastInDim S8192x128 ![0, 1] bcast_S1x128_S8192x128_0_1 b)))
      (broadcastInDim S8192x128 ![] bcast_S_S8192x128 (constant S_ .f32 0x00000000#32))))
    (addf (Host.negf (addf x (broadcastInDim S8192x128 ![0, 1] bcast_S1x128_S8192x128_0_1 b)))
      (broadcastInDim S8192x128 ![] bcast_S_S8192x128 (constant S_ .f32 0x00000000#32)))
    (addf (maximumf (Host.negf (addf x (broadcastInDim S8192x128 ![0, 1] bcast_S1x128_S8192x128_0_1 b)))
      (broadcastInDim S8192x128 ![] bcast_S_S8192x128 (constant S_ .f32 0x00000000#32)))
      (Host.log1p (Host.exp (Host.negf (Host.absf (subf (Host.negf (addf x (broadcastInDim S8192x128 ![0, 1] bcast_S1x128_S8192x128_0_1 b)))
      (broadcastInDim S8192x128 ![] bcast_S_S8192x128 (constant S_ .f32 0x00000000#32)))))))))

theorem gates_eq (x : FVec Ideal S8192x128 .f32) (b : FVec Ideal S1x128 .f32) : gatesR x b = gates x b := by
  funext i
  obtain ⟨r, j, rfl⟩ : ∃ (r : Fin 8192) (j : Fin 128), i = ix2 r j := ⟨i 0, i 1, eq_ix2 i⟩
  refine Eq.trans ?_ (neg_softplus (x (ix2 r j) + b (ix2 0 j)))
  pointwise
  rw [if_neg (fun h => h rfl)]

theorem reference_sums (x : FVec Ideal S8192x128 .f32) (b : FVec Ideal S1x128 .f32) :
    Host.reduceWindowAdd ![8192, 1] ![1, 1] ![8191, 0] ![0, 0] (gatesR x b) (broadcastInDim S_ ![] bcast_S_S_ (constant S_ .f32 0x00000000#32))
      reduceWindows_S8192x128_S8192x128_w8192s1p8191_0_w1s1p0_0 Cert.LogSumsIdeal.Gen.h_S_ = sumsA x b := by
  funext i
  obtain ⟨r, j, rfl⟩ : ∃ (r : Fin 8192) (j : Fin 128), i = ix2 r j := ⟨i 0, i 1, eq_ix2 i⟩
  rw [gates_eq]
  refine host_running_sum (lo := 8191) (R := 8192) (C := 128) (by norm_num) (gates x b) _ _ _ ?_ r j
  pointwise

end Reference

/-! ## The claims -/

theorem bodies_same : @Cert.ForgetSums.defs₀ Bits _ _ = @Cert.ForgetSumsIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_ForgetSums := fun m g _ => by
  rw [show @Cert.ForgetSums.defs Bits _ _ = @Cert.ForgetSumsIdeal.defs Bits _ _ from
    congrArg (Pipeline.defs Cert.ForgetSumsIdeal.pcfgs) bodies_same]
  exact Cert.ForgetSumsIdeal.Gen.frame (F := Bits) m g

theorem quiescent_ideal : Cert.quiescent_ForgetSumsIdeal := fun m g _ => Cert.ForgetSumsIdeal.Gen.frame (F := Ideal) m g

theorem quiescent_reference : Cert.quiescent_LogSumsIdeal := fun m g _ =>
  (θ_run Cert.LogSumsIdeal.defs _ _).mono (fun r h => ⟨fun c => (h c).2, sem_eq_zero_of_no_sems rfl r.2⟩) (Cert.LogSumsIdeal.Value.run (F := Ideal) m g)

theorem algebraic : Cert.algebraic_ForgetSumsIdeal_LogSumsIdeal := fun m g m' g' _ h => by
  refine ⟨fun c => sumsA (xA m c) (bA m c),
    (θ_run Cert.ForgetSumsIdeal.defs _ _).mono (fun _ hr c => ?_) (Cert.ForgetSumsIdeal.Value.run_blocks (F := Ideal) m g),
    (θ_run Cert.LogSumsIdeal.defs _ _).mono (fun _ hr c => ?_) (Cert.LogSumsIdeal.Value.run (F := Ideal) m' g')⟩
  · exact ⟨(hr c).1.trans (final m c), (hr c).2⟩
  · exact ⟨((hr c).1.trans (reference_sums _ _)).trans (congrArg₂ sumsA (h c).1 (h c).2), (hr c).2⟩

end Cert.Proof.ForgetSums

end
-- ==== Proof.ForgetGrad.lean ====
/-
  The gradients of the forget gates' running sums, on one device: a block of 256 rows per grid point, from the last to the
  first, the sum so far carried from point to point.
-/
module

public import proofs.«01_k».proof.Defs
public import proofs.«01_k».proof.Proof.Sums
public import proofs.«01_k».proof.Proof.Gen.ForgetGrad
public import proofs.«01_k».proof.Proof.Gen.ForgetGradIdeal
public import proofs.«01_k».proof.Proof.Gen.ForgetGradIdeal.Frame
public import proofs.«01_k».proof.Proof.Gen.ForgetGradIdeal.Value
public import proofs.«01_k».proof.Proof.Gen.LogSumsGradIdeal
public import proofs.«01_k».proof.Proof.Gen.LogSumsGradIdeal.Run
public import Idealize.ShloMosaic.Lib.Pipeline.ReadBack
public import Idealize.ShloMosaic.Lib.WritesUnit

@[expose] public section

set_option Elab.async false
set_option maxRecDepth 16384

noncomputable section

namespace Cert.Proof.ForgetGrad

open Cert.ForgetGradIdeal Cert.ForgetGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.Blocks (at_ix2)
open Cert.Proof.Sums

/-! ## One block -/

theorem pay_at (x : Vec Ideal S256x128 .f32) (z : Vec Ideal S1x128 .f32) (r : Fin 256) (j : Fin 128) :
    k0_pay3 x z (ix2 r j) = (∑ k : Fin 256, (if r.val ≤ k.val then 1 else 0 : EReal) * x (ix2 k j) + z (ix2 0 j) : EReal) := by
  rw [Finset.sum_congr rfl fun k _ => congrArg (fun e : EReal => e * x (ix2 k j)) (upper_entry r k).symm]
  unfold k0_pay3
  pointwise

theorem row_at (x : Vec Ideal S256x128 .f32) (z : Vec Ideal S1x128 .f32) (j : Fin 128) : k0_pay4 x z (ix2 0 j) = k0_pay3 x z (ix2 0 j) := by
  unfold k0_pay4
  pointwise

theorem grad_at (x u : Vec Ideal S256x128 .f32) (z b : Vec Ideal S1x128 .f32) (r : Fin 256) (j : Fin 128) :
    k0_pay5 x z u b (ix2 r j) = (k0_pay3 x z (ix2 r j) * (1 - Ideal.logistic (u (ix2 r j) + b (ix2 0 j))) : EReal) := by
  unfold k0_pay5
  rw [← NormGrad.ofBits_one]
  pointwise

theorem out_at (x u : Vec Ideal S256x128 .f32) (z b : Vec Ideal S1x128 .f32) (r : Fin 256) (j : Fin 128) :
    k0_pay6 x z u b (ix2 r j) = k0_pay5 x z u b (ix2 r j) := by
  unfold k0_pay6
  pointwise

theorem acc_at (x u : Vec Ideal S256x128 .f32) (z b q : Vec Ideal S1x128 .f32) (j : Fin 128) :
    k0_pay7 x z u b q (ix2 0 j) = (q (ix2 0 j) + ∑ k : Fin 256, k0_pay5 x z u b (ix2 k j) : EReal) := by
  unfold k0_pay7
  pointwise

theorem fill_at (i : S8x128.Idx) : k0_pay1 (F := Ideal) i = (0 : EReal) := by
  unfold k0_pay1
  pointwise

theorem clear_at (i : S8x128.Idx) : k0_pay2 (F := Ideal) i = (0 : EReal) := by
  unfold k0_pay2
  pointwise

section Block

variable (c : Dev nD) (i : grid0.Coords) (arg1 : Memref sig .tc .vmem S256x128 .f32) (harg1 : arg1.IsWhole)
  (arg2 : Memref sig .tc .vmem S256x128 .f32) (harg2 : arg2.IsWhole) (arg3 : Memref sig .tc .vmem S1x128 .f32) (harg3 : arg3.IsWhole)
  (arg4 : Memref sig .tc .vmem S256x128 .bf16) (harg4 : arg4.IsWhole) (arg5 : Memref sig .tc .vmem S8x128 .f32) (harg5 : arg5.IsWhole)
  (arg6 : Memref sig .tc .vmem S8x128 .f32) (harg6 : arg6.IsWhole)
  (x u : Vec Ideal S256x128 .f32) (b : Vec Ideal S1x128 .f32) (j : Fin 128)

theorem left_A (hc : cond0_0 i) (r : Fin 256) :
    out0_A_3 c i arg1 harg1 arg2 harg2 arg3 harg3 arg4 harg4 arg5 harg5 arg6 harg6 hc x u b (ix2 r j) = k0_pay5 x (fun _ => (0 : EReal)) u b (ix2 r j) := by
  refine Eq.trans ?_ (out_at _ _ _ _ _ _)
  frame_out
  exact congrArg (fun z => k0_pay6 x z u b (ix2 r j)) (filled _ _ _ _ fill_at)

theorem acc_A (hc : cond0_0 i) (r : Fin 8) :
    out0_A_4 c i arg1 harg1 arg2 harg2 arg3 harg3 arg4 harg4 arg5 harg5 arg6 harg6 hc x u b (ix2 r j)
      = (if r.val = 0 then ∑ k : Fin 256, k0_pay5 x (fun _ => (0 : EReal)) u b (ix2 k j) else 0 : EReal) := by
  frame_out
  by_cases hr : r.val = 0
  · obtain rfl : r = 0 := Fin.ext hr
    rw [if_pos hr, canon_top, acc_at, filled _ _ _ _ fill_at, filled _ _ _ _ clear_at, zero_add]
    rfl
  · rw [if_neg hr, canon_below _ _ _ _ hr]
    exact clear_at _

theorem kept_A (hc : cond0_0 i) :
    sout0_A_0 c i arg1 harg1 arg2 harg2 arg3 harg3 arg4 harg4 arg5 harg5 arg6 harg6 hc x u b (ix2 0 j) = k0_pay3 x (fun _ => (0 : EReal)) (ix2 0 j) := by
  refine Eq.trans ?_ (row_at _ _ _)
  frame_out
  exact (canon_top _ _ _ j).trans (congrArg (fun z => k0_pay4 x z (ix2 0 j)) (filled _ _ _ _ fill_at))

variable (q z : Vec Ideal S8x128 .f32)

/-- A buffer's first row. -/
abbrev top (z : Vec Ideal S8x128 .f32) : Vec Ideal S1x128 .f32 := View.ld (Val := Elt Ideal) z (Rect.unit ![0, 0] ![1, 128] inb_S8x128_S1x128_0_0)

theorem left_B (hc : ¬cond0_0 i) (r : Fin 256) :
    out0_B_3 c i arg1 harg1 arg2 harg2 arg3 harg3 arg4 harg4 arg5 harg5 arg6 harg6 hc x u b q z (ix2 r j) = k0_pay5 x (top z) u b (ix2 r j) := by
  refine Eq.trans ?_ (out_at _ _ _ _ _ _)
  frame_out

theorem acc_B (hc : ¬cond0_0 i) (r : Fin 8) :
    out0_B_4 c i arg1 harg1 arg2 harg2 arg3 harg3 arg4 harg4 arg5 harg5 arg6 harg6 hc x u b q z (ix2 r j)
      = (if r.val = 0 then q (ix2 0 j) + ∑ k : Fin 256, k0_pay5 x (top z) u b (ix2 k j) else q (ix2 r j) : EReal) := by
  frame_out
  by_cases hr : r.val = 0
  · obtain rfl : r = 0 := Fin.ext hr
    rw [if_pos hr, read_top, acc_at, ld_top]
  · rw [if_neg hr, read_below _ _ _ _ hr, harg5.read_unread]

theorem kept_B (hc : ¬cond0_0 i) :
    sout0_B_0 c i arg1 harg1 arg2 harg2 arg3 harg3 arg4 harg4 arg5 harg5 arg6 harg6 hc x u b q z (ix2 0 j) = k0_pay3 x (top z) (ix2 0 j) := by
  refine Eq.trans ?_ (row_at _ _ _)
  frame_out
  exact read_top _ _ _ _ _ j

end Block

theorem top_eq : Ideal.ofBits .f32 0x7F800000#32 = (⊤ : EReal) := by
  simp [Ideal.ofBits, Ideal.ieee]

/-- The derivative of a gate by its argument. -/
noncomputable abbrev slope (v w : EReal) : EReal := 1 - Ideal.logistic (v + w)

/-! ## A block's rows, over what the rows after it add up to -/

section Rows

variable {x u : Vec Ideal S256x128 .f32} {z b : Vec Ideal S1x128 .f32} (g d : ℕ → EReal) {s : ℕ} (hs : s + 256 ≤ 8192) {j : Fin 128}
  (hg : ∀ k : Fin 256, x (ix2 k j) = g (s + k.val)) (hz : z (ix2 0 j) = (∑ n ∈ Finset.Ico (s + 256) 8192, g n : EReal))
  (hd : ∀ r : Fin 256, (∑ n ∈ Finset.Ico (s + r.val) 8192, g n) * slope (u (ix2 r j)) (b (ix2 0 j)) = d (s + r.val))

include hs hg hz

theorem pay_block (r : Fin 256) : k0_pay3 x z (ix2 r j) = (∑ n ∈ Finset.Ico (s + r.val) 8192, g n : EReal) := by
  have hr := r.isLt
  rw [pay_at, sum_upper r (fun k => x (ix2 k j)) (fun n => g (s + n)) hg, hz, Finset.sum_Ico_add g r.val 256 s, Nat.add_comm r.val s, Nat.add_comm 256 s,
    Finset.sum_Ico_consecutive _ (by omega) hs]

include hd

theorem grad_block (r : Fin 256) : k0_pay5 x z u b (ix2 r j) = d (s + r.val) := by
  rw [grad_at, pay_block g hs hg hz r]
  exact hd r

theorem acc_block : ∑ k : Fin 256, (k0_pay5 x z u b (ix2 k j) : EReal) = ∑ n ∈ Finset.Ico s (s + 256), d n := by
  rw [Finset.sum_congr rfl fun k _ => grad_block g d hs hg hz hd k, Fin.sum_univ_eq_sum_range (fun n => d (s + n)), Finset.sum_Ico_eq_sum_range,
    Nat.add_sub_cancel_left]

end Rows

/-! ## All of them -/

variable (m : (ℓ : Loc nD τ sig) → Buf (Elt Ideal) ℓ)

abbrev dA (c : Dev nD) : FVec Ideal S8192x128 .f32 := m ((c.tc : Thread nD τ).loc main_arg0)
abbrev xA (c : Dev nD) : FVec Ideal S8192x128 .f32 := m ((c.tc : Thread nD τ).loc main_arg1)
abbrev bA (c : Dev nD) : FVec Ideal S1x128 .f32 := m ((c.tc : Thread nD τ).loc main_arg2)

/-- The gradient of the gates' arguments. -/
noncomputable def gradA (dc x : FVec Ideal S8192x128 .f32) (b : FVec Ideal S1x128 .f32) : FVec Ideal S8192x128 .f32 :=
  fun i => ((∑ n ∈ Finset.Ico (i 0).val 8192, col dc (i 1) n) * slope (x i) (b (ix2 0 (i 1))) : EReal)

/-- As it is kept. -/
noncomputable def outA (dc x : FVec Ideal S8192x128 .f32) (b : FVec Ideal S1x128 .f32) : FVec Ideal S8192x128 .bf16 := fun i => gradA dc x b i

/-- Its sums down the rows, in the first of eight rows. -/
noncomputable def accA (dc x : FVec Ideal S8192x128 .f32) (b : FVec Ideal S1x128 .f32) : FVec Ideal S8x128 .f32 :=
  fun i => (if (i 0).val = 0 then ∑ n ∈ Finset.Ico 0 8192, col (gradA dc x b) (i 1) n else 0 : EReal)

theorem starts_0 : ∀ t : Fin cfg0.N, win0_0.index t = ![31 - t.val, 0] := (by decide +kernel : ∀ t : Fin grid0.N, _)
theorem starts_1 : ∀ t : Fin cfg0.N, win0_1.index t = ![31 - t.val, 0] := (by decide +kernel : ∀ t : Fin grid0.N, _)
theorem starts_2 : ∀ t : Fin cfg0.N, win0_2.index t = ![0, 0] := (by decide +kernel : ∀ t : Fin grid0.N, _)
theorem starts_3 : ∀ t : Fin cfg0.N, win0_3.index t = ![31 - t.val, 0] := (by decide +kernel : ∀ t : Fin grid0.N, _)
theorem starts_4 : ∀ t : Fin cfg0.N, win0_4.index t = ![0, 0] := (by decide +kernel : ∀ t : Fin grid0.N, _)
theorem last_4 : ∀ t : Fin cfg0.N, (cfg0.win 4).flush t = true → t.val = 31 := (by decide +kernel : ∀ t : Fin grid0.N, _)
theorem points : cfg0.N = 32 := (by decide +kernel : grid0.N = 32)

theorem d_at (c : Dev nD) (t : Fin cfg0.N) (r : Fin 256) (j : Fin 128) (l : Fin 8192) (hl : l.val = (31 - t.val) * 256 + r.val) :
    iblk m c 0 t (ix2 r j) = dA m c (ix2 l j) := by
  have e0 : ((win0_0.blk t).view.emb (ix2 r j) 0).val = (31 - t.val) * 256 + r.val := by blk_simp [starts_0]
  have e1 : ((win0_0.blk t).view.emb (ix2 r j) 1).val = j.val := by blk_simp [starts_0]
  exact (congrFun (V_main_arg0 m c) _).trans (at_ix2 (dA m c) (e0.trans hl.symm) e1)

theorem x_at (c : Dev nD) (t : Fin cfg0.N) (r : Fin 256) (j : Fin 128) (l : Fin 8192) (hl : l.val = (31 - t.val) * 256 + r.val) :
    iblk m c 1 t (ix2 r j) = xA m c (ix2 l j) := by
  have e0 : ((win0_1.blk t).view.emb (ix2 r j) 0).val = (31 - t.val) * 256 + r.val := by blk_simp [starts_1]
  have e1 : ((win0_1.blk t).view.emb (ix2 r j) 1).val = j.val := by blk_simp [starts_1]
  exact (congrFun (V_main_arg1 m c) _).trans (at_ix2 (xA m c) (e0.trans hl.symm) e1)

theorem b_at (c : Dev nD) (t : Fin cfg0.N) (j : Fin 128) : iblk m c 2 t (ix2 0 j) = bA m c (ix2 0 j) := by
  have e0 : ((win0_2.blk t).view.emb (ix2 0 j) 0).val = 0 := by
    blk_simp [starts_2]
    rfl
  have e1 : ((win0_2.blk t).view.emb (ix2 0 j) 1).val = j.val := by blk_simp [starts_2]
  exact (congrFun (V_main_arg2 m c) _).trans (at_ix2 (bA m c) (l := 0) e0 e1)

/-- A column of the sums' gradient. -/
abbrev colD (c : Dev nD) (j : Fin 128) : ℕ → EReal := col (dA m c) j
/-- A column of the arguments' gradient. -/
abbrev colG (c : Dev nD) (j : Fin 128) : ℕ → EReal := col (gradA (dA m c) (xA m c) (bA m c)) j

theorem fits (t : Fin cfg0.N) : (31 - t.val) * 256 + 256 ≤ 8192 := by omega

theorem colD_at (c : Dev nD) (t : Fin cfg0.N) (j : Fin 128) (k : Fin 256) : iblk m c 0 t (ix2 k j) = colD m c j ((31 - t.val) * 256 + k.val) := by
  have hk := k.isLt
  have hl : (31 - t.val) * 256 + k.val < 8192 := by omega
  rw [d_at m c t k j ⟨_, hl⟩ rfl]
  exact (col_of_lt _ _ hl).symm

theorem colG_at (c : Dev nD) (t : Fin cfg0.N) (j : Fin 128) (r : Fin 256) :
    (∑ n ∈ Finset.Ico ((31 - t.val) * 256 + r.val) 8192, colD m c j n)
        * slope (iblk m c 1 t (ix2 r j)) (iblk m c 2 t (ix2 0 j))
      = colG m c j ((31 - t.val) * 256 + r.val) := by
  have hk := r.isLt
  have hl : (31 - t.val) * 256 + r.val < 8192 := by omega
  rw [x_at m c t r j ⟨_, hl⟩ rfl, b_at]
  exact (col_of_lt (gradA (dA m c) (xA m c) (bA m c)) j hl).symm

/-- What a point leaves: its rows' gradients, their sum from its first row on, and the sum carried on. -/
theorem outs_at (c : Dev nD) : ∀ (n : ℕ) (hn : n < cfg0.N) (j : Fin 128),
    (∀ r : Fin 256, (outsAt0 m c n hn).1 (ix2 r j) = colG m c j ((31 - n) * 256 + r.val))
    ∧ (∀ r : Fin 8, (outsAt0 m c n hn).2.1 (ix2 r j) = (if r.val = 0 then ∑ k ∈ Finset.Ico ((31 - n) * 256) 8192, colG m c j k else 0 : EReal))
    ∧ (outsAt0 m c n hn).2.2 (ix2 0 j) = (∑ k ∈ Finset.Ico ((31 - n) * 256) 8192, colD m c j k : EReal)
  | 0, hn, j => by
    have hg := colD_at m c ⟨0, hn⟩ j
    have hd := colG_at m c ⟨0, hn⟩ j
    have hs := fits ⟨0, hn⟩
    have hz : (fun _ => 0 : Vec Ideal S1x128 .f32) (ix2 0 j) = (∑ n ∈ Finset.Ico ((31 - 0) * 256 + 256) 8192, colD m c j n : EReal) := by
      rw [Finset.Ico_eq_empty (by norm_num), Finset.sum_empty]
    rw [outsAt0_A m c ⟨0, hn⟩ (Nat.zero_mod _)]
    dsimp only
    refine ⟨fun r => (left_A ..).trans (grad_block _ _ hs hg hz hd r), fun r => (acc_A ..).trans ?_, (kept_A ..).trans (pay_block _ hs hg hz 0)⟩
    by_cases hr : r.val = 0
    · rw [if_pos hr, if_pos hr]
      exact acc_block _ _ hs hg hz hd
    · rw [if_neg hr, if_neg hr]
  | n + 1, hn, j => by
    have hN : n + 1 < 32 := lt_of_lt_of_eq hn points
    have ho := outs_at c n (Nat.lt_of_succ_lt hn) j
    rw [show (31 - n) * 256 = (31 - (n + 1)) * 256 + 256 by omega] at ho
    have hg := colD_at m c ⟨n + 1, hn⟩ j
    have hd := colG_at m c ⟨n + 1, hn⟩ j
    have hs := fits ⟨n + 1, hn⟩
    have hz : top (outsAt0 m c n (Nat.lt_of_succ_lt hn)).2.2 (ix2 0 j) = (∑ k ∈ Finset.Ico ((31 - (n + 1)) * 256 + 256) 8192, colD m c j k : EReal) :=
      (ld_top _ _ j).trans ho.2.2
    rw [outsAt0_B m c ⟨n + 1, hn⟩ (by show ¬(n + 1) % 32 = 0; omega)]
    dsimp only
    refine ⟨fun r => (left_B ..).trans (grad_block _ _ hs hg hz hd r), fun r => (acc_B ..).trans ?_, (kept_B ..).trans (pay_block _ hs hg hz 0)⟩
    by_cases hr : r.val = 0
    · rw [if_pos hr, if_pos hr]
      refine (congrArg₂ (fun v w : EReal => v + w) ((ho.2.1 0).trans (if_pos rfl)) (acc_block _ _ hs hg hz hd)).trans ?_
      rw [add_comm]
      exact Finset.sum_Ico_consecutive _ (Nat.le_add_right _ _) hs
    · rw [if_neg hr, if_neg hr]
      exact (ho.2.1 r).trans (if_neg hr)

theorem final_3 (c : Dev nD) : (dats m 0 c).arrAt 3 cfg0.N = outA (dA m c) (xA m c) (bA m c) := by
  refine (dats m 0 c).arrAt_eq_of_covers 3 _ (by decide +kernel) fun t hf y => ?_
  blk_simp
  rw [after0_3]
  have e0 : (((win0_3.blk t).view.emb y) 0).val = (31 - t.val) * 256 + (y 0).val := by blk_simp [starts_3]
  have e1 : (((win0_3.blk t).view.emb y) 1).val = (y 1).val := by blk_simp [starts_3]
  have hr : (y 0).val < 256 := (y 0).isLt
  have hl : (31 - t.val) * 256 + (y 0).val < 8192 := by omega
  refine (congrArg _ (eq_ix2 y)).trans (((outs_at m c t.val t.isLt (y 1)).1 (y 0)).trans ((col_of_lt _ _ hl).trans ?_))
  exact (at_ix2 (outA (dA m c) (xA m c) (bA m c)) (l := ⟨_, hl⟩) (j := y 1) e0 e1).symm

theorem final_4 (c : Dev nD) : (dats m 0 c).arrAt 4 cfg0.N = accA (dA m c) (xA m c) (bA m c) := by
  refine (dats m 0 c).arrAt_eq_of_covers 4 _ (by decide +kernel) fun t hf y => ?_
  blk_simp
  rw [after0_4]
  have e0 : (((win0_4.blk t).view.emb y) 0).val = (y 0).val := by blk_simp [starts_4]
  have e1 : (((win0_4.blk t).view.emb y) 1).val = (y 1).val := by blk_simp [starts_4]
  have ht : (31 - t.val) * 256 = 0 := by rw [last_4 t hf]
  refine (congrArg _ (eq_ix2 y)).trans (((outs_at m c t.val t.isLt (y 1)).2.1 (y 0)).trans ?_)
  rw [ht]
  exact (at_ix2 (accA (dA m c) (xA m c) (bA m c)) (l := y 0) (j := y 1) e0 e1).symm

/-! ## Against the reference -/

section Reference

open Cert.LogSumsGradIdeal (S_ S128)
open Cert.LogSumsGradIdeal.Gen

variable (u : FVec Ideal S8192x128 .f32) (b : FVec Ideal S1x128 .f32)

abbrev argR : FVec Ideal S8192x128 .f32 := Host.negf (addf u (broadcastInDim S8192x128 ![0, 1] bcast_S1x128_S8192x128_0_1 b))
abbrev zeros : FVec Ideal S8192x128 .f32 := broadcastInDim S8192x128 ![] bcast_S_S8192x128 (constant S_ .f32 0x00000000#32)
abbrev tops : FVec Ideal S8192x128 .f32 := broadcastInDim S8192x128 ![] bcast_S_S8192x128 (constant S_ .f32 0x7F800000#32)
abbrev plusR : FVec Ideal S8192x128 .f32 :=
  select (cmpf .une (subf (argR u b) zeros) (subf (argR u b) zeros)) (addf (argR u b) zeros)
    (addf (maximumf (argR u b) zeros) (Host.log1p (Host.exp (Host.negf (Host.absf (subf (argR u b) zeros))))))
abbrev slopeR : FVec Ideal S8192x128 .f32 :=
  Host.exp (subf (select (cmpf .oeq (argR u b) tops) zeros (argR u b)) (select (cmpf .oeq (plusR u b) tops) zeros (plusR u b)))

theorem slope_at (r : Fin 8192) (j : Fin 128) : slopeR u b (ix2 r j) = (1 - Ideal.logistic (u (ix2 r j) + b (ix2 0 j)) : EReal) := by
  rw [← exp_sub_softplus, ← neg_softplus]
  unfold slopeR plusR argR zeros tops
  pointwise
  simp only [ne_eq, not_true_eq_false, if_false, neg_neg, top_eq]

/-- The reference's gradient. -/
abbrev gradR (dc : FVec Ideal S8192x128 .f32) : FVec Ideal S8192x128 .f32 :=
  Host.negf (mulf (Host.negf (Host.reduceWindowAdd ![8192, 1] ![1, 1] ![0, 0] ![8191, 0] dc (broadcastInDim S_ ![] bcast_S_S_ (constant S_ .f32 0x00000000#32))
    reduceWindows_S8192x128_S8192x128_w8192s1p0_8191_w1s1p0_0 Cert.LogSumsGradIdeal.Gen.h_S_)) (slopeR u b))

theorem gradR_eq (dc : FVec Ideal S8192x128 .f32) : gradR u b dc = gradA dc u b := by
  funext i
  obtain ⟨r, j, rfl⟩ : ∃ (r : Fin 8192) (j : Fin 128), i = ix2 r j := ⟨i 0, i 1, eq_ix2 i⟩
  have hw := host_running_sum_up (R := 8192) (C := 128) (hi := 8191) dc (broadcastInDim S_ ![] bcast_S_S_ (constant S_ .f32 0x00000000#32))
    reduceWindows_S8192x128_S8192x128_w8192s1p0_8191_w1s1p0_0 Cert.LogSumsGradIdeal.Gen.h_S_ (by pointwise) r j
  rw [sum_from dc j r.isLt.le] at hw
  refine Eq.trans (congrArg₂ (fun v w : EReal => -(-v * w)) hw (slope_at u b r j)) ?_
  rw [neg_mul, neg_neg]
  rfl

theorem reference_out (dc : FVec Ideal S8192x128 .f32) :
    truncf .bf16 (gradR u b dc) Cert.LogSumsGradIdeal.Gen.bitsLt_bf16_f32 = outA dc u b := by
  rw [gradR_eq]
  rfl

theorem reference_acc (dc : FVec Ideal S8192x128 .f32) :
    pad S8x128 ![0, 0] ![7, 0] ![0, 0] (shapeCast _ (Host.reduceAdd (gradR u b dc) (constant S_ .f32 0x00000000#32) reducesTo_S8192x128_S128_d0
      Cert.LogSumsGradIdeal.Gen.h_S_) Cert.LogSumsGradIdeal.Gen.shapeCasts_S128_S1x128) (sitofp .f32 (constantI S_ 32 0#32)) pads_S1x128_S8x128_070_000
      Cert.LogSumsGradIdeal.Gen.h_S_ = accA dc u b := by
  rw [gradR_eq]
  funext i
  obtain ⟨r, j, rfl⟩ : ∃ (r : Fin 8) (j : Fin 128), i = ix2 r j := ⟨i 0, i 1, eq_ix2 i⟩
  have hz : FloatOps.sitofp (F := Ideal) .f32 0#32 = (0 : EReal) := by
    show (((0#32 : BitVec 32).toInt : ℝ) : EReal) = 0
    simp
  unfold accA
  generalize gradA dc u b = G
  pointwise [hz]
  by_cases hr : r.val = 0
  · rw [dif_pos (by omega), if_pos hr, ← Finset.range_eq_Ico, ← Fin.sum_univ_eq_sum_range]
    exact Finset.sum_congr rfl fun k _ => (col_of_lt G j k.isLt).symm
  · rw [dif_neg (by omega), if_neg hr]

end Reference

/-! ## The claims -/

theorem bodies_same : @Cert.ForgetGrad.defs₀ Bits _ _ = @Cert.ForgetGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_ForgetGrad := fun m g _ => by
  rw [show @Cert.ForgetGrad.defs Bits _ _ = @Cert.ForgetGradIdeal.defs Bits _ _ from
    congrArg (Pipeline.defs Cert.ForgetGradIdeal.pcfgs) bodies_same]
  exact Cert.ForgetGradIdeal.Gen.frame (F := Bits) m g

theorem quiescent_ideal : Cert.quiescent_ForgetGradIdeal := fun m g _ => Cert.ForgetGradIdeal.Gen.frame (F := Ideal) m g

theorem quiescent_reference : Cert.quiescent_LogSumsGradIdeal := fun m g _ =>
  (θ_run Cert.LogSumsGradIdeal.defs _ _).mono (fun r h => ⟨fun c => (h c).2.2, sem_eq_zero_of_no_sems rfl r.2⟩) (Cert.LogSumsGradIdeal.Value.run (F := Ideal) m g)

theorem algebraic : Cert.algebraic_ForgetGradIdeal_LogSumsGradIdeal := fun m g m' g' _ h => by
  refine ⟨fun c => outA (dA m c) (xA m c) (bA m c), fun c => accA (dA m c) (xA m c) (bA m c),
    (θ_run Cert.ForgetGradIdeal.defs _ _).mono (fun _ hr c => ?_) (Cert.ForgetGradIdeal.Value.run_blocks (F := Ideal) m g),
    (θ_run Cert.LogSumsGradIdeal.defs _ _).mono (fun _ hr c => ?_) (Cert.LogSumsGradIdeal.Value.run (F := Ideal) m' g')⟩
  · exact ⟨(hr c).1.trans (final_3 m c), (hr c).2.1.trans (final_4 m c), (hr c).2.2⟩
  · obtain ⟨h0, h1, h2⟩ := h c
    exact ⟨((hr c).1.trans (reference_out _ _ _)).trans (by rw [h0, h1, h2]), ((hr c).2.1.trans (reference_acc _ _ _)).trans (by rw [h0, h1, h2]),
      (hr c).2.2⟩

end Cert.Proof.ForgetGrad

end
-- ==== Proof.OutGrad.lean ====
/-
  The gradient of the channel mixers' output weights: a product contracted over the sequence, on one device a block of 1408
  rows at a time, accumulated over the sixteen blocks of 512 positions.
-/
module

public import proofs.«01_k».proof.Defs
public import proofs.«01_k».proof.Proof.Blocks
public import proofs.«01_k».proof.Proof.Gen.OutGrad
public import proofs.«01_k».proof.Proof.Gen.OutGradIdeal
public import proofs.«01_k».proof.Proof.Gen.OutGradIdeal.Frame
public import proofs.«01_k».proof.Proof.Gen.OutGradIdeal.Value
public import proofs.«01_k».proof.Proof.Gen.OutProductGradIdeal
public import proofs.«01_k».proof.Proof.Gen.OutProductGradIdeal.Run

@[expose] public section

set_option Elab.async false
set_option maxRecDepth 16384

noncomputable section

namespace Cert.Proof.OutGrad

open Cert.OutGradIdeal Cert.OutGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.NormGrad (ofBits_zero)
open Cert.Proof.Blocks (at_ix2 rowOf prodR prodR_blocks prodR_block)

/-! ## One point -/

theorem pay2_at (acc : Vec Ideal S1408x1024 .f32) (a : Vec Ideal S512x1408 .bf16) (b : Vec Ideal S512x1024 .bf16)
    (i : S1408x1024.Idx) : k0_pay2 acc a b i = (acc i + prodR a b (i 0) (i 1) : EReal) := by
  unfold k0_pay2 prodR
  pointwise

theorem pay1_at (i : S1408x1024.Idx) : (k0_pay1 : FVec Ideal S1408x1024 .f32) i = (0 : EReal) := by
  unfold k0_pay1
  rw [← ofBits_zero]
  pointwise

variable (m : (ℓ : Loc nD τ sig) → Buf (Elt Ideal) ℓ)

theorem first (c : Dev nD) (t : Fin cfg0.N) (h0 : t.val % 16 = 0) (i : S1408x1024.Idx) :
    outsAt0 m c t.val t.isLt i = (0 + prodR (iblk m c 0 t) (iblk m c 1 t) (i 0) (i 1) : EReal) := by
  rw [outsAt0_A m c t h0, Cert.OutGradIdeal.Value.out_A_2_eq, pay2_at, pay1_at]

theorem next (c : Dev nD) (t : Fin cfg0.N) (h0 : ¬ t.val % 16 = 0) (i : S1408x1024.Idx) :
    outsAt0 m c t.val t.isLt i = (outsAt0 m c (t.val - 1) (Nat.lt_of_le_of_lt (Nat.sub_le _ _) t.isLt) i
      + prodR (iblk m c 0 t) (iblk m c 1 t) (i 0) (i 1) : EReal) := by
  rw [outsAt0_B m c t h0, Cert.OutGradIdeal.Value.out_B_2_eq, pay2_at]

/-! ## The array -/

abbrev aA (c : Dev nD) : FVec Ideal S8192x2816 .bf16 := m ((c.tc : Thread nD τ).loc main_arg0)
abbrev bA (c : Dev nD) : FVec Ideal S8192x1024 .bf16 := m ((c.tc : Thread nD τ).loc main_arg1)

/-- The gradient: the product contracted over all rows. -/
noncomputable def gradA (a : FVec Ideal S8192x2816 .bf16) (b : FVec Ideal S8192x1024 .bf16) : FVec Ideal S2816x1024 .f32 :=
  fun i => prodR a b (i 0) (i 1)

theorem starts_0 : ∀ t : Fin cfg0.N, win0_0.index t = ![t.val % 16, t.val / 16] := (by decide +kernel : ∀ t : Fin grid0.N, _)
theorem starts_1 : ∀ t : Fin cfg0.N, win0_1.index t = ![t.val % 16, 0] := (by decide +kernel : ∀ t : Fin grid0.N, _)
theorem starts_2 : ∀ t : Fin cfg0.N, win0_2.index t = ![t.val / 16, 0] := (by decide +kernel : ∀ t : Fin grid0.N, _)

theorem a_at (c : Dev nD) (t : Fin cfg0.N) (s : Fin 16) (hs : t.val % 16 = s.val) (r : Fin 512) (j : Fin 1408)
    (l : Fin 2816) (hl : l.val = t.val / 16 * 1408 + j.val) : iblk m c 0 t (ix2 r j) = aA m c (ix2 (rowOf s r) l) := by
  have e0 : ((win0_0.blk t).view.emb (ix2 r j) 0).val = t.val % 16 * 512 + r.val := by blk_simp [starts_0]
  have e1 : ((win0_0.blk t).view.emb (ix2 r j) 1).val = t.val / 16 * 1408 + j.val := by blk_simp [starts_0]
  rw [hs] at e0
  exact (congrFun (V_main_arg0 m c) _).trans (at_ix2 (aA m c) (l := rowOf s r) e0 (e1.trans hl.symm))

theorem b_at (c : Dev nD) (t : Fin cfg0.N) (s : Fin 16) (hs : t.val % 16 = s.val) (r : Fin 512) (j : Fin 1024) :
    iblk m c 1 t (ix2 r j) = bA m c (ix2 (rowOf s r) j) := by
  have e0 : ((win0_1.blk t).view.emb (ix2 r j) 0).val = t.val % 16 * 512 + r.val := by blk_simp [starts_1]
  have e1 : ((win0_1.blk t).view.emb (ix2 r j) 1).val = j.val := by blk_simp [starts_1]
  rw [hs] at e0
  exact (congrFun (V_main_arg1 m c) _).trans (at_ix2 (bA m c) (l := rowOf s r) e0 e1)

theorem after_last (c : Dev nD) (t : Fin cfg0.N) (hm : t.val % 16 = 15) (i : S1408x1024.Idx) (l : Fin 2816)
    (hl : l.val = t.val / 16 * 1408 + (i 0).val) : outsAt0 m c t.val t.isLt i = prodR (aA m c) (bA m c) l (i 1) := by
  have hf := Pipeline.eq_sum_fin_of_reset_step_apply_of_flush (fun n h => outsAt0 m c n h) 16 (fun _ => (0 : EReal))
    (fun t i => prodR (iblk m c 0 t) (iblk m c 1 t) (i 0) (i 1)) (fun t h i => first m c t h i) (fun t h i => next m c t h i) t hm i
  refine hf.trans ((zero_add _).trans ?_)
  refine (Finset.sum_congr rfl fun s _ => ?_).trans (prodR_blocks (aA m c) (bA m c) l (i 1)).symm
  have hs : (16 * (t.val / 16) + s.val) % 16 = s.val := by have := s.isLt; omega
  have hq : (16 * (t.val / 16) + s.val) / 16 = t.val / 16 := by have := s.isLt; omega
  exact prodR_block (fun r => a_at m c _ s hs r (i 0) l (hl.trans (congrArg (fun q => q * 1408 + (i 0).val) hq.symm)))
    (fun r => b_at m c _ s hs r (i 1))

theorem final (c : Dev nD) : (dats m 0 c).arrAt 2 cfg0.N = gradA (aA m c) (bA m c) := by
  refine (dats m 0 c).arrAt_eq_of_covers 2 _ (by decide +kernel) fun t hf y => ?_
  have hm : t.val % 16 = 15 := (flush0_2 t).mp hf
  blk_simp
  rw [after0_2]
  have e0 : (((win0_2.blk t).view.emb y) 0).val = t.val / 16 * 1408 + (y 0).val := by blk_simp [starts_2]
  have e1 : ((win0_2.blk t).view.emb y) 1 = y 1 := by
    apply Fin.ext
    blk_simp [starts_2]
  refine (after_last m c t hm y _ e0).trans ?_
  unfold gradA
  rw [e1]

/-! ## Against the reference -/

theorem reference_grad (a : FVec Ideal S8192x2816 .bf16) (b : FVec Ideal S8192x1024 .bf16) :
    transpose S2816x1024 [1, 0] (Host.dotGeneral Cert.OutProductGradIdeal.dot_S8192x1024_S8192x2816_S1024x2816_0_0_1_1_n_n none
      (extf .f32 b Cert.OutProductGradIdeal.Gen.bitsLt_bf16_f32) (extf .f32 a Cert.OutProductGradIdeal.Gen.bitsLt_bf16_f32))
      Cert.OutProductGradIdeal.Gen.transposes_S1024x2816_S2816x1024_1_0 = gradA a b := by
  funext i
  unfold gradA prodR
  pointwise
  exact Finset.sum_congr rfl fun r _ => mul_comm _ _

/-! ## The claims -/

theorem bodies_same : @Cert.OutGrad.defs₀ Bits _ _ = @Cert.OutGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_OutGrad := fun m g _ => by
  rw [show @Cert.OutGrad.defs Bits _ _ = @Cert.OutGradIdeal.defs Bits _ _ from
    congrArg (Pipeline.defs Cert.OutGradIdeal.pcfgs) bodies_same]
  exact Cert.OutGradIdeal.Gen.frame (F := Bits) m g

theorem quiescent_ideal : Cert.quiescent_OutGradIdeal := fun m g _ => Cert.OutGradIdeal.Gen.frame (F := Ideal) m g

theorem quiescent_reference : Cert.quiescent_OutProductGradIdeal := fun m g _ =>
  (θ_run Cert.OutProductGradIdeal.defs _ _).mono (fun r h => ⟨fun c => (h c).2, sem_eq_zero_of_no_sems rfl r.2⟩) (Cert.OutProductGradIdeal.Value.run (F := Ideal) m g)

theorem algebraic : Cert.algebraic_OutGradIdeal_OutProductGradIdeal := fun m g m' g' _ h => by
  refine ⟨fun c => gradA (aA m c) (bA m c),
    (θ_run Cert.OutGradIdeal.defs _ _).mono (fun _ hr c => ?_) (Cert.OutGradIdeal.Value.run_blocks (F := Ideal) m g),
    (θ_run Cert.OutProductGradIdeal.defs _ _).mono (fun _ hr c => ?_) (Cert.OutProductGradIdeal.Value.run (F := Ideal) m' g')⟩
  · obtain ⟨e0, e⟩ := hr c
    exact ⟨e0.trans (final m c), e⟩
  · obtain ⟨e0, e⟩ := hr c
    obtain ⟨h0, h1⟩ := h c
    exact ⟨(e0.trans (reference_grad _ _)).trans (by rw [h0, h1]), e⟩

end Cert.Proof.OutGrad

end
-- ==== Proof.SquareGrad.lean ====
/-
  The gradient of a square weight: a product contracted over the sequence, on one device the whole of it accumulated over the
  sixteen blocks of 512 positions.
-/
module

public import proofs.«01_k».proof.Defs
public import proofs.«01_k».proof.Proof.Blocks
public import proofs.«01_k».proof.Proof.Gen.SquareGrad
public import proofs.«01_k».proof.Proof.Gen.SquareGradIdeal
public import proofs.«01_k».proof.Proof.Gen.SquareGradIdeal.Frame
public import proofs.«01_k».proof.Proof.Gen.SquareGradIdeal.Value
public import proofs.«01_k».proof.Proof.Gen.SquareProductGradIdeal
public import proofs.«01_k».proof.Proof.Gen.SquareProductGradIdeal.Run

@[expose] public section

set_option Elab.async false
set_option maxRecDepth 16384

noncomputable section

namespace Cert.Proof.SquareGrad

open Cert.SquareGradIdeal Cert.SquareGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.NormGrad (ofBits_zero)
open Cert.Proof.Blocks (at_ix2 rowOf prodR prodR_blocks prodR_block)

/-! ## One point -/

theorem pay2_at (acc : Vec Ideal S1024x1024 .f32) (a b : Vec Ideal S512x1024 .bf16) (i : S1024x1024.Idx) :
    k0_pay2 acc a b i = (acc i + prodR a b (i 0) (i 1) : EReal) := by
  unfold k0_pay2 prodR
  pointwise

theorem pay1_at (i : S1024x1024.Idx) : (k0_pay1 : FVec Ideal S1024x1024 .f32) i = (0 : EReal) := by
  unfold k0_pay1
  rw [← ofBits_zero]
  pointwise

variable (m : (ℓ : Loc nD τ sig) → Buf (Elt Ideal) ℓ)

theorem first (c : Dev nD) (t : Fin cfg0.N) (h0 : t.val % 16 = 0) (i : S1024x1024.Idx) :
    outsAt0 m c t.val t.isLt i = (0 + prodR (iblk m c 0 t) (iblk m c 1 t) (i 0) (i 1) : EReal) := by
  rw [outsAt0_A m c t h0, Cert.SquareGradIdeal.Value.out_A_2_eq, pay2_at, pay1_at]

theorem next (c : Dev nD) (t : Fin cfg0.N) (h0 : ¬ t.val % 16 = 0) (i : S1024x1024.Idx) :
    outsAt0 m c t.val t.isLt i = (outsAt0 m c (t.val - 1) (Nat.lt_of_le_of_lt (Nat.sub_le _ _) t.isLt) i
      + prodR (iblk m c 0 t) (iblk m c 1 t) (i 0) (i 1) : EReal) := by
  rw [outsAt0_B m c t h0, Cert.SquareGradIdeal.Value.out_B_2_eq, pay2_at]

/-! ## The array -/

abbrev aA (c : Dev nD) : FVec Ideal S8192x1024 .bf16 := m ((c.tc : Thread nD τ).loc main_arg0)
abbrev bA (c : Dev nD) : FVec Ideal S8192x1024 .bf16 := m ((c.tc : Thread nD τ).loc main_arg1)

/-- The gradient: the product contracted over all rows. -/
noncomputable def gradA (a b : FVec Ideal S8192x1024 .bf16) : FVec Ideal S1024x1024 .f32 := fun i => prodR a b (i 0) (i 1)

theorem starts_0 : ∀ t : Fin cfg0.N, win0_0.index t = ![t.val % 16, 0] := (by decide +kernel : ∀ t : Fin grid0.N, _)
theorem starts_1 : ∀ t : Fin cfg0.N, win0_1.index t = ![t.val % 16, 0] := (by decide +kernel : ∀ t : Fin grid0.N, _)
theorem starts_2 : ∀ t : Fin cfg0.N, win0_2.index t = ![0, 0] := (by decide +kernel : ∀ t : Fin grid0.N, _)

theorem a_at (c : Dev nD) (t : Fin cfg0.N) (s : Fin 16) (hs : t.val % 16 = s.val) (r : Fin 512) (j : Fin 1024) :
    iblk m c 0 t (ix2 r j) = aA m c (ix2 (rowOf s r) j) := by
  have e0 : ((win0_0.blk t).view.emb (ix2 r j) 0).val = t.val % 16 * 512 + r.val := by blk_simp [starts_0]
  have e1 : ((win0_0.blk t).view.emb (ix2 r j) 1).val = j.val := by blk_simp [starts_0]
  rw [hs] at e0
  exact (congrFun (V_main_arg0 m c) _).trans (at_ix2 (aA m c) (l := rowOf s r) e0 e1)

theorem b_at (c : Dev nD) (t : Fin cfg0.N) (s : Fin 16) (hs : t.val % 16 = s.val) (r : Fin 512) (j : Fin 1024) :
    iblk m c 1 t (ix2 r j) = bA m c (ix2 (rowOf s r) j) := by
  have e0 : ((win0_1.blk t).view.emb (ix2 r j) 0).val = t.val % 16 * 512 + r.val := by blk_simp [starts_1]
  have e1 : ((win0_1.blk t).view.emb (ix2 r j) 1).val = j.val := by blk_simp [starts_1]
  rw [hs] at e0
  exact (congrFun (V_main_arg1 m c) _).trans (at_ix2 (bA m c) (l := rowOf s r) e0 e1)

theorem after_last (c : Dev nD) (t : Fin cfg0.N) (hm : t.val % 16 = 15) (i : S1024x1024.Idx) :
    outsAt0 m c t.val t.isLt i = prodR (aA m c) (bA m c) (i 0) (i 1) := by
  have hf := Pipeline.eq_sum_fin_of_reset_step_apply_of_flush (fun n h => outsAt0 m c n h) 16 (fun _ => (0 : EReal))
    (fun t i => prodR (iblk m c 0 t) (iblk m c 1 t) (i 0) (i 1)) (fun t h i => first m c t h i) (fun t h i => next m c t h i) t hm i
  refine hf.trans ((zero_add _).trans ?_)
  refine (Finset.sum_congr rfl fun s _ => ?_).trans (prodR_blocks (aA m c) (bA m c) (i 0) (i 1)).symm
  have hs : (16 * (t.val / 16) + s.val) % 16 = s.val := by have := s.isLt; omega
  exact prodR_block (fun r => a_at m c _ s hs r (i 0)) (fun r => b_at m c _ s hs r (i 1))

theorem final (c : Dev nD) : (dats m 0 c).arrAt 2 cfg0.N = gradA (aA m c) (bA m c) := by
  refine (dats m 0 c).arrAt_eq_of_covers 2 _ (by decide +kernel) fun t hf y => ?_
  have hm : t.val % 16 = 15 := (flush0_2 t).mp hf
  blk_simp
  rw [after0_2]
  have e0 : ((win0_2.blk t).view.emb y) 0 = y 0 := by
    apply Fin.ext
    blk_simp [starts_2]
  have e1 : ((win0_2.blk t).view.emb y) 1 = y 1 := by
    apply Fin.ext
    blk_simp [starts_2]
  refine (after_last m c t hm y).trans ?_
  unfold gradA
  rw [e0, e1]

/-! ## Against the reference -/

theorem reference_grad (a b : FVec Ideal S8192x1024 .bf16) :
    transpose S1024x1024 [1, 0] (Host.dotGeneral Cert.SquareProductGradIdeal.dot_S8192x1024_S8192x1024_S1024x1024_0_0_1_1_n_n none
      (extf .f32 b Cert.SquareProductGradIdeal.Gen.bitsLt_bf16_f32) (extf .f32 a Cert.SquareProductGradIdeal.Gen.bitsLt_bf16_f32))
      Cert.SquareProductGradIdeal.Gen.transposes_S1024x1024_S1024x1024_1_0 = gradA a b := by
  funext i
  unfold gradA prodR
  pointwise
  exact Finset.sum_congr rfl fun r _ => mul_comm _ _

/-! ## The claims -/

theorem bodies_same : @Cert.SquareGrad.defs₀ Bits _ _ = @Cert.SquareGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_SquareGrad := fun m g _ => by
  rw [show @Cert.SquareGrad.defs Bits _ _ = @Cert.SquareGradIdeal.defs Bits _ _ from
    congrArg (Pipeline.defs Cert.SquareGradIdeal.pcfgs) bodies_same]
  exact Cert.SquareGradIdeal.Gen.frame (F := Bits) m g

theorem quiescent_ideal : Cert.quiescent_SquareGradIdeal := fun m g _ => Cert.SquareGradIdeal.Gen.frame (F := Ideal) m g

theorem quiescent_reference : Cert.quiescent_SquareProductGradIdeal := fun m g _ =>
  (θ_run Cert.SquareProductGradIdeal.defs _ _).mono (fun r h => ⟨fun c => (h c).2, sem_eq_zero_of_no_sems rfl r.2⟩) (Cert.SquareProductGradIdeal.Value.run (F := Ideal) m g)

theorem algebraic : Cert.algebraic_SquareGradIdeal_SquareProductGradIdeal := fun m g m' g' _ h => by
  refine ⟨fun c => gradA (aA m c) (bA m c),
    (θ_run Cert.SquareGradIdeal.defs _ _).mono (fun _ hr c => ?_) (Cert.SquareGradIdeal.Value.run_blocks (F := Ideal) m g),
    (θ_run Cert.SquareProductGradIdeal.defs _ _).mono (fun _ hr c => ?_) (Cert.SquareProductGradIdeal.Value.run (F := Ideal) m' g')⟩
  · obtain ⟨e0, e⟩ := hr c
    exact ⟨e0.trans (final m c), e⟩
  · obtain ⟨e0, e⟩ := hr c
    obtain ⟨h0, h1⟩ := h c
    exact ⟨(e0.trans (reference_grad _ _)).trans (by rw [h0, h1]), e⟩

end Cert.Proof.SquareGrad

end
-- ==== Proof.GluIn.lean ====
/-
  The input products of the convolution and their gated product, on one device: a block of 512 rows and 512 columns of each
  per grid point.
-/
module

public import proofs.«01_k».proof.Defs
public import proofs.«01_k».proof.Proof.Blocks
public import proofs.«01_k».proof.Proof.Gen.GluIn
public import proofs.«01_k».proof.Proof.Gen.GluInIdeal
public import proofs.«01_k».proof.Proof.Gen.GluInIdeal.Frame
public import proofs.«01_k».proof.Proof.Gen.GluInIdeal.Value
public import proofs.«01_k».proof.Proof.Gen.GluIdeal
public import proofs.«01_k».proof.Proof.Gen.GluIdeal.Run

@[expose] public section

set_option Elab.async false
set_option maxRecDepth 16384

noncomputable section

namespace Cert.Proof.GluIn

open Cert.GluInIdeal Cert.GluInIdeal.Gen
open Idealize.ShloMosaic Idealize.ShloMosaic.TcCoe Idealize.ShloMosaic.Tactic Idealize.SL.Sem
open Idealize.ShloMosaic.Pointwise
open Idealize.ShloMosaic.Pipeline (Dat)
open Cert.Proof.NormGrad (ofBits_one)
open Cert.Proof.Ffn (prod)
open Cert.Proof.Blocks (at_ix2 prod_block)

/-! ## One block -/

/-- One element of a product with a bias. -/
noncomputable def biased {n k l : ℕ} (h : (⟨2, ![n, k]⟩ : Shape).Idx → EReal) (w : (⟨2, ![k, l]⟩ : Shape).Idx → EReal)
    (b : (⟨2, ![1, l]⟩ : Shape).Idx → EReal) (r : Fin n) (j : Fin l) : EReal := prod h w r j + b (ix2 0 j)

theorem pay1_at (h : Vec Ideal S512x1024 .bf16) (w : Vec Ideal S1024x512 .bf16) (b : Vec Ideal S1x512 .f32) (r j : Fin 512) :
    k0_pay1 h w b (ix2 r j) = biased h w b r j := by
  unfold k0_pay1 biased prod
  pointwise

theorem pay2_at (h : Vec Ideal S512x1024 .bf16) (w : Vec Ideal S1024x512 .bf16) (b : Vec Ideal S1x512 .f32) (r j : Fin 512) :
    k0_pay2 h w b (ix2 r j) = biased h w b r j := by
  unfold k0_pay2 biased prod
  pointwise

theorem pay3_at (h : Vec Ideal S512x1024 .bf16) (wa wb : Vec Ideal S1024x512 .bf16) (ba bb : Vec Ideal S1x512 .f32) (r j : Fin 512) :
    k0_pay3 h wa ba wb bb (ix2 r j) = (biased h wa ba r j * Ideal.logistic (biased h wb bb r j) : EReal) := by
  unfold k0_pay3
  pointwise [pay1_at, pay2_at]

theorem left_5 (h : Vec Ideal S512x1024 .bf16) (wa wb : Vec Ideal S1024x512 .bf16) (ba bb : Vec Ideal S1x512 .f32) (r j : Fin 512) :
    out0_5 h wa wb ba bb (ix2 r j) = biased h wa ba r j := by
  rw [← pay1_at]
  frame_out

theorem left_6 (h : Vec Ideal S512x1024 .bf16) (wa wb : Vec Ideal S1024x512 .bf16) (ba bb : Vec Ideal S1x512 .f32) (r j : Fin 512) :
    out0_6 h wa wb ba bb (ix2 r j) = biased h wb bb r j := by
  rw [← pay2_at]
  frame_out

theorem left_7 (h : Vec Ideal S512x1024 .bf16) (wa wb : Vec Ideal S1024x512 .bf16) (ba bb : Vec Ideal S1x512 .f32) (r j : Fin 512) :
    out0_7 h wa wb ba bb (ix2 r j) = (biased h wa ba r j * Ideal.logistic (biased h wb bb r j) : EReal) := by
  rw [← pay3_at]
  frame_out

/-! ## The arrays -/

variable (m : (ℓ : Loc nD τ sig) → Buf (Elt Ideal) ℓ)

abbrev hA (c : Dev nD) : FVec Ideal S8192x1024 .bf16 := m ((c.tc : Thread nD τ).loc main_arg0)
abbrev waA (c : Dev nD) : FVec Ideal S1024x1024 .bf16 := m ((c.tc : Thread nD τ).loc main_arg1)
abbrev wbA (c : Dev nD) : FVec Ideal S1024x1024 .bf16 := m ((c.tc : Thread nD τ).loc main_arg2)
abbrev baA (c : Dev nD) : FVec Ideal S1x1024 .f32 := m ((c.tc : Thread nD τ).loc main_arg3)
abbrev bbA (c : Dev nD) : FVec Ideal S1x1024 .f32 := m ((c.tc : Thread nD τ).loc main_arg4)

/-- A product with a bias. -/
noncomputable def biasedA (h : FVec Ideal S8192x1024 .bf16) (w : FVec Ideal S1024x1024 .bf16) (b : FVec Ideal S1x1024 .f32) :
    FVec Ideal S8192x1024 .f32 := fun i => biased h w b (i 0) (i 1)

/-- The product of the one with the logistic of the other. -/
noncomputable def gluA (u v : FVec Ideal S8192x1024 .f32) : FVec Ideal S8192x1024 .bf16 :=
  fun i => (u i * Ideal.logistic (v i) : EReal)

theorem starts_0 : ∀ t : Fin cfg0.N, win0_0.index t = ![t.val / 2, 0] := (by decide +kernel : ∀ t : Fin grid0.N, _)
theorem starts_1 : ∀ t : Fin cfg0.N, win0_1.index t = ![0, t.val % 2] := (by decide +kernel : ∀ t : Fin grid0.N, _)
theorem starts_2 : ∀ t : Fin cfg0.N, win0_2.index t = ![0, t.val % 2] := (by decide +kernel : ∀ t : Fin grid0.N, _)
theorem starts_3 : ∀ t : Fin cfg0.N, win0_3.index t = ![0, t.val % 2] := (by decide +kernel : ∀ t : Fin grid0.N, _)
theorem starts_4 : ∀ t : Fin cfg0.N, win0_4.index t = ![0, t.val % 2] := (by decide +kernel : ∀ t : Fin grid0.N, _)
theorem starts_5 : ∀ t : Fin cfg0.N, win0_5.index t = ![t.val / 2, t.val % 2] := (by decide +kernel : ∀ t : Fin grid0.N, _)
theorem starts_6 : ∀ t : Fin cfg0.N, win0_6.index t = ![t.val / 2, t.val % 2] := (by decide +kernel : ∀ t : Fin grid0.N, _)
theorem starts_7 : ∀ t : Fin cfg0.N, win0_7.index t = ![t.val / 2, t.val % 2] := (by decide +kernel : ∀ t : Fin grid0.N, _)

theorem h_at (c : Dev nD) (t : Fin cfg0.N) (r : Fin 512) (k : Fin 1024) (l : Fin 8192) (hl : l.val = t.val / 2 * 512 + r.val) :
    iblk m c 0 t (ix2 r k) = hA m c (ix2 l k) := by
  have e0 : ((win0_0.blk t).view.emb (ix2 r k) 0).val = t.val / 2 * 512 + r.val := by blk_simp [starts_0]
  have e1 : ((win0_0.blk t).view.emb (ix2 r k) 1).val = k.val := by blk_simp [starts_0]
  exact (congrFun (V_main_arg0 m c) _).trans (at_ix2 (hA m c) (e0.trans hl.symm) e1)

theorem wa_at (c : Dev nD) (t : Fin cfg0.N) (k : Fin 1024) (j : Fin 512) (l : Fin 1024) (hl : l.val = t.val % 2 * 512 + j.val) :
    iblk m c 1 t (ix2 k j) = waA m c (ix2 k l) := by
  have e0 : ((win0_1.blk t).view.emb (ix2 k j) 0).val = k.val := by blk_simp [starts_1]
  have e1 : ((win0_1.blk t).view.emb (ix2 k j) 1).val = t.val % 2 * 512 + j.val := by blk_simp [starts_1]
  exact (congrFun (V_main_arg1 m c) _).trans (at_ix2 (waA m c) e0 (e1.trans hl.symm))

theorem wb_at (c : Dev nD) (t : Fin cfg0.N) (k : Fin 1024) (j : Fin 512) (l : Fin 1024) (hl : l.val = t.val % 2 * 512 + j.val) :
    iblk m c 2 t (ix2 k j) = wbA m c (ix2 k l) := by
  have e0 : ((win0_2.blk t).view.emb (ix2 k j) 0).val = k.val := by blk_simp [starts_2]
  have e1 : ((win0_2.blk t).view.emb (ix2 k j) 1).val = t.val % 2 * 512 + j.val := by blk_simp [starts_2]
  exact (congrFun (V_main_arg2 m c) _).trans (at_ix2 (wbA m c) e0 (e1.trans hl.symm))

theorem ba_at (c : Dev nD) (t : Fin cfg0.N) (j : Fin 512) (l : Fin 1024) (hl : l.val = t.val % 2 * 512 + j.val) :
    iblk m c 3 t (ix2 0 j) = baA m c (ix2 0 l) := by
  have e0 : ((win0_3.blk t).view.emb (ix2 0 j) 0).val = 0 := by
    blk_simp [starts_3]
    rfl
  have e1 : ((win0_3.blk t).view.emb (ix2 0 j) 1).val = t.val % 2 * 512 + j.val := by blk_simp [starts_3]
  exact (congrFun (V_main_arg3 m c) _).trans (at_ix2 (baA m c) (l := 0) e0 (e1.trans hl.symm))

theorem bb_at (c : Dev nD) (t : Fin cfg0.N) (j : Fin 512) (l : Fin 1024) (hl : l.val = t.val % 2 * 512 + j.val) :
    iblk m c 4 t (ix2 0 j) = bbA m c (ix2 0 l) := by
  have e0 : ((win0_4.blk t).view.emb (ix2 0 j) 0).val = 0 := by
    blk_simp [starts_4]
    rfl
  have e1 : ((win0_4.blk t).view.emb (ix2 0 j) 1).val = t.val % 2 * 512 + j.val := by blk_simp [starts_4]
  exact (congrFun (V_main_arg4 m c) _).trans (at_ix2 (bbA m c) (l := 0) e0 (e1.trans hl.symm))

theorem a_at (c : Dev nD) (t : Fin cfg0.N) (r j : Fin 512) (l : Fin 8192) (k : Fin 1024)
    (hl : l.val = t.val / 2 * 512 + r.val) (hk : k.val = t.val % 2 * 512 + j.val) :
    biased (iblk m c 0 t) (iblk m c 1 t) (iblk m c 3 t) r j = biased (hA m c) (waA m c) (baA m c) l k :=
  congrArg₂ (fun u v : EReal => u + v) (prod_block (fun i => h_at m c t r i l hl) (fun i => wa_at m c t i j k hk)) (ba_at m c t j k hk)

theorem g_at (c : Dev nD) (t : Fin cfg0.N) (r j : Fin 512) (l : Fin 8192) (k : Fin 1024)
    (hl : l.val = t.val / 2 * 512 + r.val) (hk : k.val = t.val % 2 * 512 + j.val) :
    biased (iblk m c 0 t) (iblk m c 2 t) (iblk m c 4 t) r j = biased (hA m c) (wbA m c) (bbA m c) l k :=
  congrArg₂ (fun u v : EReal => u + v) (prod_block (fun i => h_at m c t r i l hl) (fun i => wb_at m c t i j k hk)) (bb_at m c t j k hk)

theorem final_5 (c : Dev nD) : (dats m 0 c).arrAt 5 cfg0.N = biasedA (hA m c) (waA m c) (baA m c) := by
  refine (dats m 0 c).arrAt_eq_of_covers 5 _ (by decide +kernel) fun t hf y => ?_
  blk_simp
  rw [after0_5]
  have e0 : (((win0_5.blk t).view.emb y) 0).val = t.val / 2 * 512 + (y 0).val := by blk_simp [starts_5]
  have e1 : (((win0_5.blk t).view.emb y) 1).val = t.val % 2 * 512 + (y 1).val := by blk_simp [starts_5]
  refine (congrArg _ (eq_ix2 y)).trans ((left_5 _ _ (iblk m c 2 t) _ (iblk m c 4 t) (y 0) (y 1)).trans ?_)
  exact a_at m c t _ _ _ _ e0 e1

theorem final_6 (c : Dev nD) : (dats m 0 c).arrAt 6 cfg0.N = biasedA (hA m c) (wbA m c) (bbA m c) := by
  refine (dats m 0 c).arrAt_eq_of_covers 6 _ (by decide +kernel) fun t hf y => ?_
  blk_simp
  rw [after0_6]
  have e0 : (((win0_6.blk t).view.emb y) 0).val = t.val / 2 * 512 + (y 0).val := by blk_simp [starts_6]
  have e1 : (((win0_6.blk t).view.emb y) 1).val = t.val % 2 * 512 + (y 1).val := by blk_simp [starts_6]
  refine (congrArg _ (eq_ix2 y)).trans ((left_6 _ (iblk m c 1 t) _ (iblk m c 3 t) _ (y 0) (y 1)).trans ?_)
  exact g_at m c t _ _ _ _ e0 e1

theorem final_7 (c : Dev nD) : (dats m 0 c).arrAt 7 cfg0.N
    = gluA (biasedA (hA m c) (waA m c) (baA m c)) (biasedA (hA m c) (wbA m c) (bbA m c)) := by
  refine (dats m 0 c).arrAt_eq_of_covers 7 _ (by decide +kernel) fun t hf y => ?_
  blk_simp
  rw [after0_7]
  have e0 : (((win0_7.blk t).view.emb y) 0).val = t.val / 2 * 512 + (y 0).val := by blk_simp [starts_7]
  have e1 : (((win0_7.blk t).view.emb y) 1).val = t.val % 2 * 512 + (y 1).val := by blk_simp [starts_7]
  refine (congrArg _ (eq_ix2 y)).trans ((left_7 _ _ _ _ _ (y 0) (y 1)).trans ?_)
  exact congrArg₂ (fun u v : EReal => u * Ideal.logistic v) (a_at m c t _ _ _ _ e0 e1) (g_at m c t _ _ _ _ e0 e1)

/-! ## Against the reference -/

section Reference

open Cert.GluIdeal (S_ dot_S8192x1024_S1024x1024_S8192x1024_1_0_0_1_n_n)
open Cert.GluIdeal.Gen (bcast_S1x1024_S8192x1024_0_1 bcast_S_S8192x1024)

/-- The reference's product with a bias. -/
abbrev product (h : FVec Ideal S8192x1024 .bf16) (w : FVec Ideal S1024x1024 .bf16) (b : FVec Ideal S1x1024 .f32) : FVec Ideal S8192x1024 .f32 :=
  addf (Host.dotGeneral dot_S8192x1024_S1024x1024_S8192x1024_1_0_0_1_n_n none (extf .f32 h Cert.GluIdeal.Gen.bitsLt_bf16_f32)
    (extf .f32 w Cert.GluIdeal.Gen.bitsLt_bf16_f32)) (broadcastInDim S8192x1024 ![0, 1] bcast_S1x1024_S8192x1024_0_1 b)

/-- The reference's one. -/
abbrev ones : FVec Ideal S8192x1024 .f32 := broadcastInDim S8192x1024 ![] bcast_S_S8192x1024 (constant S_ .f32 0x3F800000#32)

theorem reference_product (h : FVec Ideal S8192x1024 .bf16) (w : FVec Ideal S1024x1024 .bf16) (b : FVec Ideal S1x1024 .f32) :
    product h w b = biasedA h w b := by
  funext i
  unfold biasedA biased prod
  pointwise

theorem reference_glu (u v : FVec Ideal S8192x1024 .f32) :
    truncf .bf16 (mulf u (Host.divf ones (addf ones (Host.exp (Host.negf v))))) Cert.GluIdeal.Gen.bitsLt_bf16_f32 = gluA u v := by
  funext i
  unfold gluA Ideal.logistic
  rw [← ofBits_one]
  pointwise

end Reference

/-! ## The claims -/

theorem bodies_same : @Cert.GluIn.defs₀ Bits _ _ = @Cert.GluInIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_GluIn := fun m g _ => by
  rw [show @Cert.GluIn.defs Bits _ _ = @Cert.GluInIdeal.defs Bits _ _ from
    congrArg (Pipeline.defs Cert.GluInIdeal.pcfgs) bodies_same]
  exact Cert.GluInIdeal.Gen.frame (F := Bits) m g

theorem quiescent_ideal : Cert.quiescent_GluInIdeal := fun m g _ => Cert.GluInIdeal.Gen.frame (F := Ideal) m g

theorem quiescent_reference : Cert.quiescent_GluIdeal := fun m g _ =>
  (θ_run Cert.GluIdeal.defs _ _).mono (fun r h => ⟨fun c => (h c).2.2.2, sem_eq_zero_of_no_sems rfl r.2⟩) (Cert.GluIdeal.Value.run (F := Ideal) m g)

theorem algebraic : Cert.algebraic_GluInIdeal_GluIdeal := fun m g m' g' _ h => by
  refine ⟨fun c => biasedA (hA m c) (waA m c) (baA m c), fun c => biasedA (hA m c) (wbA m c) (bbA m c),
    fun c => gluA (biasedA (hA m c) (waA m c) (baA m c)) (biasedA (hA m c) (wbA m c) (bbA m c)),
    (θ_run Cert.GluInIdeal.defs _ _).mono (fun _ hr c => ?_) (Cert.GluInIdeal.Value.run_blocks (F := Ideal) m g),
    (θ_run Cert.GluIdeal.defs _ _).mono (fun _ hr c => ?_) (Cert.GluIdeal.Value.run (F := Ideal) m' g')⟩
  · obtain ⟨e0, e1, e2, e⟩ := hr c
    exact ⟨e0.trans (final_5 m c), e1.trans (final_6 m c), e2.trans (final_7 m c), e⟩
  · obtain ⟨e0, e1, e2, e⟩ := hr c
    obtain ⟨h0, h1, h2, h3, h4⟩ := h c
    have w0 := (reference_product (m' ((c.tc : Thread nD τ).loc Cert.GluIdeal.main_arg0))
      (m' ((c.tc : Thread nD τ).loc Cert.GluIdeal.main_arg1)) (m' ((c.tc : Thread nD τ).loc Cert.GluIdeal.main_arg3))).trans
      (show _ = biasedA (hA m c) (waA m c) (baA m c) by rw [h0, h1, h3])
    have w1 := (reference_product (m' ((c.tc : Thread nD τ).loc Cert.GluIdeal.main_arg0))
      (m' ((c.tc : Thread nD τ).loc Cert.GluIdeal.main_arg2)) (m' ((c.tc : Thread nD τ).loc Cert.GluIdeal.main_arg4))).trans
      (show _ = biasedA (hA m c) (wbA m c) (bbA m c) by rw [h0, h2, h4])
    exact ⟨e0.trans w0, e1.trans w1, (e2.trans (reference_glu _ _)).trans (congrArg₂ gluA w0 w1), e⟩

end Cert.Proof.GluIn

end
-- ==== Proof.ResidualOut.lean ====
/-
  The output product of a token mixer and the gated residual, on one device: a block of 512 rows and 512 columns of each per
  grid point.
-/
module

public import proofs.«01_k».proof.Defs
public import proofs.«01_k».proof.Proof.GluIn
public import proofs.«01_k».proof.Proof.Gen.ResidualOut
public import proofs.«01_k».proof.Proof.Gen.ResidualOutIdeal
public import proofs.«01_k».proof.Proof.Gen.ResidualOutIdeal.Frame
public import proofs.«01_k».proof.Proof.Gen.ResidualOutIdeal.Value
public import proofs.«01_k».proof.Proof.Gen.ResidualIdeal
public import proofs.«01_k».proof.Proof.Gen.ResidualIdeal.Run

@[expose] public section

set_option Elab.async false
set_option maxRecDepth 16384

noncomputable section

namespace Cert.Proof.ResidualOut

open Cert.ResidualOutIdeal Cert.ResidualOutIdeal.Gen
open Idealize.ShloMosaic Idealize.ShloMosaic.TcCoe Idealize.ShloMosaic.Tactic Idealize.SL.Sem
open Idealize.ShloMosaic.Pointwise
open Idealize.ShloMosaic.Pipeline (Dat)
open Cert.Proof.Ffn (prod)
open Cert.Proof.Blocks (at_ix2 prod_block)
open Cert.Proof.GluIn (biased)

/-! ## One block -/

theorem pay1_at (a : Vec Ideal S512x1024 .bf16) (w : Vec Ideal S1024x512 .bf16) (b : Vec Ideal S1x512 .f32) (r j : Fin 512) :
    k0_pay1 a w b (ix2 r j) = biased a w b r j := by
  unfold k0_pay1 biased prod
  pointwise

theorem pay2_at (a : Vec Ideal S512x1024 .bf16) (w : Vec Ideal S1024x512 .bf16) (b : Vec Ideal S1x512 .f32) (r j : Fin 512) :
    k0_pay2 a w b (ix2 r j) = biased a w b r j := by
  unfold k0_pay2
  pointwise [pay1_at]

theorem pay3_at (a : Vec Ideal S512x1024 .bf16) (w : Vec Ideal S1024x512 .bf16) (b : Vec Ideal S1x512 .f32)
    (x : Vec Ideal S512x512 .f32) (gt : Vec Ideal S1x512 .f32) (r j : Fin 512) :
    k0_pay3 a w b x gt (ix2 r j) = (x (ix2 r j) + gt (ix2 0 j) * biased a w b r j : EReal) := by
  unfold k0_pay3
  pointwise [pay1_at]

theorem left_5 (a : Vec Ideal S512x1024 .bf16) (w : Vec Ideal S1024x512 .bf16) (b : Vec Ideal S1x512 .f32)
    (x : Vec Ideal S512x512 .f32) (gt : Vec Ideal S1x512 .f32) (r j : Fin 512) :
    out0_5 a w b x gt (ix2 r j) = (x (ix2 r j) + gt (ix2 0 j) * biased a w b r j : EReal) := by
  rw [← pay3_at]
  frame_out

theorem left_6 (a : Vec Ideal S512x1024 .bf16) (w : Vec Ideal S1024x512 .bf16) (b : Vec Ideal S1x512 .f32)
    (x : Vec Ideal S512x512 .f32) (gt : Vec Ideal S1x512 .f32) (r j : Fin 512) :
    out0_6 a w b x gt (ix2 r j) = biased a w b r j := by
  rw [← pay2_at]
  frame_out

/-! ## The arrays -/

variable (m : (ℓ : Loc nD τ sig) → Buf (Elt Ideal) ℓ)

abbrev aA (c : Dev nD) : FVec Ideal S8192x1024 .bf16 := m ((c.tc : Thread nD τ).loc main_arg0)
abbrev wA (c : Dev nD) : FVec Ideal S1024x1024 .bf16 := m ((c.tc : Thread nD τ).loc main_arg1)
abbrev bA (c : Dev nD) : FVec Ideal S1x1024 .f32 := m ((c.tc : Thread nD τ).loc main_arg2)
abbrev xA (c : Dev nD) : FVec Ideal S8192x1024 .f32 := m ((c.tc : Thread nD τ).loc main_arg3)
abbrev gtA (c : Dev nD) : FVec Ideal S1x1024 .f32 := m ((c.tc : Thread nD τ).loc main_arg4)

/-- The product with the bias. -/
noncomputable def outA (a : FVec Ideal S8192x1024 .bf16) (w : FVec Ideal S1024x1024 .bf16) (b : FVec Ideal S1x1024 .f32) :
    FVec Ideal S8192x1024 .bf16 := fun i => biased a w b (i 0) (i 1)

/-- The residual with it added, gated. -/
noncomputable def addedA (y : FVec Ideal S8192x1024 .bf16) (x : FVec Ideal S8192x1024 .f32) (gt : FVec Ideal S1x1024 .f32) :
    FVec Ideal S8192x1024 .f32 := fun i => (x i + gt (ix2 0 (i 1)) * y i : EReal)

theorem starts_0 : ∀ t : Fin cfg0.N, win0_0.index t = ![t.val / 2, 0] := (by decide +kernel : ∀ t : Fin grid0.N, _)
theorem starts_1 : ∀ t : Fin cfg0.N, win0_1.index t = ![0, t.val % 2] := (by decide +kernel : ∀ t : Fin grid0.N, _)
theorem starts_2 : ∀ t : Fin cfg0.N, win0_2.index t = ![0, t.val % 2] := (by decide +kernel : ∀ t : Fin grid0.N, _)
theorem starts_3 : ∀ t : Fin cfg0.N, win0_3.index t = ![t.val / 2, t.val % 2] := (by decide +kernel : ∀ t : Fin grid0.N, _)
theorem starts_4 : ∀ t : Fin cfg0.N, win0_4.index t = ![0, t.val % 2] := (by decide +kernel : ∀ t : Fin grid0.N, _)
theorem starts_5 : ∀ t : Fin cfg0.N, win0_5.index t = ![t.val / 2, t.val % 2] := (by decide +kernel : ∀ t : Fin grid0.N, _)
theorem starts_6 : ∀ t : Fin cfg0.N, win0_6.index t = ![t.val / 2, t.val % 2] := (by decide +kernel : ∀ t : Fin grid0.N, _)

theorem a_at (c : Dev nD) (t : Fin cfg0.N) (r : Fin 512) (k : Fin 1024) (l : Fin 8192) (hl : l.val = t.val / 2 * 512 + r.val) :
    iblk m c 0 t (ix2 r k) = aA m c (ix2 l k) := by
  have e0 : ((win0_0.blk t).view.emb (ix2 r k) 0).val = t.val / 2 * 512 + r.val := by blk_simp [starts_0]
  have e1 : ((win0_0.blk t).view.emb (ix2 r k) 1).val = k.val := by blk_simp [starts_0]
  exact (congrFun (V_main_arg0 m c) _).trans (at_ix2 (aA m c) (e0.trans hl.symm) e1)

theorem w_at (c : Dev nD) (t : Fin cfg0.N) (k : Fin 1024) (j : Fin 512) (l : Fin 1024) (hl : l.val = t.val % 2 * 512 + j.val) :
    iblk m c 1 t (ix2 k j) = wA m c (ix2 k l) := by
  have e0 : ((win0_1.blk t).view.emb (ix2 k j) 0).val = k.val := by blk_simp [starts_1]
  have e1 : ((win0_1.blk t).view.emb (ix2 k j) 1).val = t.val % 2 * 512 + j.val := by blk_simp [starts_1]
  exact (congrFun (V_main_arg1 m c) _).trans (at_ix2 (wA m c) e0 (e1.trans hl.symm))

theorem b_at (c : Dev nD) (t : Fin cfg0.N) (j : Fin 512) (l : Fin 1024) (hl : l.val = t.val % 2 * 512 + j.val) :
    iblk m c 2 t (ix2 0 j) = bA m c (ix2 0 l) := by
  have e0 : ((win0_2.blk t).view.emb (ix2 0 j) 0).val = 0 := by
    blk_simp [starts_2]
    rfl
  have e1 : ((win0_2.blk t).view.emb (ix2 0 j) 1).val = t.val % 2 * 512 + j.val := by blk_simp [starts_2]
  exact (congrFun (V_main_arg2 m c) _).trans (at_ix2 (bA m c) (l := 0) e0 (e1.trans hl.symm))

theorem x_at (c : Dev nD) (t : Fin cfg0.N) (r j : Fin 512) (i : S8192x1024.Idx)
    (h0 : (i 0).val = t.val / 2 * 512 + r.val) (h1 : (i 1).val = t.val % 2 * 512 + j.val) : iblk m c 3 t (ix2 r j) = xA m c i := by
  have e0 : ((win0_3.blk t).view.emb (ix2 r j) 0).val = t.val / 2 * 512 + r.val := by blk_simp [starts_3]
  have e1 : ((win0_3.blk t).view.emb (ix2 r j) 1).val = t.val % 2 * 512 + j.val := by blk_simp [starts_3]
  exact ((congrFun (V_main_arg3 m c) _).trans (at_ix2 (xA m c) (e0.trans h0.symm) (e1.trans h1.symm))).trans
    (congrArg (xA m c) (eq_ix2 i).symm)

theorem gt_at (c : Dev nD) (t : Fin cfg0.N) (j : Fin 512) (l : Fin 1024) (hl : l.val = t.val % 2 * 512 + j.val) :
    iblk m c 4 t (ix2 0 j) = gtA m c (ix2 0 l) := by
  have e0 : ((win0_4.blk t).view.emb (ix2 0 j) 0).val = 0 := by
    blk_simp [starts_4]
    rfl
  have e1 : ((win0_4.blk t).view.emb (ix2 0 j) 1).val = t.val % 2 * 512 + j.val := by blk_simp [starts_4]
  exact (congrFun (V_main_arg4 m c) _).trans (at_ix2 (gtA m c) (l := 0) e0 (e1.trans hl.symm))

theorem y_at (c : Dev nD) (t : Fin cfg0.N) (r j : Fin 512) (l : Fin 8192) (k : Fin 1024)
    (hl : l.val = t.val / 2 * 512 + r.val) (hk : k.val = t.val % 2 * 512 + j.val) :
    biased (iblk m c 0 t) (iblk m c 1 t) (iblk m c 2 t) r j = biased (aA m c) (wA m c) (bA m c) l k :=
  congrArg₂ (fun u v : EReal => u + v) (prod_block (fun i => a_at m c t r i l hl) (fun i => w_at m c t i j k hk)) (b_at m c t j k hk)

theorem final_5 (c : Dev nD) : (dats m 0 c).arrAt 5 cfg0.N = addedA (outA (aA m c) (wA m c) (bA m c)) (xA m c) (gtA m c) := by
  refine (dats m 0 c).arrAt_eq_of_covers 5 _ (by decide +kernel) fun t hf y => ?_
  blk_simp
  rw [after0_5]
  have e0 : (((win0_5.blk t).view.emb y) 0).val = t.val / 2 * 512 + (y 0).val := by blk_simp [starts_5]
  have e1 : (((win0_5.blk t).view.emb y) 1).val = t.val % 2 * 512 + (y 1).val := by blk_simp [starts_5]
  refine (congrArg _ (eq_ix2 y)).trans ((left_5 _ _ _ _ _ (y 0) (y 1)).trans ?_)
  exact congrArg₂ (fun u v : EReal => u + v) (x_at m c t _ _ _ e0 e1)
    (congrArg₂ (fun u v : EReal => u * v) (gt_at m c t _ _ e1) (y_at m c t _ _ _ _ e0 e1))

theorem final_6 (c : Dev nD) : (dats m 0 c).arrAt 6 cfg0.N = outA (aA m c) (wA m c) (bA m c) := by
  refine (dats m 0 c).arrAt_eq_of_covers 6 _ (by decide +kernel) fun t hf y => ?_
  blk_simp
  rw [after0_6]
  have e0 : (((win0_6.blk t).view.emb y) 0).val = t.val / 2 * 512 + (y 0).val := by blk_simp [starts_6]
  have e1 : (((win0_6.blk t).view.emb y) 1).val = t.val % 2 * 512 + (y 1).val := by blk_simp [starts_6]
  refine (congrArg _ (eq_ix2 y)).trans ((left_6 _ _ _ (iblk m c 3 t) (iblk m c 4 t) (y 0) (y 1)).trans ?_)
  exact y_at m c t _ _ _ _ e0 e1

/-! ## Against the reference -/

section Reference

open Cert.ResidualIdeal (dot_S8192x1024_S1024x1024_S8192x1024_1_0_0_1_n_n)
open Cert.ResidualIdeal.Gen (bcast_S1x1024_S8192x1024_0_1)

/-- The reference's product with the bias. -/
abbrev product (a : FVec Ideal S8192x1024 .bf16) (w : FVec Ideal S1024x1024 .bf16) (b : FVec Ideal S1x1024 .f32) : FVec Ideal S8192x1024 .f32 :=
  addf (Host.dotGeneral dot_S8192x1024_S1024x1024_S8192x1024_1_0_0_1_n_n none (extf .f32 a Cert.ResidualIdeal.Gen.bitsLt_bf16_f32)
    (extf .f32 w Cert.ResidualIdeal.Gen.bitsLt_bf16_f32)) (broadcastInDim S8192x1024 ![0, 1] bcast_S1x1024_S8192x1024_0_1 b)

theorem reference_out (a : FVec Ideal S8192x1024 .bf16) (w : FVec Ideal S1024x1024 .bf16) (b : FVec Ideal S1x1024 .f32) :
    truncf .bf16 (product a w b) Cert.ResidualIdeal.Gen.bitsLt_bf16_f32 = outA a w b := by
  funext i
  unfold outA biased prod
  pointwise

theorem reference_added (a : FVec Ideal S8192x1024 .bf16) (w : FVec Ideal S1024x1024 .bf16) (b : FVec Ideal S1x1024 .f32)
    (x : FVec Ideal S8192x1024 .f32) (gt : FVec Ideal S1x1024 .f32) :
    addf x (mulf (broadcastInDim S8192x1024 ![0, 1] bcast_S1x1024_S8192x1024_0_1 gt) (product a w b)) = addedA (outA a w b) x gt := by
  funext i
  unfold addedA outA biased prod
  pointwise

end Reference

/-! ## The claims -/

theorem bodies_same : @Cert.ResidualOut.defs₀ Bits _ _ = @Cert.ResidualOutIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_ResidualOut := fun m g _ => by
  rw [show @Cert.ResidualOut.defs Bits _ _ = @Cert.ResidualOutIdeal.defs Bits _ _ from
    congrArg (Pipeline.defs Cert.ResidualOutIdeal.pcfgs) bodies_same]
  exact Cert.ResidualOutIdeal.Gen.frame (F := Bits) m g

theorem quiescent_ideal : Cert.quiescent_ResidualOutIdeal := fun m g _ => Cert.ResidualOutIdeal.Gen.frame (F := Ideal) m g

theorem quiescent_reference : Cert.quiescent_ResidualIdeal := fun m g _ =>
  (θ_run Cert.ResidualIdeal.defs _ _).mono (fun r h => ⟨fun c => (h c).2.2, sem_eq_zero_of_no_sems rfl r.2⟩) (Cert.ResidualIdeal.Value.run (F := Ideal) m g)

theorem algebraic : Cert.algebraic_ResidualOutIdeal_ResidualIdeal := fun m g m' g' _ h => by
  refine ⟨fun c => addedA (outA (aA m c) (wA m c) (bA m c)) (xA m c) (gtA m c), fun c => outA (aA m c) (wA m c) (bA m c),
    (θ_run Cert.ResidualOutIdeal.defs _ _).mono (fun _ hr c => ?_) (Cert.ResidualOutIdeal.Value.run_blocks (F := Ideal) m g),
    (θ_run Cert.ResidualIdeal.defs _ _).mono (fun _ hr c => ?_) (Cert.ResidualIdeal.Value.run (F := Ideal) m' g')⟩
  · obtain ⟨e0, e1, e⟩ := hr c
    exact ⟨e0.trans (final_5 m c), e1.trans (final_6 m c), e⟩
  · obtain ⟨e0, e1, e⟩ := hr c
    obtain ⟨h0, h1, h2, h3, h4⟩ := h c
    exact ⟨(e0.trans (reference_added _ _ _ _ _)).trans (by rw [h0, h1, h2, h3, h4]),
      (e1.trans (reference_out _ _ _)).trans (by rw [h0, h1, h2]), e⟩

end Cert.Proof.ResidualOut

end
-- ==== Proof.KeyProduct.lean ====
/-
  The projection of the keys, on one device: a block of 512 rows and 512 columns per grid point.
-/
module

public import proofs.«01_k».proof.Defs
public import proofs.«01_k».proof.Proof.Blocks
public import proofs.«01_k».proof.Proof.Gen.KeyProduct
public import proofs.«01_k».proof.Proof.Gen.KeyProductIdeal
public import proofs.«01_k».proof.Proof.Gen.KeyProductIdeal.Frame
public import proofs.«01_k».proof.Proof.Gen.KeyProductIdeal.Value
public import proofs.«01_k».proof.Proof.Gen.KeysIdeal
public import proofs.«01_k».proof.Proof.Gen.KeysIdeal.Run

@[expose] public section

set_option Elab.async false
set_option maxRecDepth 16384

noncomputable section

namespace Cert.Proof.KeyProduct

open Cert.KeyProductIdeal Cert.KeyProductIdeal.Gen
open Idealize.ShloMosaic Idealize.ShloMosaic.TcCoe Idealize.ShloMosaic.Tactic Idealize.SL.Sem
open Idealize.ShloMosaic.Pointwise
open Idealize.ShloMosaic.Pipeline (Dat)
open Cert.Proof.Ffn (prod)
open Cert.Proof.Blocks (at_ix2 prod_block)

theorem pay_at (h : Vec Ideal S512x1024 .bf16) (w : Vec Ideal S1024x512 .bf16) (r j : Fin 512) :
    k0_pay1 h w (ix2 r j) = prod h w r j := by
  unfold k0_pay1 prod
  pointwise

theorem left (h : Vec Ideal S512x1024 .bf16) (w : Vec Ideal S1024x512 .bf16) (r j : Fin 512) : out0_2 h w (ix2 r j) = prod h w r j := by
  rw [← pay_at]
  frame_out

variable (m : (ℓ : Loc nD τ sig) → Buf (Elt Ideal) ℓ)

abbrev hA (c : Dev nD) : FVec Ideal S8192x1024 .bf16 := m ((c.tc : Thread nD τ).loc main_arg0)
abbrev wA (c : Dev nD) : FVec Ideal S1024x1024 .bf16 := m ((c.tc : Thread nD τ).loc main_arg1)

/-- The product. -/
noncomputable def prodA (h : FVec Ideal S8192x1024 .bf16) (w : FVec Ideal S1024x1024 .bf16) : FVec Ideal S8192x1024 .bf16 :=
  fun i => prod h w (i 0) (i 1)

theorem starts_0 : ∀ t : Fin cfg0.N, win0_0.index t = ![t.val / 2, 0] := (by decide +kernel : ∀ t : Fin grid0.N, _)
theorem starts_1 : ∀ t : Fin cfg0.N, win0_1.index t = ![0, t.val % 2] := (by decide +kernel : ∀ t : Fin grid0.N, _)
theorem starts_2 : ∀ t : Fin cfg0.N, win0_2.index t = ![t.val / 2, t.val % 2] := (by decide +kernel : ∀ t : Fin grid0.N, _)

theorem h_at (c : Dev nD) (t : Fin cfg0.N) (r : Fin 512) (k : Fin 1024) (l : Fin 8192) (hl : l.val = t.val / 2 * 512 + r.val) :
    iblk m c 0 t (ix2 r k) = hA m c (ix2 l k) := by
  have e0 : ((win0_0.blk t).view.emb (ix2 r k) 0).val = t.val / 2 * 512 + r.val := by blk_simp [starts_0]
  have e1 : ((win0_0.blk t).view.emb (ix2 r k) 1).val = k.val := by blk_simp [starts_0]
  exact (congrFun (V_main_arg0 m c) _).trans (at_ix2 (hA m c) (e0.trans hl.symm) e1)

theorem w_at (c : Dev nD) (t : Fin cfg0.N) (k : Fin 1024) (j : Fin 512) (l : Fin 1024) (hl : l.val = t.val % 2 * 512 + j.val) :
    iblk m c 1 t (ix2 k j) = wA m c (ix2 k l) := by
  have e0 : ((win0_1.blk t).view.emb (ix2 k j) 0).val = k.val := by blk_simp [starts_1]
  have e1 : ((win0_1.blk t).view.emb (ix2 k j) 1).val = t.val % 2 * 512 + j.val := by blk_simp [starts_1]
  exact (congrFun (V_main_arg1 m c) _).trans (at_ix2 (wA m c) e0 (e1.trans hl.symm))

theorem final (c : Dev nD) : (dats m 0 c).arrAt 2 cfg0.N = prodA (hA m c) (wA m c) := by
  refine (dats m 0 c).arrAt_eq_of_covers 2 _ (by decide +kernel) fun t hf y => ?_
  blk_simp
  rw [after0_2]
  have e0 : (((win0_2.blk t).view.emb y) 0).val = t.val / 2 * 512 + (y 0).val := by blk_simp [starts_2]
  have e1 : (((win0_2.blk t).view.emb y) 1).val = t.val % 2 * 512 + (y 1).val := by blk_simp [starts_2]
  refine (congrArg _ (eq_ix2 y)).trans ((left _ _ (y 0) (y 1)).trans ?_)
  exact prod_block (fun i => h_at m c t _ i _ e0) (fun i => w_at m c t i _ _ e1)

theorem reference_prod (h : FVec Ideal S8192x1024 .bf16) (w : FVec Ideal S1024x1024 .bf16) :
    truncf .bf16 (Host.dotGeneral Cert.KeysIdeal.dot_S8192x1024_S1024x1024_S8192x1024_1_0_0_1_n_n none
      (extf .f32 h Cert.KeysIdeal.Gen.bitsLt_bf16_f32) (extf .f32 w Cert.KeysIdeal.Gen.bitsLt_bf16_f32)) Cert.KeysIdeal.Gen.bitsLt_bf16_f32
      = prodA h w := by
  funext i
  unfold prodA prod
  pointwise

/-! ## The claims -/

theorem bodies_same : @Cert.KeyProduct.defs₀ Bits _ _ = @Cert.KeyProductIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_KeyProduct := fun m g _ => by
  rw [show @Cert.KeyProduct.defs Bits _ _ = @Cert.KeyProductIdeal.defs Bits _ _ from
    congrArg (Pipeline.defs Cert.KeyProductIdeal.pcfgs) bodies_same]
  exact Cert.KeyProductIdeal.Gen.frame (F := Bits) m g

theorem quiescent_ideal : Cert.quiescent_KeyProductIdeal := fun m g _ => Cert.KeyProductIdeal.Gen.frame (F := Ideal) m g

theorem quiescent_reference : Cert.quiescent_KeysIdeal := fun m g _ =>
  (θ_run Cert.KeysIdeal.defs _ _).mono (fun r h => ⟨fun c => (h c).2, sem_eq_zero_of_no_sems rfl r.2⟩) (Cert.KeysIdeal.Value.run (F := Ideal) m g)

theorem algebraic : Cert.algebraic_KeyProductIdeal_KeysIdeal := fun m g m' g' _ h => by
  refine ⟨fun c => prodA (hA m c) (wA m c),
    (θ_run Cert.KeyProductIdeal.defs _ _).mono (fun _ hr c => ?_) (Cert.KeyProductIdeal.Value.run_blocks (F := Ideal) m g),
    (θ_run Cert.KeysIdeal.defs _ _).mono (fun _ hr c => ?_) (Cert.KeysIdeal.Value.run (F := Ideal) m' g')⟩
  · exact ⟨(hr c).1.trans (final m c), (hr c).2⟩
  · exact ⟨((hr c).1.trans (reference_prod _ _)).trans (congrArg₂ prodA (h c).1 (h c).2), (hr c).2⟩

end Cert.Proof.KeyProduct

end
-- ==== Proof.QueryProduct.lean ====
/-
  The projection of the queries, on one device: a block of 512 rows and 512 columns per grid point, scaled.
-/
module

public import proofs.«01_k».proof.Defs
public import proofs.«01_k».proof.Proof.Blocks
public import proofs.«01_k».proof.Proof.Gen.QueryProduct
public import proofs.«01_k».proof.Proof.Gen.QueryProductIdeal
public import proofs.«01_k».proof.Proof.Gen.QueryProductIdeal.Frame
public import proofs.«01_k».proof.Proof.Gen.QueryProductIdeal.Value
public import proofs.«01_k».proof.Proof.Gen.QueriesIdeal
public import proofs.«01_k».proof.Proof.Gen.QueriesIdeal.Run

@[expose] public section

set_option Elab.async false
set_option maxRecDepth 16384

noncomputable section

namespace Cert.Proof.QueryProduct

open Cert.QueryProductIdeal Cert.QueryProductIdeal.Gen
open Idealize.ShloMosaic Idealize.ShloMosaic.TcCoe Idealize.ShloMosaic.Tactic Idealize.SL.Sem
open Idealize.ShloMosaic.Pointwise
open Idealize.ShloMosaic.Pipeline (Dat)
open Cert.Proof.Ffn (prod)
open Cert.Proof.Blocks (at_ix2 prod_block)

/-- The scale of the queries. -/
noncomputable def scale : EReal := Ideal.ofBits .f32 0x3E000000#32

theorem pay_at (h : Vec Ideal S512x1024 .bf16) (w : Vec Ideal S1024x512 .bf16) (r j : Fin 512) :
    k0_pay1 h w (ix2 r j) = (prod h w r j * scale : EReal) := by
  unfold k0_pay1 prod scale
  pointwise

theorem left (h : Vec Ideal S512x1024 .bf16) (w : Vec Ideal S1024x512 .bf16) (r j : Fin 512) :
    out0_2 h w (ix2 r j) = (prod h w r j * scale : EReal) := by
  rw [← pay_at]
  frame_out

variable (m : (ℓ : Loc nD τ sig) → Buf (Elt Ideal) ℓ)

abbrev hA (c : Dev nD) : FVec Ideal S8192x1024 .bf16 := m ((c.tc : Thread nD τ).loc main_arg0)
abbrev wA (c : Dev nD) : FVec Ideal S1024x1024 .bf16 := m ((c.tc : Thread nD τ).loc main_arg1)

/-- The scaled product. -/
noncomputable def scaledA (h : FVec Ideal S8192x1024 .bf16) (w : FVec Ideal S1024x1024 .bf16) : FVec Ideal S8192x1024 .bf16 :=
  fun i => (prod h w (i 0) (i 1) * scale : EReal)

theorem starts_0 : ∀ t : Fin cfg0.N, win0_0.index t = ![t.val / 2, 0] := (by decide +kernel : ∀ t : Fin grid0.N, _)
theorem starts_1 : ∀ t : Fin cfg0.N, win0_1.index t = ![0, t.val % 2] := (by decide +kernel : ∀ t : Fin grid0.N, _)
theorem starts_2 : ∀ t : Fin cfg0.N, win0_2.index t = ![t.val / 2, t.val % 2] := (by decide +kernel : ∀ t : Fin grid0.N, _)

theorem h_at (c : Dev nD) (t : Fin cfg0.N) (r : Fin 512) (k : Fin 1024) (l : Fin 8192) (hl : l.val = t.val / 2 * 512 + r.val) :
    iblk m c 0 t (ix2 r k) = hA m c (ix2 l k) := by
  have e0 : ((win0_0.blk t).view.emb (ix2 r k) 0).val = t.val / 2 * 512 + r.val := by blk_simp [starts_0]
  have e1 : ((win0_0.blk t).view.emb (ix2 r k) 1).val = k.val := by blk_simp [starts_0]
  exact (congrFun (V_main_arg0 m c) _).trans (at_ix2 (hA m c) (e0.trans hl.symm) e1)

theorem w_at (c : Dev nD) (t : Fin cfg0.N) (k : Fin 1024) (j : Fin 512) (l : Fin 1024) (hl : l.val = t.val % 2 * 512 + j.val) :
    iblk m c 1 t (ix2 k j) = wA m c (ix2 k l) := by
  have e0 : ((win0_1.blk t).view.emb (ix2 k j) 0).val = k.val := by blk_simp [starts_1]
  have e1 : ((win0_1.blk t).view.emb (ix2 k j) 1).val = t.val % 2 * 512 + j.val := by blk_simp [starts_1]
  exact (congrFun (V_main_arg1 m c) _).trans (at_ix2 (wA m c) e0 (e1.trans hl.symm))

theorem final (c : Dev nD) : (dats m 0 c).arrAt 2 cfg0.N = scaledA (hA m c) (wA m c) := by
  refine (dats m 0 c).arrAt_eq_of_covers 2 _ (by decide +kernel) fun t hf y => ?_
  blk_simp
  rw [after0_2]
  have e0 : (((win0_2.blk t).view.emb y) 0).val = t.val / 2 * 512 + (y 0).val := by blk_simp [starts_2]
  have e1 : (((win0_2.blk t).view.emb y) 1).val = t.val % 2 * 512 + (y 1).val := by blk_simp [starts_2]
  refine (congrArg _ (eq_ix2 y)).trans ((left _ _ (y 0) (y 1)).trans ?_)
  exact congrArg (fun u : EReal => u * scale) (prod_block (fun i => h_at m c t _ i _ e0) (fun i => w_at m c t i _ _ e1))

theorem reference_scaled (h : FVec Ideal S8192x1024 .bf16) (w : FVec Ideal S1024x1024 .bf16) :
    truncf .bf16 (mulf (Host.dotGeneral Cert.QueriesIdeal.dot_S8192x1024_S1024x1024_S8192x1024_1_0_0_1_n_n none
        (extf .f32 h Cert.QueriesIdeal.Gen.bitsLt_bf16_f32) (extf .f32 w Cert.QueriesIdeal.Gen.bitsLt_bf16_f32))
      (broadcastInDim S8192x1024 ![] Cert.QueriesIdeal.Gen.bcast_S_S8192x1024 (constant Cert.QueriesIdeal.S_ .f32 0x3E000000#32)))
      Cert.QueriesIdeal.Gen.bitsLt_bf16_f32 = scaledA h w := by
  funext i
  unfold scaledA prod scale
  pointwise

/-! ## The claims -/

theorem bodies_same : @Cert.QueryProduct.defs₀ Bits _ _ = @Cert.QueryProductIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_QueryProduct := fun m g _ => by
  rw [show @Cert.QueryProduct.defs Bits _ _ = @Cert.QueryProductIdeal.defs Bits _ _ from
    congrArg (Pipeline.defs Cert.QueryProductIdeal.pcfgs) bodies_same]
  exact Cert.QueryProductIdeal.Gen.frame (F := Bits) m g

theorem quiescent_ideal : Cert.quiescent_QueryProductIdeal := fun m g _ => Cert.QueryProductIdeal.Gen.frame (F := Ideal) m g

theorem quiescent_reference : Cert.quiescent_QueriesIdeal := fun m g _ =>
  (θ_run Cert.QueriesIdeal.defs _ _).mono (fun r h => ⟨fun c => (h c).2, sem_eq_zero_of_no_sems rfl r.2⟩) (Cert.QueriesIdeal.Value.run (F := Ideal) m g)

theorem algebraic : Cert.algebraic_QueryProductIdeal_QueriesIdeal := fun m g m' g' _ h => by
  refine ⟨fun c => scaledA (hA m c) (wA m c),
    (θ_run Cert.QueryProductIdeal.defs _ _).mono (fun _ hr c => ?_) (Cert.QueryProductIdeal.Value.run_blocks (F := Ideal) m g),
    (θ_run Cert.QueriesIdeal.defs _ _).mono (fun _ hr c => ?_) (Cert.QueriesIdeal.Value.run (F := Ideal) m' g')⟩
  · exact ⟨(hr c).1.trans (final m c), (hr c).2⟩
  · exact ⟨((hr c).1.trans (reference_scaled _ _)).trans (congrArg₂ scaledA (h c).1 (h c).2), (hr c).2⟩

end Cert.Proof.QueryProduct

end
-- ==== Proof.HeadGrad.lean ====
/-
  The gradient of the attention's heads, on one device: the product with the output weights transposed, a block of 512 rows
  and 512 columns per grid point.
-/
module

public import proofs.«01_k».proof.Defs
public import proofs.«01_k».proof.Proof.Blocks
public import proofs.«01_k».proof.Proof.Gen.HeadGrad
public import proofs.«01_k».proof.Proof.Gen.HeadGradIdeal
public import proofs.«01_k».proof.Proof.Gen.HeadGradIdeal.Frame
public import proofs.«01_k».proof.Proof.Gen.HeadGradIdeal.Value
public import proofs.«01_k».proof.Proof.Gen.HeadProductGradIdeal
public import proofs.«01_k».proof.Proof.Gen.HeadProductGradIdeal.Run

@[expose] public section

set_option Elab.async false
set_option maxRecDepth 16384

noncomputable section

namespace Cert.Proof.HeadGrad

open Cert.HeadGradIdeal Cert.HeadGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.ActGrad (prodT)
open Cert.Proof.Blocks (at_ix2 prodT_block)

theorem pay_at (d w : Vec Ideal S512x1024 .bf16) (r j : Fin 512) : k0_pay1 d w (ix2 r j) = prodT d w r j := by
  unfold k0_pay1 prodT
  pointwise

theorem left (d w : Vec Ideal S512x1024 .bf16) (r j : Fin 512) : out0_2 d w (ix2 r j) = prodT d w r j := by
  rw [← pay_at]
  frame_out

variable (m : (ℓ : Loc nD τ sig) → Buf (Elt Ideal) ℓ)

abbrev dA (c : Dev nD) : FVec Ideal S8192x1024 .bf16 := m ((c.tc : Thread nD τ).loc main_arg0)
abbrev wA (c : Dev nD) : FVec Ideal S1024x1024 .bf16 := m ((c.tc : Thread nD τ).loc main_arg1)

/-- The product with the weights transposed. -/
noncomputable def backA (d : FVec Ideal S8192x1024 .bf16) (w : FVec Ideal S1024x1024 .bf16) : FVec Ideal S8192x1024 .bf16 :=
  fun i => prodT d w (i 0) (i 1)

theorem starts_0 : ∀ t : Fin cfg0.N, win0_0.index t = ![t.val / 2, 0] := (by decide +kernel : ∀ t : Fin grid0.N, _)
theorem starts_1 : ∀ t : Fin cfg0.N, win0_1.index t = ![t.val % 2, 0] := (by decide +kernel : ∀ t : Fin grid0.N, _)
theorem starts_2 : ∀ t : Fin cfg0.N, win0_2.index t = ![t.val / 2, t.val % 2] := (by decide +kernel : ∀ t : Fin grid0.N, _)

theorem d_at (c : Dev nD) (t : Fin cfg0.N) (r : Fin 512) (k : Fin 1024) (l : Fin 8192) (hl : l.val = t.val / 2 * 512 + r.val) :
    iblk m c 0 t (ix2 r k) = dA m c (ix2 l k) := by
  have e0 : ((win0_0.blk t).view.emb (ix2 r k) 0).val = t.val / 2 * 512 + r.val := by blk_simp [starts_0]
  have e1 : ((win0_0.blk t).view.emb (ix2 r k) 1).val = k.val := by blk_simp [starts_0]
  exact (congrFun (V_main_arg0 m c) _).trans (at_ix2 (dA m c) (e0.trans hl.symm) e1)

theorem w_at (c : Dev nD) (t : Fin cfg0.N) (j : Fin 512) (k : Fin 1024) (l : Fin 1024) (hl : l.val = t.val % 2 * 512 + j.val) :
    iblk m c 1 t (ix2 j k) = wA m c (ix2 l k) := by
  have e0 : ((win0_1.blk t).view.emb (ix2 j k) 0).val = t.val % 2 * 512 + j.val := by blk_simp [starts_1]
  have e1 : ((win0_1.blk t).view.emb (ix2 j k) 1).val = k.val := by blk_simp [starts_1]
  exact (congrFun (V_main_arg1 m c) _).trans (at_ix2 (wA m c) (e0.trans hl.symm) e1)

theorem final (c : Dev nD) : (dats m 0 c).arrAt 2 cfg0.N = backA (dA m c) (wA m c) := by
  refine (dats m 0 c).arrAt_eq_of_covers 2 _ (by decide +kernel) fun t hf y => ?_
  blk_simp
  rw [after0_2]
  have e0 : (((win0_2.blk t).view.emb y) 0).val = t.val / 2 * 512 + (y 0).val := by blk_simp [starts_2]
  have e1 : (((win0_2.blk t).view.emb y) 1).val = t.val % 2 * 512 + (y 1).val := by blk_simp [starts_2]
  refine (congrArg _ (eq_ix2 y)).trans ((left _ _ (y 0) (y 1)).trans ?_)
  exact prodT_block (fun i => d_at m c t _ i _ e0) (fun i => w_at m c t _ i _ e1)

theorem reference_back (d : FVec Ideal S8192x1024 .bf16) (w : FVec Ideal S1024x1024 .bf16) :
    truncf .bf16 (Host.dotGeneral Cert.HeadProductGradIdeal.dot_S8192x1024_S1024x1024_S8192x1024_1_1_0_0_n_n none
      (extf .f32 d Cert.HeadProductGradIdeal.Gen.bitsLt_bf16_f32) (extf .f32 w Cert.HeadProductGradIdeal.Gen.bitsLt_bf16_f32))
      Cert.HeadProductGradIdeal.Gen.bitsLt_bf16_f32 = backA d w := by
  funext i
  unfold backA prodT
  pointwise

/-! ## The claims -/

theorem bodies_same : @Cert.HeadGrad.defs₀ Bits _ _ = @Cert.HeadGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_HeadGrad := fun m g _ => by
  rw [show @Cert.HeadGrad.defs Bits _ _ = @Cert.HeadGradIdeal.defs Bits _ _ from
    congrArg (Pipeline.defs Cert.HeadGradIdeal.pcfgs) bodies_same]
  exact Cert.HeadGradIdeal.Gen.frame (F := Bits) m g

theorem quiescent_ideal : Cert.quiescent_HeadGradIdeal := fun m g _ => Cert.HeadGradIdeal.Gen.frame (F := Ideal) m g

theorem quiescent_reference : Cert.quiescent_HeadProductGradIdeal := fun m g _ =>
  (θ_run Cert.HeadProductGradIdeal.defs _ _).mono (fun r h => ⟨fun c => (h c).2, sem_eq_zero_of_no_sems rfl r.2⟩) (Cert.HeadProductGradIdeal.Value.run (F := Ideal) m g)

theorem algebraic : Cert.algebraic_HeadGradIdeal_HeadProductGradIdeal := fun m g m' g' _ h => by
  refine ⟨fun c => backA (dA m c) (wA m c),
    (θ_run Cert.HeadGradIdeal.defs _ _).mono (fun _ hr c => ?_) (Cert.HeadGradIdeal.Value.run_blocks (F := Ideal) m g),
    (θ_run Cert.HeadProductGradIdeal.defs _ _).mono (fun _ hr c => ?_) (Cert.HeadProductGradIdeal.Value.run (F := Ideal) m' g')⟩
  · exact ⟨(hr c).1.trans (final m c), (hr c).2⟩
  · exact ⟨((hr c).1.trans (reference_back _ _)).trans (congrArg₂ backA (h c).1 (h c).2), (hr c).2⟩

end Cert.Proof.HeadGrad

end
-- ==== Proof.ConvGrad.lean ====
/-
  The gradient of the convolution's normed input, on one device: the two products with transposes added, a block of 512 rows
  and 512 columns per grid point.
-/
module

public import proofs.«01_k».proof.Defs
public import proofs.«01_k».proof.Proof.Blocks
public import proofs.«01_k».proof.Proof.Gen.ConvGrad
public import proofs.«01_k».proof.Proof.Gen.ConvGradIdeal
public import proofs.«01_k».proof.Proof.Gen.ConvGradIdeal.Frame
public import proofs.«01_k».proof.Proof.Gen.ConvGradIdeal.Value
public import proofs.«01_k».proof.Proof.Gen.ConvProductsGradIdeal
public import proofs.«01_k».proof.Proof.Gen.ConvProductsGradIdeal.Run

@[expose] public section

set_option Elab.async false
set_option maxRecDepth 16384

noncomputable section

namespace Cert.Proof.ConvGrad

open Cert.ConvGradIdeal Cert.ConvGradIdeal.Gen
open Idealize.ShloMosaic Idealize.ShloMosaic.TcCoe Idealize.ShloMosaic.Tactic Idealize.SL.Sem
open Idealize.ShloMosaic.Pointwise
open Idealize.ShloMosaic.Pipeline (Dat)
open Cert.Proof.ActGrad (prodT)
open Cert.Proof.Blocks (at_ix2 prodT_block)

theorem pay_at (a wa b wb : Vec Ideal S512x1024 .bf16) (r j : Fin 512) :
    k0_pay1 a wa b wb (ix2 r j) = (prodT a wa r j + prodT b wb r j : EReal) := by
  unfold k0_pay1 prodT
  pointwise

theorem left (a wa b wb : Vec Ideal S512x1024 .bf16) (r j : Fin 512) :
    out0_4 a wa b wb (ix2 r j) = (prodT a wa r j + prodT b wb r j : EReal) := by
  rw [← pay_at]
  frame_out

variable (m : (ℓ : Loc nD τ sig) → Buf (Elt Ideal) ℓ)

abbrev aA (c : Dev nD) : FVec Ideal S8192x1024 .bf16 := m ((c.tc : Thread nD τ).loc main_arg0)
abbrev waA (c : Dev nD) : FVec Ideal S1024x1024 .bf16 := m ((c.tc : Thread nD τ).loc main_arg1)
abbrev bA (c : Dev nD) : FVec Ideal S8192x1024 .bf16 := m ((c.tc : Thread nD τ).loc main_arg2)
abbrev wbA (c : Dev nD) : FVec Ideal S1024x1024 .bf16 := m ((c.tc : Thread nD τ).loc main_arg3)

/-- The two products, added. -/
noncomputable def bothA (a : FVec Ideal S8192x1024 .bf16) (wa : FVec Ideal S1024x1024 .bf16) (b : FVec Ideal S8192x1024 .bf16)
    (wb : FVec Ideal S1024x1024 .bf16) : FVec Ideal S8192x1024 .f32 :=
  fun i => (prodT a wa (i 0) (i 1) + prodT b wb (i 0) (i 1) : EReal)

theorem starts_0 : ∀ t : Fin cfg0.N, win0_0.index t = ![t.val / 2, 0] := (by decide +kernel : ∀ t : Fin grid0.N, _)
theorem starts_1 : ∀ t : Fin cfg0.N, win0_1.index t = ![t.val % 2, 0] := (by decide +kernel : ∀ t : Fin grid0.N, _)
theorem starts_2 : ∀ t : Fin cfg0.N, win0_2.index t = ![t.val / 2, 0] := (by decide +kernel : ∀ t : Fin grid0.N, _)
theorem starts_3 : ∀ t : Fin cfg0.N, win0_3.index t = ![t.val % 2, 0] := (by decide +kernel : ∀ t : Fin grid0.N, _)
theorem starts_4 : ∀ t : Fin cfg0.N, win0_4.index t = ![t.val / 2, t.val % 2] := (by decide +kernel : ∀ t : Fin grid0.N, _)

theorem a_at (c : Dev nD) (t : Fin cfg0.N) (r : Fin 512) (k : Fin 1024) (l : Fin 8192) (hl : l.val = t.val / 2 * 512 + r.val) :
    iblk m c 0 t (ix2 r k) = aA m c (ix2 l k) := by
  have e0 : ((win0_0.blk t).view.emb (ix2 r k) 0).val = t.val / 2 * 512 + r.val := by blk_simp [starts_0]
  have e1 : ((win0_0.blk t).view.emb (ix2 r k) 1).val = k.val := by blk_simp [starts_0]
  exact (congrFun (V_main_arg0 m c) _).trans (at_ix2 (aA m c) (e0.trans hl.symm) e1)

theorem wa_at (c : Dev nD) (t : Fin cfg0.N) (j : Fin 512) (k : Fin 1024) (l : Fin 1024) (hl : l.val = t.val % 2 * 512 + j.val) :
    iblk m c 1 t (ix2 j k) = waA m c (ix2 l k) := by
  have e0 : ((win0_1.blk t).view.emb (ix2 j k) 0).val = t.val % 2 * 512 + j.val := by blk_simp [starts_1]
  have e1 : ((win0_1.blk t).view.emb (ix2 j k) 1).val = k.val := by blk_simp [starts_1]
  exact (congrFun (V_main_arg1 m c) _).trans (at_ix2 (waA m c) (e0.trans hl.symm) e1)

theorem b_at (c : Dev nD) (t : Fin cfg0.N) (r : Fin 512) (k : Fin 1024) (l : Fin 8192) (hl : l.val = t.val / 2 * 512 + r.val) :
    iblk m c 2 t (ix2 r k) = bA m c (ix2 l k) := by
  have e0 : ((win0_2.blk t).view.emb (ix2 r k) 0).val = t.val / 2 * 512 + r.val := by blk_simp [starts_2]
  have e1 : ((win0_2.blk t).view.emb (ix2 r k) 1).val = k.val := by blk_simp [starts_2]
  exact (congrFun (V_main_arg2 m c) _).trans (at_ix2 (bA m c) (e0.trans hl.symm) e1)

theorem wb_at (c : Dev nD) (t : Fin cfg0.N) (j : Fin 512) (k : Fin 1024) (l : Fin 1024) (hl : l.val = t.val % 2 * 512 + j.val) :
    iblk m c 3 t (ix2 j k) = wbA m c (ix2 l k) := by
  have e0 : ((win0_3.blk t).view.emb (ix2 j k) 0).val = t.val % 2 * 512 + j.val := by blk_simp [starts_3]
  have e1 : ((win0_3.blk t).view.emb (ix2 j k) 1).val = k.val := by blk_simp [starts_3]
  exact (congrFun (V_main_arg3 m c) _).trans (at_ix2 (wbA m c) (e0.trans hl.symm) e1)

theorem final (c : Dev nD) : (dats m 0 c).arrAt 4 cfg0.N = bothA (aA m c) (waA m c) (bA m c) (wbA m c) := by
  refine (dats m 0 c).arrAt_eq_of_covers 4 _ (by decide +kernel) fun t hf y => ?_
  blk_simp
  rw [after0_4]
  have e0 : (((win0_4.blk t).view.emb y) 0).val = t.val / 2 * 512 + (y 0).val := by blk_simp [starts_4]
  have e1 : (((win0_4.blk t).view.emb y) 1).val = t.val % 2 * 512 + (y 1).val := by blk_simp [starts_4]
  refine (congrArg _ (eq_ix2 y)).trans ((left _ _ _ _ (y 0) (y 1)).trans ?_)
  exact congrArg₂ (fun u v : EReal => u + v) (prodT_block (fun i => a_at m c t _ i _ e0) (fun i => wa_at m c t _ i _ e1))
    (prodT_block (fun i => b_at m c t _ i _ e0) (fun i => wb_at m c t _ i _ e1))

theorem reference_both (a : FVec Ideal S8192x1024 .bf16) (wa : FVec Ideal S1024x1024 .bf16) (b : FVec Ideal S8192x1024 .bf16)
    (wb : FVec Ideal S1024x1024 .bf16) :
    addf (Host.dotGeneral Cert.ConvProductsGradIdeal.dot_S8192x1024_S1024x1024_S8192x1024_1_1_0_0_n_n none
        (extf .f32 b Cert.ConvProductsGradIdeal.Gen.bitsLt_bf16_f32) (extf .f32 wb Cert.ConvProductsGradIdeal.Gen.bitsLt_bf16_f32))
      (Host.dotGeneral Cert.ConvProductsGradIdeal.dot_S8192x1024_S1024x1024_S8192x1024_1_1_0_0_n_n none
        (extf .f32 a Cert.ConvProductsGradIdeal.Gen.bitsLt_bf16_f32) (extf .f32 wa Cert.ConvProductsGradIdeal.Gen.bitsLt_bf16_f32))
      = bothA a wa b wb := by
  funext i
  refine Eq.trans ?_ (add_comm (prodT b wb (i 0) (i 1)) (prodT a wa (i 0) (i 1)))
  unfold prodT
  pointwise

/-! ## The claims -/

theorem bodies_same : @Cert.ConvGrad.defs₀ Bits _ _ = @Cert.ConvGradIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_ConvGrad := fun m g _ => by
  rw [show @Cert.ConvGrad.defs Bits _ _ = @Cert.ConvGradIdeal.defs Bits _ _ from
    congrArg (Pipeline.defs Cert.ConvGradIdeal.pcfgs) bodies_same]
  exact Cert.ConvGradIdeal.Gen.frame (F := Bits) m g

theorem quiescent_ideal : Cert.quiescent_ConvGradIdeal := fun m g _ => Cert.ConvGradIdeal.Gen.frame (F := Ideal) m g

theorem quiescent_reference : Cert.quiescent_ConvProductsGradIdeal := fun m g _ =>
  (θ_run Cert.ConvProductsGradIdeal.defs _ _).mono (fun r h => ⟨fun c => (h c).2, sem_eq_zero_of_no_sems rfl r.2⟩) (Cert.ConvProductsGradIdeal.Value.run (F := Ideal) m g)

theorem algebraic : Cert.algebraic_ConvGradIdeal_ConvProductsGradIdeal := fun m g m' g' _ h => by
  refine ⟨fun c => bothA (aA m c) (waA m c) (bA m c) (wbA m c),
    (θ_run Cert.ConvGradIdeal.defs _ _).mono (fun _ hr c => ?_) (Cert.ConvGradIdeal.Value.run_blocks (F := Ideal) m g),
    (θ_run Cert.ConvProductsGradIdeal.defs _ _).mono (fun _ hr c => ?_) (Cert.ConvProductsGradIdeal.Value.run (F := Ideal) m' g')⟩
  · exact ⟨(hr c).1.trans (final m c), (hr c).2⟩
  · obtain ⟨h0, h1, h2, h3⟩ := h c
    exact ⟨((hr c).1.trans (reference_both _ _ _ _)).trans (by rw [h0, h1, h2, h3]), (hr c).2⟩

end Cert.Proof.ConvGrad

end
-- ==== Proof.AdaImages.lean ====
/-
  The image of the condition: on one device a block of 256 columns per grid point, each element a product of the condition's
  activation with a column of the weights.
-/
module

public import proofs.«01_k».proof.Defs
public import proofs.«01_k».proof.Proof.Blocks
public import proofs.«01_k».proof.Proof.AdaGrad
public import proofs.«01_k».proof.Proof.Gen.AdaImages
public import proofs.«01_k».proof.Proof.Gen.AdaImagesIdeal
public import proofs.«01_k».proof.Proof.Gen.AdaImagesIdeal.Frame
public import proofs.«01_k».proof.Proof.Gen.AdaImagesIdeal.Value
public import proofs.«01_k».proof.Proof.Gen.ImagesIdeal
public import proofs.«01_k».proof.Proof.Gen.ImagesIdeal.Run

@[expose] public section

set_option Elab.async false
set_option maxRecDepth 16384

noncomputable section

namespace Cert.Proof.AdaImages

open Cert.AdaImagesIdeal Cert.AdaImagesIdeal.Gen
open Idealize.ShloMosaic Idealize.ShloMosaic.TcCoe Idealize.ShloMosaic.Tactic Idealize.SL.Sem
open Idealize.ShloMosaic.Pointwise
open Idealize.ShloMosaic.Pipeline (Dat)
open Cert.Proof.NormGrad (ofBits_one)
open Cert.Proof.AdaGrad (act)
open Cert.Proof.Ffn (prod)
open Cert.Proof.Blocks (at_ix2 prod_block)

/-! ## One block -/

/-- The activation of every element. -/
noncomputable def acts {s : Shape} (x : s.Idx → EReal) : s.Idx → EReal := fun i => act (x i)

theorem pay_at (x : Vec Ideal S8x1024 .f32) (w : Vec Ideal S1024x256 .f32) (r : Fin 8) (j : Fin 256) :
    k0_pay1 x w (ix2 r j) = prod (acts x) w r j := by
  unfold k0_pay1 prod acts act
  pointwise

theorem left (x : Vec Ideal S8x1024 .f32) (w : Vec Ideal S1024x256 .f32) (r : Fin 8) (j : Fin 256) :
    out0_2 x w (ix2 r j) = prod (acts x) w r j := by
  rw [← pay_at]
  frame_out

/-! ## The arrays -/

variable (m : (ℓ : Loc nD τ sig) → Buf (Elt Ideal) ℓ)

abbrev cA (c : Dev nD) : FVec Ideal S8x1024 .f32 := m ((c.tc : Thread nD τ).loc main_arg0)
abbrev wA (c : Dev nD) : FVec Ideal S1024x1792 .f32 := m ((c.tc : Thread nD τ).loc main_arg1)

/-- The result. -/
noncomputable def imageA (x : FVec Ideal S8x1024 .f32) (w : FVec Ideal S1024x1792 .f32) : FVec Ideal S8x1792 .f32 :=
  fun i => prod (acts x) w (i 0) (i 1)

theorem starts_0 : ∀ t : Fin cfg0.N, win0_0.index t = ![0, 0] := (by decide +kernel : ∀ t : Fin grid0.N, _)
theorem starts_1 : ∀ t : Fin cfg0.N, win0_1.index t = ![0, t.val] := (by decide +kernel : ∀ t : Fin grid0.N, _)
theorem starts_2 : ∀ t : Fin cfg0.N, win0_2.index t = ![0, t.val] := (by decide +kernel : ∀ t : Fin grid0.N, _)

theorem c_at (c : Dev nD) (t : Fin cfg0.N) (r l : Fin 8) (hl : l.val = r.val) (k : Fin 1024) :
    acts (iblk m c 0 t) (ix2 r k) = acts (cA m c) (ix2 l k) := by
  have e0 : ((win0_0.blk t).view.emb (ix2 r k) 0).val = r.val := by blk_simp [starts_0]
  have e1 : ((win0_0.blk t).view.emb (ix2 r k) 1).val = k.val := by blk_simp [starts_0]
  exact congrArg act ((congrFun (V_main_arg0 m c) _).trans (at_ix2 (cA m c) (e0.trans hl.symm) e1))

theorem w_at (c : Dev nD) (t : Fin cfg0.N) (k : Fin 1024) (j : Fin 256) (l : Fin 1792) (hl : l.val = t.val * 256 + j.val) :
    iblk m c 1 t (ix2 k j) = wA m c (ix2 k l) := by
  have e0 : ((win0_1.blk t).view.emb (ix2 k j) 0).val = k.val := by blk_simp [starts_1]
  have e1 : ((win0_1.blk t).view.emb (ix2 k j) 1).val = t.val * 256 + j.val := by blk_simp [starts_1]
  exact (congrFun (V_main_arg1 m c) _).trans (at_ix2 (wA m c) e0 (e1.trans hl.symm))

theorem final (c : Dev nD) : (dats m 0 c).arrAt 2 cfg0.N = imageA (cA m c) (wA m c) := by
  refine (dats m 0 c).arrAt_eq_of_covers 2 _ (by decide +kernel) fun t hf y => ?_
  blk_simp
  rw [after0_2]
  have e0 : (((win0_2.blk t).view.emb y) 0).val = (y 0).val := by blk_simp [starts_2]
  have e1 : (((win0_2.blk t).view.emb y) 1).val = t.val * 256 + (y 1).val := by blk_simp [starts_2]
  refine (congrArg _ (eq_ix2 y)).trans ((left _ _ (y 0) (y 1)).trans ?_)
  exact prod_block (fun k => c_at m c t _ _ e0 k) (fun k => w_at m c t k _ _ e1)

/-! ## Against the reference -/

section Reference

open Cert.ImagesIdeal (S_)
open Cert.ImagesIdeal.Gen (bcast_S_S8x1024)

/-- The reference's one. -/
abbrev ones : FVec Ideal S8x1024 .f32 := broadcastInDim S8x1024 ![] bcast_S_S8x1024 (constant S_ .f32 0x3F800000#32)

theorem reference_image (x : FVec Ideal S8x1024 .f32) (w : FVec Ideal S1024x1792 .f32) :
    Host.dotGeneral Cert.ImagesIdeal.dot_S8x1024_S1024x1792_S8x1792_1_0_0_1_n_n none
      (mulf x (Host.divf ones (addf ones (Host.exp (Host.negf x))))) w = imageA x w := by
  funext i
  unfold imageA prod acts
  pointwise [act, Ideal.logistic]

end Reference

/-! ## The claims -/

theorem bodies_same : @Cert.AdaImages.defs₀ Bits _ _ = @Cert.AdaImagesIdeal.defs₀ Bits _ _ := by
  funext p ℓ a
  match p, ℓ, a with
  | .tc, ⟨0, _⟩, a => rfl
  | .tc, ⟨n + 1, h⟩, a => exact absurd h (Nat.not_lt.2 (Nat.le_add_left _ _))
  | .scScalar _, _, _ => rfl
  | .scVector _ _, _, _ => rfl

theorem quiescent_bits : Cert.quiescent_AdaImages := fun m g _ => by
  rw [show @Cert.AdaImages.defs Bits _ _ = @Cert.AdaImagesIdeal.defs Bits _ _ from
    congrArg (Pipeline.defs Cert.AdaImagesIdeal.pcfgs) bodies_same]
  exact Cert.AdaImagesIdeal.Gen.frame (F := Bits) m g

theorem quiescent_ideal : Cert.quiescent_AdaImagesIdeal := fun m g _ => Cert.AdaImagesIdeal.Gen.frame (F := Ideal) m g

theorem quiescent_reference : Cert.quiescent_ImagesIdeal := fun m g _ =>
  (θ_run Cert.ImagesIdeal.defs _ _).mono (fun r h => ⟨fun c => (h c).2, sem_eq_zero_of_no_sems rfl r.2⟩) (Cert.ImagesIdeal.Value.run (F := Ideal) m g)

theorem algebraic : Cert.algebraic_AdaImagesIdeal_ImagesIdeal := fun m g m' g' _ h => by
  refine ⟨fun c => imageA (cA m c) (wA m c),
    (θ_run Cert.AdaImagesIdeal.defs _ _).mono (fun _ hr c => ?_) (Cert.AdaImagesIdeal.Value.run_blocks (F := Ideal) m g),
    (θ_run Cert.ImagesIdeal.defs _ _).mono (fun _ hr c => ?_) (Cert.ImagesIdeal.Value.run (F := Ideal) m' g')⟩
  · obtain ⟨e0, e⟩ := hr c
    exact ⟨e0.trans (final m c), e⟩
  · obtain ⟨e0, e⟩ := hr c
    obtain ⟨h0, h1⟩ := h c
    exact ⟨(e0.trans (reference_image _ _)).trans (by rw [h0, h1]), e⟩

end Cert.Proof.AdaImages

end
-- ==== Proof.lean ====
module

public import proofs.«01_k».proof.Defs
public import proofs.«01_k».proof.Proof.GatherValue
public import proofs.«01_k».proof.Proof.StepValue
public import proofs.«01_k».proof.Proof.Rest
public import proofs.«01_k».proof.Proof.PartialsSum
public import proofs.«01_k».proof.Proof.SmallValue
public import proofs.«01_k».proof.Proof.AdaValue
public import proofs.«01_k».proof.Proof.AdaGrad
public import proofs.«01_k».proof.Proof.NormGrad
public import proofs.«01_k».proof.Proof.LossGrad
public import proofs.«01_k».proof.Proof.WeightGrad
public import proofs.«01_k».proof.Proof.Ffn
public import proofs.«01_k».proof.Proof.ResidualGrad
public import proofs.«01_k».proof.Proof.ActGrad
public import proofs.«01_k».proof.Proof.HiddenGrad
public import proofs.«01_k».proof.Proof.NormOut
public import proofs.«01_k».proof.Proof.MixedGrad
public import proofs.«01_k».proof.Proof.QueryGrad
public import proofs.«01_k».proof.Proof.QueryWeightGrad
public import proofs.«01_k».proof.Proof.ForgetWeightGrad
public import proofs.«01_k».proof.Proof.ForgetProduct
public import proofs.«01_k».proof.Proof.KeyValueGrad
public import proofs.«01_k».proof.Proof.ForgetSums
public import proofs.«01_k».proof.Proof.ForgetGrad
public import proofs.«01_k».proof.Proof.OutGrad
public import proofs.«01_k».proof.Proof.SquareGrad
public import proofs.«01_k».proof.Proof.GluIn
public import proofs.«01_k».proof.Proof.ResidualOut
public import proofs.«01_k».proof.Proof.KeyProduct
public import proofs.«01_k».proof.Proof.QueryProduct
public import proofs.«01_k».proof.Proof.HeadGrad
public import proofs.«01_k».proof.Proof.ConvGrad
public import proofs.«01_k».proof.Proof.AdaImages

@[expose] public section

noncomputable section

namespace Cert.Proof

theorem claim : Cert.Claim :=
  ⟨Cert.Kernel.Gen.facts, Cert.KernelIdeal.Gen.facts, Cert.ReferenceIdeal.Gen.facts,
    Cert.GatherWeights.Gen.facts, Cert.GatherWeightsIdeal.Gen.facts, Cert.GatheredIdeal.Gen.facts, Cert.Gathered.Gen.facts,
    Cert.UpdateRest.Gen.facts, Cert.UpdateRestIdeal.Gen.facts, Cert.UpdatedIdeal.Gen.facts,
    Cert.SumPartials.Gen.facts, Cert.SumPartialsIdeal.Gen.facts, Cert.SummedIdeal.Gen.facts,
    Cert.GatherSmall.Gen.facts, Cert.GatherSmallIdeal.Gen.facts, Cert.SmallBlocksIdeal.Gen.facts, Cert.SmallBlocks.Gen.facts,
    Cert.GatherAda.Gen.facts, Cert.GatherAdaIdeal.Gen.facts, Cert.AdaBlocksIdeal.Gen.facts, Cert.AdaBlocks.Gen.facts,
    Cert.AdaGrad.Gen.facts, Cert.AdaGradIdeal.Gen.facts, Cert.ConditionGradIdeal.Gen.facts,
    Cert.NormGrad.Gen.facts, Cert.NormGradIdeal.Gen.facts, Cert.InputGradIdeal.Gen.facts,
    Cert.LossGrad.Gen.facts, Cert.LossGradIdeal.Gen.facts, Cert.LossDerivativeIdeal.Gen.facts,
    Cert.Ffn.Gen.facts, Cert.FfnIdeal.Gen.facts, Cert.MixedIdeal.Gen.facts,
    Cert.ResidualGrad.Gen.facts, Cert.ResidualGradIdeal.Gen.facts, Cert.GatedGradIdeal.Gen.facts,
    Cert.ActGrad.Gen.facts, Cert.ActGradIdeal.Gen.facts, Cert.SwigluGradIdeal.Gen.facts,
    Cert.HiddenGrad.Gen.facts, Cert.HiddenGradIdeal.Gen.facts, Cert.ProductsGradIdeal.Gen.facts,
    Cert.WeightGrad.Gen.facts, Cert.WeightGradIdeal.Gen.facts, Cert.ProductGradIdeal.Gen.facts,
    Cert.OutGrad.Gen.facts, Cert.OutGradIdeal.Gen.facts, Cert.OutProductGradIdeal.Gen.facts,
    Cert.SquareGrad.Gen.facts, Cert.SquareGradIdeal.Gen.facts, Cert.SquareProductGradIdeal.Gen.facts,
    Cert.GluIn.Gen.facts, Cert.GluInIdeal.Gen.facts, Cert.GluIdeal.Gen.facts,
    Cert.ResidualOut.Gen.facts, Cert.ResidualOutIdeal.Gen.facts, Cert.ResidualIdeal.Gen.facts,
    Cert.KeyProduct.Gen.facts, Cert.KeyProductIdeal.Gen.facts, Cert.KeysIdeal.Gen.facts,
    Cert.QueryProduct.Gen.facts, Cert.QueryProductIdeal.Gen.facts, Cert.QueriesIdeal.Gen.facts,
    Cert.HeadGrad.Gen.facts, Cert.HeadGradIdeal.Gen.facts, Cert.HeadProductGradIdeal.Gen.facts,
    Cert.ConvGrad.Gen.facts, Cert.ConvGradIdeal.Gen.facts, Cert.ConvProductsGradIdeal.Gen.facts,
    Cert.AdaImages.Gen.facts, Cert.AdaImagesIdeal.Gen.facts, Cert.ImagesIdeal.Gen.facts,
    Cert.NormOut.Gen.facts, Cert.NormOutIdeal.Gen.facts, Cert.NormedIdeal.Gen.facts,
    Cert.MixedGrad.Gen.facts, Cert.MixedGradIdeal.Gen.facts, Cert.MixedFactorGradIdeal.Gen.facts,
    Cert.QueryGrad.Gen.facts, Cert.QueryGradIdeal.Gen.facts, Cert.QueryFactorGradIdeal.Gen.facts,
    Cert.QueryWeightGrad.Gen.facts, Cert.QueryWeightGradIdeal.Gen.facts, Cert.QueryProductGradIdeal.Gen.facts,
    Cert.ForgetWeightGrad.Gen.facts, Cert.ForgetWeightGradIdeal.Gen.facts, Cert.ForgetProductGradIdeal.Gen.facts,
    Cert.ForgetProduct.Gen.facts, Cert.ForgetProductIdeal.Gen.facts, Cert.ForgetLogitsIdeal.Gen.facts,
    Cert.KeyValueGrad.Gen.facts, Cert.KeyValueGradIdeal.Gen.facts, Cert.KeyValuesGradIdeal.Gen.facts,
    Cert.ForgetSums.Gen.facts, Cert.ForgetSumsIdeal.Gen.facts, Cert.LogSumsIdeal.Gen.facts,
    Cert.ForgetGrad.Gen.facts, Cert.ForgetGradIdeal.Gen.facts, Cert.LogSumsGradIdeal.Gen.facts,
    Scatter.quiescent_bits, Scatter.quiescent_ideal, Scatter.quiescent_reference,
    Gather.quiescent_bits, Gather.quiescent_ideal, Gather.quiescent_whole_ideal, Gather.quiescent_whole_bits,
    Rest.quiescent_bits, Rest.quiescent_ideal, Rest.quiescent_reference,
    Partials.quiescent_bits, Partials.quiescent_ideal, Partials.quiescent_reference,
    Small.quiescent_bits, Small.quiescent_ideal, Small.quiescent_whole_ideal, Small.quiescent_whole_bits,
    Ada.quiescent_bits, Ada.quiescent_ideal, Ada.quiescent_whole_ideal, Ada.quiescent_whole_bits,
    AdaGrad.quiescent_bits, AdaGrad.quiescent_ideal, AdaGrad.quiescent_reference,
    NormGrad.quiescent_bits, NormGrad.quiescent_ideal, NormGrad.quiescent_reference,
    LossGrad.quiescent_bits, LossGrad.quiescent_ideal, LossGrad.quiescent_reference,
    Ffn.quiescent_bits, Ffn.quiescent_ideal, Ffn.quiescent_reference,
    ResidualGrad.quiescent_bits, ResidualGrad.quiescent_ideal, ResidualGrad.quiescent_reference,
    ActGrad.quiescent_bits, ActGrad.quiescent_ideal, ActGrad.quiescent_reference,
    HiddenGrad.quiescent_bits, HiddenGrad.quiescent_ideal, HiddenGrad.quiescent_reference,
    WeightGrad.quiescent_bits, WeightGrad.quiescent_ideal, WeightGrad.quiescent_reference,
    OutGrad.quiescent_bits, OutGrad.quiescent_ideal, OutGrad.quiescent_reference,
    SquareGrad.quiescent_bits, SquareGrad.quiescent_ideal, SquareGrad.quiescent_reference,
    GluIn.quiescent_bits, GluIn.quiescent_ideal, GluIn.quiescent_reference,
    ResidualOut.quiescent_bits, ResidualOut.quiescent_ideal, ResidualOut.quiescent_reference,
    KeyProduct.quiescent_bits, KeyProduct.quiescent_ideal, KeyProduct.quiescent_reference,
    QueryProduct.quiescent_bits, QueryProduct.quiescent_ideal, QueryProduct.quiescent_reference,
    HeadGrad.quiescent_bits, HeadGrad.quiescent_ideal, HeadGrad.quiescent_reference,
    ConvGrad.quiescent_bits, ConvGrad.quiescent_ideal, ConvGrad.quiescent_reference,
    AdaImages.quiescent_bits, AdaImages.quiescent_ideal, AdaImages.quiescent_reference,
    NormOut.quiescent_bits, NormOut.quiescent_ideal, NormOut.quiescent_reference,
    MixedGrad.quiescent_bits, MixedGrad.quiescent_ideal, MixedGrad.quiescent_reference,
    QueryGrad.quiescent_bits, QueryGrad.quiescent_ideal, QueryGrad.quiescent_reference,
    QueryWeightGrad.quiescent_bits, QueryWeightGrad.quiescent_ideal, QueryWeightGrad.quiescent_reference,
    ForgetWeightGrad.quiescent_bits, ForgetWeightGrad.quiescent_ideal, ForgetWeightGrad.quiescent_reference,
    ForgetProduct.quiescent_bits, ForgetProduct.quiescent_ideal, ForgetProduct.quiescent_reference,
    KeyValueGrad.quiescent_bits, KeyValueGrad.quiescent_ideal, KeyValueGrad.quiescent_reference,
    ForgetSums.quiescent_bits, ForgetSums.quiescent_ideal, ForgetSums.quiescent_reference,
    ForgetGrad.quiescent_bits, ForgetGrad.quiescent_ideal, ForgetGrad.quiescent_reference,
    Scatter.preserves, Scatter.algebraic, trivial, Gather.algebraic, Gather.bitexact,
    Rest.preserves, Rest.algebraic, trivial, Partials.algebraic,
    trivial, Small.algebraic, Small.bitexact, trivial, Ada.algebraic, Ada.bitexact, trivial, AdaGrad.algebraic,
    trivial, NormGrad.algebraic, trivial, LossGrad.algebraic, trivial, Ffn.algebraic,
    trivial, ResidualGrad.algebraic, trivial, ActGrad.algebraic, trivial, HiddenGrad.algebraic, trivial, WeightGrad.algebraic,
    trivial, OutGrad.algebraic, trivial, SquareGrad.algebraic, trivial, GluIn.algebraic, trivial, ResidualOut.algebraic,
    trivial, KeyProduct.algebraic, trivial, QueryProduct.algebraic, trivial, HeadGrad.algebraic, trivial, ConvGrad.algebraic, trivial, AdaImages.algebraic,
    trivial, NormOut.algebraic, trivial, MixedGrad.algebraic, trivial, QueryGrad.algebraic, trivial, QueryWeightGrad.algebraic,
    trivial, ForgetWeightGrad.algebraic, trivial, ForgetProduct.algebraic, trivial, KeyValueGrad.algebraic,
    trivial, ForgetSums.algebraic, trivial, ForgetGrad.algebraic⟩

end Cert.Proof

end
